-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwRefIdeal (m : (ℓ : Loc Cert.MixDwRefIdeal.nD Cert.MixDwRefIdeal.τ Cert.MixDwRefIdeal.sig) → Buf (Elt Ideal) ℓ) : Prop :=
  True

def Pre_MixDh (m : (ℓ : Loc Cert.MixDh.nD Cert.MixDh.τ Cert.MixDh.sig) → Buf (Elt Bits) ℓ) : Prop :=
  True

def Pre_MixDhIdeal (m : (ℓ : Loc Cert.MixDhIdeal.nD Cert.MixDhIdeal.τ Cert.MixDhIdeal.sig) → Buf (Elt Ideal) ℓ) : Prop :=
  True

def Pre_MixDhRefIdeal (m : (ℓ : Loc Cert.MixDhRefIdeal.nD Cert.MixDhRefIdeal.τ Cert.MixDhRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixDwo (m : (ℓ : Loc Cert.MixDwo.nD Cert.MixDwo.τ Cert.MixDwo.sig) → Buf (Elt Bits) ℓ) : Prop :=
  True

def Pre_MixDwoIdeal (m : (ℓ : Loc Cert.MixDwoIdeal.nD Cert.MixDwoIdeal.τ Cert.MixDwoIdeal.sig) → Buf (Elt Ideal) ℓ) : Prop :=
  True

def Pre_MixDwoRefIdeal (m : (ℓ : Loc Cert.MixDwoRefIdeal.nD Cert.MixDwoRefIdeal.τ Cert.MixDwoRefIdeal.sig) → Buf (Elt Ideal) ℓ) : Prop :=
  True

def Pre_FoxIn (m : (ℓ : Loc Cert.FoxIn.nD Cert.FoxIn.τ Cert.FoxIn.sig) → Buf (Elt Bits) ℓ) : Prop :=
  True

def Pre_FoxInIdeal (m : (ℓ : Loc Cert.FoxInIdeal.nD Cert.FoxInIdeal.τ Cert.FoxInIdeal.sig) → Buf (Elt Ideal) ℓ) : Prop :=
  True

def Pre_FoxInRefIdeal (m : (ℓ : Loc Cert.FoxInRefIdeal.nD Cert.FoxInRefIdeal.τ Cert.FoxInRefIdeal.sig) → Buf (Elt Ideal) ℓ) : Prop :=
  True

def Pre_FoxDw (m : (ℓ : Loc Cert.FoxDw.nD Cert.FoxDw.τ Cert.FoxDw.sig) → Buf (Elt Bits) ℓ) : Prop :=
  True

def Pre_FoxDwIdeal (m : (ℓ : Loc Cert.FoxDwIdeal.nD Cert.FoxDwIdeal.τ Cert.FoxDwIdeal.sig) → Buf (Elt Ideal) ℓ) : Prop :=
  True

def Pre_FoxDwRefIdeal (m : (ℓ : Loc Cert.FoxDwRefIdeal.nD Cert.FoxDwRefIdeal.τ Cert.FoxDwRefIdeal.sig) → Buf (Elt Ideal) ℓ) : Prop :=
  True

def Pre_FoxDh (m : (ℓ : Loc Cert.FoxDh.nD Cert.FoxDh.τ Cert.FoxDh.sig) → Buf (Elt Bits) ℓ) : Prop :=
  True

def Pre_FoxDhIdeal (m : (ℓ : Loc Cert.FoxDhIdeal.nD Cert.FoxDhIdeal.τ Cert.FoxDhIdeal.sig) → Buf (Elt Ideal) ℓ) : Prop :=
  True

def Pre_FoxDhRefIdeal (m : (ℓ : Loc Cert.FoxDhRefIdeal.nD Cert.FoxDhRefIdeal.τ Cert.FoxDhRefIdeal.sig) → Buf (Elt Ideal) ℓ) : Prop :=
  True

def Pre_FoxOut (m : (ℓ : Loc Cert.FoxOut.nD Cert.FoxOut.τ Cert.FoxOut.sig) → Buf (Elt Bits) ℓ) : Prop :=
  True

def Pre_FoxOutIdeal (m : (ℓ : Loc Cert.FoxOutIdeal.nD Cert.FoxOutIdeal.τ Cert.FoxOutIdeal.sig) → Buf (Elt Ideal) ℓ) : Prop :=
  True

def Pre_FoxOutRefIdeal (m : (ℓ : Loc Cert.FoxOutRefIdeal.nD Cert.FoxOutRefIdeal.τ Cert.FoxOutRefIdeal.sig) → Buf (Elt Ideal) ℓ) : Prop :=
  True

def Pre_FoxDwo (m : (ℓ : Loc Cert.FoxDwo.nD Cert.FoxDwo.τ Cert.FoxDwo.sig) → Buf (Elt Bits) ℓ) : Prop :=
  True

def Pre_FoxDwoIdeal (m : (ℓ : Loc Cert.FoxDwoIdeal.nD Cert.FoxDwoIdeal.τ Cert.FoxDwoIdeal.sig) → Buf (Elt Ideal) ℓ) : Prop :=
  True

def Pre_FoxDwoRefIdeal (m : (ℓ : Loc Cert.FoxDwoRefIdeal.nD Cert.FoxDwoRefIdeal.τ Cert.FoxDwoRefIdeal.sig) → Buf (Elt Ideal) ℓ) : Prop :=
  True

def Pre_AdamNormW (m : (ℓ : Loc Cert.AdamNormW.nD Cert.AdamNormW.τ Cert.AdamNormW.sig) → Buf (Elt Bits) ℓ) : Prop :=
  True

def Pre_AdamNormWIdeal (m : (ℓ : Loc Cert.AdamNormWIdeal.nD Cert.AdamNormWIdeal.τ Cert.AdamNormWIdeal.sig) → Buf (Elt Ideal) ℓ) : Prop :=
  True

def Pre_AdamNormWRefIdeal (m : (ℓ : Loc Cert.AdamNormWRefIdeal.nD Cert.AdamNormWRefIdeal.τ Cert.AdamNormWRefIdeal.sig) → Buf (Elt Ideal) ℓ) : Prop :=
  True

def Pre_AdamAdaW (m : (ℓ : Loc Cert.AdamAdaW.nD Cert.AdamAdaW.τ Cert.AdamAdaW.sig) → Buf (Elt Bits) ℓ) : Prop :=
  True

def Pre_AdamAdaWIdeal (m : (ℓ : Loc Cert.AdamAdaWIdeal.nD Cert.AdamAdaWIdeal.τ Cert.AdamAdaWIdeal.sig) → Buf (Elt Ideal) ℓ) : Prop :=
  True

def Pre_AdamAdaWRefIdeal (m : (ℓ : Loc Cert.AdamAdaWRefIdeal.nD Cert.AdamAdaWRefIdeal.τ Cert.AdamAdaWRefIdeal.sig) → Buf (Elt Ideal) ℓ) : Prop :=
  True

def Pre_AdamAdaB (m : (ℓ : Loc Cert.AdamAdaB.nD Cert.AdamAdaB.τ Cert.AdamAdaB.sig) → Buf (Elt Bits) ℓ) : Prop :=
  True

def Pre_AdamAdaBIdeal (m : (ℓ : Loc Cert.AdamAdaBIdeal.nD Cert.AdamAdaBIdeal.τ Cert.AdamAdaBIdeal.sig) → Buf (Elt Ideal) ℓ) : Prop :=
  True

def Pre_AdamAdaBRefIdeal (m : (ℓ : Loc Cert.AdamAdaBRefIdeal.nD Cert.AdamAdaBRefIdeal.τ Cert.AdamAdaBRefIdeal.sig) → Buf (Elt Ideal) ℓ) : Prop :=
  True

def Pre_AdamAWIn (m : (ℓ : Loc Cert.AdamAWIn.nD Cert.AdamAWIn.τ Cert.AdamAWIn.sig) → Buf (Elt Bits) ℓ) : Prop :=
  True

def Pre_AdamAWInIdeal (m : (ℓ : Loc Cert.AdamAWInIdeal.nD Cert.AdamAWInIdeal.τ Cert.AdamAWInIdeal.sig) → Buf (Elt Ideal) ℓ) : Prop :=
  True

def Pre_AdamAWInRefIdeal (m : (ℓ : Loc Cert.AdamAWInRefIdeal.nD Cert.AdamAWInRefIdeal.τ Cert.AdamAWInRefIdeal.sig) → Buf (Elt Ideal) ℓ) : Prop :=
  True

def Pre_AdamAConvW (m : (ℓ : Loc Cert.AdamAConvW.nD Cert.AdamAConvW.τ Cert.AdamAConvW.sig) → Buf (Elt Bits) ℓ) : Prop :=
  True

def Pre_AdamAConvWIdeal (m : (ℓ : Loc Cert.AdamAConvWIdeal.nD Cert.AdamAConvWIdeal.τ Cert.AdamAConvWIdeal.sig) → Buf (Elt Ideal) ℓ) : Prop :=
  True

def Pre_AdamAConvWRefIdeal (m : (ℓ : Loc Cert.AdamAConvWRefIdeal.nD Cert.AdamAConvWRefIdeal.τ Cert.AdamAConvWRefIdeal.sig) → Buf (Elt Ideal) ℓ) : Prop :=
  True

def Pre_AdamAALog (m : (ℓ : Loc Cert.AdamAALog.nD Cert.AdamAALog.τ Cert.AdamAALog.sig) → Buf (Elt Bits) ℓ) : Prop :=
  True

def Pre_AdamAALogIdeal (m : (ℓ : Loc Cert.AdamAALogIdeal.nD Cert.AdamAALogIdeal.τ Cert.AdamAALogIdeal.sig) → Buf (Elt Ideal) ℓ) : Prop :=
  True

def Pre_AdamAALogRefIdeal (m : (ℓ : Loc Cert.AdamAALogRefIdeal.nD Cert.AdamAALogRefIdeal.τ Cert.AdamAALogRefIdeal.sig) → Buf (Elt Ideal) ℓ) : Prop :=
  True

def Pre_AdamANormW (m : (ℓ : Loc Cert.AdamANormW.nD Cert.AdamANormW.τ Cert.AdamANormW.sig) → Buf (Elt Bits) ℓ) : Prop :=
  True

def Pre_AdamANormWIdeal (m : (ℓ : Loc Cert.AdamANormWIdeal.nD Cert.AdamANormWIdeal.τ Cert.AdamANormWIdeal.sig) → Buf (Elt Ideal) ℓ) : Prop :=
  True

def Pre_AdamANormWRefIdeal (m : (ℓ : Loc Cert.AdamANormWRefIdeal.nD Cert.AdamANormWRefIdeal.τ Cert.AdamANormWRefIdeal.sig) → Buf (Elt Ideal) ℓ) : Prop :=
  True

def Pre_AdamAWOut (m : (ℓ : Loc Cert.AdamAWOut.nD Cert.AdamAWOut.τ Cert.AdamAWOut.sig) → Buf (Elt Bits) ℓ) : Prop :=
  True

def Pre_AdamAWOutIdeal (m : (ℓ : Loc Cert.AdamAWOutIdeal.nD Cert.AdamAWOutIdeal.τ Cert.AdamAWOutIdeal.sig) → Buf (Elt Ideal) ℓ) : Prop :=
  True

def Pre_AdamAWOutRefIdeal (m : (ℓ : Loc Cert.AdamAWOutRefIdeal.nD Cert.AdamAWOutRefIdeal.τ Cert.AdamAWOutRefIdeal.sig) → Buf (Elt Ideal) ℓ) : Prop :=
  True

def Pre_AdamBWIn (m : (ℓ : Loc Cert.AdamBWIn.nD Cert.AdamBWIn.τ Cert.AdamBWIn.sig) → Buf (Elt Bits) ℓ) : Prop :=
  True

def Pre_AdamBWInIdeal (m : (ℓ : Loc Cert.AdamBWInIdeal.nD Cert.AdamBWInIdeal.τ Cert.AdamBWInIdeal.sig) → Buf (Elt Ideal) ℓ) : Prop :=
  True

def Pre_AdamBWInRefIdeal (m : (ℓ : Loc Cert.AdamBWInRefIdeal.nD Cert.AdamBWInRefIdeal.τ Cert.AdamBWInRefIdeal.sig) → Buf (Elt Ideal) ℓ) : Prop :=
  True

def Pre_AdamBQnW (m : (ℓ : Loc Cert.AdamBQnW.nD Cert.AdamBQnW.τ Cert.AdamBQnW.sig) → Buf (Elt Bits) ℓ) : Prop :=
  True

def Pre_AdamBQnWIdeal (m : (ℓ : Loc Cert.AdamBQnWIdeal.nD Cert.AdamBQnWIdeal.τ Cert.AdamBQnWIdeal.sig) → Buf (Elt Ideal) ℓ) : Prop :=
  True

def Pre_AdamBQnWRefIdeal (m : (ℓ : Loc Cert.AdamBQnWRefIdeal.nD Cert.AdamBQnWRefIdeal.τ Cert.AdamBQnWRefIdeal.sig) → Buf (Elt Ideal) ℓ) : Prop :=
  True

def Pre_AdamBWOut (m : (ℓ : Loc Cert.AdamBWOut.nD Cert.AdamBWOut.τ Cert.AdamBWOut.sig) → Buf (Elt Bits) ℓ) : Prop :=
  True

def Pre_AdamBWOutIdeal (m : (ℓ : Loc Cert.AdamBWOutIdeal.nD Cert.AdamBWOutIdeal.τ Cert.AdamBWOutIdeal.sig) → Buf (Elt Ideal) ℓ) : Prop :=
  True

def Pre_AdamBWOutRefIdeal (m : (ℓ : Loc Cert.AdamBWOutRefIdeal.nD Cert.AdamBWOutRefIdeal.τ Cert.AdamBWOutRefIdeal.sig) → Buf (Elt Ideal) ℓ) : Prop :=
  True

def Pre_AdamFinalNormW (m : (ℓ : Loc Cert.AdamFinalNormW.nD Cert.AdamFinalNormW.τ Cert.AdamFinalNormW.sig) → Buf (Elt Bits) ℓ) : Prop :=
  True

def Pre_AdamFinalNormWIdeal (m : (ℓ : Loc Cert.AdamFinalNormWIdeal.nD Cert.AdamFinalNormWIdeal.τ Cert.AdamFinalNormWIdeal.sig) → Buf (Elt Ideal) ℓ) : Prop :=
  True

def Pre_AdamFinalNormWRefIdeal (m : (ℓ : Loc Cert.AdamFinalNormWRefIdeal.nD Cert.AdamFinalNormWRefIdeal.τ Cert.AdamFinalNormWRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1)
      ∧ r.2.mem ((c.tc : Thread Cert.MixDw.nD Cert.MixDw.τ).loc Cert.MixDw.main_arg2) = m ((c.tc : Thread Cert.MixDw.nD Cert.MixDw.τ).loc Cert.MixDw.main_arg2))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1)
      ∧ r.2.mem ((c.tc : Thread Cert.MixDwIdeal.nD Cert.MixDwIdeal.τ).loc Cert.MixDwIdeal.main_arg2) = m ((c.tc : Thread Cert.MixDwIdeal.nD Cert.MixDwIdeal.τ).loc Cert.MixDwIdeal.main_arg2))
      ∧ r.2.sem = fun _ => 0)

def quiescent_MixDwRefIdeal [hMixDwRefIdeal : Cert.MixDwRefIdeal.Facts] : Prop :=
  ∀ (m : (ℓ : Loc Cert.MixDwRefIdeal.nD Cert.MixDwRefIdeal.τ Cert.MixDwRefIdeal.sig) → Buf (Elt Ideal) ℓ) (g : Dev Cert.MixDwRefIdeal.nD → PrngReg), Pre_MixDwRefIdeal m →
    θ_run (Cert.MixDwRefIdeal.defs (F := Ideal)) (onTc (τ := Cert.MixDwRefIdeal.τ) (Cert.MixDwRefIdeal.main (F := Ideal))) ⟨m, fun _ => 0, g⟩ (fun r => (∀ c : Dev Cert.MixDwRefIdeal.nD,
      r.2.mem ((c.tc : Thread Cert.MixDwRefIdeal.nD Cert.MixDwRefIdeal.τ).loc Cert.MixDwRefIdeal.main_arg0) = m ((c.tc : Thread Cert.MixDwRefIdeal.nD Cert.MixDwRefIdeal.τ).loc Cert.MixDwRefIdeal.main_arg0)
      ∧ r.2.mem ((c.tc : Thread Cert.MixDwRefIdeal.nD Cert.MixDwRefIdeal.τ).loc Cert.MixDwRefIdeal.main_arg1) = m ((c.tc : Thread Cert.MixDwRefIdeal.nD Cert.MixDwRefIdeal.τ).loc Cert.MixDwRefIdeal.main_arg1)
      ∧ r.2.mem ((c.tc : Thread Cert.MixDwRefIdeal.nD Cert.MixDwRefIdeal.τ).loc Cert.MixDwRefIdeal.main_arg2) = m ((c.tc : Thread Cert.MixDwRefIdeal.nD Cert.MixDwRefIdeal.τ).loc Cert.MixDwRefIdeal.main_arg2))
      ∧ r.2.sem = fun _ => 0)

def quiescent_MixDh [hMixDh : Cert.MixDh.Facts] : Prop :=
  ∀ (m : (ℓ : Loc Cert.MixDh.nD Cert.MixDh.τ Cert.MixDh.sig) → Buf (Elt Bits) ℓ) (g : Dev Cert.MixDh.nD → PrngReg), Pre_MixDh m →
    θ_run (Cert.MixDh.defs (F := Bits)) (onTc (τ := Cert.MixDh.τ) (Cert.MixDh.main (F := Bits))) ⟨m, fun _ => 0, g⟩ (fun r => (∀ c : Dev Cert.MixDh.nD,
      r.2.mem ((c.tc : Thread Cert.MixDh.nD Cert.MixDh.τ).loc Cert.MixDh.main_arg0) = m ((c.tc : Thread Cert.MixDh.nD Cert.MixDh.τ).loc Cert.MixDh.main_arg0)
      ∧ r.2.mem ((c.tc : Thread Cert.MixDh.nD Cert.MixDh.τ).loc Cert.MixDh.main_arg1) = m ((c.tc : Thread Cert.MixDh.nD Cert.MixDh.τ).loc Cert.MixDh.main_arg1)
      ∧ r.2.mem ((c.tc : Thread Cert.MixDh.nD Cert.MixDh.τ).loc Cert.MixDh.main_arg2) = m ((c.tc : Thread Cert.MixDh.nD Cert.MixDh.τ).loc Cert.MixDh.main_arg2))
      ∧ r.2.sem = fun _ => 0)

def quiescent_MixDhIdeal [hMixDhIdeal : Cert.MixDhIdeal.Facts] : Prop :=
  ∀ (m : (ℓ : Loc Cert.MixDhIdeal.nD Cert.MixDhIdeal.τ Cert.MixDhIdeal.sig) → Buf (Elt Ideal) ℓ) (g : Dev Cert.MixDhIdeal.nD → PrngReg), Pre_MixDhIdeal m →
    θ_run (Cert.MixDhIdeal.defs (F := Ideal)) (onTc (τ := Cert.MixDhIdeal.τ) (Cert.MixDhIdeal.main (F := Ideal))) ⟨m, fun _ => 0, g⟩ (fun r => (∀ c : Dev Cert.MixDhIdeal.nD,
      r.2.mem ((c.tc : Thread Cert.MixDhIdeal.nD Cert.MixDhIdeal.τ).loc Cert.MixDhIdeal.main_arg0) = m ((c.tc : Thread Cert.MixDhIdeal.nD Cert.MixDhIdeal.τ).loc Cert.MixDhIdeal.main_arg0)
      ∧ r.2.mem ((c.tc : Thread Cert.MixDhIdeal.nD Cert.MixDhIdeal.τ).loc Cert.MixDhIdeal.main_arg1) = m ((c.tc : Thread Cert.MixDhIdeal.nD Cert.MixDhIdeal.τ).loc Cert.MixDhIdeal.main_arg1)
      ∧ r.2.mem ((c.tc : Thread Cert.MixDhIdeal.nD Cert.MixDhIdeal.τ).loc Cert.MixDhIdeal.main_arg2) = m ((c.tc : Thread Cert.MixDhIdeal.nD Cert.MixDhIdeal.τ).loc Cert.MixDhIdeal.main_arg2))
      ∧ r.2.sem = fun _ => 0)

def quiescent_MixDhRefIdeal [hMixDhRefIdeal : Cert.MixDhRefIdeal.Facts] : Prop :=
  ∀ (m : (ℓ : Loc Cert.MixDhRefIdeal.nD Cert.MixDhRefIdeal.τ Cert.MixDhRefIdeal.sig) → Buf (Elt Ideal) ℓ) (g : Dev Cert.MixDhRefIdeal.nD → PrngReg), Pre_MixDhRefIdeal m →
    θ_run (Cert.MixDhRefIdeal.defs (F := Ideal)) (onTc (τ := Cert.MixDhRefIdeal.τ) (Cert.MixDhRefIdeal.main (F := Ideal))) ⟨m, fun _ => 0, g⟩ (fun r => (∀ c : Dev Cert.MixDhRefIdeal.nD,
      r.2.mem ((c.tc : Thread Cert.MixDhRefIdeal.nD Cert.MixDhRefIdeal.τ).loc Cert.MixDhRefIdeal.main_arg0) = m ((c.tc : Thread Cert.MixDhRefIdeal.nD Cert.MixDhRefIdeal.τ).loc Cert.MixDhRefIdeal.main_arg0)
      ∧ r.2.mem ((c.tc : Thread Cert.MixDhRefIdeal.nD Cert.MixDhRefIdeal.τ).loc Cert.MixDhRefIdeal.main_arg1) = m ((c.tc : Thread Cert.MixDhRefIdeal.nD Cert.MixDhRefIdeal.τ).loc Cert.MixDhRefIdeal.main_arg1)
      ∧ r.2.mem ((c.tc : Thread Cert.MixDhRefIdeal.nD Cert.MixDhRefIdeal.τ).loc Cert.MixDhRefIdeal.main_arg2) = m ((c.tc : Thread Cert.MixDhRefIdeal.nD Cert.MixDhRefIdeal.τ).loc Cert.MixDhRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_MixDwo [hMixDwo : Cert.MixDwo.Facts] : Prop :=
  ∀ (m : (ℓ : Loc Cert.MixDwo.nD Cert.MixDwo.τ Cert.MixDwo.sig) → Buf (Elt Bits) ℓ) (g : Dev Cert.MixDwo.nD → PrngReg), Pre_MixDwo m →
    θ_run (Cert.MixDwo.defs (F := Bits)) (onTc (τ := Cert.MixDwo.τ) (Cert.MixDwo.main (F := Bits))) ⟨m, fun _ => 0, g⟩ (fun r => (∀ c : Dev Cert.MixDwo.nD,
      r.2.mem ((c.tc : Thread Cert.MixDwo.nD Cert.MixDwo.τ).loc Cert.MixDwo.main_arg0) = m ((c.tc : Thread Cert.MixDwo.nD Cert.MixDwo.τ).loc Cert.MixDwo.main_arg0)
      ∧ r.2.mem ((c.tc : Thread Cert.MixDwo.nD Cert.MixDwo.τ).loc Cert.MixDwo.main_arg1) = m ((c.tc : Thread Cert.MixDwo.nD Cert.MixDwo.τ).loc Cert.MixDwo.main_arg1)
      ∧ r.2.mem ((c.tc : Thread Cert.MixDwo.nD Cert.MixDwo.τ).loc Cert.MixDwo.main_arg2) = m ((c.tc : Thread Cert.MixDwo.nD Cert.MixDwo.τ).loc Cert.MixDwo.main_arg2))
      ∧ r.2.sem = fun _ => 0)

def quiescent_MixDwoIdeal [hMixDwoIdeal : Cert.MixDwoIdeal.Facts] : Prop :=
  ∀ (m : (ℓ : Loc Cert.MixDwoIdeal.nD Cert.MixDwoIdeal.τ Cert.MixDwoIdeal.sig) → Buf (Elt Ideal) ℓ) (g : Dev Cert.MixDwoIdeal.nD → PrngReg), Pre_MixDwoIdeal m →
    θ_run (Cert.MixDwoIdeal.defs (F := Ideal)) (onTc (τ := Cert.MixDwoIdeal.τ) (Cert.MixDwoIdeal.main (F := Ideal))) ⟨m, fun _ => 0, g⟩ (fun r => (∀ c : Dev Cert.MixDwoIdeal.nD,
      r.2.mem ((c.tc : Thread Cert.MixDwoIdeal.nD Cert.MixDwoIdeal.τ).loc Cert.MixDwoIdeal.main_arg0) = m ((c.tc : Thread Cert.MixDwoIdeal.nD Cert.MixDwoIdeal.τ).loc Cert.MixDwoIdeal.main_arg0)
      ∧ r.2.mem ((c.tc : Thread Cert.MixDwoIdeal.nD Cert.MixDwoIdeal.τ).loc Cert.MixDwoIdeal.main_arg1) = m ((c.tc : Thread Cert.MixDwoIdeal.nD Cert.MixDwoIdeal.τ).loc Cert.MixDwoIdeal.main_arg1)
      ∧ r.2.mem ((c.tc : Thread Cert.MixDwoIdeal.nD Cert.MixDwoIdeal.τ).loc Cert.MixDwoIdeal.main_arg2) = m ((c.tc : Thread Cert.MixDwoIdeal.nD Cert.MixDwoIdeal.τ).loc Cert.MixDwoIdeal.main_arg2))
      ∧ r.2.sem = fun _ => 0)

def quiescent_MixDwoRefIdeal [hMixDwoRefIdeal : Cert.MixDwoRefIdeal.Facts] : Prop :=
  ∀ (m : (ℓ : Loc Cert.MixDwoRefIdeal.nD Cert.MixDwoRefIdeal.τ Cert.MixDwoRefIdeal.sig) → Buf (Elt Ideal) ℓ) (g : Dev Cert.MixDwoRefIdeal.nD → PrngReg), Pre_MixDwoRefIdeal m →
    θ_run (Cert.MixDwoRefIdeal.defs (F := Ideal)) (onTc (τ := Cert.MixDwoRefIdeal.τ) (Cert.MixDwoRefIdeal.main (F := Ideal))) ⟨m, fun _ => 0, g⟩ (fun r => (∀ c : Dev Cert.MixDwoRefIdeal.nD,
      r.2.mem ((c.tc : Thread Cert.MixDwoRefIdeal.nD Cert.MixDwoRefIdeal.τ).loc Cert.MixDwoRefIdeal.main_arg0) = m ((c.tc : Thread Cert.MixDwoRefIdeal.nD Cert.MixDwoRefIdeal.τ).loc Cert.MixDwoRefIdeal.main_arg0)
      ∧ r.2.mem ((c.tc : Thread Cert.MixDwoRefIdeal.nD Cert.MixDwoRefIdeal.τ).loc Cert.MixDwoRefIdeal.main_arg1) = m ((c.tc : Thread Cert.MixDwoRefIdeal.nD Cert.MixDwoRefIdeal.τ).loc Cert.MixDwoRefIdeal.main_arg1)
      ∧ r.2.mem ((c.tc : Thread Cert.MixDwoRefIdeal.nD Cert.MixDwoRefIdeal.τ).loc Cert.MixDwoRefIdeal.main_arg2) = m ((c.tc : Thread Cert.MixDwoRefIdeal.nD Cert.MixDwoRefIdeal.τ).loc Cert.MixDwoRefIdeal.main_arg2))
      ∧ r.2.sem = fun _ => 0)

def quiescent_FoxIn [hFoxIn : Cert.FoxIn.Facts] : Prop :=
  ∀ (m : (ℓ : Loc Cert.FoxIn.nD Cert.FoxIn.τ Cert.FoxIn.sig) → Buf (Elt Bits) ℓ) (g : Dev Cert.FoxIn.nD → PrngReg), Pre_FoxIn m →
    θ_run (Cert.FoxIn.defs (F := Bits)) (onTc (τ := Cert.FoxIn.τ) (Cert.FoxIn.main (F := Bits))) ⟨m, fun _ => 0, g⟩ (fun r => (∀ c : Dev Cert.FoxIn.nD,
      r.2.mem ((c.tc : Thread Cert.FoxIn.nD Cert.FoxIn.τ).loc Cert.FoxIn.main_arg0) = m ((c.tc : Thread Cert.FoxIn.nD Cert.FoxIn.τ).loc Cert.FoxIn.main_arg0)
      ∧ r.2.mem ((c.tc : Thread Cert.FoxIn.nD Cert.FoxIn.τ).loc Cert.FoxIn.main_arg1) = m ((c.tc : Thread Cert.FoxIn.nD Cert.FoxIn.τ).loc Cert.FoxIn.main_arg1))
      ∧ r.2.sem = fun _ => 0)

def quiescent_FoxInIdeal [hFoxInIdeal : Cert.FoxInIdeal.Facts] : Prop :=
  ∀ (m : (ℓ : Loc Cert.FoxInIdeal.nD Cert.FoxInIdeal.τ Cert.FoxInIdeal.sig) → Buf (Elt Ideal) ℓ) (g : Dev Cert.FoxInIdeal.nD → PrngReg), Pre_FoxInIdeal m →
    θ_run (Cert.FoxInIdeal.defs (F := Ideal)) (onTc (τ := Cert.FoxInIdeal.τ) (Cert.FoxInIdeal.main (F := Ideal))) ⟨m, fun _ => 0, g⟩ (fun r => (∀ c : Dev Cert.FoxInIdeal.nD,
      r.2.mem ((c.tc : Thread Cert.FoxInIdeal.nD Cert.FoxInIdeal.τ).loc Cert.FoxInIdeal.main_arg0) = m ((c.tc : Thread Cert.FoxInIdeal.nD Cert.FoxInIdeal.τ).loc Cert.FoxInIdeal.main_arg0)
      ∧ r.2.mem ((c.tc : Thread Cert.FoxInIdeal.nD Cert.FoxInIdeal.τ).loc Cert.FoxInIdeal.main_arg1) = m ((c.tc : Thread Cert.FoxInIdeal.nD Cert.FoxInIdeal.τ).loc Cert.FoxInIdeal.main_arg1))
      ∧ r.2.sem = fun _ => 0)

def quiescent_FoxInRefIdeal [hFoxInRefIdeal : Cert.FoxInRefIdeal.Facts] : Prop :=
  ∀ (m : (ℓ : Loc Cert.FoxInRefIdeal.nD Cert.FoxInRefIdeal.τ Cert.FoxInRefIdeal.sig) → Buf (Elt Ideal) ℓ) (g : Dev Cert.FoxInRefIdeal.nD → PrngReg), Pre_FoxInRefIdeal m →
    θ_run (Cert.FoxInRefIdeal.defs (F := Ideal)) (onTc (τ := Cert.FoxInRefIdeal.τ) (Cert.FoxInRefIdeal.main (F := Ideal))) ⟨m, fun _ => 0, g⟩ (fun r => (∀ c : Dev Cert.FoxInRefIdeal.nD,
      r.2.mem ((c.tc : Thread Cert.FoxInRefIdeal.nD Cert.FoxInRefIdeal.τ).loc Cert.FoxInRefIdeal.main_arg0) = m ((c.tc : Thread Cert.FoxInRefIdeal.nD Cert.FoxInRefIdeal.τ).loc Cert.FoxInRefIdeal.main_arg0)
      ∧ r.2.mem ((c.tc : Thread Cert.FoxInRefIdeal.nD Cert.FoxInRefIdeal.τ).loc Cert.FoxInRefIdeal.main_arg1) = m ((c.tc : Thread Cert.FoxInRefIdeal.nD Cert.FoxInRefIdeal.τ).loc Cert.FoxInRefIdeal.main_arg1))
      ∧ r.2.sem = fun _ => 0)

def quiescent_FoxDw [hFoxDw : Cert.FoxDw.Facts] : Prop :=
  ∀ (m : (ℓ : Loc Cert.FoxDw.nD Cert.FoxDw.τ Cert.FoxDw.sig) → Buf (Elt Bits) ℓ) (g : Dev Cert.FoxDw.nD → PrngReg), Pre_FoxDw m →
    θ_run (Cert.FoxDw.defs (F := Bits)) (onTc (τ := Cert.FoxDw.τ) (Cert.FoxDw.main (F := Bits))) ⟨m, fun _ => 0, g⟩ (fun r => (∀ c : Dev Cert.FoxDw.nD,
      r.2.mem ((c.tc : Thread Cert.FoxDw.nD Cert.FoxDw.τ).loc Cert.FoxDw.main_arg0) = m ((c.tc : Thread Cert.FoxDw.nD Cert.FoxDw.τ).loc Cert.FoxDw.main_arg0)
      ∧ r.2.mem ((c.tc : Thread Cert.FoxDw.nD Cert.FoxDw.τ).loc Cert.FoxDw.main_arg1) = m ((c.tc : Thread Cert.FoxDw.nD Cert.FoxDw.τ).loc Cert.FoxDw.main_arg1)
      ∧ r.2.mem ((c.tc : Thread Cert.FoxDw.nD Cert.FoxDw.τ).loc Cert.FoxDw.main_arg2) = m ((c.tc : Thread Cert.FoxDw.nD Cert.FoxDw.τ).loc Cert.FoxDw.main_arg2))
      ∧ r.2.sem = fun _ => 0)

def quiescent_FoxDwIdeal [hFoxDwIdeal : Cert.FoxDwIdeal.Facts] : Prop :=
  ∀ (m : (ℓ : Loc Cert.FoxDwIdeal.nD Cert.FoxDwIdeal.τ Cert.FoxDwIdeal.sig) → Buf (Elt Ideal) ℓ) (g : Dev Cert.FoxDwIdeal.nD → PrngReg), Pre_FoxDwIdeal m →
    θ_run (Cert.FoxDwIdeal.defs (F := Ideal)) (onTc (τ := Cert.FoxDwIdeal.τ) (Cert.FoxDwIdeal.main (F := Ideal))) ⟨m, fun _ => 0, g⟩ (fun r => (∀ c : Dev Cert.FoxDwIdeal.nD,
      r.2.mem ((c.tc : Thread Cert.FoxDwIdeal.nD Cert.FoxDwIdeal.τ).loc Cert.FoxDwIdeal.main_arg0) = m ((c.tc : Thread Cert.FoxDwIdeal.nD Cert.FoxDwIdeal.τ).loc Cert.FoxDwIdeal.main_arg0)
      ∧ r.2.mem ((c.tc : Thread Cert.FoxDwIdeal.nD Cert.FoxDwIdeal.τ).loc Cert.FoxDwIdeal.main_arg1) = m ((c.tc : Thread Cert.FoxDwIdeal.nD Cert.FoxDwIdeal.τ).loc Cert.FoxDwIdeal.main_arg1)
      ∧ r.2.mem ((c.tc : Thread Cert.FoxDwIdeal.nD Cert.FoxDwIdeal.τ).loc Cert.FoxDwIdeal.main_arg2) = m ((c.tc : Thread Cert.FoxDwIdeal.nD Cert.FoxDwIdeal.τ).loc Cert.FoxDwIdeal.main_arg2))
      ∧ r.2.sem = fun _ => 0)

def quiescent_FoxDwRefIdeal [hFoxDwRefIdeal : Cert.FoxDwRefIdeal.Facts] : Prop :=
  ∀ (m : (ℓ : Loc Cert.FoxDwRefIdeal.nD Cert.FoxDwRefIdeal.τ Cert.FoxDwRefIdeal.sig) → Buf (Elt Ideal) ℓ) (g : Dev Cert.FoxDwRefIdeal.nD → PrngReg), Pre_FoxDwRefIdeal m →
    θ_run (Cert.FoxDwRefIdeal.defs (F := Ideal)) (onTc (τ := Cert.FoxDwRefIdeal.τ) (Cert.FoxDwRefIdeal.main (F := Ideal))) ⟨m, fun _ => 0, g⟩ (fun r => (∀ c : Dev Cert.FoxDwRefIdeal.nD,
      r.2.mem ((c.tc : Thread Cert.FoxDwRefIdeal.nD Cert.FoxDwRefIdeal.τ).loc Cert.FoxDwRefIdeal.main_arg0) = m ((c.tc : Thread Cert.FoxDwRefIdeal.nD Cert.FoxDwRefIdeal.τ).loc Cert.FoxDwRefIdeal.main_arg0)
      ∧ r.2.mem ((c.tc : Thread Cert.FoxDwRefIdeal.nD Cert.FoxDwRefIdeal.τ).loc Cert.FoxDwRefIdeal.main_arg1) = m ((c.tc : Thread Cert.FoxDwRefIdeal.nD Cert.FoxDwRefIdeal.τ).loc Cert.FoxDwRefIdeal.main_arg1)
      ∧ r.2.mem ((c.tc : Thread Cert.FoxDwRefIdeal.nD Cert.FoxDwRefIdeal.τ).loc Cert.FoxDwRefIdeal.main_arg2) = m ((c.tc : Thread Cert.FoxDwRefIdeal.nD Cert.FoxDwRefIdeal.τ).loc Cert.FoxDwRefIdeal.main_arg2))
      ∧ r.2.sem = fun _ => 0)

def quiescent_FoxDh [hFoxDh : Cert.FoxDh.Facts] : Prop :=
  ∀ (m : (ℓ : Loc Cert.FoxDh.nD Cert.FoxDh.τ Cert.FoxDh.sig) → Buf (Elt Bits) ℓ) (g : Dev Cert.FoxDh.nD → PrngReg), Pre_FoxDh m →
    θ_run (Cert.FoxDh.defs (F := Bits)) (onTc (τ := Cert.FoxDh.τ) (Cert.FoxDh.main (F := Bits))) ⟨m, fun _ => 0, g⟩ (fun r => (∀ c : Dev Cert.FoxDh.nD,
      r.2.mem ((c.tc : Thread Cert.FoxDh.nD Cert.FoxDh.τ).loc Cert.FoxDh.main_arg0) = m ((c.tc : Thread Cert.FoxDh.nD Cert.FoxDh.τ).loc Cert.FoxDh.main_arg0)
      ∧ r.2.mem ((c.tc : Thread Cert.FoxDh.nD Cert.FoxDh.τ).loc Cert.FoxDh.main_arg1) = m ((c.tc : Thread Cert.FoxDh.nD Cert.FoxDh.τ).loc Cert.FoxDh.main_arg1)
      ∧ r.2.mem ((c.tc : Thread Cert.FoxDh.nD Cert.FoxDh.τ).loc Cert.FoxDh.main_arg2) = m ((c.tc : Thread Cert.FoxDh.nD Cert.FoxDh.τ).loc Cert.FoxDh.main_arg2))
      ∧ r.2.sem = fun _ => 0)

def quiescent_FoxDhIdeal [hFoxDhIdeal : Cert.FoxDhIdeal.Facts] : Prop :=
  ∀ (m : (ℓ : Loc Cert.FoxDhIdeal.nD Cert.FoxDhIdeal.τ Cert.FoxDhIdeal.sig) → Buf (Elt Ideal) ℓ) (g : Dev Cert.FoxDhIdeal.nD → PrngReg), Pre_FoxDhIdeal m →
    θ_run (Cert.FoxDhIdeal.defs (F := Ideal)) (onTc (τ := Cert.FoxDhIdeal.τ) (Cert.FoxDhIdeal.main (F := Ideal))) ⟨m, fun _ => 0, g⟩ (fun r => (∀ c : Dev Cert.FoxDhIdeal.nD,
      r.2.mem ((c.tc : Thread Cert.FoxDhIdeal.nD Cert.FoxDhIdeal.τ).loc Cert.FoxDhIdeal.main_arg0) = m ((c.tc : Thread Cert.FoxDhIdeal.nD Cert.FoxDhIdeal.τ).loc Cert.FoxDhIdeal.main_arg0)
      ∧ r.2.mem ((c.tc : Thread Cert.FoxDhIdeal.nD Cert.FoxDhIdeal.τ).loc Cert.FoxDhIdeal.main_arg1) = m ((c.tc : Thread Cert.FoxDhIdeal.nD Cert.FoxDhIdeal.τ).loc Cert.FoxDhIdeal.main_arg1)
      ∧ r.2.mem ((c.tc : Thread Cert.FoxDhIdeal.nD Cert.FoxDhIdeal.τ).loc Cert.FoxDhIdeal.main_arg2) = m ((c.tc : Thread Cert.FoxDhIdeal.nD Cert.FoxDhIdeal.τ).loc Cert.FoxDhIdeal.main_arg2))
      ∧ r.2.sem = fun _ => 0)

def quiescent_FoxDhRefIdeal [hFoxDhRefIdeal : Cert.FoxDhRefIdeal.Facts] : Prop :=
  ∀ (m : (ℓ : Loc Cert.FoxDhRefIdeal.nD Cert.FoxDhRefIdeal.τ Cert.FoxDhRefIdeal.sig) → Buf (Elt Ideal) ℓ) (g : Dev Cert.FoxDhRefIdeal.nD → PrngReg), Pre_FoxDhRefIdeal m →
    θ_run (Cert.FoxDhRefIdeal.defs (F := Ideal)) (onTc (τ := Cert.FoxDhRefIdeal.τ) (Cert.FoxDhRefIdeal.main (F := Ideal))) ⟨m, fun _ => 0, g⟩ (fun r => (∀ c : Dev Cert.FoxDhRefIdeal.nD,
      r.2.mem ((c.tc : Thread Cert.FoxDhRefIdeal.nD Cert.FoxDhRefIdeal.τ).loc Cert.FoxDhRefIdeal.main_arg0) = m ((c.tc : Thread Cert.FoxDhRefIdeal.nD Cert.FoxDhRefIdeal.τ).loc Cert.FoxDhRefIdeal.main_arg0)
      ∧ r.2.mem ((c.tc : Thread Cert.FoxDhRefIdeal.nD Cert.FoxDhRefIdeal.τ).loc Cert.FoxDhRefIdeal.main_arg1) = m ((c.tc : Thread Cert.FoxDhRefIdeal.nD Cert.FoxDhRefIdeal.τ).loc Cert.FoxDhRefIdeal.main_arg1)
      ∧ r.2.mem ((c.tc : Thread Cert.FoxDhRefIdeal.nD Cert.FoxDhRefIdeal.τ).loc Cert.FoxDhRefIdeal.main_arg2) = m ((c.tc : Thread Cert.FoxDhRefIdeal.nD Cert.FoxDhRefIdeal.τ).loc Cert.FoxDhRefIdeal.main_arg2))
      ∧ r.2.sem = fun _ => 0)

def quiescent_FoxOut [hFoxOut : Cert.FoxOut.Facts] : Prop :=
  ∀ (m : (ℓ : Loc Cert.FoxOut.nD Cert.FoxOut.τ Cert.FoxOut.sig) → Buf (Elt Bits) ℓ) (g : Dev Cert.FoxOut.nD → PrngReg), Pre_FoxOut m →
    θ_run (Cert.FoxOut.defs (F := Bits)) (onTc (τ := Cert.FoxOut.τ) (Cert.FoxOut.main (F := Bits))) ⟨m, fun _ => 0, g⟩ (fun r => (∀ c : Dev Cert.FoxOut.nD,
      r.2.mem ((c.tc : Thread Cert.FoxOut.nD Cert.FoxOut.τ).loc Cert.FoxOut.main_arg0) = m ((c.tc : Thread Cert.FoxOut.nD Cert.FoxOut.τ).loc Cert.FoxOut.main_arg0)
      ∧ r.2.mem ((c.tc : Thread Cert.FoxOut.nD Cert.FoxOut.τ).loc Cert.FoxOut.main_arg1) = m ((c.tc : Thread Cert.FoxOut.nD Cert.FoxOut.τ).loc Cert.FoxOut.main_arg1)
      ∧ r.2.mem ((c.tc : Thread Cert.FoxOut.nD Cert.FoxOut.τ).loc Cert.FoxOut.main_arg2) = m ((c.tc : Thread Cert.FoxOut.nD Cert.FoxOut.τ).loc Cert.FoxOut.main_arg2)
      ∧ r.2.mem ((c.tc : Thread Cert.FoxOut.nD Cert.FoxOut.τ).loc Cert.FoxOut.main_arg3) = m ((c.tc : Thread Cert.FoxOut.nD Cert.FoxOut.τ).loc Cert.FoxOut.main_arg3))
      ∧ r.2.sem = fun _ => 0)

def quiescent_FoxOutIdeal [hFoxOutIdeal : Cert.FoxOutIdeal.Facts] : Prop :=
  ∀ (m : (ℓ : Loc Cert.FoxOutIdeal.nD Cert.FoxOutIdeal.τ Cert.FoxOutIdeal.sig) → Buf (Elt Ideal) ℓ) (g : Dev Cert.FoxOutIdeal.nD → PrngReg), Pre_FoxOutIdeal m →
    θ_run (Cert.FoxOutIdeal.defs (F := Ideal)) (onTc (τ := Cert.FoxOutIdeal.τ) (Cert.FoxOutIdeal.main (F := Ideal))) ⟨m, fun _ => 0, g⟩ (fun r => (∀ c : Dev Cert.FoxOutIdeal.nD,
      r.2.mem ((c.tc : Thread Cert.FoxOutIdeal.nD Cert.FoxOutIdeal.τ).loc Cert.FoxOutIdeal.main_arg0) = m ((c.tc : Thread Cert.FoxOutIdeal.nD Cert.FoxOutIdeal.τ).loc Cert.FoxOutIdeal.main_arg0)
      ∧ r.2.mem ((c.tc : Thread Cert.FoxOutIdeal.nD Cert.FoxOutIdeal.τ).loc Cert.FoxOutIdeal.main_arg1) = m ((c.tc : Thread Cert.FoxOutIdeal.nD Cert.FoxOutIdeal.τ).loc Cert.FoxOutIdeal.main_arg1)
      ∧ r.2.mem ((c.tc : Thread Cert.FoxOutIdeal.nD Cert.FoxOutIdeal.τ).loc Cert.FoxOutIdeal.main_arg2) = m ((c.tc : Thread Cert.FoxOutIdeal.nD Cert.FoxOutIdeal.τ).loc Cert.FoxOutIdeal.main_arg2)
      ∧ r.2.mem ((c.tc : Thread Cert.FoxOutIdeal.nD Cert.FoxOutIdeal.τ).loc Cert.FoxOutIdeal.main_arg3) = m ((c.tc : Thread Cert.FoxOutIdeal.nD Cert.FoxOutIdeal.τ).loc Cert.FoxOutIdeal.main_arg3))
      ∧ r.2.sem = fun _ => 0)

def quiescent_FoxOutRefIdeal [hFoxOutRefIdeal : Cert.FoxOutRefIdeal.Facts] : Prop :=
  ∀ (m : (ℓ : Loc Cert.FoxOutRefIdeal.nD Cert.FoxOutRefIdeal.τ Cert.FoxOutRefIdeal.sig) → Buf (Elt Ideal) ℓ) (g : Dev Cert.FoxOutRefIdeal.nD → PrngReg), Pre_FoxOutRefIdeal m →
    θ_run (Cert.FoxOutRefIdeal.defs (F := Ideal)) (onTc (τ := Cert.FoxOutRefIdeal.τ) (Cert.FoxOutRefIdeal.main (F := Ideal))) ⟨m, fun _ => 0, g⟩ (fun r => (∀ c : Dev Cert.FoxOutRefIdeal.nD,
      r.2.mem ((c.tc : Thread Cert.FoxOutRefIdeal.nD Cert.FoxOutRefIdeal.τ).loc Cert.FoxOutRefIdeal.main_arg0) = m ((c.tc : Thread Cert.FoxOutRefIdeal.nD Cert.FoxOutRefIdeal.τ).loc Cert.FoxOutRefIdeal.main_arg0)
      ∧ r.2.mem ((c.tc : Thread Cert.FoxOutRefIdeal.nD Cert.FoxOutRefIdeal.τ).loc Cert.FoxOutRefIdeal.main_arg1) = m ((c.tc : Thread Cert.FoxOutRefIdeal.nD Cert.FoxOutRefIdeal.τ).loc Cert.FoxOutRefIdeal.main_arg1)
      ∧ r.2.mem ((c.tc : Thread Cert.FoxOutRefIdeal.nD Cert.FoxOutRefIdeal.τ).loc Cert.FoxOutRefIdeal.main_arg2) = m ((c.tc : Thread Cert.FoxOutRefIdeal.nD Cert.FoxOutRefIdeal.τ).loc Cert.FoxOutRefIdeal.main_arg2)
      ∧ r.2.mem ((c.tc : Thread Cert.FoxOutRefIdeal.nD Cert.FoxOutRefIdeal.τ).loc Cert.FoxOutRefIdeal.main_arg3) = m ((c.tc : Thread Cert.FoxOutRefIdeal.nD Cert.FoxOutRefIdeal.τ).loc Cert.FoxOutRefIdeal.main_arg3))
      ∧ r.2.sem = fun _ => 0)

def quiescent_FoxDwo [hFoxDwo : Cert.FoxDwo.Facts] : Prop :=
  ∀ (m : (ℓ : Loc Cert.FoxDwo.nD Cert.FoxDwo.τ Cert.FoxDwo.sig) → Buf (Elt Bits) ℓ) (g : Dev Cert.FoxDwo.nD → PrngReg), Pre_FoxDwo m →
    θ_run (Cert.FoxDwo.defs (F := Bits)) (onTc (τ := Cert.FoxDwo.τ) (Cert.FoxDwo.main (F := Bits))) ⟨m, fun _ => 0, g⟩ (fun r => (∀ c : Dev Cert.FoxDwo.nD,
      r.2.mem ((c.tc : Thread Cert.FoxDwo.nD Cert.FoxDwo.τ).loc Cert.FoxDwo.main_arg0) = m ((c.tc : Thread Cert.FoxDwo.nD Cert.FoxDwo.τ).loc Cert.FoxDwo.main_arg0)
      ∧ r.2.mem ((c.tc : Thread Cert.FoxDwo.nD Cert.FoxDwo.τ).loc Cert.FoxDwo.main_arg1) = m ((c.tc : Thread Cert.FoxDwo.nD Cert.FoxDwo.τ).loc Cert.FoxDwo.main_arg1)
      ∧ r.2.mem ((c.tc : Thread Cert.FoxDwo.nD Cert.FoxDwo.τ).loc Cert.FoxDwo.main_arg2) = m ((c.tc : Thread Cert.FoxDwo.nD Cert.FoxDwo.τ).loc Cert.FoxDwo.main_arg2))
      ∧ r.2.sem = fun _ => 0)

def quiescent_FoxDwoIdeal [hFoxDwoIdeal : Cert.FoxDwoIdeal.Facts] : Prop :=
  ∀ (m : (ℓ : Loc Cert.FoxDwoIdeal.nD Cert.FoxDwoIdeal.τ Cert.FoxDwoIdeal.sig) → Buf (Elt Ideal) ℓ) (g : Dev Cert.FoxDwoIdeal.nD → PrngReg), Pre_FoxDwoIdeal m →
    θ_run (Cert.FoxDwoIdeal.defs (F := Ideal)) (onTc (τ := Cert.FoxDwoIdeal.τ) (Cert.FoxDwoIdeal.main (F := Ideal))) ⟨m, fun _ => 0, g⟩ (fun r => (∀ c : Dev Cert.FoxDwoIdeal.nD,
      r.2.mem ((c.tc : Thread Cert.FoxDwoIdeal.nD Cert.FoxDwoIdeal.τ).loc Cert.FoxDwoIdeal.main_arg0) = m ((c.tc : Thread Cert.FoxDwoIdeal.nD Cert.FoxDwoIdeal.τ).loc Cert.FoxDwoIdeal.main_arg0)
      ∧ r.2.mem ((c.tc : Thread Cert.FoxDwoIdeal.nD Cert.FoxDwoIdeal.τ).loc Cert.FoxDwoIdeal.main_arg1) = m ((c.tc : Thread Cert.FoxDwoIdeal.nD Cert.FoxDwoIdeal.τ).loc Cert.FoxDwoIdeal.main_arg1)
      ∧ r.2.mem ((c.tc : Thread Cert.FoxDwoIdeal.nD Cert.FoxDwoIdeal.τ).loc Cert.FoxDwoIdeal.main_arg2) = m ((c.tc : Thread Cert.FoxDwoIdeal.nD Cert.FoxDwoIdeal.τ).loc Cert.FoxDwoIdeal.main_arg2))
      ∧ r.2.sem = fun _ => 0)

def quiescent_FoxDwoRefIdeal [hFoxDwoRefIdeal : Cert.FoxDwoRefIdeal.Facts] : Prop :=
  ∀ (m : (ℓ : Loc Cert.FoxDwoRefIdeal.nD Cert.FoxDwoRefIdeal.τ Cert.FoxDwoRefIdeal.sig) → Buf (Elt Ideal) ℓ) (g : Dev Cert.FoxDwoRefIdeal.nD → PrngReg), Pre_FoxDwoRefIdeal m →
    θ_run (Cert.FoxDwoRefIdeal.defs (F := Ideal)) (onTc (τ := Cert.FoxDwoRefIdeal.τ) (Cert.FoxDwoRefIdeal.main (F := Ideal))) ⟨m, fun _ => 0, g⟩ (fun r => (∀ c : Dev Cert.FoxDwoRefIdeal.nD,
      r.2.mem ((c.tc : Thread Cert.FoxDwoRefIdeal.nD Cert.FoxDwoRefIdeal.τ).loc Cert.FoxDwoRefIdeal.main_arg0) = m ((c.tc : Thread Cert.FoxDwoRefIdeal.nD Cert.FoxDwoRefIdeal.τ).loc Cert.FoxDwoRefIdeal.main_arg0)
      ∧ r.2.mem ((c.tc : Thread Cert.FoxDwoRefIdeal.nD Cert.FoxDwoRefIdeal.τ).loc Cert.FoxDwoRefIdeal.main_arg1) = m ((c.tc : Thread Cert.FoxDwoRefIdeal.nD Cert.FoxDwoRefIdeal.τ).loc Cert.FoxDwoRefIdeal.main_arg1)
      ∧ r.2.mem ((c.tc : Thread Cert.FoxDwoRefIdeal.nD Cert.FoxDwoRefIdeal.τ).loc Cert.FoxDwoRefIdeal.main_arg2) = m ((c.tc : Thread Cert.FoxDwoRefIdeal.nD Cert.FoxDwoRefIdeal.τ).loc Cert.FoxDwoRefIdeal.main_arg2))
      ∧ r.2.sem = fun _ => 0)

def quiescent_AdamNormW [hAdamNormW : Cert.AdamNormW.Facts] : Prop :=
  ∀ (m : (ℓ : Loc Cert.AdamNormW.nD Cert.AdamNormW.τ Cert.AdamNormW.sig) → Buf (Elt Bits) ℓ) (g : Dev Cert.AdamNormW.nD → PrngReg), Pre_AdamNormW m →
    θ_run (Cert.AdamNormW.defs (F := Bits)) (onTc (τ := Cert.AdamNormW.τ) (Cert.AdamNormW.main (F := Bits))) ⟨m, fun _ => 0, g⟩ (fun r => (∀ c : Dev Cert.AdamNormW.nD,
      r.2.mem ((c.tc : Thread Cert.AdamNormW.nD Cert.AdamNormW.τ).loc Cert.AdamNormW.main_arg0) = m ((c.tc : Thread Cert.AdamNormW.nD Cert.AdamNormW.τ).loc Cert.AdamNormW.main_arg0)
      ∧ r.2.mem ((c.tc : Thread Cert.AdamNormW.nD Cert.AdamNormW.τ).loc Cert.AdamNormW.main_arg1) = m ((c.tc : Thread Cert.AdamNormW.nD Cert.AdamNormW.τ).loc Cert.AdamNormW.main_arg1)
      ∧ r.2.mem ((c.tc : Thread Cert.AdamNormW.nD Cert.AdamNormW.τ).loc Cert.AdamNormW.main_arg2) = m ((c.tc : Thread Cert.AdamNormW.nD Cert.AdamNormW.τ).loc Cert.AdamNormW.main_arg2)
      ∧ r.2.mem ((c.tc : Thread Cert.AdamNormW.nD Cert.AdamNormW.τ).loc Cert.AdamNormW.main_arg3) = m ((c.tc : Thread Cert.AdamNormW.nD Cert.AdamNormW.τ).loc Cert.AdamNormW.main_arg3))
      ∧ r.2.sem = fun _ => 0)

def quiescent_AdamNormWIdeal [hAdamNormWIdeal : Cert.AdamNormWIdeal.Facts] : Prop :=
  ∀ (m : (ℓ : Loc Cert.AdamNormWIdeal.nD Cert.AdamNormWIdeal.τ Cert.AdamNormWIdeal.sig) → Buf (Elt Ideal) ℓ) (g : Dev Cert.AdamNormWIdeal.nD → PrngReg), Pre_AdamNormWIdeal m →
    θ_run (Cert.AdamNormWIdeal.defs (F := Ideal)) (onTc (τ := Cert.AdamNormWIdeal.τ) (Cert.AdamNormWIdeal.main (F := Ideal))) ⟨m, fun _ => 0, g⟩ (fun r => (∀ c : Dev Cert.AdamNormWIdeal.nD,
      r.2.mem ((c.tc : Thread Cert.AdamNormWIdeal.nD Cert.AdamNormWIdeal.τ).loc Cert.AdamNormWIdeal.main_arg0) = m ((c.tc : Thread Cert.AdamNormWIdeal.nD Cert.AdamNormWIdeal.τ).loc Cert.AdamNormWIdeal.main_arg0)
      ∧ r.2.mem ((c.tc : Thread Cert.AdamNormWIdeal.nD Cert.AdamNormWIdeal.τ).loc Cert.AdamNormWIdeal.main_arg1) = m ((c.tc : Thread Cert.AdamNormWIdeal.nD Cert.AdamNormWIdeal.τ).loc Cert.AdamNormWIdeal.main_arg1)
      ∧ r.2.mem ((c.tc : Thread Cert.AdamNormWIdeal.nD Cert.AdamNormWIdeal.τ).loc Cert.AdamNormWIdeal.main_arg2) = m ((c.tc : Thread Cert.AdamNormWIdeal.nD Cert.AdamNormWIdeal.τ).loc Cert.AdamNormWIdeal.main_arg2)
      ∧ r.2.mem ((c.tc : Thread Cert.AdamNormWIdeal.nD Cert.AdamNormWIdeal.τ).loc Cert.AdamNormWIdeal.main_arg3) = m ((c.tc : Thread Cert.AdamNormWIdeal.nD Cert.AdamNormWIdeal.τ).loc Cert.AdamNormWIdeal.main_arg3))
      ∧ r.2.sem = fun _ => 0)

def quiescent_AdamNormWRefIdeal [hAdamNormWRefIdeal : Cert.AdamNormWRefIdeal.Facts] : Prop :=
  ∀ (m : (ℓ : Loc Cert.AdamNormWRefIdeal.nD Cert.AdamNormWRefIdeal.τ Cert.AdamNormWRefIdeal.sig) → Buf (Elt Ideal) ℓ) (g : Dev Cert.AdamNormWRefIdeal.nD → PrngReg), Pre_AdamNormWRefIdeal m →
    θ_run (Cert.AdamNormWRefIdeal.defs (F := Ideal)) (onTc (τ := Cert.AdamNormWRefIdeal.τ) (Cert.AdamNormWRefIdeal.main (F := Ideal))) ⟨m, fun _ => 0, g⟩ (fun r => (∀ c : Dev Cert.AdamNormWRefIdeal.nD,
      r.2.mem ((c.tc : Thread Cert.AdamNormWRefIdeal.nD Cert.AdamNormWRefIdeal.τ).loc Cert.AdamNormWRefIdeal.main_arg0) = m ((c.tc : Thread Cert.AdamNormWRefIdeal.nD Cert.AdamNormWRefIdeal.τ).loc Cert.AdamNormWRefIdeal.main_arg0)
      ∧ r.2.mem ((c.tc : Thread Cert.AdamNormWRefIdeal.nD Cert.AdamNormWRefIdeal.τ).loc Cert.AdamNormWRefIdeal.main_arg1) = m ((c.tc : Thread Cert.AdamNormWRefIdeal.nD Cert.AdamNormWRefIdeal.τ).loc Cert.AdamNormWRefIdeal.main_arg1)
      ∧ r.2.mem ((c.tc : Thread Cert.AdamNormWRefIdeal.nD Cert.AdamNormWRefIdeal.τ).loc Cert.AdamNormWRefIdeal.main_arg2) = m ((c.tc : Thread Cert.AdamNormWRefIdeal.nD Cert.AdamNormWRefIdeal.τ).loc Cert.AdamNormWRefIdeal.main_arg2)
      ∧ r.2.mem ((c.tc : Thread Cert.AdamNormWRefIdeal.nD Cert.AdamNormWRefIdeal.τ).loc Cert.AdamNormWRefIdeal.main_arg3) = m ((c.tc : Thread Cert.AdamNormWRefIdeal.nD Cert.AdamNormWRefIdeal.τ).loc Cert.AdamNormWRefIdeal.main_arg3))
      ∧ r.2.sem = fun _ => 0)

def quiescent_AdamAdaW [hAdamAdaW : Cert.AdamAdaW.Facts] : Prop :=
  ∀ (m : (ℓ : Loc Cert.AdamAdaW.nD Cert.AdamAdaW.τ Cert.AdamAdaW.sig) → Buf (Elt Bits) ℓ) (g : Dev Cert.AdamAdaW.nD → PrngReg), Pre_AdamAdaW m →
    θ_run (Cert.AdamAdaW.defs (F := Bits)) (onTc (τ := Cert.AdamAdaW.τ) (Cert.AdamAdaW.main (F := Bits))) ⟨m, fun _ => 0, g⟩ (fun r => (∀ c : Dev Cert.AdamAdaW.nD,
      r.2.mem ((c.tc : Thread Cert.AdamAdaW.nD Cert.AdamAdaW.τ).loc Cert.AdamAdaW.main_arg0) = m ((c.tc : Thread Cert.AdamAdaW.nD Cert.AdamAdaW.τ).loc Cert.AdamAdaW.main_arg0)
      ∧ r.2.mem ((c.tc : Thread Cert.AdamAdaW.nD Cert.AdamAdaW.τ).loc Cert.AdamAdaW.main_arg1) = m ((c.tc : Thread Cert.AdamAdaW.nD Cert.AdamAdaW.τ).loc Cert.AdamAdaW.main_arg1)
      ∧ r.2.mem ((c.tc : Thread Cert.AdamAdaW.nD Cert.AdamAdaW.τ).loc Cert.AdamAdaW.main_arg2) = m ((c.tc : Thread Cert.AdamAdaW.nD Cert.AdamAdaW.τ).loc Cert.AdamAdaW.main_arg2)
      ∧ r.2.mem ((c.tc : Thread Cert.AdamAdaW.nD Cert.AdamAdaW.τ).loc Cert.AdamAdaW.main_arg3) = m ((c.tc : Thread Cert.AdamAdaW.nD Cert.AdamAdaW.τ).loc Cert.AdamAdaW.main_arg3))
      ∧ r.2.sem = fun _ => 0)

def quiescent_AdamAdaWIdeal [hAdamAdaWIdeal : Cert.AdamAdaWIdeal.Facts] : Prop :=
  ∀ (m : (ℓ : Loc Cert.AdamAdaWIdeal.nD Cert.AdamAdaWIdeal.τ Cert.AdamAdaWIdeal.sig) → Buf (Elt Ideal) ℓ) (g : Dev Cert.AdamAdaWIdeal.nD → PrngReg), Pre_AdamAdaWIdeal m →
    θ_run (Cert.AdamAdaWIdeal.defs (F := Ideal)) (onTc (τ := Cert.AdamAdaWIdeal.τ) (Cert.AdamAdaWIdeal.main (F := Ideal))) ⟨m, fun _ => 0, g⟩ (fun r => (∀ c : Dev Cert.AdamAdaWIdeal.nD,
      r.2.mem ((c.tc : Thread Cert.AdamAdaWIdeal.nD Cert.AdamAdaWIdeal.τ).loc Cert.AdamAdaWIdeal.main_arg0) = m ((c.tc : Thread Cert.AdamAdaWIdeal.nD Cert.AdamAdaWIdeal.τ).loc Cert.AdamAdaWIdeal.main_arg0)
      ∧ r.2.mem ((c.tc : Thread Cert.AdamAdaWIdeal.nD Cert.AdamAdaWIdeal.τ).loc Cert.AdamAdaWIdeal.main_arg1) = m ((c.tc : Thread Cert.AdamAdaWIdeal.nD Cert.AdamAdaWIdeal.τ).loc Cert.AdamAdaWIdeal.main_arg1)
      ∧ r.2.mem ((c.tc : Thread Cert.AdamAdaWIdeal.nD Cert.AdamAdaWIdeal.τ).loc Cert.AdamAdaWIdeal.main_arg2) = m ((c.tc : Thread Cert.AdamAdaWIdeal.nD Cert.AdamAdaWIdeal.τ).loc Cert.AdamAdaWIdeal.main_arg2)
      ∧ r.2.mem ((c.tc : Thread Cert.AdamAdaWIdeal.nD Cert.AdamAdaWIdeal.τ).loc Cert.AdamAdaWIdeal.main_arg3) = m ((c.tc : Thread Cert.AdamAdaWIdeal.nD Cert.AdamAdaWIdeal.τ).loc Cert.AdamAdaWIdeal.main_arg3))
      ∧ r.2.sem = fun _ => 0)

def quiescent_AdamAdaWRefIdeal [hAdamAdaWRefIdeal : Cert.AdamAdaWRefIdeal.Facts] : Prop :=
  ∀ (m : (ℓ : Loc Cert.AdamAdaWRefIdeal.nD Cert.AdamAdaWRefIdeal.τ Cert.AdamAdaWRefIdeal.sig) → Buf (Elt Ideal) ℓ) (g : Dev Cert.AdamAdaWRefIdeal.nD → PrngReg), Pre_AdamAdaWRefIdeal m →
    θ_run (Cert.AdamAdaWRefIdeal.defs (F := Ideal)) (onTc (τ := Cert.AdamAdaWRefIdeal.τ) (Cert.AdamAdaWRefIdeal.main (F := Ideal))) ⟨m, fun _ => 0, g⟩ (fun r => (∀ c : Dev Cert.AdamAdaWRefIdeal.nD,
      r.2.mem ((c.tc : Thread Cert.AdamAdaWRefIdeal.nD Cert.AdamAdaWRefIdeal.τ).loc Cert.AdamAdaWRefIdeal.main_arg0) = m ((c.tc : Thread Cert.AdamAdaWRefIdeal.nD Cert.AdamAdaWRefIdeal.τ).loc Cert.AdamAdaWRefIdeal.main_arg0)
      ∧ r.2.mem ((c.tc : Thread Cert.AdamAdaWRefIdeal.nD Cert.AdamAdaWRefIdeal.τ).loc Cert.AdamAdaWRefIdeal.main_arg1) = m ((c.tc : Thread Cert.AdamAdaWRefIdeal.nD Cert.AdamAdaWRefIdeal.τ).loc Cert.AdamAdaWRefIdeal.main_arg1)
      ∧ r.2.mem ((c.tc : Thread Cert.AdamAdaWRefIdeal.nD Cert.AdamAdaWRefIdeal.τ).loc Cert.AdamAdaWRefIdeal.main_arg2) = m ((c.tc : Thread Cert.AdamAdaWRefIdeal.nD Cert.AdamAdaWRefIdeal.τ).loc Cert.AdamAdaWRefIdeal.main_arg2)
      ∧ r.2.mem ((c.tc : Thread Cert.AdamAdaWRefIdeal.nD Cert.AdamAdaWRefIdeal.τ).loc Cert.AdamAdaWRefIdeal.main_arg3) = m ((c.tc : Thread Cert.AdamAdaWRefIdeal.nD Cert.AdamAdaWRefIdeal.τ).loc Cert.AdamAdaWRefIdeal.main_arg3))
      ∧ r.2.sem = fun _ => 0)

def quiescent_AdamAdaB [hAdamAdaB : Cert.AdamAdaB.Facts] : Prop :=
  ∀ (m : (ℓ : Loc Cert.AdamAdaB.nD Cert.AdamAdaB.τ Cert.AdamAdaB.sig) → Buf (Elt Bits) ℓ) (g : Dev Cert.AdamAdaB.nD → PrngReg), Pre_AdamAdaB m →
    θ_run (Cert.AdamAdaB.defs (F := Bits)) (onTc (τ := Cert.AdamAdaB.τ) (Cert.AdamAdaB.main (F := Bits))) ⟨m, fun _ => 0, g⟩ (fun r => (∀ c : Dev Cert.AdamAdaB.nD,
      r.2.mem ((c.tc : Thread Cert.AdamAdaB.nD Cert.AdamAdaB.τ).loc Cert.AdamAdaB.main_arg0) = m ((c.tc : Thread Cert.AdamAdaB.nD Cert.AdamAdaB.τ).loc Cert.AdamAdaB.main_arg0)
      ∧ r.2.mem ((c.tc : Thread Cert.AdamAdaB.nD Cert.AdamAdaB.τ).loc Cert.AdamAdaB.main_arg1) = m ((c.tc : Thread Cert.AdamAdaB.nD Cert.AdamAdaB.τ).loc Cert.AdamAdaB.main_arg1)
      ∧ r.2.mem ((c.tc : Thread Cert.AdamAdaB.nD Cert.AdamAdaB.τ).loc Cert.AdamAdaB.main_arg2) = m ((c.tc : Thread Cert.AdamAdaB.nD Cert.AdamAdaB.τ).loc Cert.AdamAdaB.main_arg2)
      ∧ r.2.mem ((c.tc : Thread Cert.AdamAdaB.nD Cert.AdamAdaB.τ).loc Cert.AdamAdaB.main_arg3) = m ((c.tc : Thread Cert.AdamAdaB.nD Cert.AdamAdaB.τ).loc Cert.AdamAdaB.main_arg3))
      ∧ r.2.sem = fun _ => 0)

def quiescent_AdamAdaBIdeal [hAdamAdaBIdeal : Cert.AdamAdaBIdeal.Facts] : Prop :=
  ∀ (m : (ℓ : Loc Cert.AdamAdaBIdeal.nD Cert.AdamAdaBIdeal.τ Cert.AdamAdaBIdeal.sig) → Buf (Elt Ideal) ℓ) (g : Dev Cert.AdamAdaBIdeal.nD → PrngReg), Pre_AdamAdaBIdeal m →
    θ_run (Cert.AdamAdaBIdeal.defs (F := Ideal)) (onTc (τ := Cert.AdamAdaBIdeal.τ) (Cert.AdamAdaBIdeal.main (F := Ideal))) ⟨m, fun _ => 0, g⟩ (fun r => (∀ c : Dev Cert.AdamAdaBIdeal.nD,
      r.2.mem ((c.tc : Thread Cert.AdamAdaBIdeal.nD Cert.AdamAdaBIdeal.τ).loc Cert.AdamAdaBIdeal.main_arg0) = m ((c.tc : Thread Cert.AdamAdaBIdeal.nD Cert.AdamAdaBIdeal.τ).loc Cert.AdamAdaBIdeal.main_arg0)
      ∧ r.2.mem ((c.tc : Thread Cert.AdamAdaBIdeal.nD Cert.AdamAdaBIdeal.τ).loc Cert.AdamAdaBIdeal.main_arg1) = m ((c.tc : Thread Cert.AdamAdaBIdeal.nD Cert.AdamAdaBIdeal.τ).loc Cert.AdamAdaBIdeal.main_arg1)
      ∧ r.2.mem ((c.tc : Thread Cert.AdamAdaBIdeal.nD Cert.AdamAdaBIdeal.τ).loc Cert.AdamAdaBIdeal.main_arg2) = m ((c.tc : Thread Cert.AdamAdaBIdeal.nD Cert.AdamAdaBIdeal.τ).loc Cert.AdamAdaBIdeal.main_arg2)
      ∧ r.2.mem ((c.tc : Thread Cert.AdamAdaBIdeal.nD Cert.AdamAdaBIdeal.τ).loc Cert.AdamAdaBIdeal.main_arg3) = m ((c.tc : Thread Cert.AdamAdaBIdeal.nD Cert.AdamAdaBIdeal.τ).loc Cert.AdamAdaBIdeal.main_arg3))
      ∧ r.2.sem = fun _ => 0)

def quiescent_AdamAdaBRefIdeal [hAdamAdaBRefIdeal : Cert.AdamAdaBRefIdeal.Facts] : Prop :=
  ∀ (m : (ℓ : Loc Cert.AdamAdaBRefIdeal.nD Cert.AdamAdaBRefIdeal.τ Cert.AdamAdaBRefIdeal.sig) → Buf (Elt Ideal) ℓ) (g : Dev Cert.AdamAdaBRefIdeal.nD → PrngReg), Pre_AdamAdaBRefIdeal m →
    θ_run (Cert.AdamAdaBRefIdeal.defs (F := Ideal)) (onTc (τ := Cert.AdamAdaBRefIdeal.τ) (Cert.AdamAdaBRefIdeal.main (F := Ideal))) ⟨m, fun _ => 0, g⟩ (fun r => (∀ c : Dev Cert.AdamAdaBRefIdeal.nD,
      r.2.mem ((c.tc : Thread Cert.AdamAdaBRefIdeal.nD Cert.AdamAdaBRefIdeal.τ).loc Cert.AdamAdaBRefIdeal.main_arg0) = m ((c.tc : Thread Cert.AdamAdaBRefIdeal.nD Cert.AdamAdaBRefIdeal.τ).loc Cert.AdamAdaBRefIdeal.main_arg0)
      ∧ r.2.mem ((c.tc : Thread Cert.AdamAdaBRefIdeal.nD Cert.AdamAdaBRefIdeal.τ).loc Cert.AdamAdaBRefIdeal.main_arg1) = m ((c.tc : Thread Cert.AdamAdaBRefIdeal.nD Cert.AdamAdaBRefIdeal.τ).loc Cert.AdamAdaBRefIdeal.main_arg1)
      ∧ r.2.mem ((c.tc : Thread Cert.AdamAdaBRefIdeal.nD Cert.AdamAdaBRefIdeal.τ).loc Cert.AdamAdaBRefIdeal.main_arg2) = m ((c.tc : Thread Cert.AdamAdaBRefIdeal.nD Cert.AdamAdaBRefIdeal.τ).loc Cert.AdamAdaBRefIdeal.main_arg2)
      ∧ r.2.mem ((c.tc : Thread Cert.AdamAdaBRefIdeal.nD Cert.AdamAdaBRefIdeal.τ).loc Cert.AdamAdaBRefIdeal.main_arg3) = m ((c.tc : Thread Cert.AdamAdaBRefIdeal.nD Cert.AdamAdaBRefIdeal.τ).loc Cert.AdamAdaBRefIdeal.main_arg3))
      ∧ r.2.sem = fun _ => 0)

def quiescent_AdamAWIn [hAdamAWIn : Cert.AdamAWIn.Facts] : Prop :=
  ∀ (m : (ℓ : Loc Cert.AdamAWIn.nD Cert.AdamAWIn.τ Cert.AdamAWIn.sig) → Buf (Elt Bits) ℓ) (g : Dev Cert.AdamAWIn.nD → PrngReg), Pre_AdamAWIn m →
    θ_run (Cert.AdamAWIn.defs (F := Bits)) (onTc (τ := Cert.AdamAWIn.τ) (Cert.AdamAWIn.main (F := Bits))) ⟨m, fun _ => 0, g⟩ (fun r => (∀ c : Dev Cert.AdamAWIn.nD,
      r.2.mem ((c.tc : Thread Cert.AdamAWIn.nD Cert.AdamAWIn.τ).loc Cert.AdamAWIn.main_arg0) = m ((c.tc : Thread Cert.AdamAWIn.nD Cert.AdamAWIn.τ).loc Cert.AdamAWIn.main_arg0)
      ∧ r.2.mem ((c.tc : Thread Cert.AdamAWIn.nD Cert.AdamAWIn.τ).loc Cert.AdamAWIn.main_arg1) = m ((c.tc : Thread Cert.AdamAWIn.nD Cert.AdamAWIn.τ).loc Cert.AdamAWIn.main_arg1)
      ∧ r.2.mem ((c.tc : Thread Cert.AdamAWIn.nD Cert.AdamAWIn.τ).loc Cert.AdamAWIn.main_arg2) = m ((c.tc : Thread Cert.AdamAWIn.nD Cert.AdamAWIn.τ).loc Cert.AdamAWIn.main_arg2)
      ∧ r.2.mem ((c.tc : Thread Cert.AdamAWIn.nD Cert.AdamAWIn.τ).loc Cert.AdamAWIn.main_arg3) = m ((c.tc : Thread Cert.AdamAWIn.nD Cert.AdamAWIn.τ).loc Cert.AdamAWIn.main_arg3))
      ∧ r.2.sem = fun _ => 0)

def quiescent_AdamAWInIdeal [hAdamAWInIdeal : Cert.AdamAWInIdeal.Facts] : Prop :=
  ∀ (m : (ℓ : Loc Cert.AdamAWInIdeal.nD Cert.AdamAWInIdeal.τ Cert.AdamAWInIdeal.sig) → Buf (Elt Ideal) ℓ) (g : Dev Cert.AdamAWInIdeal.nD → PrngReg), Pre_AdamAWInIdeal m →
    θ_run (Cert.AdamAWInIdeal.defs (F := Ideal)) (onTc (τ := Cert.AdamAWInIdeal.τ) (Cert.AdamAWInIdeal.main (F := Ideal))) ⟨m, fun _ => 0, g⟩ (fun r => (∀ c : Dev Cert.AdamAWInIdeal.nD,
      r.2.mem ((c.tc : Thread Cert.AdamAWInIdeal.nD Cert.AdamAWInIdeal.τ).loc Cert.AdamAWInIdeal.main_arg0) = m ((c.tc : Thread Cert.AdamAWInIdeal.nD Cert.AdamAWInIdeal.τ).loc Cert.AdamAWInIdeal.main_arg0)
      ∧ r.2.mem ((c.tc : Thread Cert.AdamAWInIdeal.nD Cert.AdamAWInIdeal.τ).loc Cert.AdamAWInIdeal.main_arg1) = m ((c.tc : Thread Cert.AdamAWInIdeal.nD Cert.AdamAWInIdeal.τ).loc Cert.AdamAWInIdeal.main_arg1)
      ∧ r.2.mem ((c.tc : Thread Cert.AdamAWInIdeal.nD Cert.AdamAWInIdeal.τ).loc Cert.AdamAWInIdeal.main_arg2) = m ((c.tc : Thread Cert.AdamAWInIdeal.nD Cert.AdamAWInIdeal.τ).loc Cert.AdamAWInIdeal.main_arg2)
      ∧ r.2.mem ((c.tc : Thread Cert.AdamAWInIdeal.nD Cert.AdamAWInIdeal.τ).loc Cert.AdamAWInIdeal.main_arg3) = m ((c.tc : Thread Cert.AdamAWInIdeal.nD Cert.AdamAWInIdeal.τ).loc Cert.AdamAWInIdeal.main_arg3))
      ∧ r.2.sem = fun _ => 0)

def quiescent_AdamAWInRefIdeal [hAdamAWInRefIdeal : Cert.AdamAWInRefIdeal.Facts] : Prop :=
  ∀ (m : (ℓ : Loc Cert.AdamAWInRefIdeal.nD Cert.AdamAWInRefIdeal.τ Cert.AdamAWInRefIdeal.sig) → Buf (Elt Ideal) ℓ) (g : Dev Cert.AdamAWInRefIdeal.nD → PrngReg), Pre_AdamAWInRefIdeal m →
    θ_run (Cert.AdamAWInRefIdeal.defs (F := Ideal)) (onTc (τ := Cert.AdamAWInRefIdeal.τ) (Cert.AdamAWInRefIdeal.main (F := Ideal))) ⟨m, fun _ => 0, g⟩ (fun r => (∀ c : Dev Cert.AdamAWInRefIdeal.nD,
      r.2.mem ((c.tc : Thread Cert.AdamAWInRefIdeal.nD Cert.AdamAWInRefIdeal.τ).loc Cert.AdamAWInRefIdeal.main_arg0) = m ((c.tc : Thread Cert.AdamAWInRefIdeal.nD Cert.AdamAWInRefIdeal.τ).loc Cert.AdamAWInRefIdeal.main_arg0)
      ∧ r.2.mem ((c.tc : Thread Cert.AdamAWInRefIdeal.nD Cert.AdamAWInRefIdeal.τ).loc Cert.AdamAWInRefIdeal.main_arg1) = m ((c.tc : Thread Cert.AdamAWInRefIdeal.nD Cert.AdamAWInRefIdeal.τ).loc Cert.AdamAWInRefIdeal.main_arg1)
      ∧ r.2.mem ((c.tc : Thread Cert.AdamAWInRefIdeal.nD Cert.AdamAWInRefIdeal.τ).loc Cert.AdamAWInRefIdeal.main_arg2) = m ((c.tc : Thread Cert.AdamAWInRefIdeal.nD Cert.AdamAWInRefIdeal.τ).loc Cert.AdamAWInRefIdeal.main_arg2)
      ∧ r.2.mem ((c.tc : Thread Cert.AdamAWInRefIdeal.nD Cert.AdamAWInRefIdeal.τ).loc Cert.AdamAWInRefIdeal.main_arg3) = m ((c.tc : Thread Cert.AdamAWInRefIdeal.nD Cert.AdamAWInRefIdeal.τ).loc Cert.AdamAWInRefIdeal.main_arg3))
      ∧ r.2.sem = fun _ => 0)

def quiescent_AdamAConvW [hAdamAConvW : Cert.AdamAConvW.Facts] : Prop :=
  ∀ (m : (ℓ : Loc Cert.AdamAConvW.nD Cert.AdamAConvW.τ Cert.AdamAConvW.sig) → Buf (Elt Bits) ℓ) (g : Dev Cert.AdamAConvW.nD → PrngReg), Pre_AdamAConvW m →
    θ_run (Cert.AdamAConvW.defs (F := Bits)) (onTc (τ := Cert.AdamAConvW.τ) (Cert.AdamAConvW.main (F := Bits))) ⟨m, fun _ => 0, g⟩ (fun r => (∀ c : Dev Cert.AdamAConvW.nD,
      r.2.mem ((c.tc : Thread Cert.AdamAConvW.nD Cert.AdamAConvW.τ).loc Cert.AdamAConvW.main_arg0) = m ((c.tc : Thread Cert.AdamAConvW.nD Cert.AdamAConvW.τ).loc Cert.AdamAConvW.main_arg0)
      ∧ r.2.mem ((c.tc : Thread Cert.AdamAConvW.nD Cert.AdamAConvW.τ).loc Cert.AdamAConvW.main_arg1) = m ((c.tc : Thread Cert.AdamAConvW.nD Cert.AdamAConvW.τ).loc Cert.AdamAConvW.main_arg1)
      ∧ r.2.mem ((c.tc : Thread Cert.AdamAConvW.nD Cert.AdamAConvW.τ).loc Cert.AdamAConvW.main_arg2) = m ((c.tc : Thread Cert.AdamAConvW.nD Cert.AdamAConvW.τ).loc Cert.AdamAConvW.main_arg2)
      ∧ r.2.mem ((c.tc : Thread Cert.AdamAConvW.nD Cert.AdamAConvW.τ).loc Cert.AdamAConvW.main_arg3) = m ((c.tc : Thread Cert.AdamAConvW.nD Cert.AdamAConvW.τ).loc Cert.AdamAConvW.main_arg3))
      ∧ r.2.sem = fun _ => 0)

def quiescent_AdamAConvWIdeal [hAdamAConvWIdeal : Cert.AdamAConvWIdeal.Facts] : Prop :=
  ∀ (m : (ℓ : Loc Cert.AdamAConvWIdeal.nD Cert.AdamAConvWIdeal.τ Cert.AdamAConvWIdeal.sig) → Buf (Elt Ideal) ℓ) (g : Dev Cert.AdamAConvWIdeal.nD → PrngReg), Pre_AdamAConvWIdeal m →
    θ_run (Cert.AdamAConvWIdeal.defs (F := Ideal)) (onTc (τ := Cert.AdamAConvWIdeal.τ) (Cert.AdamAConvWIdeal.main (F := Ideal))) ⟨m, fun _ => 0, g⟩ (fun r => (∀ c : Dev Cert.AdamAConvWIdeal.nD,
      r.2.mem ((c.tc : Thread Cert.AdamAConvWIdeal.nD Cert.AdamAConvWIdeal.τ).loc Cert.AdamAConvWIdeal.main_arg0) = m ((c.tc : Thread Cert.AdamAConvWIdeal.nD Cert.AdamAConvWIdeal.τ).loc Cert.AdamAConvWIdeal.main_arg0)
      ∧ r.2.mem ((c.tc : Thread Cert.AdamAConvWIdeal.nD Cert.AdamAConvWIdeal.τ).loc Cert.AdamAConvWIdeal.main_arg1) = m ((c.tc : Thread Cert.AdamAConvWIdeal.nD Cert.AdamAConvWIdeal.τ).loc Cert.AdamAConvWIdeal.main_arg1)
      ∧ r.2.mem ((c.tc : Thread Cert.AdamAConvWIdeal.nD Cert.AdamAConvWIdeal.τ).loc Cert.AdamAConvWIdeal.main_arg2) = m ((c.tc : Thread Cert.AdamAConvWIdeal.nD Cert.AdamAConvWIdeal.τ).loc Cert.AdamAConvWIdeal.main_arg2)
      ∧ r.2.mem ((c.tc : Thread Cert.AdamAConvWIdeal.nD Cert.AdamAConvWIdeal.τ).loc Cert.AdamAConvWIdeal.main_arg3) = m ((c.tc : Thread Cert.AdamAConvWIdeal.nD Cert.AdamAConvWIdeal.τ).loc Cert.AdamAConvWIdeal.main_arg3))
      ∧ r.2.sem = fun _ => 0)

def quiescent_AdamAConvWRefIdeal [hAdamAConvWRefIdeal : Cert.AdamAConvWRefIdeal.Facts] : Prop :=
  ∀ (m : (ℓ : Loc Cert.AdamAConvWRefIdeal.nD Cert.AdamAConvWRefIdeal.τ Cert.AdamAConvWRefIdeal.sig) → Buf (Elt Ideal) ℓ) (g : Dev Cert.AdamAConvWRefIdeal.nD → PrngReg), Pre_AdamAConvWRefIdeal m →
    θ_run (Cert.AdamAConvWRefIdeal.defs (F := Ideal)) (onTc (τ := Cert.AdamAConvWRefIdeal.τ) (Cert.AdamAConvWRefIdeal.main (F := Ideal))) ⟨m, fun _ => 0, g⟩ (fun r => (∀ c : Dev Cert.AdamAConvWRefIdeal.nD,
      r.2.mem ((c.tc : Thread Cert.AdamAConvWRefIdeal.nD Cert.AdamAConvWRefIdeal.τ).loc Cert.AdamAConvWRefIdeal.main_arg0) = m ((c.tc : Thread Cert.AdamAConvWRefIdeal.nD Cert.AdamAConvWRefIdeal.τ).loc Cert.AdamAConvWRefIdeal.main_arg0)
      ∧ r.2.mem ((c.tc : Thread Cert.AdamAConvWRefIdeal.nD Cert.AdamAConvWRefIdeal.τ).loc Cert.AdamAConvWRefIdeal.main_arg1) = m ((c.tc : Thread Cert.AdamAConvWRefIdeal.nD Cert.AdamAConvWRefIdeal.τ).loc Cert.AdamAConvWRefIdeal.main_arg1)
      ∧ r.2.mem ((c.tc : Thread Cert.AdamAConvWRefIdeal.nD Cert.AdamAConvWRefIdeal.τ).loc Cert.AdamAConvWRefIdeal.main_arg2) = m ((c.tc : Thread Cert.AdamAConvWRefIdeal.nD Cert.AdamAConvWRefIdeal.τ).loc Cert.AdamAConvWRefIdeal.main_arg2)
      ∧ r.2.mem ((c.tc : Thread Cert.AdamAConvWRefIdeal.nD Cert.AdamAConvWRefIdeal.τ).loc Cert.AdamAConvWRefIdeal.main_arg3) = m ((c.tc : Thread Cert.AdamAConvWRefIdeal.nD Cert.AdamAConvWRefIdeal.τ).loc Cert.AdamAConvWRefIdeal.main_arg3))
      ∧ r.2.sem = fun _ => 0)

def quiescent_AdamAALog [hAdamAALog : Cert.AdamAALog.Facts] : Prop :=
  ∀ (m : (ℓ : Loc Cert.AdamAALog.nD Cert.AdamAALog.τ Cert.AdamAALog.sig) → Buf (Elt Bits) ℓ) (g : Dev Cert.AdamAALog.nD → PrngReg), Pre_AdamAALog m →
    θ_run (Cert.AdamAALog.defs (F := Bits)) (onTc (τ := Cert.AdamAALog.τ) (Cert.AdamAALog.main (F := Bits))) ⟨m, fun _ => 0, g⟩ (fun r => (∀ c : Dev Cert.AdamAALog.nD,
      r.2.mem ((c.tc : Thread Cert.AdamAALog.nD Cert.AdamAALog.τ).loc Cert.AdamAALog.main_arg0) = m ((c.tc : Thread Cert.AdamAALog.nD Cert.AdamAALog.τ).loc Cert.AdamAALog.main_arg0)
      ∧ r.2.mem ((c.tc : Thread Cert.AdamAALog.nD Cert.AdamAALog.τ).loc Cert.AdamAALog.main_arg1) = m ((c.tc : Thread Cert.AdamAALog.nD Cert.AdamAALog.τ).loc Cert.AdamAALog.main_arg1)
      ∧ r.2.mem ((c.tc : Thread Cert.AdamAALog.nD Cert.AdamAALog.τ).loc Cert.AdamAALog.main_arg2) = m ((c.tc : Thread Cert.AdamAALog.nD Cert.AdamAALog.τ).loc Cert.AdamAALog.main_arg2)
      ∧ r.2.mem ((c.tc : Thread Cert.AdamAALog.nD Cert.AdamAALog.τ).loc Cert.AdamAALog.main_arg3) = m ((c.tc : Thread Cert.AdamAALog.nD Cert.AdamAALog.τ).loc Cert.AdamAALog.main_arg3))
      ∧ r.2.sem = fun _ => 0)

def quiescent_AdamAALogIdeal [hAdamAALogIdeal : Cert.AdamAALogIdeal.Facts] : Prop :=
  ∀ (m : (ℓ : Loc Cert.AdamAALogIdeal.nD Cert.AdamAALogIdeal.τ Cert.AdamAALogIdeal.sig) → Buf (Elt Ideal) ℓ) (g : Dev Cert.AdamAALogIdeal.nD → PrngReg), Pre_AdamAALogIdeal m →
    θ_run (Cert.AdamAALogIdeal.defs (F := Ideal)) (onTc (τ := Cert.AdamAALogIdeal.τ) (Cert.AdamAALogIdeal.main (F := Ideal))) ⟨m, fun _ => 0, g⟩ (fun r => (∀ c : Dev Cert.AdamAALogIdeal.nD,
      r.2.mem ((c.tc : Thread Cert.AdamAALogIdeal.nD Cert.AdamAALogIdeal.τ).loc Cert.AdamAALogIdeal.main_arg0) = m ((c.tc : Thread Cert.AdamAALogIdeal.nD Cert.AdamAALogIdeal.τ).loc Cert.AdamAALogIdeal.main_arg0)
      ∧ r.2.mem ((c.tc : Thread Cert.AdamAALogIdeal.nD Cert.AdamAALogIdeal.τ).loc Cert.AdamAALogIdeal.main_arg1) = m ((c.tc : Thread Cert.AdamAALogIdeal.nD Cert.AdamAALogIdeal.τ).loc Cert.AdamAALogIdeal.main_arg1)
      ∧ r.2.mem ((c.tc : Thread Cert.AdamAALogIdeal.nD Cert.AdamAALogIdeal.τ).loc Cert.AdamAALogIdeal.main_arg2) = m ((c.tc : Thread Cert.AdamAALogIdeal.nD Cert.AdamAALogIdeal.τ).loc Cert.AdamAALogIdeal.main_arg2)
      ∧ r.2.mem ((c.tc : Thread Cert.AdamAALogIdeal.nD Cert.AdamAALogIdeal.τ).loc Cert.AdamAALogIdeal.main_arg3) = m ((c.tc : Thread Cert.AdamAALogIdeal.nD Cert.AdamAALogIdeal.τ).loc Cert.AdamAALogIdeal.main_arg3))
      ∧ r.2.sem = fun _ => 0)

def quiescent_AdamAALogRefIdeal [hAdamAALogRefIdeal : Cert.AdamAALogRefIdeal.Facts] : Prop :=
  ∀ (m : (ℓ : Loc Cert.AdamAALogRefIdeal.nD Cert.AdamAALogRefIdeal.τ Cert.AdamAALogRefIdeal.sig) → Buf (Elt Ideal) ℓ) (g : Dev Cert.AdamAALogRefIdeal.nD → PrngReg), Pre_AdamAALogRefIdeal m →
    θ_run (Cert.AdamAALogRefIdeal.defs (F := Ideal)) (onTc (τ := Cert.AdamAALogRefIdeal.τ) (Cert.AdamAALogRefIdeal.main (F := Ideal))) ⟨m, fun _ => 0, g⟩ (fun r => (∀ c : Dev Cert.AdamAALogRefIdeal.nD,
      r.2.mem ((c.tc : Thread Cert.AdamAALogRefIdeal.nD Cert.AdamAALogRefIdeal.τ).loc Cert.AdamAALogRefIdeal.main_arg0) = m ((c.tc : Thread Cert.AdamAALogRefIdeal.nD Cert.AdamAALogRefIdeal.τ).loc Cert.AdamAALogRefIdeal.main_arg0)
      ∧ r.2.mem ((c.tc : Thread Cert.AdamAALogRefIdeal.nD Cert.AdamAALogRefIdeal.τ).loc Cert.AdamAALogRefIdeal.main_arg1) = m ((c.tc : Thread Cert.AdamAALogRefIdeal.nD Cert.AdamAALogRefIdeal.τ).loc Cert.AdamAALogRefIdeal.main_arg1)
      ∧ r.2.mem ((c.tc : Thread Cert.AdamAALogRefIdeal.nD Cert.AdamAALogRefIdeal.τ).loc Cert.AdamAALogRefIdeal.main_arg2) = m ((c.tc : Thread Cert.AdamAALogRefIdeal.nD Cert.AdamAALogRefIdeal.τ).loc Cert.AdamAALogRefIdeal.main_arg2)
      ∧ r.2.mem ((c.tc : Thread Cert.AdamAALogRefIdeal.nD Cert.AdamAALogRefIdeal.τ).loc Cert.AdamAALogRefIdeal.main_arg3) = m ((c.tc : Thread Cert.AdamAALogRefIdeal.nD Cert.AdamAALogRefIdeal.τ).loc Cert.AdamAALogRefIdeal.main_arg3))
      ∧ r.2.sem = fun _ => 0)

def quiescent_AdamANormW [hAdamANormW : Cert.AdamANormW.Facts] : Prop :=
  ∀ (m : (ℓ : Loc Cert.AdamANormW.nD Cert.AdamANormW.τ Cert.AdamANormW.sig) → Buf (Elt Bits) ℓ) (g : Dev Cert.AdamANormW.nD → PrngReg), Pre_AdamANormW m →
    θ_run (Cert.AdamANormW.defs (F := Bits)) (onTc (τ := Cert.AdamANormW.τ) (Cert.AdamANormW.main (F := Bits))) ⟨m, fun _ => 0, g⟩ (fun r => (∀ c : Dev Cert.AdamANormW.nD,
      r.2.mem ((c.tc : Thread Cert.AdamANormW.nD Cert.AdamANormW.τ).loc Cert.AdamANormW.main_arg0) = m ((c.tc : Thread Cert.AdamANormW.nD Cert.AdamANormW.τ).loc Cert.AdamANormW.main_arg0)
      ∧ r.2.mem ((c.tc : Thread Cert.AdamANormW.nD Cert.AdamANormW.τ).loc Cert.AdamANormW.main_arg1) = m ((c.tc : Thread Cert.AdamANormW.nD Cert.AdamANormW.τ).loc Cert.AdamANormW.main_arg1)
      ∧ r.2.mem ((c.tc : Thread Cert.AdamANormW.nD Cert.AdamANormW.τ).loc Cert.AdamANormW.main_arg2) = m ((c.tc : Thread Cert.AdamANormW.nD Cert.AdamANormW.τ).loc Cert.AdamANormW.main_arg2)
      ∧ r.2.mem ((c.tc : Thread Cert.AdamANormW.nD Cert.AdamANormW.τ).loc Cert.AdamANormW.main_arg3) = m ((c.tc : Thread Cert.AdamANormW.nD Cert.AdamANormW.τ).loc Cert.AdamANormW.main_arg3))
      ∧ r.2.sem = fun _ => 0)

def quiescent_AdamANormWIdeal [hAdamANormWIdeal : Cert.AdamANormWIdeal.Facts] : Prop :=
  ∀ (m : (ℓ : Loc Cert.AdamANormWIdeal.nD Cert.AdamANormWIdeal.τ Cert.AdamANormWIdeal.sig) → Buf (Elt Ideal) ℓ) (g : Dev Cert.AdamANormWIdeal.nD → PrngReg), Pre_AdamANormWIdeal m →
    θ_run (Cert.AdamANormWIdeal.defs (F := Ideal)) (onTc (τ := Cert.AdamANormWIdeal.τ) (Cert.AdamANormWIdeal.main (F := Ideal))) ⟨m, fun _ => 0, g⟩ (fun r => (∀ c : Dev Cert.AdamANormWIdeal.nD,
      r.2.mem ((c.tc : Thread Cert.AdamANormWIdeal.nD Cert.AdamANormWIdeal.τ).loc Cert.AdamANormWIdeal.main_arg0) = m ((c.tc : Thread Cert.AdamANormWIdeal.nD Cert.AdamANormWIdeal.τ).loc Cert.AdamANormWIdeal.main_arg0)
      ∧ r.2.mem ((c.tc : Thread Cert.AdamANormWIdeal.nD Cert.AdamANormWIdeal.τ).loc Cert.AdamANormWIdeal.main_arg1) = m ((c.tc : Thread Cert.AdamANormWIdeal.nD Cert.AdamANormWIdeal.τ).loc Cert.AdamANormWIdeal.main_arg1)
      ∧ r.2.mem ((c.tc : Thread Cert.AdamANormWIdeal.nD Cert.AdamANormWIdeal.τ).loc Cert.AdamANormWIdeal.main_arg2) = m ((c.tc : Thread Cert.AdamANormWIdeal.nD Cert.AdamANormWIdeal.τ).loc Cert.AdamANormWIdeal.main_arg2)
      ∧ r.2.mem ((c.tc : Thread Cert.AdamANormWIdeal.nD Cert.AdamANormWIdeal.τ).loc Cert.AdamANormWIdeal.main_arg3) = m ((c.tc : Thread Cert.AdamANormWIdeal.nD Cert.AdamANormWIdeal.τ).loc Cert.AdamANormWIdeal.main_arg3))
      ∧ r.2.sem = fun _ => 0)

def quiescent_AdamANormWRefIdeal [hAdamANormWRefIdeal : Cert.AdamANormWRefIdeal.Facts] : Prop :=
  ∀ (m : (ℓ : Loc Cert.AdamANormWRefIdeal.nD Cert.AdamANormWRefIdeal.τ Cert.AdamANormWRefIdeal.sig) → Buf (Elt Ideal) ℓ) (g : Dev Cert.AdamANormWRefIdeal.nD → PrngReg), Pre_AdamANormWRefIdeal m →
    θ_run (Cert.AdamANormWRefIdeal.defs (F := Ideal)) (onTc (τ := Cert.AdamANormWRefIdeal.τ) (Cert.AdamANormWRefIdeal.main (F := Ideal))) ⟨m, fun _ => 0, g⟩ (fun r => (∀ c : Dev Cert.AdamANormWRefIdeal.nD,
      r.2.mem ((c.tc : Thread Cert.AdamANormWRefIdeal.nD Cert.AdamANormWRefIdeal.τ).loc Cert.AdamANormWRefIdeal.main_arg0) = m ((c.tc : Thread Cert.AdamANormWRefIdeal.nD Cert.AdamANormWRefIdeal.τ).loc Cert.AdamANormWRefIdeal.main_arg0)
      ∧ r.2.mem ((c.tc : Thread Cert.AdamANormWRefIdeal.nD Cert.AdamANormWRefIdeal.τ).loc Cert.AdamANormWRefIdeal.main_arg1) = m ((c.tc : Thread Cert.AdamANormWRefIdeal.nD Cert.AdamANormWRefIdeal.τ).loc Cert.AdamANormWRefIdeal.main_arg1)
      ∧ r.2.mem ((c.tc : Thread Cert.AdamANormWRefIdeal.nD Cert.AdamANormWRefIdeal.τ).loc Cert.AdamANormWRefIdeal.main_arg2) = m ((c.tc : Thread Cert.AdamANormWRefIdeal.nD Cert.AdamANormWRefIdeal.τ).loc Cert.AdamANormWRefIdeal.main_arg2)
      ∧ r.2.mem ((c.tc : Thread Cert.AdamANormWRefIdeal.nD Cert.AdamANormWRefIdeal.τ).loc Cert.AdamANormWRefIdeal.main_arg3) = m ((c.tc : Thread Cert.AdamANormWRefIdeal.nD Cert.AdamANormWRefIdeal.τ).loc Cert.AdamANormWRefIdeal.main_arg3))
      ∧ r.2.sem = fun _ => 0)

def quiescent_AdamAWOut [hAdamAWOut : Cert.AdamAWOut.Facts] : Prop :=
  ∀ (m : (ℓ : Loc Cert.AdamAWOut.nD Cert.AdamAWOut.τ Cert.AdamAWOut.sig) → Buf (Elt Bits) ℓ) (g : Dev Cert.AdamAWOut.nD → PrngReg), Pre_AdamAWOut m →
    θ_run (Cert.AdamAWOut.defs (F := Bits)) (onTc (τ := Cert.AdamAWOut.τ) (Cert.AdamAWOut.main (F := Bits))) ⟨m, fun _ => 0, g⟩ (fun r => (∀ c : Dev Cert.AdamAWOut.nD,
      r.2.mem ((c.tc : Thread Cert.AdamAWOut.nD Cert.AdamAWOut.τ).loc Cert.AdamAWOut.main_arg0) = m ((c.tc : Thread Cert.AdamAWOut.nD Cert.AdamAWOut.τ).loc Cert.AdamAWOut.main_arg0)
      ∧ r.2.mem ((c.tc : Thread Cert.AdamAWOut.nD Cert.AdamAWOut.τ).loc Cert.AdamAWOut.main_arg1) = m ((c.tc : Thread Cert.AdamAWOut.nD Cert.AdamAWOut.τ).loc Cert.AdamAWOut.main_arg1)
      ∧ r.2.mem ((c.tc : Thread Cert.AdamAWOut.nD Cert.AdamAWOut.τ).loc Cert.AdamAWOut.main_arg2) = m ((c.tc : Thread Cert.AdamAWOut.nD Cert.AdamAWOut.τ).loc Cert.AdamAWOut.main_arg2)
      ∧ r.2.mem ((c.tc : Thread Cert.AdamAWOut.nD Cert.AdamAWOut.τ).loc Cert.AdamAWOut.main_arg3) = m ((c.tc : Thread Cert.AdamAWOut.nD Cert.AdamAWOut.τ).loc Cert.AdamAWOut.main_arg3))
      ∧ r.2.sem = fun _ => 0)

def quiescent_AdamAWOutIdeal [hAdamAWOutIdeal : Cert.AdamAWOutIdeal.Facts] : Prop :=
  ∀ (m : (ℓ : Loc Cert.AdamAWOutIdeal.nD Cert.AdamAWOutIdeal.τ Cert.AdamAWOutIdeal.sig) → Buf (Elt Ideal) ℓ) (g : Dev Cert.AdamAWOutIdeal.nD → PrngReg), Pre_AdamAWOutIdeal m →
    θ_run (Cert.AdamAWOutIdeal.defs (F := Ideal)) (onTc (τ := Cert.AdamAWOutIdeal.τ) (Cert.AdamAWOutIdeal.main (F := Ideal))) ⟨m, fun _ => 0, g⟩ (fun r => (∀ c : Dev Cert.AdamAWOutIdeal.nD,
      r.2.mem ((c.tc : Thread Cert.AdamAWOutIdeal.nD Cert.AdamAWOutIdeal.τ).loc Cert.AdamAWOutIdeal.main_arg0) = m ((c.tc : Thread Cert.AdamAWOutIdeal.nD Cert.AdamAWOutIdeal.τ).loc Cert.AdamAWOutIdeal.main_arg0)
      ∧ r.2.mem ((c.tc : Thread Cert.AdamAWOutIdeal.nD Cert.AdamAWOutIdeal.τ).loc Cert.AdamAWOutIdeal.main_arg1) = m ((c.tc : Thread Cert.AdamAWOutIdeal.nD Cert.AdamAWOutIdeal.τ).loc Cert.AdamAWOutIdeal.main_arg1)
      ∧ r.2.mem ((c.tc : Thread Cert.AdamAWOutIdeal.nD Cert.AdamAWOutIdeal.τ).loc Cert.AdamAWOutIdeal.main_arg2) = m ((c.tc : Thread Cert.AdamAWOutIdeal.nD Cert.AdamAWOutIdeal.τ).loc Cert.AdamAWOutIdeal.main_arg2)
      ∧ r.2.mem ((c.tc : Thread Cert.AdamAWOutIdeal.nD Cert.AdamAWOutIdeal.τ).loc Cert.AdamAWOutIdeal.main_arg3) = m ((c.tc : Thread Cert.AdamAWOutIdeal.nD Cert.AdamAWOutIdeal.τ).loc Cert.AdamAWOutIdeal.main_arg3))
      ∧ r.2.sem = fun _ => 0)

def quiescent_AdamAWOutRefIdeal [hAdamAWOutRefIdeal : Cert.AdamAWOutRefIdeal.Facts] : Prop :=
  ∀ (m : (ℓ : Loc Cert.AdamAWOutRefIdeal.nD Cert.AdamAWOutRefIdeal.τ Cert.AdamAWOutRefIdeal.sig) → Buf (Elt Ideal) ℓ) (g : Dev Cert.AdamAWOutRefIdeal.nD → PrngReg), Pre_AdamAWOutRefIdeal m →
    θ_run (Cert.AdamAWOutRefIdeal.defs (F := Ideal)) (onTc (τ := Cert.AdamAWOutRefIdeal.τ) (Cert.AdamAWOutRefIdeal.main (F := Ideal))) ⟨m, fun _ => 0, g⟩ (fun r => (∀ c : Dev Cert.AdamAWOutRefIdeal.nD,
      r.2.mem ((c.tc : Thread Cert.AdamAWOutRefIdeal.nD Cert.AdamAWOutRefIdeal.τ).loc Cert.AdamAWOutRefIdeal.main_arg0) = m ((c.tc : Thread Cert.AdamAWOutRefIdeal.nD Cert.AdamAWOutRefIdeal.τ).loc Cert.AdamAWOutRefIdeal.main_arg0)
      ∧ r.2.mem ((c.tc : Thread Cert.AdamAWOutRefIdeal.nD Cert.AdamAWOutRefIdeal.τ).loc Cert.AdamAWOutRefIdeal.main_arg1) = m ((c.tc : Thread Cert.AdamAWOutRefIdeal.nD Cert.AdamAWOutRefIdeal.τ).loc Cert.AdamAWOutRefIdeal.main_arg1)
      ∧ r.2.mem ((c.tc : Thread Cert.AdamAWOutRefIdeal.nD Cert.AdamAWOutRefIdeal.τ).loc Cert.AdamAWOutRefIdeal.main_arg2) = m ((c.tc : Thread Cert.AdamAWOutRefIdeal.nD Cert.AdamAWOutRefIdeal.τ).loc Cert.AdamAWOutRefIdeal.main_arg2)
      ∧ r.2.mem ((c.tc : Thread Cert.AdamAWOutRefIdeal.nD Cert.AdamAWOutRefIdeal.τ).loc Cert.AdamAWOutRefIdeal.main_arg3) = m ((c.tc : Thread Cert.AdamAWOutRefIdeal.nD Cert.AdamAWOutRefIdeal.τ).loc Cert.AdamAWOutRefIdeal.main_arg3))
      ∧ r.2.sem = fun _ => 0)

def quiescent_AdamBWIn [hAdamBWIn : Cert.AdamBWIn.Facts] : Prop :=
  ∀ (m : (ℓ : Loc Cert.AdamBWIn.nD Cert.AdamBWIn.τ Cert.AdamBWIn.sig) → Buf (Elt Bits) ℓ) (g : Dev Cert.AdamBWIn.nD → PrngReg), Pre_AdamBWIn m →
    θ_run (Cert.AdamBWIn.defs (F := Bits)) (onTc (τ := Cert.AdamBWIn.τ) (Cert.AdamBWIn.main (F := Bits))) ⟨m, fun _ => 0, g⟩ (fun r => (∀ c : Dev Cert.AdamBWIn.nD,
      r.2.mem ((c.tc : Thread Cert.AdamBWIn.nD Cert.AdamBWIn.τ).loc Cert.AdamBWIn.main_arg0) = m ((c.tc : Thread Cert.AdamBWIn.nD Cert.AdamBWIn.τ).loc Cert.AdamBWIn.main_arg0)
      ∧ r.2.mem ((c.tc : Thread Cert.AdamBWIn.nD Cert.AdamBWIn.τ).loc Cert.AdamBWIn.main_arg1) = m ((c.tc : Thread Cert.AdamBWIn.nD Cert.AdamBWIn.τ).loc Cert.AdamBWIn.main_arg1)
      ∧ r.2.mem ((c.tc : Thread Cert.AdamBWIn.nD Cert.AdamBWIn.τ).loc Cert.AdamBWIn.main_arg2) = m ((c.tc : Thread Cert.AdamBWIn.nD Cert.AdamBWIn.τ).loc Cert.AdamBWIn.main_arg2)
      ∧ r.2.mem ((c.tc : Thread Cert.AdamBWIn.nD Cert.AdamBWIn.τ).loc Cert.AdamBWIn.main_arg3) = m ((c.tc : Thread Cert.AdamBWIn.nD Cert.AdamBWIn.τ).loc Cert.AdamBWIn.main_arg3))
      ∧ r.2.sem = fun _ => 0)

def quiescent_AdamBWInIdeal [hAdamBWInIdeal : Cert.AdamBWInIdeal.Facts] : Prop :=
  ∀ (m : (ℓ : Loc Cert.AdamBWInIdeal.nD Cert.AdamBWInIdeal.τ Cert.AdamBWInIdeal.sig) → Buf (Elt Ideal) ℓ) (g : Dev Cert.AdamBWInIdeal.nD → PrngReg), Pre_AdamBWInIdeal m →
    θ_run (Cert.AdamBWInIdeal.defs (F := Ideal)) (onTc (τ := Cert.AdamBWInIdeal.τ) (Cert.AdamBWInIdeal.main (F := Ideal))) ⟨m, fun _ => 0, g⟩ (fun r => (∀ c : Dev Cert.AdamBWInIdeal.nD,
      r.2.mem ((c.tc : Thread Cert.AdamBWInIdeal.nD Cert.AdamBWInIdeal.τ).loc Cert.AdamBWInIdeal.main_arg0) = m ((c.tc : Thread Cert.AdamBWInIdeal.nD Cert.AdamBWInIdeal.τ).loc Cert.AdamBWInIdeal.main_arg0)
      ∧ r.2.mem ((c.tc : Thread Cert.AdamBWInIdeal.nD Cert.AdamBWInIdeal.τ).loc Cert.AdamBWInIdeal.main_arg1) = m ((c.tc : Thread Cert.AdamBWInIdeal.nD Cert.AdamBWInIdeal.τ).loc Cert.AdamBWInIdeal.main_arg1)
      ∧ r.2.mem ((c.tc : Thread Cert.AdamBWInIdeal.nD Cert.AdamBWInIdeal.τ).loc Cert.AdamBWInIdeal.main_arg2) = m ((c.tc : Thread Cert.AdamBWInIdeal.nD Cert.AdamBWInIdeal.τ).loc Cert.AdamBWInIdeal.main_arg2)
      ∧ r.2.mem ((c.tc : Thread Cert.AdamBWInIdeal.nD Cert.AdamBWInIdeal.τ).loc Cert.AdamBWInIdeal.main_arg3) = m ((c.tc : Thread Cert.AdamBWInIdeal.nD Cert.AdamBWInIdeal.τ).loc Cert.AdamBWInIdeal.main_arg3))
      ∧ r.2.sem = fun _ => 0)

def quiescent_AdamBWInRefIdeal [hAdamBWInRefIdeal : Cert.AdamBWInRefIdeal.Facts] : Prop :=
  ∀ (m : (ℓ : Loc Cert.AdamBWInRefIdeal.nD Cert.AdamBWInRefIdeal.τ Cert.AdamBWInRefIdeal.sig) → Buf (Elt Ideal) ℓ) (g : Dev Cert.AdamBWInRefIdeal.nD → PrngReg), Pre_AdamBWInRefIdeal m →
    θ_run (Cert.AdamBWInRefIdeal.defs (F := Ideal)) (onTc (τ := Cert.AdamBWInRefIdeal.τ) (Cert.AdamBWInRefIdeal.main (F := Ideal))) ⟨m, fun _ => 0, g⟩ (fun r => (∀ c : Dev Cert.AdamBWInRefIdeal.nD,
      r.2.mem ((c.tc : Thread Cert.AdamBWInRefIdeal.nD Cert.AdamBWInRefIdeal.τ).loc Cert.AdamBWInRefIdeal.main_arg0) = m ((c.tc : Thread Cert.AdamBWInRefIdeal.nD Cert.AdamBWInRefIdeal.τ).loc Cert.AdamBWInRefIdeal.main_arg0)
      ∧ r.2.mem ((c.tc : Thread Cert.AdamBWInRefIdeal.nD Cert.AdamBWInRefIdeal.τ).loc Cert.AdamBWInRefIdeal.main_arg1) = m ((c.tc : Thread Cert.AdamBWInRefIdeal.nD Cert.AdamBWInRefIdeal.τ).loc Cert.AdamBWInRefIdeal.main_arg1)
      ∧ r.2.mem ((c.tc : Thread Cert.AdamBWInRefIdeal.nD Cert.AdamBWInRefIdeal.τ).loc Cert.AdamBWInRefIdeal.main_arg2) = m ((c.tc : Thread Cert.AdamBWInRefIdeal.nD Cert.AdamBWInRefIdeal.τ).loc Cert.AdamBWInRefIdeal.main_arg2)
      ∧ r.2.mem ((c.tc : Thread Cert.AdamBWInRefIdeal.nD Cert.AdamBWInRefIdeal.τ).loc Cert.AdamBWInRefIdeal.main_arg3) = m ((c.tc : Thread Cert.AdamBWInRefIdeal.nD Cert.AdamBWInRefIdeal.τ).loc Cert.AdamBWInRefIdeal.main_arg3))
      ∧ r.2.sem = fun _ => 0)

def quiescent_AdamBQnW [hAdamBQnW : Cert.AdamBQnW.Facts] : Prop :=
  ∀ (m : (ℓ : Loc Cert.AdamBQnW.nD Cert.AdamBQnW.τ Cert.AdamBQnW.sig) → Buf (Elt Bits) ℓ) (g : Dev Cert.AdamBQnW.nD → PrngReg), Pre_AdamBQnW m →
    θ_run (Cert.AdamBQnW.defs (F := Bits)) (onTc (τ := Cert.AdamBQnW.τ) (Cert.AdamBQnW.main (F := Bits))) ⟨m, fun _ => 0, g⟩ (fun r => (∀ c : Dev Cert.AdamBQnW.nD,
      r.2.mem ((c.tc : Thread Cert.AdamBQnW.nD Cert.AdamBQnW.τ).loc Cert.AdamBQnW.main_arg0) = m ((c.tc : Thread Cert.AdamBQnW.nD Cert.AdamBQnW.τ).loc Cert.AdamBQnW.main_arg0)
      ∧ r.2.mem ((c.tc : Thread Cert.AdamBQnW.nD Cert.AdamBQnW.τ).loc Cert.AdamBQnW.main_arg1) = m ((c.tc : Thread Cert.AdamBQnW.nD Cert.AdamBQnW.τ).loc Cert.AdamBQnW.main_arg1)
      ∧ r.2.mem ((c.tc : Thread Cert.AdamBQnW.nD Cert.AdamBQnW.τ).loc Cert.AdamBQnW.main_arg2) = m ((c.tc : Thread Cert.AdamBQnW.nD Cert.AdamBQnW.τ).loc Cert.AdamBQnW.main_arg2)
      ∧ r.2.mem ((c.tc : Thread Cert.AdamBQnW.nD Cert.AdamBQnW.τ).loc Cert.AdamBQnW.main_arg3) = m ((c.tc : Thread Cert.AdamBQnW.nD Cert.AdamBQnW.τ).loc Cert.AdamBQnW.main_arg3))
      ∧ r.2.sem = fun _ => 0)

def quiescent_AdamBQnWIdeal [hAdamBQnWIdeal : Cert.AdamBQnWIdeal.Facts] : Prop :=
  ∀ (m : (ℓ : Loc Cert.AdamBQnWIdeal.nD Cert.AdamBQnWIdeal.τ Cert.AdamBQnWIdeal.sig) → Buf (Elt Ideal) ℓ) (g : Dev Cert.AdamBQnWIdeal.nD → PrngReg), Pre_AdamBQnWIdeal m →
    θ_run (Cert.AdamBQnWIdeal.defs (F := Ideal)) (onTc (τ := Cert.AdamBQnWIdeal.τ) (Cert.AdamBQnWIdeal.main (F := Ideal))) ⟨m, fun _ => 0, g⟩ (fun r => (∀ c : Dev Cert.AdamBQnWIdeal.nD,
      r.2.mem ((c.tc : Thread Cert.AdamBQnWIdeal.nD Cert.AdamBQnWIdeal.τ).loc Cert.AdamBQnWIdeal.main_arg0) = m ((c.tc : Thread Cert.AdamBQnWIdeal.nD Cert.AdamBQnWIdeal.τ).loc Cert.AdamBQnWIdeal.main_arg0)
      ∧ r.2.mem ((c.tc : Thread Cert.AdamBQnWIdeal.nD Cert.AdamBQnWIdeal.τ).loc Cert.AdamBQnWIdeal.main_arg1) = m ((c.tc : Thread Cert.AdamBQnWIdeal.nD Cert.AdamBQnWIdeal.τ).loc Cert.AdamBQnWIdeal.main_arg1)
      ∧ r.2.mem ((c.tc : Thread Cert.AdamBQnWIdeal.nD Cert.AdamBQnWIdeal.τ).loc Cert.AdamBQnWIdeal.main_arg2) = m ((c.tc : Thread Cert.AdamBQnWIdeal.nD Cert.AdamBQnWIdeal.τ).loc Cert.AdamBQnWIdeal.main_arg2)
      ∧ r.2.mem ((c.tc : Thread Cert.AdamBQnWIdeal.nD Cert.AdamBQnWIdeal.τ).loc Cert.AdamBQnWIdeal.main_arg3) = m ((c.tc : Thread Cert.AdamBQnWIdeal.nD Cert.AdamBQnWIdeal.τ).loc Cert.AdamBQnWIdeal.main_arg3))
      ∧ r.2.sem = fun _ => 0)

def quiescent_AdamBQnWRefIdeal [hAdamBQnWRefIdeal : Cert.AdamBQnWRefIdeal.Facts] : Prop :=
  ∀ (m : (ℓ : Loc Cert.AdamBQnWRefIdeal.nD Cert.AdamBQnWRefIdeal.τ Cert.AdamBQnWRefIdeal.sig) → Buf (Elt Ideal) ℓ) (g : Dev Cert.AdamBQnWRefIdeal.nD → PrngReg), Pre_AdamBQnWRefIdeal m →
    θ_run (Cert.AdamBQnWRefIdeal.defs (F := Ideal)) (onTc (τ := Cert.AdamBQnWRefIdeal.τ) (Cert.AdamBQnWRefIdeal.main (F := Ideal))) ⟨m, fun _ => 0, g⟩ (fun r => (∀ c : Dev Cert.AdamBQnWRefIdeal.nD,
      r.2.mem ((c.tc : Thread Cert.AdamBQnWRefIdeal.nD Cert.AdamBQnWRefIdeal.τ).loc Cert.AdamBQnWRefIdeal.main_arg0) = m ((c.tc : Thread Cert.AdamBQnWRefIdeal.nD Cert.AdamBQnWRefIdeal.τ).loc Cert.AdamBQnWRefIdeal.main_arg0)
      ∧ r.2.mem ((c.tc : Thread Cert.AdamBQnWRefIdeal.nD Cert.AdamBQnWRefIdeal.τ).loc Cert.AdamBQnWRefIdeal.main_arg1) = m ((c.tc : Thread Cert.AdamBQnWRefIdeal.nD Cert.AdamBQnWRefIdeal.τ).loc Cert.AdamBQnWRefIdeal.main_arg1)
      ∧ r.2.mem ((c.tc : Thread Cert.AdamBQnWRefIdeal.nD Cert.AdamBQnWRefIdeal.τ).loc Cert.AdamBQnWRefIdeal.main_arg2) = m ((c.tc : Thread Cert.AdamBQnWRefIdeal.nD Cert.AdamBQnWRefIdeal.τ).loc Cert.AdamBQnWRefIdeal.main_arg2)
      ∧ r.2.mem ((c.tc : Thread Cert.AdamBQnWRefIdeal.nD Cert.AdamBQnWRefIdeal.τ).loc Cert.AdamBQnWRefIdeal.main_arg3) = m ((c.tc : Thread Cert.AdamBQnWRefIdeal.nD Cert.AdamBQnWRefIdeal.τ).loc Cert.AdamBQnWRefIdeal.main_arg3))
      ∧ r.2.sem = fun _ => 0)

def quiescent_AdamBWOut [hAdamBWOut : Cert.AdamBWOut.Facts] : Prop :=
  ∀ (m : (ℓ : Loc Cert.AdamBWOut.nD Cert.AdamBWOut.τ Cert.AdamBWOut.sig) → Buf (Elt Bits) ℓ) (g : Dev Cert.AdamBWOut.nD → PrngReg), Pre_AdamBWOut m →
    θ_run (Cert.AdamBWOut.defs (F := Bits)) (onTc (τ := Cert.AdamBWOut.τ) (Cert.AdamBWOut.main (F := Bits))) ⟨m, fun _ => 0, g⟩ (fun r => (∀ c : Dev Cert.AdamBWOut.nD,
      r.2.mem ((c.tc : Thread Cert.AdamBWOut.nD Cert.AdamBWOut.τ).loc Cert.AdamBWOut.main_arg0) = m ((c.tc : Thread Cert.AdamBWOut.nD Cert.AdamBWOut.τ).loc Cert.AdamBWOut.main_arg0)
      ∧ r.2.mem ((c.tc : Thread Cert.AdamBWOut.nD Cert.AdamBWOut.τ).loc Cert.AdamBWOut.main_arg1) = m ((c.tc : Thread Cert.AdamBWOut.nD Cert.AdamBWOut.τ).loc Cert.AdamBWOut.main_arg1)
      ∧ r.2.mem ((c.tc : Thread Cert.AdamBWOut.nD Cert.AdamBWOut.τ).loc Cert.AdamBWOut.main_arg2) = m ((c.tc : Thread Cert.AdamBWOut.nD Cert.AdamBWOut.τ).loc Cert.AdamBWOut.main_arg2)
      ∧ r.2.mem ((c.tc : Thread Cert.AdamBWOut.nD Cert.AdamBWOut.τ).loc Cert.AdamBWOut.main_arg3) = m ((c.tc : Thread Cert.AdamBWOut.nD Cert.AdamBWOut.τ).loc Cert.AdamBWOut.main_arg3))
      ∧ r.2.sem = fun _ => 0)

def quiescent_AdamBWOutIdeal [hAdamBWOutIdeal : Cert.AdamBWOutIdeal.Facts] : Prop :=
  ∀ (m : (ℓ : Loc Cert.AdamBWOutIdeal.nD Cert.AdamBWOutIdeal.τ Cert.AdamBWOutIdeal.sig) → Buf (Elt Ideal) ℓ) (g : Dev Cert.AdamBWOutIdeal.nD → PrngReg), Pre_AdamBWOutIdeal m →
    θ_run (Cert.AdamBWOutIdeal.defs (F := Ideal)) (onTc (τ := Cert.AdamBWOutIdeal.τ) (Cert.AdamBWOutIdeal.main (F := Ideal))) ⟨m, fun _ => 0, g⟩ (fun r => (∀ c : Dev Cert.AdamBWOutIdeal.nD,
      r.2.mem ((c.tc : Thread Cert.AdamBWOutIdeal.nD Cert.AdamBWOutIdeal.τ).loc Cert.AdamBWOutIdeal.main_arg0) = m ((c.tc : Thread Cert.AdamBWOutIdeal.nD Cert.AdamBWOutIdeal.τ).loc Cert.AdamBWOutIdeal.main_arg0)
      ∧ r.2.mem ((c.tc : Thread Cert.AdamBWOutIdeal.nD Cert.AdamBWOutIdeal.τ).loc Cert.AdamBWOutIdeal.main_arg1) = m ((c.tc : Thread Cert.AdamBWOutIdeal.nD Cert.AdamBWOutIdeal.τ).loc Cert.AdamBWOutIdeal.main_arg1)
      ∧ r.2.mem ((c.tc : Thread Cert.AdamBWOutIdeal.nD Cert.AdamBWOutIdeal.τ).loc Cert.AdamBWOutIdeal.main_arg2) = m ((c.tc : Thread Cert.AdamBWOutIdeal.nD Cert.AdamBWOutIdeal.τ).loc Cert.AdamBWOutIdeal.main_arg2)
      ∧ r.2.mem ((c.tc : Thread Cert.AdamBWOutIdeal.nD Cert.AdamBWOutIdeal.τ).loc Cert.AdamBWOutIdeal.main_arg3) = m ((c.tc : Thread Cert.AdamBWOutIdeal.nD Cert.AdamBWOutIdeal.τ).loc Cert.AdamBWOutIdeal.main_arg3))
      ∧ r.2.sem = fun _ => 0)

def quiescent_AdamBWOutRefIdeal [hAdamBWOutRefIdeal : Cert.AdamBWOutRefIdeal.Facts] : Prop :=
  ∀ (m : (ℓ : Loc Cert.AdamBWOutRefIdeal.nD Cert.AdamBWOutRefIdeal.τ Cert.AdamBWOutRefIdeal.sig) → Buf (Elt Ideal) ℓ) (g : Dev Cert.AdamBWOutRefIdeal.nD → PrngReg), Pre_AdamBWOutRefIdeal m →
    θ_run (Cert.AdamBWOutRefIdeal.defs (F := Ideal)) (onTc (τ := Cert.AdamBWOutRefIdeal.τ) (Cert.AdamBWOutRefIdeal.main (F := Ideal))) ⟨m, fun _ => 0, g⟩ (fun r => (∀ c : Dev Cert.AdamBWOutRefIdeal.nD,
      r.2.mem ((c.tc : Thread Cert.AdamBWOutRefIdeal.nD Cert.AdamBWOutRefIdeal.τ).loc Cert.AdamBWOutRefIdeal.main_arg0) = m ((c.tc : Thread Cert.AdamBWOutRefIdeal.nD Cert.AdamBWOutRefIdeal.τ).loc Cert.AdamBWOutRefIdeal.main_arg0)
      ∧ r.2.mem ((c.tc : Thread Cert.AdamBWOutRefIdeal.nD Cert.AdamBWOutRefIdeal.τ).loc Cert.AdamBWOutRefIdeal.main_arg1) = m ((c.tc : Thread Cert.AdamBWOutRefIdeal.nD Cert.AdamBWOutRefIdeal.τ).loc Cert.AdamBWOutRefIdeal.main_arg1)
      ∧ r.2.mem ((c.tc : Thread Cert.AdamBWOutRefIdeal.nD Cert.AdamBWOutRefIdeal.τ).loc Cert.AdamBWOutRefIdeal.main_arg2) = m ((c.tc : Thread Cert.AdamBWOutRefIdeal.nD Cert.AdamBWOutRefIdeal.τ).loc Cert.AdamBWOutRefIdeal.main_arg2)
      ∧ r.2.mem ((c.tc : Thread Cert.AdamBWOutRefIdeal.nD Cert.AdamBWOutRefIdeal.τ).loc Cert.AdamBWOutRefIdeal.main_arg3) = m ((c.tc : Thread Cert.AdamBWOutRefIdeal.nD Cert.AdamBWOutRefIdeal.τ).loc Cert.AdamBWOutRefIdeal.main_arg3))
      ∧ r.2.sem = fun _ => 0)

def quiescent_AdamFinalNormW [hAdamFinalNormW : Cert.AdamFinalNormW.Facts] : Prop :=
  ∀ (m : (ℓ : Loc Cert.AdamFinalNormW.nD Cert.AdamFinalNormW.τ Cert.AdamFinalNormW.sig) → Buf (Elt Bits) ℓ) (g : Dev Cert.AdamFinalNormW.nD → PrngReg), Pre_AdamFinalNormW m →
    θ_run (Cert.AdamFinalNormW.defs (F := Bits)) (onTc (τ := Cert.AdamFinalNormW.τ) (Cert.AdamFinalNormW.main (F := Bits))) ⟨m, fun _ => 0, g⟩ (fun r => (∀ c : Dev Cert.AdamFinalNormW.nD,
      r.2.mem ((c.tc : Thread Cert.AdamFinalNormW.nD Cert.AdamFinalNormW.τ).loc Cert.AdamFinalNormW.main_arg0) = m ((c.tc : Thread Cert.AdamFinalNormW.nD Cert.AdamFinalNormW.τ).loc Cert.AdamFinalNormW.main_arg0)
      ∧ r.2.mem ((c.tc : Thread Cert.AdamFinalNormW.nD Cert.AdamFinalNormW.τ).loc Cert.AdamFinalNormW.main_arg1) = m ((c.tc : Thread Cert.AdamFinalNormW.nD Cert.AdamFinalNormW.τ).loc Cert.AdamFinalNormW.main_arg1)
      ∧ r.2.mem ((c.tc : Thread Cert.AdamFinalNormW.nD Cert.AdamFinalNormW.τ).loc Cert.AdamFinalNormW.main_arg2) = m ((c.tc : Thread Cert.AdamFinalNormW.nD Cert.AdamFinalNormW.τ).loc Cert.AdamFinalNormW.main_arg2)
      ∧ r.2.mem ((c.tc : Thread Cert.AdamFinalNormW.nD Cert.AdamFinalNormW.τ).loc Cert.AdamFinalNormW.main_arg3) = m ((c.tc : Thread Cert.AdamFinalNormW.nD Cert.AdamFinalNormW.τ).loc Cert.AdamFinalNormW.main_arg3))
      ∧ r.2.sem = fun _ => 0)

def quiescent_AdamFinalNormWIdeal [hAdamFinalNormWIdeal : Cert.AdamFinalNormWIdeal.Facts] : Prop :=
  ∀ (m : (ℓ : Loc Cert.AdamFinalNormWIdeal.nD Cert.AdamFinalNormWIdeal.τ Cert.AdamFinalNormWIdeal.sig) → Buf (Elt Ideal) ℓ) (g : Dev Cert.AdamFinalNormWIdeal.nD → PrngReg), Pre_AdamFinalNormWIdeal m →
    θ_run (Cert.AdamFinalNormWIdeal.defs (F := Ideal)) (onTc (τ := Cert.AdamFinalNormWIdeal.τ) (Cert.AdamFinalNormWIdeal.main (F := Ideal))) ⟨m, fun _ => 0, g⟩ (fun r => (∀ c : Dev Cert.AdamFinalNormWIdeal.nD,
      r.2.mem ((c.tc : Thread Cert.AdamFinalNormWIdeal.nD Cert.AdamFinalNormWIdeal.τ).loc Cert.AdamFinalNormWIdeal.main_arg0) = m ((c.tc : Thread Cert.AdamFinalNormWIdeal.nD Cert.AdamFinalNormWIdeal.τ).loc Cert.AdamFinalNormWIdeal.main_arg0)
      ∧ r.2.mem ((c.tc : Thread Cert.AdamFinalNormWIdeal.nD Cert.AdamFinalNormWIdeal.τ).loc Cert.AdamFinalNormWIdeal.main_arg1) = m ((c.tc : Thread Cert.AdamFinalNormWIdeal.nD Cert.AdamFinalNormWIdeal.τ).loc Cert.AdamFinalNormWIdeal.main_arg1)
      ∧ r.2.mem ((c.tc : Thread Cert.AdamFinalNormWIdeal.nD Cert.AdamFinalNormWIdeal.τ).loc Cert.AdamFinalNormWIdeal.main_arg2) = m ((c.tc : Thread Cert.AdamFinalNormWIdeal.nD Cert.AdamFinalNormWIdeal.τ).loc Cert.AdamFinalNormWIdeal.main_arg2)
      ∧ r.2.mem ((c.tc : Thread Cert.AdamFinalNormWIdeal.nD Cert.AdamFinalNormWIdeal.τ).loc Cert.AdamFinalNormWIdeal.main_arg3) = m ((c.tc : Thread Cert.AdamFinalNormWIdeal.nD Cert.AdamFinalNormWIdeal.τ).loc Cert.AdamFinalNormWIdeal.main_arg3))
      ∧ r.2.sem = fun _ => 0)

def quiescent_AdamFinalNormWRefIdeal [hAdamFinalNormWRefIdeal : Cert.AdamFinalNormWRefIdeal.Facts] : Prop :=
  ∀ (m : (ℓ : Loc Cert.AdamFinalNormWRefIdeal.nD Cert.AdamFinalNormWRefIdeal.τ Cert.AdamFinalNormWRefIdeal.sig) → Buf (Elt Ideal) ℓ) (g : Dev Cert.AdamFinalNormWRefIdeal.nD → PrngReg), Pre_AdamFinalNormWRefIdeal m →
    θ_run (Cert.AdamFinalNormWRefIdeal.defs (F := Ideal)) (onTc (τ := Cert.AdamFinalNormWRefIdeal.τ) (Cert.AdamFinalNormWRefIdeal.main (F := Ideal))) ⟨m, fun _ => 0, g⟩ (fun r => (∀ c : Dev Cert.AdamFinalNormWRefIdeal.nD,
      r.2.mem ((c.tc : Thread Cert.AdamFinalNormWRefIdeal.nD Cert.AdamFinalNormWRefIdeal.τ).loc Cert.AdamFinalNormWRefIdeal.main_arg0) = m ((c.tc : Thread Cert.AdamFinalNormWRefIdeal.nD Cert.AdamFinalNormWRefIdeal.τ).loc Cert.AdamFinalNormWRefIdeal.main_arg0)
      ∧ r.2.mem ((c.tc : Thread Cert.AdamFinalNormWRefIdeal.nD Cert.AdamFinalNormWRefIdeal.τ).loc Cert.AdamFinalNormWRefIdeal.main_arg1) = m ((c.tc : Thread Cert.AdamFinalNormWRefIdeal.nD Cert.AdamFinalNormWRefIdeal.τ).loc Cert.AdamFinalNormWRefIdeal.main_arg1)
      ∧ r.2.mem ((c.tc : Thread Cert.AdamFinalNormWRefIdeal.nD Cert.AdamFinalNormWRefIdeal.τ).loc Cert.AdamFinalNormWRefIdeal.main_arg2) = m ((c.tc : Thread Cert.AdamFinalNormWRefIdeal.nD Cert.AdamFinalNormWRefIdeal.τ).loc Cert.AdamFinalNormWRefIdeal.main_arg2)
      ∧ r.2.mem ((c.tc : Thread Cert.AdamFinalNormWRefIdeal.nD Cert.AdamFinalNormWRefIdeal.τ).loc Cert.AdamFinalNormWRefIdeal.main_arg3) = m ((c.tc : Thread Cert.AdamFinalNormWRefIdeal.nD Cert.AdamFinalNormWRefIdeal.τ).loc Cert.AdamFinalNormWRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v68)) (v2 : (c : Dev Cert.KernelIdeal.nD) → Buf (Elt Ideal) ((c.tc : Thread Cert.KernelIdeal.nD Cert.KernelIdeal.τ).loc Cert.KernelIdeal.main_v69)) (v3 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_v69) = v2 c
          ∧ r.2.mem ((c.tc : Thread Cert.KernelIdeal.nD Cert.KernelIdeal.τ).loc Cert.KernelIdeal.main_v74) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v28_0)) (v1 : (c : Dev Cert.AttnIdeal.nD) → Buf (Elt Ideal) ((c.tc : Thread Cert.AttnIdeal.nD Cert.AttnIdeal.τ).loc Cert.AttnIdeal.main_v28_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v28_0) = v0 c
          ∧ r.2.mem ((c.tc : Thread Cert.AttnIdeal.nD Cert.AttnIdeal.τ).loc Cert.AttnIdeal.main_v28_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v26) = v0 c
          ∧ r.2.mem ((c.tc : Thread Cert.AttnRefIdeal.nD Cert.AttnRefIdeal.τ).loc Cert.AttnRefIdeal.main_v29) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v3)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v3) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v1) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_MixDw_MixDwIdeal : Prop :=
  True

def algebraic_MixDwIdeal_MixDwRefIdeal [hMixDwIdeal : Cert.MixDwIdeal.Facts] [hMixDwRefIdeal : Cert.MixDwRefIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwRefIdeal.nD Cert.MixDwRefIdeal.τ Cert.MixDwRefIdeal.sig) → Buf (Elt Ideal) ℓ) (g' : Dev Cert.MixDwRefIdeal.nD → PrngReg), Pre_MixDwIdeal m →
    (∀ c : Dev Cert.MixDwIdeal.nD,
      m' ((c.tc : Thread Cert.MixDwRefIdeal.nD Cert.MixDwRefIdeal.τ).loc Cert.MixDwRefIdeal.main_arg0) = m ((c.tc : Thread Cert.MixDwIdeal.nD Cert.MixDwIdeal.τ).loc Cert.MixDwIdeal.main_arg0)
      ∧ m' ((c.tc : Thread Cert.MixDwRefIdeal.nD Cert.MixDwRefIdeal.τ).loc Cert.MixDwRefIdeal.main_arg1) = m ((c.tc : Thread Cert.MixDwIdeal.nD Cert.MixDwIdeal.τ).loc Cert.MixDwIdeal.main_arg1)
      ∧ m' ((c.tc : Thread Cert.MixDwRefIdeal.nD Cert.MixDwRefIdeal.τ).loc Cert.MixDwRefIdeal.main_arg2) = m ((c.tc : Thread Cert.MixDwIdeal.nD Cert.MixDwIdeal.τ).loc Cert.MixDwIdeal.main_arg2)) →
    ∃ (v0 : (c : Dev Cert.MixDwIdeal.nD) → Buf (Elt Ideal) ((c.tc : Thread Cert.MixDwIdeal.nD Cert.MixDwIdeal.τ).loc Cert.MixDwIdeal.main_v3)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v3) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1)
          ∧ r.2.mem ((c.tc : Thread Cert.MixDwIdeal.nD Cert.MixDwIdeal.τ).loc Cert.MixDwIdeal.main_arg2) = m ((c.tc : Thread Cert.MixDwIdeal.nD Cert.MixDwIdeal.τ).loc Cert.MixDwIdeal.main_arg2))
      ∧ θ_run (Cert.MixDwRefIdeal.defs (F := Ideal)) (onTc (τ := Cert.MixDwRefIdeal.τ) (Cert.MixDwRefIdeal.main (F := Ideal))) ⟨m', fun _ => 0, g'⟩ (fun r => ∀ c : Dev Cert.MixDwRefIdeal.nD,
          r.2.mem ((c.tc : Thread Cert.MixDwRefIdeal.nD Cert.MixDwRefIdeal.τ).loc Cert.MixDwRefIdeal.main_v4) = v0 c
          ∧ r.2.mem ((c.tc : Thread Cert.MixDwRefIdeal.nD Cert.MixDwRefIdeal.τ).loc Cert.MixDwRefIdeal.main_arg0) = m' ((c.tc : Thread Cert.MixDwRefIdeal.nD Cert.MixDwRefIdeal.τ).loc Cert.MixDwRefIdeal.main_arg0)
          ∧ r.2.mem ((c.tc : Thread Cert.MixDwRefIdeal.nD Cert.MixDwRefIdeal.τ).loc Cert.MixDwRefIdeal.main_arg1) = m' ((c.tc : Thread Cert.MixDwRefIdeal.nD Cert.MixDwRefIdeal.τ).loc Cert.MixDwRefIdeal.main_arg1)
          ∧ r.2.mem ((c.tc : Thread Cert.MixDwRefIdeal.nD Cert.MixDwRefIdeal.τ).loc Cert.MixDwRefIdeal.main_arg2) = m' ((c.tc : Thread Cert.MixDwRefIdeal.nD Cert.MixDwRefIdeal.τ).loc Cert.MixDwRefIdeal.main_arg2))

def preserves_MixDh_MixDhIdeal : Prop :=
  True

def algebraic_MixDhIdeal_MixDhRefIdeal [hMixDhIdeal : Cert.MixDhIdeal.Facts] [hMixDhRefIdeal : Cert.MixDhRefIdeal.Facts] : Prop :=
  ∀ (m : (ℓ : Loc Cert.MixDhIdeal.nD Cert.MixDhIdeal.τ Cert.MixDhIdeal.sig) → Buf (Elt Ideal) ℓ) (g : Dev Cert.MixDhIdeal.nD → PrngReg)
    (m' : (ℓ : Loc Cert.MixDhRefIdeal.nD Cert.MixDhRefIdeal.τ Cert.MixDhRefIdeal.sig) → Buf (Elt Ideal) ℓ) (g' : Dev Cert.MixDhRefIdeal.nD → PrngReg), Pre_MixDhIdeal m →
    (∀ c : Dev Cert.MixDhIdeal.nD,
      m' ((c.tc : Thread Cert.MixDhRefIdeal.nD Cert.MixDhRefIdeal.τ).loc Cert.MixDhRefIdeal.main_arg0) = m ((c.tc : Thread Cert.MixDhIdeal.nD Cert.MixDhIdeal.τ).loc Cert.MixDhIdeal.main_arg0)
      ∧ m' ((c.tc : Thread Cert.MixDhRefIdeal.nD Cert.MixDhRefIdeal.τ).loc Cert.MixDhRefIdeal.main_arg1) = m ((c.tc : Thread Cert.MixDhIdeal.nD Cert.MixDhIdeal.τ).loc Cert.MixDhIdeal.main_arg1)
      ∧ m' ((c.tc : Thread Cert.MixDhRefIdeal.nD Cert.MixDhRefIdeal.τ).loc Cert.MixDhRefIdeal.main_arg2) = m ((c.tc : Thread Cert.MixDhIdeal.nD Cert.MixDhIdeal.τ).loc Cert.MixDhIdeal.main_arg2)) →
    ∃ (v0 : (c : Dev Cert.MixDhIdeal.nD) → Buf (Elt Ideal) ((c.tc : Thread Cert.MixDhIdeal.nD Cert.MixDhIdeal.τ).loc Cert.MixDhIdeal.main_v4)),
      θ_run (Cert.MixDhIdeal.defs (F := Ideal)) (onTc (τ := Cert.MixDhIdeal.τ) (Cert.MixDhIdeal.main (F := Ideal))) ⟨m, fun _ => 0, g⟩ (fun r => ∀ c : Dev Cert.MixDhIdeal.nD,
          r.2.mem ((c.tc : Thread Cert.MixDhIdeal.nD Cert.MixDhIdeal.τ).loc Cert.MixDhIdeal.main_v4) = v0 c
          ∧ r.2.mem ((c.tc : Thread Cert.MixDhIdeal.nD Cert.MixDhIdeal.τ).loc Cert.MixDhIdeal.main_arg0) = m ((c.tc : Thread Cert.MixDhIdeal.nD Cert.MixDhIdeal.τ).loc Cert.MixDhIdeal.main_arg0)
          ∧ r.2.mem ((c.tc : Thread Cert.MixDhIdeal.nD Cert.MixDhIdeal.τ).loc Cert.MixDhIdeal.main_arg1) = m ((c.tc : Thread Cert.MixDhIdeal.nD Cert.MixDhIdeal.τ).loc Cert.MixDhIdeal.main_arg1)
          ∧ r.2.mem ((c.tc : Thread Cert.MixDhIdeal.nD Cert.MixDhIdeal.τ).loc Cert.MixDhIdeal.main_arg2) = m ((c.tc : Thread Cert.MixDhIdeal.nD Cert.MixDhIdeal.τ).loc Cert.MixDhIdeal.main_arg2))
      ∧ θ_run (Cert.MixDhRefIdeal.defs (F := Ideal)) (onTc (τ := Cert.MixDhRefIdeal.τ) (Cert.MixDhRefIdeal.main (F := Ideal))) ⟨m', fun _ => 0, g'⟩ (fun r => ∀ c : Dev Cert.MixDhRefIdeal.nD,
          r.2.mem ((c.tc : Thread Cert.MixDhRefIdeal.nD Cert.MixDhRefIdeal.τ).loc Cert.MixDhRefIdeal.main_v1) = v0 c
          ∧ r.2.mem ((c.tc : Thread Cert.MixDhRefIdeal.nD Cert.MixDhRefIdeal.τ).loc Cert.MixDhRefIdeal.main_arg0) = m' ((c.tc : Thread Cert.MixDhRefIdeal.nD Cert.MixDhRefIdeal.τ).loc Cert.MixDhRefIdeal.main_arg0)
          ∧ r.2.mem ((c.tc : Thread Cert.MixDhRefIdeal.nD Cert.MixDhRefIdeal.τ).loc Cert.MixDhRefIdeal.main_arg1) = m' ((c.tc : Thread Cert.MixDhRefIdeal.nD Cert.MixDhRefIdeal.τ).loc Cert.MixDhRefIdeal.main_arg1)
          ∧ r.2.mem ((c.tc : Thread Cert.MixDhRefIdeal.nD Cert.MixDhRefIdeal.τ).loc Cert.MixDhRefIdeal.main_arg2) = m' ((c.tc : Thread Cert.MixDhRefIdeal.nD Cert.MixDhRefIdeal.τ).loc Cert.MixDhRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v2_0)) (v1 : (c : Dev Cert.MixOutIdeal.nD) → Buf (Elt Ideal) ((c.tc : Thread Cert.MixOutIdeal.nD Cert.MixOutIdeal.τ).loc Cert.MixOutIdeal.main_v2_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2_0) = v0 c
          ∧ r.2.mem ((c.tc : Thread Cert.MixOutIdeal.nD Cert.MixOutIdeal.τ).loc Cert.MixOutIdeal.main_v2_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v0) = v0 c
          ∧ r.2.mem ((c.tc : Thread Cert.MixOutRefIdeal.nD Cert.MixOutRefIdeal.τ).loc Cert.MixOutRefIdeal.main_v3) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_MixDwo_MixDwoIdeal : Prop :=
  True

def algebraic_MixDwoIdeal_MixDwoRefIdeal [hMixDwoIdeal : Cert.MixDwoIdeal.Facts] [hMixDwoRefIdeal : Cert.MixDwoRefIdeal.Facts] : Prop :=
  ∀ (m : (ℓ : Loc Cert.MixDwoIdeal.nD Cert.MixDwoIdeal.τ Cert.MixDwoIdeal.sig) → Buf (Elt Ideal) ℓ) (g : Dev Cert.MixDwoIdeal.nD → PrngReg)
    (m' : (ℓ : Loc Cert.MixDwoRefIdeal.nD Cert.MixDwoRefIdeal.τ Cert.MixDwoRefIdeal.sig) → Buf (Elt Ideal) ℓ) (g' : Dev Cert.MixDwoRefIdeal.nD → PrngReg), Pre_MixDwoIdeal m →
    (∀ c : Dev Cert.MixDwoIdeal.nD,
      m' ((c.tc : Thread Cert.MixDwoRefIdeal.nD Cert.MixDwoRefIdeal.τ).loc Cert.MixDwoRefIdeal.main_arg0) = m ((c.tc : Thread Cert.MixDwoIdeal.nD Cert.MixDwoIdeal.τ).loc Cert.MixDwoIdeal.main_arg0)
      ∧ m' ((c.tc : Thread Cert.MixDwoRefIdeal.nD Cert.MixDwoRefIdeal.τ).loc Cert.MixDwoRefIdeal.main_arg1) = m ((c.tc : Thread Cert.MixDwoIdeal.nD Cert.MixDwoIdeal.τ).loc Cert.MixDwoIdeal.main_arg1)
      ∧ m' ((c.tc : Thread Cert.MixDwoRefIdeal.nD Cert.MixDwoRefIdeal.τ).loc Cert.MixDwoRefIdeal.main_arg2) = m ((c.tc : Thread Cert.MixDwoIdeal.nD Cert.MixDwoIdeal.τ).loc Cert.MixDwoIdeal.main_arg2)) →
    ∃ (v0 : (c : Dev Cert.MixDwoIdeal.nD) → Buf (Elt Ideal) ((c.tc : Thread Cert.MixDwoIdeal.nD Cert.MixDwoIdeal.τ).loc Cert.MixDwoIdeal.main_v2)),
      θ_run (Cert.MixDwoIdeal.defs (F := Ideal)) (onTc (τ := Cert.MixDwoIdeal.τ) (Cert.MixDwoIdeal.main (F := Ideal))) ⟨m, fun _ => 0, g⟩ (fun r => ∀ c : Dev Cert.MixDwoIdeal.nD,
          r.2.mem ((c.tc : Thread Cert.MixDwoIdeal.nD Cert.MixDwoIdeal.τ).loc Cert.MixDwoIdeal.main_v2) = v0 c
          ∧ r.2.mem ((c.tc : Thread Cert.MixDwoIdeal.nD Cert.MixDwoIdeal.τ).loc Cert.MixDwoIdeal.main_arg0) = m ((c.tc : Thread Cert.MixDwoIdeal.nD Cert.MixDwoIdeal.τ).loc Cert.MixDwoIdeal.main_arg0)
          ∧ r.2.mem ((c.tc : Thread Cert.MixDwoIdeal.nD Cert.MixDwoIdeal.τ).loc Cert.MixDwoIdeal.main_arg1) = m ((c.tc : Thread Cert.MixDwoIdeal.nD Cert.MixDwoIdeal.τ).loc Cert.MixDwoIdeal.main_arg1)
          ∧ r.2.mem ((c.tc : Thread Cert.MixDwoIdeal.nD Cert.MixDwoIdeal.τ).loc Cert.MixDwoIdeal.main_arg2) = m ((c.tc : Thread Cert.MixDwoIdeal.nD Cert.MixDwoIdeal.τ).loc Cert.MixDwoIdeal.main_arg2))
      ∧ θ_run (Cert.MixDwoRefIdeal.defs (F := Ideal)) (onTc (τ := Cert.MixDwoRefIdeal.τ) (Cert.MixDwoRefIdeal.main (F := Ideal))) ⟨m', fun _ => 0, g'⟩ (fun r => ∀ c : Dev Cert.MixDwoRefIdeal.nD,
          r.2.mem ((c.tc : Thread Cert.MixDwoRefIdeal.nD Cert.MixDwoRefIdeal.τ).loc Cert.MixDwoRefIdeal.main_v3) = v0 c
          ∧ r.2.mem ((c.tc : Thread Cert.MixDwoRefIdeal.nD Cert.MixDwoRefIdeal.τ).loc Cert.MixDwoRefIdeal.main_arg0) = m' ((c.tc : Thread Cert.MixDwoRefIdeal.nD Cert.MixDwoRefIdeal.τ).loc Cert.MixDwoRefIdeal.main_arg0)
          ∧ r.2.mem ((c.tc : Thread Cert.MixDwoRefIdeal.nD Cert.MixDwoRefIdeal.τ).loc Cert.MixDwoRefIdeal.main_arg1) = m' ((c.tc : Thread Cert.MixDwoRefIdeal.nD Cert.MixDwoRefIdeal.τ).loc Cert.MixDwoRefIdeal.main_arg1)
          ∧ r.2.mem ((c.tc : Thread Cert.MixDwoRefIdeal.nD Cert.MixDwoRefIdeal.τ).loc Cert.MixDwoRefIdeal.main_arg2) = m' ((c.tc : Thread Cert.MixDwoRefIdeal.nD Cert.MixDwoRefIdeal.τ).loc Cert.MixDwoRefIdeal.main_arg2))

def preserves_FoxIn_FoxInIdeal : Prop :=
  True

def algebraic_FoxInIdeal_FoxInRefIdeal [hFoxInIdeal : Cert.FoxInIdeal.Facts] [hFoxInRefIdeal : Cert.FoxInRefIdeal.Facts] : Prop :=
  ∀ (m : (ℓ : Loc Cert.FoxInIdeal.nD Cert.FoxInIdeal.τ Cert.FoxInIdeal.sig) → Buf (Elt Ideal) ℓ) (g : Dev Cert.FoxInIdeal.nD → PrngReg)
    (m' : (ℓ : Loc Cert.FoxInRefIdeal.nD Cert.FoxInRefIdeal.τ Cert.FoxInRefIdeal.sig) → Buf (Elt Ideal) ℓ) (g' : Dev Cert.FoxInRefIdeal.nD → PrngReg), Pre_FoxInIdeal m →
    (∀ c : Dev Cert.FoxInIdeal.nD,
      m' ((c.tc : Thread Cert.FoxInRefIdeal.nD Cert.FoxInRefIdeal.τ).loc Cert.FoxInRefIdeal.main_arg0) = m ((c.tc : Thread Cert.FoxInIdeal.nD Cert.FoxInIdeal.τ).loc Cert.FoxInIdeal.main_arg0)
      ∧ m' ((c.tc : Thread Cert.FoxInRefIdeal.nD Cert.FoxInRefIdeal.τ).loc Cert.FoxInRefIdeal.main_arg1) = m ((c.tc : Thread Cert.FoxInIdeal.nD Cert.FoxInIdeal.τ).loc Cert.FoxInIdeal.main_arg1)) →
    ∃ (v0 : (c : Dev Cert.FoxInIdeal.nD) → Buf (Elt Ideal) ((c.tc : Thread Cert.FoxInIdeal.nD Cert.FoxInIdeal.τ).loc Cert.FoxInIdeal.main_v3)),
      θ_run (Cert.FoxInIdeal.defs (F := Ideal)) (onTc (τ := Cert.FoxInIdeal.τ) (Cert.FoxInIdeal.main (F := Ideal))) ⟨m, fun _ => 0, g⟩ (fun r => ∀ c : Dev Cert.FoxInIdeal.nD,
          r.2.mem ((c.tc : Thread Cert.FoxInIdeal.nD Cert.FoxInIdeal.τ).loc Cert.FoxInIdeal.main_v3) = v0 c
          ∧ r.2.mem ((c.tc : Thread Cert.FoxInIdeal.nD Cert.FoxInIdeal.τ).loc Cert.FoxInIdeal.main_arg0) = m ((c.tc : Thread Cert.FoxInIdeal.nD Cert.FoxInIdeal.τ).loc Cert.FoxInIdeal.main_arg0)
          ∧ r.2.mem ((c.tc : Thread Cert.FoxInIdeal.nD Cert.FoxInIdeal.τ).loc Cert.FoxInIdeal.main_arg1) = m ((c.tc : Thread Cert.FoxInIdeal.nD Cert.FoxInIdeal.τ).loc Cert.FoxInIdeal.main_arg1))
      ∧ θ_run (Cert.FoxInRefIdeal.defs (F := Ideal)) (onTc (τ := Cert.FoxInRefIdeal.τ) (Cert.FoxInRefIdeal.main (F := Ideal))) ⟨m', fun _ => 0, g'⟩ (fun r => ∀ c : Dev Cert.FoxInRefIdeal.nD,
          r.2.mem ((c.tc : Thread Cert.FoxInRefIdeal.nD Cert.FoxInRefIdeal.τ).loc Cert.FoxInRefIdeal.main_v1) = v0 c
          ∧ r.2.mem ((c.tc : Thread Cert.FoxInRefIdeal.nD Cert.FoxInRefIdeal.τ).loc Cert.FoxInRefIdeal.main_arg0) = m' ((c.tc : Thread Cert.FoxInRefIdeal.nD Cert.FoxInRefIdeal.τ).loc Cert.FoxInRefIdeal.main_arg0)
          ∧ r.2.mem ((c.tc : Thread Cert.FoxInRefIdeal.nD Cert.FoxInRefIdeal.τ).loc Cert.FoxInRefIdeal.main_arg1) = m' ((c.tc : Thread Cert.FoxInRefIdeal.nD Cert.FoxInRefIdeal.τ).loc Cert.FoxInRefIdeal.main_arg1))

def preserves_FoxDw_FoxDwIdeal : Prop :=
  True

def algebraic_FoxDwIdeal_FoxDwRefIdeal [hFoxDwIdeal : Cert.FoxDwIdeal.Facts] [hFoxDwRefIdeal : Cert.FoxDwRefIdeal.Facts] : Prop :=
  ∀ (m : (ℓ : Loc Cert.FoxDwIdeal.nD Cert.FoxDwIdeal.τ Cert.FoxDwIdeal.sig) → Buf (Elt Ideal) ℓ) (g : Dev Cert.FoxDwIdeal.nD → PrngReg)
    (m' : (ℓ : Loc Cert.FoxDwRefIdeal.nD Cert.FoxDwRefIdeal.τ Cert.FoxDwRefIdeal.sig) → Buf (Elt Ideal) ℓ) (g' : Dev Cert.FoxDwRefIdeal.nD → PrngReg), Pre_FoxDwIdeal m →
    (∀ c : Dev Cert.FoxDwIdeal.nD,
      m' ((c.tc : Thread Cert.FoxDwRefIdeal.nD Cert.FoxDwRefIdeal.τ).loc Cert.FoxDwRefIdeal.main_arg0) = m ((c.tc : Thread Cert.FoxDwIdeal.nD Cert.FoxDwIdeal.τ).loc Cert.FoxDwIdeal.main_arg0)
      ∧ m' ((c.tc : Thread Cert.FoxDwRefIdeal.nD Cert.FoxDwRefIdeal.τ).loc Cert.FoxDwRefIdeal.main_arg1) = m ((c.tc : Thread Cert.FoxDwIdeal.nD Cert.FoxDwIdeal.τ).loc Cert.FoxDwIdeal.main_arg1)
      ∧ m' ((c.tc : Thread Cert.FoxDwRefIdeal.nD Cert.FoxDwRefIdeal.τ).loc Cert.FoxDwRefIdeal.main_arg2) = m ((c.tc : Thread Cert.FoxDwIdeal.nD Cert.FoxDwIdeal.τ).loc Cert.FoxDwIdeal.main_arg2)) →
    ∃ (v0 : (c : Dev Cert.FoxDwIdeal.nD) → Buf (Elt Ideal) ((c.tc : Thread Cert.FoxDwIdeal.nD Cert.FoxDwIdeal.τ).loc Cert.FoxDwIdeal.main_v3)),
      θ_run (Cert.FoxDwIdeal.defs (F := Ideal)) (onTc (τ := Cert.FoxDwIdeal.τ) (Cert.FoxDwIdeal.main (F := Ideal))) ⟨m, fun _ => 0, g⟩ (fun r => ∀ c : Dev Cert.FoxDwIdeal.nD,
          r.2.mem ((c.tc : Thread Cert.FoxDwIdeal.nD Cert.FoxDwIdeal.τ).loc Cert.FoxDwIdeal.main_v3) = v0 c
          ∧ r.2.mem ((c.tc : Thread Cert.FoxDwIdeal.nD Cert.FoxDwIdeal.τ).loc Cert.FoxDwIdeal.main_arg0) = m ((c.tc : Thread Cert.FoxDwIdeal.nD Cert.FoxDwIdeal.τ).loc Cert.FoxDwIdeal.main_arg0)
          ∧ r.2.mem ((c.tc : Thread Cert.FoxDwIdeal.nD Cert.FoxDwIdeal.τ).loc Cert.FoxDwIdeal.main_arg1) = m ((c.tc : Thread Cert.FoxDwIdeal.nD Cert.FoxDwIdeal.τ).loc Cert.FoxDwIdeal.main_arg1)
          ∧ r.2.mem ((c.tc : Thread Cert.FoxDwIdeal.nD Cert.FoxDwIdeal.τ).loc Cert.FoxDwIdeal.main_arg2) = m ((c.tc : Thread Cert.FoxDwIdeal.nD Cert.FoxDwIdeal.τ).loc Cert.FoxDwIdeal.main_arg2))
      ∧ θ_run (Cert.FoxDwRefIdeal.defs (F := Ideal)) (onTc (τ := Cert.FoxDwRefIdeal.τ) (Cert.FoxDwRefIdeal.main (F := Ideal))) ⟨m', fun _ => 0, g'⟩ (fun r => ∀ c : Dev Cert.FoxDwRefIdeal.nD,
          r.2.mem ((c.tc : Thread Cert.FoxDwRefIdeal.nD Cert.FoxDwRefIdeal.τ).loc Cert.FoxDwRefIdeal.main_v4) = v0 c
          ∧ r.2.mem ((c.tc : Thread Cert.FoxDwRefIdeal.nD Cert.FoxDwRefIdeal.τ).loc Cert.FoxDwRefIdeal.main_arg0) = m' ((c.tc : Thread Cert.FoxDwRefIdeal.nD Cert.FoxDwRefIdeal.τ).loc Cert.FoxDwRefIdeal.main_arg0)
          ∧ r.2.mem ((c.tc : Thread Cert.FoxDwRefIdeal.nD Cert.FoxDwRefIdeal.τ).loc Cert.FoxDwRefIdeal.main_arg1) = m' ((c.tc : Thread Cert.FoxDwRefIdeal.nD Cert.FoxDwRefIdeal.τ).loc Cert.FoxDwRefIdeal.main_arg1)
          ∧ r.2.mem ((c.tc : Thread Cert.FoxDwRefIdeal.nD Cert.FoxDwRefIdeal.τ).loc Cert.FoxDwRefIdeal.main_arg2) = m' ((c.tc : Thread Cert.FoxDwRefIdeal.nD Cert.FoxDwRefIdeal.τ).loc Cert.FoxDwRefIdeal.main_arg2))

def preserves_FoxDh_FoxDhIdeal : Prop :=
  True

def algebraic_FoxDhIdeal_FoxDhRefIdeal [hFoxDhIdeal : Cert.FoxDhIdeal.Facts] [hFoxDhRefIdeal : Cert.FoxDhRefIdeal.Facts] : Prop :=
  ∀ (m : (ℓ : Loc Cert.FoxDhIdeal.nD Cert.FoxDhIdeal.τ Cert.FoxDhIdeal.sig) → Buf (Elt Ideal) ℓ) (g : Dev Cert.FoxDhIdeal.nD → PrngReg)
    (m' : (ℓ : Loc Cert.FoxDhRefIdeal.nD Cert.FoxDhRefIdeal.τ Cert.FoxDhRefIdeal.sig) → Buf (Elt Ideal) ℓ) (g' : Dev Cert.FoxDhRefIdeal.nD → PrngReg), Pre_FoxDhIdeal m →
    (∀ c : Dev Cert.FoxDhIdeal.nD,
      m' ((c.tc : Thread Cert.FoxDhRefIdeal.nD Cert.FoxDhRefIdeal.τ).loc Cert.FoxDhRefIdeal.main_arg0) = m ((c.tc : Thread Cert.FoxDhIdeal.nD Cert.FoxDhIdeal.τ).loc Cert.FoxDhIdeal.main_arg0)
      ∧ m' ((c.tc : Thread Cert.FoxDhRefIdeal.nD Cert.FoxDhRefIdeal.τ).loc Cert.FoxDhRefIdeal.main_arg1) = m ((c.tc : Thread Cert.FoxDhIdeal.nD Cert.FoxDhIdeal.τ).loc Cert.FoxDhIdeal.main_arg1)
      ∧ m' ((c.tc : Thread Cert.FoxDhRefIdeal.nD Cert.FoxDhRefIdeal.τ).loc Cert.FoxDhRefIdeal.main_arg2) = m ((c.tc : Thread Cert.FoxDhIdeal.nD Cert.FoxDhIdeal.τ).loc Cert.FoxDhIdeal.main_arg2)) →
    ∃ (v0 : (c : Dev Cert.FoxDhIdeal.nD) → Buf (Elt Ideal) ((c.tc : Thread Cert.FoxDhIdeal.nD Cert.FoxDhIdeal.τ).loc Cert.FoxDhIdeal.main_v4)),
      θ_run (Cert.FoxDhIdeal.defs (F := Ideal)) (onTc (τ := Cert.FoxDhIdeal.τ) (Cert.FoxDhIdeal.main (F := Ideal))) ⟨m, fun _ => 0, g⟩ (fun r => ∀ c : Dev Cert.FoxDhIdeal.nD,
          r.2.mem ((c.tc : Thread Cert.FoxDhIdeal.nD Cert.FoxDhIdeal.τ).loc Cert.FoxDhIdeal.main_v4) = v0 c
          ∧ r.2.mem ((c.tc : Thread Cert.FoxDhIdeal.nD Cert.FoxDhIdeal.τ).loc Cert.FoxDhIdeal.main_arg0) = m ((c.tc : Thread Cert.FoxDhIdeal.nD Cert.FoxDhIdeal.τ).loc Cert.FoxDhIdeal.main_arg0)
          ∧ r.2.mem ((c.tc : Thread Cert.FoxDhIdeal.nD Cert.FoxDhIdeal.τ).loc Cert.FoxDhIdeal.main_arg1) = m ((c.tc : Thread Cert.FoxDhIdeal.nD Cert.FoxDhIdeal.τ).loc Cert.FoxDhIdeal.main_arg1)
          ∧ r.2.mem ((c.tc : Thread Cert.FoxDhIdeal.nD Cert.FoxDhIdeal.τ).loc Cert.FoxDhIdeal.main_arg2) = m ((c.tc : Thread Cert.FoxDhIdeal.nD Cert.FoxDhIdeal.τ).loc Cert.FoxDhIdeal.main_arg2))
      ∧ θ_run (Cert.FoxDhRefIdeal.defs (F := Ideal)) (onTc (τ := Cert.FoxDhRefIdeal.τ) (Cert.FoxDhRefIdeal.main (F := Ideal))) ⟨m', fun _ => 0, g'⟩ (fun r => ∀ c : Dev Cert.FoxDhRefIdeal.nD,
          r.2.mem ((c.tc : Thread Cert.FoxDhRefIdeal.nD Cert.FoxDhRefIdeal.τ).loc Cert.FoxDhRefIdeal.main_v1) = v0 c
          ∧ r.2.mem ((c.tc : Thread Cert.FoxDhRefIdeal.nD Cert.FoxDhRefIdeal.τ).loc Cert.FoxDhRefIdeal.main_arg0) = m' ((c.tc : Thread Cert.FoxDhRefIdeal.nD Cert.FoxDhRefIdeal.τ).loc Cert.FoxDhRefIdeal.main_arg0)
          ∧ r.2.mem ((c.tc : Thread Cert.FoxDhRefIdeal.nD Cert.FoxDhRefIdeal.τ).loc Cert.FoxDhRefIdeal.main_arg1) = m' ((c.tc : Thread Cert.FoxDhRefIdeal.nD Cert.FoxDhRefIdeal.τ).loc Cert.FoxDhRefIdeal.main_arg1)
          ∧ r.2.mem ((c.tc : Thread Cert.FoxDhRefIdeal.nD Cert.FoxDhRefIdeal.τ).loc Cert.FoxDhRefIdeal.main_arg2) = m' ((c.tc : Thread Cert.FoxDhRefIdeal.nD Cert.FoxDhRefIdeal.τ).loc Cert.FoxDhRefIdeal.main_arg2))

def preserves_FoxOut_FoxOutIdeal : Prop :=
  True

def algebraic_FoxOutIdeal_FoxOutRefIdeal [hFoxOutIdeal : Cert.FoxOutIdeal.Facts] [hFoxOutRefIdeal : Cert.FoxOutRefIdeal.Facts] : Prop :=
  ∀ (m : (ℓ : Loc Cert.FoxOutIdeal.nD Cert.FoxOutIdeal.τ Cert.FoxOutIdeal.sig) → Buf (Elt Ideal) ℓ) (g : Dev Cert.FoxOutIdeal.nD → PrngReg)
    (m' : (ℓ : Loc Cert.FoxOutRefIdeal.nD Cert.FoxOutRefIdeal.τ Cert.FoxOutRefIdeal.sig) → Buf (Elt Ideal) ℓ) (g' : Dev Cert.FoxOutRefIdeal.nD → PrngReg), Pre_FoxOutIdeal m →
    (∀ c : Dev Cert.FoxOutIdeal.nD,
      m' ((c.tc : Thread Cert.FoxOutRefIdeal.nD Cert.FoxOutRefIdeal.τ).loc Cert.FoxOutRefIdeal.main_arg0) = m ((c.tc : Thread Cert.FoxOutIdeal.nD Cert.FoxOutIdeal.τ).loc Cert.FoxOutIdeal.main_arg0)
      ∧ m' ((c.tc : Thread Cert.FoxOutRefIdeal.nD Cert.FoxOutRefIdeal.τ).loc Cert.FoxOutRefIdeal.main_arg1) = m ((c.tc : Thread Cert.FoxOutIdeal.nD Cert.FoxOutIdeal.τ).loc Cert.FoxOutIdeal.main_arg1)
      ∧ m' ((c.tc : Thread Cert.FoxOutRefIdeal.nD Cert.FoxOutRefIdeal.τ).loc Cert.FoxOutRefIdeal.main_arg2) = m ((c.tc : Thread Cert.FoxOutIdeal.nD Cert.FoxOutIdeal.τ).loc Cert.FoxOutIdeal.main_arg2)
      ∧ m' ((c.tc : Thread Cert.FoxOutRefIdeal.nD Cert.FoxOutRefIdeal.τ).loc Cert.FoxOutRefIdeal.main_arg3) = m ((c.tc : Thread Cert.FoxOutIdeal.nD Cert.FoxOutIdeal.τ).loc Cert.FoxOutIdeal.main_arg3)) →
    ∃ (v0 : (c : Dev Cert.FoxOutIdeal.nD) → Buf (Elt Ideal) ((c.tc : Thread Cert.FoxOutIdeal.nD Cert.FoxOutIdeal.τ).loc Cert.FoxOutIdeal.main_v2_0)) (v1 : (c : Dev Cert.FoxOutIdeal.nD) → Buf (Elt Ideal) ((c.tc : Thread Cert.FoxOutIdeal.nD Cert.FoxOutIdeal.τ).loc Cert.FoxOutIdeal.main_v2_1)),
      θ_run (Cert.FoxOutIdeal.defs (F := Ideal)) (onTc (τ := Cert.FoxOutIdeal.τ) (Cert.FoxOutIdeal.main (F := Ideal))) ⟨m, fun _ => 0, g⟩ (fun r => ∀ c : Dev Cert.FoxOutIdeal.nD,
          r.2.mem ((c.tc : Thread Cert.FoxOutIdeal.nD Cert.FoxOutIdeal.τ).loc Cert.FoxOutIdeal.main_v2_0) = v0 c
          ∧ r.2.mem ((c.tc : Thread Cert.FoxOutIdeal.nD Cert.FoxOutIdeal.τ).loc Cert.FoxOutIdeal.main_v2_1) = v1 c
          ∧ r.2.mem ((c.tc : Thread Cert.FoxOutIdeal.nD Cert.FoxOutIdeal.τ).loc Cert.FoxOutIdeal.main_arg0) = m ((c.tc : Thread Cert.FoxOutIdeal.nD Cert.FoxOutIdeal.τ).loc Cert.FoxOutIdeal.main_arg0)
          ∧ r.2.mem ((c.tc : Thread Cert.FoxOutIdeal.nD Cert.FoxOutIdeal.τ).loc Cert.FoxOutIdeal.main_arg1) = m ((c.tc : Thread Cert.FoxOutIdeal.nD Cert.FoxOutIdeal.τ).loc Cert.FoxOutIdeal.main_arg1)
          ∧ r.2.mem ((c.tc : Thread Cert.FoxOutIdeal.nD Cert.FoxOutIdeal.τ).loc Cert.FoxOutIdeal.main_arg2) = m ((c.tc : Thread Cert.FoxOutIdeal.nD Cert.FoxOutIdeal.τ).loc Cert.FoxOutIdeal.main_arg2)
          ∧ r.2.mem ((c.tc : Thread Cert.FoxOutIdeal.nD Cert.FoxOutIdeal.τ).loc Cert.FoxOutIdeal.main_arg3) = m ((c.tc : Thread Cert.FoxOutIdeal.nD Cert.FoxOutIdeal.τ).loc Cert.FoxOutIdeal.main_arg3))
      ∧ θ_run (Cert.FoxOutRefIdeal.defs (F := Ideal)) (onTc (τ := Cert.FoxOutRefIdeal.τ) (Cert.FoxOutRefIdeal.main (F := Ideal))) ⟨m', fun _ => 0, g'⟩ (fun r => ∀ c : Dev Cert.FoxOutRefIdeal.nD,
          r.2.mem ((c.tc : Thread Cert.FoxOutRefIdeal.nD Cert.FoxOutRefIdeal.τ).loc Cert.FoxOutRefIdeal.main_v0) = v0 c
          ∧ r.2.mem ((c.tc : Thread Cert.FoxOutRefIdeal.nD Cert.FoxOutRefIdeal.τ).loc Cert.FoxOutRefIdeal.main_v3) = v1 c
          ∧ r.2.mem ((c.tc : Thread Cert.FoxOutRefIdeal.nD Cert.FoxOutRefIdeal.τ).loc Cert.FoxOutRefIdeal.main_arg0) = m' ((c.tc : Thread Cert.FoxOutRefIdeal.nD Cert.FoxOutRefIdeal.τ).loc Cert.FoxOutRefIdeal.main_arg0)
          ∧ r.2.mem ((c.tc : Thread Cert.FoxOutRefIdeal.nD Cert.FoxOutRefIdeal.τ).loc Cert.FoxOutRefIdeal.main_arg1) = m' ((c.tc : Thread Cert.FoxOutRefIdeal.nD Cert.FoxOutRefIdeal.τ).loc Cert.FoxOutRefIdeal.main_arg1)
          ∧ r.2.mem ((c.tc : Thread Cert.FoxOutRefIdeal.nD Cert.FoxOutRefIdeal.τ).loc Cert.FoxOutRefIdeal.main_arg2) = m' ((c.tc : Thread Cert.FoxOutRefIdeal.nD Cert.FoxOutRefIdeal.τ).loc Cert.FoxOutRefIdeal.main_arg2)
          ∧ r.2.mem ((c.tc : Thread Cert.FoxOutRefIdeal.nD Cert.FoxOutRefIdeal.τ).loc Cert.FoxOutRefIdeal.main_arg3) = m' ((c.tc : Thread Cert.FoxOutRefIdeal.nD Cert.FoxOutRefIdeal.τ).loc Cert.FoxOutRefIdeal.main_arg3))

def preserves_FoxDwo_FoxDwoIdeal : Prop :=
  True

def algebraic_FoxDwoIdeal_FoxDwoRefIdeal [hFoxDwoIdeal : Cert.FoxDwoIdeal.Facts] [hFoxDwoRefIdeal : Cert.FoxDwoRefIdeal.Facts] : Prop :=
  ∀ (m : (ℓ : Loc Cert.FoxDwoIdeal.nD Cert.FoxDwoIdeal.τ Cert.FoxDwoIdeal.sig) → Buf (Elt Ideal) ℓ) (g : Dev Cert.FoxDwoIdeal.nD → PrngReg)
    (m' : (ℓ : Loc Cert.FoxDwoRefIdeal.nD Cert.FoxDwoRefIdeal.τ Cert.FoxDwoRefIdeal.sig) → Buf (Elt Ideal) ℓ) (g' : Dev Cert.FoxDwoRefIdeal.nD → PrngReg), Pre_FoxDwoIdeal m →
    (∀ c : Dev Cert.FoxDwoIdeal.nD,
      m' ((c.tc : Thread Cert.FoxDwoRefIdeal.nD Cert.FoxDwoRefIdeal.τ).loc Cert.FoxDwoRefIdeal.main_arg0) = m ((c.tc : Thread Cert.FoxDwoIdeal.nD Cert.FoxDwoIdeal.τ).loc Cert.FoxDwoIdeal.main_arg0)
      ∧ m' ((c.tc : Thread Cert.FoxDwoRefIdeal.nD Cert.FoxDwoRefIdeal.τ).loc Cert.FoxDwoRefIdeal.main_arg1) = m ((c.tc : Thread Cert.FoxDwoIdeal.nD Cert.FoxDwoIdeal.τ).loc Cert.FoxDwoIdeal.main_arg1)
      ∧ m' ((c.tc : Thread Cert.FoxDwoRefIdeal.nD Cert.FoxDwoRefIdeal.τ).loc Cert.FoxDwoRefIdeal.main_arg2) = m ((c.tc : Thread Cert.FoxDwoIdeal.nD Cert.FoxDwoIdeal.τ).loc Cert.FoxDwoIdeal.main_arg2)) →
    ∃ (v0 : (c : Dev Cert.FoxDwoIdeal.nD) → Buf (Elt Ideal) ((c.tc : Thread Cert.FoxDwoIdeal.nD Cert.FoxDwoIdeal.τ).loc Cert.FoxDwoIdeal.main_v2)),
      θ_run (Cert.FoxDwoIdeal.defs (F := Ideal)) (onTc (τ := Cert.FoxDwoIdeal.τ) (Cert.FoxDwoIdeal.main (F := Ideal))) ⟨m, fun _ => 0, g⟩ (fun r => ∀ c : Dev Cert.FoxDwoIdeal.nD,
          r.2.mem ((c.tc : Thread Cert.FoxDwoIdeal.nD Cert.FoxDwoIdeal.τ).loc Cert.FoxDwoIdeal.main_v2) = v0 c
          ∧ r.2.mem ((c.tc : Thread Cert.FoxDwoIdeal.nD Cert.FoxDwoIdeal.τ).loc Cert.FoxDwoIdeal.main_arg0) = m ((c.tc : Thread Cert.FoxDwoIdeal.nD Cert.FoxDwoIdeal.τ).loc Cert.FoxDwoIdeal.main_arg0)
          ∧ r.2.mem ((c.tc : Thread Cert.FoxDwoIdeal.nD Cert.FoxDwoIdeal.τ).loc Cert.FoxDwoIdeal.main_arg1) = m ((c.tc : Thread Cert.FoxDwoIdeal.nD Cert.FoxDwoIdeal.τ).loc Cert.FoxDwoIdeal.main_arg1)
          ∧ r.2.mem ((c.tc : Thread Cert.FoxDwoIdeal.nD Cert.FoxDwoIdeal.τ).loc Cert.FoxDwoIdeal.main_arg2) = m ((c.tc : Thread Cert.FoxDwoIdeal.nD Cert.FoxDwoIdeal.τ).loc Cert.FoxDwoIdeal.main_arg2))
      ∧ θ_run (Cert.FoxDwoRefIdeal.defs (F := Ideal)) (onTc (τ := Cert.FoxDwoRefIdeal.τ) (Cert.FoxDwoRefIdeal.main (F := Ideal))) ⟨m', fun _ => 0, g'⟩ (fun r => ∀ c : Dev Cert.FoxDwoRefIdeal.nD,
          r.2.mem ((c.tc : Thread Cert.FoxDwoRefIdeal.nD Cert.FoxDwoRefIdeal.τ).loc Cert.FoxDwoRefIdeal.main_v3) = v0 c
          ∧ r.2.mem ((c.tc : Thread Cert.FoxDwoRefIdeal.nD Cert.FoxDwoRefIdeal.τ).loc Cert.FoxDwoRefIdeal.main_arg0) = m' ((c.tc : Thread Cert.FoxDwoRefIdeal.nD Cert.FoxDwoRefIdeal.τ).loc Cert.FoxDwoRefIdeal.main_arg0)
          ∧ r.2.mem ((c.tc : Thread Cert.FoxDwoRefIdeal.nD Cert.FoxDwoRefIdeal.τ).loc Cert.FoxDwoRefIdeal.main_arg1) = m' ((c.tc : Thread Cert.FoxDwoRefIdeal.nD Cert.FoxDwoRefIdeal.τ).loc Cert.FoxDwoRefIdeal.main_arg1)
          ∧ r.2.mem ((c.tc : Thread Cert.FoxDwoRefIdeal.nD Cert.FoxDwoRefIdeal.τ).loc Cert.FoxDwoRefIdeal.main_arg2) = m' ((c.tc : Thread Cert.FoxDwoRefIdeal.nD Cert.FoxDwoRefIdeal.τ).loc Cert.FoxDwoRefIdeal.main_arg2))

def preserves_AdamNormW_AdamNormWIdeal : Prop :=
  True

def algebraic_AdamNormWIdeal_AdamNormWRefIdeal [hAdamNormWIdeal : Cert.AdamNormWIdeal.Facts] [hAdamNormWRefIdeal : Cert.AdamNormWRefIdeal.Facts] : Prop :=
  ∀ (m : (ℓ : Loc Cert.AdamNormWIdeal.nD Cert.AdamNormWIdeal.τ Cert.AdamNormWIdeal.sig) → Buf (Elt Ideal) ℓ) (g : Dev Cert.AdamNormWIdeal.nD → PrngReg)
    (m' : (ℓ : Loc Cert.AdamNormWRefIdeal.nD Cert.AdamNormWRefIdeal.τ Cert.AdamNormWRefIdeal.sig) → Buf (Elt Ideal) ℓ) (g' : Dev Cert.AdamNormWRefIdeal.nD → PrngReg), Pre_AdamNormWIdeal m →
    (∀ c : Dev Cert.AdamNormWIdeal.nD,
      m' ((c.tc : Thread Cert.AdamNormWRefIdeal.nD Cert.AdamNormWRefIdeal.τ).loc Cert.AdamNormWRefIdeal.main_arg0) = m ((c.tc : Thread Cert.AdamNormWIdeal.nD Cert.AdamNormWIdeal.τ).loc Cert.AdamNormWIdeal.main_arg0)
      ∧ m' ((c.tc : Thread Cert.AdamNormWRefIdeal.nD Cert.AdamNormWRefIdeal.τ).loc Cert.AdamNormWRefIdeal.main_arg1) = m ((c.tc : Thread Cert.AdamNormWIdeal.nD Cert.AdamNormWIdeal.τ).loc Cert.AdamNormWIdeal.main_arg1)
      ∧ m' ((c.tc : Thread Cert.AdamNormWRefIdeal.nD Cert.AdamNormWRefIdeal.τ).loc Cert.AdamNormWRefIdeal.main_arg2) = m ((c.tc : Thread Cert.AdamNormWIdeal.nD Cert.AdamNormWIdeal.τ).loc Cert.AdamNormWIdeal.main_arg2)
      ∧ m' ((c.tc : Thread Cert.AdamNormWRefIdeal.nD Cert.AdamNormWRefIdeal.τ).loc Cert.AdamNormWRefIdeal.main_arg3) = m ((c.tc : Thread Cert.AdamNormWIdeal.nD Cert.AdamNormWIdeal.τ).loc Cert.AdamNormWIdeal.main_arg3)) →
    ∃ (v0 : (c : Dev Cert.AdamNormWIdeal.nD) → Buf (Elt Ideal) ((c.tc : Thread Cert.AdamNormWIdeal.nD Cert.AdamNormWIdeal.τ).loc Cert.AdamNormWIdeal.main_v0_0)) (v1 : (c : Dev Cert.AdamNormWIdeal.nD) → Buf (Elt Ideal) ((c.tc : Thread Cert.AdamNormWIdeal.nD Cert.AdamNormWIdeal.τ).loc Cert.AdamNormWIdeal.main_v0_1)) (v2 : (c : Dev Cert.AdamNormWIdeal.nD) → Buf (Elt Ideal) ((c.tc : Thread Cert.AdamNormWIdeal.nD Cert.AdamNormWIdeal.τ).loc Cert.AdamNormWIdeal.main_v0_2)),
      θ_run (Cert.AdamNormWIdeal.defs (F := Ideal)) (onTc (τ := Cert.AdamNormWIdeal.τ) (Cert.AdamNormWIdeal.main (F := Ideal))) ⟨m, fun _ => 0, g⟩ (fun r => ∀ c : Dev Cert.AdamNormWIdeal.nD,
          r.2.mem ((c.tc : Thread Cert.AdamNormWIdeal.nD Cert.AdamNormWIdeal.τ).loc Cert.AdamNormWIdeal.main_v0_0) = v0 c
          ∧ r.2.mem ((c.tc : Thread Cert.AdamNormWIdeal.nD Cert.AdamNormWIdeal.τ).loc Cert.AdamNormWIdeal.main_v0_1) = v1 c
          ∧ r.2.mem ((c.tc : Thread Cert.AdamNormWIdeal.nD Cert.AdamNormWIdeal.τ).loc Cert.AdamNormWIdeal.main_v0_2) = v2 c
          ∧ r.2.mem ((c.tc : Thread Cert.AdamNormWIdeal.nD Cert.AdamNormWIdeal.τ).loc Cert.AdamNormWIdeal.main_arg0) = m ((c.tc : Thread Cert.AdamNormWIdeal.nD Cert.AdamNormWIdeal.τ).loc Cert.AdamNormWIdeal.main_arg0)
          ∧ r.2.mem ((c.tc : Thread Cert.AdamNormWIdeal.nD Cert.AdamNormWIdeal.τ).loc Cert.AdamNormWIdeal.main_arg1) = m ((c.tc : Thread Cert.AdamNormWIdeal.nD Cert.AdamNormWIdeal.τ).loc Cert.AdamNormWIdeal.main_arg1)
          ∧ r.2.mem ((c.tc : Thread Cert.AdamNormWIdeal.nD Cert.AdamNormWIdeal.τ).loc Cert.AdamNormWIdeal.main_arg2) = m ((c.tc : Thread Cert.AdamNormWIdeal.nD Cert.AdamNormWIdeal.τ).loc Cert.AdamNormWIdeal.main_arg2)
          ∧ r.2.mem ((c.tc : Thread Cert.AdamNormWIdeal.nD Cert.AdamNormWIdeal.τ).loc Cert.AdamNormWIdeal.main_arg3) = m ((c.tc : Thread Cert.AdamNormWIdeal.nD Cert.AdamNormWIdeal.τ).loc Cert.AdamNormWIdeal.main_arg3))
      ∧ θ_run (Cert.AdamNormWRefIdeal.defs (F := Ideal)) (onTc (τ := Cert.AdamNormWRefIdeal.τ) (Cert.AdamNormWRefIdeal.main (F := Ideal))) ⟨m', fun _ => 0, g'⟩ (fun r => ∀ c : Dev Cert.AdamNormWRefIdeal.nD,
          r.2.mem ((c.tc : Thread Cert.AdamNormWRefIdeal.nD Cert.AdamNormWRefIdeal.τ).loc Cert.AdamNormWRefIdeal.main_v23) = v0 c
          ∧ r.2.mem ((c.tc : Thread Cert.AdamNormWRefIdeal.nD Cert.AdamNormWRefIdeal.τ).loc Cert.AdamNormWRefIdeal.main_v4) = v1 c
          ∧ r.2.mem ((c.tc : Thread Cert.AdamNormWRefIdeal.nD Cert.AdamNormWRefIdeal.τ).loc Cert.AdamNormWRefIdeal.main_v10) = v2 c
          ∧ r.2.mem ((c.tc : Thread Cert.AdamNormWRefIdeal.nD Cert.AdamNormWRefIdeal.τ).loc Cert.AdamNormWRefIdeal.main_arg0) = m' ((c.tc : Thread Cert.AdamNormWRefIdeal.nD Cert.AdamNormWRefIdeal.τ).loc Cert.AdamNormWRefIdeal.main_arg0)
          ∧ r.2.mem ((c.tc : Thread Cert.AdamNormWRefIdeal.nD Cert.AdamNormWRefIdeal.τ).loc Cert.AdamNormWRefIdeal.main_arg1) = m' ((c.tc : Thread Cert.AdamNormWRefIdeal.nD Cert.AdamNormWRefIdeal.τ).loc Cert.AdamNormWRefIdeal.main_arg1)
          ∧ r.2.mem ((c.tc : Thread Cert.AdamNormWRefIdeal.nD Cert.AdamNormWRefIdeal.τ).loc Cert.AdamNormWRefIdeal.main_arg2) = m' ((c.tc : Thread Cert.AdamNormWRefIdeal.nD Cert.AdamNormWRefIdeal.τ).loc Cert.AdamNormWRefIdeal.main_arg2)
          ∧ r.2.mem ((c.tc : Thread Cert.AdamNormWRefIdeal.nD Cert.AdamNormWRefIdeal.τ).loc Cert.AdamNormWRefIdeal.main_arg3) = m' ((c.tc : Thread Cert.AdamNormWRefIdeal.nD Cert.AdamNormWRefIdeal.τ).loc Cert.AdamNormWRefIdeal.main_arg3))

def preserves_AdamAdaW_AdamAdaWIdeal : Prop :=
  True

def algebraic_AdamAdaWIdeal_AdamAdaWRefIdeal [hAdamAdaWIdeal : Cert.AdamAdaWIdeal.Facts] [hAdamAdaWRefIdeal : Cert.AdamAdaWRefIdeal.Facts] : Prop :=
  ∀ (m : (ℓ : Loc Cert.AdamAdaWIdeal.nD Cert.AdamAdaWIdeal.τ Cert.AdamAdaWIdeal.sig) → Buf (Elt Ideal) ℓ) (g : Dev Cert.AdamAdaWIdeal.nD → PrngReg)
    (m' : (ℓ : Loc Cert.AdamAdaWRefIdeal.nD Cert.AdamAdaWRefIdeal.τ Cert.AdamAdaWRefIdeal.sig) → Buf (Elt Ideal) ℓ) (g' : Dev Cert.AdamAdaWRefIdeal.nD → PrngReg), Pre_AdamAdaWIdeal m →
    (∀ c : Dev Cert.AdamAdaWIdeal.nD,
      m' ((c.tc : Thread Cert.AdamAdaWRefIdeal.nD Cert.AdamAdaWRefIdeal.τ).loc Cert.AdamAdaWRefIdeal.main_arg0) = m ((c.tc : Thread Cert.AdamAdaWIdeal.nD Cert.AdamAdaWIdeal.τ).loc Cert.AdamAdaWIdeal.main_arg0)
      ∧ m' ((c.tc : Thread Cert.AdamAdaWRefIdeal.nD Cert.AdamAdaWRefIdeal.τ).loc Cert.AdamAdaWRefIdeal.main_arg1) = m ((c.tc : Thread Cert.AdamAdaWIdeal.nD Cert.AdamAdaWIdeal.τ).loc Cert.AdamAdaWIdeal.main_arg1)
      ∧ m' ((c.tc : Thread Cert.AdamAdaWRefIdeal.nD Cert.AdamAdaWRefIdeal.τ).loc Cert.AdamAdaWRefIdeal.main_arg2) = m ((c.tc : Thread Cert.AdamAdaWIdeal.nD Cert.AdamAdaWIdeal.τ).loc Cert.AdamAdaWIdeal.main_arg2)
      ∧ m' ((c.tc : Thread Cert.AdamAdaWRefIdeal.nD Cert.AdamAdaWRefIdeal.τ).loc Cert.AdamAdaWRefIdeal.main_arg3) = m ((c.tc : Thread Cert.AdamAdaWIdeal.nD Cert.AdamAdaWIdeal.τ).loc Cert.AdamAdaWIdeal.main_arg3)) →
    ∃ (v0 : (c : Dev Cert.AdamAdaWIdeal.nD) → Buf (Elt Ideal) ((c.tc : Thread Cert.AdamAdaWIdeal.nD Cert.AdamAdaWIdeal.τ).loc Cert.AdamAdaWIdeal.main_v5_0)) (v1 : (c : Dev Cert.AdamAdaWIdeal.nD) → Buf (Elt Ideal) ((c.tc : Thread Cert.AdamAdaWIdeal.nD Cert.AdamAdaWIdeal.τ).loc Cert.AdamAdaWIdeal.main_v5_1)) (v2 : (c : Dev Cert.AdamAdaWIdeal.nD) → Buf (Elt Ideal) ((c.tc : Thread Cert.AdamAdaWIdeal.nD Cert.AdamAdaWIdeal.τ).loc Cert.AdamAdaWIdeal.main_v5_2)),
      θ_run (Cert.AdamAdaWIdeal.defs (F := Ideal)) (onTc (τ := Cert.AdamAdaWIdeal.τ) (Cert.AdamAdaWIdeal.main (F := Ideal))) ⟨m, fun _ => 0, g⟩ (fun r => ∀ c : Dev Cert.AdamAdaWIdeal.nD,
          r.2.mem ((c.tc : Thread Cert.AdamAdaWIdeal.nD Cert.AdamAdaWIdeal.τ).loc Cert.AdamAdaWIdeal.main_v5_0) = v0 c
          ∧ r.2.mem ((c.tc : Thread Cert.AdamAdaWIdeal.nD Cert.AdamAdaWIdeal.τ).loc Cert.AdamAdaWIdeal.main_v5_1) = v1 c
          ∧ r.2.mem ((c.tc : Thread Cert.AdamAdaWIdeal.nD Cert.AdamAdaWIdeal.τ).loc Cert.AdamAdaWIdeal.main_v5_2) = v2 c
          ∧ r.2.mem ((c.tc : Thread Cert.AdamAdaWIdeal.nD Cert.AdamAdaWIdeal.τ).loc Cert.AdamAdaWIdeal.main_arg0) = m ((c.tc : Thread Cert.AdamAdaWIdeal.nD Cert.AdamAdaWIdeal.τ).loc Cert.AdamAdaWIdeal.main_arg0)
          ∧ r.2.mem ((c.tc : Thread Cert.AdamAdaWIdeal.nD Cert.AdamAdaWIdeal.τ).loc Cert.AdamAdaWIdeal.main_arg1) = m ((c.tc : Thread Cert.AdamAdaWIdeal.nD Cert.AdamAdaWIdeal.τ).loc Cert.AdamAdaWIdeal.main_arg1)
          ∧ r.2.mem ((c.tc : Thread Cert.AdamAdaWIdeal.nD Cert.AdamAdaWIdeal.τ).loc Cert.AdamAdaWIdeal.main_arg2) = m ((c.tc : Thread Cert.AdamAdaWIdeal.nD Cert.AdamAdaWIdeal.τ).loc Cert.AdamAdaWIdeal.main_arg2)
          ∧ r.2.mem ((c.tc : Thread Cert.AdamAdaWIdeal.nD Cert.AdamAdaWIdeal.τ).loc Cert.AdamAdaWIdeal.main_arg3) = m ((c.tc : Thread Cert.AdamAdaWIdeal.nD Cert.AdamAdaWIdeal.τ).loc Cert.AdamAdaWIdeal.main_arg3))
      ∧ θ_run (Cert.AdamAdaWRefIdeal.defs (F := Ideal)) (onTc (τ := Cert.AdamAdaWRefIdeal.τ) (Cert.AdamAdaWRefIdeal.main (F := Ideal))) ⟨m', fun _ => 0, g'⟩ (fun r => ∀ c : Dev Cert.AdamAdaWRefIdeal.nD,
          r.2.mem ((c.tc : Thread Cert.AdamAdaWRefIdeal.nD Cert.AdamAdaWRefIdeal.τ).loc Cert.AdamAdaWRefIdeal.main_v24) = v0 c
          ∧ r.2.mem ((c.tc : Thread Cert.AdamAdaWRefIdeal.nD Cert.AdamAdaWRefIdeal.τ).loc Cert.AdamAdaWRefIdeal.main_v25) = v1 c
          ∧ r.2.mem ((c.tc : Thread Cert.AdamAdaWRefIdeal.nD Cert.AdamAdaWRefIdeal.τ).loc Cert.AdamAdaWRefIdeal.main_v26) = v2 c
          ∧ r.2.mem ((c.tc : Thread Cert.AdamAdaWRefIdeal.nD Cert.AdamAdaWRefIdeal.τ).loc Cert.AdamAdaWRefIdeal.main_arg0) = m' ((c.tc : Thread Cert.AdamAdaWRefIdeal.nD Cert.AdamAdaWRefIdeal.τ).loc Cert.AdamAdaWRefIdeal.main_arg0)
          ∧ r.2.mem ((c.tc : Thread Cert.AdamAdaWRefIdeal.nD Cert.AdamAdaWRefIdeal.τ).loc Cert.AdamAdaWRefIdeal.main_arg1) = m' ((c.tc : Thread Cert.AdamAdaWRefIdeal.nD Cert.AdamAdaWRefIdeal.τ).loc Cert.AdamAdaWRefIdeal.main_arg1)
          ∧ r.2.mem ((c.tc : Thread Cert.AdamAdaWRefIdeal.nD Cert.AdamAdaWRefIdeal.τ).loc Cert.AdamAdaWRefIdeal.main_arg2) = m' ((c.tc : Thread Cert.AdamAdaWRefIdeal.nD Cert.AdamAdaWRefIdeal.τ).loc Cert.AdamAdaWRefIdeal.main_arg2)
          ∧ r.2.mem ((c.tc : Thread Cert.AdamAdaWRefIdeal.nD Cert.AdamAdaWRefIdeal.τ).loc Cert.AdamAdaWRefIdeal.main_arg3) = m' ((c.tc : Thread Cert.AdamAdaWRefIdeal.nD Cert.AdamAdaWRefIdeal.τ).loc Cert.AdamAdaWRefIdeal.main_arg3))

def preserves_AdamAdaB_AdamAdaBIdeal : Prop :=
  True

def algebraic_AdamAdaBIdeal_AdamAdaBRefIdeal [hAdamAdaBIdeal : Cert.AdamAdaBIdeal.Facts] [hAdamAdaBRefIdeal : Cert.AdamAdaBRefIdeal.Facts] : Prop :=
  ∀ (m : (ℓ : Loc Cert.AdamAdaBIdeal.nD Cert.AdamAdaBIdeal.τ Cert.AdamAdaBIdeal.sig) → Buf (Elt Ideal) ℓ) (g : Dev Cert.AdamAdaBIdeal.nD → PrngReg)
    (m' : (ℓ : Loc Cert.AdamAdaBRefIdeal.nD Cert.AdamAdaBRefIdeal.τ Cert.AdamAdaBRefIdeal.sig) → Buf (Elt Ideal) ℓ) (g' : Dev Cert.AdamAdaBRefIdeal.nD → PrngReg), Pre_AdamAdaBIdeal m →
    (∀ c : Dev Cert.AdamAdaBIdeal.nD,
      m' ((c.tc : Thread Cert.AdamAdaBRefIdeal.nD Cert.AdamAdaBRefIdeal.τ).loc Cert.AdamAdaBRefIdeal.main_arg0) = m ((c.tc : Thread Cert.AdamAdaBIdeal.nD Cert.AdamAdaBIdeal.τ).loc Cert.AdamAdaBIdeal.main_arg0)
      ∧ m' ((c.tc : Thread Cert.AdamAdaBRefIdeal.nD Cert.AdamAdaBRefIdeal.τ).loc Cert.AdamAdaBRefIdeal.main_arg1) = m ((c.tc : Thread Cert.AdamAdaBIdeal.nD Cert.AdamAdaBIdeal.τ).loc Cert.AdamAdaBIdeal.main_arg1)
      ∧ m' ((c.tc : Thread Cert.AdamAdaBRefIdeal.nD Cert.AdamAdaBRefIdeal.τ).loc Cert.AdamAdaBRefIdeal.main_arg2) = m ((c.tc : Thread Cert.AdamAdaBIdeal.nD Cert.AdamAdaBIdeal.τ).loc Cert.AdamAdaBIdeal.main_arg2)
      ∧ m' ((c.tc : Thread Cert.AdamAdaBRefIdeal.nD Cert.AdamAdaBRefIdeal.τ).loc Cert.AdamAdaBRefIdeal.main_arg3) = m ((c.tc : Thread Cert.AdamAdaBIdeal.nD Cert.AdamAdaBIdeal.τ).loc Cert.AdamAdaBIdeal.main_arg3)) →
    ∃ (v0 : (c : Dev Cert.AdamAdaBIdeal.nD) → Buf (Elt Ideal) ((c.tc : Thread Cert.AdamAdaBIdeal.nD Cert.AdamAdaBIdeal.τ).loc Cert.AdamAdaBIdeal.main_v0_0)) (v1 : (c : Dev Cert.AdamAdaBIdeal.nD) → Buf (Elt Ideal) ((c.tc : Thread Cert.AdamAdaBIdeal.nD Cert.AdamAdaBIdeal.τ).loc Cert.AdamAdaBIdeal.main_v0_1)) (v2 : (c : Dev Cert.AdamAdaBIdeal.nD) → Buf (Elt Ideal) ((c.tc : Thread Cert.AdamAdaBIdeal.nD Cert.AdamAdaBIdeal.τ).loc Cert.AdamAdaBIdeal.main_v0_2)),
      θ_run (Cert.AdamAdaBIdeal.defs (F := Ideal)) (onTc (τ := Cert.AdamAdaBIdeal.τ) (Cert.AdamAdaBIdeal.main (F := Ideal))) ⟨m, fun _ => 0, g⟩ (fun r => ∀ c : Dev Cert.AdamAdaBIdeal.nD,
          r.2.mem ((c.tc : Thread Cert.AdamAdaBIdeal.nD Cert.AdamAdaBIdeal.τ).loc Cert.AdamAdaBIdeal.main_v0_0) = v0 c
          ∧ r.2.mem ((c.tc : Thread Cert.AdamAdaBIdeal.nD Cert.AdamAdaBIdeal.τ).loc Cert.AdamAdaBIdeal.main_v0_1) = v1 c
          ∧ r.2.mem ((c.tc : Thread Cert.AdamAdaBIdeal.nD Cert.AdamAdaBIdeal.τ).loc Cert.AdamAdaBIdeal.main_v0_2) = v2 c
          ∧ r.2.mem ((c.tc : Thread Cert.AdamAdaBIdeal.nD Cert.AdamAdaBIdeal.τ).loc Cert.AdamAdaBIdeal.main_arg0) = m ((c.tc : Thread Cert.AdamAdaBIdeal.nD Cert.AdamAdaBIdeal.τ).loc Cert.AdamAdaBIdeal.main_arg0)
          ∧ r.2.mem ((c.tc : Thread Cert.AdamAdaBIdeal.nD Cert.AdamAdaBIdeal.τ).loc Cert.AdamAdaBIdeal.main_arg1) = m ((c.tc : Thread Cert.AdamAdaBIdeal.nD Cert.AdamAdaBIdeal.τ).loc Cert.AdamAdaBIdeal.main_arg1)
          ∧ r.2.mem ((c.tc : Thread Cert.AdamAdaBIdeal.nD Cert.AdamAdaBIdeal.τ).loc Cert.AdamAdaBIdeal.main_arg2) = m ((c.tc : Thread Cert.AdamAdaBIdeal.nD Cert.AdamAdaBIdeal.τ).loc Cert.AdamAdaBIdeal.main_arg2)
          ∧ r.2.mem ((c.tc : Thread Cert.AdamAdaBIdeal.nD Cert.AdamAdaBIdeal.τ).loc Cert.AdamAdaBIdeal.main_arg3) = m ((c.tc : Thread Cert.AdamAdaBIdeal.nD Cert.AdamAdaBIdeal.τ).loc Cert.AdamAdaBIdeal.main_arg3))
      ∧ θ_run (Cert.AdamAdaBRefIdeal.defs (F := Ideal)) (onTc (τ := Cert.AdamAdaBRefIdeal.τ) (Cert.AdamAdaBRefIdeal.main (F := Ideal))) ⟨m', fun _ => 0, g'⟩ (fun r => ∀ c : Dev Cert.AdamAdaBRefIdeal.nD,
          r.2.mem ((c.tc : Thread Cert.AdamAdaBRefIdeal.nD Cert.AdamAdaBRefIdeal.τ).loc Cert.AdamAdaBRefIdeal.main_v23) = v0 c
          ∧ r.2.mem ((c.tc : Thread Cert.AdamAdaBRefIdeal.nD Cert.AdamAdaBRefIdeal.τ).loc Cert.AdamAdaBRefIdeal.main_v4) = v1 c
          ∧ r.2.mem ((c.tc : Thread Cert.AdamAdaBRefIdeal.nD Cert.AdamAdaBRefIdeal.τ).loc Cert.AdamAdaBRefIdeal.main_v10) = v2 c
          ∧ r.2.mem ((c.tc : Thread Cert.AdamAdaBRefIdeal.nD Cert.AdamAdaBRefIdeal.τ).loc Cert.AdamAdaBRefIdeal.main_arg0) = m' ((c.tc : Thread Cert.AdamAdaBRefIdeal.nD Cert.AdamAdaBRefIdeal.τ).loc Cert.AdamAdaBRefIdeal.main_arg0)
          ∧ r.2.mem ((c.tc : Thread Cert.AdamAdaBRefIdeal.nD Cert.AdamAdaBRefIdeal.τ).loc Cert.AdamAdaBRefIdeal.main_arg1) = m' ((c.tc : Thread Cert.AdamAdaBRefIdeal.nD Cert.AdamAdaBRefIdeal.τ).loc Cert.AdamAdaBRefIdeal.main_arg1)
          ∧ r.2.mem ((c.tc : Thread Cert.AdamAdaBRefIdeal.nD Cert.AdamAdaBRefIdeal.τ).loc Cert.AdamAdaBRefIdeal.main_arg2) = m' ((c.tc : Thread Cert.AdamAdaBRefIdeal.nD Cert.AdamAdaBRefIdeal.τ).loc Cert.AdamAdaBRefIdeal.main_arg2)
          ∧ r.2.mem ((c.tc : Thread Cert.AdamAdaBRefIdeal.nD Cert.AdamAdaBRefIdeal.τ).loc Cert.AdamAdaBRefIdeal.main_arg3) = m' ((c.tc : Thread Cert.AdamAdaBRefIdeal.nD Cert.AdamAdaBRefIdeal.τ).loc Cert.AdamAdaBRefIdeal.main_arg3))

def preserves_AdamAWIn_AdamAWInIdeal : Prop :=
  True

def algebraic_AdamAWInIdeal_AdamAWInRefIdeal [hAdamAWInIdeal : Cert.AdamAWInIdeal.Facts] [hAdamAWInRefIdeal : Cert.AdamAWInRefIdeal.Facts] : Prop :=
  ∀ (m : (ℓ : Loc Cert.AdamAWInIdeal.nD Cert.AdamAWInIdeal.τ Cert.AdamAWInIdeal.sig) → Buf (Elt Ideal) ℓ) (g : Dev Cert.AdamAWInIdeal.nD → PrngReg)
    (m' : (ℓ : Loc Cert.AdamAWInRefIdeal.nD Cert.AdamAWInRefIdeal.τ Cert.AdamAWInRefIdeal.sig) → Buf (Elt Ideal) ℓ) (g' : Dev Cert.AdamAWInRefIdeal.nD → PrngReg), Pre_AdamAWInIdeal m →
    (∀ c : Dev Cert.AdamAWInIdeal.nD,
      m' ((c.tc : Thread Cert.AdamAWInRefIdeal.nD Cert.AdamAWInRefIdeal.τ).loc Cert.AdamAWInRefIdeal.main_arg0) = m ((c.tc : Thread Cert.AdamAWInIdeal.nD Cert.AdamAWInIdeal.τ).loc Cert.AdamAWInIdeal.main_arg0)
      ∧ m' ((c.tc : Thread Cert.AdamAWInRefIdeal.nD Cert.AdamAWInRefIdeal.τ).loc Cert.AdamAWInRefIdeal.main_arg1) = m ((c.tc : Thread Cert.AdamAWInIdeal.nD Cert.AdamAWInIdeal.τ).loc Cert.AdamAWInIdeal.main_arg1)
      ∧ m' ((c.tc : Thread Cert.AdamAWInRefIdeal.nD Cert.AdamAWInRefIdeal.τ).loc Cert.AdamAWInRefIdeal.main_arg2) = m ((c.tc : Thread Cert.AdamAWInIdeal.nD Cert.AdamAWInIdeal.τ).loc Cert.AdamAWInIdeal.main_arg2)
      ∧ m' ((c.tc : Thread Cert.AdamAWInRefIdeal.nD Cert.AdamAWInRefIdeal.τ).loc Cert.AdamAWInRefIdeal.main_arg3) = m ((c.tc : Thread Cert.AdamAWInIdeal.nD Cert.AdamAWInIdeal.τ).loc Cert.AdamAWInIdeal.main_arg3)) →
    ∃ (v0 : (c : Dev Cert.AdamAWInIdeal.nD) → Buf (Elt Ideal) ((c.tc : Thread Cert.AdamAWInIdeal.nD Cert.AdamAWInIdeal.τ).loc Cert.AdamAWInIdeal.main_v5_0)) (v1 : (c : Dev Cert.AdamAWInIdeal.nD) → Buf (Elt Ideal) ((c.tc : Thread Cert.AdamAWInIdeal.nD Cert.AdamAWInIdeal.τ).loc Cert.AdamAWInIdeal.main_v5_1)) (v2 : (c : Dev Cert.AdamAWInIdeal.nD) → Buf (Elt Ideal) ((c.tc : Thread Cert.AdamAWInIdeal.nD Cert.AdamAWInIdeal.τ).loc Cert.AdamAWInIdeal.main_v5_2)),
      θ_run (Cert.AdamAWInIdeal.defs (F := Ideal)) (onTc (τ := Cert.AdamAWInIdeal.τ) (Cert.AdamAWInIdeal.main (F := Ideal))) ⟨m, fun _ => 0, g⟩ (fun r => ∀ c : Dev Cert.AdamAWInIdeal.nD,
          r.2.mem ((c.tc : Thread Cert.AdamAWInIdeal.nD Cert.AdamAWInIdeal.τ).loc Cert.AdamAWInIdeal.main_v5_0) = v0 c
          ∧ r.2.mem ((c.tc : Thread Cert.AdamAWInIdeal.nD Cert.AdamAWInIdeal.τ).loc Cert.AdamAWInIdeal.main_v5_1) = v1 c
          ∧ r.2.mem ((c.tc : Thread Cert.AdamAWInIdeal.nD Cert.AdamAWInIdeal.τ).loc Cert.AdamAWInIdeal.main_v5_2) = v2 c
          ∧ r.2.mem ((c.tc : Thread Cert.AdamAWInIdeal.nD Cert.AdamAWInIdeal.τ).loc Cert.AdamAWInIdeal.main_arg0) = m ((c.tc : Thread Cert.AdamAWInIdeal.nD Cert.AdamAWInIdeal.τ).loc Cert.AdamAWInIdeal.main_arg0)
          ∧ r.2.mem ((c.tc : Thread Cert.AdamAWInIdeal.nD Cert.AdamAWInIdeal.τ).loc Cert.AdamAWInIdeal.main_arg1) = m ((c.tc : Thread Cert.AdamAWInIdeal.nD Cert.AdamAWInIdeal.τ).loc Cert.AdamAWInIdeal.main_arg1)
          ∧ r.2.mem ((c.tc : Thread Cert.AdamAWInIdeal.nD Cert.AdamAWInIdeal.τ).loc Cert.AdamAWInIdeal.main_arg2) = m ((c.tc : Thread Cert.AdamAWInIdeal.nD Cert.AdamAWInIdeal.τ).loc Cert.AdamAWInIdeal.main_arg2)
          ∧ r.2.mem ((c.tc : Thread Cert.AdamAWInIdeal.nD Cert.AdamAWInIdeal.τ).loc Cert.AdamAWInIdeal.main_arg3) = m ((c.tc : Thread Cert.AdamAWInIdeal.nD Cert.AdamAWInIdeal.τ).loc Cert.AdamAWInIdeal.main_arg3))
      ∧ θ_run (Cert.AdamAWInRefIdeal.defs (F := Ideal)) (onTc (τ := Cert.AdamAWInRefIdeal.τ) (Cert.AdamAWInRefIdeal.main (F := Ideal))) ⟨m', fun _ => 0, g'⟩ (fun r => ∀ c : Dev Cert.AdamAWInRefIdeal.nD,
          r.2.mem ((c.tc : Thread Cert.AdamAWInRefIdeal.nD Cert.AdamAWInRefIdeal.τ).loc Cert.AdamAWInRefIdeal.main_v24) = v0 c
          ∧ r.2.mem ((c.tc : Thread Cert.AdamAWInRefIdeal.nD Cert.AdamAWInRefIdeal.τ).loc Cert.AdamAWInRefIdeal.main_v25) = v1 c
          ∧ r.2.mem ((c.tc : Thread Cert.AdamAWInRefIdeal.nD Cert.AdamAWInRefIdeal.τ).loc Cert.AdamAWInRefIdeal.main_v26) = v2 c
          ∧ r.2.mem ((c.tc : Thread Cert.AdamAWInRefIdeal.nD Cert.AdamAWInRefIdeal.τ).loc Cert.AdamAWInRefIdeal.main_arg0) = m' ((c.tc : Thread Cert.AdamAWInRefIdeal.nD Cert.AdamAWInRefIdeal.τ).loc Cert.AdamAWInRefIdeal.main_arg0)
          ∧ r.2.mem ((c.tc : Thread Cert.AdamAWInRefIdeal.nD Cert.AdamAWInRefIdeal.τ).loc Cert.AdamAWInRefIdeal.main_arg1) = m' ((c.tc : Thread Cert.AdamAWInRefIdeal.nD Cert.AdamAWInRefIdeal.τ).loc Cert.AdamAWInRefIdeal.main_arg1)
          ∧ r.2.mem ((c.tc : Thread Cert.AdamAWInRefIdeal.nD Cert.AdamAWInRefIdeal.τ).loc Cert.AdamAWInRefIdeal.main_arg2) = m' ((c.tc : Thread Cert.AdamAWInRefIdeal.nD Cert.AdamAWInRefIdeal.τ).loc Cert.AdamAWInRefIdeal.main_arg2)
          ∧ r.2.mem ((c.tc : Thread Cert.AdamAWInRefIdeal.nD Cert.AdamAWInRefIdeal.τ).loc Cert.AdamAWInRefIdeal.main_arg3) = m' ((c.tc : Thread Cert.AdamAWInRefIdeal.nD Cert.AdamAWInRefIdeal.τ).loc Cert.AdamAWInRefIdeal.main_arg3))

def preserves_AdamAConvW_AdamAConvWIdeal : Prop :=
  True

def algebraic_AdamAConvWIdeal_AdamAConvWRefIdeal [hAdamAConvWIdeal : Cert.AdamAConvWIdeal.Facts] [hAdamAConvWRefIdeal : Cert.AdamAConvWRefIdeal.Facts] : Prop :=
  ∀ (m : (ℓ : Loc Cert.AdamAConvWIdeal.nD Cert.AdamAConvWIdeal.τ Cert.AdamAConvWIdeal.sig) → Buf (Elt Ideal) ℓ) (g : Dev Cert.AdamAConvWIdeal.nD → PrngReg)
    (m' : (ℓ : Loc Cert.AdamAConvWRefIdeal.nD Cert.AdamAConvWRefIdeal.τ Cert.AdamAConvWRefIdeal.sig) → Buf (Elt Ideal) ℓ) (g' : Dev Cert.AdamAConvWRefIdeal.nD → PrngReg), Pre_AdamAConvWIdeal m →
    (∀ c : Dev Cert.AdamAConvWIdeal.nD,
      m' ((c.tc : Thread Cert.AdamAConvWRefIdeal.nD Cert.AdamAConvWRefIdeal.τ).loc Cert.AdamAConvWRefIdeal.main_arg0) = m ((c.tc : Thread Cert.AdamAConvWIdeal.nD Cert.AdamAConvWIdeal.τ).loc Cert.AdamAConvWIdeal.main_arg0)
      ∧ m' ((c.tc : Thread Cert.AdamAConvWRefIdeal.nD Cert.AdamAConvWRefIdeal.τ).loc Cert.AdamAConvWRefIdeal.main_arg1) = m ((c.tc : Thread Cert.AdamAConvWIdeal.nD Cert.AdamAConvWIdeal.τ).loc Cert.AdamAConvWIdeal.main_arg1)
      ∧ m' ((c.tc : Thread Cert.AdamAConvWRefIdeal.nD Cert.AdamAConvWRefIdeal.τ).loc Cert.AdamAConvWRefIdeal.main_arg2) = m ((c.tc : Thread Cert.AdamAConvWIdeal.nD Cert.AdamAConvWIdeal.τ).loc Cert.AdamAConvWIdeal.main_arg2)
      ∧ m' ((c.tc : Thread Cert.AdamAConvWRefIdeal.nD Cert.AdamAConvWRefIdeal.τ).loc Cert.AdamAConvWRefIdeal.main_arg3) = m ((c.tc : Thread Cert.AdamAConvWIdeal.nD Cert.AdamAConvWIdeal.τ).loc Cert.AdamAConvWIdeal.main_arg3)) →
    ∃ (v0 : (c : Dev Cert.AdamAConvWIdeal.nD) → Buf (Elt Ideal) ((c.tc : Thread Cert.AdamAConvWIdeal.nD Cert.AdamAConvWIdeal.τ).loc Cert.AdamAConvWIdeal.main_v5_0)) (v1 : (c : Dev Cert.AdamAConvWIdeal.nD) → Buf (Elt Ideal) ((c.tc : Thread Cert.AdamAConvWIdeal.nD Cert.AdamAConvWIdeal.τ).loc Cert.AdamAConvWIdeal.main_v5_1)) (v2 : (c : Dev Cert.AdamAConvWIdeal.nD) → Buf (Elt Ideal) ((c.tc : Thread Cert.AdamAConvWIdeal.nD Cert.AdamAConvWIdeal.τ).loc Cert.AdamAConvWIdeal.main_v5_2)),
      θ_run (Cert.AdamAConvWIdeal.defs (F := Ideal)) (onTc (τ := Cert.AdamAConvWIdeal.τ) (Cert.AdamAConvWIdeal.main (F := Ideal))) ⟨m, fun _ => 0, g⟩ (fun r => ∀ c : Dev Cert.AdamAConvWIdeal.nD,
          r.2.mem ((c.tc : Thread Cert.AdamAConvWIdeal.nD Cert.AdamAConvWIdeal.τ).loc Cert.AdamAConvWIdeal.main_v5_0) = v0 c
          ∧ r.2.mem ((c.tc : Thread Cert.AdamAConvWIdeal.nD Cert.AdamAConvWIdeal.τ).loc Cert.AdamAConvWIdeal.main_v5_1) = v1 c
          ∧ r.2.mem ((c.tc : Thread Cert.AdamAConvWIdeal.nD Cert.AdamAConvWIdeal.τ).loc Cert.AdamAConvWIdeal.main_v5_2) = v2 c
          ∧ r.2.mem ((c.tc : Thread Cert.AdamAConvWIdeal.nD Cert.AdamAConvWIdeal.τ).loc Cert.AdamAConvWIdeal.main_arg0) = m ((c.tc : Thread Cert.AdamAConvWIdeal.nD Cert.AdamAConvWIdeal.τ).loc Cert.AdamAConvWIdeal.main_arg0)
          ∧ r.2.mem ((c.tc : Thread Cert.AdamAConvWIdeal.nD Cert.AdamAConvWIdeal.τ).loc Cert.AdamAConvWIdeal.main_arg1) = m ((c.tc : Thread Cert.AdamAConvWIdeal.nD Cert.AdamAConvWIdeal.τ).loc Cert.AdamAConvWIdeal.main_arg1)
          ∧ r.2.mem ((c.tc : Thread Cert.AdamAConvWIdeal.nD Cert.AdamAConvWIdeal.τ).loc Cert.AdamAConvWIdeal.main_arg2) = m ((c.tc : Thread Cert.AdamAConvWIdeal.nD Cert.AdamAConvWIdeal.τ).loc Cert.AdamAConvWIdeal.main_arg2)
          ∧ r.2.mem ((c.tc : Thread Cert.AdamAConvWIdeal.nD Cert.AdamAConvWIdeal.τ).loc Cert.AdamAConvWIdeal.main_arg3) = m ((c.tc : Thread Cert.AdamAConvWIdeal.nD Cert.AdamAConvWIdeal.τ).loc Cert.AdamAConvWIdeal.main_arg3))
      ∧ θ_run (Cert.AdamAConvWRefIdeal.defs (F := Ideal)) (onTc (τ := Cert.AdamAConvWRefIdeal.τ) (Cert.AdamAConvWRefIdeal.main (F := Ideal))) ⟨m', fun _ => 0, g'⟩ (fun r => ∀ c : Dev Cert.AdamAConvWRefIdeal.nD,
          r.2.mem ((c.tc : Thread Cert.AdamAConvWRefIdeal.nD Cert.AdamAConvWRefIdeal.τ).loc Cert.AdamAConvWRefIdeal.main_v24) = v0 c
          ∧ r.2.mem ((c.tc : Thread Cert.AdamAConvWRefIdeal.nD Cert.AdamAConvWRefIdeal.τ).loc Cert.AdamAConvWRefIdeal.main_v25) = v1 c
          ∧ r.2.mem ((c.tc : Thread Cert.AdamAConvWRefIdeal.nD Cert.AdamAConvWRefIdeal.τ).loc Cert.AdamAConvWRefIdeal.main_v26) = v2 c
          ∧ r.2.mem ((c.tc : Thread Cert.AdamAConvWRefIdeal.nD Cert.AdamAConvWRefIdeal.τ).loc Cert.AdamAConvWRefIdeal.main_arg0) = m' ((c.tc : Thread Cert.AdamAConvWRefIdeal.nD Cert.AdamAConvWRefIdeal.τ).loc Cert.AdamAConvWRefIdeal.main_arg0)
          ∧ r.2.mem ((c.tc : Thread Cert.AdamAConvWRefIdeal.nD Cert.AdamAConvWRefIdeal.τ).loc Cert.AdamAConvWRefIdeal.main_arg1) = m' ((c.tc : Thread Cert.AdamAConvWRefIdeal.nD Cert.AdamAConvWRefIdeal.τ).loc Cert.AdamAConvWRefIdeal.main_arg1)
          ∧ r.2.mem ((c.tc : Thread Cert.AdamAConvWRefIdeal.nD Cert.AdamAConvWRefIdeal.τ).loc Cert.AdamAConvWRefIdeal.main_arg2) = m' ((c.tc : Thread Cert.AdamAConvWRefIdeal.nD Cert.AdamAConvWRefIdeal.τ).loc Cert.AdamAConvWRefIdeal.main_arg2)
          ∧ r.2.mem ((c.tc : Thread Cert.AdamAConvWRefIdeal.nD Cert.AdamAConvWRefIdeal.τ).loc Cert.AdamAConvWRefIdeal.main_arg3) = m' ((c.tc : Thread Cert.AdamAConvWRefIdeal.nD Cert.AdamAConvWRefIdeal.τ).loc Cert.AdamAConvWRefIdeal.main_arg3))

def preserves_AdamAALog_AdamAALogIdeal : Prop :=
  True

def algebraic_AdamAALogIdeal_AdamAALogRefIdeal [hAdamAALogIdeal : Cert.AdamAALogIdeal.Facts] [hAdamAALogRefIdeal : Cert.AdamAALogRefIdeal.Facts] : Prop :=
  ∀ (m : (ℓ : Loc Cert.AdamAALogIdeal.nD Cert.AdamAALogIdeal.τ Cert.AdamAALogIdeal.sig) → Buf (Elt Ideal) ℓ) (g : Dev Cert.AdamAALogIdeal.nD → PrngReg)
    (m' : (ℓ : Loc Cert.AdamAALogRefIdeal.nD Cert.AdamAALogRefIdeal.τ Cert.AdamAALogRefIdeal.sig) → Buf (Elt Ideal) ℓ) (g' : Dev Cert.AdamAALogRefIdeal.nD → PrngReg), Pre_AdamAALogIdeal m →
    (∀ c : Dev Cert.AdamAALogIdeal.nD,
      m' ((c.tc : Thread Cert.AdamAALogRefIdeal.nD Cert.AdamAALogRefIdeal.τ).loc Cert.AdamAALogRefIdeal.main_arg0) = m ((c.tc : Thread Cert.AdamAALogIdeal.nD Cert.AdamAALogIdeal.τ).loc Cert.AdamAALogIdeal.main_arg0)
      ∧ m' ((c.tc : Thread Cert.AdamAALogRefIdeal.nD Cert.AdamAALogRefIdeal.τ).loc Cert.AdamAALogRefIdeal.main_arg1) = m ((c.tc : Thread Cert.AdamAALogIdeal.nD Cert.AdamAALogIdeal.τ).loc Cert.AdamAALogIdeal.main_arg1)
      ∧ m' ((c.tc : Thread Cert.AdamAALogRefIdeal.nD Cert.AdamAALogRefIdeal.τ).loc Cert.AdamAALogRefIdeal.main_arg2) = m ((c.tc : Thread Cert.AdamAALogIdeal.nD Cert.AdamAALogIdeal.τ).loc Cert.AdamAALogIdeal.main_arg2)
      ∧ m' ((c.tc : Thread Cert.AdamAALogRefIdeal.nD Cert.AdamAALogRefIdeal.τ).loc Cert.AdamAALogRefIdeal.main_arg3) = m ((c.tc : Thread Cert.AdamAALogIdeal.nD Cert.AdamAALogIdeal.τ).loc Cert.AdamAALogIdeal.main_arg3)) →
    ∃ (v0 : (c : Dev Cert.AdamAALogIdeal.nD) → Buf (Elt Ideal) ((c.tc : Thread Cert.AdamAALogIdeal.nD Cert.AdamAALogIdeal.τ).loc Cert.AdamAALogIdeal.main_v0_0)) (v1 : (c : Dev Cert.AdamAALogIdeal.nD) → Buf (Elt Ideal) ((c.tc : Thread Cert.AdamAALogIdeal.nD Cert.AdamAALogIdeal.τ).loc Cert.AdamAALogIdeal.main_v0_1)) (v2 : (c : Dev Cert.AdamAALogIdeal.nD) → Buf (Elt Ideal) ((c.tc : Thread Cert.AdamAALogIdeal.nD Cert.AdamAALogIdeal.τ).loc Cert.AdamAALogIdeal.main_v0_2)),
      θ_run (Cert.AdamAALogIdeal.defs (F := Ideal)) (onTc (τ := Cert.AdamAALogIdeal.τ) (Cert.AdamAALogIdeal.main (F := Ideal))) ⟨m, fun _ => 0, g⟩ (fun r => ∀ c : Dev Cert.AdamAALogIdeal.nD,
          r.2.mem ((c.tc : Thread Cert.AdamAALogIdeal.nD Cert.AdamAALogIdeal.τ).loc Cert.AdamAALogIdeal.main_v0_0) = v0 c
          ∧ r.2.mem ((c.tc : Thread Cert.AdamAALogIdeal.nD Cert.AdamAALogIdeal.τ).loc Cert.AdamAALogIdeal.main_v0_1) = v1 c
          ∧ r.2.mem ((c.tc : Thread Cert.AdamAALogIdeal.nD Cert.AdamAALogIdeal.τ).loc Cert.AdamAALogIdeal.main_v0_2) = v2 c
          ∧ r.2.mem ((c.tc : Thread Cert.AdamAALogIdeal.nD Cert.AdamAALogIdeal.τ).loc Cert.AdamAALogIdeal.main_arg0) = m ((c.tc : Thread Cert.AdamAALogIdeal.nD Cert.AdamAALogIdeal.τ).loc Cert.AdamAALogIdeal.main_arg0)
          ∧ r.2.mem ((c.tc : Thread Cert.AdamAALogIdeal.nD Cert.AdamAALogIdeal.τ).loc Cert.AdamAALogIdeal.main_arg1) = m ((c.tc : Thread Cert.AdamAALogIdeal.nD Cert.AdamAALogIdeal.τ).loc Cert.AdamAALogIdeal.main_arg1)
          ∧ r.2.mem ((c.tc : Thread Cert.AdamAALogIdeal.nD Cert.AdamAALogIdeal.τ).loc Cert.AdamAALogIdeal.main_arg2) = m ((c.tc : Thread Cert.AdamAALogIdeal.nD Cert.AdamAALogIdeal.τ).loc Cert.AdamAALogIdeal.main_arg2)
          ∧ r.2.mem ((c.tc : Thread Cert.AdamAALogIdeal.nD Cert.AdamAALogIdeal.τ).loc Cert.AdamAALogIdeal.main_arg3) = m ((c.tc : Thread Cert.AdamAALogIdeal.nD Cert.AdamAALogIdeal.τ).loc Cert.AdamAALogIdeal.main_arg3))
      ∧ θ_run (Cert.AdamAALogRefIdeal.defs (F := Ideal)) (onTc (τ := Cert.AdamAALogRefIdeal.τ) (Cert.AdamAALogRefIdeal.main (F := Ideal))) ⟨m', fun _ => 0, g'⟩ (fun r => ∀ c : Dev Cert.AdamAALogRefIdeal.nD,
          r.2.mem ((c.tc : Thread Cert.AdamAALogRefIdeal.nD Cert.AdamAALogRefIdeal.τ).loc Cert.AdamAALogRefIdeal.main_v23) = v0 c
          ∧ r.2.mem ((c.tc : Thread Cert.AdamAALogRefIdeal.nD Cert.AdamAALogRefIdeal.τ).loc Cert.AdamAALogRefIdeal.main_v4) = v1 c
          ∧ r.2.mem ((c.tc : Thread Cert.AdamAALogRefIdeal.nD Cert.AdamAALogRefIdeal.τ).loc Cert.AdamAALogRefIdeal.main_v10) = v2 c
          ∧ r.2.mem ((c.tc : Thread Cert.AdamAALogRefIdeal.nD Cert.AdamAALogRefIdeal.τ).loc Cert.AdamAALogRefIdeal.main_arg0) = m' ((c.tc : Thread Cert.AdamAALogRefIdeal.nD Cert.AdamAALogRefIdeal.τ).loc Cert.AdamAALogRefIdeal.main_arg0)
          ∧ r.2.mem ((c.tc : Thread Cert.AdamAALogRefIdeal.nD Cert.AdamAALogRefIdeal.τ).loc Cert.AdamAALogRefIdeal.main_arg1) = m' ((c.tc : Thread Cert.AdamAALogRefIdeal.nD Cert.AdamAALogRefIdeal.τ).loc Cert.AdamAALogRefIdeal.main_arg1)
          ∧ r.2.mem ((c.tc : Thread Cert.AdamAALogRefIdeal.nD Cert.AdamAALogRefIdeal.τ).loc Cert.AdamAALogRefIdeal.main_arg2) = m' ((c.tc : Thread Cert.AdamAALogRefIdeal.nD Cert.AdamAALogRefIdeal.τ).loc Cert.AdamAALogRefIdeal.main_arg2)
          ∧ r.2.mem ((c.tc : Thread Cert.AdamAALogRefIdeal.nD Cert.AdamAALogRefIdeal.τ).loc Cert.AdamAALogRefIdeal.main_arg3) = m' ((c.tc : Thread Cert.AdamAALogRefIdeal.nD Cert.AdamAALogRefIdeal.τ).loc Cert.AdamAALogRefIdeal.main_arg3))

def preserves_AdamANormW_AdamANormWIdeal : Prop :=
  True

def algebraic_AdamANormWIdeal_AdamANormWRefIdeal [hAdamANormWIdeal : Cert.AdamANormWIdeal.Facts] [hAdamANormWRefIdeal : Cert.AdamANormWRefIdeal.Facts] : Prop :=
  ∀ (m : (ℓ : Loc Cert.AdamANormWIdeal.nD Cert.AdamANormWIdeal.τ Cert.AdamANormWIdeal.sig) → Buf (Elt Ideal) ℓ) (g : Dev Cert.AdamANormWIdeal.nD → PrngReg)
    (m' : (ℓ : Loc Cert.AdamANormWRefIdeal.nD Cert.AdamANormWRefIdeal.τ Cert.AdamANormWRefIdeal.sig) → Buf (Elt Ideal) ℓ) (g' : Dev Cert.AdamANormWRefIdeal.nD → PrngReg), Pre_AdamANormWIdeal m →
    (∀ c : Dev Cert.AdamANormWIdeal.nD,
      m' ((c.tc : Thread Cert.AdamANormWRefIdeal.nD Cert.AdamANormWRefIdeal.τ).loc Cert.AdamANormWRefIdeal.main_arg0) = m ((c.tc : Thread Cert.AdamANormWIdeal.nD Cert.AdamANormWIdeal.τ).loc Cert.AdamANormWIdeal.main_arg0)
      ∧ m' ((c.tc : Thread Cert.AdamANormWRefIdeal.nD Cert.AdamANormWRefIdeal.τ).loc Cert.AdamANormWRefIdeal.main_arg1) = m ((c.tc : Thread Cert.AdamANormWIdeal.nD Cert.AdamANormWIdeal.τ).loc Cert.AdamANormWIdeal.main_arg1)
      ∧ m' ((c.tc : Thread Cert.AdamANormWRefIdeal.nD Cert.AdamANormWRefIdeal.τ).loc Cert.AdamANormWRefIdeal.main_arg2) = m ((c.tc : Thread Cert.AdamANormWIdeal.nD Cert.AdamANormWIdeal.τ).loc Cert.AdamANormWIdeal.main_arg2)
      ∧ m' ((c.tc : Thread Cert.AdamANormWRefIdeal.nD Cert.AdamANormWRefIdeal.τ).loc Cert.AdamANormWRefIdeal.main_arg3) = m ((c.tc : Thread Cert.AdamANormWIdeal.nD Cert.AdamANormWIdeal.τ).loc Cert.AdamANormWIdeal.main_arg3)) →
    ∃ (v0 : (c : Dev Cert.AdamANormWIdeal.nD) → Buf (Elt Ideal) ((c.tc : Thread Cert.AdamANormWIdeal.nD Cert.AdamANormWIdeal.τ).loc Cert.AdamANormWIdeal.main_v0_0)) (v1 : (c : Dev Cert.AdamANormWIdeal.nD) → Buf (Elt Ideal) ((c.tc : Thread Cert.AdamANormWIdeal.nD Cert.AdamANormWIdeal.τ).loc Cert.AdamANormWIdeal.main_v0_1)) (v2 : (c : Dev Cert.AdamANormWIdeal.nD) → Buf (Elt Ideal) ((c.tc : Thread Cert.AdamANormWIdeal.nD Cert.AdamANormWIdeal.τ).loc Cert.AdamANormWIdeal.main_v0_2)),
      θ_run (Cert.AdamANormWIdeal.defs (F := Ideal)) (onTc (τ := Cert.AdamANormWIdeal.τ) (Cert.AdamANormWIdeal.main (F := Ideal))) ⟨m, fun _ => 0, g⟩ (fun r => ∀ c : Dev Cert.AdamANormWIdeal.nD,
          r.2.mem ((c.tc : Thread Cert.AdamANormWIdeal.nD Cert.AdamANormWIdeal.τ).loc Cert.AdamANormWIdeal.main_v0_0) = v0 c
          ∧ r.2.mem ((c.tc : Thread Cert.AdamANormWIdeal.nD Cert.AdamANormWIdeal.τ).loc Cert.AdamANormWIdeal.main_v0_1) = v1 c
          ∧ r.2.mem ((c.tc : Thread Cert.AdamANormWIdeal.nD Cert.AdamANormWIdeal.τ).loc Cert.AdamANormWIdeal.main_v0_2) = v2 c
          ∧ r.2.mem ((c.tc : Thread Cert.AdamANormWIdeal.nD Cert.AdamANormWIdeal.τ).loc Cert.AdamANormWIdeal.main_arg0) = m ((c.tc : Thread Cert.AdamANormWIdeal.nD Cert.AdamANormWIdeal.τ).loc Cert.AdamANormWIdeal.main_arg0)
          ∧ r.2.mem ((c.tc : Thread Cert.AdamANormWIdeal.nD Cert.AdamANormWIdeal.τ).loc Cert.AdamANormWIdeal.main_arg1) = m ((c.tc : Thread Cert.AdamANormWIdeal.nD Cert.AdamANormWIdeal.τ).loc Cert.AdamANormWIdeal.main_arg1)
          ∧ r.2.mem ((c.tc : Thread Cert.AdamANormWIdeal.nD Cert.AdamANormWIdeal.τ).loc Cert.AdamANormWIdeal.main_arg2) = m ((c.tc : Thread Cert.AdamANormWIdeal.nD Cert.AdamANormWIdeal.τ).loc Cert.AdamANormWIdeal.main_arg2)
          ∧ r.2.mem ((c.tc : Thread Cert.AdamANormWIdeal.nD Cert.AdamANormWIdeal.τ).loc Cert.AdamANormWIdeal.main_arg3) = m ((c.tc : Thread Cert.AdamANormWIdeal.nD Cert.AdamANormWIdeal.τ).loc Cert.AdamANormWIdeal.main_arg3))
      ∧ θ_run (Cert.AdamANormWRefIdeal.defs (F := Ideal)) (onTc (τ := Cert.AdamANormWRefIdeal.τ) (Cert.AdamANormWRefIdeal.main (F := Ideal))) ⟨m', fun _ => 0, g'⟩ (fun r => ∀ c : Dev Cert.AdamANormWRefIdeal.nD,
          r.2.mem ((c.tc : Thread Cert.AdamANormWRefIdeal.nD Cert.AdamANormWRefIdeal.τ).loc Cert.AdamANormWRefIdeal.main_v23) = v0 c
          ∧ r.2.mem ((c.tc : Thread Cert.AdamANormWRefIdeal.nD Cert.AdamANormWRefIdeal.τ).loc Cert.AdamANormWRefIdeal.main_v4) = v1 c
          ∧ r.2.mem ((c.tc : Thread Cert.AdamANormWRefIdeal.nD Cert.AdamANormWRefIdeal.τ).loc Cert.AdamANormWRefIdeal.main_v10) = v2 c
          ∧ r.2.mem ((c.tc : Thread Cert.AdamANormWRefIdeal.nD Cert.AdamANormWRefIdeal.τ).loc Cert.AdamANormWRefIdeal.main_arg0) = m' ((c.tc : Thread Cert.AdamANormWRefIdeal.nD Cert.AdamANormWRefIdeal.τ).loc Cert.AdamANormWRefIdeal.main_arg0)
          ∧ r.2.mem ((c.tc : Thread Cert.AdamANormWRefIdeal.nD Cert.AdamANormWRefIdeal.τ).loc Cert.AdamANormWRefIdeal.main_arg1) = m' ((c.tc : Thread Cert.AdamANormWRefIdeal.nD Cert.AdamANormWRefIdeal.τ).loc Cert.AdamANormWRefIdeal.main_arg1)
          ∧ r.2.mem ((c.tc : Thread Cert.AdamANormWRefIdeal.nD Cert.AdamANormWRefIdeal.τ).loc Cert.AdamANormWRefIdeal.main_arg2) = m' ((c.tc : Thread Cert.AdamANormWRefIdeal.nD Cert.AdamANormWRefIdeal.τ).loc Cert.AdamANormWRefIdeal.main_arg2)
          ∧ r.2.mem ((c.tc : Thread Cert.AdamANormWRefIdeal.nD Cert.AdamANormWRefIdeal.τ).loc Cert.AdamANormWRefIdeal.main_arg3) = m' ((c.tc : Thread Cert.AdamANormWRefIdeal.nD Cert.AdamANormWRefIdeal.τ).loc Cert.AdamANormWRefIdeal.main_arg3))

def preserves_AdamAWOut_AdamAWOutIdeal : Prop :=
  True

def algebraic_AdamAWOutIdeal_AdamAWOutRefIdeal [hAdamAWOutIdeal : Cert.AdamAWOutIdeal.Facts] [hAdamAWOutRefIdeal : Cert.AdamAWOutRefIdeal.Facts] : Prop :=
  ∀ (m : (ℓ : Loc Cert.AdamAWOutIdeal.nD Cert.AdamAWOutIdeal.τ Cert.AdamAWOutIdeal.sig) → Buf (Elt Ideal) ℓ) (g : Dev Cert.AdamAWOutIdeal.nD → PrngReg)
    (m' : (ℓ : Loc Cert.AdamAWOutRefIdeal.nD Cert.AdamAWOutRefIdeal.τ Cert.AdamAWOutRefIdeal.sig) → Buf (Elt Ideal) ℓ) (g' : Dev Cert.AdamAWOutRefIdeal.nD → PrngReg), Pre_AdamAWOutIdeal m →
    (∀ c : Dev Cert.AdamAWOutIdeal.nD,
      m' ((c.tc : Thread Cert.AdamAWOutRefIdeal.nD Cert.AdamAWOutRefIdeal.τ).loc Cert.AdamAWOutRefIdeal.main_arg0) = m ((c.tc : Thread Cert.AdamAWOutIdeal.nD Cert.AdamAWOutIdeal.τ).loc Cert.AdamAWOutIdeal.main_arg0)
      ∧ m' ((c.tc : Thread Cert.AdamAWOutRefIdeal.nD Cert.AdamAWOutRefIdeal.τ).loc Cert.AdamAWOutRefIdeal.main_arg1) = m ((c.tc : Thread Cert.AdamAWOutIdeal.nD Cert.AdamAWOutIdeal.τ).loc Cert.AdamAWOutIdeal.main_arg1)
      ∧ m' ((c.tc : Thread Cert.AdamAWOutRefIdeal.nD Cert.AdamAWOutRefIdeal.τ).loc Cert.AdamAWOutRefIdeal.main_arg2) = m ((c.tc : Thread Cert.AdamAWOutIdeal.nD Cert.AdamAWOutIdeal.τ).loc Cert.AdamAWOutIdeal.main_arg2)
      ∧ m' ((c.tc : Thread Cert.AdamAWOutRefIdeal.nD Cert.AdamAWOutRefIdeal.τ).loc Cert.AdamAWOutRefIdeal.main_arg3) = m ((c.tc : Thread Cert.AdamAWOutIdeal.nD Cert.AdamAWOutIdeal.τ).loc Cert.AdamAWOutIdeal.main_arg3)) →
    ∃ (v0 : (c : Dev Cert.AdamAWOutIdeal.nD) → Buf (Elt Ideal) ((c.tc : Thread Cert.AdamAWOutIdeal.nD Cert.AdamAWOutIdeal.τ).loc Cert.AdamAWOutIdeal.main_v5_0)) (v1 : (c : Dev Cert.AdamAWOutIdeal.nD) → Buf (Elt Ideal) ((c.tc : Thread Cert.AdamAWOutIdeal.nD Cert.AdamAWOutIdeal.τ).loc Cert.AdamAWOutIdeal.main_v5_1)) (v2 : (c : Dev Cert.AdamAWOutIdeal.nD) → Buf (Elt Ideal) ((c.tc : Thread Cert.AdamAWOutIdeal.nD Cert.AdamAWOutIdeal.τ).loc Cert.AdamAWOutIdeal.main_v5_2)),
      θ_run (Cert.AdamAWOutIdeal.defs (F := Ideal)) (onTc (τ := Cert.AdamAWOutIdeal.τ) (Cert.AdamAWOutIdeal.main (F := Ideal))) ⟨m, fun _ => 0, g⟩ (fun r => ∀ c : Dev Cert.AdamAWOutIdeal.nD,
          r.2.mem ((c.tc : Thread Cert.AdamAWOutIdeal.nD Cert.AdamAWOutIdeal.τ).loc Cert.AdamAWOutIdeal.main_v5_0) = v0 c
          ∧ r.2.mem ((c.tc : Thread Cert.AdamAWOutIdeal.nD Cert.AdamAWOutIdeal.τ).loc Cert.AdamAWOutIdeal.main_v5_1) = v1 c
          ∧ r.2.mem ((c.tc : Thread Cert.AdamAWOutIdeal.nD Cert.AdamAWOutIdeal.τ).loc Cert.AdamAWOutIdeal.main_v5_2) = v2 c
          ∧ r.2.mem ((c.tc : Thread Cert.AdamAWOutIdeal.nD Cert.AdamAWOutIdeal.τ).loc Cert.AdamAWOutIdeal.main_arg0) = m ((c.tc : Thread Cert.AdamAWOutIdeal.nD Cert.AdamAWOutIdeal.τ).loc Cert.AdamAWOutIdeal.main_arg0)
          ∧ r.2.mem ((c.tc : Thread Cert.AdamAWOutIdeal.nD Cert.AdamAWOutIdeal.τ).loc Cert.AdamAWOutIdeal.main_arg1) = m ((c.tc : Thread Cert.AdamAWOutIdeal.nD Cert.AdamAWOutIdeal.τ).loc Cert.AdamAWOutIdeal.main_arg1)
          ∧ r.2.mem ((c.tc : Thread Cert.AdamAWOutIdeal.nD Cert.AdamAWOutIdeal.τ).loc Cert.AdamAWOutIdeal.main_arg2) = m ((c.tc : Thread Cert.AdamAWOutIdeal.nD Cert.AdamAWOutIdeal.τ).loc Cert.AdamAWOutIdeal.main_arg2)
          ∧ r.2.mem ((c.tc : Thread Cert.AdamAWOutIdeal.nD Cert.AdamAWOutIdeal.τ).loc Cert.AdamAWOutIdeal.main_arg3) = m ((c.tc : Thread Cert.AdamAWOutIdeal.nD Cert.AdamAWOutIdeal.τ).loc Cert.AdamAWOutIdeal.main_arg3))
      ∧ θ_run (Cert.AdamAWOutRefIdeal.defs (F := Ideal)) (onTc (τ := Cert.AdamAWOutRefIdeal.τ) (Cert.AdamAWOutRefIdeal.main (F := Ideal))) ⟨m', fun _ => 0, g'⟩ (fun r => ∀ c : Dev Cert.AdamAWOutRefIdeal.nD,
          r.2.mem ((c.tc : Thread Cert.AdamAWOutRefIdeal.nD Cert.AdamAWOutRefIdeal.τ).loc Cert.AdamAWOutRefIdeal.main_v24) = v0 c
          ∧ r.2.mem ((c.tc : Thread Cert.AdamAWOutRefIdeal.nD Cert.AdamAWOutRefIdeal.τ).loc Cert.AdamAWOutRefIdeal.main_v25) = v1 c
          ∧ r.2.mem ((c.tc : Thread Cert.AdamAWOutRefIdeal.nD Cert.AdamAWOutRefIdeal.τ).loc Cert.AdamAWOutRefIdeal.main_v26) = v2 c
          ∧ r.2.mem ((c.tc : Thread Cert.AdamAWOutRefIdeal.nD Cert.AdamAWOutRefIdeal.τ).loc Cert.AdamAWOutRefIdeal.main_arg0) = m' ((c.tc : Thread Cert.AdamAWOutRefIdeal.nD Cert.AdamAWOutRefIdeal.τ).loc Cert.AdamAWOutRefIdeal.main_arg0)
          ∧ r.2.mem ((c.tc : Thread Cert.AdamAWOutRefIdeal.nD Cert.AdamAWOutRefIdeal.τ).loc Cert.AdamAWOutRefIdeal.main_arg1) = m' ((c.tc : Thread Cert.AdamAWOutRefIdeal.nD Cert.AdamAWOutRefIdeal.τ).loc Cert.AdamAWOutRefIdeal.main_arg1)
          ∧ r.2.mem ((c.tc : Thread Cert.AdamAWOutRefIdeal.nD Cert.AdamAWOutRefIdeal.τ).loc Cert.AdamAWOutRefIdeal.main_arg2) = m' ((c.tc : Thread Cert.AdamAWOutRefIdeal.nD Cert.AdamAWOutRefIdeal.τ).loc Cert.AdamAWOutRefIdeal.main_arg2)
          ∧ r.2.mem ((c.tc : Thread Cert.AdamAWOutRefIdeal.nD Cert.AdamAWOutRefIdeal.τ).loc Cert.AdamAWOutRefIdeal.main_arg3) = m' ((c.tc : Thread Cert.AdamAWOutRefIdeal.nD Cert.AdamAWOutRefIdeal.τ).loc Cert.AdamAWOutRefIdeal.main_arg3))

def preserves_AdamBWIn_AdamBWInIdeal : Prop :=
  True

def algebraic_AdamBWInIdeal_AdamBWInRefIdeal [hAdamBWInIdeal : Cert.AdamBWInIdeal.Facts] [hAdamBWInRefIdeal : Cert.AdamBWInRefIdeal.Facts] : Prop :=
  ∀ (m : (ℓ : Loc Cert.AdamBWInIdeal.nD Cert.AdamBWInIdeal.τ Cert.AdamBWInIdeal.sig) → Buf (Elt Ideal) ℓ) (g : Dev Cert.AdamBWInIdeal.nD → PrngReg)
    (m' : (ℓ : Loc Cert.AdamBWInRefIdeal.nD Cert.AdamBWInRefIdeal.τ Cert.AdamBWInRefIdeal.sig) → Buf (Elt Ideal) ℓ) (g' : Dev Cert.AdamBWInRefIdeal.nD → PrngReg), Pre_AdamBWInIdeal m →
    (∀ c : Dev Cert.AdamBWInIdeal.nD,
      m' ((c.tc : Thread Cert.AdamBWInRefIdeal.nD Cert.AdamBWInRefIdeal.τ).loc Cert.AdamBWInRefIdeal.main_arg0) = m ((c.tc : Thread Cert.AdamBWInIdeal.nD Cert.AdamBWInIdeal.τ).loc Cert.AdamBWInIdeal.main_arg0)
      ∧ m' ((c.tc : Thread Cert.AdamBWInRefIdeal.nD Cert.AdamBWInRefIdeal.τ).loc Cert.AdamBWInRefIdeal.main_arg1) = m ((c.tc : Thread Cert.AdamBWInIdeal.nD Cert.AdamBWInIdeal.τ).loc Cert.AdamBWInIdeal.main_arg1)
      ∧ m' ((c.tc : Thread Cert.AdamBWInRefIdeal.nD Cert.AdamBWInRefIdeal.τ).loc Cert.AdamBWInRefIdeal.main_arg2) = m ((c.tc : Thread Cert.AdamBWInIdeal.nD Cert.AdamBWInIdeal.τ).loc Cert.AdamBWInIdeal.main_arg2)
      ∧ m' ((c.tc : Thread Cert.AdamBWInRefIdeal.nD Cert.AdamBWInRefIdeal.τ).loc Cert.AdamBWInRefIdeal.main_arg3) = m ((c.tc : Thread Cert.AdamBWInIdeal.nD Cert.AdamBWInIdeal.τ).loc Cert.AdamBWInIdeal.main_arg3)) →
    ∃ (v0 : (c : Dev Cert.AdamBWInIdeal.nD) → Buf (Elt Ideal) ((c.tc : Thread Cert.AdamBWInIdeal.nD Cert.AdamBWInIdeal.τ).loc Cert.AdamBWInIdeal.main_v5_0)) (v1 : (c : Dev Cert.AdamBWInIdeal.nD) → Buf (Elt Ideal) ((c.tc : Thread Cert.AdamBWInIdeal.nD Cert.AdamBWInIdeal.τ).loc Cert.AdamBWInIdeal.main_v5_1)) (v2 : (c : Dev Cert.AdamBWInIdeal.nD) → Buf (Elt Ideal) ((c.tc : Thread Cert.AdamBWInIdeal.nD Cert.AdamBWInIdeal.τ).loc Cert.AdamBWInIdeal.main_v5_2)),
      θ_run (Cert.AdamBWInIdeal.defs (F := Ideal)) (onTc (τ := Cert.AdamBWInIdeal.τ) (Cert.AdamBWInIdeal.main (F := Ideal))) ⟨m, fun _ => 0, g⟩ (fun r => ∀ c : Dev Cert.AdamBWInIdeal.nD,
          r.2.mem ((c.tc : Thread Cert.AdamBWInIdeal.nD Cert.AdamBWInIdeal.τ).loc Cert.AdamBWInIdeal.main_v5_0) = v0 c
          ∧ r.2.mem ((c.tc : Thread Cert.AdamBWInIdeal.nD Cert.AdamBWInIdeal.τ).loc Cert.AdamBWInIdeal.main_v5_1) = v1 c
          ∧ r.2.mem ((c.tc : Thread Cert.AdamBWInIdeal.nD Cert.AdamBWInIdeal.τ).loc Cert.AdamBWInIdeal.main_v5_2) = v2 c
          ∧ r.2.mem ((c.tc : Thread Cert.AdamBWInIdeal.nD Cert.AdamBWInIdeal.τ).loc Cert.AdamBWInIdeal.main_arg0) = m ((c.tc : Thread Cert.AdamBWInIdeal.nD Cert.AdamBWInIdeal.τ).loc Cert.AdamBWInIdeal.main_arg0)
          ∧ r.2.mem ((c.tc : Thread Cert.AdamBWInIdeal.nD Cert.AdamBWInIdeal.τ).loc Cert.AdamBWInIdeal.main_arg1) = m ((c.tc : Thread Cert.AdamBWInIdeal.nD Cert.AdamBWInIdeal.τ).loc Cert.AdamBWInIdeal.main_arg1)
          ∧ r.2.mem ((c.tc : Thread Cert.AdamBWInIdeal.nD Cert.AdamBWInIdeal.τ).loc Cert.AdamBWInIdeal.main_arg2) = m ((c.tc : Thread Cert.AdamBWInIdeal.nD Cert.AdamBWInIdeal.τ).loc Cert.AdamBWInIdeal.main_arg2)
          ∧ r.2.mem ((c.tc : Thread Cert.AdamBWInIdeal.nD Cert.AdamBWInIdeal.τ).loc Cert.AdamBWInIdeal.main_arg3) = m ((c.tc : Thread Cert.AdamBWInIdeal.nD Cert.AdamBWInIdeal.τ).loc Cert.AdamBWInIdeal.main_arg3))
      ∧ θ_run (Cert.AdamBWInRefIdeal.defs (F := Ideal)) (onTc (τ := Cert.AdamBWInRefIdeal.τ) (Cert.AdamBWInRefIdeal.main (F := Ideal))) ⟨m', fun _ => 0, g'⟩ (fun r => ∀ c : Dev Cert.AdamBWInRefIdeal.nD,
          r.2.mem ((c.tc : Thread Cert.AdamBWInRefIdeal.nD Cert.AdamBWInRefIdeal.τ).loc Cert.AdamBWInRefIdeal.main_v24) = v0 c
          ∧ r.2.mem ((c.tc : Thread Cert.AdamBWInRefIdeal.nD Cert.AdamBWInRefIdeal.τ).loc Cert.AdamBWInRefIdeal.main_v25) = v1 c
          ∧ r.2.mem ((c.tc : Thread Cert.AdamBWInRefIdeal.nD Cert.AdamBWInRefIdeal.τ).loc Cert.AdamBWInRefIdeal.main_v26) = v2 c
          ∧ r.2.mem ((c.tc : Thread Cert.AdamBWInRefIdeal.nD Cert.AdamBWInRefIdeal.τ).loc Cert.AdamBWInRefIdeal.main_arg0) = m' ((c.tc : Thread Cert.AdamBWInRefIdeal.nD Cert.AdamBWInRefIdeal.τ).loc Cert.AdamBWInRefIdeal.main_arg0)
          ∧ r.2.mem ((c.tc : Thread Cert.AdamBWInRefIdeal.nD Cert.AdamBWInRefIdeal.τ).loc Cert.AdamBWInRefIdeal.main_arg1) = m' ((c.tc : Thread Cert.AdamBWInRefIdeal.nD Cert.AdamBWInRefIdeal.τ).loc Cert.AdamBWInRefIdeal.main_arg1)
          ∧ r.2.mem ((c.tc : Thread Cert.AdamBWInRefIdeal.nD Cert.AdamBWInRefIdeal.τ).loc Cert.AdamBWInRefIdeal.main_arg2) = m' ((c.tc : Thread Cert.AdamBWInRefIdeal.nD Cert.AdamBWInRefIdeal.τ).loc Cert.AdamBWInRefIdeal.main_arg2)
          ∧ r.2.mem ((c.tc : Thread Cert.AdamBWInRefIdeal.nD Cert.AdamBWInRefIdeal.τ).loc Cert.AdamBWInRefIdeal.main_arg3) = m' ((c.tc : Thread Cert.AdamBWInRefIdeal.nD Cert.AdamBWInRefIdeal.τ).loc Cert.AdamBWInRefIdeal.main_arg3))

def preserves_AdamBQnW_AdamBQnWIdeal : Prop :=
  True

def algebraic_AdamBQnWIdeal_AdamBQnWRefIdeal [hAdamBQnWIdeal : Cert.AdamBQnWIdeal.Facts] [hAdamBQnWRefIdeal : Cert.AdamBQnWRefIdeal.Facts] : Prop :=
  ∀ (m : (ℓ : Loc Cert.AdamBQnWIdeal.nD Cert.AdamBQnWIdeal.τ Cert.AdamBQnWIdeal.sig) → Buf (Elt Ideal) ℓ) (g : Dev Cert.AdamBQnWIdeal.nD → PrngReg)
    (m' : (ℓ : Loc Cert.AdamBQnWRefIdeal.nD Cert.AdamBQnWRefIdeal.τ Cert.AdamBQnWRefIdeal.sig) → Buf (Elt Ideal) ℓ) (g' : Dev Cert.AdamBQnWRefIdeal.nD → PrngReg), Pre_AdamBQnWIdeal m →
    (∀ c : Dev Cert.AdamBQnWIdeal.nD,
      m' ((c.tc : Thread Cert.AdamBQnWRefIdeal.nD Cert.AdamBQnWRefIdeal.τ).loc Cert.AdamBQnWRefIdeal.main_arg0) = m ((c.tc : Thread Cert.AdamBQnWIdeal.nD Cert.AdamBQnWIdeal.τ).loc Cert.AdamBQnWIdeal.main_arg0)
      ∧ m' ((c.tc : Thread Cert.AdamBQnWRefIdeal.nD Cert.AdamBQnWRefIdeal.τ).loc Cert.AdamBQnWRefIdeal.main_arg1) = m ((c.tc : Thread Cert.AdamBQnWIdeal.nD Cert.AdamBQnWIdeal.τ).loc Cert.AdamBQnWIdeal.main_arg1)
      ∧ m' ((c.tc : Thread Cert.AdamBQnWRefIdeal.nD Cert.AdamBQnWRefIdeal.τ).loc Cert.AdamBQnWRefIdeal.main_arg2) = m ((c.tc : Thread Cert.AdamBQnWIdeal.nD Cert.AdamBQnWIdeal.τ).loc Cert.AdamBQnWIdeal.main_arg2)
      ∧ m' ((c.tc : Thread Cert.AdamBQnWRefIdeal.nD Cert.AdamBQnWRefIdeal.τ).loc Cert.AdamBQnWRefIdeal.main_arg3) = m ((c.tc : Thread Cert.AdamBQnWIdeal.nD Cert.AdamBQnWIdeal.τ).loc Cert.AdamBQnWIdeal.main_arg3)) →
    ∃ (v0 : (c : Dev Cert.AdamBQnWIdeal.nD) → Buf (Elt Ideal) ((c.tc : Thread Cert.AdamBQnWIdeal.nD Cert.AdamBQnWIdeal.τ).loc Cert.AdamBQnWIdeal.main_v0_0)) (v1 : (c : Dev Cert.AdamBQnWIdeal.nD) → Buf (Elt Ideal) ((c.tc : Thread Cert.AdamBQnWIdeal.nD Cert.AdamBQnWIdeal.τ).loc Cert.AdamBQnWIdeal.main_v0_1)) (v2 : (c : Dev Cert.AdamBQnWIdeal.nD) → Buf (Elt Ideal) ((c.tc : Thread Cert.AdamBQnWIdeal.nD Cert.AdamBQnWIdeal.τ).loc Cert.AdamBQnWIdeal.main_v0_2)),
      θ_run (Cert.AdamBQnWIdeal.defs (F := Ideal)) (onTc (τ := Cert.AdamBQnWIdeal.τ) (Cert.AdamBQnWIdeal.main (F := Ideal))) ⟨m, fun _ => 0, g⟩ (fun r => ∀ c : Dev Cert.AdamBQnWIdeal.nD,
          r.2.mem ((c.tc : Thread Cert.AdamBQnWIdeal.nD Cert.AdamBQnWIdeal.τ).loc Cert.AdamBQnWIdeal.main_v0_0) = v0 c
          ∧ r.2.mem ((c.tc : Thread Cert.AdamBQnWIdeal.nD Cert.AdamBQnWIdeal.τ).loc Cert.AdamBQnWIdeal.main_v0_1) = v1 c
          ∧ r.2.mem ((c.tc : Thread Cert.AdamBQnWIdeal.nD Cert.AdamBQnWIdeal.τ).loc Cert.AdamBQnWIdeal.main_v0_2) = v2 c
          ∧ r.2.mem ((c.tc : Thread Cert.AdamBQnWIdeal.nD Cert.AdamBQnWIdeal.τ).loc Cert.AdamBQnWIdeal.main_arg0) = m ((c.tc : Thread Cert.AdamBQnWIdeal.nD Cert.AdamBQnWIdeal.τ).loc Cert.AdamBQnWIdeal.main_arg0)
          ∧ r.2.mem ((c.tc : Thread Cert.AdamBQnWIdeal.nD Cert.AdamBQnWIdeal.τ).loc Cert.AdamBQnWIdeal.main_arg1) = m ((c.tc : Thread Cert.AdamBQnWIdeal.nD Cert.AdamBQnWIdeal.τ).loc Cert.AdamBQnWIdeal.main_arg1)
          ∧ r.2.mem ((c.tc : Thread Cert.AdamBQnWIdeal.nD Cert.AdamBQnWIdeal.τ).loc Cert.AdamBQnWIdeal.main_arg2) = m ((c.tc : Thread Cert.AdamBQnWIdeal.nD Cert.AdamBQnWIdeal.τ).loc Cert.AdamBQnWIdeal.main_arg2)
          ∧ r.2.mem ((c.tc : Thread Cert.AdamBQnWIdeal.nD Cert.AdamBQnWIdeal.τ).loc Cert.AdamBQnWIdeal.main_arg3) = m ((c.tc : Thread Cert.AdamBQnWIdeal.nD Cert.AdamBQnWIdeal.τ).loc Cert.AdamBQnWIdeal.main_arg3))
      ∧ θ_run (Cert.AdamBQnWRefIdeal.defs (F := Ideal)) (onTc (τ := Cert.AdamBQnWRefIdeal.τ) (Cert.AdamBQnWRefIdeal.main (F := Ideal))) ⟨m', fun _ => 0, g'⟩ (fun r => ∀ c : Dev Cert.AdamBQnWRefIdeal.nD,
          r.2.mem ((c.tc : Thread Cert.AdamBQnWRefIdeal.nD Cert.AdamBQnWRefIdeal.τ).loc Cert.AdamBQnWRefIdeal.main_v23) = v0 c
          ∧ r.2.mem ((c.tc : Thread Cert.AdamBQnWRefIdeal.nD Cert.AdamBQnWRefIdeal.τ).loc Cert.AdamBQnWRefIdeal.main_v4) = v1 c
          ∧ r.2.mem ((c.tc : Thread Cert.AdamBQnWRefIdeal.nD Cert.AdamBQnWRefIdeal.τ).loc Cert.AdamBQnWRefIdeal.main_v10) = v2 c
          ∧ r.2.mem ((c.tc : Thread Cert.AdamBQnWRefIdeal.nD Cert.AdamBQnWRefIdeal.τ).loc Cert.AdamBQnWRefIdeal.main_arg0) = m' ((c.tc : Thread Cert.AdamBQnWRefIdeal.nD Cert.AdamBQnWRefIdeal.τ).loc Cert.AdamBQnWRefIdeal.main_arg0)
          ∧ r.2.mem ((c.tc : Thread Cert.AdamBQnWRefIdeal.nD Cert.AdamBQnWRefIdeal.τ).loc Cert.AdamBQnWRefIdeal.main_arg1) = m' ((c.tc : Thread Cert.AdamBQnWRefIdeal.nD Cert.AdamBQnWRefIdeal.τ).loc Cert.AdamBQnWRefIdeal.main_arg1)
          ∧ r.2.mem ((c.tc : Thread Cert.AdamBQnWRefIdeal.nD Cert.AdamBQnWRefIdeal.τ).loc Cert.AdamBQnWRefIdeal.main_arg2) = m' ((c.tc : Thread Cert.AdamBQnWRefIdeal.nD Cert.AdamBQnWRefIdeal.τ).loc Cert.AdamBQnWRefIdeal.main_arg2)
          ∧ r.2.mem ((c.tc : Thread Cert.AdamBQnWRefIdeal.nD Cert.AdamBQnWRefIdeal.τ).loc Cert.AdamBQnWRefIdeal.main_arg3) = m' ((c.tc : Thread Cert.AdamBQnWRefIdeal.nD Cert.AdamBQnWRefIdeal.τ).loc Cert.AdamBQnWRefIdeal.main_arg3))

def preserves_AdamBWOut_AdamBWOutIdeal : Prop :=
  True

def algebraic_AdamBWOutIdeal_AdamBWOutRefIdeal [hAdamBWOutIdeal : Cert.AdamBWOutIdeal.Facts] [hAdamBWOutRefIdeal : Cert.AdamBWOutRefIdeal.Facts] : Prop :=
  ∀ (m : (ℓ : Loc Cert.AdamBWOutIdeal.nD Cert.AdamBWOutIdeal.τ Cert.AdamBWOutIdeal.sig) → Buf (Elt Ideal) ℓ) (g : Dev Cert.AdamBWOutIdeal.nD → PrngReg)
    (m' : (ℓ : Loc Cert.AdamBWOutRefIdeal.nD Cert.AdamBWOutRefIdeal.τ Cert.AdamBWOutRefIdeal.sig) → Buf (Elt Ideal) ℓ) (g' : Dev Cert.AdamBWOutRefIdeal.nD → PrngReg), Pre_AdamBWOutIdeal m →
    (∀ c : Dev Cert.AdamBWOutIdeal.nD,
      m' ((c.tc : Thread Cert.AdamBWOutRefIdeal.nD Cert.AdamBWOutRefIdeal.τ).loc Cert.AdamBWOutRefIdeal.main_arg0) = m ((c.tc : Thread Cert.AdamBWOutIdeal.nD Cert.AdamBWOutIdeal.τ).loc Cert.AdamBWOutIdeal.main_arg0)
      ∧ m' ((c.tc : Thread Cert.AdamBWOutRefIdeal.nD Cert.AdamBWOutRefIdeal.τ).loc Cert.AdamBWOutRefIdeal.main_arg1) = m ((c.tc : Thread Cert.AdamBWOutIdeal.nD Cert.AdamBWOutIdeal.τ).loc Cert.AdamBWOutIdeal.main_arg1)
      ∧ m' ((c.tc : Thread Cert.AdamBWOutRefIdeal.nD Cert.AdamBWOutRefIdeal.τ).loc Cert.AdamBWOutRefIdeal.main_arg2) = m ((c.tc : Thread Cert.AdamBWOutIdeal.nD Cert.AdamBWOutIdeal.τ).loc Cert.AdamBWOutIdeal.main_arg2)
      ∧ m' ((c.tc : Thread Cert.AdamBWOutRefIdeal.nD Cert.AdamBWOutRefIdeal.τ).loc Cert.AdamBWOutRefIdeal.main_arg3) = m ((c.tc : Thread Cert.AdamBWOutIdeal.nD Cert.AdamBWOutIdeal.τ).loc Cert.AdamBWOutIdeal.main_arg3)) →
    ∃ (v0 : (c : Dev Cert.AdamBWOutIdeal.nD) → Buf (Elt Ideal) ((c.tc : Thread Cert.AdamBWOutIdeal.nD Cert.AdamBWOutIdeal.τ).loc Cert.AdamBWOutIdeal.main_v5_0)) (v1 : (c : Dev Cert.AdamBWOutIdeal.nD) → Buf (Elt Ideal) ((c.tc : Thread Cert.AdamBWOutIdeal.nD Cert.AdamBWOutIdeal.τ).loc Cert.AdamBWOutIdeal.main_v5_1)) (v2 : (c : Dev Cert.AdamBWOutIdeal.nD) → Buf (Elt Ideal) ((c.tc : Thread Cert.AdamBWOutIdeal.nD Cert.AdamBWOutIdeal.τ).loc Cert.AdamBWOutIdeal.main_v5_2)),
      θ_run (Cert.AdamBWOutIdeal.defs (F := Ideal)) (onTc (τ := Cert.AdamBWOutIdeal.τ) (Cert.AdamBWOutIdeal.main (F := Ideal))) ⟨m, fun _ => 0, g⟩ (fun r => ∀ c : Dev Cert.AdamBWOutIdeal.nD,
          r.2.mem ((c.tc : Thread Cert.AdamBWOutIdeal.nD Cert.AdamBWOutIdeal.τ).loc Cert.AdamBWOutIdeal.main_v5_0) = v0 c
          ∧ r.2.mem ((c.tc : Thread Cert.AdamBWOutIdeal.nD Cert.AdamBWOutIdeal.τ).loc Cert.AdamBWOutIdeal.main_v5_1) = v1 c
          ∧ r.2.mem ((c.tc : Thread Cert.AdamBWOutIdeal.nD Cert.AdamBWOutIdeal.τ).loc Cert.AdamBWOutIdeal.main_v5_2) = v2 c
          ∧ r.2.mem ((c.tc : Thread Cert.AdamBWOutIdeal.nD Cert.AdamBWOutIdeal.τ).loc Cert.AdamBWOutIdeal.main_arg0) = m ((c.tc : Thread Cert.AdamBWOutIdeal.nD Cert.AdamBWOutIdeal.τ).loc Cert.AdamBWOutIdeal.main_arg0)
          ∧ r.2.mem ((c.tc : Thread Cert.AdamBWOutIdeal.nD Cert.AdamBWOutIdeal.τ).loc Cert.AdamBWOutIdeal.main_arg1) = m ((c.tc : Thread Cert.AdamBWOutIdeal.nD Cert.AdamBWOutIdeal.τ).loc Cert.AdamBWOutIdeal.main_arg1)
          ∧ r.2.mem ((c.tc : Thread Cert.AdamBWOutIdeal.nD Cert.AdamBWOutIdeal.τ).loc Cert.AdamBWOutIdeal.main_arg2) = m ((c.tc : Thread Cert.AdamBWOutIdeal.nD Cert.AdamBWOutIdeal.τ).loc Cert.AdamBWOutIdeal.main_arg2)
          ∧ r.2.mem ((c.tc : Thread Cert.AdamBWOutIdeal.nD Cert.AdamBWOutIdeal.τ).loc Cert.AdamBWOutIdeal.main_arg3) = m ((c.tc : Thread Cert.AdamBWOutIdeal.nD Cert.AdamBWOutIdeal.τ).loc Cert.AdamBWOutIdeal.main_arg3))
      ∧ θ_run (Cert.AdamBWOutRefIdeal.defs (F := Ideal)) (onTc (τ := Cert.AdamBWOutRefIdeal.τ) (Cert.AdamBWOutRefIdeal.main (F := Ideal))) ⟨m', fun _ => 0, g'⟩ (fun r => ∀ c : Dev Cert.AdamBWOutRefIdeal.nD,
          r.2.mem ((c.tc : Thread Cert.AdamBWOutRefIdeal.nD Cert.AdamBWOutRefIdeal.τ).loc Cert.AdamBWOutRefIdeal.main_v24) = v0 c
          ∧ r.2.mem ((c.tc : Thread Cert.AdamBWOutRefIdeal.nD Cert.AdamBWOutRefIdeal.τ).loc Cert.AdamBWOutRefIdeal.main_v25) = v1 c
          ∧ r.2.mem ((c.tc : Thread Cert.AdamBWOutRefIdeal.nD Cert.AdamBWOutRefIdeal.τ).loc Cert.AdamBWOutRefIdeal.main_v26) = v2 c
          ∧ r.2.mem ((c.tc : Thread Cert.AdamBWOutRefIdeal.nD Cert.AdamBWOutRefIdeal.τ).loc Cert.AdamBWOutRefIdeal.main_arg0) = m' ((c.tc : Thread Cert.AdamBWOutRefIdeal.nD Cert.AdamBWOutRefIdeal.τ).loc Cert.AdamBWOutRefIdeal.main_arg0)
          ∧ r.2.mem ((c.tc : Thread Cert.AdamBWOutRefIdeal.nD Cert.AdamBWOutRefIdeal.τ).loc Cert.AdamBWOutRefIdeal.main_arg1) = m' ((c.tc : Thread Cert.AdamBWOutRefIdeal.nD Cert.AdamBWOutRefIdeal.τ).loc Cert.AdamBWOutRefIdeal.main_arg1)
          ∧ r.2.mem ((c.tc : Thread Cert.AdamBWOutRefIdeal.nD Cert.AdamBWOutRefIdeal.τ).loc Cert.AdamBWOutRefIdeal.main_arg2) = m' ((c.tc : Thread Cert.AdamBWOutRefIdeal.nD Cert.AdamBWOutRefIdeal.τ).loc Cert.AdamBWOutRefIdeal.main_arg2)
          ∧ r.2.mem ((c.tc : Thread Cert.AdamBWOutRefIdeal.nD Cert.AdamBWOutRefIdeal.τ).loc Cert.AdamBWOutRefIdeal.main_arg3) = m' ((c.tc : Thread Cert.AdamBWOutRefIdeal.nD Cert.AdamBWOutRefIdeal.τ).loc Cert.AdamBWOutRefIdeal.main_arg3))

def preserves_AdamFinalNormW_AdamFinalNormWIdeal : Prop :=
  True

def algebraic_AdamFinalNormWIdeal_AdamFinalNormWRefIdeal [hAdamFinalNormWIdeal : Cert.AdamFinalNormWIdeal.Facts] [hAdamFinalNormWRefIdeal : Cert.AdamFinalNormWRefIdeal.Facts] : Prop :=
  ∀ (m : (ℓ : Loc Cert.AdamFinalNormWIdeal.nD Cert.AdamFinalNormWIdeal.τ Cert.AdamFinalNormWIdeal.sig) → Buf (Elt Ideal) ℓ) (g : Dev Cert.AdamFinalNormWIdeal.nD → PrngReg)
    (m' : (ℓ : Loc Cert.AdamFinalNormWRefIdeal.nD Cert.AdamFinalNormWRefIdeal.τ Cert.AdamFinalNormWRefIdeal.sig) → Buf (Elt Ideal) ℓ) (g' : Dev Cert.AdamFinalNormWRefIdeal.nD → PrngReg), Pre_AdamFinalNormWIdeal m →
    (∀ c : Dev Cert.AdamFinalNormWIdeal.nD,
      m' ((c.tc : Thread Cert.AdamFinalNormWRefIdeal.nD Cert.AdamFinalNormWRefIdeal.τ).loc Cert.AdamFinalNormWRefIdeal.main_arg0) = m ((c.tc : Thread Cert.AdamFinalNormWIdeal.nD Cert.AdamFinalNormWIdeal.τ).loc Cert.AdamFinalNormWIdeal.main_arg0)
      ∧ m' ((c.tc : Thread Cert.AdamFinalNormWRefIdeal.nD Cert.AdamFinalNormWRefIdeal.τ).loc Cert.AdamFinalNormWRefIdeal.main_arg1) = m ((c.tc : Thread Cert.AdamFinalNormWIdeal.nD Cert.AdamFinalNormWIdeal.τ).loc Cert.AdamFinalNormWIdeal.main_arg1)
      ∧ m' ((c.tc : Thread Cert.AdamFinalNormWRefIdeal.nD Cert.AdamFinalNormWRefIdeal.τ).loc Cert.AdamFinalNormWRefIdeal.main_arg2) = m ((c.tc : Thread Cert.AdamFinalNormWIdeal.nD Cert.AdamFinalNormWIdeal.τ).loc Cert.AdamFinalNormWIdeal.main_arg2)
      ∧ m' ((c.tc : Thread Cert.AdamFinalNormWRefIdeal.nD Cert.AdamFinalNormWRefIdeal.τ).loc Cert.AdamFinalNormWRefIdeal.main_arg3) = m ((c.tc : Thread Cert.AdamFinalNormWIdeal.nD Cert.AdamFinalNormWIdeal.τ).loc Cert.AdamFinalNormWIdeal.main_arg3)) →
    ∃ (v0 : (c : Dev Cert.AdamFinalNormWIdeal.nD) → Buf (Elt Ideal) ((c.tc : Thread Cert.AdamFinalNormWIdeal.nD Cert.AdamFinalNormWIdeal.τ).loc Cert.AdamFinalNormWIdeal.main_v5_0)) (v1 : (c : Dev Cert.AdamFinalNormWIdeal.nD) → Buf (Elt Ideal) ((c.tc : Thread Cert.AdamFinalNormWIdeal.nD Cert.AdamFinalNormWIdeal.τ).loc Cert.AdamFinalNormWIdeal.main_v5_1)) (v2 : (c : Dev Cert.AdamFinalNormWIdeal.nD) → Buf (Elt Ideal) ((c.tc : Thread Cert.AdamFinalNormWIdeal.nD Cert.AdamFinalNormWIdeal.τ).loc Cert.AdamFinalNormWIdeal.main_v5_2)),
      θ_run (Cert.AdamFinalNormWIdeal.defs (F := Ideal)) (onTc (τ := Cert.AdamFinalNormWIdeal.τ) (Cert.AdamFinalNormWIdeal.main (F := Ideal))) ⟨m, fun _ => 0, g⟩ (fun r => ∀ c : Dev Cert.AdamFinalNormWIdeal.nD,
          r.2.mem ((c.tc : Thread Cert.AdamFinalNormWIdeal.nD Cert.AdamFinalNormWIdeal.τ).loc Cert.AdamFinalNormWIdeal.main_v5_0) = v0 c
          ∧ r.2.mem ((c.tc : Thread Cert.AdamFinalNormWIdeal.nD Cert.AdamFinalNormWIdeal.τ).loc Cert.AdamFinalNormWIdeal.main_v5_1) = v1 c
          ∧ r.2.mem ((c.tc : Thread Cert.AdamFinalNormWIdeal.nD Cert.AdamFinalNormWIdeal.τ).loc Cert.AdamFinalNormWIdeal.main_v5_2) = v2 c
          ∧ r.2.mem ((c.tc : Thread Cert.AdamFinalNormWIdeal.nD Cert.AdamFinalNormWIdeal.τ).loc Cert.AdamFinalNormWIdeal.main_arg0) = m ((c.tc : Thread Cert.AdamFinalNormWIdeal.nD Cert.AdamFinalNormWIdeal.τ).loc Cert.AdamFinalNormWIdeal.main_arg0)
          ∧ r.2.mem ((c.tc : Thread Cert.AdamFinalNormWIdeal.nD Cert.AdamFinalNormWIdeal.τ).loc Cert.AdamFinalNormWIdeal.main_arg1) = m ((c.tc : Thread Cert.AdamFinalNormWIdeal.nD Cert.AdamFinalNormWIdeal.τ).loc Cert.AdamFinalNormWIdeal.main_arg1)
          ∧ r.2.mem ((c.tc : Thread Cert.AdamFinalNormWIdeal.nD Cert.AdamFinalNormWIdeal.τ).loc Cert.AdamFinalNormWIdeal.main_arg2) = m ((c.tc : Thread Cert.AdamFinalNormWIdeal.nD Cert.AdamFinalNormWIdeal.τ).loc Cert.AdamFinalNormWIdeal.main_arg2)
          ∧ r.2.mem ((c.tc : Thread Cert.AdamFinalNormWIdeal.nD Cert.AdamFinalNormWIdeal.τ).loc Cert.AdamFinalNormWIdeal.main_arg3) = m ((c.tc : Thread Cert.AdamFinalNormWIdeal.nD Cert.AdamFinalNormWIdeal.τ).loc Cert.AdamFinalNormWIdeal.main_arg3))
      ∧ θ_run (Cert.AdamFinalNormWRefIdeal.defs (F := Ideal)) (onTc (τ := Cert.AdamFinalNormWRefIdeal.τ) (Cert.AdamFinalNormWRefIdeal.main (F := Ideal))) ⟨m', fun _ => 0, g'⟩ (fun r => ∀ c : Dev Cert.AdamFinalNormWRefIdeal.nD,
          r.2.mem ((c.tc : Thread Cert.AdamFinalNormWRefIdeal.nD Cert.AdamFinalNormWRefIdeal.τ).loc Cert.AdamFinalNormWRefIdeal.main_v24) = v0 c
          ∧ r.2.mem ((c.tc : Thread Cert.AdamFinalNormWRefIdeal.nD Cert.AdamFinalNormWRefIdeal.τ).loc Cert.AdamFinalNormWRefIdeal.main_v25) = v1 c
          ∧ r.2.mem ((c.tc : Thread Cert.AdamFinalNormWRefIdeal.nD Cert.AdamFinalNormWRefIdeal.τ).loc Cert.AdamFinalNormWRefIdeal.main_v26) = v2 c
          ∧ r.2.mem ((c.tc : Thread Cert.AdamFinalNormWRefIdeal.nD Cert.AdamFinalNormWRefIdeal.τ).loc Cert.AdamFinalNormWRefIdeal.main_arg0) = m' ((c.tc : Thread Cert.AdamFinalNormWRefIdeal.nD Cert.AdamFinalNormWRefIdeal.τ).loc Cert.AdamFinalNormWRefIdeal.main_arg0)
          ∧ r.2.mem ((c.tc : Thread Cert.AdamFinalNormWRefIdeal.nD Cert.AdamFinalNormWRefIdeal.τ).loc Cert.AdamFinalNormWRefIdeal.main_arg1) = m' ((c.tc : Thread Cert.AdamFinalNormWRefIdeal.nD Cert.AdamFinalNormWRefIdeal.τ).loc Cert.AdamFinalNormWRefIdeal.main_arg1)
          ∧ r.2.mem ((c.tc : Thread Cert.AdamFinalNormWRefIdeal.nD Cert.AdamFinalNormWRefIdeal.τ).loc Cert.AdamFinalNormWRefIdeal.main_arg2) = m' ((c.tc : Thread Cert.AdamFinalNormWRefIdeal.nD Cert.AdamFinalNormWRefIdeal.τ).loc Cert.AdamFinalNormWRefIdeal.main_arg2)
          ∧ r.2.mem ((c.tc : Thread Cert.AdamFinalNormWRefIdeal.nD Cert.AdamFinalNormWRefIdeal.τ).loc Cert.AdamFinalNormWRefIdeal.main_arg3) = m' ((c.tc : Thread Cert.AdamFinalNormWRefIdeal.nD Cert.AdamFinalNormWRefIdeal.τ).loc Cert.AdamFinalNormWRefIdeal.main_arg3))

def Claim : Prop :=
  ∃ (hKernel : Cert.Kernel.Facts) (hKernelIdeal : Cert.KernelIdeal.Facts) (hReferenceIdeal : Cert.ReferenceIdeal.Facts) (hAttn : Cert.Attn.Facts) (hAttnIdeal : Cert.AttnIdeal.Facts) (hAttnRefIdeal : Cert.AttnRefIdeal.Facts) (hMixIn : Cert.MixIn.Facts) (hMixInIdeal : Cert.MixInIdeal.Facts) (hMixInRefIdeal : Cert.MixInRefIdeal.Facts) (hMixDw : Cert.MixDw.Facts) (hMixDwIdeal : Cert.MixDwIdeal.Facts) (hMixDwRefIdeal : Cert.MixDwRefIdeal.Facts) (hMixDh : Cert.MixDh.Facts) (hMixDhIdeal : Cert.MixDhIdeal.Facts) (hMixDhRefIdeal : Cert.MixDhRefIdeal.Facts) (hMixOut : Cert.MixOut.Facts) (hMixOutIdeal : Cert.MixOutIdeal.Facts) (hMixOutRefIdeal : Cert.MixOutRefIdeal.Facts) (hMixDwo : Cert.MixDwo.Facts) (hMixDwoIdeal : Cert.MixDwoIdeal.Facts) (hMixDwoRefIdeal : Cert.MixDwoRefIdeal.Facts) (hFoxIn : Cert.FoxIn.Facts) (hFoxInIdeal : Cert.FoxInIdeal.Facts) (hFoxInRefIdeal : Cert.FoxInRefIdeal.Facts) (hFoxDw : Cert.FoxDw.Facts) (hFoxDwIdeal : Cert.FoxDwIdeal.Facts) (hFoxDwRefIdeal : Cert.FoxDwRefIdeal.Facts) (hFoxDh : Cert.FoxDh.Facts) (hFoxDhIdeal : Cert.FoxDhIdeal.Facts) (hFoxDhRefIdeal : Cert.FoxDhRefIdeal.Facts) (hFoxOut : Cert.FoxOut.Facts) (hFoxOutIdeal : Cert.FoxOutIdeal.Facts) (hFoxOutRefIdeal : Cert.FoxOutRefIdeal.Facts) (hFoxDwo : Cert.FoxDwo.Facts) (hFoxDwoIdeal : Cert.FoxDwoIdeal.Facts) (hFoxDwoRefIdeal : Cert.FoxDwoRefIdeal.Facts) (hAdamNormW : Cert.AdamNormW.Facts) (hAdamNormWIdeal : Cert.AdamNormWIdeal.Facts) (hAdamNormWRefIdeal : Cert.AdamNormWRefIdeal.Facts) (hAdamAdaW : Cert.AdamAdaW.Facts) (hAdamAdaWIdeal : Cert.AdamAdaWIdeal.Facts) (hAdamAdaWRefIdeal : Cert.AdamAdaWRefIdeal.Facts) (hAdamAdaB : Cert.AdamAdaB.Facts) (hAdamAdaBIdeal : Cert.AdamAdaBIdeal.Facts) (hAdamAdaBRefIdeal : Cert.AdamAdaBRefIdeal.Facts) (hAdamAWIn : Cert.AdamAWIn.Facts) (hAdamAWInIdeal : Cert.AdamAWInIdeal.Facts) (hAdamAWInRefIdeal : Cert.AdamAWInRefIdeal.Facts) (hAdamAConvW : Cert.AdamAConvW.Facts) (hAdamAConvWIdeal : Cert.AdamAConvWIdeal.Facts) (hAdamAConvWRefIdeal : Cert.AdamAConvWRefIdeal.Facts) (hAdamAALog : Cert.AdamAALog.Facts) (hAdamAALogIdeal : Cert.AdamAALogIdeal.Facts) (hAdamAALogRefIdeal : Cert.AdamAALogRefIdeal.Facts) (hAdamANormW : Cert.AdamANormW.Facts) (hAdamANormWIdeal : Cert.AdamANormWIdeal.Facts) (hAdamANormWRefIdeal : Cert.AdamANormWRefIdeal.Facts) (hAdamAWOut : Cert.AdamAWOut.Facts) (hAdamAWOutIdeal : Cert.AdamAWOutIdeal.Facts) (hAdamAWOutRefIdeal : Cert.AdamAWOutRefIdeal.Facts) (hAdamBWIn : Cert.AdamBWIn.Facts) (hAdamBWInIdeal : Cert.AdamBWInIdeal.Facts) (hAdamBWInRefIdeal : Cert.AdamBWInRefIdeal.Facts) (hAdamBQnW : Cert.AdamBQnW.Facts) (hAdamBQnWIdeal : Cert.AdamBQnWIdeal.Facts) (hAdamBQnWRefIdeal : Cert.AdamBQnWRefIdeal.Facts) (hAdamBWOut : Cert.AdamBWOut.Facts) (hAdamBWOutIdeal : Cert.AdamBWOutIdeal.Facts) (hAdamBWOutRefIdeal : Cert.AdamBWOutRefIdeal.Facts) (hAdamFinalNormW : Cert.AdamFinalNormW.Facts) (hAdamFinalNormWIdeal : Cert.AdamFinalNormWIdeal.Facts) (hAdamFinalNormWRefIdeal : Cert.AdamFinalNormWRefIdeal.Facts) (hPre_finite : Cert.Pre_finite.Facts) (hPre_attn_finite : Cert.Pre_attn_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_MixIn (hMixIn := hMixIn)
    ∧ quiescent_MixInIdeal (hMixInIdeal := hMixInIdeal)
    ∧ quiescent_MixInRefIdeal (hMixInRefIdeal := hMixInRefIdeal)
    ∧ quiescent_MixDw (hMixDw := hMixDw)
    ∧ quiescent_MixDwIdeal (hMixDwIdeal := hMixDwIdeal)
    ∧ quiescent_MixDwRefIdeal (hMixDwRefIdeal := hMixDwRefIdeal)
    ∧ quiescent_MixDh (hMixDh := hMixDh)
    ∧ quiescent_MixDhIdeal (hMixDhIdeal := hMixDhIdeal)
    ∧ quiescent_MixDhRefIdeal (hMixDhRefIdeal := hMixDhRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixDwo (hMixDwo := hMixDwo)
    ∧ quiescent_MixDwoIdeal (hMixDwoIdeal := hMixDwoIdeal)
    ∧ quiescent_MixDwoRefIdeal (hMixDwoRefIdeal := hMixDwoRefIdeal)
    ∧ quiescent_FoxIn (hFoxIn := hFoxIn)
    ∧ quiescent_FoxInIdeal (hFoxInIdeal := hFoxInIdeal)
    ∧ quiescent_FoxInRefIdeal (hFoxInRefIdeal := hFoxInRefIdeal)
    ∧ quiescent_FoxDw (hFoxDw := hFoxDw)
    ∧ quiescent_FoxDwIdeal (hFoxDwIdeal := hFoxDwIdeal)
    ∧ quiescent_FoxDwRefIdeal (hFoxDwRefIdeal := hFoxDwRefIdeal)
    ∧ quiescent_FoxDh (hFoxDh := hFoxDh)
    ∧ quiescent_FoxDhIdeal (hFoxDhIdeal := hFoxDhIdeal)
    ∧ quiescent_FoxDhRefIdeal (hFoxDhRefIdeal := hFoxDhRefIdeal)
    ∧ quiescent_FoxOut (hFoxOut := hFoxOut)
    ∧ quiescent_FoxOutIdeal (hFoxOutIdeal := hFoxOutIdeal)
    ∧ quiescent_FoxOutRefIdeal (hFoxOutRefIdeal := hFoxOutRefIdeal)
    ∧ quiescent_FoxDwo (hFoxDwo := hFoxDwo)
    ∧ quiescent_FoxDwoIdeal (hFoxDwoIdeal := hFoxDwoIdeal)
    ∧ quiescent_FoxDwoRefIdeal (hFoxDwoRefIdeal := hFoxDwoRefIdeal)
    ∧ quiescent_AdamNormW (hAdamNormW := hAdamNormW)
    ∧ quiescent_AdamNormWIdeal (hAdamNormWIdeal := hAdamNormWIdeal)
    ∧ quiescent_AdamNormWRefIdeal (hAdamNormWRefIdeal := hAdamNormWRefIdeal)
    ∧ quiescent_AdamAdaW (hAdamAdaW := hAdamAdaW)
    ∧ quiescent_AdamAdaWIdeal (hAdamAdaWIdeal := hAdamAdaWIdeal)
    ∧ quiescent_AdamAdaWRefIdeal (hAdamAdaWRefIdeal := hAdamAdaWRefIdeal)
    ∧ quiescent_AdamAdaB (hAdamAdaB := hAdamAdaB)
    ∧ quiescent_AdamAdaBIdeal (hAdamAdaBIdeal := hAdamAdaBIdeal)
    ∧ quiescent_AdamAdaBRefIdeal (hAdamAdaBRefIdeal := hAdamAdaBRefIdeal)
    ∧ quiescent_AdamAWIn (hAdamAWIn := hAdamAWIn)
    ∧ quiescent_AdamAWInIdeal (hAdamAWInIdeal := hAdamAWInIdeal)
    ∧ quiescent_AdamAWInRefIdeal (hAdamAWInRefIdeal := hAdamAWInRefIdeal)
    ∧ quiescent_AdamAConvW (hAdamAConvW := hAdamAConvW)
    ∧ quiescent_AdamAConvWIdeal (hAdamAConvWIdeal := hAdamAConvWIdeal)
    ∧ quiescent_AdamAConvWRefIdeal (hAdamAConvWRefIdeal := hAdamAConvWRefIdeal)
    ∧ quiescent_AdamAALog (hAdamAALog := hAdamAALog)
    ∧ quiescent_AdamAALogIdeal (hAdamAALogIdeal := hAdamAALogIdeal)
    ∧ quiescent_AdamAALogRefIdeal (hAdamAALogRefIdeal := hAdamAALogRefIdeal)
    ∧ quiescent_AdamANormW (hAdamANormW := hAdamANormW)
    ∧ quiescent_AdamANormWIdeal (hAdamANormWIdeal := hAdamANormWIdeal)
    ∧ quiescent_AdamANormWRefIdeal (hAdamANormWRefIdeal := hAdamANormWRefIdeal)
    ∧ quiescent_AdamAWOut (hAdamAWOut := hAdamAWOut)
    ∧ quiescent_AdamAWOutIdeal (hAdamAWOutIdeal := hAdamAWOutIdeal)
    ∧ quiescent_AdamAWOutRefIdeal (hAdamAWOutRefIdeal := hAdamAWOutRefIdeal)
    ∧ quiescent_AdamBWIn (hAdamBWIn := hAdamBWIn)
    ∧ quiescent_AdamBWInIdeal (hAdamBWInIdeal := hAdamBWInIdeal)
    ∧ quiescent_AdamBWInRefIdeal (hAdamBWInRefIdeal := hAdamBWInRefIdeal)
    ∧ quiescent_AdamBQnW (hAdamBQnW := hAdamBQnW)
    ∧ quiescent_AdamBQnWIdeal (hAdamBQnWIdeal := hAdamBQnWIdeal)
    ∧ quiescent_AdamBQnWRefIdeal (hAdamBQnWRefIdeal := hAdamBQnWRefIdeal)
    ∧ quiescent_AdamBWOut (hAdamBWOut := hAdamBWOut)
    ∧ quiescent_AdamBWOutIdeal (hAdamBWOutIdeal := hAdamBWOutIdeal)
    ∧ quiescent_AdamBWOutRefIdeal (hAdamBWOutRefIdeal := hAdamBWOutRefIdeal)
    ∧ quiescent_AdamFinalNormW (hAdamFinalNormW := hAdamFinalNormW)
    ∧ quiescent_AdamFinalNormWIdeal (hAdamFinalNormWIdeal := hAdamFinalNormWIdeal)
    ∧ quiescent_AdamFinalNormWRefIdeal (hAdamFinalNormWRefIdeal := hAdamFinalNormWRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_MixIn_MixInIdeal
    ∧ algebraic_MixInIdeal_MixInRefIdeal (hMixInIdeal := hMixInIdeal) (hMixInRefIdeal := hMixInRefIdeal)
    ∧ preserves_MixDw_MixDwIdeal
    ∧ algebraic_MixDwIdeal_MixDwRefIdeal (hMixDwIdeal := hMixDwIdeal) (hMixDwRefIdeal := hMixDwRefIdeal)
    ∧ preserves_MixDh_MixDhIdeal
    ∧ algebraic_MixDhIdeal_MixDhRefIdeal (hMixDhIdeal := hMixDhIdeal) (hMixDhRefIdeal := hMixDhRefIdeal)
    ∧ preserves_MixOut_MixOutIdeal
    ∧ algebraic_MixOutIdeal_MixOutRefIdeal (hMixOutIdeal := hMixOutIdeal) (hMixOutRefIdeal := hMixOutRefIdeal)
    ∧ preserves_MixDwo_MixDwoIdeal
    ∧ algebraic_MixDwoIdeal_MixDwoRefIdeal (hMixDwoIdeal := hMixDwoIdeal) (hMixDwoRefIdeal := hMixDwoRefIdeal)
    ∧ preserves_FoxIn_FoxInIdeal
    ∧ algebraic_FoxInIdeal_FoxInRefIdeal (hFoxInIdeal := hFoxInIdeal) (hFoxInRefIdeal := hFoxInRefIdeal)
    ∧ preserves_FoxDw_FoxDwIdeal
    ∧ algebraic_FoxDwIdeal_FoxDwRefIdeal (hFoxDwIdeal := hFoxDwIdeal) (hFoxDwRefIdeal := hFoxDwRefIdeal)
    ∧ preserves_FoxDh_FoxDhIdeal
    ∧ algebraic_FoxDhIdeal_FoxDhRefIdeal (hFoxDhIdeal := hFoxDhIdeal) (hFoxDhRefIdeal := hFoxDhRefIdeal)
    ∧ preserves_FoxOut_FoxOutIdeal
    ∧ algebraic_FoxOutIdeal_FoxOutRefIdeal (hFoxOutIdeal := hFoxOutIdeal) (hFoxOutRefIdeal := hFoxOutRefIdeal)
    ∧ preserves_FoxDwo_FoxDwoIdeal
    ∧ algebraic_FoxDwoIdeal_FoxDwoRefIdeal (hFoxDwoIdeal := hFoxDwoIdeal) (hFoxDwoRefIdeal := hFoxDwoRefIdeal)
    ∧ preserves_AdamNormW_AdamNormWIdeal
    ∧ algebraic_AdamNormWIdeal_AdamNormWRefIdeal (hAdamNormWIdeal := hAdamNormWIdeal) (hAdamNormWRefIdeal := hAdamNormWRefIdeal)
    ∧ preserves_AdamAdaW_AdamAdaWIdeal
    ∧ algebraic_AdamAdaWIdeal_AdamAdaWRefIdeal (hAdamAdaWIdeal := hAdamAdaWIdeal) (hAdamAdaWRefIdeal := hAdamAdaWRefIdeal)
    ∧ preserves_AdamAdaB_AdamAdaBIdeal
    ∧ algebraic_AdamAdaBIdeal_AdamAdaBRefIdeal (hAdamAdaBIdeal := hAdamAdaBIdeal) (hAdamAdaBRefIdeal := hAdamAdaBRefIdeal)
    ∧ preserves_AdamAWIn_AdamAWInIdeal
    ∧ algebraic_AdamAWInIdeal_AdamAWInRefIdeal (hAdamAWInIdeal := hAdamAWInIdeal) (hAdamAWInRefIdeal := hAdamAWInRefIdeal)
    ∧ preserves_AdamAConvW_AdamAConvWIdeal
    ∧ algebraic_AdamAConvWIdeal_AdamAConvWRefIdeal (hAdamAConvWIdeal := hAdamAConvWIdeal) (hAdamAConvWRefIdeal := hAdamAConvWRefIdeal)
    ∧ preserves_AdamAALog_AdamAALogIdeal
    ∧ algebraic_AdamAALogIdeal_AdamAALogRefIdeal (hAdamAALogIdeal := hAdamAALogIdeal) (hAdamAALogRefIdeal := hAdamAALogRefIdeal)
    ∧ preserves_AdamANormW_AdamANormWIdeal
    ∧ algebraic_AdamANormWIdeal_AdamANormWRefIdeal (hAdamANormWIdeal := hAdamANormWIdeal) (hAdamANormWRefIdeal := hAdamANormWRefIdeal)
    ∧ preserves_AdamAWOut_AdamAWOutIdeal
    ∧ algebraic_AdamAWOutIdeal_AdamAWOutRefIdeal (hAdamAWOutIdeal := hAdamAWOutIdeal) (hAdamAWOutRefIdeal := hAdamAWOutRefIdeal)
    ∧ preserves_AdamBWIn_AdamBWInIdeal
    ∧ algebraic_AdamBWInIdeal_AdamBWInRefIdeal (hAdamBWInIdeal := hAdamBWInIdeal) (hAdamBWInRefIdeal := hAdamBWInRefIdeal)
    ∧ preserves_AdamBQnW_AdamBQnWIdeal
    ∧ algebraic_AdamBQnWIdeal_AdamBQnWRefIdeal (hAdamBQnWIdeal := hAdamBQnWIdeal) (hAdamBQnWRefIdeal := hAdamBQnWRefIdeal)
    ∧ preserves_AdamBWOut_AdamBWOutIdeal
    ∧ algebraic_AdamBWOutIdeal_AdamBWOutRefIdeal (hAdamBWOutIdeal := hAdamBWOutIdeal) (hAdamBWOutRefIdeal := hAdamBWOutRefIdeal)
    ∧ preserves_AdamFinalNormW_AdamFinalNormWIdeal
    ∧ algebraic_AdamFinalNormWIdeal_AdamFinalNormWRefIdeal (hAdamFinalNormWIdeal := hAdamFinalNormWIdeal) (hAdamFinalNormWRefIdeal := hAdamFinalNormWRefIdeal)
-- ==== Pre_attn_finite.lean ====
abbrev S4096x16x64 : Shape := ⟨3, ![4096, 16, 64]⟩
abbrev S4096x16 : Shape := ⟨2, ![4096, 16]⟩
abbrev S_ : Shape := ⟨0, ![]⟩
abbrev S4096x16x1 : Shape := ⟨3, ![4096, 16, 1]⟩

class Facts : Prop where
  bcast_S_S4096x16x64 : S_.BroadcastsInDim S4096x16x64 (![] : Fin 0 → Fin S4096x16x64.rank)
  bcast_S_S4096x16 : S_.BroadcastsInDim S4096x16 (![] : Fin 0 → Fin S4096x16.rank)
  bcast_S4096x16_S4096x16x1_0_1 : S4096x16.BroadcastsInDim S4096x16x1 (![0, 1] : Fin 2 → Fin S4096x16x1.rank)
  bcast_S4096x16x1_S4096x16x64_0_1_2 : S4096x16x1.BroadcastsInDim S4096x16x64 (![0, 1, 2] : Fin 3 → Fin S4096x16x64.rank)

variable [Facts]

def fn_part1 {F : FTy → Type} [FloatOps F] (main_v10 : IVec S4096x16x64 1) (main_v17 : IVec S4096x16x64 1) : IVec S4096x16x64 1 :=
  let main_v18 : IVec S4096x16x64 1 := andi main_v10 main_v17
  main_v18

def fn {F : FTy → Type} [FloatOps F] (main_arg0 : FVec F S4096x16x64 .f32) (main_arg1 : FVec F S4096x16x64 .f32) (main_arg2 : FVec F S4096x16x64 .f32) (main_arg3 : FVec F S4096x16 .f32) : IVec S4096x16x64 1 :=
  let main_cst : FVec F S_ .f32 := constant S_ .f32 0xFF800000#32
  let main_v0 : FVec F S4096x16x64 .f32 := broadcastInDim S4096x16x64 ![] bcast_S_S4096x16x64 main_cst
  let main_v1 : IVec S4096x16x64 1 := cmpf .ogt main_arg0 main_v0
  let main_cst_0 : FVec F S_ .f32 := constant S_ .f32 0x7F800000#32
  let main_v2 : FVec F S4096x16x64 .f32 := broadcastInDim S4096x16x64 ![] bcast_S_S4096x16x64 main_cst_0
  let main_v3 : IVec S4096x16x64 1 := cmpf .olt main_arg0 main_v2
  let main_v4 : IVec S4096x16x64 1 := andi main_v1 main_v3
  let main_cst_1 : FVec F S_ .f32 := constant S_ .f32 0xFF800000#32
  let main_v5 : FVec F S4096x16x64 .f32 := broadcastInDim S4096x16x64 ![] bcast_S_S4096x16x64 main_cst_1
  let main_v6 : IVec S4096x16x64 1 := cmpf .ogt main_arg1 main_v5
  let main_cst_2 : FVec F S_ .f32 := constant S_ .f32 0x7F800000#32
  let main_v7 : FVec F S4096x16x64 .f32 := broadcastInDim S4096x16x64 ![] bcast_S_S4096x16x64 main_cst_2
  let main_v8 : IVec S4096x16x64 1 := cmpf .olt main_arg1 main_v7
  let main_v9 : IVec S4096x16x64 1 := andi main_v6 main_v8
  let main_v10 : IVec S4096x16x64 1 := andi main_v4 main_v9
  let main_cst_3 : FVec F S_ .f32 := constant S_ .f32 0xFF800000#32
  let main_v11 : FVec F S4096x16 .f32 := broadcastInDim S4096x16 ![] bcast_S_S4096x16 main_cst_3
  let main_v12 : IVec S4096x16 1 := cmpf .ogt main_arg3 main_v11
  let main_cst_4 : FVec F S_ .f32 := constant S_ .f32 0x7F800000#32
  let main_v13 : FVec F S4096x16 .f32 := broadcastInDim S4096x16 ![] bcast_S_S4096x16 main_cst_4
  let main_v14 : IVec S4096x16 1 := cmpf .olt main_arg3 main_v13
  let main_v15 : IVec S4096x16 1 := andi main_v12 main_v14
  let main_v16 : IVec S4096x16x1 1 := broadcastInDim S4096x16x1 ![0, 1] bcast_S4096x16_S4096x16x1_0_1 main_v15
  let main_v17 : IVec S4096x16x64 1 := broadcastInDim S4096x16x64 ![0, 1, 2] bcast_S4096x16x1_S4096x16x64_0_1_2 main_v16
  fn_part1 (F := F) main_v10 main_v17
-- ==== Pre_finite.lean ====
abbrev S4096x16x64 : Shape := ⟨3, ![4096, 16, 64]⟩
abbrev S4096x16 : Shape := ⟨2, ![4096, 16]⟩
abbrev S_ : Shape := ⟨0, ![]⟩
abbrev S4096x16x1 : Shape := ⟨3, ![4096, 16, 1]⟩

class Facts : Prop where
  bcast_S_S4096x16x64 : S_.BroadcastsInDim S4096x16x64 (![] : Fin 0 → Fin S4096x16x64.rank)
  bcast_S_S4096x16 : S_.BroadcastsInDim S4096x16 (![] : Fin 0 → Fin S4096x16.rank)
  bcast_S4096x16_S4096x16x1_0_1 : S4096x16.BroadcastsInDim S4096x16x1 (![0, 1] : Fin 2 → Fin S4096x16x1.rank)
  bcast_S4096x16x1_S4096x16x64_0_1_2 : S4096x16x1.BroadcastsInDim S4096x16x64 (![0, 1, 2] : Fin 3 → Fin S4096x16x64.rank)

variable [Facts]

def fn_part1 {F : FTy → Type} [FloatOps F] (main_arg3 : FVec F S4096x16 .f32) (main_arg4 : FVec F S4096x16x64 .f32) (main_v16 : IVec S4096x16x64 1) (main_cst_5 : FVec F S_ .f32) : IVec S4096x16x64 1 :=
  let main_v17 : FVec F S4096x16x64 .f32 := broadcastInDim S4096x16x64 ![] bcast_S_S4096x16x64 main_cst_5
  let main_v18 : IVec S4096x16x64 1 := cmpf .ogt main_arg4 main_v17
  let main_cst_6 : FVec F S_ .f32 := constant S_ .f32 0x7F800000#32
  let main_v19 : FVec F S4096x16x64 .f32 := broadcastInDim S4096x16x64 ![] bcast_S_S4096x16x64 main_cst_6
  let main_v20 : IVec S4096x16x64 1 := cmpf .olt main_arg4 main_v19
  let main_v21 : IVec S4096x16x64 1 := andi main_v18 main_v20
  let main_v22 : IVec S4096x16x64 1 := andi main_v16 main_v21
  let main_cst_7 : FVec F S_ .f32 := constant S_ .f32 0xFF800000#32
  let main_v23 : FVec F S4096x16 .f32 := broadcastInDim S4096x16 ![] bcast_S_S4096x16 main_cst_7
  let main_v24 : IVec S4096x16 1 := cmpf .ogt main_arg3 main_v23
  let main_cst_8 : FVec F S_ .f32 := constant S_ .f32 0x7F800000#32
  let main_v25 : FVec F S4096x16 .f32 := broadcastInDim S4096x16 ![] bcast_S_S4096x16 main_cst_8
  let main_v26 : IVec S4096x16 1 := cmpf .olt main_arg3 main_v25
  let main_v27 : IVec S4096x16 1 := andi main_v24 main_v26
  let main_v28 : IVec S4096x16x1 1 := broadcastInDim S4096x16x1 ![0, 1] bcast_S4096x16_S4096x16x1_0_1 main_v27
  let main_v29 : IVec S4096x16x64 1 := broadcastInDim S4096x16x64 ![0, 1, 2] bcast_S4096x16x1_S4096x16x64_0_1_2 main_v28
  let main_v30 : IVec S4096x16x64 1 := andi main_v22 main_v29
  main_v30

def fn {F : FTy → Type} [FloatOps F] (main_arg0 : FVec F S4096x16x64 .f32) (main_arg1 : FVec F S4096x16x64 .f32) (main_arg2 : FVec F S4096x16x64 .f32) (main_arg3 : FVec F S4096x16 .f32) (main_arg4 : FVec F S4096x16x64 .f32) : IVec S4096x16x64 1 :=
  let main_cst : FVec F S_ .f32 := constant S_ .f32 0xFF800000#32
  let main_v0 : FVec F S4096x16x64 .f32 := broadcastInDim S4096x16x64 ![] bcast_S_S4096x16x64 main_cst
  let main_v1 : IVec S4096x16x64 1 := cmpf .ogt main_arg0 main_v0
  let main_cst_0 : FVec F S_ .f32 := constant S_ .f32 0x7F800000#32
  let main_v2 : FVec F S4096x16x64 .f32 := broadcastInDim S4096x16x64 ![] bcast_S_S4096x16x64 main_cst_0
  let main_v3 : IVec S4096x16x64 1 := cmpf .olt main_arg0 main_v2
  let main_v4 : IVec S4096x16x64 1 := andi main_v1 main_v3
  let main_cst_1 : FVec F S_ .f32 := constant S_ .f32 0xFF800000#32
  let main_v5 : FVec F S4096x16x64 .f32 := broadcastInDim S4096x16x64 ![] bcast_S_S4096x16x64 main_cst_1
  let main_v6 : IVec S4096x16x64 1 := cmpf .ogt main_arg1 main_v5
  let main_cst_2 : FVec F S_ .f32 := constant S_ .f32 0x7F800000#32
  let main_v7 : FVec F S4096x16x64 .f32 := broadcastInDim S4096x16x64 ![] bcast_S_S4096x16x64 main_cst_2
  let main_v8 : IVec S4096x16x64 1 := cmpf .olt main_arg1 main_v7
  let main_v9 : IVec S4096x16x64 1 := andi main_v6 main_v8
  let main_v10 : IVec S4096x16x64 1 := andi main_v4 main_v9
  let main_cst_3 : FVec F S_ .f32 := constant S_ .f32 0xFF800000#32
  let main_v11 : FVec F S4096x16x64 .f32 := broadcastInDim S4096x16x64 ![] bcast_S_S4096x16x64 main_cst_3
  let main_v12 : IVec S4096x16x64 1 := cmpf .ogt main_arg2 main_v11
  let main_cst_4 : FVec F S_ .f32 := constant S_ .f32 0x7F800000#32
  let main_v13 : FVec F S4096x16x64 .f32 := broadcastInDim S4096x16x64 ![] bcast_S_S4096x16x64 main_cst_4
  let main_v14 : IVec S4096x16x64 1 := cmpf .olt main_arg2 main_v13
  let main_v15 : IVec S4096x16x64 1 := andi main_v12 main_v14
  let main_v16 : IVec S4096x16x64 1 := andi main_v10 main_v15
  let main_cst_5 : FVec F S_ .f32 := constant S_ .f32 0xFF800000#32
  fn_part1 (F := F) main_arg3 main_arg4 main_v16 main_cst_5
-- ==== Kernel.lean ====
abbrev S4096x16x64 : Shape := ⟨3, ![4096, 16, 64]⟩
abbrev S4096x16 : Shape := ⟨2, ![4096, 16]⟩
abbrev S36 : Shape := ⟨1, ![36]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S_ : Shape := ⟨0, ![]⟩
abbrev S16x64x4096 : Shape := ⟨3, ![16, 64, 4096]⟩
abbrev S4096x16x1 : Shape := ⟨3, ![4096, 16, 1]⟩
abbrev S4096x16x3 : Shape := ⟨3, ![4096, 16, 3]⟩
abbrev S4096x16x58 : Shape := ⟨3, ![4096, 16, 58]⟩
abbrev S4096x16x128 : Shape := ⟨3, ![4096, 16, 128]⟩
abbrev S4096x2048 : Shape := ⟨2, ![4096, 2048]⟩
abbrev S4096x16x63 : Shape := ⟨3, ![4096, 16, 63]⟩
abbrev S4096x1024 : Shape := ⟨2, ![4096, 1024]⟩
abbrev S512x1024 : Shape := ⟨2, ![512, 1024]⟩
abbrev S1 : Shape := ⟨1, ![1]⟩
abbrev S512x512 : Shape := ⟨2, ![512, 512]⟩
abbrev S8x128x512 : Shape := ⟨3, ![8, 128, 512]⟩
abbrev S8x64x512 : Shape := ⟨3, ![8, 64, 512]⟩
abbrev S512x128 : Shape := ⟨2, ![512, 128]⟩
abbrev S512x64 : Shape := ⟨2, ![512, 64]⟩
abbrev S512x1 : Shape := ⟨2, ![512, 1]⟩
abbrev S1x64x512 : Shape := ⟨3, ![1, 64, 512]⟩
abbrev S64x512 : Shape := ⟨2, ![64, 512]⟩
abbrev S1x128x512 : Shape := ⟨3, ![1, 128, 512]⟩
abbrev S128x512 : Shape := ⟨2, ![128, 512]⟩

abbrev nBuf : Space → Nat
  | .hbm => 92
  | .vmem => 20
  | .smem => 2
  | _ => 0

abbrev bufTy : (tb : Table) → Fin (tcTables nBuf tb) → BufTy
  | .hbm, ⟨0, _⟩ => ⟨S4096x16x64, .f32⟩
  | .hbm, ⟨1, _⟩ => ⟨S4096x16x64, .f32⟩
  | .hbm, ⟨2, _⟩ => ⟨S4096x16x64, .f32⟩
  | .hbm, ⟨3, _⟩ => ⟨S4096x16, .f32⟩
  | .hbm, ⟨4, _⟩ => ⟨S4096x16x64, .f32⟩
  | .hbm, ⟨5, _⟩ => ⟨S16x4096, .f32⟩
  | .hbm, ⟨6, _⟩ => ⟨S16x4096x4096, .f32⟩
  | .hbm, ⟨7, _⟩ => ⟨S16x4096x1, .f32⟩
  | .hbm, ⟨8, _⟩ => ⟨S16x1x4096, .f32⟩
  | .hbm, ⟨9, _⟩ => ⟨S16x4096x4096, .f32⟩
  | .hbm, ⟨10, _⟩ => ⟨S16x4096x4096, .f32⟩
  | .hbm, ⟨11, _⟩ => ⟨S16x4096x4096, .f32⟩
  | .hbm, ⟨12, _⟩ => ⟨S16x4096x4096, .f32⟩
  | .hbm, ⟨13, _⟩ => ⟨S16x4096x4096, .i32⟩
  | .hbm, ⟨14, _⟩ => ⟨S16x4096x4096, .i32⟩
  | .hbm, ⟨15, _⟩ => ⟨S16x4096x4096, .i1⟩
  | .hbm, ⟨16, _⟩ => ⟨S_, .f32⟩
  | .hbm, ⟨17, _⟩ => ⟨S_, .f32⟩
  | .hbm, ⟨18, _⟩ => ⟨S16x4096x4096, .f32⟩
  | .hbm, ⟨19, _⟩ => ⟨S16x4096x4096, .f32⟩
  | .hbm, ⟨20, _⟩ => ⟨S_, .f32⟩
  | .hbm, ⟨21, _⟩ => ⟨S16x4096, .f32⟩
  | .hbm, ⟨22, _⟩ => ⟨S16x4096x1, .f32⟩
  | .hbm, ⟨23, _⟩ => ⟨S16x4096x4096, .f32⟩
  | .hbm, ⟨24, _⟩ => ⟨S16x4096x4096, .f32⟩
  | .hbm, ⟨25, _⟩ => ⟨S16x4096x4096, .f32⟩
  | .hbm, ⟨26, _⟩ => ⟨S_, .f32⟩
  | .hbm, ⟨27, _⟩ => ⟨S16x4096, .f32⟩
  | .hbm, ⟨28, _⟩ => ⟨S16x4096x1, .f32⟩
  | .hbm, ⟨29, _⟩ => ⟨S16x4096x4096, .f32⟩
  | .hbm, ⟨30, _⟩ => ⟨S16x4096x4096, .f32⟩
  | .hbm, ⟨31, _⟩ => ⟨S16x64x4096, .f32⟩
  | .hbm, ⟨32, _⟩ => ⟨S4096x16x64, .f32⟩
  | .hbm, ⟨33, _⟩ => ⟨S16x4096, .f32⟩
  | .hbm, ⟨34, _⟩ => ⟨S16x4096, .f32⟩
  | .hbm, ⟨35, _⟩ => ⟨S4096x16, .f32⟩
  | .hbm, ⟨36, _⟩ => ⟨S4096x16x64, .f32⟩
  | .hbm, ⟨37, _⟩ => ⟨S_, .f32⟩
  | .hbm, ⟨38, _⟩ => ⟨S4096x16, .f32⟩
  | .hbm, ⟨39, _⟩ => ⟨S4096x16, .bf16⟩
  | .hbm, ⟨40, _⟩ => ⟨S4096x16, .f32⟩
  | .hbm, ⟨41, _⟩ => ⟨S4096x16, .f32⟩
  | .hbm, ⟨42, _⟩ => ⟨S4096x16, .bf16⟩
  | .hbm, ⟨43, _⟩ => ⟨S4096x16, .f32⟩
  | .hbm, ⟨44, _⟩ => ⟨S4096x16, .f32⟩
  | .hbm, ⟨45, _⟩ => ⟨S4096x16, .f32⟩
  | .hbm, ⟨46, _⟩ => ⟨S4096x16, .bf16⟩
  | .hbm, ⟨47, _⟩ => ⟨S4096x16, .f32⟩
  | .hbm, ⟨48, _⟩ => ⟨S4096x16x1, .f32⟩
  | .hbm, ⟨49, _⟩ => ⟨S4096x16x1, .f32⟩
  | .hbm, ⟨50, _⟩ => ⟨S4096x16x1, .f32⟩
  | .hbm, ⟨51, _⟩ => ⟨S_, .f32⟩
  | .hbm, ⟨52, _⟩ => ⟨S4096x16x3, .f32⟩
  | .hbm, ⟨53, _⟩ => ⟨S_, .f32⟩
  | .hbm, ⟨54, _⟩ => ⟨S4096x16x58, .f32⟩
  | .hbm, ⟨55, _⟩ => ⟨S4096x16x128, .f32⟩
  | .hbm, ⟨56, _⟩ => ⟨S4096x2048, .f32⟩
  | .hbm, ⟨57, _⟩ => ⟨S4096x2048, .bf16⟩
  | .hbm, ⟨58, _⟩ => ⟨S4096x16x1, .f32⟩
  | .hbm, ⟨59, _⟩ => ⟨S4096x16x1, .f32⟩
  | .hbm, ⟨60, _⟩ => ⟨S4096x16x1, .f32⟩
  | .hbm, ⟨61, _⟩ => ⟨S4096x16x128, .f32⟩
  | .hbm, ⟨62, _⟩ => ⟨S4096x2048, .f32⟩
  | .hbm, ⟨63, _⟩ => ⟨S4096x2048, .bf16⟩
  | .hbm, ⟨64, _⟩ => ⟨S_, .f32⟩
  | .hbm, ⟨65, _⟩ => ⟨S4096x16x1, .f32⟩
  | .hbm, ⟨66, _⟩ => ⟨S_, .f32⟩
  | .hbm, ⟨67, _⟩ => ⟨S4096x16x63, .f32⟩
  | .hbm, ⟨68, _⟩ => ⟨S4096x16x128, .f32⟩
  | .hbm, ⟨69, _⟩ => ⟨S4096x2048, .f32⟩
  | .hbm, ⟨70, _⟩ => ⟨S4096x2048, .bf16⟩
  | .hbm, ⟨71, _⟩ => ⟨S4096x1024, .f32⟩
  | .hbm, ⟨72, _⟩ => ⟨S4096x1024, .bf16⟩
  | .hbm, ⟨73, _⟩ => ⟨S4096x16x1, .f32⟩
  | .hbm, ⟨74, _⟩ => ⟨S4096x16x64, .f32⟩
  | .hbm, ⟨75, _⟩ => ⟨S4096x1024, .f32⟩
  | .hbm, ⟨76, _⟩ => ⟨S4096x16x1, .f32⟩
  | .hbm, ⟨77, _⟩ => ⟨S4096x16x64, .f32⟩
  | .hbm, ⟨78, _⟩ => ⟨S4096x1024, .f32⟩
  | .hbm, ⟨79, _⟩ => ⟨S4096x2048, .f32⟩
  | .hbm, ⟨80, _⟩ => ⟨S4096x2048, .f32⟩
  | .hbm, ⟨81, _⟩ => ⟨S4096x1024, .f32⟩
  | .hbm, ⟨82, _⟩ => ⟨S4096x16x128, .f32⟩
  | .hbm, ⟨83, _⟩ => ⟨S4096x16x128, .f32⟩
  | .hbm, ⟨84, _⟩ => ⟨S4096x16x64, .f32⟩
  | .hbm, ⟨85, _⟩ => ⟨S4096x16x64, .f32⟩
  | .hbm, ⟨86, _⟩ => ⟨S4096x16x64, .f32⟩
  | .hbm, ⟨87, _⟩ => ⟨S4096x16x1, .f32⟩
  | .hbm, ⟨88, _⟩ => ⟨S4096x16, .f32⟩
  | .hbm, ⟨89, _⟩ => ⟨S4096x16x1, .f32⟩
  | .hbm, ⟨90, _⟩ => ⟨S4096x16, .f32⟩
  | .hbm, ⟨91, _⟩ => ⟨S4096x16, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S4096x1024, .f32⟩
  | .local _ .vmem, ⟨13, _⟩ => ⟨S4096x1024, .f32⟩
  | .local _ .vmem, ⟨14, _⟩ => ⟨S512x1024, .f32⟩
  | .local _ .vmem, ⟨15, _⟩ => ⟨S512x1024, .f32⟩
  | .local _ .vmem, ⟨16, _⟩ => ⟨S512x512, .f32⟩
  | .local _ .vmem, ⟨17, _⟩ => ⟨S512x512, .f32⟩
  | .local _ .vmem, ⟨18, _⟩ => ⟨S8x128x512, .f32⟩
  | .local _ .vmem, ⟨19, _⟩ => ⟨S8x64x512, .f32⟩
  | .local _ .smem, ⟨0, _⟩ => ⟨S36, .i32⟩
  | .local _ .smem, ⟨1, _⟩ => ⟨S36, .i32⟩
  | _, _ => ⟨S4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64_0 : Ref sig .tc := ⟨.hbm, 79, rfl⟩
abbrev main_v64_1 : Ref sig .tc := ⟨.hbm, 80, rfl⟩
abbrev main_v64_2 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v3 : BitVec 32) : BitVec 32 :=
  let c512_i32 : BitVec 32 := 512#32
  let v19 : BitVec 32 := Scalar.muli v3 c512_i32
  v19
def k0_cond3 (v1 : BitVec 32) (v3 : BitVec 32) : BitVec 1 :=
  let v10 : BitVec 1 := Scalar.cmpi .sgt v3 v1
  let v11 : BitVec 32 := Scalar.extui v10
  let c0_i32_2 : BitVec 32 := 0#32
  let v12 : BitVec 1 := Scalar.cmpi .ne v11 c0_i32_2
  v12

def k0_off2 (v3 : BitVec 32) : Fin 2 → Nat :=
  let c512_i32 : BitVec 32 := 512#32
  let v19 : BitVec 32 := Scalar.muli v3 c512_i32
  let v20 : BitVec 32 := v19
  let v57 : Index := Scalar.indexCast v20
  let c0_31 : Index := 0#32
  ![v57.toNat, 0]
def k0_off3 (v3 : BitVec 32) : Fin 2 → Nat :=
  let c512_i32 : BitVec 32 := 512#32
  let v19 : BitVec 32 := Scalar.muli v3 c512_i32
  let v20 : BitVec 32 := v19
  let v100 : Index := Scalar.indexCast v20
  let c128_59 : Index := 128#32
  ![v100.toNat, 128]
def k0_off4 (v3 : BitVec 32) : Fin 2 → Nat :=
  let c512_i32 : BitVec 32 := 512#32
  let v19 : BitVec 32 := Scalar.muli v3 c512_i32
  let v20 : BitVec 32 := v19
  let v143 : Index := Scalar.indexCast v20
  let c256_88 : Index := 256#32
  ![v143.toNat, 256]
def k0_off5 (v3 : BitVec 32) : Fin 2 → Nat :=
  let c512_i32 : BitVec 32 := 512#32
  let v19 : BitVec 32 := Scalar.muli v3 c512_i32
  let v20 : BitVec 32 := v19
  let v186 : Index := Scalar.indexCast v20
  let c384_116 : Index := 384#32
  ![v186.toNat, 384]
def k0_off6 (v3 : BitVec 32) : Fin 2 → Nat :=
  let c512_i32 : BitVec 32 := 512#32
  let v19 : BitVec 32 := Scalar.muli v3 c512_i32
  let v20 : BitVec 32 := v19
  let v229 : Index := Scalar.indexCast v20
  let c512_145 : Index := 512#32
  ![v229.toNat, 512]
def k0_off7 (v3 : BitVec 32) : Fin 2 → Nat :=
  let c512_i32 : BitVec 32 := 512#32
  let v19 : BitVec 32 := Scalar.muli v3 c512_i32
  let v20 : BitVec 32 := v19
  let v272 : Index := Scalar.indexCast v20
  let c640_173 : Index := 640#32
  ![v272.toNat, 640]
def k0_off8 (v3 : BitVec 32) : Fin 2 → Nat :=
  let c512_i32 : BitVec 32 := 512#32
  let v19 : BitVec 32 := Scalar.muli v3 c512_i32
  let v20 : BitVec 32 := v19
  let v315 : Index := Scalar.indexCast v20
  let c768_202 : Index := 768#32
  ![v315.toNat, 768]
def k0_off9 (v3 : BitVec 32) : Fin 2 → Nat :=
  let c512_i32 : BitVec 32 := 512#32
  let v19 : BitVec 32 := Scalar.muli v3 c512_i32
  let v20 : BitVec 32 := v19
  let v358 : Index := Scalar.indexCast v20
  let c896_230 : Index := 896#32
  ![v358.toNat, 896]
def k0_mult2 (v3 : BitVec 32) : BitVec 32 :=
  let c512_i32 : BitVec 32 := 512#32
  let v19 : BitVec 32 := Scalar.muli v3 c512_i32
  v19
def k0_cond4 (v1 : BitVec 32) (v3 : BitVec 32) : BitVec 1 :=
  let v13 : BitVec 1 := Scalar.cmpi .eq v3 v1
  let v14 : BitVec 32 := Scalar.extui v13
  let c0_i32_3 : BitVec 32 := 0#32
  let v15 : BitVec 1 := Scalar.cmpi .ne v14 c0_i32_3
  v15

def k0_off10 (v3 : BitVec 32) : Fin 2 → Nat :=
  let c512_i32 : BitVec 32 := 512#32
  let v19 : BitVec 32 := Scalar.muli v3 c512_i32
  let v20 : BitVec 32 := v19
  let v62 : Index := Scalar.indexCast v20
  let c0_32 : Index := 0#32
  ![v62.toNat, 0]
def k0_off11 (v3 : BitVec 32) : Fin 2 → Nat :=
  let c512_i32 : BitVec 32 := 512#32
  let v19 : BitVec 32 := Scalar.muli v3 c512_i32
  let v20 : BitVec 32 := v19
  let v110 : Index := Scalar.indexCast v20
  let c128_61 : Index := 128#32
  ![v110.toNat, 128]
def k0_off12 (v3 : BitVec 32) : Fin 2 → Nat :=
  let c512_i32 : BitVec 32 := 512#32
  let v19 : BitVec 32 := Scalar.muli v3 c512_i32
  let v20 : BitVec 32 := v19
  let v158 : Index := Scalar.indexCast v20
  let c256_91 : Index := 256#32
  ![v158.toNat, 256]
def k0_off13 (v3 : BitVec 32) : Fin 2 → Nat :=
  let c512_i32 : BitVec 32 := 512#32
  let v19 : BitVec 32 := Scalar.muli v3 c512_i32
  let v20 : BitVec 32 := v19
  let v206 : Index := Scalar.indexCast v20
  let c384_120 : Index := 384#32
  ![v206.toNat, 384]
def k0_off14 (v3 : BitVec 32) : Fin 2 → Nat :=
  let c512_i32 : BitVec 32 := 512#32
  let v19 : BitVec 32 := Scalar.muli v3 c512_i32
  let v20 : BitVec 32 := v19
  let v254 : Index := Scalar.indexCast v20
  let c512_150 : Index := 512#32
  ![v254.toNat, 512]
def k0_off15 (v3 : BitVec 32) : Fin 2 → Nat :=
  let c512_i32 : BitVec 32 := 512#32
  let v19 : BitVec 32 := Scalar.muli v3 c512_i32
  let v20 : BitVec 32 := v19
  let v302 : Index := Scalar.indexCast v20
  let c640_179 : Index := 640#32
  ![v302.toNat, 640]
def k0_off16 (v3 : BitVec 32) : Fin 2 → Nat :=
  let c512_i32 : BitVec 32 := 512#32
  let v19 : BitVec 32 := Scalar.muli v3 c512_i32
  let v20 : BitVec 32 := v19
  let v350 : Index := Scalar.indexCast v20
  let c768_209 : Index := 768#32
  ![v350.toNat, 768]
def k0_off17 (v3 : BitVec 32) : Fin 2 → Nat :=
  let c512_i32 : BitVec 32 := 512#32
  let v19 : BitVec 32 := Scalar.muli v3 c512_i32
  let v20 : BitVec 32 := v19
  let v398 : Index := Scalar.indexCast v20
  let c896_238 : Index := 896#32
  ![v398.toNat, 896]

def k0_chk1 (v1 : BitVec 32) (v3 : BitVec 32) : Prop :=
  (∀ (k0_h3 : k0_cond3 v1 v3 = 1#1), 512 ∣ (k0_mult1 v3).toNat) ∧
  (∀ (k0_h3 : k0_cond3 v1 v3 = 1#1), ∀ a, (k0_off2 v3) a + S512x128.size a ≤ S4096x1024.size a) ∧
  (∀ (k0_h3 : k0_cond3 v1 v3 = 1#1), ∀ a, (k0_off3 v3) a + S512x128.size a ≤ S4096x1024.size a) ∧
  (∀ (k0_h3 : k0_cond3 v1 v3 = 1#1), ∀ a, (k0_off4 v3) a + S512x128.size a ≤ S4096x1024.size a) ∧
  (∀ (k0_h3 : k0_cond3 v1 v3 = 1#1), ∀ a, (k0_off5 v3) a + S512x128.size a ≤ S4096x1024.size a) ∧
  (∀ (k0_h3 : k0_cond3 v1 v3 = 1#1), ∀ a, (k0_off6 v3) a + S512x128.size a ≤ S4096x1024.size a) ∧
  (∀ (k0_h3 : k0_cond3 v1 v3 = 1#1), ∀ a, (k0_off7 v3) a + S512x128.size a ≤ S4096x1024.size a) ∧
  (∀ (k0_h3 : k0_cond3 v1 v3 = 1#1), ∀ a, (k0_off8 v3) a + S512x128.size a ≤ S4096x1024.size a) ∧
  (∀ (k0_h3 : k0_cond3 v1 v3 = 1#1), ∀ a, (k0_off9 v3) a + S512x128.size a ≤ S4096x1024.size a) ∧
  (∀ (k0_h4 : k0_cond4 v1 v3 = 1#1), 512 ∣ (k0_mult2 v3).toNat) ∧
  (∀ (k0_h4 : k0_cond4 v1 v3 = 1#1), ∀ a, (k0_off10 v3) a + S512x128.size a ≤ S4096x1024.size a) ∧
  (∀ (k0_h4 : k0_cond4 v1 v3 = 1#1), ∀ a, (k0_off11 v3) a + S512x128.size a ≤ S4096x1024.size a) ∧
  (∀ (k0_h4 : k0_cond4 v1 v3 = 1#1), ∀ a, (k0_off12 v3) a + S512x128.size a ≤ S4096x1024.size a) ∧
  (∀ (k0_h4 : k0_cond4 v1 v3 = 1#1), ∀ a, (k0_off13 v3) a + S512x128.size a ≤ S4096x1024.size a) ∧
  (∀ (k0_h4 : k0_cond4 v1 v3 = 1#1), ∀ a, (k0_off14 v3) a + S512x128.size a ≤ S4096x1024.size a) ∧
  (∀ (k0_h4 : k0_cond4 v1 v3 = 1#1), ∀ a, (k0_off15 v3) a + S512x128.size a ≤ S4096x1024.size a) ∧
  (∀ (k0_h4 : k0_cond4 v1 v3 = 1#1), ∀ a, (k0_off16 v3) a + S512x128.size a ≤ S4096x1024.size a) ∧
  (∀ (k0_h4 : k0_cond4 v1 v3 = 1#1), ∀ a, (k0_off17 v3) a + S512x128.size a ≤ S4096x1024.size a)
theorem k0_mult1_dvd : ∀ (v1 : BitVec 32) (v3 : BitVec 32) (k0_hw1 : k0_chk1 v1 v3), ∀ (k0_h3 : k0_cond3 v1 v3 = 1#1), 512 ∣ (k0_mult1 v3).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v3) a + S512x128.size a ≤ S4096x1024.size a := fun v1 v3 k0_hw1 k0_h3 => k0_hw1.2.1 k0_h3
theorem k0_off3_inb : ∀ (v1 : BitVec 32) (v3 : BitVec 32) (k0_hw1 : k0_chk1 v1 v3), ∀ (k0_h3 : k0_cond3 v1 v3 = 1#1), ∀ a, (k0_off3 v3) a + S512x128.size a ≤ S4096x1024.size a := fun v1 v3 k0_hw1 k0_h3 => k0_hw1.2.2.1 k0_h3
theorem k0_off4_inb : ∀ (v1 : BitVec 32) (v3 : BitVec 32) (k0_hw1 : k0_chk1 v1 v3), ∀ (k0_h3 : k0_cond3 v1 v3 = 1#1), ∀ a, (k0_off4 v3) a + S512x128.size a ≤ S4096x1024.size a := fun v1 v3 k0_hw1 k0_h3 => k0_hw1.2.2.2.1 k0_h3
theorem k0_off5_inb : ∀ (v1 : BitVec 32) (v3 : BitVec 32) (k0_hw1 : k0_chk1 v1 v3), ∀ (k0_h3 : k0_cond3 v1 v3 = 1#1), ∀ a, (k0_off5 v3) a + S512x128.size a ≤ S4096x1024.size a := fun v1 v3 k0_hw1 k0_h3 => k0_hw1.2.2.2.2.1 k0_h3
theorem k0_off6_inb : ∀ (v1 : BitVec 32) (v3 : BitVec 32) (k0_hw1 : k0_chk1 v1 v3), ∀ (k0_h3 : k0_cond3 v1 v3 = 1#1), ∀ a, (k0_off6 v3) a + S512x128.size a ≤ S4096x1024.size a := fun v1 v3 k0_hw1 k0_h3 => k0_hw1.2.2.2.2.2.1 k0_h3
theorem k0_off7_inb : ∀ (v1 : BitVec 32) (v3 : BitVec 32) (k0_hw1 : k0_chk1 v1 v3), ∀ (k0_h3 : k0_cond3 v1 v3 = 1#1), ∀ a, (k0_off7 v3) a + S512x128.size a ≤ S4096x1024.size a := fun v1 v3 k0_hw1 k0_h3 => k0_hw1.2.2.2.2.2.2.1 k0_h3
theorem k0_off8_inb : ∀ (v1 : BitVec 32) (v3 : BitVec 32) (k0_hw1 : k0_chk1 v1 v3), ∀ (k0_h3 : k0_cond3 v1 v3 = 1#1), ∀ a, (k0_off8 v3) a + S512x128.size a ≤ S4096x1024.size a := fun v1 v3 k0_hw1 k0_h3 => k0_hw1.2.2.2.2.2.2.2.1 k0_h3
theorem k0_off9_inb : ∀ (v1 : BitVec 32) (v3 : BitVec 32) (k0_hw1 : k0_chk1 v1 v3), ∀ (k0_h3 : k0_cond3 v1 v3 = 1#1), ∀ a, (k0_off9 v3) a + S512x128.size a ≤ S4096x1024.size a := fun v1 v3 k0_hw1 k0_h3 => k0_hw1.2.2.2.2.2.2.2.2.1 k0_h3
theorem k0_mult2_dvd : ∀ (v1 : BitVec 32) (v3 : BitVec 32) (k0_hw1 : k0_chk1 v1 v3), ∀ (k0_h4 : k0_cond4 v1 v3 = 1#1), 512 ∣ (k0_mult2 v3).toNat := fun v1 v3 k0_hw1 k0_h4 => k0_hw1.2.2.2.2.2.2.2.2.2.1 k0_h4
theorem k0_off10_inb : ∀ (v1 : BitVec 32) (v3 : BitVec 32) (k0_hw1 : k0_chk1 v1 v3), ∀ (k0_h4 : k0_cond4 v1 v3 = 1#1), ∀ a, (k0_off10 v3) a + S512x128.size a ≤ S4096x1024.size a := fun v1 v3 k0_hw1 k0_h4 => k0_hw1.2.2.2.2.2.2.2.2.2.2.1 k0_h4
theorem k0_off11_inb : ∀ (v1 : BitVec 32) (v3 : BitVec 32) (k0_hw1 : k0_chk1 v1 v3), ∀ (k0_h4 : k0_cond4 v1 v3 = 1#1), ∀ a, (k0_off11 v3) a + S512x128.size a ≤ S4096x1024.size a := fun v1 v3 k0_hw1 k0_h4 => k0_hw1.2.2.2.2.2.2.2.2.2.2.2.1 k0_h4
theorem k0_off12_inb : ∀ (v1 : BitVec 32) (v3 : BitVec 32) (k0_hw1 : k0_chk1 v1 v3), ∀ (k0_h4 : k0_cond4 v1 v3 = 1#1), ∀ a, (k0_off12 v3) a + S512x128.size a ≤ S4096x1024.size a := fun v1 v3 k0_hw1 k0_h4 => k0_hw1.2.2.2.2.2.2.2.2.2.2.2.2.1 k0_h4
theorem k0_off13_inb : ∀ (v1 : BitVec 32) (v3 : BitVec 32) (k0_hw1 : k0_chk1 v1 v3), ∀ (k0_h4 : k0_cond4 v1 v3 = 1#1), ∀ a, (k0_off13 v3) a + S512x128.size a ≤ S4096x1024.size a := fun v1 v3 k0_hw1 k0_h4 => k0_hw1.2.2.2.2.2.2.2.2.2.2.2.2.2.1 k0_h4
theorem k0_off14_inb : ∀ (v1 : BitVec 32) (v3 : BitVec 32) (k0_hw1 : k0_chk1 v1 v3), ∀ (k0_h4 : k0_cond4 v1 v3 = 1#1), ∀ a, (k0_off14 v3) a + S512x128.size a ≤ S4096x1024.size a := fun v1 v3 k0_hw1 k0_h4 => k0_hw1.2.2.2.2.2.2.2.2.2.2.2.2.2.2.1 k0_h4
theorem k0_off15_inb : ∀ (v1 : BitVec 32) (v3 : BitVec 32) (k0_hw1 : k0_chk1 v1 v3), ∀ (k0_h4 : k0_cond4 v1 v3 = 1#1), ∀ a, (k0_off15 v3) a + S512x128.size a ≤ S4096x1024.size a := fun v1 v3 k0_hw1 k0_h4 => k0_hw1.2.2.2.2.2.2.2.2.2.2.2.2.2.2.2.1 k0_h4
theorem k0_off16_inb : ∀ (v1 : BitVec 32) (v3 : BitVec 32) (k0_hw1 : k0_chk1 v1 v3), ∀ (k0_h4 : k0_cond4 v1 v3 = 1#1), ∀ a, (k0_off16 v3) a + S512x128.size a ≤ S4096x1024.size a := fun v1 v3 k0_hw1 k0_h4 => k0_hw1.2.2.2.2.2.2.2.2.2.2.2.2.2.2.2.2.1 k0_h4
theorem k0_off17_inb : ∀ (v1 : BitVec 32) (v3 : BitVec 32) (k0_hw1 : k0_chk1 v1 v3), ∀ (k0_h4 : k0_cond4 v1 v3 = 1#1), ∀ a, (k0_off17 v3) a + S512x128.size a ≤ S4096x1024.size a := fun v1 v3 k0_hw1 k0_h4 => k0_hw1.2.2.2.2.2.2.2.2.2.2.2.2.2.2.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond5 (v3 : BitVec 32) : BitVec 1 :=
  let c7_i32 : BitVec 32 := 7#32
  let v16 : BitVec 1 := Scalar.cmpi .eq v3 c7_i32
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_8 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x16x64 : Shape := ⟨3, ![4096, 16, 64]⟩
abbrev S4096x16 : Shape := ⟨2, ![4096, 16]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S16x64x4096 : Shape := ⟨3, ![16, 64, 4096]⟩
abbrev S16x4096x64 : Shape := ⟨3, ![16, 4096, 64]⟩

abbrev nBuf : Space → Nat
  | .hbm => 105
  | .vmem => 0
  | .smem => 0
  | _ => 0

abbrev bufTy : (tb : Table) → Fin (tcTables nBuf tb) → BufTy
  | .hbm, ⟨0, _⟩ => ⟨S4096x16x64, .f32⟩
  | .hbm, ⟨1, _⟩ => ⟨S4096x16x64, .f32⟩
  | .hbm, ⟨2, _⟩ => ⟨S4096x16x64, .f32⟩
  | .hbm, ⟨3, _⟩ => ⟨S4096x16, .f32⟩
  | .hbm, ⟨4, _⟩ => ⟨S4096x16x64, .f32⟩
  | .hbm, ⟨5, _⟩ => ⟨S16x4096, .f32⟩
  | .hbm, ⟨6, _⟩ => ⟨S16x4096x4096, .f32⟩
  | .hbm, ⟨7, _⟩ => ⟨S16x4096x1, .f32⟩
  | .hbm, ⟨8, _⟩ => ⟨S16x1x4096, .f32⟩
  | .hbm, ⟨9, _⟩ => ⟨S16x4096x4096, .f32⟩
  | .hbm, ⟨10, _⟩ => ⟨S16x4096x4096, .f32⟩
  | .hbm, ⟨11, _⟩ => ⟨S16x4096x4096, .f32⟩
  | .hbm, ⟨12, _⟩ => ⟨S16x4096x4096, .f32⟩
  | .hbm, ⟨13, _⟩ => ⟨S4096, .i32⟩
  | .hbm, ⟨14, _⟩ => ⟨S1x4096, .i32⟩
  | .hbm, ⟨15, _⟩ => ⟨S4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S16x4096x4096, .i1⟩
  | .hbm, ⟨23, _⟩ => ⟨S16x4096x4096, .f32⟩
  | .hbm, ⟨24, _⟩ => ⟨S16x4096x4096, .f32⟩
  | .hbm, ⟨25, _⟩ => ⟨S_, .f32⟩
  | .hbm, ⟨26, _⟩ => ⟨S16x4096x4096, .f32⟩
  | .hbm, ⟨27, _⟩ => ⟨S_, .f32⟩
  | .hbm, ⟨28, _⟩ => ⟨S16x4096, .f32⟩
  | .hbm, ⟨29, _⟩ => ⟨S16x4096x1, .f32⟩
  | .hbm, ⟨30, _⟩ => ⟨S16x4096x4096, .f32⟩
  | .hbm, ⟨31, _⟩ => ⟨S16x4096x4096, .i1⟩
  | .hbm, ⟨32, _⟩ => ⟨S16x4096x4096, .f32⟩
  | .hbm, ⟨33, _⟩ => ⟨S_, .f32⟩
  | .hbm, ⟨34, _⟩ => ⟨S16x4096, .f32⟩
  | .hbm, ⟨35, _⟩ => ⟨S_, .f32⟩
  | .hbm, ⟨36, _⟩ => ⟨S16x4096, .f32⟩
  | .hbm, ⟨37, _⟩ => ⟨S16x4096, .f32⟩
  | .hbm, ⟨38, _⟩ => ⟨S_, .f32⟩
  | .hbm, ⟨39, _⟩ => ⟨S16x4096, .f32⟩
  | .hbm, ⟨40, _⟩ => ⟨S16x4096, .i1⟩
  | .hbm, ⟨41, _⟩ => ⟨S_, .f32⟩
  | .hbm, ⟨42, _⟩ => ⟨S16x4096, .f32⟩
  | .hbm, ⟨43, _⟩ => ⟨S16x4096, .i1⟩
  | .hbm, ⟨44, _⟩ => ⟨S_, .f32⟩
  | .hbm, ⟨45, _⟩ => ⟨S16x4096, .f32⟩
  | .hbm, ⟨46, _⟩ => ⟨S_, .f32⟩
  | .hbm, ⟨47, _⟩ => ⟨S16x4096, .f32⟩
  | .hbm, ⟨48, _⟩ => ⟨S_, .f32⟩
  | .hbm, ⟨49, _⟩ => ⟨S16x4096, .f32⟩
  | .hbm, ⟨50, _⟩ => ⟨S16x4096, .f32⟩
  | .hbm, ⟨51, _⟩ => ⟨S16x4096, .f32⟩
  | .hbm, ⟨52, _⟩ => ⟨S16x4096x1, .f32⟩
  | .hbm, ⟨53, _⟩ => ⟨S16x4096x4096, .f32⟩
  | .hbm, ⟨54, _⟩ => ⟨S16x4096x4096, .f32⟩
  | .hbm, ⟨55, _⟩ => ⟨S16x4096x4096, .f32⟩
  | .hbm, ⟨56, _⟩ => ⟨S_, .f32⟩
  | .hbm, ⟨57, _⟩ => ⟨S16x4096, .f32⟩
  | .hbm, ⟨58, _⟩ => ⟨S16x4096x1, .f32⟩
  | .hbm, ⟨59, _⟩ => ⟨S16x4096x4096, .f32⟩
  | .hbm, ⟨60, _⟩ => ⟨S16x4096x4096, .f32⟩
  | .hbm, ⟨61, _⟩ => ⟨S16x4096x1, .f32⟩
  | .hbm, ⟨62, _⟩ => ⟨S_, .f32⟩
  | .hbm, ⟨63, _⟩ => ⟨S16x4096x1, .f32⟩
  | .hbm, ⟨64, _⟩ => ⟨S16x4096x1, .f32⟩
  | .hbm, ⟨65, _⟩ => ⟨S16x64x4096, .f32⟩
  | .hbm, ⟨66, _⟩ => ⟨S4096x16x64, .f32⟩
  | .hbm, ⟨67, _⟩ => ⟨S16x64x4096, .f32⟩
  | .hbm, ⟨68, _⟩ => ⟨S16x4096x4096, .f32⟩
  | .hbm, ⟨69, _⟩ => ⟨S16x64x4096, .f32⟩
  | .hbm, ⟨70, _⟩ => ⟨S4096x16x64, .f32⟩
  | .hbm, ⟨71, _⟩ => ⟨S16x4096x4096, .f32⟩
  | .hbm, ⟨72, _⟩ => ⟨S16x4096x4096, .f32⟩
  | .hbm, ⟨73, _⟩ => ⟨S16x4096x4096, .f32⟩
  | .hbm, ⟨74, _⟩ => ⟨S_, .f32⟩
  | .hbm, ⟨75, _⟩ => ⟨S16x4096, .f32⟩
  | .hbm, ⟨76, _⟩ => ⟨S16x4096x1, .f32⟩
  | .hbm, ⟨77, _⟩ => ⟨S16x4096x1, .f32⟩
  | .hbm, ⟨78, _⟩ => ⟨S16x4096x4096, .f32⟩
  | .hbm, ⟨79, _⟩ => ⟨S16x4096x4096, .f32⟩
  | .hbm, ⟨80, _⟩ => ⟨S_, .f32⟩
  | .hbm, ⟨81, _⟩ => ⟨S16x4096, .f32⟩
  | .hbm, ⟨82, _⟩ => ⟨S16x4096x4096, .f32⟩
  | .hbm, ⟨83, _⟩ => ⟨S16x4096x4096, .f32⟩
  | .hbm, ⟨84, _⟩ => ⟨S16x4096x4096, .f32⟩
  | .hbm, ⟨85, _⟩ => ⟨S_, .f32⟩
  | .hbm, ⟨86, _⟩ => ⟨S16x4096x4096, .f32⟩
  | .hbm, ⟨87, _⟩ => ⟨S16x4096x4096, .f32⟩
  | .hbm, ⟨88, _⟩ => ⟨S_, .f32⟩
  | .hbm, ⟨89, _⟩ => ⟨S16x4096, .f32⟩
  | .hbm, ⟨90, _⟩ => ⟨S16x4096x1, .f32⟩
  | .hbm, ⟨91, _⟩ => ⟨S16x4096x4096, .f32⟩
  | .hbm, ⟨92, _⟩ => ⟨S_, .f32⟩
  | .hbm, ⟨93, _⟩ => ⟨S16x4096, .f32⟩
  | .hbm, ⟨94, _⟩ => ⟨S16x1x4096, .f32⟩
  | .hbm, ⟨95, _⟩ => ⟨S_, .f32⟩
  | .hbm, ⟨96, _⟩ => ⟨S16x4096, .f32⟩
  | .hbm, ⟨97, _⟩ => ⟨S_, .f32⟩
  | .hbm, ⟨98, _⟩ => ⟨S16x4096, .f32⟩
  | .hbm, ⟨99, _⟩ => ⟨S16x4096, .f32⟩
  | .hbm, ⟨100, _⟩ => ⟨S16x4096x64, .f32⟩
  | .hbm, ⟨101, _⟩ => ⟨S4096x16x64, .f32⟩
  | .hbm, ⟨102, _⟩ => ⟨S16x4096x64, .f32⟩
  | .hbm, ⟨103, _⟩ => ⟨S4096x16x64, .f32⟩
  | .hbm, ⟨104, _⟩ => ⟨S4096x16, .f32⟩
  | _, _ => ⟨S4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_call0_v0 : Ref sig .tc := ⟨.hbm, 21, rfl⟩
abbrev main_v15_1 : Ref sig .tc := ⟨.hbm, 22, rfl⟩
abbrev main_call0_v2 : Ref sig .tc := ⟨.hbm, 23, rfl⟩
abbrev main_v15_0 : Ref sig .tc := ⟨.hbm, 24, rfl⟩
abbrev main_call0_cst : Ref sig .tc := ⟨.hbm, 25, rfl⟩
abbrev main_v15_2 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call1_cst : Ref sig .tc := ⟨.hbm, 85, rfl⟩
abbrev main_call1_v0 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_cst_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]
-- ==== Attn.lean ====
abbrev S4096x16x64 : Shape := ⟨3, ![4096, 16, 64]⟩
abbrev S4096x16 : Shape := ⟨2, ![4096, 16]⟩
abbrev S36 : Shape := ⟨1, ![36]⟩
abbrev S4096x16x1 : Shape := ⟨3, ![4096, 16, 1]⟩
abbrev S_ : Shape := ⟨0, ![]⟩
abbrev S4096x16x3 : Shape := ⟨3, ![4096, 16, 3]⟩
abbrev S4096x16x58 : Shape := ⟨3, ![4096, 16, 58]⟩
abbrev S4096x16x128 : Shape := ⟨3, ![4096, 16, 128]⟩
abbrev S4096x2048 : Shape := ⟨2, ![4096, 2048]⟩
abbrev S4096x16x63 : Shape := ⟨3, ![4096, 16, 63]⟩
abbrev S4096x1024 : Shape := ⟨2, ![4096, 1024]⟩
abbrev S512x2048 : Shape := ⟨2, ![512, 2048]⟩
abbrev S1 : Shape := ⟨1, ![1]⟩
abbrev S512x1024 : Shape := ⟨2, ![512, 1024]⟩
abbrev S16x512x128 : Shape := ⟨3, ![16, 512, 128]⟩
abbrev S512x128 : Shape := ⟨2, ![512, 128]⟩
abbrev S512x512 : Shape := ⟨2, ![512, 512]⟩
abbrev S1x512x128 : Shape := ⟨3, ![1, 512, 128]⟩
abbrev S512 : Shape := ⟨1, ![512]⟩
abbrev S512x1 : Shape := ⟨2, ![512, 1]⟩
abbrev S512x64 : Shape := ⟨2, ![512, 64]⟩

abbrev nBuf : Space → Nat
  | .hbm => 38
  | .vmem => 12
  | .smem => 2
  | _ => 0

abbrev bufTy : (tb : Table) → Fin (tcTables nBuf tb) → BufTy
  | .hbm, ⟨0, _⟩ => ⟨S4096x16x64, .f32⟩
  | .hbm, ⟨1, _⟩ => ⟨S4096x16x64, .f32⟩
  | .hbm, ⟨2, _⟩ => ⟨S4096x16x64, .f32⟩
  | .hbm, ⟨3, _⟩ => ⟨S4096x16, .f32⟩
  | .hbm, ⟨4, _⟩ => ⟨S4096x16, .bf16⟩
  | .hbm, ⟨5, _⟩ => ⟨S4096x16, .f32⟩
  | .hbm, ⟨6, _⟩ => ⟨S4096x16, .f32⟩
  | .hbm, ⟨7, _⟩ => ⟨S4096x16, .bf16⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S4096x16, .bf16⟩
  | .hbm, ⟨12, _⟩ => ⟨S4096x16, .f32⟩
  | .hbm, ⟨13, _⟩ => ⟨S4096x16x1, .f32⟩
  | .hbm, ⟨14, _⟩ => ⟨S4096x16x1, .f32⟩
  | .hbm, ⟨15, _⟩ => ⟨S4096x16x1, .f32⟩
  | .hbm, ⟨16, _⟩ => ⟨S_, .f32⟩
  | .hbm, ⟨17, _⟩ => ⟨S4096x16x3, .f32⟩
  | .hbm, ⟨18, _⟩ => ⟨S_, .f32⟩
  | .hbm, ⟨19, _⟩ => ⟨S4096x16x58, .f32⟩
  | .hbm, ⟨20, _⟩ => ⟨S4096x16x128, .f32⟩
  | .hbm, ⟨21, _⟩ => ⟨S4096x2048, .f32⟩
  | .hbm, ⟨22, _⟩ => ⟨S4096x2048, .bf16⟩
  | .hbm, ⟨23, _⟩ => ⟨S4096x16x1, .f32⟩
  | .hbm, ⟨24, _⟩ => ⟨S4096x16x1, .f32⟩
  | .hbm, ⟨25, _⟩ => ⟨S4096x16x1, .f32⟩
  | .hbm, ⟨26, _⟩ => ⟨S4096x16x128, .f32⟩
  | .hbm, ⟨27, _⟩ => ⟨S4096x2048, .f32⟩
  | .hbm, ⟨28, _⟩ => ⟨S4096x2048, .bf16⟩
  | .hbm, ⟨29, _⟩ => ⟨S_, .f32⟩
  | .hbm, ⟨30, _⟩ => ⟨S4096x16x1, .f32⟩
  | .hbm, ⟨31, _⟩ => ⟨S_, .f32⟩
  | .hbm, ⟨32, _⟩ => ⟨S4096x16x63, .f32⟩
  | .hbm, ⟨33, _⟩ => ⟨S4096x16x128, .f32⟩
  | .hbm, ⟨34, _⟩ => ⟨S4096x2048, .f32⟩
  | .hbm, ⟨35, _⟩ => ⟨S4096x2048, .bf16⟩
  | .hbm, ⟨36, _⟩ => ⟨S4096x1024, .f32⟩
  | .hbm, ⟨37, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S16x512x128, .f32⟩
  | .local _ .vmem, ⟨11, _⟩ => ⟨S16x512x128, .f32⟩
  | .local _ .smem, ⟨0, _⟩ => ⟨S36, .i32⟩
  | .local _ .smem, ⟨1, _⟩ => ⟨S36, .i32⟩
  | _, _ => ⟨S4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28_0 : Ref sig .tc := ⟨.hbm, 36, rfl⟩
abbrev main_v28_1 : Ref sig .tc := ⟨.hbm, 37, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S4096x16x64 : Shape := ⟨3, ![4096, 16, 64]⟩
abbrev S4096x16 : Shape := ⟨2, ![4096, 16]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S_ : Shape := ⟨0, ![]⟩
abbrev S16x64x4096 : Shape := ⟨3, ![16, 64, 4096]⟩
abbrev S4096x1024 : Shape := ⟨2, ![4096, 1024]⟩
abbrev S4096x16x1 : Shape := ⟨3, ![4096, 16, 1]⟩

abbrev nBuf : Space → Nat
  | .hbm => 39
  | .vmem => 0
  | .smem => 0
  | _ => 0

abbrev bufTy : (tb : Table) → Fin (tcTables nBuf tb) → BufTy
  | .hbm, ⟨0, _⟩ => ⟨S4096x16x64, .f32⟩
  | .hbm, ⟨1, _⟩ => ⟨S4096x16x64, .f32⟩
  | .hbm, ⟨2, _⟩ => ⟨S4096x16x64, .f32⟩
  | .hbm, ⟨3, _⟩ => ⟨S4096x16, .f32⟩
  | .hbm, ⟨4, _⟩ => ⟨S16x4096, .f32⟩
  | .hbm, ⟨5, _⟩ => ⟨S16x4096x4096, .f32⟩
  | .hbm, ⟨6, _⟩ => ⟨S16x4096x1, .f32⟩
  | .hbm, ⟨7, _⟩ => ⟨S16x1x4096, .f32⟩
  | .hbm, ⟨8, _⟩ => ⟨S16x4096x4096, .f32⟩
  | .hbm, ⟨9, _⟩ => ⟨S16x4096x4096, .f32⟩
  | .hbm, ⟨10, _⟩ => ⟨S16x4096x4096, .f32⟩
  | .hbm, ⟨11, _⟩ => ⟨S16x4096x4096, .f32⟩
  | .hbm, ⟨12, _⟩ => ⟨S16x4096x4096, .i32⟩
  | .hbm, ⟨13, _⟩ => ⟨S16x4096x4096, .i32⟩
  | .hbm, ⟨14, _⟩ => ⟨S16x4096x4096, .i1⟩
  | .hbm, ⟨15, _⟩ => ⟨S_, .f32⟩
  | .hbm, ⟨16, _⟩ => ⟨S_, .f32⟩
  | .hbm, ⟨17, _⟩ => ⟨S16x4096x4096, .f32⟩
  | .hbm, ⟨18, _⟩ => ⟨S16x4096x4096, .f32⟩
  | .hbm, ⟨19, _⟩ => ⟨S_, .f32⟩
  | .hbm, ⟨20, _⟩ => ⟨S16x4096, .f32⟩
  | .hbm, ⟨21, _⟩ => ⟨S16x4096x1, .f32⟩
  | .hbm, ⟨22, _⟩ => ⟨S16x4096x4096, .f32⟩
  | .hbm, ⟨23, _⟩ => ⟨S16x4096x4096, .f32⟩
  | .hbm, ⟨24, _⟩ => ⟨S16x4096x4096, .f32⟩
  | .hbm, ⟨25, _⟩ => ⟨S_, .f32⟩
  | .hbm, ⟨26, _⟩ => ⟨S16x4096, .f32⟩
  | .hbm, ⟨27, _⟩ => ⟨S16x4096x1, .f32⟩
  | .hbm, ⟨28, _⟩ => ⟨S16x4096x4096, .f32⟩
  | .hbm, ⟨29, _⟩ => ⟨S16x4096x4096, .f32⟩
  | .hbm, ⟨30, _⟩ => ⟨S16x64x4096, .f32⟩
  | .hbm, ⟨31, _⟩ => ⟨S4096x16x64, .f32⟩
  | .hbm, ⟨32, _⟩ => ⟨S16x4096, .f32⟩
  | .hbm, ⟨33, _⟩ => ⟨S16x4096, .f32⟩
  | .hbm, ⟨34, _⟩ => ⟨S4096x16, .f32⟩
  | .hbm, ⟨35, _⟩ => ⟨S4096x1024, .f32⟩
  | .hbm, ⟨36, _⟩ => ⟨S4096x16x1, .f32⟩
  | .hbm, ⟨37, _⟩ => ⟨S4096x16x64, .f32⟩
  | .hbm, ⟨38, _⟩ => ⟨S4096x1024, .f32⟩
  | _, _ => ⟨S4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== MixIn.lean ====
abbrev S4096x1024 : Shape := ⟨2, ![4096, 1024]⟩
abbrev S1024x6176 : Shape := ⟨2, ![1024, 6176]⟩
abbrev S_ : Shape := ⟨0, ![]⟩
abbrev S1024x6272 : Shape := ⟨2, ![1024, 6272]⟩
abbrev S4096x6272 : Shape := ⟨2, ![4096, 6272]⟩
abbrev S2048x1024 : Shape := ⟨2, ![2048, 1024]⟩
abbrev S1024x896 : Shape := ⟨2, ![1024, 896]⟩
abbrev S2048x896 : Shape := ⟨2, ![2048, 896]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x6176, .f32⟩
  | .hbm, ⟨2, _⟩ => ⟨S4096x1024, .bf16⟩
  | .hbm, ⟨3, _⟩ => ⟨S1024x6176, .bf16⟩
  | .hbm, ⟨4, _⟩ => ⟨S_, .i32⟩
  | .hbm, ⟨5, _⟩ => ⟨S_, .bf16⟩
  | .hbm, ⟨6, _⟩ => ⟨S1024x6272, .bf16⟩
  | .hbm, ⟨7, _⟩ => ⟨S4096x6272, .f32⟩
  | .local _ .vmem, ⟨0, _⟩ => ⟨S2048x1024, .bf16⟩
  | .local _ .vmem, ⟨1, _⟩ => ⟨S2048x1024, .bf16⟩
  | .local _ .vmem, ⟨2, _⟩ => ⟨S1024x896, .bf16⟩
  | .local _ .vmem, ⟨3, _⟩ => ⟨S1024x896, .bf16⟩
  | .local _ .vmem, ⟨4, _⟩ => ⟨S2048x896, .f32⟩
  | .local _ .vmem, ⟨5, _⟩ => ⟨S2048x896, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInIdeal.lean ====
abbrev S4096x1024 : Shape := ⟨2, ![4096, 1024]⟩
abbrev S1024x6176 : Shape := ⟨2, ![1024, 6176]⟩
abbrev S_ : Shape := ⟨0, ![]⟩
abbrev S1024x6272 : Shape := ⟨2, ![1024, 6272]⟩
abbrev S4096x6272 : Shape := ⟨2, ![4096, 6272]⟩
abbrev S2048x1024 : Shape := ⟨2, ![2048, 1024]⟩
abbrev S1024x896 : Shape := ⟨2, ![1024, 896]⟩
abbrev S2048x896 : Shape := ⟨2, ![2048, 896]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x6176, .f32⟩
  | .hbm, ⟨2, _⟩ => ⟨S4096x1024, .bf16⟩
  | .hbm, ⟨3, _⟩ => ⟨S1024x6176, .bf16⟩
  | .hbm, ⟨4, _⟩ => ⟨S_, .i32⟩
  | .hbm, ⟨5, _⟩ => ⟨S_, .bf16⟩
  | .hbm, ⟨6, _⟩ => ⟨S1024x6272, .bf16⟩
  | .hbm, ⟨7, _⟩ => ⟨S4096x6272, .f32⟩
  | .local _ .vmem, ⟨0, _⟩ => ⟨S2048x1024, .bf16⟩
  | .local _ .vmem, ⟨1, _⟩ => ⟨S2048x1024, .bf16⟩
  | .local _ .vmem, ⟨2, _⟩ => ⟨S1024x896, .bf16⟩
  | .local _ .vmem, ⟨3, _⟩ => ⟨S1024x896, .bf16⟩
  | .local _ .vmem, ⟨4, _⟩ => ⟨S2048x896, .f32⟩
  | .local _ .vmem, ⟨5, _⟩ => ⟨S2048x896, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRefIdeal.lean ====
abbrev S4096x1024 : Shape := ⟨2, ![4096, 1024]⟩
abbrev S1024x6176 : Shape := ⟨2, ![1024, 6176]⟩
abbrev S4096x6176 : Shape := ⟨2, ![4096, 6176]⟩
abbrev S_ : Shape := ⟨0, ![]⟩
abbrev S4096x6272 : Shape := ⟨2, ![4096, 6272]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6176, .f32⟩
  | .hbm, ⟨2, _⟩ => ⟨S4096x6176, .f32⟩
  | .hbm, ⟨3, _⟩ => ⟨S_, .i32⟩
  | .hbm, ⟨4, _⟩ => ⟨S_, .f32⟩
  | .hbm, ⟨5, _⟩ => ⟨S4096x6272, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== MixDw.lean ====
abbrev S4096x1024 : Shape := ⟨2, ![4096, 1024]⟩
abbrev S1024x6176 : Shape := ⟨2, ![1024, 6176]⟩
abbrev S4096x6176 : Shape := ⟨2, ![4096, 6176]⟩
abbrev S_ : Shape := ⟨0, ![]⟩
abbrev S4096x6272 : Shape := ⟨2, ![4096, 6272]⟩
abbrev S1024x6272 : Shape := ⟨2, ![1024, 6272]⟩
abbrev S4096x896 : Shape := ⟨2, ![4096, 896]⟩
abbrev S1024x896 : Shape := ⟨2, ![1024, 896]⟩

abbrev nBuf : Space → Nat
  | .hbm => 9
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x6176, .f32⟩
  | .hbm, ⟨2, _⟩ => ⟨S4096x6176, .f32⟩
  | .hbm, ⟨3, _⟩ => ⟨S4096x1024, .bf16⟩
  | .hbm, ⟨4, _⟩ => ⟨S4096x6176, .bf16⟩
  | .hbm, ⟨5, _⟩ => ⟨S_, .i32⟩
  | .hbm, ⟨6, _⟩ => ⟨S_, .bf16⟩
  | .hbm, ⟨7, _⟩ => ⟨S4096x6272, .bf16⟩
  | .hbm, ⟨8, _⟩ => ⟨S1024x6272, .bf16⟩
  | .local _ .vmem, ⟨0, _⟩ => ⟨S4096x1024, .bf16⟩
  | .local _ .vmem, ⟨1, _⟩ => ⟨S4096x896, .bf16⟩
  | .local _ .vmem, ⟨2, _⟩ => ⟨S4096x896, .bf16⟩
  | .local _ .vmem, ⟨3, _⟩ => ⟨S1024x896, .bf16⟩
  | .local _ .vmem, ⟨4, _⟩ => ⟨S1024x896, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDwIdeal.lean ====
abbrev S4096x1024 : Shape := ⟨2, ![4096, 1024]⟩
abbrev S1024x6176 : Shape := ⟨2, ![1024, 6176]⟩
abbrev S4096x6176 : Shape := ⟨2, ![4096, 6176]⟩
abbrev S_ : Shape := ⟨0, ![]⟩
abbrev S4096x6272 : Shape := ⟨2, ![4096, 6272]⟩
abbrev S1024x6272 : Shape := ⟨2, ![1024, 6272]⟩
abbrev S4096x896 : Shape := ⟨2, ![4096, 896]⟩
abbrev S1024x896 : Shape := ⟨2, ![1024, 896]⟩

abbrev nBuf : Space → Nat
  | .hbm => 9
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x6176, .f32⟩
  | .hbm, ⟨2, _⟩ => ⟨S4096x6176, .f32⟩
  | .hbm, ⟨3, _⟩ => ⟨S4096x1024, .bf16⟩
  | .hbm, ⟨4, _⟩ => ⟨S4096x6176, .bf16⟩
  | .hbm, ⟨5, _⟩ => ⟨S_, .i32⟩
  | .hbm, ⟨6, _⟩ => ⟨S_, .bf16⟩
  | .hbm, ⟨7, _⟩ => ⟨S4096x6272, .bf16⟩
  | .hbm, ⟨8, _⟩ => ⟨S1024x6272, .bf16⟩
  | .local _ .vmem, ⟨0, _⟩ => ⟨S4096x1024, .bf16⟩
  | .local _ .vmem, ⟨1, _⟩ => ⟨S4096x896, .bf16⟩
  | .local _ .vmem, ⟨2, _⟩ => ⟨S4096x896, .bf16⟩
  | .local _ .vmem, ⟨3, _⟩ => ⟨S1024x896, .bf16⟩
  | .local _ .vmem, ⟨4, _⟩ => ⟨S1024x896, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDwRefIdeal.lean ====
abbrev S4096x1024 : Shape := ⟨2, ![4096, 1024]⟩
abbrev S1024x6176 : Shape := ⟨2, ![1024, 6176]⟩
abbrev S4096x6176 : Shape := ⟨2, ![4096, 6176]⟩
abbrev S6176x1024 : Shape := ⟨2, ![6176, 1024]⟩
abbrev S_ : Shape := ⟨0, ![]⟩
abbrev S1024x6272 : Shape := ⟨2, ![1024, 6272]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6176, .f32⟩
  | .hbm, ⟨2, _⟩ => ⟨S4096x6176, .f32⟩
  | .hbm, ⟨3, _⟩ => ⟨S4096x6176, .f32⟩
  | .hbm, ⟨4, _⟩ => ⟨S6176x1024, .f32⟩
  | .hbm, ⟨5, _⟩ => ⟨S1024x6176, .f32⟩
  | .hbm, ⟨6, _⟩ => ⟨S_, .i32⟩
  | .hbm, ⟨7, _⟩ => ⟨S_, .f32⟩
  | .hbm, ⟨8, _⟩ => ⟨S1024x6272, .f32⟩
  | .hbm, ⟨9, _⟩ => ⟨S1024x6272, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== MixDh.lean ====
abbrev S4096x1024 : Shape := ⟨2, ![4096, 1024]⟩
abbrev S1024x6176 : Shape := ⟨2, ![1024, 6176]⟩
abbrev S4096x6176 : Shape := ⟨2, ![4096, 6176]⟩
abbrev S_ : Shape := ⟨0, ![]⟩
abbrev S4096x6272 : Shape := ⟨2, ![4096, 6272]⟩
abbrev S1024x6272 : Shape := ⟨2, ![1024, 6272]⟩
abbrev S512x6272 : Shape := ⟨2, ![512, 6272]⟩
abbrev S1024x512 : Shape := ⟨2, ![1024, 512]⟩

abbrev nBuf : Space → Nat
  | .hbm => 12
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x6176, .f32⟩
  | .hbm, ⟨2, _⟩ => ⟨S4096x6176, .f32⟩
  | .hbm, ⟨3, _⟩ => ⟨S4096x6176, .bf16⟩
  | .hbm, ⟨4, _⟩ => ⟨S_, .i32⟩
  | .hbm, ⟨5, _⟩ => ⟨S_, .bf16⟩
  | .hbm, ⟨6, _⟩ => ⟨S4096x6272, .bf16⟩
  | .hbm, ⟨7, _⟩ => ⟨S1024x6176, .bf16⟩
  | .hbm, ⟨8, _⟩ => ⟨S_, .i32⟩
  | .hbm, ⟨9, _⟩ => ⟨S_, .bf16⟩
  | .hbm, ⟨10, _⟩ => ⟨S1024x6272, .bf16⟩
  | .hbm, ⟨11, _⟩ => ⟨S4096x1024, .f32⟩
  | .local _ .vmem, ⟨0, _⟩ => ⟨S1024x6272, .bf16⟩
  | .local _ .vmem, ⟨1, _⟩ => ⟨S1024x6272, .bf16⟩
  | .local _ .vmem, ⟨2, _⟩ => ⟨S512x6272, .bf16⟩
  | .local _ .vmem, ⟨3, _⟩ => ⟨S512x6272, .bf16⟩
  | .local _ .vmem, ⟨4, _⟩ => ⟨S1024x512, .f32⟩
  | .local _ .vmem, ⟨5, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x6272 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x6272 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDhIdeal.lean ====
abbrev S4096x1024 : Shape := ⟨2, ![4096, 1024]⟩
abbrev S1024x6176 : Shape := ⟨2, ![1024, 6176]⟩
abbrev S4096x6176 : Shape := ⟨2, ![4096, 6176]⟩
abbrev S_ : Shape := ⟨0, ![]⟩
abbrev S4096x6272 : Shape := ⟨2, ![4096, 6272]⟩
abbrev S1024x6272 : Shape := ⟨2, ![1024, 6272]⟩
abbrev S512x6272 : Shape := ⟨2, ![512, 6272]⟩
abbrev S1024x512 : Shape := ⟨2, ![1024, 512]⟩

abbrev nBuf : Space → Nat
  | .hbm => 12
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x6176, .f32⟩
  | .hbm, ⟨2, _⟩ => ⟨S4096x6176, .f32⟩
  | .hbm, ⟨3, _⟩ => ⟨S4096x6176, .bf16⟩
  | .hbm, ⟨4, _⟩ => ⟨S_, .i32⟩
  | .hbm, ⟨5, _⟩ => ⟨S_, .bf16⟩
  | .hbm, ⟨6, _⟩ => ⟨S4096x6272, .bf16⟩
  | .hbm, ⟨7, _⟩ => ⟨S1024x6176, .bf16⟩
  | .hbm, ⟨8, _⟩ => ⟨S_, .i32⟩
  | .hbm, ⟨9, _⟩ => ⟨S_, .bf16⟩
  | .hbm, ⟨10, _⟩ => ⟨S1024x6272, .bf16⟩
  | .hbm, ⟨11, _⟩ => ⟨S4096x1024, .f32⟩
  | .local _ .vmem, ⟨0, _⟩ => ⟨S1024x6272, .bf16⟩
  | .local _ .vmem, ⟨1, _⟩ => ⟨S1024x6272, .bf16⟩
  | .local _ .vmem, ⟨2, _⟩ => ⟨S512x6272, .bf16⟩
  | .local _ .vmem, ⟨3, _⟩ => ⟨S512x6272, .bf16⟩
  | .local _ .vmem, ⟨4, _⟩ => ⟨S1024x512, .f32⟩
  | .local _ .vmem, ⟨5, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x6272 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x6272 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDhRefIdeal.lean ====
abbrev S4096x1024 : Shape := ⟨2, ![4096, 1024]⟩
abbrev S1024x6176 : Shape := ⟨2, ![1024, 6176]⟩
abbrev S4096x6176 : Shape := ⟨2, ![4096, 6176]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6176, .f32⟩
  | .hbm, ⟨2, _⟩ => ⟨S4096x6176, .f32⟩
  | .hbm, ⟨3, _⟩ => ⟨S4096x6176, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MixOut.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S1024x2048 : Shape := ⟨2, ![1024, 2048]⟩
abbrev S1024x1024 : Shape := ⟨2, ![1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S1x1024, .f32⟩
  | .hbm, ⟨4, _⟩ => ⟨S4096x2048, .bf16⟩
  | .hbm, ⟨5, _⟩ => ⟨S2048x1024, .bf16⟩
  | .hbm, ⟨6, _⟩ => ⟨S4096x1024, .f32⟩
  | .hbm, ⟨7, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixOutIdeal.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S1024x2048 : Shape := ⟨2, ![1024, 2048]⟩
abbrev S1024x1024 : Shape := ⟨2, ![1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S1x1024, .f32⟩
  | .hbm, ⟨4, _⟩ => ⟨S4096x2048, .bf16⟩
  | .hbm, ⟨5, _⟩ => ⟨S2048x1024, .bf16⟩
  | .hbm, ⟨6, _⟩ => ⟨S4096x1024, .f32⟩
  | .hbm, ⟨7, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixOutRefIdeal.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== MixDwo.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x2048, .bf16⟩
  | .hbm, ⟨4, _⟩ => ⟨S4096x1024, .bf16⟩
  | .hbm, ⟨5, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDwoIdeal.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x2048, .bf16⟩
  | .hbm, ⟨4, _⟩ => ⟨S4096x1024, .bf16⟩
  | .hbm, ⟨5, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDwoRefIdeal.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x1024, .f32⟩
  | .hbm, ⟨4, _⟩ => ⟨S1024x2048, .f32⟩
  | .hbm, ⟨5, _⟩ => ⟨S2048x1024, .f32⟩
  | .hbm, ⟨6, _⟩ => ⟨S2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FoxIn.lean ====
abbrev S4096x1024 : Shape := ⟨2, ![4096, 1024]⟩
abbrev S1024x4112 : Shape := ⟨2, ![1024, 4112]⟩
abbrev S_ : Shape := ⟨0, ![]⟩
abbrev S1024x4224 : Shape := ⟨2, ![1024, 4224]⟩
abbrev S4096x4224 : Shape := ⟨2, ![4096, 4224]⟩
abbrev S2048x1024 : Shape := ⟨2, ![2048, 1024]⟩
abbrev S1024x1408 : Shape := ⟨2, ![1024, 1408]⟩
abbrev S2048x1408 : Shape := ⟨2, ![2048, 1408]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4112, .f32⟩
  | .hbm, ⟨2, _⟩ => ⟨S4096x1024, .bf16⟩
  | .hbm, ⟨3, _⟩ => ⟨S1024x4112, .bf16⟩
  | .hbm, ⟨4, _⟩ => ⟨S_, .i32⟩
  | .hbm, ⟨5, _⟩ => ⟨S_, .bf16⟩
  | .hbm, ⟨6, _⟩ => ⟨S1024x4224, .bf16⟩
  | .hbm, ⟨7, _⟩ => ⟨S4096x4224, .f32⟩
  | .local _ .vmem, ⟨0, _⟩ => ⟨S2048x1024, .bf16⟩
  | .local _ .vmem, ⟨1, _⟩ => ⟨S2048x1024, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1408, .f32⟩
  | .local _ .vmem, ⟨5, _⟩ => ⟨S2048x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxInRefIdeal.lean ====
abbrev S4096x1024 : Shape := ⟨2, ![4096, 1024]⟩
abbrev S1024x4112 : Shape := ⟨2, ![1024, 4112]⟩
abbrev S4096x4112 : Shape := ⟨2, ![4096, 4112]⟩
abbrev S_ : Shape := ⟨0, ![]⟩
abbrev S4096x4224 : Shape := ⟨2, ![4096, 4224]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4112, .f32⟩
  | .hbm, ⟨2, _⟩ => ⟨S4096x4112, .f32⟩
  | .hbm, ⟨3, _⟩ => ⟨S_, .i32⟩
  | .hbm, ⟨4, _⟩ => ⟨S_, .f32⟩
  | .hbm, ⟨5, _⟩ => ⟨S4096x4224, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== FoxDw.lean ====
abbrev S4096x1024 : Shape := ⟨2, ![4096, 1024]⟩
abbrev S1024x4112 : Shape := ⟨2, ![1024, 4112]⟩
abbrev S4096x4112 : Shape := ⟨2, ![4096, 4112]⟩
abbrev S_ : Shape := ⟨0, ![]⟩
abbrev S4096x4224 : Shape := ⟨2, ![4096, 4224]⟩
abbrev S1024x4224 : Shape := ⟨2, ![1024, 4224]⟩
abbrev S4096x512 : Shape := ⟨2, ![4096, 512]⟩
abbrev S4096x1408 : Shape := ⟨2, ![4096, 1408]⟩
abbrev S512x1408 : Shape := ⟨2, ![512, 1408]⟩

abbrev nBuf : Space → Nat
  | .hbm => 9
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4112, .f32⟩
  | .hbm, ⟨2, _⟩ => ⟨S4096x4112, .f32⟩
  | .hbm, ⟨3, _⟩ => ⟨S4096x1024, .bf16⟩
  | .hbm, ⟨4, _⟩ => ⟨S4096x4112, .bf16⟩
  | .hbm, ⟨5, _⟩ => ⟨S_, .i32⟩
  | .hbm, ⟨6, _⟩ => ⟨S_, .bf16⟩
  | .hbm, ⟨7, _⟩ => ⟨S4096x4224, .bf16⟩
  | .hbm, ⟨8, _⟩ => ⟨S1024x4224, .bf16⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S512x1408, .bf16⟩
  | .local _ .vmem, ⟨5, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxDwRefIdeal.lean ====
abbrev S4096x1024 : Shape := ⟨2, ![4096, 1024]⟩
abbrev S1024x4112 : Shape := ⟨2, ![1024, 4112]⟩
abbrev S4096x4112 : Shape := ⟨2, ![4096, 4112]⟩
abbrev S4112x1024 : Shape := ⟨2, ![4112, 1024]⟩
abbrev S_ : Shape := ⟨0, ![]⟩
abbrev S1024x4224 : Shape := ⟨2, ![1024, 4224]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4112, .f32⟩
  | .hbm, ⟨2, _⟩ => ⟨S4096x4112, .f32⟩
  | .hbm, ⟨3, _⟩ => ⟨S4096x4112, .f32⟩
  | .hbm, ⟨4, _⟩ => ⟨S4112x1024, .f32⟩
  | .hbm, ⟨5, _⟩ => ⟨S1024x4112, .f32⟩
  | .hbm, ⟨6, _⟩ => ⟨S_, .i32⟩
  | .hbm, ⟨7, _⟩ => ⟨S_, .f32⟩
  | .hbm, ⟨8, _⟩ => ⟨S1024x4224, .f32⟩
  | .hbm, ⟨9, _⟩ => ⟨S1024x4224, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== FoxDh.lean ====
abbrev S4096x1024 : Shape := ⟨2, ![4096, 1024]⟩
abbrev S1024x4112 : Shape := ⟨2, ![1024, 4112]⟩
abbrev S4096x4112 : Shape := ⟨2, ![4096, 4112]⟩
abbrev S_ : Shape := ⟨0, ![]⟩
abbrev S4096x4224 : Shape := ⟨2, ![4096, 4224]⟩
abbrev S1024x4224 : Shape := ⟨2, ![1024, 4224]⟩
abbrev S1024x1024 : Shape := ⟨2, ![1024, 1024]⟩

abbrev nBuf : Space → Nat
  | .hbm => 12
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x4112, .f32⟩
  | .hbm, ⟨2, _⟩ => ⟨S4096x4112, .f32⟩
  | .hbm, ⟨3, _⟩ => ⟨S4096x4112, .bf16⟩
  | .hbm, ⟨4, _⟩ => ⟨S_, .i32⟩
  | .hbm, ⟨5, _⟩ => ⟨S_, .bf16⟩
  | .hbm, ⟨6, _⟩ => ⟨S4096x4224, .bf16⟩
  | .hbm, ⟨7, _⟩ => ⟨S1024x4112, .bf16⟩
  | .hbm, ⟨8, _⟩ => ⟨S_, .i32⟩
  | .hbm, ⟨9, _⟩ => ⟨S_, .bf16⟩
  | .hbm, ⟨10, _⟩ => ⟨S1024x4224, .bf16⟩
  | .hbm, ⟨11, _⟩ => ⟨S4096x1024, .f32⟩
  | .local _ .vmem, ⟨0, _⟩ => ⟨S1024x4224, .bf16⟩
  | .local _ .vmem, ⟨1, _⟩ => ⟨S1024x4224, .bf16⟩
  | .local _ .vmem, ⟨2, _⟩ => ⟨S1024x4224, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxDhRefIdeal.lean ====
abbrev S4096x1024 : Shape := ⟨2, ![4096, 1024]⟩
abbrev S1024x4112 : Shape := ⟨2, ![1024, 4112]⟩
abbrev S4096x4112 : Shape := ⟨2, ![4096, 4112]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4112, .f32⟩
  | .hbm, ⟨2, _⟩ => ⟨S4096x4112, .f32⟩
  | .hbm, ⟨3, _⟩ => ⟨S4096x4112, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== FoxOut.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .hbm, ⟨7, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FoxOutRefIdeal.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== FoxDwo.lean ====
abbrev S4096x1024 : Shape := ⟨2, ![4096, 1024]⟩
abbrev S1024x1024 : Shape := ⟨2, ![1024, 1024]⟩

abbrev nBuf : Space → Nat
  | .hbm => 6
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== FoxDwoRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdamNormW.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormWIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormWRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAdaW.lean ====
abbrev S4x1024x768 : Shape := ⟨3, ![4, 1024, 768]⟩
abbrev S4096x768 : Shape := ⟨2, ![4096, 768]⟩
abbrev S256x768 : Shape := ⟨2, ![256, 768]⟩

abbrev nBuf : Space → Nat
  | .hbm => 12
  | .vmem => 14
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaWIdeal.lean ====
abbrev S4x1024x768 : Shape := ⟨3, ![4, 1024, 768]⟩
abbrev S4096x768 : Shape := ⟨2, ![4096, 768]⟩
abbrev S256x768 : Shape := ⟨2, ![256, 768]⟩

abbrev nBuf : Space → Nat
  | .hbm => 12
  | .vmem => 14
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaWRefIdeal.lean ====
abbrev S4x1024x768 : Shape := ⟨3, ![4, 1024, 768]⟩
abbrev S_ : Shape := ⟨0, ![]⟩
abbrev S4096x768 : Shape := ⟨2, ![4096, 768]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S_, .f32⟩
  | .hbm, ⟨5, _⟩ => ⟨S4x1024x768, .f32⟩
  | .hbm, ⟨6, _⟩ => ⟨S4x1024x768, .f32⟩
  | .hbm, ⟨7, _⟩ => ⟨S_, .f32⟩
  | .hbm, ⟨8, _⟩ => ⟨S4x1024x768, .f32⟩
  | .hbm, ⟨9, _⟩ => ⟨S4x1024x768, .f32⟩
  | .hbm, ⟨10, _⟩ => ⟨S4x1024x768, .f32⟩
  | .hbm, ⟨11, _⟩ => ⟨S_, .f32⟩
  | .hbm, ⟨12, _⟩ => ⟨S4x1024x768, .f32⟩
  | .hbm, ⟨13, _⟩ => ⟨S4x1024x768, .f32⟩
  | .hbm, ⟨14, _⟩ => ⟨S4x1024x768, .f32⟩
  | .hbm, ⟨15, _⟩ => ⟨S_, .f32⟩
  | .hbm, ⟨16, _⟩ => ⟨S4x1024x768, .f32⟩
  | .hbm, ⟨17, _⟩ => ⟨S4x1024x768, .f32⟩
  | .hbm, ⟨18, _⟩ => ⟨S4x1024x768, .f32⟩
  | .hbm, ⟨19, _⟩ => ⟨S_, .f32⟩
  | .hbm, ⟨20, _⟩ => ⟨S4x1024x768, .f32⟩
  | .hbm, ⟨21, _⟩ => ⟨S4x1024x768, .f32⟩
  | .hbm, ⟨22, _⟩ => ⟨S_, .f32⟩
  | .hbm, ⟨23, _⟩ => ⟨S4x1024x768, .f32⟩
  | .hbm, ⟨24, _⟩ => ⟨S4x1024x768, .f32⟩
  | .hbm, ⟨25, _⟩ => ⟨S4x1024x768, .f32⟩
  | .hbm, ⟨26, _⟩ => ⟨S_, .f32⟩
  | .hbm, ⟨27, _⟩ => ⟨S4x1024x768, .f32⟩
  | .hbm, ⟨28, _⟩ => ⟨S4x1024x768, .f32⟩
  | .hbm, ⟨29, _⟩ => ⟨S4x1024x768, .f32⟩
  | .hbm, ⟨30, _⟩ => ⟨S_, .f32⟩
  | .hbm, ⟨31, _⟩ => ⟨S4x1024x768, .f32⟩
  | .hbm, ⟨32, _⟩ => ⟨S4x1024x768, .f32⟩
  | .hbm, ⟨33, _⟩ => ⟨S4x1024x768, .f32⟩
  | .hbm, ⟨34, _⟩ => ⟨S_, .f32⟩
  | .hbm, ⟨35, _⟩ => ⟨S4x1024x768, .f32⟩
  | .hbm, ⟨36, _⟩ => ⟨S4x1024x768, .f32⟩
  | .hbm, ⟨37, _⟩ => ⟨S4096x768, .f32⟩
  | .hbm, ⟨38, _⟩ => ⟨S4096x768, .f32⟩
  | .hbm, ⟨39, _⟩ => ⟨S4096x768, .f32⟩
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamAdaB.lean ====
abbrev S4x3072 : Shape := ⟨2, ![4, 3072]⟩

abbrev nBuf : Space → Nat
  | .hbm => 7
  | .vmem => 7
  | .smem => 0
  | _ => 0

abbrev bufTy : (tb : Table) → Fin (tcTables nBuf tb) → BufTy
  | .hbm, ⟨0, _⟩ => ⟨S4x3072, .f32⟩
  | .hbm, ⟨1, _⟩ => ⟨S4x3072, .f32⟩
  | .hbm, ⟨2, _⟩ => ⟨S4x3072, .f32⟩
  | .hbm, ⟨3, _⟩ => ⟨S4x3072, .f32⟩
  | .hbm, ⟨4, _⟩ => ⟨S4x3072, .f32⟩
  | .hbm, ⟨5, _⟩ => ⟨S4x3072, .f32⟩
  | .hbm, ⟨6, _⟩ => ⟨S4x3072, .f32⟩
  | .local _ .vmem, ⟨0, _⟩ => ⟨S4x3072, .f32⟩
  | .local _ .vmem, ⟨1, _⟩ => ⟨S4x3072, .f32⟩
  | .local _ .vmem, ⟨2, _⟩ => ⟨S4x3072, .f32⟩
  | .local _ .vmem, ⟨3, _⟩ => ⟨S4x3072, .f32⟩
  | .local _ .vmem, ⟨4, _⟩ => ⟨S4x3072, .f32⟩
  | .local _ .vmem, ⟨5, _⟩ => ⟨S4x3072, .f32⟩
  | .local _ .vmem, ⟨6, _⟩ => ⟨S4x3072, .f32⟩
  | _, _ => ⟨S4x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAdaBIdeal.lean ====
abbrev S4x3072 : Shape := ⟨2, ![4, 3072]⟩

abbrev nBuf : Space → Nat
  | .hbm => 7
  | .vmem => 7
  | .smem => 0
  | _ => 0

abbrev bufTy : (tb : Table) → Fin (tcTables nBuf tb) → BufTy
  | .hbm, ⟨0, _⟩ => ⟨S4x3072, .f32⟩
  | .hbm, ⟨1, _⟩ => ⟨S4x3072, .f32⟩
  | .hbm, ⟨2, _⟩ => ⟨S4x3072, .f32⟩
  | .hbm, ⟨3, _⟩ => ⟨S4x3072, .f32⟩
  | .hbm, ⟨4, _⟩ => ⟨S4x3072, .f32⟩
  | .hbm, ⟨5, _⟩ => ⟨S4x3072, .f32⟩
  | .hbm, ⟨6, _⟩ => ⟨S4x3072, .f32⟩
  | .local _ .vmem, ⟨0, _⟩ => ⟨S4x3072, .f32⟩
  | .local _ .vmem, ⟨1, _⟩ => ⟨S4x3072, .f32⟩
  | .local _ .vmem, ⟨2, _⟩ => ⟨S4x3072, .f32⟩
  | .local _ .vmem, ⟨3, _⟩ => ⟨S4x3072, .f32⟩
  | .local _ .vmem, ⟨4, _⟩ => ⟨S4x3072, .f32⟩
  | .local _ .vmem, ⟨5, _⟩ => ⟨S4x3072, .f32⟩
  | .local _ .vmem, ⟨6, _⟩ => ⟨S4x3072, .f32⟩
  | _, _ => ⟨S4x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAdaBRefIdeal.lean ====
abbrev S4x3072 : Shape := ⟨2, ![4, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x3072, .f32⟩
  | .hbm, ⟨1, _⟩ => ⟨S4x3072, .f32⟩
  | .hbm, ⟨2, _⟩ => ⟨S4x3072, .f32⟩
  | .hbm, ⟨3, _⟩ => ⟨S4x3072, .f32⟩
  | .hbm, ⟨4, _⟩ => ⟨S_, .f32⟩
  | .hbm, ⟨5, _⟩ => ⟨S4x3072, .f32⟩
  | .hbm, ⟨6, _⟩ => ⟨S4x3072, .f32⟩
  | .hbm, ⟨7, _⟩ => ⟨S_, .f32⟩
  | .hbm, ⟨8, _⟩ => ⟨S4x3072, .f32⟩
  | .hbm, ⟨9, _⟩ => ⟨S4x3072, .f32⟩
  | .hbm, ⟨10, _⟩ => ⟨S4x3072, .f32⟩
  | .hbm, ⟨11, _⟩ => ⟨S_, .f32⟩
  | .hbm, ⟨12, _⟩ => ⟨S4x3072, .f32⟩
  | .hbm, ⟨13, _⟩ => ⟨S4x3072, .f32⟩
  | .hbm, ⟨14, _⟩ => ⟨S4x3072, .f32⟩
  | .hbm, ⟨15, _⟩ => ⟨S_, .f32⟩
  | .hbm, ⟨16, _⟩ => ⟨S4x3072, .f32⟩
  | .hbm, ⟨17, _⟩ => ⟨S4x3072, .f32⟩
  | .hbm, ⟨18, _⟩ => ⟨S4x3072, .f32⟩
  | .hbm, ⟨19, _⟩ => ⟨S_, .f32⟩
  | .hbm, ⟨20, _⟩ => ⟨S4x3072, .f32⟩
  | .hbm, ⟨21, _⟩ => ⟨S4x3072, .f32⟩
  | .hbm, ⟨22, _⟩ => ⟨S_, .f32⟩
  | .hbm, ⟨23, _⟩ => ⟨S4x3072, .f32⟩
  | .hbm, ⟨24, _⟩ => ⟨S4x3072, .f32⟩
  | .hbm, ⟨25, _⟩ => ⟨S4x3072, .f32⟩
  | .hbm, ⟨26, _⟩ => ⟨S_, .f32⟩
  | .hbm, ⟨27, _⟩ => ⟨S4x3072, .f32⟩
  | .hbm, ⟨28, _⟩ => ⟨S4x3072, .f32⟩
  | .hbm, ⟨29, _⟩ => ⟨S4x3072, .f32⟩
  | .hbm, ⟨30, _⟩ => ⟨S_, .f32⟩
  | .hbm, ⟨31, _⟩ => ⟨S4x3072, .f32⟩
  | .hbm, ⟨32, _⟩ => ⟨S4x3072, .f32⟩
  | .hbm, ⟨33, _⟩ => ⟨S4x3072, .f32⟩
  | .hbm, ⟨34, _⟩ => ⟨S_, .f32⟩
  | .hbm, ⟨35, _⟩ => ⟨S4x3072, .f32⟩
  | .hbm, ⟨36, _⟩ => ⟨S4x3072, .f32⟩
  | _, _ => ⟨S4x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAWIn.lean ====
abbrev S2x1024x1544 : Shape := ⟨3, ![2, 1024, 1544]⟩
abbrev S2048x1544 : Shape := ⟨2, ![2048, 1544]⟩
abbrev S256x1544 : Shape := ⟨2, ![256, 1544]⟩

abbrev nBuf : Space → Nat
  | .hbm => 12
  | .vmem => 14
  | .smem => 0
  | _ => 0

abbrev bufTy : (tb : Table) → Fin (tcTables nBuf tb) → BufTy
  | .hbm, ⟨0, _⟩ => ⟨S2x1024x1544, .f32⟩
  | .hbm, ⟨1, _⟩ => ⟨S2x1024x1544, .f32⟩
  | .hbm, ⟨2, _⟩ => ⟨S2x1024x1544, .f32⟩
  | .hbm, ⟨3, _⟩ => ⟨S2x1024x1544, .f32⟩
  | .hbm, ⟨4, _⟩ => ⟨S2048x1544, .f32⟩
  | .hbm, ⟨5, _⟩ => ⟨S2048x1544, .f32⟩
  | .hbm, ⟨6, _⟩ => ⟨S2048x1544, .f32⟩
  | .hbm, ⟨7, _⟩ => ⟨S2048x1544, .f32⟩
  | .hbm, ⟨8, _⟩ => ⟨S2048x1544, .f32⟩
  | .hbm, ⟨9, _⟩ => ⟨S2048x1544, .f32⟩
  | .hbm, ⟨10, _⟩ => ⟨S2048x1544, .f32⟩
  | .hbm, ⟨11, _⟩ => ⟨S2048x1544, .f32⟩
  | .local _ .vmem, ⟨0, _⟩ => ⟨S256x1544, .f32⟩
  | .local _ .vmem, ⟨1, _⟩ => ⟨S256x1544, .f32⟩
  | .local _ .vmem, ⟨2, _⟩ => ⟨S256x1544, .f32⟩
  | .local _ .vmem, ⟨3, _⟩ => ⟨S256x1544, .f32⟩
  | .local _ .vmem, ⟨4, _⟩ => ⟨S256x1544, .f32⟩
  | .local _ .vmem, ⟨5, _⟩ => ⟨S256x1544, .f32⟩
  | .local _ .vmem, ⟨6, _⟩ => ⟨S256x1544, .f32⟩
  | .local _ .vmem, ⟨7, _⟩ => ⟨S256x1544, .f32⟩
  | .local _ .vmem, ⟨8, _⟩ => ⟨S256x1544, .f32⟩
  | .local _ .vmem, ⟨9, _⟩ => ⟨S256x1544, .f32⟩
  | .local _ .vmem, ⟨10, _⟩ => ⟨S256x1544, .f32⟩
  | .local _ .vmem, ⟨11, _⟩ => ⟨S256x1544, .f32⟩
  | .local _ .vmem, ⟨12, _⟩ => ⟨S256x1544, .f32⟩
  | .local _ .vmem, ⟨13, _⟩ => ⟨S256x1544, .f32⟩
  | _, _ => ⟨S2x1024x1544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1544 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1544 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1544 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1544 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAWInIdeal.lean ====
abbrev S2x1024x1544 : Shape := ⟨3, ![2, 1024, 1544]⟩
abbrev S2048x1544 : Shape := ⟨2, ![2048, 1544]⟩
abbrev S256x1544 : Shape := ⟨2, ![256, 1544]⟩

abbrev nBuf : Space → Nat
  | .hbm => 12
  | .vmem => 14
  | .smem => 0
  | _ => 0

abbrev bufTy : (tb : Table) → Fin (tcTables nBuf tb) → BufTy
  | .hbm, ⟨0, _⟩ => ⟨S2x1024x1544, .f32⟩
  | .hbm, ⟨1, _⟩ => ⟨S2x1024x1544, .f32⟩
  | .hbm, ⟨2, _⟩ => ⟨S2x1024x1544, .f32⟩
  | .hbm, ⟨3, _⟩ => ⟨S2x1024x1544, .f32⟩
  | .hbm, ⟨4, _⟩ => ⟨S2048x1544, .f32⟩
  | .hbm, ⟨5, _⟩ => ⟨S2048x1544, .f32⟩
  | .hbm, ⟨6, _⟩ => ⟨S2048x1544, .f32⟩
  | .hbm, ⟨7, _⟩ => ⟨S2048x1544, .f32⟩
  | .hbm, ⟨8, _⟩ => ⟨S2048x1544, .f32⟩
  | .hbm, ⟨9, _⟩ => ⟨S2048x1544, .f32⟩
  | .hbm, ⟨10, _⟩ => ⟨S2048x1544, .f32⟩
  | .hbm, ⟨11, _⟩ => ⟨S2048x1544, .f32⟩
  | .local _ .vmem, ⟨0, _⟩ => ⟨S256x1544, .f32⟩
  | .local _ .vmem, ⟨1, _⟩ => ⟨S256x1544, .f32⟩
  | .local _ .vmem, ⟨2, _⟩ => ⟨S256x1544, .f32⟩
  | .local _ .vmem, ⟨3, _⟩ => ⟨S256x1544, .f32⟩
  | .local _ .vmem, ⟨4, _⟩ => ⟨S256x1544, .f32⟩
  | .local _ .vmem, ⟨5, _⟩ => ⟨S256x1544, .f32⟩
  | .local _ .vmem, ⟨6, _⟩ => ⟨S256x1544, .f32⟩
  | .local _ .vmem, ⟨7, _⟩ => ⟨S256x1544, .f32⟩
  | .local _ .vmem, ⟨8, _⟩ => ⟨S256x1544, .f32⟩
  | .local _ .vmem, ⟨9, _⟩ => ⟨S256x1544, .f32⟩
  | .local _ .vmem, ⟨10, _⟩ => ⟨S256x1544, .f32⟩
  | .local _ .vmem, ⟨11, _⟩ => ⟨S256x1544, .f32⟩
  | .local _ .vmem, ⟨12, _⟩ => ⟨S256x1544, .f32⟩
  | .local _ .vmem, ⟨13, _⟩ => ⟨S256x1544, .f32⟩
  | _, _ => ⟨S2x1024x1544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1544 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1544 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1544 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1544 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAWInRefIdeal.lean ====
abbrev S2x1024x1544 : Shape := ⟨3, ![2, 1024, 1544]⟩
abbrev S_ : Shape := ⟨0, ![]⟩
abbrev S2048x1544 : Shape := ⟨2, ![2048, 1544]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1544, .f32⟩
  | .hbm, ⟨1, _⟩ => ⟨S2x1024x1544, .f32⟩
  | .hbm, ⟨2, _⟩ => ⟨S2x1024x1544, .f32⟩
  | .hbm, ⟨3, _⟩ => ⟨S2x1024x1544, .f32⟩
  | .hbm, ⟨4, _⟩ => ⟨S_, .f32⟩
  | .hbm, ⟨5, _⟩ => ⟨S2x1024x1544, .f32⟩
  | .hbm, ⟨6, _⟩ => ⟨S2x1024x1544, .f32⟩
  | .hbm, ⟨7, _⟩ => ⟨S_, .f32⟩
  | .hbm, ⟨8, _⟩ => ⟨S2x1024x1544, .f32⟩
  | .hbm, ⟨9, _⟩ => ⟨S2x1024x1544, .f32⟩
  | .hbm, ⟨10, _⟩ => ⟨S2x1024x1544, .f32⟩
  | .hbm, ⟨11, _⟩ => ⟨S_, .f32⟩
  | .hbm, ⟨12, _⟩ => ⟨S2x1024x1544, .f32⟩
  | .hbm, ⟨13, _⟩ => ⟨S2x1024x1544, .f32⟩
  | .hbm, ⟨14, _⟩ => ⟨S2x1024x1544, .f32⟩
  | .hbm, ⟨15, _⟩ => ⟨S_, .f32⟩
  | .hbm, ⟨16, _⟩ => ⟨S2x1024x1544, .f32⟩
  | .hbm, ⟨17, _⟩ => ⟨S2x1024x1544, .f32⟩
  | .hbm, ⟨18, _⟩ => ⟨S2x1024x1544, .f32⟩
  | .hbm, ⟨19, _⟩ => ⟨S_, .f32⟩
  | .hbm, ⟨20, _⟩ => ⟨S2x1024x1544, .f32⟩
  | .hbm, ⟨21, _⟩ => ⟨S2x1024x1544, .f32⟩
  | .hbm, ⟨22, _⟩ => ⟨S_, .f32⟩
  | .hbm, ⟨23, _⟩ => ⟨S2x1024x1544, .f32⟩
  | .hbm, ⟨24, _⟩ => ⟨S2x1024x1544, .f32⟩
  | .hbm, ⟨25, _⟩ => ⟨S2x1024x1544, .f32⟩
  | .hbm, ⟨26, _⟩ => ⟨S_, .f32⟩
  | .hbm, ⟨27, _⟩ => ⟨S2x1024x1544, .f32⟩
  | .hbm, ⟨28, _⟩ => ⟨S2x1024x1544, .f32⟩
  | .hbm, ⟨29, _⟩ => ⟨S2x1024x1544, .f32⟩
  | .hbm, ⟨30, _⟩ => ⟨S_, .f32⟩
  | .hbm, ⟨31, _⟩ => ⟨S2x1024x1544, .f32⟩
  | .hbm, ⟨32, _⟩ => ⟨S2x1024x1544, .f32⟩
  | .hbm, ⟨33, _⟩ => ⟨S2x1024x1544, .f32⟩
  | .hbm, ⟨34, _⟩ => ⟨S_, .f32⟩
  | .hbm, ⟨35, _⟩ => ⟨S2x1024x1544, .f32⟩
  | .hbm, ⟨36, _⟩ => ⟨S2x1024x1544, .f32⟩
  | .hbm, ⟨37, _⟩ => ⟨S2048x1544, .f32⟩
  | .hbm, ⟨38, _⟩ => ⟨S2048x1544, .f32⟩
  | .hbm, ⟨39, _⟩ => ⟨S2048x1544, .f32⟩
  | _, _ => ⟨S2x1024x1544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamAConvW.lean ====
abbrev S2x4x1024 : Shape := ⟨3, ![2, 4, 1024]⟩
abbrev S8x1024 : Shape := ⟨2, ![8, 1024]⟩

abbrev nBuf : Space → Nat
  | .hbm => 12
  | .vmem => 7
  | .smem => 0
  | _ => 0

abbrev bufTy : (tb : Table) → Fin (tcTables nBuf tb) → BufTy
  | .hbm, ⟨0, _⟩ => ⟨S2x4x1024, .f32⟩
  | .hbm, ⟨1, _⟩ => ⟨S2x4x1024, .f32⟩
  | .hbm, ⟨2, _⟩ => ⟨S2x4x1024, .f32⟩
  | .hbm, ⟨3, _⟩ => ⟨S2x4x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S2x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAConvWIdeal.lean ====
abbrev S2x4x1024 : Shape := ⟨3, ![2, 4, 1024]⟩
abbrev S8x1024 : Shape := ⟨2, ![8, 1024]⟩

abbrev nBuf : Space → Nat
  | .hbm => 12
  | .vmem => 7
  | .smem => 0
  | _ => 0

abbrev bufTy : (tb : Table) → Fin (tcTables nBuf tb) → BufTy
  | .hbm, ⟨0, _⟩ => ⟨S2x4x1024, .f32⟩
  | .hbm, ⟨1, _⟩ => ⟨S2x4x1024, .f32⟩
  | .hbm, ⟨2, _⟩ => ⟨S2x4x1024, .f32⟩
  | .hbm, ⟨3, _⟩ => ⟨S2x4x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S2x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAConvWRefIdeal.lean ====
abbrev S2x4x1024 : Shape := ⟨3, ![2, 4, 1024]⟩
abbrev S_ : Shape := ⟨0, ![]⟩
abbrev S8x1024 : Shape := ⟨2, ![8, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x4x1024, .f32⟩
  | .hbm, ⟨1, _⟩ => ⟨S2x4x1024, .f32⟩
  | .hbm, ⟨2, _⟩ => ⟨S2x4x1024, .f32⟩
  | .hbm, ⟨3, _⟩ => ⟨S2x4x1024, .f32⟩
  | .hbm, ⟨4, _⟩ => ⟨S_, .f32⟩
  | .hbm, ⟨5, _⟩ => ⟨S2x4x1024, .f32⟩
  | .hbm, ⟨6, _⟩ => ⟨S2x4x1024, .f32⟩
  | .hbm, ⟨7, _⟩ => ⟨S_, .f32⟩
  | .hbm, ⟨8, _⟩ => ⟨S2x4x1024, .f32⟩
  | .hbm, ⟨9, _⟩ => ⟨S2x4x1024, .f32⟩
  | .hbm, ⟨10, _⟩ => ⟨S2x4x1024, .f32⟩
  | .hbm, ⟨11, _⟩ => ⟨S_, .f32⟩
  | .hbm, ⟨12, _⟩ => ⟨S2x4x1024, .f32⟩
  | .hbm, ⟨13, _⟩ => ⟨S2x4x1024, .f32⟩
  | .hbm, ⟨14, _⟩ => ⟨S2x4x1024, .f32⟩
  | .hbm, ⟨15, _⟩ => ⟨S_, .f32⟩
  | .hbm, ⟨16, _⟩ => ⟨S2x4x1024, .f32⟩
  | .hbm, ⟨17, _⟩ => ⟨S2x4x1024, .f32⟩
  | .hbm, ⟨18, _⟩ => ⟨S2x4x1024, .f32⟩
  | .hbm, ⟨19, _⟩ => ⟨S_, .f32⟩
  | .hbm, ⟨20, _⟩ => ⟨S2x4x1024, .f32⟩
  | .hbm, ⟨21, _⟩ => ⟨S2x4x1024, .f32⟩
  | .hbm, ⟨22, _⟩ => ⟨S_, .f32⟩
  | .hbm, ⟨23, _⟩ => ⟨S2x4x1024, .f32⟩
  | .hbm, ⟨24, _⟩ => ⟨S2x4x1024, .f32⟩
  | .hbm, ⟨25, _⟩ => ⟨S2x4x1024, .f32⟩
  | .hbm, ⟨26, _⟩ => ⟨S_, .f32⟩
  | .hbm, ⟨27, _⟩ => ⟨S2x4x1024, .f32⟩
  | .hbm, ⟨28, _⟩ => ⟨S2x4x1024, .f32⟩
  | .hbm, ⟨29, _⟩ => ⟨S2x4x1024, .f32⟩
  | .hbm, ⟨30, _⟩ => ⟨S_, .f32⟩
  | .hbm, ⟨31, _⟩ => ⟨S2x4x1024, .f32⟩
  | .hbm, ⟨32, _⟩ => ⟨S2x4x1024, .f32⟩
  | .hbm, ⟨33, _⟩ => ⟨S2x4x1024, .f32⟩
  | .hbm, ⟨34, _⟩ => ⟨S_, .f32⟩
  | .hbm, ⟨35, _⟩ => ⟨S2x4x1024, .f32⟩
  | .hbm, ⟨36, _⟩ => ⟨S2x4x1024, .f32⟩
  | .hbm, ⟨37, _⟩ => ⟨S8x1024, .f32⟩
  | .hbm, ⟨38, _⟩ => ⟨S8x1024, .f32⟩
  | .hbm, ⟨39, _⟩ => ⟨S8x1024, .f32⟩
  | _, _ => ⟨S2x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamAALog.lean ====
abbrev S2x16 : Shape := ⟨2, ![2, 16]⟩

abbrev nBuf : Space → Nat
  | .hbm => 7
  | .vmem => 7
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S2x16, .f32⟩
  | .hbm, ⟨5, _⟩ => ⟨S2x16, .f32⟩
  | .hbm, ⟨6, _⟩ => ⟨S2x16, .f32⟩
  | .local _ .vmem, ⟨0, _⟩ => ⟨S2x16, .f32⟩
  | .local _ .vmem, ⟨1, _⟩ => ⟨S2x16, .f32⟩
  | .local _ .vmem, ⟨2, _⟩ => ⟨S2x16, .f32⟩
  | .local _ .vmem, ⟨3, _⟩ => ⟨S2x16, .f32⟩
  | .local _ .vmem, ⟨4, _⟩ => ⟨S2x16, .f32⟩
  | .local _ .vmem, ⟨5, _⟩ => ⟨S2x16, .f32⟩
  | .local _ .vmem, ⟨6, _⟩ => ⟨S2x16, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAALogIdeal.lean ====
abbrev S2x16 : Shape := ⟨2, ![2, 16]⟩

abbrev nBuf : Space → Nat
  | .hbm => 7
  | .vmem => 7
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S2x16, .f32⟩
  | .hbm, ⟨5, _⟩ => ⟨S2x16, .f32⟩
  | .hbm, ⟨6, _⟩ => ⟨S2x16, .f32⟩
  | .local _ .vmem, ⟨0, _⟩ => ⟨S2x16, .f32⟩
  | .local _ .vmem, ⟨1, _⟩ => ⟨S2x16, .f32⟩
  | .local _ .vmem, ⟨2, _⟩ => ⟨S2x16, .f32⟩
  | .local _ .vmem, ⟨3, _⟩ => ⟨S2x16, .f32⟩
  | .local _ .vmem, ⟨4, _⟩ => ⟨S2x16, .f32⟩
  | .local _ .vmem, ⟨5, _⟩ => ⟨S2x16, .f32⟩
  | .local _ .vmem, ⟨6, _⟩ => ⟨S2x16, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAALogRefIdeal.lean ====
abbrev S2x16 : Shape := ⟨2, ![2, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S_, .f32⟩
  | .hbm, ⟨5, _⟩ => ⟨S2x16, .f32⟩
  | .hbm, ⟨6, _⟩ => ⟨S2x16, .f32⟩
  | .hbm, ⟨7, _⟩ => ⟨S_, .f32⟩
  | .hbm, ⟨8, _⟩ => ⟨S2x16, .f32⟩
  | .hbm, ⟨9, _⟩ => ⟨S2x16, .f32⟩
  | .hbm, ⟨10, _⟩ => ⟨S2x16, .f32⟩
  | .hbm, ⟨11, _⟩ => ⟨S_, .f32⟩
  | .hbm, ⟨12, _⟩ => ⟨S2x16, .f32⟩
  | .hbm, ⟨13, _⟩ => ⟨S2x16, .f32⟩
  | .hbm, ⟨14, _⟩ => ⟨S2x16, .f32⟩
  | .hbm, ⟨15, _⟩ => ⟨S_, .f32⟩
  | .hbm, ⟨16, _⟩ => ⟨S2x16, .f32⟩
  | .hbm, ⟨17, _⟩ => ⟨S2x16, .f32⟩
  | .hbm, ⟨18, _⟩ => ⟨S2x16, .f32⟩
  | .hbm, ⟨19, _⟩ => ⟨S_, .f32⟩
  | .hbm, ⟨20, _⟩ => ⟨S2x16, .f32⟩
  | .hbm, ⟨21, _⟩ => ⟨S2x16, .f32⟩
  | .hbm, ⟨22, _⟩ => ⟨S_, .f32⟩
  | .hbm, ⟨23, _⟩ => ⟨S2x16, .f32⟩
  | .hbm, ⟨24, _⟩ => ⟨S2x16, .f32⟩
  | .hbm, ⟨25, _⟩ => ⟨S2x16, .f32⟩
  | .hbm, ⟨26, _⟩ => ⟨S_, .f32⟩
  | .hbm, ⟨27, _⟩ => ⟨S2x16, .f32⟩
  | .hbm, ⟨28, _⟩ => ⟨S2x16, .f32⟩
  | .hbm, ⟨29, _⟩ => ⟨S2x16, .f32⟩
  | .hbm, ⟨30, _⟩ => ⟨S_, .f32⟩
  | .hbm, ⟨31, _⟩ => ⟨S2x16, .f32⟩
  | .hbm, ⟨32, _⟩ => ⟨S2x16, .f32⟩
  | .hbm, ⟨33, _⟩ => ⟨S2x16, .f32⟩
  | .hbm, ⟨34, _⟩ => ⟨S_, .f32⟩
  | .hbm, ⟨35, _⟩ => ⟨S2x16, .f32⟩
  | .hbm, ⟨36, _⟩ => ⟨S2x16, .f32⟩
  | _, _ => ⟨S2x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamANormW.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamANormWIdeal.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamANormWRefIdeal.lean ====
abbrev S2x128 : Shape := ⟨2, ![2, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S_, .f32⟩
  | .hbm, ⟨5, _⟩ => ⟨S2x128, .f32⟩
  | .hbm, ⟨6, _⟩ => ⟨S2x128, .f32⟩
  | .hbm, ⟨7, _⟩ => ⟨S_, .f32⟩
  | .hbm, ⟨8, _⟩ => ⟨S2x128, .f32⟩
  | .hbm, ⟨9, _⟩ => ⟨S2x128, .f32⟩
  | .hbm, ⟨10, _⟩ => ⟨S2x128, .f32⟩
  | .hbm, ⟨11, _⟩ => ⟨S_, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S_, .f32⟩
  | .hbm, ⟨16, _⟩ => ⟨S2x128, .f32⟩
  | .hbm, ⟨17, _⟩ => ⟨S2x128, .f32⟩
  | .hbm, ⟨18, _⟩ => ⟨S2x128, .f32⟩
  | .hbm, ⟨19, _⟩ => ⟨S_, .f32⟩
  | .hbm, ⟨20, _⟩ => ⟨S2x128, .f32⟩
  | .hbm, ⟨21, _⟩ => ⟨S2x128, .f32⟩
  | .hbm, ⟨22, _⟩ => ⟨S_, .f32⟩
  | .hbm, ⟨23, _⟩ => ⟨S2x128, .f32⟩
  | .hbm, ⟨24, _⟩ => ⟨S2x128, .f32⟩
  | .hbm, ⟨25, _⟩ => ⟨S2x128, .f32⟩
  | .hbm, ⟨26, _⟩ => ⟨S_, .f32⟩
  | .hbm, ⟨27, _⟩ => ⟨S2x128, .f32⟩
  | .hbm, ⟨28, _⟩ => ⟨S2x128, .f32⟩
  | .hbm, ⟨29, _⟩ => ⟨S2x128, .f32⟩
  | .hbm, ⟨30, _⟩ => ⟨S_, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S_, .f32⟩
  | .hbm, ⟨35, _⟩ => ⟨S2x128, .f32⟩
  | .hbm, ⟨36, _⟩ => ⟨S2x128, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAWOut.lean ====
abbrev S2x512x1024 : Shape := ⟨3, ![2, 512, 1024]⟩
abbrev S1024x1024 : Shape := ⟨2, ![1024, 1024]⟩
abbrev S256x1024 : Shape := ⟨2, ![256, 1024]⟩

abbrev nBuf : Space → Nat
  | .hbm => 12
  | .vmem => 14
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAWOutIdeal.lean ====
abbrev S2x512x1024 : Shape := ⟨3, ![2, 512, 1024]⟩
abbrev S1024x1024 : Shape := ⟨2, ![1024, 1024]⟩
abbrev S256x1024 : Shape := ⟨2, ![256, 1024]⟩

abbrev nBuf : Space → Nat
  | .hbm => 12
  | .vmem => 14
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAWOutRefIdeal.lean ====
abbrev S2x512x1024 : Shape := ⟨3, ![2, 512, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S_, .f32⟩
  | .hbm, ⟨5, _⟩ => ⟨S2x512x1024, .f32⟩
  | .hbm, ⟨6, _⟩ => ⟨S2x512x1024, .f32⟩
  | .hbm, ⟨7, _⟩ => ⟨S_, .f32⟩
  | .hbm, ⟨8, _⟩ => ⟨S2x512x1024, .f32⟩
  | .hbm, ⟨9, _⟩ => ⟨S2x512x1024, .f32⟩
  | .hbm, ⟨10, _⟩ => ⟨S2x512x1024, .f32⟩
  | .hbm, ⟨11, _⟩ => ⟨S_, .f32⟩
  | .hbm, ⟨12, _⟩ => ⟨S2x512x1024, .f32⟩
  | .hbm, ⟨13, _⟩ => ⟨S2x512x1024, .f32⟩
  | .hbm, ⟨14, _⟩ => ⟨S2x512x1024, .f32⟩
  | .hbm, ⟨15, _⟩ => ⟨S_, .f32⟩
  | .hbm, ⟨16, _⟩ => ⟨S2x512x1024, .f32⟩
  | .hbm, ⟨17, _⟩ => ⟨S2x512x1024, .f32⟩
  | .hbm, ⟨18, _⟩ => ⟨S2x512x1024, .f32⟩
  | .hbm, ⟨19, _⟩ => ⟨S_, .f32⟩
  | .hbm, ⟨20, _⟩ => ⟨S2x512x1024, .f32⟩
  | .hbm, ⟨21, _⟩ => ⟨S2x512x1024, .f32⟩
  | .hbm, ⟨22, _⟩ => ⟨S_, .f32⟩
  | .hbm, ⟨23, _⟩ => ⟨S2x512x1024, .f32⟩
  | .hbm, ⟨24, _⟩ => ⟨S2x512x1024, .f32⟩
  | .hbm, ⟨25, _⟩ => ⟨S2x512x1024, .f32⟩
  | .hbm, ⟨26, _⟩ => ⟨S_, .f32⟩
  | .hbm, ⟨27, _⟩ => ⟨S2x512x1024, .f32⟩
  | .hbm, ⟨28, _⟩ => ⟨S2x512x1024, .f32⟩
  | .hbm, ⟨29, _⟩ => ⟨S2x512x1024, .f32⟩
  | .hbm, ⟨30, _⟩ => ⟨S_, .f32⟩
  | .hbm, ⟨31, _⟩ => ⟨S2x512x1024, .f32⟩
  | .hbm, ⟨32, _⟩ => ⟨S2x512x1024, .f32⟩
  | .hbm, ⟨33, _⟩ => ⟨S2x512x1024, .f32⟩
  | .hbm, ⟨34, _⟩ => ⟨S_, .f32⟩
  | .hbm, ⟨35, _⟩ => ⟨S2x512x1024, .f32⟩
  | .hbm, ⟨36, _⟩ => ⟨S2x512x1024, .f32⟩
  | .hbm, ⟨37, _⟩ => ⟨S1024x1024, .f32⟩
  | .hbm, ⟨38, _⟩ => ⟨S1024x1024, .f32⟩
  | .hbm, ⟨39, _⟩ => ⟨S1024x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamBWIn.lean ====
abbrev S2x1024x1028 : Shape := ⟨3, ![2, 1024, 1028]⟩
abbrev S2048x1028 : Shape := ⟨2, ![2048, 1028]⟩
abbrev S256x1028 : Shape := ⟨2, ![256, 1028]⟩

abbrev nBuf : Space → Nat
  | .hbm => 12
  | .vmem => 14
  | .smem => 0
  | _ => 0

abbrev bufTy : (tb : Table) → Fin (tcTables nBuf tb) → BufTy
  | .hbm, ⟨0, _⟩ => ⟨S2x1024x1028, .f32⟩
  | .hbm, ⟨1, _⟩ => ⟨S2x1024x1028, .f32⟩
  | .hbm, ⟨2, _⟩ => ⟨S2x1024x1028, .f32⟩
  | .hbm, ⟨3, _⟩ => ⟨S2x1024x1028, .f32⟩
  | .hbm, ⟨4, _⟩ => ⟨S2048x1028, .f32⟩
  | .hbm, ⟨5, _⟩ => ⟨S2048x1028, .f32⟩
  | .hbm, ⟨6, _⟩ => ⟨S2048x1028, .f32⟩
  | .hbm, ⟨7, _⟩ => ⟨S2048x1028, .f32⟩
  | .hbm, ⟨8, _⟩ => ⟨S2048x1028, .f32⟩
  | .hbm, ⟨9, _⟩ => ⟨S2048x1028, .f32⟩
  | .hbm, ⟨10, _⟩ => ⟨S2048x1028, .f32⟩
  | .hbm, ⟨11, _⟩ => ⟨S2048x1028, .f32⟩
  | .local _ .vmem, ⟨0, _⟩ => ⟨S256x1028, .f32⟩
  | .local _ .vmem, ⟨1, _⟩ => ⟨S256x1028, .f32⟩
  | .local _ .vmem, ⟨2, _⟩ => ⟨S256x1028, .f32⟩
  | .local _ .vmem, ⟨3, _⟩ => ⟨S256x1028, .f32⟩
  | .local _ .vmem, ⟨4, _⟩ => ⟨S256x1028, .f32⟩
  | .local _ .vmem, ⟨5, _⟩ => ⟨S256x1028, .f32⟩
  | .local _ .vmem, ⟨6, _⟩ => ⟨S256x1028, .f32⟩
  | .local _ .vmem, ⟨7, _⟩ => ⟨S256x1028, .f32⟩
  | .local _ .vmem, ⟨8, _⟩ => ⟨S256x1028, .f32⟩
  | .local _ .vmem, ⟨9, _⟩ => ⟨S256x1028, .f32⟩
  | .local _ .vmem, ⟨10, _⟩ => ⟨S256x1028, .f32⟩
  | .local _ .vmem, ⟨11, _⟩ => ⟨S256x1028, .f32⟩
  | .local _ .vmem, ⟨12, _⟩ => ⟨S256x1028, .f32⟩
  | .local _ .vmem, ⟨13, _⟩ => ⟨S256x1028, .f32⟩
  | _, _ => ⟨S2x1024x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBWInIdeal.lean ====
abbrev S2x1024x1028 : Shape := ⟨3, ![2, 1024, 1028]⟩
abbrev S2048x1028 : Shape := ⟨2, ![2048, 1028]⟩
abbrev S256x1028 : Shape := ⟨2, ![256, 1028]⟩

abbrev nBuf : Space → Nat
  | .hbm => 12
  | .vmem => 14
  | .smem => 0
  | _ => 0

abbrev bufTy : (tb : Table) → Fin (tcTables nBuf tb) → BufTy
  | .hbm, ⟨0, _⟩ => ⟨S2x1024x1028, .f32⟩
  | .hbm, ⟨1, _⟩ => ⟨S2x1024x1028, .f32⟩
  | .hbm, ⟨2, _⟩ => ⟨S2x1024x1028, .f32⟩
  | .hbm, ⟨3, _⟩ => ⟨S2x1024x1028, .f32⟩
  | .hbm, ⟨4, _⟩ => ⟨S2048x1028, .f32⟩
  | .hbm, ⟨5, _⟩ => ⟨S2048x1028, .f32⟩
  | .hbm, ⟨6, _⟩ => ⟨S2048x1028, .f32⟩
  | .hbm, ⟨7, _⟩ => ⟨S2048x1028, .f32⟩
  | .hbm, ⟨8, _⟩ => ⟨S2048x1028, .f32⟩
  | .hbm, ⟨9, _⟩ => ⟨S2048x1028, .f32⟩
  | .hbm, ⟨10, _⟩ => ⟨S2048x1028, .f32⟩
  | .hbm, ⟨11, _⟩ => ⟨S2048x1028, .f32⟩
  | .local _ .vmem, ⟨0, _⟩ => ⟨S256x1028, .f32⟩
  | .local _ .vmem, ⟨1, _⟩ => ⟨S256x1028, .f32⟩
  | .local _ .vmem, ⟨2, _⟩ => ⟨S256x1028, .f32⟩
  | .local _ .vmem, ⟨3, _⟩ => ⟨S256x1028, .f32⟩
  | .local _ .vmem, ⟨4, _⟩ => ⟨S256x1028, .f32⟩
  | .local _ .vmem, ⟨5, _⟩ => ⟨S256x1028, .f32⟩
  | .local _ .vmem, ⟨6, _⟩ => ⟨S256x1028, .f32⟩
  | .local _ .vmem, ⟨7, _⟩ => ⟨S256x1028, .f32⟩
  | .local _ .vmem, ⟨8, _⟩ => ⟨S256x1028, .f32⟩
  | .local _ .vmem, ⟨9, _⟩ => ⟨S256x1028, .f32⟩
  | .local _ .vmem, ⟨10, _⟩ => ⟨S256x1028, .f32⟩
  | .local _ .vmem, ⟨11, _⟩ => ⟨S256x1028, .f32⟩
  | .local _ .vmem, ⟨12, _⟩ => ⟨S256x1028, .f32⟩
  | .local _ .vmem, ⟨13, _⟩ => ⟨S256x1028, .f32⟩
  | _, _ => ⟨S2x1024x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBWInRefIdeal.lean ====
abbrev S2x1024x1028 : Shape := ⟨3, ![2, 1024, 1028]⟩
abbrev S_ : Shape := ⟨0, ![]⟩
abbrev S2048x1028 : Shape := ⟨2, ![2048, 1028]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1028, .f32⟩
  | .hbm, ⟨1, _⟩ => ⟨S2x1024x1028, .f32⟩
  | .hbm, ⟨2, _⟩ => ⟨S2x1024x1028, .f32⟩
  | .hbm, ⟨3, _⟩ => ⟨S2x1024x1028, .f32⟩
  | .hbm, ⟨4, _⟩ => ⟨S_, .f32⟩
  | .hbm, ⟨5, _⟩ => ⟨S2x1024x1028, .f32⟩
  | .hbm, ⟨6, _⟩ => ⟨S2x1024x1028, .f32⟩
  | .hbm, ⟨7, _⟩ => ⟨S_, .f32⟩
  | .hbm, ⟨8, _⟩ => ⟨S2x1024x1028, .f32⟩
  | .hbm, ⟨9, _⟩ => ⟨S2x1024x1028, .f32⟩
  | .hbm, ⟨10, _⟩ => ⟨S2x1024x1028, .f32⟩
  | .hbm, ⟨11, _⟩ => ⟨S_, .f32⟩
  | .hbm, ⟨12, _⟩ => ⟨S2x1024x1028, .f32⟩
  | .hbm, ⟨13, _⟩ => ⟨S2x1024x1028, .f32⟩
  | .hbm, ⟨14, _⟩ => ⟨S2x1024x1028, .f32⟩
  | .hbm, ⟨15, _⟩ => ⟨S_, .f32⟩
  | .hbm, ⟨16, _⟩ => ⟨S2x1024x1028, .f32⟩
  | .hbm, ⟨17, _⟩ => ⟨S2x1024x1028, .f32⟩
  | .hbm, ⟨18, _⟩ => ⟨S2x1024x1028, .f32⟩
  | .hbm, ⟨19, _⟩ => ⟨S_, .f32⟩
  | .hbm, ⟨20, _⟩ => ⟨S2x1024x1028, .f32⟩
  | .hbm, ⟨21, _⟩ => ⟨S2x1024x1028, .f32⟩
  | .hbm, ⟨22, _⟩ => ⟨S_, .f32⟩
  | .hbm, ⟨23, _⟩ => ⟨S2x1024x1028, .f32⟩
  | .hbm, ⟨24, _⟩ => ⟨S2x1024x1028, .f32⟩
  | .hbm, ⟨25, _⟩ => ⟨S2x1024x1028, .f32⟩
  | .hbm, ⟨26, _⟩ => ⟨S_, .f32⟩
  | .hbm, ⟨27, _⟩ => ⟨S2x1024x1028, .f32⟩
  | .hbm, ⟨28, _⟩ => ⟨S2x1024x1028, .f32⟩
  | .hbm, ⟨29, _⟩ => ⟨S2x1024x1028, .f32⟩
  | .hbm, ⟨30, _⟩ => ⟨S_, .f32⟩
  | .hbm, ⟨31, _⟩ => ⟨S2x1024x1028, .f32⟩
  | .hbm, ⟨32, _⟩ => ⟨S2x1024x1028, .f32⟩
  | .hbm, ⟨33, _⟩ => ⟨S2x1024x1028, .f32⟩
  | .hbm, ⟨34, _⟩ => ⟨S_, .f32⟩
  | .hbm, ⟨35, _⟩ => ⟨S2x1024x1028, .f32⟩
  | .hbm, ⟨36, _⟩ => ⟨S2x1024x1028, .f32⟩
  | .hbm, ⟨37, _⟩ => ⟨S2048x1028, .f32⟩
  | .hbm, ⟨38, _⟩ => ⟨S2048x1028, .f32⟩
  | .hbm, ⟨39, _⟩ => ⟨S2048x1028, .f32⟩
  | _, _ => ⟨S2x1024x1028, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamBQnW.lean ====
abbrev S2x64 : Shape := ⟨2, ![2, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBQnWIdeal.lean ====
abbrev S2x64 : Shape := ⟨2, ![2, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBQnWRefIdeal.lean ====
abbrev S2x64 : Shape := ⟨2, ![2, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S_, .f32⟩
  | .hbm, ⟨5, _⟩ => ⟨S2x64, .f32⟩
  | .hbm, ⟨6, _⟩ => ⟨S2x64, .f32⟩
  | .hbm, ⟨7, _⟩ => ⟨S_, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S_, .f32⟩
  | .hbm, ⟨12, _⟩ => ⟨S2x64, .f32⟩
  | .hbm, ⟨13, _⟩ => ⟨S2x64, .f32⟩
  | .hbm, ⟨14, _⟩ => ⟨S2x64, .f32⟩
  | .hbm, ⟨15, _⟩ => ⟨S_, .f32⟩
  | .hbm, ⟨16, _⟩ => ⟨S2x64, .f32⟩
  | .hbm, ⟨17, _⟩ => ⟨S2x64, .f32⟩
  | .hbm, ⟨18, _⟩ => ⟨S2x64, .f32⟩
  | .hbm, ⟨19, _⟩ => ⟨S_, .f32⟩
  | .hbm, ⟨20, _⟩ => ⟨S2x64, .f32⟩
  | .hbm, ⟨21, _⟩ => ⟨S2x64, .f32⟩
  | .hbm, ⟨22, _⟩ => ⟨S_, .f32⟩
  | .hbm, ⟨23, _⟩ => ⟨S2x64, .f32⟩
  | .hbm, ⟨24, _⟩ => ⟨S2x64, .f32⟩
  | .hbm, ⟨25, _⟩ => ⟨S2x64, .f32⟩
  | .hbm, ⟨26, _⟩ => ⟨S_, .f32⟩
  | .hbm, ⟨27, _⟩ => ⟨S2x64, .f32⟩
  | .hbm, ⟨28, _⟩ => ⟨S2x64, .f32⟩
  | .hbm, ⟨29, _⟩ => ⟨S2x64, .f32⟩
  | .hbm, ⟨30, _⟩ => ⟨S_, .f32⟩
  | .hbm, ⟨31, _⟩ => ⟨S2x64, .f32⟩
  | .hbm, ⟨32, _⟩ => ⟨S2x64, .f32⟩
  | .hbm, ⟨33, _⟩ => ⟨S2x64, .f32⟩
  | .hbm, ⟨34, _⟩ => ⟨S_, .f32⟩
  | .hbm, ⟨35, _⟩ => ⟨S2x64, .f32⟩
  | .hbm, ⟨36, _⟩ => ⟨S2x64, .f32⟩
  | _, _ => ⟨S2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBWOut.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 12
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBWOutIdeal.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 12
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBWOutRefIdeal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamFinalNormW.lean ====
abbrev S1024 : Shape := ⟨1, ![1024]⟩
abbrev S1x1024 : Shape := ⟨2, ![1, 1024]⟩

abbrev nBuf : Space → Nat
  | .hbm => 12
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFinalNormWRefIdeal.lean ====
abbrev S1024 : Shape := ⟨1, ![1024]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Parts.lean ====
/-
  Eight heads side by side: a head's part of a block, its slot of an accumulator, and what eight stores leave.
-/
module

public import Idealize.ShloMosaic.Lib.WritesUnit
public import Idealize.ShloMosaic.Lib.Tactic
public import Idealize.ShloMosaic.Lib.Pipeline.Kit

@[expose] public section

noncomputable section

namespace Cert.Proof.FoxParts

open Idealize.ShloMosaic Idealize.SL.Sem

/-- A block of rows, a head's part of it, the value columns of that, and one column. -/
abbrev Rows : Shape := ⟨2, ![512, 1024]⟩
abbrev Row : Shape := ⟨2, ![512, 128]⟩
abbrev Col : Shape := ⟨2, ![512, 64]⟩
abbrev Lane : Shape := ⟨2, ![512, 1]⟩
/-- A block of values, and the whole query gradient. -/
abbrev Half : Shape := ⟨2, ![512, 512]⟩
abbrev All : Shape := ⟨2, ![4096, 1024]⟩
/-- The accumulators and one slot of each. -/
abbrev AccK : Shape := ⟨3, ![8, 128, 512]⟩
abbrev SlotK : Shape := ⟨3, ![1, 128, 512]⟩
abbrev AccV : Shape := ⟨3, ![8, 64, 512]⟩
abbrev SlotV : Shape := ⟨3, ![1, 64, 512]⟩

/-! ## A head's part of a block -/

theorem in128 (e : Fin 8) : ∀ a, (![0, 128 * e.val] : Fin 2 → Nat) a + Row.size a ≤ Rows.size a :=
  Fin.forall_fin_two.mpr ⟨by show 0 + 512 ≤ 512; omega, by show 128 * e.val + 128 ≤ 1024; omega⟩
theorem in128v (e : Fin 8) : ∀ a, (![0, 128 * e.val] : Fin 2 → Nat) a + Col.size a ≤ Rows.size a :=
  Fin.forall_fin_two.mpr ⟨by show 0 + 512 ≤ 512; omega, by show 128 * e.val + 64 ≤ 1024; omega⟩
theorem in64 (e : Fin 8) : ∀ a, (![0, 64 * e.val] : Fin 2 → Nat) a + Col.size a ≤ Half.size a :=
  Fin.forall_fin_two.mpr ⟨by show 0 + 512 ≤ 512; omega, by show 64 * e.val + 64 ≤ 512; omega⟩
theorem in1 (e : Fin 8) : ∀ a, (![0, 64 * e.val] : Fin 2 → Nat) a + Lane.size a ≤ Half.size a :=
  Fin.forall_fin_two.mpr ⟨by show 0 + 512 ≤ 512; omega, by show 64 * e.val + 1 ≤ 512; omega⟩
theorem inK (e : Fin 8) : ∀ a, (![e.val, 0, 0] : Fin 3 → Nat) a + SlotK.size a ≤ AccK.size a := by
  intro a; match a with
  | 0 => show e.val + 1 ≤ 8; omega
  | 1 => show 0 + 128 ≤ 128; omega
  | 2 => show 0 + 512 ≤ 512; omega
theorem inV (e : Fin 8) : ∀ a, (![e.val, 0, 0] : Fin 3 → Nat) a + SlotV.size a ≤ AccV.size a := by
  intro a; match a with
  | 0 => show e.val + 1 ≤ 8; omega
  | 1 => show 0 + 64 ≤ 64; omega
  | 2 => show 0 + 512 ≤ 512; omega
theorem inQ (r : Nat) (hr : r + 512 ≤ 4096) (e : Fin 8) :
    ∀ a, (![r, 128 * e.val] : Fin 2 → Nat) a + Row.size a ≤ All.size a :=
  Fin.forall_fin_two.mpr ⟨hr, by show 128 * e.val + 128 ≤ 1024; omega⟩

section Parts
variable {α : Type}

/-- The 128 columns of head `e` of a query or key block. -/
def s128 (e : Fin 8) (X : Rows.Idx → α) : Row.Idx → α :=
  fun x => X ((Rect.unit (s := Rows) ![0, 128 * e.val] Row.size (in128 e)).emb x)
/-- The 64 value columns of head `e` of a value block. -/
def s128v (e : Fin 8) (X : Rows.Idx → α) : Col.Idx → α :=
  fun x => X ((Rect.unit (s := Rows) ![0, 128 * e.val] Col.size (in128v e)).emb x)
/-- The 64 columns of head `e` of a cotangent block. -/
def s64 (e : Fin 8) (X : Half.Idx → α) : Col.Idx → α :=
  fun x => X ((Rect.unit (s := Half) ![0, 64 * e.val] Col.size (in64 e)).emb x)
/-- The first of head `e`'s 64 columns. -/
def s1 (e : Fin 8) (X : Half.Idx → α) : Lane.Idx → α :=
  fun x => X ((Rect.unit (s := Half) ![0, 64 * e.val] Lane.size (in1 e)).emb x)
/-- Slot `e` of the key accumulator. -/
def slK (e : Fin 8) (X : AccK.Idx → α) : SlotK.Idx → α :=
  fun x => X ((Rect.unit (s := AccK) ![e.val, 0, 0] SlotK.size (inK e)).emb x)
/-- Slot `e` of the value accumulator. -/
def slV (e : Fin 8) (X : AccV.Idx → α) : SlotV.Idx → α :=
  fun x => X ((Rect.unit (s := AccV) ![e.val, 0, 0] SlotV.size (inV e)).emb x)
/-- Rows `r` to `r + 511` of head `e`'s columns of the query gradient. -/
def slQ (r : Nat) (hr : r + 512 ≤ 4096) (e : Fin 8) (X : All.Idx → α) : Row.Idx → α :=
  fun x => X ((Rect.unit (s := All) ![r, 128 * e.val] Row.size (inQ r hr e)).emb x)

/-- The key accumulator, every slot updated by `h`. -/
def updK (h : Fin 8 → (SlotK.Idx → α) → SlotK.Idx → α) (X : AccK.Idx → α) : AccK.Idx → α :=
  fun y => h (y 0) (slK (y 0) X) (fun a => match a with | 0 => (0 : Fin 1) | 1 => y 1 | 2 => y 2)
/-- The value accumulator, every slot updated by `h`. -/
def updV (h : Fin 8 → (SlotV.Idx → α) → SlotV.Idx → α) (X : AccV.Idx → α) : AccV.Idx → α :=
  fun y => h (y 0) (slV (y 0) X) (fun a => match a with | 0 => (0 : Fin 1) | 1 => y 1 | 2 => y 2)
/-- The head of a column of the query gradient. -/
def hd (y : All.Idx) : Fin 8 := ⟨(y 1).val / 128, by have h : (y 1).val < 1024 := (y 1).isLt; omega⟩
/-- The query gradient, the tiles of the first `n` heads at rows `r` to `r + 511` updated by `h`. -/
def updQ (n r : Nat) (hr : r + 512 ≤ 4096) (h : Fin 8 → (Row.Idx → α) → Row.Idx → α)
    (X : All.Idx → α) : All.Idx → α :=
  fun y => if c : (r ≤ (y 0).val ∧ (y 0).val < r + 512) ∧ (y 1).val < 128 * n then
    h (hd y) (slQ r hr (hd y) X)
      (fun a => match a with
        | 0 => (⟨(y 0).val - r, by omega⟩ : Fin 512)
        | 1 => (⟨(y 1).val % 128, Nat.mod_lt _ (by decide)⟩ : Fin 128))
  else X y
/-- A block whose columns of head `e` are `h e`. -/
def updDK (h : Fin 8 → Row.Idx → α) : Rows.Idx → α :=
  fun y => h ⟨(y 1).val / 128, by have h : (y 1).val < 1024 := (y 1).isLt; omega⟩
      (fun a => match a with
        | 0 => y 0
        | 1 => (⟨(y 1).val % 128, Nat.mod_lt _ (by decide)⟩ : Fin 128))
/-- A block whose columns of head `e` are `h e`. -/
def updDV (h : Fin 8 → Col.Idx → α) : Half.Idx → α :=
  fun y => h ⟨(y 1).val / 64, by have h : (y 1).val < 512 := (y 1).isLt; omega⟩
      (fun a => match a with
        | 0 => y 0
        | 1 => (⟨(y 1).val % 64, Nat.mod_lt _ (by decide)⟩ : Fin 64))

end Parts

section PartLemmas
variable {α : Type}

theorem updK_emb (h : Fin 8 → (SlotK.Idx → α) → SlotK.Idx → α) (X : AccK.Idx → α) (e : Fin 8) (x : SlotK.Idx) :
    updK h X ((Rect.unit (s := AccK) ![e.val, 0, 0] SlotK.size (inK e)).emb x) = h e (slK e X) x := by
  have e0 : (Rect.unit (s := AccK) ![e.val, 0, 0] SlotK.size (inK e)).emb x 0 = e :=
    Fin.ext (by show e.val + 1 * (x 0).val = e.val; have : (x 0).val < 1 := (x 0).isLt; omega)
  unfold updK
  rw [e0]
  congr 1
  funext a
  match a with
  | 0 => exact Fin.ext (by show 0 = (x 0).val; have : (x 0).val < 1 := (x 0).isLt; omega)
  | 1 => exact Fin.ext (by show 0 + 1 * (x 1).val = (x 1).val; omega)
  | 2 => exact Fin.ext (by show 0 + 1 * (x 2).val = (x 2).val; omega)

theorem updV_emb (h : Fin 8 → (SlotV.Idx → α) → SlotV.Idx → α) (X : AccV.Idx → α) (e : Fin 8) (x : SlotV.Idx) :
    updV h X ((Rect.unit (s := AccV) ![e.val, 0, 0] SlotV.size (inV e)).emb x) = h e (slV e X) x := by
  have e0 : (Rect.unit (s := AccV) ![e.val, 0, 0] SlotV.size (inV e)).emb x 0 = e :=
    Fin.ext (by show e.val + 1 * (x 0).val = e.val; have : (x 0).val < 1 := (x 0).isLt; omega)
  unfold updV
  rw [e0]
  congr 1
  funext a
  match a with
  | 0 => exact Fin.ext (by show 0 = (x 0).val; have : (x 0).val < 1 := (x 0).isLt; omega)
  | 1 => exact Fin.ext (by show 0 + 1 * (x 1).val = (x 1).val; omega)
  | 2 => exact Fin.ext (by show 0 + 1 * (x 2).val = (x 2).val; omega)

theorem updQ_emb (r : Nat) (hr : r + 512 ≤ 4096) (h : Fin 8 → (Row.Idx → α) → Row.Idx → α) (X : All.Idx → α)
    (e : Fin 8) (n : Nat) (hn : e.val < n) (x : Row.Idx) :
    updQ n r hr h X ((Rect.unit (s := All) ![r, 128 * e.val] Row.size (inQ r hr e)).emb x) = h e (slQ r hr e X) x := by
  set y := (Rect.unit (s := All) ![r, 128 * e.val] Row.size (inQ r hr e)).emb x with hy
  have y0 : (y 0).val = r + (x 0).val := by show r + 1 * (x 0).val = _; omega
  have y1 : (y 1).val = 128 * e.val + (x 1).val := by show 128 * e.val + 1 * (x 1).val = _; omega
  have x0 : (x 0).val < 512 := (x 0).isLt
  have x1 : (x 1).val < 128 := (x 1).isLt
  have e0 : hd y = e := Fin.ext (by show (y 1).val / 128 = e.val; omega)
  unfold updQ
  rw [dif_pos ⟨⟨by omega, by omega⟩, by omega⟩, e0]
  congr 1
  funext a
  match a with
  | 0 => exact Fin.ext (by show (y 0).val - r = (x 0).val; omega)
  | 1 => exact Fin.ext (by show (y 1).val % 128 = (x 1).val; omega)

/-- A column of a later head is not reached yet. -/
theorem updQ_not (r : Nat) (hr : r + 512 ≤ 4096) (h : Fin 8 → (Row.Idx → α) → Row.Idx → α) (X : All.Idx → α)
    (n : Nat) (e : Fin 8) (hn : n ≤ e.val) : slQ r hr e (updQ n r hr h X) = slQ r hr e X := by
  funext x
  unfold slQ updQ
  refine dif_neg fun c => ?_
  have : 128 * e.val + 1 * (x 1).val < 128 * n := c.2
  omega

end PartLemmas

/-! ## What lists of stores leave -/

section Stores
variable {nD : Nat} {τ : Topo} {sig : RefSig} {Val : EltTy → Type}

/-- The query gradient after one more head's store. -/
theorem updQ_cons (v : View sig .tc .vmem All .f32) (f : v.ty.Contents Val) (X : All.Idx → Val .f32)
    (r : Nat) (hr : r + 512 ≤ 4096) (h : Fin 8 → (Row.Idx → Val .f32) → Row.Idx → Val .f32) (e : Fin 8)
    (L : List (View.Piece Val All .f32)) (hL : v.read Val (v.writes Val f L) = updQ e.val r hr h X)
    (w : Row.Idx → Val .f32) (hw : w = h e (slQ r hr e (v.read Val (v.writes Val f L)))) :
    v.read Val (v.writes Val f ((⟨Rect.unit (s := All) ![r, 128 * e.val] Row.size (inQ r hr e), w⟩ : View.Piece Val All .f32) :: L))
      = updQ (e.val + 1) r hr h X := by
  rw [hL, updQ_not r hr h X e.val e le_rfl] at hw
  funext y
  by_cases c : (r ≤ (y 0).val ∧ (y 0).val < r + 512) ∧ (128 * e.val ≤ (y 1).val ∧ (y 1).val < 128 * e.val + 128)
  · set x : Row.Idx := (fun a => match a with
        | 0 => (⟨(y 0).val - r, by omega⟩ : Fin 512)
        | 1 => (⟨(y 1).val - 128 * e.val, by omega⟩ : Fin 128)) with hx
    have hy : (Rect.unit (s := All) ![r, 128 * e.val] Row.size (inQ r hr e)).emb x = y := by
      funext a
      match a with
      | 0 => exact Fin.ext (by show r + 1 * ((y 0).val - r) = (y 0).val; omega)
      | 1 => exact Fin.ext (by show 128 * e.val + 1 * ((y 1).val - 128 * e.val) = (y 1).val; omega)
    rw [← hy, View.read_writes_cons_emb, updQ_emb r hr h X e _ (by omega), hw]
  · have hm : v.read Val (v.writes Val f ((⟨Rect.unit (s := All) ![r, 128 * e.val] Row.size (inQ r hr e), w⟩ : View.Piece Val All .f32) :: L)) y
        = v.read Val (v.writes Val f L) y := by
      by_cases c0 : r ≤ (y 0).val ∧ (y 0).val < r + 512
      · exact View.read_writes_cons_unit_of_not_mem v f _ w L y rfl 1 (by
          show (y 1).val < 128 * e.val ∨ 128 * e.val + 128 ≤ (y 1).val; omega)
      · exact View.read_writes_cons_unit_of_not_mem v f _ w L y rfl 0 (by
          show (y 0).val < r ∨ r + 512 ≤ (y 0).val; omega)
    rw [hm, hL]
    unfold updQ
    by_cases c1 : (r ≤ (y 0).val ∧ (y 0).val < r + 512) ∧ (y 1).val < 128 * e.val
    · rw [dif_pos c1, dif_pos ⟨c1.1, by omega⟩]
    · rw [dif_neg c1, dif_neg (by omega)]

theorem updQ_zero {α : Type} (r : Nat) (hr : r + 512 ≤ 4096) (h : Fin 8 → (Row.Idx → α) → Row.Idx → α) (X : All.Idx → α) :
    updQ 0 r hr h X = X := by
  funext y
  exact dif_neg (by omega)

/-- The piece of the query gradient that stores head `e`'s tile. -/
def pcQ (r : Nat) (hr : r + 512 ≤ 4096) (e : Fin 8) (w : Row.Idx → Val .f32) : View.Piece Val All .f32 :=
  ⟨Rect.unit (s := All) ![r, 128 * e.val] Row.size (inQ r hr e), w⟩

/-- The query gradient after the stores of a step. -/
theorem updQ_all (v : View sig .tc .vmem All .f32) (f : v.ty.Contents Val)
    (r : Nat) (hr : r + 512 ≤ 4096) (h : Fin 8 → (Row.Idx → Val .f32) → Row.Idx → Val .f32)
    (w0 w1 w2 w3 w4 w5 w6 w7 : Row.Idx → Val .f32)
    (e0 : w0 = h 0 (slQ r hr 0 (v.read Val (v.writes Val f []))))
    (e1 : w1 = h 1 (slQ r hr 1 (v.read Val (v.writes Val f [pcQ r hr 0 w0]))))
    (e2 : w2 = h 2 (slQ r hr 2 (v.read Val (v.writes Val f [pcQ r hr 1 w1, pcQ r hr 0 w0]))))
    (e3 : w3 = h 3 (slQ r hr 3 (v.read Val (v.writes Val f [pcQ r hr 2 w2, pcQ r hr 1 w1, pcQ r hr 0 w0]))))
    (e4 : w4 = h 4 (slQ r hr 4 (v.read Val (v.writes Val f [pcQ r hr 3 w3, pcQ r hr 2 w2, pcQ r hr 1 w1, pcQ r hr 0 w0]))))
    (e5 : w5 = h 5 (slQ r hr 5 (v.read Val (v.writes Val f [pcQ r hr 4 w4, pcQ r hr 3 w3, pcQ r hr 2 w2, pcQ r hr 1 w1, pcQ r hr 0 w0]))))
    (e6 : w6 = h 6 (slQ r hr 6 (v.read Val (v.writes Val f [pcQ r hr 5 w5, pcQ r hr 4 w4, pcQ r hr 3 w3, pcQ r hr 2 w2, pcQ r hr 1 w1, pcQ r hr 0 w0]))))
    (e7 : w7 = h 7 (slQ r hr 7 (v.read Val (v.writes Val f [pcQ r hr 6 w6, pcQ r hr 5 w5, pcQ r hr 4 w4, pcQ r hr 3 w3, pcQ r hr 2 w2, pcQ r hr 1 w1, pcQ r hr 0 w0])))) :
    v.read Val (v.writes Val f [pcQ r hr 7 w7, pcQ r hr 6 w6, pcQ r hr 5 w5, pcQ r hr 4 w4, pcQ r hr 3 w3, pcQ r hr 2 w2, pcQ r hr 1 w1, pcQ r hr 0 w0]) = updQ 8 r hr h (v.read Val f) := by
  have q : v.read Val (v.writes Val f []) = updQ 0 r hr h (v.read Val f) := (updQ_zero r hr h _).symm
  have q0 := updQ_cons v f _ r hr h 0 _ q w0 e0
  have q1 := updQ_cons v f _ r hr h 1 _ q0 w1 e1
  have q2 := updQ_cons v f _ r hr h 2 _ q1 w2 e2
  have q3 := updQ_cons v f _ r hr h 3 _ q2 w3 e3
  have q4 := updQ_cons v f _ r hr h 4 _ q3 w4 e4
  have q5 := updQ_cons v f _ r hr h 5 _ q4 w5 e5
  have q6 := updQ_cons v f _ r hr h 6 _ q5 w6 e6
  have q7 := updQ_cons v f _ r hr h 7 _ q6 w7 e7
  exact q7

theorem memK (y : AccK.Idx) (e : Fin 8) (h : y 0 = e) (inb : ∀ a, (![e.val, 0, 0] : Fin 3 → Nat) a + SlotK.size a ≤ AccK.size a) :
    y ∈ (Rect.unit (s := AccK) ![e.val, 0, 0] SlotK.size inb).set := by
  rw [Rect.mem_set_unit]
  intro a
  match a with
  | 0 => rw [h]; exact ⟨le_rfl, Nat.lt_succ_self _⟩
  | 1 => exact ⟨Nat.zero_le _, by show (y 1).val < 0 + 128; have : (y 1).val < 128 := (y 1).isLt; omega⟩
  | 2 => exact ⟨Nat.zero_le _, by show (y 2).val < 0 + 512; have : (y 2).val < 512 := (y 2).isLt; omega⟩

theorem memV (y : AccV.Idx) (e : Fin 8) (h : y 0 = e) (inb : ∀ a, (![e.val, 0, 0] : Fin 3 → Nat) a + SlotV.size a ≤ AccV.size a) :
    y ∈ (Rect.unit (s := AccV) ![e.val, 0, 0] SlotV.size inb).set := by
  rw [Rect.mem_set_unit]
  intro a
  match a with
  | 0 => rw [h]; exact ⟨le_rfl, Nat.lt_succ_self _⟩
  | 1 => exact ⟨Nat.zero_le _, by show (y 1).val < 0 + 64; have : (y 1).val < 64 := (y 1).isLt; omega⟩
  | 2 => exact ⟨Nat.zero_le _, by show (y 2).val < 0 + 512; have : (y 2).val < 512 := (y 2).isLt; omega⟩

/-- The piece of the key accumulator that stores slot `e`. -/
def pcK (e : Fin 8) (w : SlotK.Idx → Val .f32) : View.Piece Val AccK .f32 :=
  ⟨Rect.unit (s := AccK) ![e.val, 0, 0] SlotK.size (inK e), w⟩
/-- The piece of the value accumulator that stores slot `e`. -/
def pcV (e : Fin 8) (w : SlotV.Idx → Val .f32) : View.Piece Val AccV .f32 :=
  ⟨Rect.unit (s := AccV) ![e.val, 0, 0] SlotV.size (inV e), w⟩

/-- The key accumulator after a store of each of its slots. -/
theorem updK_all (v : View sig .tc .vmem AccK .f32) (f : v.ty.Contents Val)
    (h : Fin 8 → (SlotK.Idx → Val .f32) → SlotK.Idx → Val .f32) (w0 w1 w2 w3 w4 w5 w6 w7 : SlotK.Idx → Val .f32)
    (e0 : w0 = h 0 (slK 0 (v.read Val f))) (e1 : w1 = h 1 (slK 1 (v.read Val f))) (e2 : w2 = h 2 (slK 2 (v.read Val f))) (e3 : w3 = h 3 (slK 3 (v.read Val f))) (e4 : w4 = h 4 (slK 4 (v.read Val f))) (e5 : w5 = h 5 (slK 5 (v.read Val f))) (e6 : w6 = h 6 (slK 6 (v.read Val f))) (e7 : w7 = h 7 (slK 7 (v.read Val f))) :
    v.read Val (v.writes Val f [pcK 7 w7, pcK 6 w6, pcK 5 w5, pcK 4 w4, pcK 3 w3, pcK 2 w2, pcK 1 w1, pcK 0 w0])
      = updK h (v.read Val f) := by
  set w : Fin 8 → SlotK.Idx → Val .f32 := ![w0, w1, w2, w3, w4, w5, w6, w7] with hwd
  have hw : ∀ e, w e = h e (slK e (v.read Val f)) := by
    intro e
    match e with
    | 0 => exact e0
    | 1 => exact e1
    | 2 => exact e2
    | 3 => exact e3
    | 4 => exact e4
    | 5 => exact e5
    | 6 => exact e6
    | 7 => exact e7
  have key : ∀ (e : Fin 8) (x : SlotK.Idx), (pcK e (w e)).2 x = updK h (v.read Val f) ((pcK e (w e)).1.emb x) := fun e x => by
    show w e x = updK h (v.read Val f) ((Rect.unit (s := AccK) ![e.val, 0, 0] SlotK.size (inK e)).emb x)
    rw [updK_emb, hw]
  funext y
  refine View.read_writes_apply_of_pieces v f (updK h (v.read Val f)) _ ?_ y ?_
  · intro p hp
    simp only [List.mem_cons, List.not_mem_nil, or_false] at hp
    rcases hp with rfl | rfl | rfl | rfl | rfl | rfl | rfl | rfl
    · exact key 7
    · exact key 6
    · exact key 5
    · exact key 4
    · exact key 3
    · exact key 2
    · exact key 1
    · exact key 0
  · refine ⟨pcK (y 0) (w (y 0)), ?_, memK y _ rfl (inK (y 0))⟩
    generalize (y 0 : Fin 8) = e
    fin_cases e <;> simp [hwd]

/-- The value accumulator after a store of each of its slots. -/
theorem updV_all (v : View sig .tc .vmem AccV .f32) (f : v.ty.Contents Val)
    (h : Fin 8 → (SlotV.Idx → Val .f32) → SlotV.Idx → Val .f32) (w0 w1 w2 w3 w4 w5 w6 w7 : SlotV.Idx → Val .f32)
    (e0 : w0 = h 0 (slV 0 (v.read Val f))) (e1 : w1 = h 1 (slV 1 (v.read Val f))) (e2 : w2 = h 2 (slV 2 (v.read Val f))) (e3 : w3 = h 3 (slV 3 (v.read Val f))) (e4 : w4 = h 4 (slV 4 (v.read Val f))) (e5 : w5 = h 5 (slV 5 (v.read Val f))) (e6 : w6 = h 6 (slV 6 (v.read Val f))) (e7 : w7 = h 7 (slV 7 (v.read Val f))) :
    v.read Val (v.writes Val f [pcV 7 w7, pcV 6 w6, pcV 5 w5, pcV 4 w4, pcV 3 w3, pcV 2 w2, pcV 1 w1, pcV 0 w0])
      = updV h (v.read Val f) := by
  set w : Fin 8 → SlotV.Idx → Val .f32 := ![w0, w1, w2, w3, w4, w5, w6, w7] with hwd
  have hw : ∀ e, w e = h e (slV e (v.read Val f)) := by
    intro e
    match e with
    | 0 => exact e0
    | 1 => exact e1
    | 2 => exact e2
    | 3 => exact e3
    | 4 => exact e4
    | 5 => exact e5
    | 6 => exact e6
    | 7 => exact e7
  have key : ∀ (e : Fin 8) (x : SlotV.Idx), (pcV e (w e)).2 x = updV h (v.read Val f) ((pcV e (w e)).1.emb x) := fun e x => by
    show w e x = updV h (v.read Val f) ((Rect.unit (s := AccV) ![e.val, 0, 0] SlotV.size (inV e)).emb x)
    rw [updV_emb, hw]
  funext y
  refine View.read_writes_apply_of_pieces v f (updV h (v.read Val f)) _ ?_ y ?_
  · intro p hp
    simp only [List.mem_cons, List.not_mem_nil, or_false] at hp
    rcases hp with rfl | rfl | rfl | rfl | rfl | rfl | rfl | rfl
    · exact key 7
    · exact key 6
    · exact key 5
    · exact key 4
    · exact key 3
    · exact key 2
    · exact key 1
    · exact key 0
  · refine ⟨pcV (y 0) (w (y 0)), ?_, memV y _ rfl (inV (y 0))⟩
    generalize (y 0 : Fin 8) = e
    fin_cases e <;> simp [hwd]

/-- The piece of an output block that stores the columns of head `e`. -/
def pcDK (e : Fin 8) (w : Row.Idx → Val .f32) : View.Piece Val Rows .f32 :=
  ⟨Rect.unit (s := Rows) ![0, 128 * e.val] Row.size (in128 e), w⟩
/-- The piece of an output block that stores the columns of head `e`. -/
def pcDV (e : Fin 8) (w : Col.Idx → Val .f32) : View.Piece Val Half .f32 :=
  ⟨Rect.unit (s := Half) ![0, 64 * e.val] Col.size (in64 e), w⟩

theorem updDK_emb {α : Type} (h : Fin 8 → Row.Idx → α) (e : Fin 8) (x : Row.Idx) :
    updDK h ((Rect.unit (s := Rows) ![0, 128 * e.val] Row.size (in128 e)).emb x) = h e x := by
  set y := (Rect.unit (s := Rows) ![0, 128 * e.val] Row.size (in128 e)).emb x with hy
  have y0 : (y 0).val = (x 0).val := by show 0 + 1 * (x 0).val = _; omega
  have y1 : (y 1).val = 128 * e.val + (x 1).val := by show 128 * e.val + 1 * (x 1).val = _; omega
  have x1 : (x 1).val < 128 := (x 1).isLt
  unfold updDK
  have e0 : (⟨(y 1).val / 128, by have h : (y 1).val < 1024 := (y 1).isLt; omega⟩ : Fin 8) = e := Fin.ext (by show (y 1).val / 128 = e.val; omega)
  rw [e0]
  congr 1
  funext a
  match a with
  | 0 => exact Fin.ext y0
  | 1 => exact Fin.ext (by show (y 1).val % 128 = (x 1).val; omega)

theorem updDV_emb {α : Type} (h : Fin 8 → Col.Idx → α) (e : Fin 8) (x : Col.Idx) :
    updDV h ((Rect.unit (s := Half) ![0, 64 * e.val] Col.size (in64 e)).emb x) = h e x := by
  set y := (Rect.unit (s := Half) ![0, 64 * e.val] Col.size (in64 e)).emb x with hy
  have y0 : (y 0).val = (x 0).val := by show 0 + 1 * (x 0).val = _; omega
  have y1 : (y 1).val = 64 * e.val + (x 1).val := by show 64 * e.val + 1 * (x 1).val = _; omega
  have x1 : (x 1).val < 64 := (x 1).isLt
  unfold updDV
  have e0 : (⟨(y 1).val / 64, by have h : (y 1).val < 512 := (y 1).isLt; omega⟩ : Fin 8) = e := Fin.ext (by show (y 1).val / 64 = e.val; omega)
  rw [e0]
  congr 1
  funext a
  match a with
  | 0 => exact Fin.ext y0
  | 1 => exact Fin.ext (by show (y 1).val % 64 = (x 1).val; omega)

/-- A block after a store of each head's columns. -/
theorem updDK_all (v : View sig .tc .vmem Rows .f32) (f : v.ty.Contents Val) (w : Fin 8 → Row.Idx → Val .f32) (w0 w1 w2 w3 w4 w5 w6 w7 : Row.Idx → Val .f32)
    (e0 : w0 = w 0) (e1 : w1 = w 1) (e2 : w2 = w 2) (e3 : w3 = w 3) (e4 : w4 = w 4) (e5 : w5 = w 5) (e6 : w6 = w 6) (e7 : w7 = w 7) :
    v.read Val (v.writes Val f [pcDK 7 w7, pcDK 6 w6, pcDK 5 w5, pcDK 4 w4, pcDK 3 w3, pcDK 2 w2, pcDK 1 w1, pcDK 0 w0])
      = updDK w := by
  subst e0 e1 e2 e3 e4 e5 e6 e7
  funext y
  refine View.read_writes_apply_of_pieces v f (updDK w) _ ?_ y ?_
  · intro p hp
    simp only [List.mem_cons, List.not_mem_nil, or_false] at hp
    rcases hp with rfl | rfl | rfl | rfl | rfl | rfl | rfl | rfl <;> exact fun x => (updDK_emb w _ x).symm
  · have h1 : (y 1).val < 1024 := (y 1).isLt
    refine ⟨pcDK ⟨(y 1).val / 128, by omega⟩ (w ⟨(y 1).val / 128, by omega⟩), ?_, ?_⟩
    · generalize (⟨(y 1).val / 128, _⟩ : Fin 8) = e
      fin_cases e <;> simp
    · show y ∈ (Rect.unit (s := Rows) ![0, 128 * ((y 1).val / 128)] Row.size (in128 ⟨(y 1).val / 128, by omega⟩)).set
      rw [Rect.mem_set_unit]
      intro a
      match a with
      | 0 => exact ⟨Nat.zero_le _, by show (y 0).val < 0 + 512; have : (y 0).val < 512 := (y 0).isLt; omega⟩
      | 1 => show 128 * ((y 1).val / 128) ≤ (y 1).val ∧ (y 1).val < 128 * ((y 1).val / 128) + 128; omega

/-- A block after a store of each head's columns. -/
theorem updDV_all (v : View sig .tc .vmem Half .f32) (f : v.ty.Contents Val) (w : Fin 8 → Col.Idx → Val .f32) (w0 w1 w2 w3 w4 w5 w6 w7 : Col.Idx → Val .f32)
    (e0 : w0 = w 0) (e1 : w1 = w 1) (e2 : w2 = w 2) (e3 : w3 = w 3) (e4 : w4 = w 4) (e5 : w5 = w 5) (e6 : w6 = w 6) (e7 : w7 = w 7) :
    v.read Val (v.writes Val f [pcDV 7 w7, pcDV 6 w6, pcDV 5 w5, pcDV 4 w4, pcDV 3 w3, pcDV 2 w2, pcDV 1 w1, pcDV 0 w0])
      = updDV w := by
  subst e0 e1 e2 e3 e4 e5 e6 e7
  funext y
  refine View.read_writes_apply_of_pieces v f (updDV w) _ ?_ y ?_
  · intro p hp
    simp only [List.mem_cons, List.not_mem_nil, or_false] at hp
    rcases hp with rfl | rfl | rfl | rfl | rfl | rfl | rfl | rfl <;> exact fun x => (updDV_emb w _ x).symm
  · have h1 : (y 1).val < 512 := (y 1).isLt
    refine ⟨pcDV ⟨(y 1).val / 64, by omega⟩ (w ⟨(y 1).val / 64, by omega⟩), ?_, ?_⟩
    · generalize (⟨(y 1).val / 64, _⟩ : Fin 8) = e
      fin_cases e <;> simp
    · show y ∈ (Rect.unit (s := Half) ![0, 64 * ((y 1).val / 64)] Col.size (in64 ⟨(y 1).val / 64, by omega⟩)).set
      rw [Rect.mem_set_unit]
      intro a
      match a with
      | 0 => exact ⟨Nat.zero_le _, by show (y 0).val < 0 + 512; have : (y 0).val < 512 := (y 0).isLt; omega⟩
      | 1 => show 64 * ((y 1).val / 64) ≤ (y 1).val ∧ (y 1).val < 64 * ((y 1).val / 64) + 64; omega

end Stores

end Cert.Proof.FoxParts

end
-- ==== Proof.BitsSteps.lean ====
/-
  What one step does to the three accumulators, as functions of the blocks it reads: for each of the eight heads of a
  block, the weights, the gradient of the logits, and the head's addition to each accumulator.
-/
module

public import proofs.«01_k».proof.Proof.BitsPieces
public import proofs.«01_k».proof.Proof.Parts

@[expose] public section

noncomputable section

namespace Cert.Proof.FoxBits

open Cert.Kernel Gen

open Cert.Proof.FoxParts
open Idealize.ShloMosaic TcCoe Tactic
open Idealize.SL.Sem

variable {F : FTy → Type} [FloatOps F]

/-! ## One head -/

/-- The gradient of the logits of one head, from its weights `p`. -/
def hS (p : FVec F S512x512 .f32) (d v : Vec F S512x64 .bf16) (dl : Vec F S512x1 .f32) : FVec F S512x512 .bf16 :=
  truncf .bf16 (mulf p (subf
    (matmul dot_S512x64_S512x64_S512x512_1_1_0_0_n_n none (shapeCast S512x64 d shapeCasts_S512x64_S512x64)
      (shapeCast S512x64 v shapeCasts_S512x64_S512x64) (constant S512x512 .f32 0x00000000#32))
    (broadcastTo S512x512 (shapeCast S512x1 dl shapeCasts_S512x1_S512x1) broadcasts_S512x1_S512x512))) bitsLt_bf16_f32

/-- One head's slot of the value accumulator after a step. -/
def hV (p : FVec F S512x512 .f32) (d : Vec F S512x64 .bf16) (old : Vec F S1x64x512 .f32) : FVec F S1x64x512 .f32 :=
  shapeCast S1x64x512 (addf (shapeCast S64x512 old shapeCasts_S1x64x512_S64x512)
    (matmul dot_S512x64_S512x512_S64x512_0_0_1_1_n_n none (shapeCast S512x64 d shapeCasts_S512x64_S512x64)
      (truncf .bf16 p bitsLt_bf16_f32) (constant S64x512 .f32 0x00000000#32))) shapeCasts_S64x512_S1x64x512

/-- One head's slot of the key accumulator after a step. -/
def hK (q : Vec F S512x128 .bf16) (s : FVec F S512x512 .bf16) (old : Vec F S1x128x512 .f32) : FVec F S1x128x512 .f32 :=
  shapeCast S1x128x512 (addf (shapeCast S128x512 old shapeCasts_S1x128x512_S128x512)
    (matmul dot_S512x128_S512x512_S128x512_0_0_1_1_n_n none (shapeCast S512x128 q shapeCasts_S512x128_S512x128)
      s (constant S128x512 .f32 0x00000000#32))) shapeCasts_S128x512_S1x128x512

/-- One head's tile of the query gradient after a step. -/
def hQ (k : Vec F S512x128 .bf16) (s : FVec F S512x512 .bf16) (old : Vec F S512x128 .f32) : FVec F S512x128 .f32 :=
  addf (shapeCast S512x128 old shapeCasts_S512x128_S512x128)
    (matmul dot_S512x512_S512x128_S512x128_1_0_0_1_n_n none s (shapeCast S512x128 k shapeCasts_S512x128_S512x128)
      (constant S512x128 .f32 0x00000000#32))

/-! ## A step's updates

`P` gives a head's weights from its queries, its keys and the logarithms of its sums. -/

section Updates
variable (P : Vec F S512x128 .bf16 → Vec F S512x128 .bf16 → Vec F S512x1 .f32 → FVec F S512x512 .f32) (X4 X5 X6 : S512x1024.Idx → Elt F .bf16) (X7 : S512x512.Idx → Elt F .bf16) (X8 X9 : S512x512.Idx → Elt F .f32)

/-- Head `e`'s gradient of the logits. -/
def gS (e : Fin 8) : FVec F S512x512 .bf16 := hS (P (s128 e X4) (s128 e X5) (s1 e X8)) (s64 e X7) (s128v e X6) (s1 e X9)
/-- What a step does to slot `e` of the value accumulator. -/
def gV (e : Fin 8) (old : S1x64x512.Idx → Elt F .f32) : S1x64x512.Idx → Elt F .f32 :=
  hV (P (s128 e X4) (s128 e X5) (s1 e X8)) (s64 e X7) old
/-- What a step does to slot `e` of the key accumulator. -/
def gK (e : Fin 8) (old : S1x128x512.Idx → Elt F .f32) : S1x128x512.Idx → Elt F .f32 :=
  hK (s128 e X4) (gS P X4 X5 X6 X7 X8 X9 e) old
/-- What a step does to head `e`'s tile of the query gradient. -/
def gQ (e : Fin 8) (old : S512x128.Idx → Elt F .f32) : S512x128.Idx → Elt F .f32 :=
  hQ (s128 e X5) (gS P X4 X5 X6 X7 X8 X9 e) old

end Updates

end Cert.Proof.FoxBits

end
-- ==== Proof.BitsPoint.lean ====
/-
  The body run at a grid point, the two tables held at their contents.
-/
module

public import proofs.«01_k».proof.Proof.BitsTables

@[expose] public section

noncomputable section

namespace Cert.Proof.FoxBits

open Cert.Kernel Gen

open Idealize.ShloMosaic TcCoe Tactic
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The two tables held at the share the launch hands the body. -/
abbrev ptJ (c : Dev nD) : sProp 𝕄 := (((c : Thread nD τ).loc main_c) ↦{fullShare.right} (show Buf (Elt F) ((c : Thread nD τ).loc main_c) from tabJ))
abbrev ptI (c : Dev nD) : sProp 𝕄 := (((c : Thread nD τ).loc main_c_0) ↦{fullShare.right} (show Buf (Elt F) ((c : Thread nD τ).loc main_c_0) from tabI))

variable (i : grid0.Coords) (a4 : Memref sig .tc .vmem S512x1024 .bf16) (g4 : a4.IsWhole)
variable (a5 : Memref sig .tc .vmem S512x1024 .bf16) (g5 : a5.IsWhole) (a6 : Memref sig .tc .vmem S512x1024 .bf16) (g6 : a6.IsWhole)
variable (a7 : Memref sig .tc .vmem S512x512 .bf16) (g7 : a7.IsWhole) (a8 : Memref sig .tc .vmem S512x512 .f32) (g8 : a8.IsWhole)
variable (a9 : Memref sig .tc .vmem S512x512 .f32) (g9 : a9.IsWhole) (a10 : Memref sig .tc .vmem S4096x1024 .f32) (g10 : a10.IsWhole)
variable (a11 : Memref sig .tc .vmem S512x1024 .f32) (g11 : a11.IsWhole) (a12 : Memref sig .tc .vmem S512x512 .f32) (g12 : a12.IsWhole)
variable (a13 : Memref sig .tc .vmem S8x128x512 .f32) (g13 : a13.IsWhole) (a14 : Memref sig .tc .vmem S8x64x512 .f32) (g14 : a14.IsWhole)
variable (c : Dev nD) (W : Waits sig Unit) (Q : PUnit.{1} → sProp (MT nD τ sig Unit (Elt F) ℕ (UU nD τ) ℕ))
variable (X4 X5 X6 : S512x1024.Idx → Elt F .bf16) (X7 : S512x512.Idx → Elt F .bf16) (X8 X9 : S512x512.Idx → Elt F .f32) (X10 : S4096x1024.Idx → Elt F .f32) (X11 : S512x1024.Idx → Elt F .f32) (X12 : S512x512.Idx → Elt F .f32) (X13 : S8x128x512.Idx → Elt F .f32) (X14 : S8x64x512.Idx → Elt F .f32)

set_option maxHeartbeats 1000000 in
theorem body_at :
   iprop(rd c a4 X4 ∗ rd c a5 X5 ∗ rd c a6 X6 ∗ rd c a7 X7 ∗ rd c a8 X8 ∗ rd c a9 X9 ∗ rd c a10 X10 ∗ rd c a11 X11 ∗ rd c a12 X12 ∗ rd c a13 X13 ∗ rd c a14 X14 ∗ ptJ c ∗ ptI c ∗ owes (c : Thread nD τ) 0 W
     ∗ (iprop(rd c a4 X4 ∗ rd c a5 X5 ∗ rd c a6 X6 ∗ rd c a7 X7 ∗ rd c a8 X8 ∗ rd c a9 X9 ∗ rd c a10 (nxQ (wJ i) (wI i) X4 X5 X6 X7 X8 X9 i X10) ∗ rd c a11 (fiK (wI i) (nxK (wJ i) (wI i) X4 X5 X6 X7 X8 X9 X13) X11) ∗ rd c a12 (fiV (wI i) (nxV (wJ i) (wI i) X4 X5 X7 X8 X14) X12) ∗ rd c a13 (nxK (wJ i) (wI i) X4 X5 X6 X7 X8 X9 X13) ∗ rd c a14 (nxV (wJ i) (wI i) X4 X5 X7 X8 X14) ∗ ptJ c ∗ ptI c ∗ owes (c : Thread nD τ) 0 W) -∗ Q ⟨⟩))
   ⊢ wp frame (wpE (defs₀ (F := F)) Variants.none c none) Set.univ (cc0_fox_attn_bwd i (Memref.whole main_c) (Memref.isWhole_whole _) (Memref.whole main_c_0) (Memref.isWhole_whole _) a4 g4 a5 g5 a6 g6 a7 g7 a8 g8 a9 g9 a10 g10 a11 g11 a12 g12 a13 g13 a14 g14) Q := by
  unfold nxQ nxK nxV
  rw [cc0_fox_attn_bwd_eq_skeleton, skel_eq]
  unfold smemLoad smemLoadElt
  simp only [Prog.bind_op, Prog.bind_ret]
  iintro ⟨H4, H5, H6, H7, H8, H9, H10, H11, H12, H13, H14, HJ, HI, HO, Hk⟩
  iapply (wp_load_rect Variants.none (c : Thread nD τ) none Set.univ (m := Memref.whole main_c) (r := Rect.unit (s := S36) (k0_off1 i) S1.size (k0_off1_inb i)) (Finset.subset_univ _)) $$ HJ
  iintro HJ
  iapply (wp_load_rect Variants.none (c : Thread nD τ) none Set.univ (m := Memref.whole main_c_0) (r := Rect.unit (s := S36) (k0_off1 i) S1.size (k0_off1_inb i)) (Finset.subset_univ _)) $$ HI
  iintro HI
  have e1 : (((Memref.whole main_c).access (Rect.unit (s := S36) (k0_off1 i) S1.size (k0_off1_inb i)) : View sig .tc _ _ _).read (Elt F) (show Buf (Elt F) ((c : Thread nD τ).loc main_c) from tabJ)) (Shape.Idx.first (numel1_S1.symm ▸ Nat.one_pos)) = wJ i := tabJ_word i
  have e3 : (((Memref.whole main_c_0).access (Rect.unit (s := S36) (k0_off1 i) S1.size (k0_off1_inb i)) : View sig .tc _ _ _).read (Elt F) (show Buf (Elt F) ((c : Thread nD τ).loc main_c_0) from tabI)) (Shape.Idx.first (numel1_S1.symm ▸ Nat.one_pos)) = wI i := tabI_word i
  rw [e1, e3]
  iapply (wp_assume Variants.none (c : Thread nD τ) none Set.univ (chk i))
  iapply tail1_run
  iframe H4 H5 H6 H7 H8 H9 H10 H11 H12 H13 H14 HO
  iintro ⟨H4, H5, H6, H7, H8, H9, H10, H11, H12, H13, H14, HO⟩
  iapply Hk
  iframe H4 H5 H6 H7 H8 H9 H10 H11 H12 H13 H14 HJ HI
  iexact HO

end Cert.Proof.FoxBits

end
-- ==== Proof.BitsFrame.lean ====
/-
  The frame of the kernel at its own float formats.
-/
module

public import proofs.«01_k».proof.Defs
public import proofs.«01_k».proof.Proof.BitsRun

@[expose] public section

noncomputable section

namespace Cert.Proof.FoxBits

open Cert.Kernel Gen

open Idealize.ShloMosaic TcCoe Tactic
open Idealize.SL.Sem

section
variable {F : FTy → Type} [FloatOps F]

/-- A buffer that is no window's array and that no host operation writes ends as it began. -/
theorem kept (m : (ℓ : Loc nD τ sig) → Buf (Elt F) ℓ) (r : PUnit × MemSt nD τ sig (Elt F))
    (h : Pipeline.FramePost (pcsA (F := F)) (dats m) 0 (Pipeline.afterTail pcfgs (fun _ => adm) (dats m) 0 (V₀ m) [hostOps1]) r)
    (c : Dev nD) (b : Ref sig .tc) (h₀ : b ∈ Pipeline.restRefs sig spec0) (h₁ : b ∉ refs_hostOps1)
    (h₂ : ∀ w, Pipeline.arrRef spec0 w ≠ b) (h₃ : b ∉ refs_hostOps0 ++ (refs_hostOps0_1 ++ (refs_hostOps0_2 ++ []))) :
    r.2.mem ((c : Thread nD τ).loc b) = m ((c : Thread nD τ).loc b) := by
  refine ((h c).2 b h₀).trans ?_
  refine (StableHlo.after_of_forall_not_mem (b := Proc.devRef .tc b) _ _ (not_written_of (refs := refs_hostOps1 ++ [])
    (List.rel_append writes_hostOps1 List.Forall₂.nil) b (by rwa [List.append_nil]))).trans ?_
  exact (Pipeline.withArrays_of_ne spec0 c _ _ b h₂).trans (V₀_kept m c b h₃)

/-- The frame, for any floats. -/
theorem frame_any (m : (ℓ : Loc nD τ sig) → Buf (Elt F) ℓ) (g : Dev nD → PrngReg) :
    θ_run (defs (F := F)) (onTc (τ := τ) main) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (defs (F := F)) _ _).mono (fun r h => ⟨fun c =>
    ⟨kept m r h.1 c main_arg0 (by decide) (by decide) (by decide) (by decide), kept m r h.1 c main_arg1 (by decide) (by decide) (by decide) (by decide),
     kept m r h.1 c main_arg2 (by decide) (by decide) (by decide) (by decide), kept m r h.1 c main_arg3 (by decide) (by decide) (by decide) (by decide),
     kept m r h.1 c main_arg4 (by decide) (by decide) (by decide) (by decide)⟩, h.2⟩) (run_main m g)
end

theorem frame_kernel : quiescent_Kernel := fun m g _ => frame_any (F := Bits) m g

end Cert.Proof.FoxBits

end
-- ==== Proof.Pieces.lean ====
/-
  The body of the call in five pieces, one for each conditional: what a piece runs when its condition holds, followed by
  whatever comes after it.
-/
module

public import proofs.«01_k».proof.Proof.Gen.KernelIdeal.Skeleton
public import Idealize.ShloMosaic.Lib.Tactic
public import Idealize.ShloMosaic.Lib.Pipeline.Kit

@[expose] public section

noncomputable section

namespace Cert.Proof.Fox

open KernelIdeal KernelIdeal.Gen

open Idealize.ShloMosaic TcCoe Tactic
open Idealize.SL.Sem

variable {F : FTy → Type} [FloatOps F] [Named F]

variable (i : grid0.Coords) (a2 : Memref sig .tc .smem S36 .i32) (g2 : a2.IsWhole)
variable (a3 : Memref sig .tc .smem S36 .i32) (g3 : a3.IsWhole) (a4 : Memref sig .tc .vmem S512x1024 .bf16) (g4 : a4.IsWhole)
variable (a5 : Memref sig .tc .vmem S512x1024 .bf16) (g5 : a5.IsWhole) (a6 : Memref sig .tc .vmem S512x1024 .bf16) (g6 : a6.IsWhole)
variable (a7 : Memref sig .tc .vmem S512x512 .bf16) (g7 : a7.IsWhole) (a8 : Memref sig .tc .vmem S512x512 .f32) (g8 : a8.IsWhole)
variable (a9 : Memref sig .tc .vmem S512x512 .f32) (g9 : a9.IsWhole) (a10 : Memref sig .tc .vmem S4096x1024 .f32) (g10 : a10.IsWhole)
variable (a11 : Memref sig .tc .vmem S512x1024 .f32) (g11 : a11.IsWhole) (a12 : Memref sig .tc .vmem S512x512 .f32) (g12 : a12.IsWhole)
variable (a13 : Memref sig .tc .vmem S8x128x512 .f32) (g13 : a13.IsWhole) (a14 : Memref sig .tc .vmem S8x64x512 .f32) (g14 : a14.IsWhole)

set_option cleanup.letToHave false in
/-- Clear the block of the query gradient. -/
def blk1 (kk : PUnit.{1} → Prog (TpuEff nD τ sig (Elt F) Λ₀ .tc) PUnit) :
    Prog (TpuEff nD τ sig (Elt F) Λ₀ .tc) PUnit := do
  let v20 : Vec F S4096x1024 .f32 ← Prog.lift (.load a10 (Rect.unit (s := S4096x1024) ![0, 0] S4096x1024.size inb_S4096x1024_S4096x1024_0_0).toLoadRect (View.loadsAt_vmem h_S4096x1024))
  Prog.lift (.store a10 (Rect.unit (s := S4096x1024) ![0, 0] S4096x1024.size inb_S4096x1024_S4096x1024_0_0) (k0_pay1 (F := F)) Finset.univ (View.stores_vmem_bits_univ h_S4096x1024 rfl) (.inl rfl))
  kk ⟨⟩

set_option cleanup.letToHave false in
/-- Clear the two accumulators. -/
def blk2 (kk : PUnit.{1} → Prog (TpuEff nD τ sig (Elt F) Λ₀ .tc) PUnit) :
    Prog (TpuEff nD τ sig (Elt F) Λ₀ .tc) PUnit := do
  let v20 : Vec F S8x128x512 .f32 ← Prog.lift (.load a13 (Rect.unit (s := S8x128x512) ![0, 0, 0] S8x128x512.size inb_S8x128x512_S8x128x512_0_0_0).toLoadRect (View.loadsAt_vmem h_S8x128x512))
  Prog.lift (.store a13 (Rect.unit (s := S8x128x512) ![0, 0, 0] S8x128x512.size inb_S8x128x512_S8x128x512_0_0_0) (k0_pay2 (F := F)) Finset.univ (View.stores_vmem_bits_univ h_S8x128x512 rfl) (.inl rfl))
  let v24 : Vec F S8x64x512 .f32 ← Prog.lift (.load a14 (Rect.unit (s := S8x64x512) ![0, 0, 0] S8x64x512.size inb_S8x64x512_S8x64x512_0_0_0).toLoadRect (View.loadsAt_vmem h_S8x64x512))
  Prog.lift (.store a14 (Rect.unit (s := S8x64x512) ![0, 0, 0] S8x64x512.size inb_S8x64x512_S8x64x512_0_0_0) (k0_pay3 (F := F)) Finset.univ (View.stores_vmem_bits_univ h_S8x64x512 rfl) (.inl rfl))
  kk ⟨⟩

set_option cleanup.letToHave false in
/-- A step off the diagonal. -/
def blk3 (v1 v3 : Elt F .i32) (k0_hw1 : k0_chk1 v1 v3) (k0_h3 : k0_cond3 v1 v3 = 1#1) (kk : PUnit.{1} → Prog (TpuEff nD τ sig (Elt F) Λ₀ .tc) PUnit) :
    Prog (TpuEff nD τ sig (Elt F) Λ₀ .tc) PUnit := do
  let ⟨v20, v22, v24, v41, v51, cst_27⟩ : Σ' (v20 : BitVec 32) (v22 v24 : FVec F S512x128 .bf16) (v41 : FVec F S512x512 .bf16) (v51 : FVec F S128x512 .f32), FVec F S128x512 .f32 ← k0_part1 i a2 g2 a3 g3 a4 g4 a5 g5 a6 g6 a7 g7 a8 g8 a9 g9 a10 g10 a11 g11 a12 g12 a13 g13 a14 g14 v3
  let ⟨v65, v67, v69, v75, v84, v86⟩ : Σ' (v65 v67 : FVec F S512x128 .bf16) (v69 : FVec F S512x64 .bf16) (v75 : FVec F S512x512 .f32) (v84 : FVec F S512x512 .bf16), FVec F S64x512 .f32 ← k0_part2 i a2 g2 a3 g3 a4 g4 a5 g5 a6 g6 a7 g7 a8 g8 a9 g9 a10 g10 a11 g11 a12 g12 a13 g13 a14 g14 v1 v3 k0_hw1 k0_h3 v20 v22 v24 v41 v51 cst_27
  let ⟨v108, v110, v112, v118⟩ : Σ' (v108 v110 : FVec F S512x128 .bf16) (v112 : FVec F S512x64 .bf16), FVec F S512x512 .f32 ← k0_part3 i a2 g2 a3 g3 a4 g4 a5 g5 a6 g6 a7 g7 a8 g8 a9 g9 a10 g10 a11 g11 a12 g12 a13 g13 a14 g14 v1 v3 k0_hw1 k0_h3 v20 v65 v67 v69 v75 v84 v86
  let v151 : FVec F S512x128 .bf16 ← k0_part4 i a2 g2 a3 g3 a4 g4 a5 g5 a6 g6 a7 g7 a8 g8 a9 g9 a10 g10 a11 g11 a12 g12 a13 g13 a14 g14 v1 v3 k0_hw1 k0_h3 v20 v108 v110 v112 v118
  let ⟨v153, v170⟩ : Σ' (v153 : FVec F S512x128 .bf16), FVec F S512x512 .bf16 ← k0_part5 i a2 g2 a3 g3 a4 g4 a5 g5 a6 g6 a7 g7 a8 g8 a9 g9 a10 g10 a11 g11 a12 g12 a13 g13 a14 g14 v151
  let ⟨v194, v196, v213, v218⟩ : Σ' (v194 v196 : FVec F S512x128 .bf16) (v213 : FVec F S512x512 .bf16), FVec F S64x512 .f32 ← k0_part6 i a2 g2 a3 g3 a4 g4 a5 g5 a6 g6 a7 g7 a8 g8 a9 g9 a10 g10 a11 g11 a12 g12 a13 g13 a14 g14 v1 v3 k0_hw1 k0_h3 v20 v153 v170
  let ⟨v237, v239, v241, v247, v250, v253⟩ : Σ' (v237 v239 : FVec F S512x128 .bf16) (v241 : FVec F S512x64 .bf16) (v247 v250 : FVec F S512x512 .f32), FVec F S512x512 .f32 ← k0_part7 i a2 g2 a3 g3 a4 g4 a5 g5 a6 g6 a7 g7 a8 g8 a9 g9 a10 g10 a11 g11 a12 g12 a13 g13 a14 g14 v1 v3 k0_hw1 k0_h3 v20 v194 v196 v213 v218
  let ⟨v280, v282, v284, v285⟩ : Σ' (v280 v282 : FVec F S512x128 .bf16) (v284 : FVec F S512x64 .bf16), FVec F S512x512 .f32 ← k0_part8 i a2 g2 a3 g3 a4 g4 a5 g5 a6 g6 a7 g7 a8 g8 a9 g9 a10 g10 a11 g11 a12 g12 a13 g13 a14 g14 v1 v3 k0_hw1 k0_h3 v20 v237 v239 v241 v247 v250 v253
  let v319 : FVec F S512x128 .f32 ← k0_part9 i a2 g2 a3 g3 a4 g4 a5 g5 a6 g6 a7 g7 a8 g8 a9 g9 a10 g10 a11 g11 a12 g12 a13 g13 a14 g14 v1 v3 k0_hw1 k0_h3 v20 v280 v282 v284 v285
  let ⟨v325, v342, v352, v353⟩ : Σ' (v325 : FVec F S512x128 .bf16) (v342 : FVec F S512x512 .bf16) (v352 : FVec F S128x512 .f32), FVec F S128x512 .f32 ← k0_part10 i a2 g2 a3 g3 a4 g4 a5 g5 a6 g6 a7 g7 a8 g8 a9 g9 a10 g10 a11 g11 a12 g12 a13 g13 a14 g14 v1 v3 k0_hw1 k0_h3 v319
  let v355 : Vec F S1x128x512 .f32 ← Prog.lift (.load a13 (Rect.unit (s := S8x128x512) ![7, 0, 0] S1x128x512.size inb_S8x128x512_S1x128x512_7_0_0).toLoadRect (View.loadsAt_vmem h_S1x128x512))
  Prog.lift (.store a13 (Rect.unit (s := S8x128x512) ![7, 0, 0] S1x128x512.size inb_S8x128x512_S1x128x512_7_0_0) (k0_pay4 v352 v353) Finset.univ (View.stores_vmem_bits_univ h_S1x128x512 rfl) (.inl rfl))
  let v359 : Vec F S512x128 .f32 ← Prog.lift (.load a10 (Rect.unit (s := S4096x1024) (k0_off9 v3) S512x128.size (k0_off9_inb v1 v3 k0_hw1 k0_h3)).toLoadRect (View.loadsAt_vmem h_S512x128))
  let v364 : Vec F S512x128 .f32 ← Prog.lift (.load a10 (Rect.unit (s := S4096x1024) (k0_off9 v3) S512x128.size (k0_off9_inb v1 v3 k0_hw1 k0_h3)).toLoadRect (View.loadsAt_vmem h_S512x128))
  Prog.lift (.store a10 (Rect.unit (s := S4096x1024) (k0_off9 v3) S512x128.size (k0_off9_inb v1 v3 k0_hw1 k0_h3)) (k0_pay5 v325 v342 v359) Finset.univ (View.stores_vmem_bits_univ h_S512x128 rfl) (.inl rfl))
  kk ⟨⟩

set_option cleanup.letToHave false in
/-- The step on the diagonal, with its mask. -/
def blk4 (v1 v3 : Elt F .i32) (k0_hw1 : k0_chk1 v1 v3) (k0_h4 : k0_cond4 v1 v3 = 1#1) (kk : PUnit.{1} → Prog (TpuEff nD τ sig (Elt F) Λ₀ .tc) PUnit) :
    Prog (TpuEff nD τ sig (Elt F) Λ₀ .tc) PUnit := do
  let ⟨v20, v22, v24, v46⟩ : Σ' (v20 : BitVec 32) (v22 v24 : FVec F S512x128 .bf16), FVec F S512x512 .bf16 ← k0_part11 i a2 g2 a3 g3 a4 g4 a5 g5 a6 g6 a7 g7 a8 g8 a9 g9 a10 g10 a11 g11 a12 g12 a13 g13 a14 g14 v3
  let ⟨v70, v72, v74, v85, v88⟩ : Σ' (v70 v72 : FVec F S512x128 .bf16) (v74 : FVec F S512x64 .bf16) (v85 : FVec F S512x512 .f32), FVec F S512x512 .f32 ← k0_part12 i a2 g2 a3 g3 a4 g4 a5 g5 a6 g6 a7 g7 a8 g8 a9 g9 a10 g10 a11 g11 a12 g12 a13 g13 a14 g14 v1 v3 k0_hw1 k0_h4 v20 v22 v24 v46
  let ⟨v118, v120, v121⟩ : Σ' (v118 v120 : FVec F S512x128 .bf16), Vec F S512x64 .bf16 ← k0_part13 i a2 g2 a3 g3 a4 g4 a5 g5 a6 g6 a7 g7 a8 g8 a9 g9 a10 g10 a11 g11 a12 g12 a13 g13 a14 g14 v1 v3 k0_hw1 k0_h4 v20 v70 v72 v74 v85 v88
  let ⟨v142, v157⟩ : Σ' (v142 : FVec F S512x512 .bf16), FVec F S1x128x512 .f32 ← k0_part14 i a2 g2 a3 g3 a4 g4 a5 g5 a6 g6 a7 g7 a8 g8 a9 g9 a10 g10 a11 g11 a12 g12 a13 g13 a14 g14 v118 v120 v121
  let ⟨v166, v168, v170, v190, v192, v193, cst_109⟩ : Σ' (v166 v168 : FVec F S512x128 .bf16) (v170 : FVec F S512x64 .bf16) (v190 : FVec F S512x512 .bf16) (v192 : FVec F S64x512 .f32) (v193 : FVec F S512x512 .bf16), FVec F S64x512 .f32 ← k0_part15 i a2 g2 a3 g3 a4 g4 a5 g5 a6 g6 a7 g7 a8 g8 a9 g9 a10 g10 a11 g11 a12 g12 a13 g13 a14 g14 v1 v3 k0_hw1 k0_h4 v20 v120 v142 v157
  let ⟨v214, v216, v218, v224, v227⟩ : Σ' (v214 v216 : FVec F S512x128 .bf16) (v218 : FVec F S512x64 .bf16) (v224 : FVec F S512x512 .f32), FVec F S512x512 .f32 ← k0_part16 i a2 g2 a3 g3 a4 g4 a5 g5 a6 g6 a7 g7 a8 g8 a9 g9 a10 g10 a11 g11 a12 g12 a13 g13 a14 g14 v1 v3 k0_hw1 k0_h4 v20 v166 v168 v170 v190 v192 v193 cst_109
  k0_part17 i a2 g2 a3 g3 a4 g4 a5 g5 a6 g6 a7 g7 a8 g8 a9 g9 a10 g10 a11 g11 a12 g12 a13 g13 a14 g14 v1 v3 k0_hw1 k0_h4 v20 v214 v216 v218 v224 v227
  let ⟨v262, v264, v286, v296⟩ : Σ' (v262 v264 : FVec F S512x128 .bf16) (v286 : FVec F S512x512 .bf16), FVec F S128x512 .f32 ← k0_part18 i a2 g2 a3 g3 a4 g4 a5 g5 a6 g6 a7 g7 a8 g8 a9 g9 a10 g10 a11 g11 a12 g12 a13 g13 a14 g14
  let ⟨v310, v312, v314, v325, v332⟩ : Σ' (v310 v312 : FVec F S512x128 .bf16) (v314 : FVec F S512x64 .bf16) (v325 : FVec F S512x512 .f32), FVec F S512x512 .f32 ← k0_part19 i a2 g2 a3 g3 a4 g4 a5 g5 a6 g6 a7 g7 a8 g8 a9 g9 a10 g10 a11 g11 a12 g12 a13 g13 a14 g14 v1 v3 k0_hw1 k0_h4 v20 v262 v264 v286 v296
  let ⟨v358, v360, v362, v363, v364, v365⟩ : Σ' (v358 v360 : FVec F S512x128 .bf16) (v362 : FVec F S512x64 .bf16) (v363 : FVec F S512x512 .f32) (v364 : IVec S512x512 32), IVec S512x512 32 ← k0_part20 i a2 g2 a3 g3 a4 g4 a5 g5 a6 g6 a7 g7 a8 g8 a9 g9 a10 g10 a11 g11 a12 g12 a13 g13 a14 g14 v1 v3 k0_hw1 k0_h4 v20 v310 v312 v314 v325 v332
  let ⟨v382, v400⟩ : Σ' (v382 : FVec F S512x512 .bf16), FVec F S512x128 .f32 ← k0_part21 i a2 g2 a3 g3 a4 g4 a5 g5 a6 g6 a7 g7 a8 g8 a9 g9 a10 g10 a11 g11 a12 g12 a13 g13 a14 g14 v1 v3 k0_hw1 k0_h4 v20 v358 v362 v363 v364 v365
  let v404 : Vec F S512x128 .f32 ← Prog.lift (.load a10 (Rect.unit (s := S4096x1024) (k0_off17 v3) S512x128.size (k0_off17_inb v1 v3 k0_hw1 k0_h4)).toLoadRect (View.loadsAt_vmem h_S512x128))
  Prog.lift (.store a10 (Rect.unit (s := S4096x1024) (k0_off17 v3) S512x128.size (k0_off17_inb v1 v3 k0_hw1 k0_h4)) (k0_pay6 v360 v382 v400) Finset.univ (View.stores_vmem_bits_univ h_S512x128 rfl) (.inl rfl))
  kk ⟨⟩

set_option cleanup.letToHave false in
/-- Write the transposed accumulators to the output blocks. -/
def blk5 (kk : PUnit.{1} → Prog (TpuEff nD τ sig (Elt F) Λ₀ .tc) PUnit) :
    Prog (TpuEff nD τ sig (Elt F) Λ₀ .tc) PUnit := do
  k0_part22 i a2 g2 a3 g3 a4 g4 a5 g5 a6 g6 a7 g7 a8 g8 a9 g9 a10 g10 a11 g11 a12 g12 a13 g13 a14 g14
  k0_part23 i a2 g2 a3 g3 a4 g4 a5 g5 a6 g6 a7 g7 a8 g8 a9 g9 a10 g10 a11 g11 a12 g12 a13 g13 a14 g14
  let v67 : Vec F S1x128x512 .f32 ← Prog.lift (.load a13 (Rect.unit (s := S8x128x512) ![6, 0, 0] S1x128x512.size inb_S8x128x512_S1x128x512_6_0_0).toLoadRect (View.loadsAt_vmem h_S1x128x512))
  let v70 : Vec F S512x128 .f32 ← Prog.lift (.load a11 (Rect.unit (s := S512x1024) ![0, 768] S512x128.size inb_S512x1024_S512x128_0_768).toLoadRect (View.loadsAt_vmem h_S512x128))
  Prog.lift (.store a11 (Rect.unit (s := S512x1024) ![0, 768] S512x128.size inb_S512x1024_S512x128_0_768) (k0_pay7 v67) Finset.univ (View.stores_vmem_bits_univ h_S512x128 rfl) (.inl rfl))
  let v71 : Vec F S1x64x512 .f32 ← Prog.lift (.load a14 (Rect.unit (s := S8x64x512) ![6, 0, 0] S1x64x512.size inb_S8x64x512_S1x64x512_6_0_0).toLoadRect (View.loadsAt_vmem h_S1x64x512))
  let v74 : Vec F S512x64 .f32 ← Prog.lift (.load a12 (Rect.unit (s := S512x512) ![0, 384] S512x64.size inb_S512x512_S512x64_0_384).toLoadRect (View.loadsAt_vmem h_S512x64))
  Prog.lift (.store a12 (Rect.unit (s := S512x512) ![0, 384] S512x64.size inb_S512x512_S512x64_0_384) (k0_pay8 v71) Finset.univ (View.stores_vmem_bits_univ h_S512x64 rfl) (.inl rfl))
  let v75 : Vec F S1x128x512 .f32 ← Prog.lift (.load a13 (Rect.unit (s := S8x128x512) ![7, 0, 0] S1x128x512.size inb_S8x128x512_S1x128x512_7_0_0).toLoadRect (View.loadsAt_vmem h_S1x128x512))
  let v78 : Vec F S512x128 .f32 ← Prog.lift (.load a11 (Rect.unit (s := S512x1024) ![0, 896] S512x128.size inb_S512x1024_S512x128_0_896).toLoadRect (View.loadsAt_vmem h_S512x128))
  Prog.lift (.store a11 (Rect.unit (s := S512x1024) ![0, 896] S512x128.size inb_S512x1024_S512x128_0_896) (k0_pay9 v75) Finset.univ (View.stores_vmem_bits_univ h_S512x128 rfl) (.inl rfl))
  let v79 : Vec F S1x64x512 .f32 ← Prog.lift (.load a14 (Rect.unit (s := S8x64x512) ![7, 0, 0] S1x64x512.size inb_S8x64x512_S1x64x512_7_0_0).toLoadRect (View.loadsAt_vmem h_S1x64x512))
  let v82 : Vec F S512x64 .f32 ← Prog.lift (.load a12 (Rect.unit (s := S512x512) ![0, 448] S512x64.size inb_S512x512_S512x64_0_448).toLoadRect (View.loadsAt_vmem h_S512x64))
  Prog.lift (.store a12 (Rect.unit (s := S512x512) ![0, 448] S512x64.size inb_S512x512_S512x64_0_448) (k0_pay10 v79) Finset.univ (View.stores_vmem_bits_univ h_S512x64 rfl) (.inl rfl))
  kk ⟨⟩

set_option cleanup.letToHave false in
/-- From the last conditional on. -/
def tail5 (v1 v3 : Elt F .i32) : Prog (TpuEff nD τ sig (Elt F) Λ₀ .tc) PUnit :=
  if h5 : k0_cond5 v3 = 1#1 then blk5 i a2 g2 a3 g3 a4 g4 a5 g5 a6 g6 a7 g7 a8 g8 a9 g9 a10 g10 a11 g11 a12 g12 a13 g13 a14 g14 (fun _ => pure ⟨⟩) else pure ⟨⟩

set_option cleanup.letToHave false in
/-- From the fourth conditional on. -/
def tail4 (v1 v3 : Elt F .i32) (hw : k0_chk1 v1 v3) : Prog (TpuEff nD τ sig (Elt F) Λ₀ .tc) PUnit :=
  if h4 : k0_cond4 v1 v3 = 1#1 then blk4 i a2 g2 a3 g3 a4 g4 a5 g5 a6 g6 a7 g7 a8 g8 a9 g9 a10 g10 a11 g11 a12 g12 a13 g13 a14 g14 v1 v3 hw h4 (fun _ => (tail5 i a2 g2 a3 g3 a4 g4 a5 g5 a6 g6 a7 g7 a8 g8 a9 g9 a10 g10 a11 g11 a12 g12 a13 g13 a14 g14 v1 v3)) else (tail5 i a2 g2 a3 g3 a4 g4 a5 g5 a6 g6 a7 g7 a8 g8 a9 g9 a10 g10 a11 g11 a12 g12 a13 g13 a14 g14 v1 v3)

set_option cleanup.letToHave false in
/-- From the third conditional on. -/
def tail3 (v1 v3 : Elt F .i32) (hw : k0_chk1 v1 v3) : Prog (TpuEff nD τ sig (Elt F) Λ₀ .tc) PUnit :=
  if h3 : k0_cond3 v1 v3 = 1#1 then blk3 i a2 g2 a3 g3 a4 g4 a5 g5 a6 g6 a7 g7 a8 g8 a9 g9 a10 g10 a11 g11 a12 g12 a13 g13 a14 g14 v1 v3 hw h3 (fun _ => (tail4 i a2 g2 a3 g3 a4 g4 a5 g5 a6 g6 a7 g7 a8 g8 a9 g9 a10 g10 a11 g11 a12 g12 a13 g13 a14 g14 v1 v3 hw)) else (tail4 i a2 g2 a3 g3 a4 g4 a5 g5 a6 g6 a7 g7 a8 g8 a9 g9 a10 g10 a11 g11 a12 g12 a13 g13 a14 g14 v1 v3 hw)

set_option cleanup.letToHave false in
/-- From the second conditional on. -/
def tail2 (v1 v3 : Elt F .i32) (hw : k0_chk1 v1 v3) : Prog (TpuEff nD τ sig (Elt F) Λ₀ .tc) PUnit :=
  if k0_cond4 v1 v3 = 1#1 then blk2 a13 a14 (fun _ => (tail3 i a2 g2 a3 g3 a4 g4 a5 g5 a6 g6 a7 g7 a8 g8 a9 g9 a10 g10 a11 g11 a12 g12 a13 g13 a14 g14 v1 v3 hw)) else (tail3 i a2 g2 a3 g3 a4 g4 a5 g5 a6 g6 a7 g7 a8 g8 a9 g9 a10 g10 a11 g11 a12 g12 a13 g13 a14 g14 v1 v3 hw)

set_option cleanup.letToHave false in
/-- From the first conditional on. -/
def tail1 (v1 v3 : Elt F .i32) (hw : k0_chk1 v1 v3) : Prog (TpuEff nD τ sig (Elt F) Λ₀ .tc) PUnit :=
  if h1 : k0_cond1 i = 1#1 then blk1 a10 (fun _ => (tail2 i a2 g2 a3 g3 a4 g4 a5 g5 a6 g6 a7 g7 a8 g8 a9 g9 a10 g10 a11 g11 a12 g12 a13 g13 a14 g14 v1 v3 hw)) else (tail2 i a2 g2 a3 g3 a4 g4 a5 g5 a6 g6 a7 g7 a8 g8 a9 g9 a10 g10 a11 g11 a12 g12 a13 g13 a14 g14 v1 v3 hw)

set_option maxRecDepth 65536 in
/-- The body reads its two table words, checks the offsets they give, and runs the five pieces in order. -/
theorem skel_eq : cc0_fox_attn_bwd_skel (F := F) i a2 g2 a3 g3 a4 g4 a5 g5 a6 g6 a7 g7 a8 g8 a9 g9 a10 g10 a11 g11 a12 g12 a13 g13 a14 g14 = (do
    let v1 : Elt F .i32 ← smemLoad a2 (Rect.unit (s := S36) (k0_off1 i) S1.size (k0_off1_inb i)) numel1_S1 rfl
    let v3 : Elt F .i32 ← smemLoad a3 (Rect.unit (s := S36) (k0_off1 i) S1.size (k0_off1_inb i)) numel1_S1 rfl
    have hw : k0_chk1 v1 v3 := (← Prog.lift (TpuEff.assume (k0_chk1 v1 v3) (k0_chk1.dec v1 v3))).down
    tail1 i a2 g2 a3 g3 a4 g4 a5 g5 a6 g6 a7 g7 a8 g8 a9 g9 a10 g10 a11 g11 a12 g12 a13 g13 a14 g14 v1 v3 hw) := rfl

end Cert.Proof.Fox

end
-- ==== Proof.Steps.lean ====
/-
  What one step does to the three accumulators, as functions of the blocks it reads: for each of the eight heads of a
  block, the weights, the gradient of the logits, and the head's addition to each accumulator.
-/
module

public import proofs.«01_k».proof.Proof.Pieces
public import proofs.«01_k».proof.Proof.Parts

@[expose] public section

noncomputable section

namespace Cert.Proof.Fox

open KernelIdeal KernelIdeal.Gen

open Cert.Proof.FoxParts
open Idealize.ShloMosaic TcCoe Tactic
open Idealize.SL.Sem

variable {F : FTy → Type} [FloatOps F] [Named F]

/-! ## One head -/

/-- The gradient of the logits of one head, from its weights `p`. -/
def hS (p : FVec F S512x512 .f32) (d v : Vec F S512x64 .bf16) (dl : Vec F S512x1 .f32) : FVec F S512x512 .bf16 :=
  truncf .bf16 (mulf p (subf
    (matmul dot_S512x64_S512x64_S512x512_1_1_0_0_n_n none (shapeCast S512x64 d shapeCasts_S512x64_S512x64)
      (shapeCast S512x64 v shapeCasts_S512x64_S512x64) (constant S512x512 .f32 0x00000000#32))
    (broadcastTo S512x512 (shapeCast S512x1 dl shapeCasts_S512x1_S512x1) broadcasts_S512x1_S512x512))) bitsLt_bf16_f32

/-- One head's slot of the value accumulator after a step. -/
def hV (p : FVec F S512x512 .f32) (d : Vec F S512x64 .bf16) (old : Vec F S1x64x512 .f32) : FVec F S1x64x512 .f32 :=
  shapeCast S1x64x512 (addf (shapeCast S64x512 old shapeCasts_S1x64x512_S64x512)
    (matmul dot_S512x64_S512x512_S64x512_0_0_1_1_n_n none (shapeCast S512x64 d shapeCasts_S512x64_S512x64)
      (truncf .bf16 p bitsLt_bf16_f32) (constant S64x512 .f32 0x00000000#32))) shapeCasts_S64x512_S1x64x512

/-- One head's slot of the key accumulator after a step. -/
def hK (q : Vec F S512x128 .bf16) (s : FVec F S512x512 .bf16) (old : Vec F S1x128x512 .f32) : FVec F S1x128x512 .f32 :=
  shapeCast S1x128x512 (addf (shapeCast S128x512 old shapeCasts_S1x128x512_S128x512)
    (matmul dot_S512x128_S512x512_S128x512_0_0_1_1_n_n none (shapeCast S512x128 q shapeCasts_S512x128_S512x128)
      s (constant S128x512 .f32 0x00000000#32))) shapeCasts_S128x512_S1x128x512

/-- One head's tile of the query gradient after a step. -/
def hQ (k : Vec F S512x128 .bf16) (s : FVec F S512x512 .bf16) (old : Vec F S512x128 .f32) : FVec F S512x128 .f32 :=
  addf (shapeCast S512x128 old shapeCasts_S512x128_S512x128)
    (matmul dot_S512x512_S512x128_S512x128_1_0_0_1_n_n none s (shapeCast S512x128 k shapeCasts_S512x128_S512x128)
      (constant S512x128 .f32 0x00000000#32))

/-! ## A step's updates

`P` gives a head's weights from its queries, its keys and the logarithms of its sums. -/

section Updates
variable (P : Vec F S512x128 .bf16 → Vec F S512x128 .bf16 → Vec F S512x1 .f32 → FVec F S512x512 .f32) (X4 X5 X6 : S512x1024.Idx → Elt F .bf16) (X7 : S512x512.Idx → Elt F .bf16) (X8 X9 : S512x512.Idx → Elt F .f32)

/-- Head `e`'s gradient of the logits. -/
def gS (e : Fin 8) : FVec F S512x512 .bf16 := hS (P (s128 e X4) (s128 e X5) (s1 e X8)) (s64 e X7) (s128v e X6) (s1 e X9)
/-- What a step does to slot `e` of the value accumulator. -/
def gV (e : Fin 8) (old : S1x64x512.Idx → Elt F .f32) : S1x64x512.Idx → Elt F .f32 :=
  hV (P (s128 e X4) (s128 e X5) (s1 e X8)) (s64 e X7) old
/-- What a step does to slot `e` of the key accumulator. -/
def gK (e : Fin 8) (old : S1x128x512.Idx → Elt F .f32) : S1x128x512.Idx → Elt F .f32 :=
  hK (s128 e X4) (gS P X4 X5 X6 X7 X8 X9 e) old
/-- What a step does to head `e`'s tile of the query gradient. -/
def gQ (e : Fin 8) (old : S512x128.Idx → Elt F .f32) : S512x128.Idx → Elt F .f32 :=
  hQ (s128 e X5) (gS P X4 X5 X6 X7 X8 X9 e) old

end Updates

end Cert.Proof.Fox

end
-- ==== Proof.Runs.lean ====
/-
  What each piece of the body does to the buffers, whatever comes after it.
-/
module

public import proofs.«01_k».proof.Proof.Steps

@[expose] public section

noncomputable section

namespace Cert.Proof.Fox

open KernelIdeal KernelIdeal.Gen

open Cert.Proof.FoxParts
open Idealize.ShloMosaic TcCoe Tactic
open Idealize.SL Idealize.SL.RA Idealize.SL.BI
open Idealize.SL.BI.BIBase Idealize.SL.BI.Laws Idealize.SL.ProofMode Idealize.SL.Sem
open Idealize.ShloMosaic.Rounds

variable {F : FTy → Type} [FloatOps F] [Named F]

/-- The resource algebra of the run. -/
abbrev UU (nD : Nat) (τ : Topo) : Type := UR sig nD τ

local notation "𝕄" => MT nD τ sig Unit (Elt F) ℕ (UU nD τ) ℕ

/-- The contents of memref `M`'s buffer on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
/-- The buffer of `M` held whole at some contents that read `X`. -/
abbrev rd (c : Dev nD) {sp : Space} {S : Shape} {e : EltTy} (M : Memref sig .tc sp S e) (X : S.Idx → Elt F e) : sProp 𝕄 :=
  iprop(∃ f : Bf (F := F) c M, ⌜M.view.read (Elt F) f = X⌝ ∗ pt c M f)

/-- The row a table word stands for, as the body computes it. -/
def rowOf (v3 : BitVec 32) : Nat := (Scalar.indexCast (Scalar.muli v3 512#32)).toNat

theorem row_off (v1 v3 : Elt F .i32) (hw : k0_chk1 v1 v3) (h3 : k0_cond3 v1 v3 = 1#1) : rowOf v3 + 512 ≤ 4096 :=
  k0_off2_inb v1 v3 hw h3 0

theorem row_diag (v1 v3 : Elt F .i32) (hw : k0_chk1 v1 v3) (h4 : k0_cond4 v1 v3 = 1#1) : rowOf v3 + 512 ≤ 4096 :=
  k0_off10_inb v1 v3 hw h4 0

theorem read_whole {Val : EltTy → Type} {d : Fin 2 → Nat} {e : EltTy} (v : View sig .tc .vmem ⟨2, d⟩ e) (f : v.ty.Contents Val)
    (off : Fin 2 → Nat) (h : off = ![0, 0]) {inb : ∀ a, off a + d a ≤ d a} {w : (⟨2, d⟩ : Shape).Idx → Val e} :
    v.read Val (v.writes Val f [(⟨Rect.unit (s := ⟨2, d⟩) off d inb, w⟩ : View.Piece Val ⟨2, d⟩ e)]) = w := by
  funext y
  exact View.read_writes_cons_unit_of_mem v f inb w [] y y h (Fin.forall_fin_two.mpr ⟨(Nat.zero_add _).symm, (Nat.zero_add _).symm⟩)

theorem read_whole3 {Val : EltTy → Type} {d : Fin 3 → Nat} {e : EltTy} (v : View sig .tc .vmem ⟨3, d⟩ e) (f : v.ty.Contents Val)
    (off : Fin 3 → Nat) (h : off = ![0, 0, 0]) {inb : ∀ a, off a + d a ≤ d a} {w : (⟨3, d⟩ : Shape).Idx → Val e} :
    v.read Val (v.writes Val f [(⟨Rect.unit (s := ⟨3, d⟩) off d inb, w⟩ : View.Piece Val ⟨3, d⟩ e)]) = w := by
  funext y
  exact View.read_writes_cons_unit_of_mem v f inb w [] y y h (fun a => match a with
    | 0 => (Nat.zero_add _).symm | 1 => (Nat.zero_add _).symm | 2 => (Nat.zero_add _).symm)

variable (i : grid0.Coords) (a2 : Memref sig .tc .smem S36 .i32) (g2 : a2.IsWhole)
variable (a3 : Memref sig .tc .smem S36 .i32) (g3 : a3.IsWhole) (a4 : Memref sig .tc .vmem S512x1024 .bf16) (g4 : a4.IsWhole)
variable (a5 : Memref sig .tc .vmem S512x1024 .bf16) (g5 : a5.IsWhole) (a6 : Memref sig .tc .vmem S512x1024 .bf16) (g6 : a6.IsWhole)
variable (a7 : Memref sig .tc .vmem S512x512 .bf16) (g7 : a7.IsWhole) (a8 : Memref sig .tc .vmem S512x512 .f32) (g8 : a8.IsWhole)
variable (a9 : Memref sig .tc .vmem S512x512 .f32) (g9 : a9.IsWhole) (a10 : Memref sig .tc .vmem S4096x1024 .f32) (g10 : a10.IsWhole)
variable (a11 : Memref sig .tc .vmem S512x1024 .f32) (g11 : a11.IsWhole) (a12 : Memref sig .tc .vmem S512x512 .f32) (g12 : a12.IsWhole)
variable (a13 : Memref sig .tc .vmem S8x128x512 .f32) (g13 : a13.IsWhole) (a14 : Memref sig .tc .vmem S8x64x512 .f32) (g14 : a14.IsWhole)
variable (c : Dev nD) (W : Waits sig Unit)
variable (kk : PUnit.{1} → Prog (TpuEff nD τ sig (Elt F) Λ₀ .tc) PUnit) (Q : PUnit.{1} → sProp (MT nD τ sig Unit (Elt F) ℕ (UU nD τ) ℕ))

theorem blk1_run (X10 : S4096x1024.Idx → Elt F .f32) :
   iprop(rd c a10 X10 ∗ owes (c : Thread nD τ) 0 W
     ∗ (iprop(rd c a10 (k0_pay1 (F := F)) ∗ owes (c : Thread nD τ) 0 W)
        -∗ wp frame (wpE (defs₀ (F := F)) Variants.none c none) Set.univ (kk ⟨⟩) Q))
   ⊢ wp frame (wpE (defs₀ (F := F)) Variants.none c none) Set.univ (blk1 a10 kk) Q := by
  iintro ⟨⟨%f10, %h10, H10⟩, HO, Hk⟩
  unfold blk1
  sl_exec
  iapply Hk
  isplitl [H10]
  · iexists _
    isplitr
    swap
    · iexact H10
    · ipureintro
      exact read_whole _ _ _ rfl
  · iexact HO

theorem blk2_run (X13 : S8x128x512.Idx → Elt F .f32) (X14 : S8x64x512.Idx → Elt F .f32) :
   iprop(rd c a13 X13 ∗ rd c a14 X14 ∗ owes (c : Thread nD τ) 0 W
     ∗ (iprop(rd c a13 (k0_pay2 (F := F)) ∗ rd c a14 (k0_pay3 (F := F)) ∗ owes (c : Thread nD τ) 0 W)
        -∗ wp frame (wpE (defs₀ (F := F)) Variants.none c none) Set.univ (kk ⟨⟩) Q))
   ⊢ wp frame (wpE (defs₀ (F := F)) Variants.none c none) Set.univ (blk2 a13 a14 kk) Q := by
  iintro ⟨⟨%f13, %h13, H13⟩, ⟨%f14, %h14, H14⟩, HO, Hk⟩
  unfold blk2
  sl_exec
  iapply Hk
  isplitl [H13]
  · iexists _
    isplitr
    swap
    · iexact H13
    · ipureintro
      exact read_whole3 _ _ _ rfl
  isplitl [H14]
  · iexists _
    isplitr
    swap
    · iexact H14
    · ipureintro
      exact read_whole3 _ _ _ rfl
  · iexact HO

set_option maxHeartbeats 4000000 in
theorem blk3_run (v1 v3 : Elt F .i32) (hw : k0_chk1 v1 v3) (h3 : k0_cond3 v1 v3 = 1#1)
    (X4 X5 X6 : S512x1024.Idx → Elt F .bf16)
    (X7 : S512x512.Idx → Elt F .bf16)
    (X8 X9 : S512x512.Idx → Elt F .f32)
    (X10 : S4096x1024.Idx → Elt F .f32)
    (X13 : S8x128x512.Idx → Elt F .f32)
    (X14 : S8x64x512.Idx → Elt F .f32) :
   iprop(rd c a4 X4 ∗ rd c a5 X5 ∗ rd c a6 X6 ∗ rd c a7 X7 ∗ rd c a8 X8 ∗ rd c a9 X9
     ∗ rd c a10 X10 ∗ rd c a13 X13 ∗ rd c a14 X14 ∗ owes (c : Thread nD τ) 0 W
     ∗ (iprop(rd c a4 X4 ∗ rd c a5 X5 ∗ rd c a6 X6 ∗ rd c a7 X7 ∗ rd c a8 X8 ∗ rd c a9 X9
          ∗ rd c a10 (updQ 8 (rowOf v3) (row_off v1 v3 hw h3) (gQ k0_pay14 X4 X5 X6 X7 X8 X9) X10)
          ∗ rd c a13 (updK (gK k0_pay14 X4 X5 X6 X7 X8 X9) X13)
          ∗ rd c a14 (updV (gV k0_pay14 X4 X5 X7 X8) X14) ∗ owes (c : Thread nD τ) 0 W)
        -∗ wp frame (wpE (defs₀ (F := F)) Variants.none c none) Set.univ (kk ⟨⟩) Q))
   ⊢ wp frame (wpE (defs₀ (F := F)) Variants.none c none) Set.univ
      (blk3 i a2 g2 a3 g3 a4 g4 a5 g5 a6 g6 a7 g7 a8 g8 a9 g9 a10 g10 a11 g11 a12 g12 a13 g13 a14 g14 v1 v3 hw h3 kk) Q := by
  iintro ⟨⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f13, %h13, H13⟩, ⟨%f14, %h14, H14⟩, HO, Hk⟩
  subst h4 h5 h6 h7 h8 h9 h10 h13 h14
  unfold blk3
  sl_exec
  iapply Hk
  isplitl [H4]
  · iexists _
    isplitr
    · ipureintro; rfl
    · iexact H4
  isplitl [H5]
  · iexists _
    isplitr
    · ipureintro; rfl
    · iexact H5
  isplitl [H6]
  · iexists _
    isplitr
    · ipureintro; rfl
    · iexact H6
  isplitl [H7]
  · iexists _
    isplitr
    · ipureintro; rfl
    · iexact H7
  isplitl [H8]
  · iexists _
    isplitr
    · ipureintro; rfl
    · iexact H8
  isplitl [H9]
  · iexists _
    isplitr
    · ipureintro; rfl
    · iexact H9
  isplitl [H10]
  · iexists _
    isplitr
    swap
    · iexact H10
    · ipureintro
      exact updQ_all a10.view f10 _ _ _ _ _ _ _ _ _ _ _ rfl rfl rfl rfl rfl rfl rfl rfl
  isplitl [H13]
  · iexists _
    isplitr
    swap
    · iexact H13
    · ipureintro
      exact updK_all a13.view f13 _ _ _ _ _ _ _ _ _ rfl rfl rfl rfl rfl rfl rfl rfl
  isplitl [H14]
  · iexists _
    isplitr
    swap
    · iexact H14
    · ipureintro
      exact updV_all a14.view f14 _ _ _ _ _ _ _ _ _ rfl rfl rfl rfl rfl rfl rfl rfl
  iexact HO

set_option maxHeartbeats 4000000 in
theorem blk4_run (v1 v3 : Elt F .i32) (hw : k0_chk1 v1 v3) (h4 : k0_cond4 v1 v3 = 1#1)
    (X4 X5 X6 : S512x1024.Idx → Elt F .bf16)
    (X7 : S512x512.Idx → Elt F .bf16)
    (X8 X9 : S512x512.Idx → Elt F .f32)
    (X10 : S4096x1024.Idx → Elt F .f32)
    (X13 : S8x128x512.Idx → Elt F .f32)
    (X14 : S8x64x512.Idx → Elt F .f32) :
   iprop(rd c a4 X4 ∗ rd c a5 X5 ∗ rd c a6 X6 ∗ rd c a7 X7 ∗ rd c a8 X8 ∗ rd c a9 X9
     ∗ rd c a10 X10 ∗ rd c a13 X13 ∗ rd c a14 X14 ∗ owes (c : Thread nD τ) 0 W
     ∗ (iprop(rd c a4 X4 ∗ rd c a5 X5 ∗ rd c a6 X6 ∗ rd c a7 X7 ∗ rd c a8 X8 ∗ rd c a9 X9
          ∗ rd c a10 (updQ 8 (rowOf v3) (row_diag v1 v3 hw h4) (gQ k0_pay84 X4 X5 X6 X7 X8 X9) X10)
          ∗ rd c a13 (updK (gK k0_pay84 X4 X5 X6 X7 X8 X9) X13)
          ∗ rd c a14 (updV (gV k0_pay84 X4 X5 X7 X8) X14) ∗ owes (c : Thread nD τ) 0 W)
        -∗ wp frame (wpE (defs₀ (F := F)) Variants.none c none) Set.univ (kk ⟨⟩) Q))
   ⊢ wp frame (wpE (defs₀ (F := F)) Variants.none c none) Set.univ
      (blk4 i a2 g2 a3 g3 a4 g4 a5 g5 a6 g6 a7 g7 a8 g8 a9 g9 a10 g10 a11 g11 a12 g12 a13 g13 a14 g14 v1 v3 hw h4 kk) Q := by
  iintro ⟨⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f13, %h13, H13⟩, ⟨%f14, %h14, H14⟩, HO, Hk⟩
  subst h4 h5 h6 h7 h8 h9 h10 h13 h14
  unfold blk4
  sl_exec
  iapply Hk
  isplitl [H4]
  · iexists _
    isplitr
    · ipureintro; rfl
    · iexact H4
  isplitl [H5]
  · iexists _
    isplitr
    · ipureintro; rfl
    · iexact H5
  isplitl [H6]
  · iexists _
    isplitr
    · ipureintro; rfl
    · iexact H6
  isplitl [H7]
  · iexists _
    isplitr
    · ipureintro; rfl
    · iexact H7
  isplitl [H8]
  · iexists _
    isplitr
    · ipureintro; rfl
    · iexact H8
  isplitl [H9]
  · iexists _
    isplitr
    · ipureintro; rfl
    · iexact H9
  isplitl [H10]
  · iexists _
    isplitr
    swap
    · iexact H10
    · ipureintro
      exact updQ_all a10.view f10 _ _ _ _ _ _ _ _ _ _ _ rfl rfl rfl rfl rfl rfl rfl rfl
  isplitl [H13]
  · iexists _
    isplitr
    swap
    · iexact H13
    · ipureintro
      exact updK_all a13.view f13 _ _ _ _ _ _ _ _ _ rfl rfl rfl rfl rfl rfl rfl rfl
  isplitl [H14]
  · iexists _
    isplitr
    swap
    · iexact H14
    · ipureintro
      exact updV_all a14.view f14 _ _ _ _ _ _ _ _ _ rfl rfl rfl rfl rfl rfl rfl rfl
  iexact HO

theorem blk5_run (X11 : S512x1024.Idx → Elt F .f32) (X12 : S512x512.Idx → Elt F .f32)
    (X13 : S8x128x512.Idx → Elt F .f32) (X14 : S8x64x512.Idx → Elt F .f32) :
   iprop(rd c a11 X11 ∗ rd c a12 X12 ∗ rd c a13 X13 ∗ rd c a14 X14 ∗ owes (c : Thread nD τ) 0 W
     ∗ (iprop(rd c a11 (updDK fun e => k0_pay9 (slK e X13)) ∗ rd c a12 (updDV fun e => k0_pay10 (slV e X14))
          ∗ rd c a13 X13 ∗ rd c a14 X14 ∗ owes (c : Thread nD τ) 0 W)
        -∗ wp frame (wpE (defs₀ (F := F)) Variants.none c none) Set.univ (kk ⟨⟩) Q))
   ⊢ wp frame (wpE (defs₀ (F := F)) Variants.none c none) Set.univ (blk5 i a2 g2 a3 g3 a4 g4 a5 g5 a6 g6 a7 g7 a8 g8 a9 g9 a10 g10 a11 g11 a12 g12 a13 g13 a14 g14 kk) Q := by
  iintro ⟨⟨%f11, %h11, H11⟩, ⟨%f12, %h12, H12⟩, ⟨%f13, %h13, H13⟩, ⟨%f14, %h14, H14⟩, HO, Hk⟩
  subst h11 h12 h13 h14
  unfold blk5
  sl_exec
  iapply Hk
  isplitl [H11]
  · iexists _
    isplitr
    swap
    · iexact H11
    · ipureintro
      exact updDK_all a11.view f11 _ _ _ _ _ _ _ _ _ rfl rfl rfl rfl rfl rfl rfl rfl
  isplitl [H12]
  · iexists _
    isplitr
    swap
    · iexact H12
    · ipureintro
      exact updDV_all a12.view f12 _ _ _ _ _ _ _ _ _ rfl rfl rfl rfl rfl rfl rfl rfl
  isplitl [H13]
  · iexists _
    isplitr
    swap
    · iexact H13
    · ipureintro; rfl
  isplitl [H14]
  · iexists _
    isplitr
    swap
    · iexact H14
    · ipureintro; rfl
  iexact HO

end Cert.Proof.Fox

end
-- ==== Proof.Body.lean ====
/-
  One run of the whole body: what it leaves in each buffer, as a function of the two table words and of what the buffers held.
-/
module

public import proofs.«01_k».proof.Proof.Runs

@[expose] public section

noncomputable section

namespace Cert.Proof.Fox

open KernelIdeal KernelIdeal.Gen

open Cert.Proof.FoxParts
open Idealize.ShloMosaic TcCoe Tactic
open Idealize.SL Idealize.SL.RA Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

section Steps
variable (v1 v3 : Elt F .i32) (X4 X5 X6 : S512x1024.Idx → Elt F .bf16) (X7 : S512x512.Idx → Elt F .bf16) (X8 X9 : S512x512.Idx → Elt F .f32)

/-- The query gradient, the tiles at the row of word `v3` updated by `h`. -/
def updR (h : Fin 8 → (S512x128.Idx → Elt F .f32) → S512x128.Idx → Elt F .f32) (X10 : S4096x1024.Idx → Elt F .f32) :
    S4096x1024.Idx → Elt F .f32 :=
  if hr : rowOf v3 + 512 ≤ 4096 then updQ 8 (rowOf v3) hr h X10 else X10

def clQ (i : grid0.Coords) (X10 : S4096x1024.Idx → Elt F .f32) := if k0_cond1 i = 1#1 then k0_pay1 (F := F) else X10
def clK (X13 : S8x128x512.Idx → Elt F .f32) := if k0_cond4 v1 v3 = 1#1 then k0_pay2 (F := F) else X13
def clV (X14 : S8x64x512.Idx → Elt F .f32) := if k0_cond4 v1 v3 = 1#1 then k0_pay3 (F := F) else X14
def ofQ (X10 : S4096x1024.Idx → Elt F .f32) := if k0_cond3 v1 v3 = 1#1 then updR v3 (gQ k0_pay14 X4 X5 X6 X7 X8 X9) X10 else X10
def ofK (X13 : S8x128x512.Idx → Elt F .f32) := if k0_cond3 v1 v3 = 1#1 then updK (gK k0_pay14 X4 X5 X6 X7 X8 X9) X13 else X13
def ofV (X14 : S8x64x512.Idx → Elt F .f32) := if k0_cond3 v1 v3 = 1#1 then updV (gV k0_pay14 X4 X5 X7 X8) X14 else X14
def dgQ (X10 : S4096x1024.Idx → Elt F .f32) := if k0_cond4 v1 v3 = 1#1 then updR v3 (gQ k0_pay84 X4 X5 X6 X7 X8 X9) X10 else X10
def dgK (X13 : S8x128x512.Idx → Elt F .f32) := if k0_cond4 v1 v3 = 1#1 then updK (gK k0_pay84 X4 X5 X6 X7 X8 X9) X13 else X13
def dgV (X14 : S8x64x512.Idx → Elt F .f32) := if k0_cond4 v1 v3 = 1#1 then updV (gV k0_pay84 X4 X5 X7 X8) X14 else X14
def fiK (X13 : S8x128x512.Idx → Elt F .f32) (X11 : S512x1024.Idx → Elt F .f32) :=
  if k0_cond5 v3 = 1#1 then updDK (fun e => k0_pay9 (F := F) (slK e X13)) else X11
def fiV (X14 : S8x64x512.Idx → Elt F .f32) (X12 : S512x512.Idx → Elt F .f32) :=
  if k0_cond5 v3 = 1#1 then updDV (fun e => k0_pay10 (F := F) (slV e X14)) else X12

/-- What the body leaves in the block of the query gradient, -/
def nxQ (i : grid0.Coords) (X10 : S4096x1024.Idx → Elt F .f32) : S4096x1024.Idx → Elt F .f32 :=
  dgQ v1 v3 X4 X5 X6 X7 X8 X9 (ofQ v1 v3 X4 X5 X6 X7 X8 X9 (clQ i X10))
/-- in the key accumulator -/
def nxK (X13 : S8x128x512.Idx → Elt F .f32) : S8x128x512.Idx → Elt F .f32 :=
  dgK v1 v3 X4 X5 X6 X7 X8 X9 (ofK v1 v3 X4 X5 X6 X7 X8 X9 (clK v1 v3 X13))
/-- and in the value accumulator. -/
def nxV (X14 : S8x64x512.Idx → Elt F .f32) : S8x64x512.Idx → Elt F .f32 :=
  dgV v1 v3 X4 X5 X7 X8 (ofV v1 v3 X4 X5 X7 X8 (clV v1 v3 X14))

end Steps

theorem updR_eq (v3 : Elt F .i32) (hr : rowOf v3 + 512 ≤ 4096) (h : Fin 8 → (S512x128.Idx → Elt F .f32) → S512x128.Idx → Elt F .f32)
    (X10 : S4096x1024.Idx → Elt F .f32) : updR v3 h X10 = updQ 8 (rowOf v3) hr h X10 := dif_pos hr

variable (i : grid0.Coords) (a2 : Memref sig .tc .smem S36 .i32) (g2 : a2.IsWhole)
variable (a3 : Memref sig .tc .smem S36 .i32) (g3 : a3.IsWhole) (a4 : Memref sig .tc .vmem S512x1024 .bf16) (g4 : a4.IsWhole)
variable (a5 : Memref sig .tc .vmem S512x1024 .bf16) (g5 : a5.IsWhole) (a6 : Memref sig .tc .vmem S512x1024 .bf16) (g6 : a6.IsWhole)
variable (a7 : Memref sig .tc .vmem S512x512 .bf16) (g7 : a7.IsWhole) (a8 : Memref sig .tc .vmem S512x512 .f32) (g8 : a8.IsWhole)
variable (a9 : Memref sig .tc .vmem S512x512 .f32) (g9 : a9.IsWhole) (a10 : Memref sig .tc .vmem S4096x1024 .f32) (g10 : a10.IsWhole)
variable (a11 : Memref sig .tc .vmem S512x1024 .f32) (g11 : a11.IsWhole) (a12 : Memref sig .tc .vmem S512x512 .f32) (g12 : a12.IsWhole)
variable (a13 : Memref sig .tc .vmem S8x128x512 .f32) (g13 : a13.IsWhole) (a14 : Memref sig .tc .vmem S8x64x512 .f32) (g14 : a14.IsWhole)
variable (c : Dev nD) (W : Waits sig Unit) (Q : PUnit.{1} → sProp (MT nD τ sig Unit (Elt F) ℕ (UU nD τ) ℕ)) (v1 v3 : Elt F .i32)
variable (X4 X5 X6 : S512x1024.Idx → Elt F .bf16) (X7 : S512x512.Idx → Elt F .bf16) (X8 X9 : S512x512.Idx → Elt F .f32) (X10 : S4096x1024.Idx → Elt F .f32) (X11 : S512x1024.Idx → Elt F .f32) (X12 : S512x512.Idx → Elt F .f32) (X13 : S8x128x512.Idx → Elt F .f32) (X14 : S8x64x512.Idx → Elt F .f32)

theorem tail5_run :
   iprop(rd c a4 X4 ∗ rd c a5 X5 ∗ rd c a6 X6 ∗ rd c a7 X7 ∗ rd c a8 X8 ∗ rd c a9 X9 ∗ rd c a10 X10 ∗ rd c a11 X11 ∗ rd c a12 X12 ∗ rd c a13 X13 ∗ rd c a14 X14 ∗ owes (c : Thread nD τ) 0 W
     ∗ (iprop(rd c a4 X4 ∗ rd c a5 X5 ∗ rd c a6 X6 ∗ rd c a7 X7 ∗ rd c a8 X8 ∗ rd c a9 X9 ∗ rd c a10 X10 ∗ rd c a11 (fiK v3 X13 X11) ∗ rd c a12 (fiV v3 X14 X12) ∗ rd c a13 X13 ∗ rd c a14 X14 ∗ owes (c : Thread nD τ) 0 W) -∗ Q ⟨⟩))
   ⊢ wp frame (wpE (defs₀ (F := F)) Variants.none c none) Set.univ (tail5 i a2 g2 a3 g3 a4 g4 a5 g5 a6 g6 a7 g7 a8 g8 a9 g9 a10 g10 a11 g11 a12 g12 a13 g13 a14 g14 v1 v3) Q := by
  iintro ⟨H4, H5, H6, H7, H8, H9, H10, H11, H12, H13, H14, HO, Hk⟩
  by_cases h : k0_cond5 v3 = 1#1
  · have e : tail5 i a2 g2 a3 g3 a4 g4 a5 g5 a6 g6 a7 g7 a8 g8 a9 g9 a10 g10 a11 g11 a12 g12 a13 g13 a14 g14 v1 v3 = blk5 i a2 g2 a3 g3 a4 g4 a5 g5 a6 g6 a7 g7 a8 g8 a9 g9 a10 g10 a11 g11 a12 g12 a13 g13 a14 g14 (fun _ => (pure ⟨⟩)) := dif_pos h
    rw [e]
    have e0 : fiK v3 X13 X11 = updDK (fun e => k0_pay9 (F := F) (slK e X13)) := if_pos h
    have e1 : fiV v3 X14 X12 = updDV (fun e => k0_pay10 (F := F) (slV e X14)) := if_pos h
    rw [e0, e1]
    iapply blk5_run
    iframe H11 H12 H13 H14 HO
    iintro ⟨H11, H12, H13, H14, HO⟩
    sl_step
    iapply Hk
    iframe H4 H5 H6 H7 H8 H9 H10 H11 H12 H13 H14
    iexact HO
  · have e : tail5 i a2 g2 a3 g3 a4 g4 a5 g5 a6 g6 a7 g7 a8 g8 a9 g9 a10 g10 a11 g11 a12 g12 a13 g13 a14 g14 v1 v3 = (pure ⟨⟩) := dif_neg h
    rw [e]
    have e0 : fiK v3 X13 X11 = X11 := if_neg h
    have e1 : fiV v3 X14 X12 = X12 := if_neg h
    rw [e0, e1]
    sl_step
    iapply Hk
    iframe H4 H5 H6 H7 H8 H9 H10 H11 H12 H13 H14
    iexact HO

theorem tail4_run (hw : k0_chk1 v1 v3) :
   iprop(rd c a4 X4 ∗ rd c a5 X5 ∗ rd c a6 X6 ∗ rd c a7 X7 ∗ rd c a8 X8 ∗ rd c a9 X9 ∗ rd c a10 X10 ∗ rd c a11 X11 ∗ rd c a12 X12 ∗ rd c a13 X13 ∗ rd c a14 X14 ∗ owes (c : Thread nD τ) 0 W
     ∗ (iprop(rd c a4 X4 ∗ rd c a5 X5 ∗ rd c a6 X6 ∗ rd c a7 X7 ∗ rd c a8 X8 ∗ rd c a9 X9 ∗ rd c a10 (dgQ v1 v3 X4 X5 X6 X7 X8 X9 X10) ∗ rd c a11 (fiK v3 (dgK v1 v3 X4 X5 X6 X7 X8 X9 X13) X11) ∗ rd c a12 (fiV v3 (dgV v1 v3 X4 X5 X7 X8 X14) X12) ∗ rd c a13 (dgK v1 v3 X4 X5 X6 X7 X8 X9 X13) ∗ rd c a14 (dgV v1 v3 X4 X5 X7 X8 X14) ∗ owes (c : Thread nD τ) 0 W) -∗ Q ⟨⟩))
   ⊢ wp frame (wpE (defs₀ (F := F)) Variants.none c none) Set.univ (tail4 i a2 g2 a3 g3 a4 g4 a5 g5 a6 g6 a7 g7 a8 g8 a9 g9 a10 g10 a11 g11 a12 g12 a13 g13 a14 g14 v1 v3 hw) Q := by
  iintro ⟨H4, H5, H6, H7, H8, H9, H10, H11, H12, H13, H14, HO, Hk⟩
  by_cases h : k0_cond4 v1 v3 = 1#1
  · have e : tail4 i a2 g2 a3 g3 a4 g4 a5 g5 a6 g6 a7 g7 a8 g8 a9 g9 a10 g10 a11 g11 a12 g12 a13 g13 a14 g14 v1 v3 hw = blk4 i a2 g2 a3 g3 a4 g4 a5 g5 a6 g6 a7 g7 a8 g8 a9 g9 a10 g10 a11 g11 a12 g12 a13 g13 a14 g14 v1 v3 hw h (fun _ => (tail5 i a2 g2 a3 g3 a4 g4 a5 g5 a6 g6 a7 g7 a8 g8 a9 g9 a10 g10 a11 g11 a12 g12 a13 g13 a14 g14 v1 v3)) := dif_pos h
    rw [e]
    have e0 : dgQ v1 v3 X4 X5 X6 X7 X8 X9 X10 = updQ 8 (rowOf v3) (row_diag v1 v3 hw h) (gQ k0_pay84 X4 X5 X6 X7 X8 X9) X10 := (if_pos h).trans (updR_eq v3 _ _ _)
    have e1 : dgK v1 v3 X4 X5 X6 X7 X8 X9 X13 = updK (gK k0_pay84 X4 X5 X6 X7 X8 X9) X13 := if_pos h
    have e2 : dgV v1 v3 X4 X5 X7 X8 X14 = updV (gV k0_pay84 X4 X5 X7 X8) X14 := if_pos h
    rw [e0, e1, e2]
    iapply blk4_run
    iframe H4 H5 H6 H7 H8 H9 H10 H13 H14 HO
    iintro ⟨H4, H5, H6, H7, H8, H9, H10, H13, H14, HO⟩
    iapply tail5_run
    iframe H4 H5 H6 H7 H8 H9 H10 H11 H12 H13 H14 HO
    iexact Hk
  · have e : tail4 i a2 g2 a3 g3 a4 g4 a5 g5 a6 g6 a7 g7 a8 g8 a9 g9 a10 g10 a11 g11 a12 g12 a13 g13 a14 g14 v1 v3 hw = (tail5 i a2 g2 a3 g3 a4 g4 a5 g5 a6 g6 a7 g7 a8 g8 a9 g9 a10 g10 a11 g11 a12 g12 a13 g13 a14 g14 v1 v3) := dif_neg h
    rw [e]
    have e0 : dgQ v1 v3 X4 X5 X6 X7 X8 X9 X10 = X10 := if_neg h
    have e1 : dgK v1 v3 X4 X5 X6 X7 X8 X9 X13 = X13 := if_neg h
    have e2 : dgV v1 v3 X4 X5 X7 X8 X14 = X14 := if_neg h
    rw [e0, e1, e2]
    iapply tail5_run
    iframe H4 H5 H6 H7 H8 H9 H10 H11 H12 H13 H14 HO
    iexact Hk

theorem tail3_run (hw : k0_chk1 v1 v3) :
   iprop(rd c a4 X4 ∗ rd c a5 X5 ∗ rd c a6 X6 ∗ rd c a7 X7 ∗ rd c a8 X8 ∗ rd c a9 X9 ∗ rd c a10 X10 ∗ rd c a11 X11 ∗ rd c a12 X12 ∗ rd c a13 X13 ∗ rd c a14 X14 ∗ owes (c : Thread nD τ) 0 W
     ∗ (iprop(rd c a4 X4 ∗ rd c a5 X5 ∗ rd c a6 X6 ∗ rd c a7 X7 ∗ rd c a8 X8 ∗ rd c a9 X9 ∗ rd c a10 (dgQ v1 v3 X4 X5 X6 X7 X8 X9 (ofQ v1 v3 X4 X5 X6 X7 X8 X9 X10)) ∗ rd c a11 (fiK v3 (dgK v1 v3 X4 X5 X6 X7 X8 X9 (ofK v1 v3 X4 X5 X6 X7 X8 X9 X13)) X11) ∗ rd c a12 (fiV v3 (dgV v1 v3 X4 X5 X7 X8 (ofV v1 v3 X4 X5 X7 X8 X14)) X12) ∗ rd c a13 (dgK v1 v3 X4 X5 X6 X7 X8 X9 (ofK v1 v3 X4 X5 X6 X7 X8 X9 X13)) ∗ rd c a14 (dgV v1 v3 X4 X5 X7 X8 (ofV v1 v3 X4 X5 X7 X8 X14)) ∗ owes (c : Thread nD τ) 0 W) -∗ Q ⟨⟩))
   ⊢ wp frame (wpE (defs₀ (F := F)) Variants.none c none) Set.univ (tail3 i a2 g2 a3 g3 a4 g4 a5 g5 a6 g6 a7 g7 a8 g8 a9 g9 a10 g10 a11 g11 a12 g12 a13 g13 a14 g14 v1 v3 hw) Q := by
  iintro ⟨H4, H5, H6, H7, H8, H9, H10, H11, H12, H13, H14, HO, Hk⟩
  by_cases h : k0_cond3 v1 v3 = 1#1
  · have e : tail3 i a2 g2 a3 g3 a4 g4 a5 g5 a6 g6 a7 g7 a8 g8 a9 g9 a10 g10 a11 g11 a12 g12 a13 g13 a14 g14 v1 v3 hw = blk3 i a2 g2 a3 g3 a4 g4 a5 g5 a6 g6 a7 g7 a8 g8 a9 g9 a10 g10 a11 g11 a12 g12 a13 g13 a14 g14 v1 v3 hw h (fun _ => (tail4 i a2 g2 a3 g3 a4 g4 a5 g5 a6 g6 a7 g7 a8 g8 a9 g9 a10 g10 a11 g11 a12 g12 a13 g13 a14 g14 v1 v3 hw)) := dif_pos h
    rw [e]
    have e0 : ofQ v1 v3 X4 X5 X6 X7 X8 X9 X10 = updQ 8 (rowOf v3) (row_off v1 v3 hw h) (gQ k0_pay14 X4 X5 X6 X7 X8 X9) X10 := (if_pos h).trans (updR_eq v3 _ _ _)
    have e1 : ofK v1 v3 X4 X5 X6 X7 X8 X9 X13 = updK (gK k0_pay14 X4 X5 X6 X7 X8 X9) X13 := if_pos h
    have e2 : ofV v1 v3 X4 X5 X7 X8 X14 = updV (gV k0_pay14 X4 X5 X7 X8) X14 := if_pos h
    rw [e0, e1, e2]
    iapply blk3_run
    iframe H4 H5 H6 H7 H8 H9 H10 H13 H14 HO
    iintro ⟨H4, H5, H6, H7, H8, H9, H10, H13, H14, HO⟩
    iapply tail4_run
    iframe H4 H5 H6 H7 H8 H9 H10 H11 H12 H13 H14 HO
    iexact Hk
  · have e : tail3 i a2 g2 a3 g3 a4 g4 a5 g5 a6 g6 a7 g7 a8 g8 a9 g9 a10 g10 a11 g11 a12 g12 a13 g13 a14 g14 v1 v3 hw = (tail4 i a2 g2 a3 g3 a4 g4 a5 g5 a6 g6 a7 g7 a8 g8 a9 g9 a10 g10 a11 g11 a12 g12 a13 g13 a14 g14 v1 v3 hw) := dif_neg h
    rw [e]
    have e0 : ofQ v1 v3 X4 X5 X6 X7 X8 X9 X10 = X10 := if_neg h
    have e1 : ofK v1 v3 X4 X5 X6 X7 X8 X9 X13 = X13 := if_neg h
    have e2 : ofV v1 v3 X4 X5 X7 X8 X14 = X14 := if_neg h
    rw [e0, e1, e2]
    iapply tail4_run
    iframe H4 H5 H6 H7 H8 H9 H10 H11 H12 H13 H14 HO
    iexact Hk

theorem tail2_run (hw : k0_chk1 v1 v3) :
   iprop(rd c a4 X4 ∗ rd c a5 X5 ∗ rd c a6 X6 ∗ rd c a7 X7 ∗ rd c a8 X8 ∗ rd c a9 X9 ∗ rd c a10 X10 ∗ rd c a11 X11 ∗ rd c a12 X12 ∗ rd c a13 X13 ∗ rd c a14 X14 ∗ owes (c : Thread nD τ) 0 W
     ∗ (iprop(rd c a4 X4 ∗ rd c a5 X5 ∗ rd c a6 X6 ∗ rd c a7 X7 ∗ rd c a8 X8 ∗ rd c a9 X9 ∗ rd c a10 (dgQ v1 v3 X4 X5 X6 X7 X8 X9 (ofQ v1 v3 X4 X5 X6 X7 X8 X9 X10)) ∗ rd c a11 (fiK v3 (dgK v1 v3 X4 X5 X6 X7 X8 X9 (ofK v1 v3 X4 X5 X6 X7 X8 X9 (clK v1 v3 X13))) X11) ∗ rd c a12 (fiV v3 (dgV v1 v3 X4 X5 X7 X8 (ofV v1 v3 X4 X5 X7 X8 (clV v1 v3 X14))) X12) ∗ rd c a13 (dgK v1 v3 X4 X5 X6 X7 X8 X9 (ofK v1 v3 X4 X5 X6 X7 X8 X9 (clK v1 v3 X13))) ∗ rd c a14 (dgV v1 v3 X4 X5 X7 X8 (ofV v1 v3 X4 X5 X7 X8 (clV v1 v3 X14))) ∗ owes (c : Thread nD τ) 0 W) -∗ Q ⟨⟩))
   ⊢ wp frame (wpE (defs₀ (F := F)) Variants.none c none) Set.univ (tail2 i a2 g2 a3 g3 a4 g4 a5 g5 a6 g6 a7 g7 a8 g8 a9 g9 a10 g10 a11 g11 a12 g12 a13 g13 a14 g14 v1 v3 hw) Q := by
  iintro ⟨H4, H5, H6, H7, H8, H9, H10, H11, H12, H13, H14, HO, Hk⟩
  by_cases h : k0_cond4 v1 v3 = 1#1
  · have e : tail2 i a2 g2 a3 g3 a4 g4 a5 g5 a6 g6 a7 g7 a8 g8 a9 g9 a10 g10 a11 g11 a12 g12 a13 g13 a14 g14 v1 v3 hw = blk2 a13 a14 (fun _ => (tail3 i a2 g2 a3 g3 a4 g4 a5 g5 a6 g6 a7 g7 a8 g8 a9 g9 a10 g10 a11 g11 a12 g12 a13 g13 a14 g14 v1 v3 hw)) := if_pos h
    rw [e]
    have e0 : clK v1 v3 X13 = k0_pay2 (F := F) := if_pos h
    have e1 : clV v1 v3 X14 = k0_pay3 (F := F) := if_pos h
    rw [e0, e1]
    iapply blk2_run
    iframe H13 H14 HO
    iintro ⟨H13, H14, HO⟩
    iapply tail3_run
    iframe H4 H5 H6 H7 H8 H9 H10 H11 H12 H13 H14 HO
    iexact Hk
  · have e : tail2 i a2 g2 a3 g3 a4 g4 a5 g5 a6 g6 a7 g7 a8 g8 a9 g9 a10 g10 a11 g11 a12 g12 a13 g13 a14 g14 v1 v3 hw = (tail3 i a2 g2 a3 g3 a4 g4 a5 g5 a6 g6 a7 g7 a8 g8 a9 g9 a10 g10 a11 g11 a12 g12 a13 g13 a14 g14 v1 v3 hw) := if_neg h
    rw [e]
    have e0 : clK v1 v3 X13 = X13 := if_neg h
    have e1 : clV v1 v3 X14 = X14 := if_neg h
    rw [e0, e1]
    iapply tail3_run
    iframe H4 H5 H6 H7 H8 H9 H10 H11 H12 H13 H14 HO
    iexact Hk

theorem tail1_run (hw : k0_chk1 v1 v3) :
   iprop(rd c a4 X4 ∗ rd c a5 X5 ∗ rd c a6 X6 ∗ rd c a7 X7 ∗ rd c a8 X8 ∗ rd c a9 X9 ∗ rd c a10 X10 ∗ rd c a11 X11 ∗ rd c a12 X12 ∗ rd c a13 X13 ∗ rd c a14 X14 ∗ owes (c : Thread nD τ) 0 W
     ∗ (iprop(rd c a4 X4 ∗ rd c a5 X5 ∗ rd c a6 X6 ∗ rd c a7 X7 ∗ rd c a8 X8 ∗ rd c a9 X9 ∗ rd c a10 (dgQ v1 v3 X4 X5 X6 X7 X8 X9 (ofQ v1 v3 X4 X5 X6 X7 X8 X9 (clQ i X10))) ∗ rd c a11 (fiK v3 (dgK v1 v3 X4 X5 X6 X7 X8 X9 (ofK v1 v3 X4 X5 X6 X7 X8 X9 (clK v1 v3 X13))) X11) ∗ rd c a12 (fiV v3 (dgV v1 v3 X4 X5 X7 X8 (ofV v1 v3 X4 X5 X7 X8 (clV v1 v3 X14))) X12) ∗ rd c a13 (dgK v1 v3 X4 X5 X6 X7 X8 X9 (ofK v1 v3 X4 X5 X6 X7 X8 X9 (clK v1 v3 X13))) ∗ rd c a14 (dgV v1 v3 X4 X5 X7 X8 (ofV v1 v3 X4 X5 X7 X8 (clV v1 v3 X14))) ∗ owes (c : Thread nD τ) 0 W) -∗ Q ⟨⟩))
   ⊢ wp frame (wpE (defs₀ (F := F)) Variants.none c none) Set.univ (tail1 i a2 g2 a3 g3 a4 g4 a5 g5 a6 g6 a7 g7 a8 g8 a9 g9 a10 g10 a11 g11 a12 g12 a13 g13 a14 g14 v1 v3 hw) Q := by
  iintro ⟨H4, H5, H6, H7, H8, H9, H10, H11, H12, H13, H14, HO, Hk⟩
  by_cases h : k0_cond1 i = 1#1
  · have e : tail1 i a2 g2 a3 g3 a4 g4 a5 g5 a6 g6 a7 g7 a8 g8 a9 g9 a10 g10 a11 g11 a12 g12 a13 g13 a14 g14 v1 v3 hw = blk1 a10 (fun _ => (tail2 i a2 g2 a3 g3 a4 g4 a5 g5 a6 g6 a7 g7 a8 g8 a9 g9 a10 g10 a11 g11 a12 g12 a13 g13 a14 g14 v1 v3 hw)) := dif_pos h
    rw [e]
    have e0 : clQ i X10 = k0_pay1 (F := F) := if_pos h
    rw [e0]
    iapply blk1_run
    iframe H10 HO
    iintro ⟨H10, HO⟩
    iapply tail2_run
    iframe H4 H5 H6 H7 H8 H9 H10 H11 H12 H13 H14 HO
    iexact Hk
  · have e : tail1 i a2 g2 a3 g3 a4 g4 a5 g5 a6 g6 a7 g7 a8 g8 a9 g9 a10 g10 a11 g11 a12 g12 a13 g13 a14 g14 v1 v3 hw = (tail2 i a2 g2 a3 g3 a4 g4 a5 g5 a6 g6 a7 g7 a8 g8 a9 g9 a10 g10 a11 g11 a12 g12 a13 g13 a14 g14 v1 v3 hw) := dif_neg h
    rw [e]
    have e0 : clQ i X10 = X10 := if_neg h
    rw [e0]
    iapply tail2_run
    iframe H4 H5 H6 H7 H8 H9 H10 H11 H12 H13 H14 HO
    iexact Hk

end Cert.Proof.Fox

end
-- ==== Proof.Tables.lean ====
/-
  The two prefetched tables: their words, the side condition at them, and the body run at a grid point.
-/
module

public import proofs.«01_k».proof.Proof.Body

@[expose] public section

noncomputable section

namespace Cert.Proof.Fox

open KernelIdeal KernelIdeal.Gen

open Idealize.ShloMosaic TcCoe Tactic
open Idealize.SL.Sem

variable {F : FTy → Type} [FloatOps F] [Named F]

local notation "𝕄" => MT nD τ sig Unit (Elt F) ℕ (UU nD τ) ℕ

/-- The column-block word of a grid point -/
def wJ (i : grid0.Coords) : BitVec 32 := lit0 (i 1)
/-- and its row-block word. -/
def wI (i : grid0.Coords) : BitVec 32 := lit1 (i 1)

/-- The two tables. -/
def tabJ : S36.Idx → BitVec 32 := fun x => lit0 (S36.rowMajor x)
def tabI : S36.Idx → BitVec 32 := fun x => lit1 (S36.rowMajor x)

/-- Their contents, as the pipeline reads them. -/
def pfA : pre0.Contents (Elt F) := fun
  | ⟨0, _⟩ => tabJ
  | ⟨1, _⟩ => tabI
  | ⟨_ + 2, h⟩ => absurd h (by simp)

theorem tabJ_word : ∀ i : grid0.Coords, tabJ ((Rect.unit (s := S36) (k0_off1 i) S1.size (k0_off1_inb i)).emb (Shape.Idx.first (numel1_S1.symm ▸ Nat.one_pos))) = wJ i := by
  decide +kernel
theorem tabI_word : ∀ i : grid0.Coords, tabI ((Rect.unit (s := S36) (k0_off1 i) S1.size (k0_off1_inb i)).emb (Shape.Idx.first (numel1_S1.symm ▸ Nat.one_pos))) = wI i := by
  decide +kernel
theorem tabJ_off : ∀ (i : grid0.Coords) (h : ∀ a, k0_off1 i a + 1 ≤ S36.size a), tabJ (fun a => ⟨k0_off1 i a, h a⟩) = wJ i := by
  decide +kernel
theorem tabI_off : ∀ (i : grid0.Coords) (h : ∀ a, k0_off1 i a + 1 ≤ S36.size a), tabI (fun a => ⟨k0_off1 i a, h a⟩) = wI i := by
  decide +kernel

theorem pfA_atD0 (i : grid0.Coords) : (pfA (F := F)).atD 0 (k0_off1 i) = wJ i := by
  exact (dif_pos (show ∀ a, k0_off1 i a + 1 ≤ S36.size a from fun a => by fin_cases a; exact k0_off1_inb i 0)).trans (tabJ_off i _)
theorem pfA_atD1 (i : grid0.Coords) : (pfA (F := F)).atD 1 (k0_off1 i) = wI i := by
  exact (dif_pos (show ∀ a, k0_off1 i a + 1 ≤ S36.size a from fun a => by fin_cases a; exact k0_off1_inb i 0)).trans (tabI_off i _)

theorem wI_lt : ∀ i : grid0.Coords, (wI i).toNat < 8 := by decide +kernel
theorem wJ_lt : ∀ i : grid0.Coords, (wJ i).toNat < 8 := by decide +kernel
theorem coord0_lt : ∀ i : grid0.Coords, (BitVec.ofNat 32 (i 0).val).toNat < 2 := by decide +kernel

theorem chk : ∀ i : grid0.Coords, k0_chk1 (wJ i) (wI i) := by decide +kernel

theorem tr0_eq (i : grid0.Coords) : cc0_transform_0 (F := F) k0_off1_inb numel1_S1 pfA i = ![(wI i).toNat, (BitVec.ofNat 32 (i 0).val).toNat] := by
  unfold cc0_transform_0; exact congrArg (fun w : BitVec 32 => ![w.toNat, (BitVec.ofNat 32 (i 0).val).toNat]) (tabI_word i)
theorem tr1_eq (i : grid0.Coords) : cc0_transform_1 (F := F) k0_off1_inb numel1_S1 pfA i = ![(wJ i).toNat, (BitVec.ofNat 32 (i 0).val).toNat] := by
  unfold cc0_transform_1; exact congrArg (fun w : BitVec 32 => ![w.toNat, (BitVec.ofNat 32 (i 0).val).toNat]) (tabJ_word i)
theorem tr2_eq (i : grid0.Coords) : cc0_transform_2 (F := F) k0_off1_inb numel1_S1 pfA i = ![(wJ i).toNat, (BitVec.ofNat 32 (i 0).val).toNat] := by
  unfold cc0_transform_2; exact congrArg (fun w : BitVec 32 => ![w.toNat, (BitVec.ofNat 32 (i 0).val).toNat]) (tabJ_word i)
theorem tr3_eq (i : grid0.Coords) : cc0_transform_3 (F := F) k0_off1_inb numel1_S1 pfA i = ![(wI i).toNat, (BitVec.ofNat 32 (i 0).val).toNat] := by
  unfold cc0_transform_3; exact congrArg (fun w : BitVec 32 => ![w.toNat, (BitVec.ofNat 32 (i 0).val).toNat]) (tabI_word i)
theorem tr4_eq (i : grid0.Coords) : cc0_transform_4 (F := F) k0_off1_inb numel1_S1 pfA i = ![(wI i).toNat, (BitVec.ofNat 32 (i 0).val).toNat] := by
  unfold cc0_transform_4; exact congrArg (fun w : BitVec 32 => ![w.toNat, (BitVec.ofNat 32 (i 0).val).toNat]) (tabI_word i)
theorem tr5_eq (i : grid0.Coords) : cc0_transform_5 (F := F) k0_off1_inb numel1_S1 pfA i = ![(wI i).toNat, (BitVec.ofNat 32 (i 0).val).toNat] := by
  unfold cc0_transform_5; exact congrArg (fun w : BitVec 32 => ![w.toNat, (BitVec.ofNat 32 (i 0).val).toNat]) (tabI_word i)
theorem tr7_eq (i : grid0.Coords) : cc0_transform_7 (F := F) k0_off1_inb numel1_S1 pfA i = ![(wJ i).toNat, (BitVec.ofNat 32 (i 0).val).toNat] := by
  unfold cc0_transform_7; exact congrArg (fun w : BitVec 32 => ![w.toNat, (BitVec.ofNat 32 (i 0).val).toNat]) (tabJ_word i)
theorem tr8_eq (i : grid0.Coords) : cc0_transform_8 (F := F) k0_off1_inb numel1_S1 pfA i = ![(wJ i).toNat, (BitVec.ofNat 32 (i 0).val).toNat] := by
  unfold cc0_transform_8; exact congrArg (fun w : BitVec 32 => ![w.toNat, (BitVec.ofNat 32 (i 0).val).toNat]) (tabJ_word i)

theorem inA (n p : ℕ) (hn : n < 8) (hp : p < 2) : ∀ a : Fin 2, ((![n, p] : Fin 2 → ℕ) a + 1) * S512x1024.size a ≤ S4096x2048.size a := by
  intro a; fin_cases a
  · show (n + 1) * 512 ≤ 4096; omega
  · show (p + 1) * 1024 ≤ 2048; omega
theorem inB (n p : ℕ) (hn : n < 8) (hp : p < 2) : ∀ a : Fin 2, ((![n, p] : Fin 2 → ℕ) a + 1) * S512x512.size a ≤ S4096x1024.size a := by
  intro a; fin_cases a
  · show (n + 1) * 512 ≤ 4096; omega
  · show (p + 1) * 512 ≤ 1024; omega

theorem wwA (ix : Fin 2 → ℕ) (h : ∀ a : Fin 2, (ix a + 1) * S512x1024.size a ≤ S4096x2048.size a) (hf : ∃ n p : ℕ, n < 8 ∧ p < 2 ∧ ix = ![n, p]) :
    (Rect.block (s := S4096x2048) S512x1024.size ix h).WholeWords (EltTy.packing .bf16) := by
  obtain ⟨n, p, hn, hp, rfl⟩ := hf
  interval_cases n <;> interval_cases p <;> decide +revert +kernel
theorem wwB (ix : Fin 2 → ℕ) (h : ∀ a : Fin 2, (ix a + 1) * S512x512.size a ≤ S4096x1024.size a) (hf : ∃ n p : ℕ, n < 8 ∧ p < 2 ∧ ix = ![n, p]) :
    (Rect.block (s := S4096x1024) S512x512.size ix h).WholeWords (EltTy.packing .bf16) := by
  obtain ⟨n, p, hn, hp, rfl⟩ := hf
  interval_cases n <;> interval_cases p <;> decide +revert +kernel

theorem ok_pfA : ok0 (F := F) pfA := by
  unfold ok0
  refine ⟨fun i => ?_, fun i => ?_, fun i => ?_, fun i => ?_, fun i => ?_, fun i => ?_, fun i => ?_, fun i => ?_⟩
  · exact ⟨by rw [tr0_eq]; exact inA _ _ (wI_lt i) (coord0_lt i), .inr (wwA _ _ ⟨_, _, wI_lt i, coord0_lt i, tr0_eq i⟩)⟩
  · exact ⟨by rw [tr1_eq]; exact inA _ _ (wJ_lt i) (coord0_lt i), .inr (wwA _ _ ⟨_, _, wJ_lt i, coord0_lt i, tr1_eq i⟩)⟩
  · exact ⟨by rw [tr2_eq]; exact inA _ _ (wJ_lt i) (coord0_lt i), .inr (wwA _ _ ⟨_, _, wJ_lt i, coord0_lt i, tr2_eq i⟩)⟩
  · exact ⟨by rw [tr3_eq]; exact inB _ _ (wI_lt i) (coord0_lt i), .inr (wwB _ _ ⟨_, _, wI_lt i, coord0_lt i, tr3_eq i⟩)⟩
  · exact ⟨by rw [tr4_eq]; exact inB _ _ (wI_lt i) (coord0_lt i), .inl rfl⟩
  · exact ⟨by rw [tr5_eq]; exact inB _ _ (wI_lt i) (coord0_lt i), .inl rfl⟩
  · exact ⟨by rw [tr7_eq]; exact inA _ _ (wJ_lt i) (coord0_lt i), .inl rfl⟩
  · exact ⟨by rw [tr8_eq]; exact inB _ _ (wJ_lt i) (coord0_lt i), .inl rfl⟩

/-- The contents are admissible. -/
def adm : (pcfg0 (F := F)).Adm := ⟨pfA, ok_pfA⟩

end Cert.Proof.Fox

end
-- ==== Proof.Point.lean ====
/-
  The body run at a grid point, the two tables held at their contents.
-/
module

public import proofs.«01_k».proof.Proof.Tables

@[expose] public section

noncomputable section

namespace Cert.Proof.Fox

open KernelIdeal KernelIdeal.Gen

open Idealize.ShloMosaic TcCoe Tactic
open Idealize.SL Idealize.SL.RA Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-- The two tables held at the share the launch hands the body. -/
abbrev ptJ (c : Dev nD) : sProp 𝕄 := (((c : Thread nD τ).loc main_c) ↦{fullShare.right} (show Buf (Elt F) ((c : Thread nD τ).loc main_c) from tabJ))
abbrev ptI (c : Dev nD) : sProp 𝕄 := (((c : Thread nD τ).loc main_c_0) ↦{fullShare.right} (show Buf (Elt F) ((c : Thread nD τ).loc main_c_0) from tabI))

variable (i : grid0.Coords) (a4 : Memref sig .tc .vmem S512x1024 .bf16) (g4 : a4.IsWhole)
variable (a5 : Memref sig .tc .vmem S512x1024 .bf16) (g5 : a5.IsWhole) (a6 : Memref sig .tc .vmem S512x1024 .bf16) (g6 : a6.IsWhole)
variable (a7 : Memref sig .tc .vmem S512x512 .bf16) (g7 : a7.IsWhole) (a8 : Memref sig .tc .vmem S512x512 .f32) (g8 : a8.IsWhole)
variable (a9 : Memref sig .tc .vmem S512x512 .f32) (g9 : a9.IsWhole) (a10 : Memref sig .tc .vmem S4096x1024 .f32) (g10 : a10.IsWhole)
variable (a11 : Memref sig .tc .vmem S512x1024 .f32) (g11 : a11.IsWhole) (a12 : Memref sig .tc .vmem S512x512 .f32) (g12 : a12.IsWhole)
variable (a13 : Memref sig .tc .vmem S8x128x512 .f32) (g13 : a13.IsWhole) (a14 : Memref sig .tc .vmem S8x64x512 .f32) (g14 : a14.IsWhole)
variable (c : Dev nD) (W : Waits sig Unit) (Q : PUnit.{1} → sProp (MT nD τ sig Unit (Elt F) ℕ (UU nD τ) ℕ))
variable (X4 X5 X6 : S512x1024.Idx → Elt F .bf16) (X7 : S512x512.Idx → Elt F .bf16) (X8 X9 : S512x512.Idx → Elt F .f32) (X10 : S4096x1024.Idx → Elt F .f32) (X11 : S512x1024.Idx → Elt F .f32) (X12 : S512x512.Idx → Elt F .f32) (X13 : S8x128x512.Idx → Elt F .f32) (X14 : S8x64x512.Idx → Elt F .f32)

set_option maxHeartbeats 1000000 in
theorem body_at :
   iprop(rd c a4 X4 ∗ rd c a5 X5 ∗ rd c a6 X6 ∗ rd c a7 X7 ∗ rd c a8 X8 ∗ rd c a9 X9 ∗ rd c a10 X10 ∗ rd c a11 X11 ∗ rd c a12 X12 ∗ rd c a13 X13 ∗ rd c a14 X14 ∗ ptJ c ∗ ptI c ∗ owes (c : Thread nD τ) 0 W
     ∗ (iprop(rd c a4 X4 ∗ rd c a5 X5 ∗ rd c a6 X6 ∗ rd c a7 X7 ∗ rd c a8 X8 ∗ rd c a9 X9 ∗ rd c a10 (nxQ (wJ i) (wI i) X4 X5 X6 X7 X8 X9 i X10) ∗ rd c a11 (fiK (wI i) (nxK (wJ i) (wI i) X4 X5 X6 X7 X8 X9 X13) X11) ∗ rd c a12 (fiV (wI i) (nxV (wJ i) (wI i) X4 X5 X7 X8 X14) X12) ∗ rd c a13 (nxK (wJ i) (wI i) X4 X5 X6 X7 X8 X9 X13) ∗ rd c a14 (nxV (wJ i) (wI i) X4 X5 X7 X8 X14) ∗ ptJ c ∗ ptI c ∗ owes (c : Thread nD τ) 0 W) -∗ Q ⟨⟩))
   ⊢ wp frame (wpE (defs₀ (F := F)) Variants.none c none) Set.univ (cc0_fox_attn_bwd i (Memref.whole main_c) (Memref.isWhole_whole _) (Memref.whole main_c_0) (Memref.isWhole_whole _) a4 g4 a5 g5 a6 g6 a7 g7 a8 g8 a9 g9 a10 g10 a11 g11 a12 g12 a13 g13 a14 g14) Q := by
  unfold nxQ nxK nxV
  rw [cc0_fox_attn_bwd_eq_skeleton, skel_eq]
  unfold smemLoad smemLoadElt
  simp only [Prog.bind_op, Prog.bind_ret]
  iintro ⟨H4, H5, H6, H7, H8, H9, H10, H11, H12, H13, H14, HJ, HI, HO, Hk⟩
  iapply (wp_load_rect Variants.none (c : Thread nD τ) none Set.univ (m := Memref.whole main_c) (r := Rect.unit (s := S36) (k0_off1 i) S1.size (k0_off1_inb i)) (Finset.subset_univ _)) $$ HJ
  iintro HJ
  iapply (wp_load_rect Variants.none (c : Thread nD τ) none Set.univ (m := Memref.whole main_c_0) (r := Rect.unit (s := S36) (k0_off1 i) S1.size (k0_off1_inb i)) (Finset.subset_univ _)) $$ HI
  iintro HI
  have e1 : (((Memref.whole main_c).access (Rect.unit (s := S36) (k0_off1 i) S1.size (k0_off1_inb i)) : View sig .tc _ _ _).read (Elt F) (show Buf (Elt F) ((c : Thread nD τ).loc main_c) from tabJ)) (Shape.Idx.first (numel1_S1.symm ▸ Nat.one_pos)) = wJ i := tabJ_word i
  have e3 : (((Memref.whole main_c_0).access (Rect.unit (s := S36) (k0_off1 i) S1.size (k0_off1_inb i)) : View sig .tc _ _ _).read (Elt F) (show Buf (Elt F) ((c : Thread nD τ).loc main_c_0) from tabI)) (Shape.Idx.first (numel1_S1.symm ▸ Nat.one_pos)) = wI i := tabI_word i
  rw [e1, e3]
  iapply (wp_assume Variants.none (c : Thread nD τ) none Set.univ (chk i))
  iapply tail1_run
  iframe H4 H5 H6 H7 H8 H9 H10 H11 H12 H13 H14 HO
  iintro ⟨H4, H5, H6, H7, H8, H9, H10, H11, H12, H13, H14, HO⟩
  iapply Hk
  iframe H4 H5 H6 H7 H8 H9 H10 H11 H12 H13 H14 HJ HI
  iexact HO

end Cert.Proof.Fox

end
-- ==== Proof.Flow.lean ====
/-
  What every buffer holds before and after each grid point, and the body's obligation there.
-/
module

public import proofs.«01_k».proof.Proof.Point
public import proofs.«01_k».proof.Proof.Gen.KernelIdeal.Launch
public import Idealize.ShloMosaic.Lib.Pipeline.FrameSuffix
public import Idealize.ShloMosaic.Lib.Pipeline.FrameBody
public import Idealize.ShloMosaic.Lib.Pipeline.TableIdle

@[expose] public section

noncomputable section

namespace Cert.Proof.Fox

open KernelIdeal KernelIdeal.Gen

open Cert.Proof.FoxParts
open Idealize.ShloMosaic TcCoe Tactic
open Idealize.SL Idealize.SL.RA Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-- The pipeline at the tables' contents. -/
abbrev cfgA : Pipeline.Cfg sig Λ₀ := cfg0 (F := F) adm

/-- The buffers of the device when the pipeline starts: the host lines before it have run. -/
def V₀ (m : (ℓ : Loc nD τ sig) → Buf (Elt F) ℓ) (c : Dev nD) : Valuation τ sig (Elt F) :=
  StableHlo.after [hostOps0 (F := F), hostOps0_1, hostOps0_2].flatten (fun b => m (c, b))

section Data
variable (A : (w : Fin 9) → Buf (Elt F) (((cfgA (F := F)).win w).arr.view.loc ((0 : Dev nD) : Thread nD τ)))

/-- The block of window `w`'s array at point `t`. -/
def blkA (w : Fin 9) (t : Fin grid0.N) : ((cfgA (F := F)).win w).block.Idx → Elt F ((cfgA (F := F)).win w).elt :=
  (((cfgA (F := F)).win w).blk t).view.read (Elt F) (A w)

/-- The query gradient's block after the first `n` points, -/
def trQ : ℕ → S4096x1024.Idx → Elt F .f32
  | 0 => k0_pay1 (F := F)
  | n + 1 => if h : n < grid0.N then
      nxQ (wJ (grid0.coords ⟨n, h⟩)) (wI (grid0.coords ⟨n, h⟩)) (blkA A 0 ⟨n, h⟩) (blkA A 1 ⟨n, h⟩) (blkA A 2 ⟨n, h⟩) (blkA A 3 ⟨n, h⟩) (blkA A 4 ⟨n, h⟩) (blkA A 5 ⟨n, h⟩) (grid0.coords ⟨n, h⟩) (trQ n)
    else trQ n
/-- the key accumulator -/
def trK : ℕ → S8x128x512.Idx → Elt F .f32
  | 0 => k0_pay2 (F := F)
  | n + 1 => if h : n < grid0.N then
      nxK (wJ (grid0.coords ⟨n, h⟩)) (wI (grid0.coords ⟨n, h⟩)) (blkA A 0 ⟨n, h⟩) (blkA A 1 ⟨n, h⟩) (blkA A 2 ⟨n, h⟩) (blkA A 3 ⟨n, h⟩) (blkA A 4 ⟨n, h⟩) (blkA A 5 ⟨n, h⟩) (trK n)
    else trK n
/-- and the value accumulator. -/
def trV : ℕ → S8x64x512.Idx → Elt F .f32
  | 0 => k0_pay3 (F := F)
  | n + 1 => if h : n < grid0.N then
      nxV (wJ (grid0.coords ⟨n, h⟩)) (wI (grid0.coords ⟨n, h⟩)) (blkA A 0 ⟨n, h⟩) (blkA A 1 ⟨n, h⟩) (blkA A 3 ⟨n, h⟩) (blkA A 4 ⟨n, h⟩) (trV n)
    else trV n

theorem trQ_succ (t : Fin grid0.N) : trQ A (t.val + 1) =
    nxQ (wJ (grid0.coords t)) (wI (grid0.coords t)) (blkA A 0 t) (blkA A 1 t) (blkA A 2 t) (blkA A 3 t) (blkA A 4 t) (blkA A 5 t) (grid0.coords t) (trQ A t.val) := by
  rw [trQ, dif_pos t.isLt]
theorem trK_succ (t : Fin grid0.N) : trK A (t.val + 1) =
    nxK (wJ (grid0.coords t)) (wI (grid0.coords t)) (blkA A 0 t) (blkA A 1 t) (blkA A 2 t) (blkA A 3 t) (blkA A 4 t) (blkA A 5 t) (trK A t.val) := by
  rw [trK, dif_pos t.isLt]
theorem trV_succ (t : Fin grid0.N) : trV A (t.val + 1) =
    nxV (wJ (grid0.coords t)) (wI (grid0.coords t)) (blkA A 0 t) (blkA A 1 t) (blkA A 3 t) (blkA A 4 t) (trV A t.val) := by
  rw [trV, dif_pos t.isLt]

/-- What the body leaves in window `w`'s buffer at point `t`. -/
def afterA (w : Fin 9) (t : Fin grid0.N) : ((cfgA (F := F)).win w).block.Idx → Elt F ((cfgA (F := F)).win w).elt :=
  match w with
  | 0 => blkA A 0 t
  | 1 => blkA A 1 t
  | 2 => blkA A 2 t
  | 3 => blkA A 3 t
  | 4 => blkA A 4 t
  | 5 => blkA A 5 t
  | 6 => trQ A (t.val + 1)
  | 7 => updDK (fun e => k0_pay9 (F := F) (slK e (trK A (t.val + 1))))
  | 8 => updDV (fun e => k0_pay10 (F := F) (slV e (trV A (t.val + 1))))
  | ⟨_ + 9, h⟩ => absurd h (Nat.not_lt.2 (Nat.le_add_left _ _))

/-- The invariant before point `n`: the tables held, the accumulators at their values once a point has run. -/
def Φn (c : Dev nD) (n : ℕ) : sProp 𝕄 :=
  iprop(ptJ c ∗ ptI c ∗ (∃ X, ⌜n ≠ 0 → X = trK A n⌝ ∗ rd c (Memref.whole cc0_scratch0) X)
    ∗ (∃ X, ⌜n ≠ 0 → X = trV A n⌝ ∗ rd c (Memref.whole cc0_scratch1) X) ∗ (∃ r, prngReg c r))

end Data

/-- The windows' arrays when the pipeline starts. -/
def A₀ (m : (ℓ : Loc nD τ sig) → Buf (Elt F) ℓ) (c : Dev nD) (w : Fin 9) : Buf (Elt F) (((cfgA (F := F)).win w).arr.view.loc ((0 : Dev nD) : Thread nD τ)) :=
  V₀ m c (Pipeline.arrRef spec0 w)

variable (m : (ℓ : Loc nD τ sig) → Buf (Elt F) ℓ)

/-- The pipelines at their tables. -/
abbrev pcsA : Fin 1 → Pipeline.Cfg sig Λ₀ := Pipeline.pin (pcfgs (F := F)) fun _ => adm

/-- The proof data. -/
def dats (p : Fin 1) (c : Dev nD) : Pipeline.Dat τ (Elt F) Unit ℕ (UU nD τ) ℕ (pcsA (F := F) p) c where
  A w := V₀ m c (Pipeline.arrRef spec0 w)
  after w t := afterA (A₀ m c) w t
  Φ t := Φn (A₀ m c) c t.val
  q _ := fullShare
  owed _ := 0

theorem A_eq (c : Dev nD) (w : Fin 9) : (dats m 0 c).A w = V₀ m c (Pipeline.arrRef spec0 w) := by
  dsimp only [dats]

theorem after_eq (c : Dev nD) (w : Fin 9) (t : Fin grid0.N) : (dats m 0 c).after w t = afterA (A₀ m c) w t := by
  dsimp only [dats]

theorem before_0 (c : Dev nD) (t : Fin grid0.N) (d) : (dats m 0 c).before 0 t d = blkA (A₀ m c) 0 t :=
  (dats m 0 c).before_in_eq_fetched 0 rfl (fun _ => rfl) (fun _ _ _ => rfl) (fun t => by dsimp only [dats]; rfl) t d
theorem before_1 (c : Dev nD) (t : Fin grid0.N) (d) : (dats m 0 c).before 1 t d = blkA (A₀ m c) 1 t :=
  (dats m 0 c).before_in_eq_fetched 1 rfl (fun _ => rfl) (fun _ _ _ => rfl) (fun t => by dsimp only [dats]; rfl) t d
theorem before_2 (c : Dev nD) (t : Fin grid0.N) (d) : (dats m 0 c).before 2 t d = blkA (A₀ m c) 2 t :=
  (dats m 0 c).before_in_eq_fetched 2 rfl (fun _ => rfl) (fun _ _ _ => rfl) (fun t => by dsimp only [dats]; rfl) t d
theorem before_3 (c : Dev nD) (t : Fin grid0.N) (d) : (dats m 0 c).before 3 t d = blkA (A₀ m c) 3 t :=
  (dats m 0 c).before_in_eq_fetched 3 rfl (fun _ => rfl) (fun _ _ _ => rfl) (fun t => by dsimp only [dats]; rfl) t d
theorem before_4 (c : Dev nD) (t : Fin grid0.N) (d) : (dats m 0 c).before 4 t d = blkA (A₀ m c) 4 t :=
  (dats m 0 c).before_in_eq_fetched 4 rfl (fun _ => rfl) (fun _ _ _ => rfl) (fun t => by dsimp only [dats]; rfl) t d
theorem before_5 (c : Dev nD) (t : Fin grid0.N) (d) : (dats m 0 c).before 5 t d = blkA (A₀ m c) 5 t :=
  (dats m 0 c).before_in_eq_fetched 5 rfl (fun _ => rfl) (fun _ _ _ => rfl) (fun t => by dsimp only [dats]; rfl) t d

/-! ## The schedule of the outputs -/

theorem cond34 : ∀ t : Fin grid0.N, (k0_cond3 (wJ (grid0.coords t)) (wI (grid0.coords t)) == 1#1) = true ∨ (k0_cond4 (wJ (grid0.coords t)) (wI (grid0.coords t)) == 1#1) = true := by
  decide +kernel
theorem cond1_fresh : ∀ t : Fin grid0.N, t.val % 36 = 0 → k0_cond1 (grid0.coords t) = 1#1 := by decide +kernel
theorem cond4_zero : ∀ t : Fin grid0.N, t.val = 0 → k0_cond4 (wJ (grid0.coords t)) (wI (grid0.coords t)) = 1#1 := by decide +kernel
theorem flush6_sched : ∀ t : Fin grid0.N, (decide (t.val + 1 = grid0.N) || decide (∃ h : t.val + 1 < grid0.N, ∃ a, cc0_transform_6 (grid0.coords ⟨t.val + 1, h⟩) a ≠ cc0_transform_6 (grid0.coords t) a)) = decide ((t.val + 1) % 36 = 0) := by
  decide +kernel
theorem keep78 : ∀ t : Fin grid0.N, k0_cond5 (wI (grid0.coords t)) ≠ 1#1 → ∃ h : t.val + 1 < grid0.N,
    wJ (grid0.coords ⟨t.val + 1, h⟩) = wJ (grid0.coords t) ∧ BitVec.ofNat 32 ((grid0.coords ⟨t.val + 1, h⟩) 0).val = BitVec.ofNat 32 ((grid0.coords t) 0).val := by
  decide +kernel

theorem idle6 (t : Fin grid0.N) : (cfgA (F := F)).idle 6 (grid0.coords t) = false := by
  show (!(k0_cond1 (grid0.coords t) == 1#1) && !(k0_cond3 ((pfA (F := F)).atD 0 (k0_off1 (grid0.coords t))) ((pfA (F := F)).atD 1 (k0_off1 (grid0.coords t))) == 1#1) && !(k0_cond4 ((pfA (F := F)).atD 0 (k0_off1 (grid0.coords t))) ((pfA (F := F)).atD 1 (k0_off1 (grid0.coords t))) == 1#1)) = false
  rw [pfA_atD0, pfA_atD1]
  rcases cond34 t with h | h <;> simp [h]

theorem idle7 (t : Fin grid0.N) : (cfgA (F := F)).idle 7 (grid0.coords t) = !(k0_cond5 (wI (grid0.coords t)) == 1#1) := by
  show (!(k0_cond5 ((pfA (F := F)).atD 1 (k0_off1 (grid0.coords t))) == 1#1)) = _
  rw [pfA_atD1]
theorem idle8 (t : Fin grid0.N) : (cfgA (F := F)).idle 8 (grid0.coords t) = !(k0_cond5 (wI (grid0.coords t)) == 1#1) := by
  show (!(k0_cond5 ((pfA (F := F)).atD 1 (k0_off1 (grid0.coords t))) == 1#1)) = _
  rw [pfA_atD1]

theorem flush6 (t : Fin grid0.N) : ((cfgA (F := F)).win 6).flush t = decide ((t.val + 1) % 36 = 0) := by
  rw [Pipeline.Window.flush_eq_flushF]
  exact flush6_sched t

theorem flush7 (t : Fin grid0.N) (h5 : k0_cond5 (wI (grid0.coords t)) ≠ 1#1) : ((cfgA (F := F)).win 7).flush t = false := by
  obtain ⟨h, e1, e2⟩ := keep78 t h5
  have e : cc0_transform_7 (F := F) k0_off1_inb numel1_S1 pfA (grid0.coords ⟨t.val + 1, h⟩) = cc0_transform_7 (F := F) k0_off1_inb numel1_S1 pfA (grid0.coords t) := by
    rw [tr7_eq, tr7_eq, e1, e2]
  show (true && (decide (t.val + 1 = grid0.N) || decide (∃ h : t.val + 1 < grid0.N, cc0_transform_7 (F := F) k0_off1_inb numel1_S1 pfA (grid0.coords ⟨t.val + 1, h⟩) ≠ cc0_transform_7 (F := F) k0_off1_inb numel1_S1 pfA (grid0.coords t)))) = false
  simp only [Bool.true_and, Bool.or_eq_false_iff, decide_eq_false_iff_not]
  exact ⟨by omega, fun ⟨_, hn⟩ => hn e⟩
theorem flush8 (t : Fin grid0.N) (h5 : k0_cond5 (wI (grid0.coords t)) ≠ 1#1) : ((cfgA (F := F)).win 8).flush t = false := by
  obtain ⟨h, e1, e2⟩ := keep78 t h5
  have e : cc0_transform_8 (F := F) k0_off1_inb numel1_S1 pfA (grid0.coords ⟨t.val + 1, h⟩) = cc0_transform_8 (F := F) k0_off1_inb numel1_S1 pfA (grid0.coords t) := by
    rw [tr8_eq, tr8_eq, e1, e2]
  show (true && (decide (t.val + 1 = grid0.N) || decide (∃ h : t.val + 1 < grid0.N, cc0_transform_8 (F := F) k0_off1_inb numel1_S1 pfA (grid0.coords ⟨t.val + 1, h⟩) ≠ cc0_transform_8 (F := F) k0_off1_inb numel1_S1 pfA (grid0.coords t)))) = false
  simp only [Bool.true_and, Bool.or_eq_false_iff, decide_eq_false_iff_not]
  exact ⟨by omega, fun ⟨_, hn⟩ => hn e⟩

theorem fresh6 (n : ℕ) (h : n ≤ grid0.N) : (cfgA (F := F)).fresh 6 n = decide (n % 36 = 0) :=
  (cfgA (F := F)).fresh_tab 6 (fun n => decide (n % 36 = 0)) rfl (fun t => by rw [flush6, idle6]; simp) n h

omit [Named F] in
theorem clQ_first (i : grid0.Coords) (h1 : k0_cond1 i = 1#1) (X Y : S4096x1024.Idx → Elt F .f32) : clQ i X = clQ i Y := by
  unfold clQ; rw [if_pos h1, if_pos h1]
theorem nxQ_first (v1 v3 : Elt F .i32) (X4 X5 X6 : S512x1024.Idx → Elt F .bf16) (X7 : S512x512.Idx → Elt F .bf16) (X8 X9 : S512x512.Idx → Elt F .f32)
    (i : grid0.Coords) (h1 : k0_cond1 i = 1#1) (X Y : S4096x1024.Idx → Elt F .f32) :
    nxQ v1 v3 X4 X5 X6 X7 X8 X9 i X = nxQ v1 v3 X4 X5 X6 X7 X8 X9 i Y :=
  congrArg (fun z => dgQ v1 v3 X4 X5 X6 X7 X8 X9 (ofQ v1 v3 X4 X5 X6 X7 X8 X9 z)) (clQ_first i h1 X Y)

theorem before_6 (c : Dev nD) (t : Fin grid0.N) (d) :
    nxQ (wJ (grid0.coords t)) (wI (grid0.coords t)) (blkA (A₀ m c) 0 t) (blkA (A₀ m c) 1 t) (blkA (A₀ m c) 2 t) (blkA (A₀ m c) 3 t) (blkA (A₀ m c) 4 t) (blkA (A₀ m c) 5 t) (grid0.coords t) ((dats m 0 c).before 6 t d) = trQ (A₀ m c) (t.val + 1) := by
  rw [trQ_succ]
  by_cases h0 : t.val % 36 = 0
  · have h1 := cond1_fresh t h0
    exact nxQ_first _ _ _ _ _ _ _ _ _ h1 _ _
  · have hb := (dats m 0 c).before_out_traj 6 rfl (fun _ _ => rfl) (fun t _ hi _ => absurd (idle6 (F := F) t) (by rw [show (cfgA (F := F)).idle 6 (grid0.coords t) = true from hi]; decide)) t.val t rfl d
    rw [show (pcsA (F := F) 0).fresh 6 t.val = (cfgA (F := F)).fresh 6 t.val from rfl, fresh6 t.val (Nat.le_of_lt t.isLt), if_neg (by simpa using h0), after_eq] at hb
    have ht : t.val - 1 + 1 = t.val := by omega
    rw [hb]
    show nxQ _ _ _ _ _ _ _ _ _ (trQ (A₀ m c) (t.val - 1 + 1)) = _
    rw [ht]

theorem nxK_first (c : Dev nD) (t : Fin grid0.N) (X) (hX : t.val ≠ 0 → X = trK (A₀ m c) t.val) :
    nxK (wJ (grid0.coords t)) (wI (grid0.coords t)) (blkA (A₀ m c) 0 t) (blkA (A₀ m c) 1 t) (blkA (A₀ m c) 2 t) (blkA (A₀ m c) 3 t) (blkA (A₀ m c) 4 t) (blkA (A₀ m c) 5 t) X = trK (A₀ m c) (t.val + 1) := by
  rw [trK_succ]
  by_cases h0 : t.val = 0
  · have h1 := cond4_zero t h0
    unfold nxK clK
    rw [if_pos h1, if_pos h1]
  · rw [hX h0]
theorem nxV_first (c : Dev nD) (t : Fin grid0.N) (X) (hX : t.val ≠ 0 → X = trV (A₀ m c) t.val) :
    nxV (wJ (grid0.coords t)) (wI (grid0.coords t)) (blkA (A₀ m c) 0 t) (blkA (A₀ m c) 1 t) (blkA (A₀ m c) 3 t) (blkA (A₀ m c) 4 t) X = trV (A₀ m c) (t.val + 1) := by
  rw [trV_succ]
  by_cases h0 : t.val = 0
  · have h1 := cond4_zero t h0
    unfold nxV clV
    rw [if_pos h1, if_pos h1]
  · rw [hX h0]

end Cert.Proof.Fox

end
-- ==== Proof.Launch.lean ====
/-
  The body's obligation at every point, and the run of the whole program.
-/
module

public import proofs.«01_k».proof.Proof.Flow

@[expose] public section

noncomputable section

namespace Cert.Proof.Fox

open KernelIdeal KernelIdeal.Gen

open Idealize.ShloMosaic TcCoe Tactic
open Idealize.SL Idealize.SL.RA Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

variable (m : (ℓ : Loc nD τ sig) → Buf (Elt F) ℓ)

/-- A whole memref owned, as a buffer held. -/
theorem owns_rd (c : Dev nD) {sp : Space} {S : Shape} {e : EltTy} (M : Memref sig .tc sp S e) (hM : M.IsWhole) (X : S.Idx → Elt F e) :
    (owns (c : Thread nD τ) M fullShare X : sProp 𝕄) = rd c M X := by
  unfold owns rd pt
  obtain ⟨b, rfl, rfl, rfl, hM⟩ := hM
  cases hM
  simp only [Memref.view_whole, View.set_whole]

theorem prefHeld_pair (c : Dev nD) :
    (Pipeline.prefHeld pre0 c (fun _ => fullShare.right) (pfA (F := F)) : sProp 𝕄) = iprop(ptJ c ∗ ptI c) := by
  unfold Pipeline.prefHeld
  rw [show (Finset.univ : Finset (Fin 2)) = insert 0 {1} from by decide, bigSep_insert (by decide), bigSep_singleton]
  rfl

theorem val_castSucc {N : ℕ} {P : Type} (S : ℕ → P) (t : Fin N) : S t.castSucc.val = S t.val := rfl
theorem val_succ {N : ℕ} {P : Type} (S : ℕ → P) (t : Fin N) : S t.succ.val = S (t.val + 1) := rfl

set_option maxHeartbeats 400000 in
set_option backward.isDefEq.respectTransparency.types false in
theorem body_obligation (c : Dev nD) : Pipeline.BodyObligationLoose (dats m 0 c) (defs₀ (F := F)) Variants.none () Set.univ := fun t => by
  rw [bigSep_W0, bigSep_W0]
  rw [show (dats m 0 c).Φ t.castSucc = Φn (A₀ m c) c t.val from by dsimp only [dats]; exact val_castSucc (fun n => Φn (A₀ m c) c n) t, show (dats m 0 c).Φ t.succ = Φn (A₀ m c) c (t.val + 1) from by dsimp only [dats]; exact val_succ (fun n => Φn (A₀ m c) c n) t]
  unfold Φn Pipeline.Dat.owesAt Pipeline.owesWithin
  rw [show (dats m 0 c).owed t.castSucc = 0 from by dsimp only [dats], show (dats m 0 c).owed t.succ = 0 from by dsimp only [dats]]
  dsimp only
  rw [show defs₀ (F := F) .tc (pcsA (F := F) 0).body ((pcsA (F := F) 0).bodyArgs t ((pcsA (F := F) 0).slots t)) = cc0_fox_attn_bwd (grid0.coords t) (Memref.whole main_c) (Memref.isWhole_whole _) (Memref.whole main_c_0) (Memref.isWhole_whole _) (spec0_0.stage (((pcsA (F := F) 0).slots t) 0)) (hstage0_0 ((((pcsA (F := F) 0).slots t) 0).cast nbuf0_0)) (spec0_1.stage (((pcsA (F := F) 0).slots t) 1)) (hstage0_1 ((((pcsA (F := F) 0).slots t) 1).cast nbuf0_1)) (spec0_2.stage (((pcsA (F := F) 0).slots t) 2)) (hstage0_2 ((((pcsA (F := F) 0).slots t) 2).cast nbuf0_2)) (spec0_3.stage (((pcsA (F := F) 0).slots t) 3)) (hstage0_3 ((((pcsA (F := F) 0).slots t) 3).cast nbuf0_3)) (spec0_4.stage (((pcsA (F := F) 0).slots t) 4)) (hstage0_4 ((((pcsA (F := F) 0).slots t) 4).cast nbuf0_4)) (spec0_5.stage (((pcsA (F := F) 0).slots t) 5)) (hstage0_5 ((((pcsA (F := F) 0).slots t) 5).cast nbuf0_5)) (spec0_6.stage (((pcsA (F := F) 0).slots t) 6)) (hstage0_6 ((((pcsA (F := F) 0).slots t) 6).cast nbuf0_6)) (spec0_7.stage (((pcsA (F := F) 0).slots t) 7)) (hstage0_7 ((((pcsA (F := F) 0).slots t) 7).cast nbuf0_7)) (spec0_8.stage (((pcsA (F := F) 0).slots t) 8)) (hstage0_8 ((((pcsA (F := F) 0).slots t) 8).cast nbuf0_8)) (Memref.whole cc0_scratch0) (Memref.isWhole_whole _) (Memref.whole cc0_scratch1) (Memref.isWhole_whole _) from rfl]
  simp only [before_0, before_1, before_2, before_3, before_4, before_5]
  iintro ⟨⟨HJ, HI, ⟨%X13, %h13, H13⟩, ⟨%X14, %h14, H14⟩, Hp⟩, ⟨%W, %hW, HO⟩, ⟨%d0, H4⟩, ⟨%d1, H5⟩, ⟨%d2, H6⟩, ⟨%d3, H7⟩, ⟨%d4, H8⟩, ⟨%d5, H9⟩, ⟨%d6, H10⟩, ⟨%d7, H11⟩, ⟨%d8, H12⟩⟩
  ihave H4 := (Entails.of_eq (owns_rd c (spec0_0.stage (((pcsA (F := F) 0).slots t) 0)) (hstage0_0 ((((pcsA (F := F) 0).slots t) 0).cast nbuf0_0)) _)) $$ H4
  ihave H5 := (Entails.of_eq (owns_rd c (spec0_1.stage (((pcsA (F := F) 0).slots t) 1)) (hstage0_1 ((((pcsA (F := F) 0).slots t) 1).cast nbuf0_1)) _)) $$ H5
  ihave H6 := (Entails.of_eq (owns_rd c (spec0_2.stage (((pcsA (F := F) 0).slots t) 2)) (hstage0_2 ((((pcsA (F := F) 0).slots t) 2).cast nbuf0_2)) _)) $$ H6
  ihave H7 := (Entails.of_eq (owns_rd c (spec0_3.stage (((pcsA (F := F) 0).slots t) 3)) (hstage0_3 ((((pcsA (F := F) 0).slots t) 3).cast nbuf0_3)) _)) $$ H7
  ihave H8 := (Entails.of_eq (owns_rd c (spec0_4.stage (((pcsA (F := F) 0).slots t) 4)) (hstage0_4 ((((pcsA (F := F) 0).slots t) 4).cast nbuf0_4)) _)) $$ H8
  ihave H9 := (Entails.of_eq (owns_rd c (spec0_5.stage (((pcsA (F := F) 0).slots t) 5)) (hstage0_5 ((((pcsA (F := F) 0).slots t) 5).cast nbuf0_5)) _)) $$ H9
  ihave H10 := (Entails.of_eq (owns_rd c (spec0_6.stage (((pcsA (F := F) 0).slots t) 6)) (hstage0_6 ((((pcsA (F := F) 0).slots t) 6).cast nbuf0_6)) _)) $$ H10
  ihave H11 := (Entails.of_eq (owns_rd c (spec0_7.stage (((pcsA (F := F) 0).slots t) 7)) (hstage0_7 ((((pcsA (F := F) 0).slots t) 7).cast nbuf0_7)) _)) $$ H11
  ihave H12 := (Entails.of_eq (owns_rd c (spec0_8.stage (((pcsA (F := F) 0).slots t) 8)) (hstage0_8 ((((pcsA (F := F) 0).slots t) 8).cast nbuf0_8)) _)) $$ H12
  iapply (body_at)
  iframe H4 H5 H6 H7 H8 H9 H10 H11 H12 H13 H14 HJ HI HO
  iintro ⟨H4, H5, H6, H7, H8, H9, H10, H11, H12, H13, H14, HJ, HI, HO⟩
  isplitl [HJ HI H13 H14 Hp]
  · isplitl [HJ]; iexact HJ
    isplitl [HI]; iexact HI
    isplitl [H13]
    · iexists _; isplitr; swap; (· iexact H13); ipureintro; exact fun _ => nxK_first m c t X13 h13
    isplitl [H14]
    · iexists _; isplitr; swap; (· iexact H14); ipureintro; exact fun _ => nxV_first m c t X14 h14
    iexact Hp
  isplitl [HO]
  · iexists W; isplitr; · ipureintro; exact fun _ _ => Or.inl trivial
    iexact HO
  isplitl [H4]
  · rw [after_eq]
    iapply (Entails.of_eq (owns_rd c (spec0_0.stage (((pcsA (F := F) 0).slots t) 0)) (hstage0_0 ((((pcsA (F := F) 0).slots t) 0).cast nbuf0_0)) _).symm)
    iexact H4
  isplitl [H5]
  · rw [after_eq]
    iapply (Entails.of_eq (owns_rd c (spec0_1.stage (((pcsA (F := F) 0).slots t) 1)) (hstage0_1 ((((pcsA (F := F) 0).slots t) 1).cast nbuf0_1)) _).symm)
    iexact H5
  isplitl [H6]
  · rw [after_eq]
    iapply (Entails.of_eq (owns_rd c (spec0_2.stage (((pcsA (F := F) 0).slots t) 2)) (hstage0_2 ((((pcsA (F := F) 0).slots t) 2).cast nbuf0_2)) _).symm)
    iexact H6
  isplitl [H7]
  · rw [after_eq]
    iapply (Entails.of_eq (owns_rd c (spec0_3.stage (((pcsA (F := F) 0).slots t) 3)) (hstage0_3 ((((pcsA (F := F) 0).slots t) 3).cast nbuf0_3)) _).symm)
    iexact H7
  isplitl [H8]
  · rw [after_eq]
    iapply (Entails.of_eq (owns_rd c (spec0_4.stage (((pcsA (F := F) 0).slots t) 4)) (hstage0_4 ((((pcsA (F := F) 0).slots t) 4).cast nbuf0_4)) _).symm)
    iexact H8
  isplitl [H9]
  · rw [after_eq]
    iapply (Entails.of_eq (owns_rd c (spec0_5.stage (((pcsA (F := F) 0).slots t) 5)) (hstage0_5 ((((pcsA (F := F) 0).slots t) 5).cast nbuf0_5)) _).symm)
    iexact H9
  isplitl [H10]
  · rw [show idle0 (adm (F := F)).1 6 (((pcfgs (F := F) 0).gridAt (adm (F := F)).1).coords t) = false from idle6 t]
    rw [after_eq]
    iapply (Entails.of_eq (owns_rd c (spec0_6.stage (((pcsA (F := F) 0).slots t) 6)) (hstage0_6 ((((pcsA (F := F) 0).slots t) 6).cast nbuf0_6)) _).symm)
    rw [before_6]
    iexact H10
  isplitl [H11]
  · by_cases h5 : k0_cond5 (wI (grid0.coords t)) = 1#1
    · rw [show idle0 (adm (F := F)).1 7 (((pcfgs (F := F) 0).gridAt (adm (F := F)).1).coords t) = false from (idle7 (F := F) t).trans (by rw [h5]; rfl)]
      rw [after_eq]
      iapply (Entails.of_eq (owns_rd c (spec0_7.stage (((pcsA (F := F) 0).slots t) 7)) (hstage0_7 ((((pcsA (F := F) 0).slots t) 7).cast nbuf0_7)) _).symm)
      rw [nxK_first m c t X13 h13, show fiK (wI (grid0.coords t)) (trK (A₀ m c) (t.val + 1)) ((dats m 0 c).before 7 t d7) = afterA (A₀ m c) 7 t from if_pos h5]
      iexact H11
    · rw [show idle0 (adm (F := F)).1 7 (((pcfgs (F := F) 0).gridAt (adm (F := F)).1).coords t) = true from (idle7 (F := F) t).trans (by simp [h5])]
      dsimp only
      split; swap; · next hh => exact absurd ((flush7 (F := F) t h5).symm.trans hh) (by decide)
      iexists d7
      iapply (Entails.of_eq (owns_rd c (spec0_7.stage (((pcsA (F := F) 0).slots t) 7)) (hstage0_7 ((((pcsA (F := F) 0).slots t) 7).cast nbuf0_7)) _).symm)
      rw [show fiK (wI (grid0.coords t)) (nxK (wJ (grid0.coords t)) (wI (grid0.coords t)) (blkA (A₀ m c) 0 t) (blkA (A₀ m c) 1 t) (blkA (A₀ m c) 2 t) (blkA (A₀ m c) 3 t) (blkA (A₀ m c) 4 t) (blkA (A₀ m c) 5 t) X13) ((dats m 0 c).before 7 t d7) = (dats m 0 c).before 7 t d7 from if_neg h5]
      iexact H11
  · by_cases h5 : k0_cond5 (wI (grid0.coords t)) = 1#1
    · rw [show idle0 (adm (F := F)).1 8 (((pcfgs (F := F) 0).gridAt (adm (F := F)).1).coords t) = false from (idle8 (F := F) t).trans (by rw [h5]; rfl)]
      rw [after_eq]
      iapply (Entails.of_eq (owns_rd c (spec0_8.stage (((pcsA (F := F) 0).slots t) 8)) (hstage0_8 ((((pcsA (F := F) 0).slots t) 8).cast nbuf0_8)) _).symm)
      rw [nxV_first m c t X14 h14, show fiV (wI (grid0.coords t)) (trV (A₀ m c) (t.val + 1)) ((dats m 0 c).before 8 t d8) = afterA (A₀ m c) 8 t from if_pos h5]
      iexact H12
    · rw [show idle0 (adm (F := F)).1 8 (((pcfgs (F := F) 0).gridAt (adm (F := F)).1).coords t) = true from (idle8 (F := F) t).trans (by simp [h5])]
      dsimp only
      split; swap; · next hh => exact absurd ((flush8 (F := F) t h5).symm.trans hh) (by decide)
      iexists d8
      iapply (Entails.of_eq (owns_rd c (spec0_8.stage (((pcsA (F := F) 0).slots t) 8)) (hstage0_8 ((((pcsA (F := F) 0).slots t) 8).cast nbuf0_8)) _).symm)
      rw [show fiV (wI (grid0.coords t)) (nxV (wJ (grid0.coords t)) (wI (grid0.coords t)) (blkA (A₀ m c) 0 t) (blkA (A₀ m c) 1 t) (blkA (A₀ m c) 3 t) (blkA (A₀ m c) 4 t) X14) ((dats m 0 c).before 8 t d8) = (dats m 0 c).before 8 t d8 from if_neg h5]
      iexact H12

end Cert.Proof.Fox

end
-- ==== Proof.Run.lean ====
/-
  The run of the whole program: what every buffer holds at the end.
-/
module

public import proofs.«01_k».proof.Proof.Launch

@[expose] public section

noncomputable section

namespace Cert.Proof.Fox

open KernelIdeal KernelIdeal.Gen

open Idealize.ShloMosaic TcCoe Tactic
open Idealize.SL Idealize.SL.RA Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

variable (m : (ℓ : Loc nD τ sig) → Buf (Elt F) ℓ)

/-- The arrays hostOps0 writes, in order. -/
def refs_hostOps0 : List (Ref sig .tc) := [main_c, main_c_0, main_v0, main_v1, main_v2, main_v3, main_v4, main_v5, main_v6, main_v7, main_v8, main_v9, main_v10, main_cst]
theorem writes_hostOps0 : List.Forall₂ (fun (op : HloOp τ sig (Elt F)) (r : Ref sig .tc) => op.writes = {Proc.devRef .tc r}) hostOps0 refs_hostOps0 := by
  unfold hostOps0 refs_hostOps0
  repeat' (first | exact List.Forall₂.nil | refine List.Forall₂.cons rfl ?_)

/-- The arrays hostOps0_1 writes, in order. -/
def refs_hostOps0_1 : List (Ref sig .tc) := [main_call0_v0, main_call0_v1, main_v11]
theorem writes_hostOps0_1 : List.Forall₂ (fun (op : HloOp τ sig (Elt F)) (r : Ref sig .tc) => op.writes = {Proc.devRef .tc r}) hostOps0_1 refs_hostOps0_1 := by
  unfold hostOps0_1 refs_hostOps0_1
  repeat' (first | exact List.Forall₂.nil | refine List.Forall₂.cons rfl ?_)

/-- The arrays hostOps0_2 writes, in order. -/
def refs_hostOps0_2 : List (Ref sig .tc) := [main_cst_1, main_v12, main_v13, main_v14, main_v15, main_v16, main_cst_2, main_v17, main_v18, main_v19, main_v20, main_v21, main_v22, main_v23, main_v24, main_v25, main_v26, main_cst_3, main_v27, main_v28, main_v29, main_v30, main_v31, main_v32, main_v33, main_v34, main_v35, main_v36, main_v37, main_v38, main_v39, main_cst_4, main_v40, main_cst_5, main_v41, main_v42, main_v43, main_v44, main_v45, main_v46, main_v47, main_v48, main_v49, main_v50, main_cst_6, main_v51, main_cst_7, main_v52, main_v53, main_v54, main_v55, main_v56, main_v57, main_v58, main_v59, main_v60, main_v61, main_v62, main_v63]
theorem writes_hostOps0_2 : List.Forall₂ (fun (op : HloOp τ sig (Elt F)) (r : Ref sig .tc) => op.writes = {Proc.devRef .tc r}) hostOps0_2 refs_hostOps0_2 := by
  unfold hostOps0_2 refs_hostOps0_2
  repeat' (first | exact List.Forall₂.nil | refine List.Forall₂.cons rfl ?_)

/-- The arrays hostOps1 writes, in order. -/
def refs_hostOps1 : List (Ref sig .tc) := [main_v65, main_v66, main_v67, main_v68, main_v69, main_v70, main_v71, main_v72, main_v73, main_v74]
theorem writes_hostOps1 : List.Forall₂ (fun (op : HloOp τ sig (Elt F)) (r : Ref sig .tc) => op.writes = {Proc.devRef .tc r}) hostOps1 refs_hostOps1 := by
  unfold hostOps1 refs_hostOps1
  repeat' (first | exact List.Forall₂.nil | refine List.Forall₂.cons rfl ?_)

/-- A buffer none of the operations writes. -/
theorem not_written_of {ops : List (HloOp τ sig (Elt F))} {refs : List (Ref sig .tc)}
    (h : List.Forall₂ (fun (op : HloOp τ sig (Elt F)) (r : Ref sig .tc) => op.writes = {Proc.devRef .tc r}) ops refs)
    (b : Ref sig .tc) (hb : b ∉ refs) : ∀ op ∈ ops, Proc.devRef .tc b ∉ op.writes := by
  induction h with
  | nil => intro op hop; cases hop
  | @cons op' r ops' refs' h' _ ih =>
    intro op hop
    rw [List.mem_cons, not_or] at hb
    rcases List.mem_cons.1 hop with rfl | hop
    · rw [h', Finset.mem_singleton]; exact StableHlo.devRef_ne_of_ne hb.1
    · exact ih hb.2 op hop

/-- What the host wrote before the pipeline, in order. -/
theorem writes_before : List.Forall₂ (fun (op : HloOp τ sig (Elt F)) (r : Ref sig .tc) => op.writes = {Proc.devRef .tc r})
    [hostOps0 (F := F), hostOps0_1, hostOps0_2].flatten (refs_hostOps0 ++ (refs_hostOps0_1 ++ (refs_hostOps0_2 ++ []))) :=
  List.rel_append writes_hostOps0 (List.rel_append writes_hostOps0_1 (List.rel_append writes_hostOps0_2 List.Forall₂.nil))

/-- An argument keeps its contents up to the pipeline. -/
theorem V₀_kept (c : Dev nD) (b : Ref sig .tc) (hb : b ∉ refs_hostOps0 ++ (refs_hostOps0_1 ++ (refs_hostOps0_2 ++ []))) :
    V₀ m c (Proc.devRef .tc b) = m ((c : Thread nD τ).loc b) :=
  StableHlo.after_of_forall_not_mem (b := Proc.devRef .tc b) _ _ (not_written_of writes_before b hb)

theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- What no operation but the first two writes is what those two leave. -/
theorem after_two {o₀ o₁ : HloOp τ sig (Elt F)} {ops : List (HloOp τ sig (Elt F))} {r₀ r₁ : Ref sig .tc} {rs : List (Ref sig .tc)}
    (h : List.Forall₂ (fun (op : HloOp τ sig (Elt F)) (r : Ref sig .tc) => op.writes = {Proc.devRef .tc r}) (o₀ :: o₁ :: ops) (r₀ :: r₁ :: rs))
    (V : Valuation τ sig (Elt F)) (b : Ref sig .tc) (hb : b ∉ rs) :
    StableHlo.after (o₀ :: o₁ :: ops) V (Proc.devRef .tc b) = o₁.result (o₀.result V) (Proc.devRef .tc b) := by
  rw [StableHlo.after_cons, StableHlo.after_cons]
  exact StableHlo.after_of_forall_not_mem (b := Proc.devRef .tc b) _ _ (not_written_of (List.forall₂_cons.1 (List.forall₂_cons.1 h).2).2 b hb)

theorem V₀_tabs (c : Dev nD) (k : Fin 2) : V₀ m c (Proc.devRef .tc (pre0.ref k)) = (pfA (F := F)) k := by
  match k with
  | 0 =>
    refine (after_two (writes_before (F := F)) _ main_c (by decide)).trans ?_
    rw [StableHlo.nullary_result_ne (h := by decide)]
    exact StableHlo.nullary_result ..
  | 1 =>
    refine (after_two (writes_before (F := F)) _ main_c_0 (by decide)).trans ?_
    exact StableHlo.nullary_result ..

/-- A buffer held whole, as a memref read, -/
theorem rd_of (c : Dev nD) (b : Ref sig .tc) (f : Buf (Elt F) ((c : Thread nD τ).loc b)) :
    ((((c : Thread nD τ).loc b) ↦{fullShare} f : sProp 𝕄)) ⊢ rd c (Memref.whole b) ((Memref.whole b).view.read (Elt F) f) := by
  unfold rd
  iintro H; iexists f
  isplitr
  · ipureintro; rfl
  · iexact H

/-- and back. -/
theorem rd_to (c : Dev nD) (b : Ref sig .tc) (X) :
    (rd c (Memref.whole b) X : sProp 𝕄) ⊢ iprop(∃ f : Buf (Elt F) ((c : Thread nD τ).loc b), ((c : Thread nD τ).loc b) ↦{fullShare} f) := by
  unfold rd
  iintro ⟨%f, -, H⟩; iexists f; iexact H

theorem hin_aux (A) (c : Dev nD) : iprop(Pipeline.ΦA spec0 c ∗ Pipeline.ΦT pre0 (pfA (F := F)) c : sProp 𝕄) ⊢ Φn A c 0 := by
  unfold Pipeline.ΦA Pipeline.ΦT Φn
  rw [scopedRest0_eq, prefHeld_pair]
  iintro ⟨⟨⟨⟨%f, Hf⟩, ⟨%g, Hg⟩⟩, Hr⟩, HJ, HI⟩
  iframe HJ HI
  isplitl [Hf]
  · iexists _
    isplitr
    rotate_left
    · iapply (rd_of c cc0_scratch0 f); iexact Hf
    · ipureintro; exact fun h => absurd rfl h
  isplitl [Hg]
  · iexists _
    isplitr
    rotate_left
    · iapply (rd_of c cc0_scratch1 g); iexact Hg
    · ipureintro; exact fun h => absurd rfl h
  iexact Hr

theorem hout_aux (A) (c : Dev nD) (n : ℕ) : (Φn (F := F) A c n) ⊢ (Pipeline.ΦA spec0 c : sProp 𝕄) := by
  unfold Pipeline.ΦA Φn
  rw [scopedRest0_eq]
  iintro ⟨-, -, ⟨%X, -, HX⟩, ⟨%Y, -, HY⟩, Hr⟩
  isplitr [Hr]
  · isplitl [HX]
    · iapply (rd_to c cc0_scratch0 X); iexact HX
    · iapply (rd_to c cc0_scratch1 Y); iexact HY
  iexact Hr

/-- The pipeline's invariant at the start, -/
theorem hin (c : Dev nD) : iprop(Pipeline.ΦA spec0 c ∗ Pipeline.ΦT pre0 (pfA (F := F)) c : sProp 𝕄) ⊢ (dats m 0 c).Φ 0 := by
  dsimp only [dats]
  exact hin_aux _ c
/-- and at the end. -/
theorem hout (c : Dev nD) : (dats m 0 c).Φ (Fin.last (cfgA (F := F)).N) ⊢ (Pipeline.ΦA spec0 c : sProp 𝕄) := by
  dsimp only [dats]
  exact hout_aux _ c _

theorem before_fresh : [hostOps0 (F := F), hostOps0_1, hostOps0_2].Forall fun ops => ops.Forall fun op => op.fresh = ∅ := by
  refine ⟨?_, ?_, ?_⟩ <;> (simp only [List.Forall]; and_intros <;> rfl)

theorem after_fresh : ∀ ops ∈ [hostOps1 (F := F)], ∀ op ∈ ops, op.fresh = ∅ := by
  intro ops h; rw [List.mem_singleton] at h; subst h
  intro op hop
  have : (hostOps1 (F := F)).Forall fun op => op.fresh = ∅ := by simp only [List.Forall]; and_intros <;> rfl
  exact List.forall_iff_forall_mem.1 this op hop

theorem after_keep : ∀ ops ∈ [hostOps1 (F := F)], ∀ op ∈ ops, ∀ w, Proc.devRef .tc (Pipeline.arrRef spec0 w) ∉ op.writes := by
  intro ops h; rw [List.mem_singleton] at h; subst h
  intro op hop w
  exact not_written_of writes_hostOps1 _ ((by decide : ∀ w, Pipeline.arrRef spec0 w ∉ refs_hostOps1) w) op hop

theorem not_two {b x y : Ref sig .tc} (h : b ≠ x ∧ b ≠ y) : Proc.devRef (τ := τ) .tc b ∉ ({Proc.devRef .tc x, Proc.devRef .tc y} : Finset (DevRef τ sig)) := by
  rw [Finset.mem_insert, Finset.mem_singleton, not_or]
  exact ⟨StableHlo.devRef_ne_of_ne h.1, StableHlo.devRef_ne_of_ne h.2⟩
theorem not_three {b x y z : Ref sig .tc} (h : b ≠ x ∧ b ≠ y ∧ b ≠ z) :
    Proc.devRef (τ := τ) .tc b ∉ ({Proc.devRef .tc x, Proc.devRef .tc y, Proc.devRef .tc z} : Finset (DevRef τ sig)) := by
  rw [Finset.mem_insert, not_or]
  exact ⟨StableHlo.devRef_ne_of_ne h.1, not_two h.2⟩

theorem tables_apart (k : Fin 2) : (hostOps1 (F := F)).Forall fun op => Proc.devRef .tc (pre0.ref k) ∉ op.bufs := by
  match k with
  | 0 => exact ⟨not_two (by decide), not_two (by decide), not_two (by decide), not_two (by decide), not_two (by decide), not_two (by decide), not_two (by decide), not_two (by decide), not_two (by decide), not_three (by decide)⟩
  | 1 => exact ⟨not_two (by decide), not_two (by decide), not_two (by decide), not_two (by decide), not_two (by decide), not_two (by decide), not_two (by decide), not_two (by decide), not_two (by decide), not_three (by decide)⟩

theorem after_sub : ∀ ops ∈ [hostOps1 (F := F)], ∀ op ∈ ops, op.bufs ⊆ Pipeline.tailRefs sig pre0 spec0 := by
  intro ops h; rw [List.mem_singleton] at h; subst h
  intro op hop
  exact Pipeline.sub_tailRefs pre0 spec0 op (List.forall_iff_forall_mem.1 hostOps1_sub op hop)
    fun k => List.forall_iff_forall_mem.1 (tables_apart k) op hop

set_option backward.isDefEq.respectTransparency.types false in
/-- The run: every array at what the pipeline leaves, every other buffer at what the host operations leave. -/
theorem run_main (g : Dev nD → PrngReg) :
    θ_run (defs (F := F)) (onTc (τ := τ) main) (s₀ m g) fun r =>
      Pipeline.FramePost (pcsA (F := F)) (dats m) 0 (Pipeline.afterTail pcfgs (fun _ => adm) (dats m) 0 (V₀ m) [hostOps1]) r
        ∧ r.2.sem = fun _ => 0 :=
  Pipeline.θ_run_frameP_around_track pcfgs (fun _ => adm) (dats m) 0 launch0 defs₀ Variants.none m g main
    (body_obligation m) (fun c w => (dats m 0 c).share_full (fun _ => rfl) w) (fun _ _ => rfl) (V₀ m) [hostOps1]
    after_sub after_fresh after_keep
    (Pipeline.hmainP_around pcfgs 0 defs₀ Variants.none m main [hostOps0, hostOps0_1, hostOps0_2] [hostOps1]
      ⟨hostOps0_sub, hostOps0_1_sub, hostOps0_2_sub⟩ before_fresh main_chain)
    (A_eq m) (V₀_tabs m) (hin m) (hout m) _ (fun _ h => h)
-- ==== Proof.Frame.lean ====
/-
  The frames of the three programs, and the rewrite of the mask's constant.
-/
module

public import proofs.«01_k».proof.Defs
public import proofs.«01_k».proof.Proof.Run
public import proofs.«01_k».proof.Proof.Gen.Kernel
public import proofs.«01_k».proof.Proof.Gen.ReferenceIdeal.Run
public import proofs.«01_k».proof.Proof.Gen.Pre_finite

@[expose] public section

noncomputable section

namespace Cert.Proof.Fox

open KernelIdeal KernelIdeal.Gen

open Idealize.ShloMosaic TcCoe Tactic
open Idealize.SL.Sem

section
variable {F : FTy → Type} [FloatOps F] [Named F]

/-- A buffer that is no window's array and that no host operation writes ends as it began. -/
theorem kept (m : (ℓ : Loc nD τ sig) → Buf (Elt F) ℓ) (r : PUnit × MemSt nD τ sig (Elt F))
    (h : Pipeline.FramePost (pcsA (F := F)) (dats m) 0 (Pipeline.afterTail pcfgs (fun _ => adm) (dats m) 0 (V₀ m) [hostOps1]) r)
    (c : Dev nD) (b : Ref sig .tc) (h₀ : b ∈ Pipeline.restRefs sig spec0) (h₁ : b ∉ refs_hostOps1)
    (h₂ : ∀ w, Pipeline.arrRef spec0 w ≠ b) (h₃ : b ∉ refs_hostOps0 ++ (refs_hostOps0_1 ++ (refs_hostOps0_2 ++ []))) :
    r.2.mem ((c : Thread nD τ).loc b) = m ((c : Thread nD τ).loc b) := by
  refine ((h c).2 b h₀).trans ?_
  refine (StableHlo.after_of_forall_not_mem (b := Proc.devRef .tc b) _ _ (not_written_of (refs := refs_hostOps1 ++ [])
    (List.rel_append writes_hostOps1 List.Forall₂.nil) b (by rwa [List.append_nil]))).trans ?_
  exact (Pipeline.withArrays_of_ne spec0 c _ _ b h₂).trans (V₀_kept m c b h₃)

/-- The frame, for any floats. -/
theorem frame_any (m : (ℓ : Loc nD τ sig) → Buf (Elt F) ℓ) (g : Dev nD → PrngReg) :
    θ_run (defs (F := F)) (onTc (τ := τ) main) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (defs (F := F)) _ _).mono (fun r h => ⟨fun c =>
    ⟨kept m r h.1 c main_arg0 (by decide) (by decide) (by decide) (by decide), kept m r h.1 c main_arg1 (by decide) (by decide) (by decide) (by decide),
     kept m r h.1 c main_arg2 (by decide) (by decide) (by decide) (by decide), kept m r h.1 c main_arg3 (by decide) (by decide) (by decide) (by decide),
     kept m r h.1 c main_arg4 (by decide) (by decide) (by decide) (by decide)⟩, h.2⟩) (run_main m g)
end

theorem frame_kernelIdeal : quiescent_KernelIdeal := fun m g _ => frame_any m g
theorem frame_kernelIdeal_finite : quiescent_KernelIdeal_pre_finite := fun m g _ => frame_any m g
theorem frame_reference_any (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4))
      ∧ r.2.sem = fun _ => 0) :=
  (θ_run (ReferenceIdeal.defs (F := Ideal)) _ _).mono (fun r h => ⟨fun c => (h c).2.2.2.2, sem_eq_zero_of_no_sems (by decide) r.2⟩) (ReferenceIdeal.Value.run (F := Ideal) m g)

theorem frame_reference : quiescent_ReferenceIdeal := fun m g _ => frame_reference_any m g
theorem frame_reference_finite : quiescent_ReferenceIdeal_pre_finite := fun m g _ => frame_reference_any m g

theorem mask_named : preserves_Kernel_KernelIdeal := IdealRules.named_const.statement _ _ _ _ _ rfl

end Cert.Proof.Fox

end
-- ==== Proof.Places.lean ====
/-
  Where things lie: a head's part of a block, a slot of an accumulator, a window's block in its array, and the row and
  column block of each grid point.
-/
module

public import proofs.«01_k».proof.Proof.Flow
public import Idealize.ShloMosaic.Lib.Pointwise

@[expose] public section

set_option maxRecDepth 16384

noncomputable section

namespace Cert.Proof.Fox

open KernelIdeal KernelIdeal.Gen Cert.Proof.FoxParts Idealize.ShloMosaic TcCoe Idealize.SL.Sem

section Parts
variable {α : Type}

theorem s128_at (e : Fin 8) (X : S512x1024.Idx → α) (a : Fin 512) (l : Fin 128) :
    s128 e X (ix2 a l) = X (ix2 a (⟨128 * e.val + l.val, by omega⟩ : Fin 1024)) := by
  refine congrArg X (funext fun d => ?_)
  match d with
  | 0 => exact Fin.ext (by show 0 + 1 * a.val = a.val; omega)
  | 1 => exact Fin.ext (by show 128 * e.val + 1 * l.val = 128 * e.val + l.val; omega)
theorem s128v_at (e : Fin 8) (X : S512x1024.Idx → α) (a : Fin 512) (l : Fin 64) :
    s128v e X (ix2 a l) = X (ix2 a (⟨128 * e.val + l.val, by omega⟩ : Fin 1024)) := by
  refine congrArg X (funext fun d => ?_)
  match d with
  | 0 => exact Fin.ext (by show 0 + 1 * a.val = a.val; omega)
  | 1 => exact Fin.ext (by show 128 * e.val + 1 * l.val = 128 * e.val + l.val; omega)
theorem s64_at (e : Fin 8) (X : S512x512.Idx → α) (a : Fin 512) (l : Fin 64) :
    s64 e X (ix2 a l) = X (ix2 a (⟨64 * e.val + l.val, by omega⟩ : Fin 512)) := by
  refine congrArg X (funext fun d => ?_)
  match d with
  | 0 => exact Fin.ext (by show 0 + 1 * a.val = a.val; omega)
  | 1 => exact Fin.ext (by show 64 * e.val + 1 * l.val = 64 * e.val + l.val; omega)
theorem s1_at (e : Fin 8) (X : S512x512.Idx → α) (a : Fin 512) :
    s1 e X (ix2 a 0) = X (ix2 a (⟨64 * e.val, by omega⟩ : Fin 512)) := by
  refine congrArg X (funext fun d => ?_)
  match d with
  | 0 => exact Fin.ext (by show 0 + 1 * a.val = a.val; omega)
  | 1 => exact Fin.ext (by show 64 * e.val + 1 * 0 = 64 * e.val; omega)
theorem slK_at (e : Fin 8) (X : S8x128x512.Idx → α) (l : Fin 128) (x : Fin 512) : slK e X (ix3 0 l x) = X (ix3 e l x) := by
  refine congrArg X (funext fun d => ?_)
  match d with
  | 0 => exact Fin.ext (by show e.val + 1 * 0 = e.val; omega)
  | 1 => exact Fin.ext (by show 0 + 1 * l.val = l.val; omega)
  | 2 => exact Fin.ext (by show 0 + 1 * x.val = x.val; omega)
theorem slV_at (e : Fin 8) (X : S8x64x512.Idx → α) (l : Fin 64) (x : Fin 512) : slV e X (ix3 0 l x) = X (ix3 e l x) := by
  refine congrArg X (funext fun d => ?_)
  match d with
  | 0 => exact Fin.ext (by show e.val + 1 * 0 = e.val; omega)
  | 1 => exact Fin.ext (by show 0 + 1 * l.val = l.val; omega)
  | 2 => exact Fin.ext (by show 0 + 1 * x.val = x.val; omega)
theorem slQ_at (r : Nat) (hr : r + 512 ≤ 4096) (e : Fin 8) (X : S4096x1024.Idx → α) (a : Fin 512) (l : Fin 128) :
    slQ r hr e X (ix2 a l) = X (ix2 (⟨r + a.val, by omega⟩ : Fin 4096) (⟨128 * e.val + l.val, by omega⟩ : Fin 1024)) := by
  refine congrArg X (funext fun d => ?_)
  match d with
  | 0 => exact Fin.ext (by show r + 1 * a.val = r + a.val; omega)
  | 1 => exact Fin.ext (by show 128 * e.val + 1 * l.val = 128 * e.val + l.val; omega)
theorem updK_at (h : Fin 8 → (S1x128x512.Idx → α) → S1x128x512.Idx → α) (X : S8x128x512.Idx → α) (e : Fin 8) (l : Fin 128) (x : Fin 512) :
    updK h X (ix3 e l x) = h e (slK e X) (ix3 0 l x) := by
  refine congrArg (h e (slK e X)) (funext fun d => ?_)
  match d with
  | 0 => rfl
  | 1 => rfl
  | 2 => rfl
theorem updV_at (h : Fin 8 → (S1x64x512.Idx → α) → S1x64x512.Idx → α) (X : S8x64x512.Idx → α) (e : Fin 8) (l : Fin 64) (x : Fin 512) :
    updV h X (ix3 e l x) = h e (slV e X) (ix3 0 l x) := by
  refine congrArg (h e (slV e X)) (funext fun d => ?_)
  match d with
  | 0 => rfl
  | 1 => rfl
  | 2 => rfl
theorem updQ_in (r : Nat) (hr : r + 512 ≤ 4096) (h : Fin 8 → (S512x128.Idx → α) → S512x128.Idx → α) (X : S4096x1024.Idx → α)
    (a : Fin 512) (e : Fin 8) (l : Fin 128) :
    updQ 8 r hr h X (ix2 (⟨r + a.val, by omega⟩ : Fin 4096) (⟨128 * e.val + l.val, by omega⟩ : Fin 1024)) = h e (slQ r hr e X) (ix2 a l) := by
  rw [← updQ_emb r hr h X e 8 (by omega) (ix2 a l)]
  refine congrArg (updQ 8 r hr h X) (funext fun d => ?_)
  match d with
  | 0 => exact Fin.ext (by show r + a.val = r + 1 * a.val; omega)
  | 1 => exact Fin.ext (by show 128 * e.val + l.val = 128 * e.val + 1 * l.val; omega)
theorem updQ_out (r : Nat) (hr : r + 512 ≤ 4096) (h : Fin 8 → (S512x128.Idx → α) → S512x128.Idx → α) (X : S4096x1024.Idx → α)
    (τ : Fin 4096) (y : Fin 1024) (hτ : τ.val < r ∨ r + 512 ≤ τ.val) : updQ 8 r hr h X (ix2 τ y) = X (ix2 τ y) := by
  refine dif_neg fun c => ?_
  have c1 : r ≤ τ.val := c.1.1
  have c2 : τ.val < r + 512 := c.1.2
  omega
theorem updDK_at (h : Fin 8 → S512x128.Idx → α) (x : Fin 512) (e : Fin 8) (l : Fin 128) :
    updDK h (ix2 x (⟨128 * e.val + l.val, by omega⟩ : Fin 1024)) = h e (ix2 x l) := by
  rw [← updDK_emb h e (ix2 x l)]
  refine congrArg (updDK h) (funext fun d => ?_)
  match d with
  | 0 => exact Fin.ext (by show x.val = 0 + 1 * x.val; omega)
  | 1 => exact Fin.ext (by show 128 * e.val + l.val = 128 * e.val + 1 * l.val; omega)
theorem updDV_at (h : Fin 8 → S512x64.Idx → α) (x : Fin 512) (e : Fin 8) (l : Fin 64) :
    updDV h (ix2 x (⟨64 * e.val + l.val, by omega⟩ : Fin 512)) = h e (ix2 x l) := by
  rw [← updDV_emb h e (ix2 x l)]
  refine congrArg (updDV h) (funext fun d => ?_)
  match d with
  | 0 => exact Fin.ext (by show x.val = 0 + 1 * x.val; omega)
  | 1 => exact Fin.ext (by show 64 * e.val + l.val = 64 * e.val + 1 * l.val; omega)
end Parts

/-! ## The grid's points -/

/-- The row block, the column block and the half of a point. -/
def ptI_ (t : Fin grid0.N) : ℕ := (wI (grid0.coords t)).toNat
def ptJ_ (t : Fin grid0.N) : ℕ := (wJ (grid0.coords t)).toNat
def ptP_ (t : Fin grid0.N) : ℕ := t.val / 36

theorem half : ∀ t : Fin grid0.N, (BitVec.ofNat 32 (grid0.coords t 0).val).toNat = t.val / 36 := by decide +kernel
theorem half_lt : ∀ t : Fin grid0.N, ptP_ t < 2 := by decide +kernel
theorem i_lt (t : Fin grid0.N) : ptI_ t < 8 := wI_lt _
theorem j_lt (t : Fin grid0.N) : ptJ_ t < 8 := wJ_lt _
theorem j_le : ∀ t : Fin grid0.N, ptJ_ t ≤ ptI_ t := by decide +kernel
theorem first_pt : ∀ t : Fin grid0.N, t.val % 36 = 0 → ptI_ t = 0 ∧ ptJ_ t = 0 := by decide +kernel
theorem last_pt : ∀ t : Fin grid0.N, (t.val + 1) % 36 = 0 → ptI_ t = 7 ∧ ptJ_ t = 7 := by decide +kernel
theorem next_pt : ∀ t s : Fin grid0.N, s.val = t.val + 1 → s.val % 36 ≠ 0 → ptP_ s = ptP_ t ∧
    ((ptI_ t < 7 ∧ ptI_ s = ptI_ t + 1 ∧ ptJ_ s = ptJ_ t) ∨ (ptI_ t = 7 ∧ ptI_ s = ptJ_ t + 1 ∧ ptJ_ s = ptJ_ t + 1)) := by decide +kernel
theorem cond1_iff : ∀ t : Fin grid0.N, k0_cond1 (grid0.coords t) = 1#1 ↔ t.val % 36 = 0 := by decide +kernel
theorem cond3_iff : ∀ t : Fin grid0.N, k0_cond3 (wJ (grid0.coords t)) (wI (grid0.coords t)) = 1#1 ↔ ptJ_ t < ptI_ t := by decide +kernel
theorem cond4_iff : ∀ t : Fin grid0.N, k0_cond4 (wJ (grid0.coords t)) (wI (grid0.coords t)) = 1#1 ↔ ptI_ t = ptJ_ t := by decide +kernel
theorem cond5_iff : ∀ t : Fin grid0.N, k0_cond5 (wI (grid0.coords t)) = 1#1 ↔ ptI_ t = 7 := by decide +kernel
theorem row_pt : ∀ t : Fin grid0.N, rowOf (wI (grid0.coords t)) = 512 * ptI_ t := by decide +kernel
/-- The point at which column block `j` of half `p` is finished. -/
theorem fin_pt : ∀ (p : Fin 2) (j : Fin 8), ∃ t : Fin grid0.N, ptI_ t = 7 ∧ ptJ_ t = j.val ∧ ptP_ t = p.val := by decide +kernel

variable {F : FTy → Type} [FloatOps F] [Named F] (A : (w : Fin 9) → Buf (Elt F) (((cfgA (F := F)).win w).arr.view.loc ((0 : Dev nD) : Thread nD τ)))

theorem tileAt0 (t : Fin grid0.N) (a : Fin 512) (x : Fin 1024) :
    blkA A 0 t (ix2 a x) = A 0 (ix2 (⟨512 * ptI_ t + a, by have := i_lt t; omega⟩ : Fin 4096) (⟨1024 * ptP_ t + x, by have := half_lt t; omega⟩ : Fin 2048)) := by
  refine congrArg (A 0) (funext fun d => ?_)
  match d with
  | 0 =>
    refine Fin.ext ?_
    show cc0_transform_0 (F := F) k0_off1_inb numel1_S1 pfA (grid0.coords t) 0 * 512 + 1 * a.val = 512 * ptI_ t + a
    rw [tr0_eq]; show ptI_ t * 512 + 1 * a.val = _; omega
  | 1 =>
    refine Fin.ext ?_
    show cc0_transform_0 (F := F) k0_off1_inb numel1_S1 pfA (grid0.coords t) 1 * 1024 + 1 * x.val = 1024 * ptP_ t + x
    rw [tr0_eq]; show (BitVec.ofNat 32 (grid0.coords t 0).val).toNat * 1024 + 1 * x.val = _; rw [half]; unfold ptP_; omega
theorem tileAt1 (t : Fin grid0.N) (a : Fin 512) (x : Fin 1024) :
    blkA A 1 t (ix2 a x) = A 1 (ix2 (⟨512 * ptJ_ t + a, by have := j_lt t; omega⟩ : Fin 4096) (⟨1024 * ptP_ t + x, by have := half_lt t; omega⟩ : Fin 2048)) := by
  refine congrArg (A 1) (funext fun d => ?_)
  match d with
  | 0 =>
    refine Fin.ext ?_
    show cc0_transform_1 (F := F) k0_off1_inb numel1_S1 pfA (grid0.coords t) 0 * 512 + 1 * a.val = 512 * ptJ_ t + a
    rw [tr1_eq]; show ptJ_ t * 512 + 1 * a.val = _; omega
  | 1 =>
    refine Fin.ext ?_
    show cc0_transform_1 (F := F) k0_off1_inb numel1_S1 pfA (grid0.coords t) 1 * 1024 + 1 * x.val = 1024 * ptP_ t + x
    rw [tr1_eq]; show (BitVec.ofNat 32 (grid0.coords t 0).val).toNat * 1024 + 1 * x.val = _; rw [half]; unfold ptP_; omega
theorem tileAt2 (t : Fin grid0.N) (a : Fin 512) (x : Fin 1024) :
    blkA A 2 t (ix2 a x) = A 2 (ix2 (⟨512 * ptJ_ t + a, by have := j_lt t; omega⟩ : Fin 4096) (⟨1024 * ptP_ t + x, by have := half_lt t; omega⟩ : Fin 2048)) := by
  refine congrArg (A 2) (funext fun d => ?_)
  match d with
  | 0 =>
    refine Fin.ext ?_
    show cc0_transform_2 (F := F) k0_off1_inb numel1_S1 pfA (grid0.coords t) 0 * 512 + 1 * a.val = 512 * ptJ_ t + a
    rw [tr2_eq]; show ptJ_ t * 512 + 1 * a.val = _; omega
  | 1 =>
    refine Fin.ext ?_
    show cc0_transform_2 (F := F) k0_off1_inb numel1_S1 pfA (grid0.coords t) 1 * 1024 + 1 * x.val = 1024 * ptP_ t + x
    rw [tr2_eq]; show (BitVec.ofNat 32 (grid0.coords t 0).val).toNat * 1024 + 1 * x.val = _; rw [half]; unfold ptP_; omega
theorem tileAt3 (t : Fin grid0.N) (a x : Fin 512) :
    blkA A 3 t (ix2 a x) = A 3 (ix2 (⟨512 * ptI_ t + a, by have := i_lt t; omega⟩ : Fin 4096) (⟨512 * ptP_ t + x, by have := half_lt t; omega⟩ : Fin 1024)) := by
  refine congrArg (A 3) (funext fun d => ?_)
  match d with
  | 0 =>
    refine Fin.ext ?_
    show cc0_transform_3 (F := F) k0_off1_inb numel1_S1 pfA (grid0.coords t) 0 * 512 + 1 * a.val = 512 * ptI_ t + a
    rw [tr3_eq]; show ptI_ t * 512 + 1 * a.val = _; omega
  | 1 =>
    refine Fin.ext ?_
    show cc0_transform_3 (F := F) k0_off1_inb numel1_S1 pfA (grid0.coords t) 1 * 512 + 1 * x.val = 512 * ptP_ t + x
    rw [tr3_eq]; show (BitVec.ofNat 32 (grid0.coords t 0).val).toNat * 512 + 1 * x.val = _; rw [half]; unfold ptP_; omega
theorem tileAt4 (t : Fin grid0.N) (a x : Fin 512) :
    blkA A 4 t (ix2 a x) = A 4 (ix2 (⟨512 * ptI_ t + a, by have := i_lt t; omega⟩ : Fin 4096) (⟨512 * ptP_ t + x, by have := half_lt t; omega⟩ : Fin 1024)) := by
  refine congrArg (A 4) (funext fun d => ?_)
  match d with
  | 0 =>
    refine Fin.ext ?_
    show cc0_transform_4 (F := F) k0_off1_inb numel1_S1 pfA (grid0.coords t) 0 * 512 + 1 * a.val = 512 * ptI_ t + a
    rw [tr4_eq]; show ptI_ t * 512 + 1 * a.val = _; omega
  | 1 =>
    refine Fin.ext ?_
    show cc0_transform_4 (F := F) k0_off1_inb numel1_S1 pfA (grid0.coords t) 1 * 512 + 1 * x.val = 512 * ptP_ t + x
    rw [tr4_eq]; show (BitVec.ofNat 32 (grid0.coords t 0).val).toNat * 512 + 1 * x.val = _; rw [half]; unfold ptP_; omega
theorem tileAt5 (t : Fin grid0.N) (a x : Fin 512) :
    blkA A 5 t (ix2 a x) = A 5 (ix2 (⟨512 * ptI_ t + a, by have := i_lt t; omega⟩ : Fin 4096) (⟨512 * ptP_ t + x, by have := half_lt t; omega⟩ : Fin 1024)) := by
  refine congrArg (A 5) (funext fun d => ?_)
  match d with
  | 0 =>
    refine Fin.ext ?_
    show cc0_transform_5 (F := F) k0_off1_inb numel1_S1 pfA (grid0.coords t) 0 * 512 + 1 * a.val = 512 * ptI_ t + a
    rw [tr5_eq]; show ptI_ t * 512 + 1 * a.val = _; omega
  | 1 =>
    refine Fin.ext ?_
    show cc0_transform_5 (F := F) k0_off1_inb numel1_S1 pfA (grid0.coords t) 1 * 512 + 1 * x.val = 512 * ptP_ t + x
    rw [tr5_eq]; show (BitVec.ofNat 32 (grid0.coords t 0).val).toNat * 512 + 1 * x.val = _; rw [half]; unfold ptP_; omega

end Cert.Proof.Fox

end
-- ==== Proof.Spec.lean ====
/-
  The gradient of the forgetting attention over the real numbers: the logits, the causal softmax, its gradient, and the
  equations between the forms in which the two programs compute them.
-/
module

public import Mathlib.Analysis.SpecialFunctions.Log.Basic
public import Mathlib.Data.EReal.Operations
public import Mathlib.Tactic.Ring
public import Mathlib.Tactic.FieldSimp

@[expose] public section

noncomputable section

namespace Cert.Proof.Fox.Spec

open Finset

/-- A sum of reals inside the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A sum over `Fin n` whose terms are reals is the sum over the range. -/
theorem sum_fin {n : ℕ} (f : Fin n → EReal) (g : ℕ → ℝ) (h : ∀ k : Fin n, f k = (g k : EReal)) :
    ∑ k, f k = ((∑ k ∈ range n, g k : ℝ) : EReal) := by
  rw [coe_sum, Finset.sum_range]
  exact Finset.sum_congr rfl fun k _ => h k

/-- The greatest of finitely many extended reals, none of them infinite above and one of them real, is a real. -/
theorem fold_max_real {n : ℕ} (f : Fin n → EReal) (k : Fin n) (h0 : f k ≠ ⊥) (h1 : ∀ i, f i ≠ ⊤) :
    ∃ m : ℝ, Finset.univ.fold max (⊥ : EReal) f = (m : EReal) := by
  have hle : f k ≤ Finset.univ.fold max (⊥ : EReal) f := (Finset.le_fold_max _).2 (.inr ⟨k, mem_univ k, le_rfl⟩)
  have hlt : Finset.univ.fold max (⊥ : EReal) f < ⊤ :=
    Finset.fold_max_lt _ |>.2 ⟨bot_lt_top, fun i _ => lt_top_iff_ne_top.2 (h1 i)⟩
  refine ⟨(Finset.univ.fold max (⊥ : EReal) f).toReal, (EReal.coe_toReal hlt.ne ?_).symm⟩
  exact fun hb => h0 (le_bot_iff.1 (hb ▸ hle))

section
variable (Q K V D : ℕ → ℕ → ℕ → ℝ) (C : ℕ → ℕ → ℝ)

/-- The logit of head `h`, query `t`, key `s`. -/
def lg (h t s : ℕ) : ℝ := (∑ d ∈ range 64, Q t h d * K s h d) + (C t h - C s h)
/-- The sum of the exponentials of a row, shifted by `m`. -/
def Z (m : ℝ) (h t : ℕ) : ℝ := ∑ s ∈ range 4096, if s ≤ t then Real.exp (lg Q K C h t s - m) else 0
/-- The probability of key `s` in row `t`. -/
def P (h t s : ℕ) : ℝ := if s ≤ t then Real.exp (lg Q K C h t s) / Z Q K C 0 h t else 0
/-- The gradient with respect to a probability. -/
def DP (h t s : ℕ) : ℝ := ∑ d ∈ range 64, D t h d * V s h d
/-- The row's own output against the cotangent. -/
def DL (h t : ℕ) : ℝ := ∑ d ∈ range 64, D t h d * ∑ s ∈ range 4096, P Q K C h t s * V s h d
/-- The gradient with respect to a logit. -/
def DS (h t s : ℕ) : ℝ := P Q K C h t s * (DP V D h t s - DL Q K V D C h t)

/-- The augmented query row: the query, the row's cumulated gate, two zeros, three ones, zeros. -/
def QA (h t l : ℕ) : ℝ := if l < 64 then Q t h l else if l < 65 then C t h else if l < 67 then 0 else if l < 70 then 1 else 0
/-- The augmented key row: the key, three ones, the cumulated gate negated, zeros. -/
def KA (h s l : ℕ) : ℝ := if l < 64 then K s h l else if l < 67 then 1 else if l < 68 then -C s h else 0

/-- The product of the augmented rows is the logit. -/
theorem QA_KA (h t s : ℕ) : ∑ l ∈ range 128, QA Q C h t l * KA K C h s l = lg Q K C h t s := by
  have e : ∑ l ∈ range 128, QA Q C h t l * KA K C h s l = ∑ l ∈ range 64, QA Q C h t l * KA K C h s l
      + ∑ x ∈ range 64, QA Q C h t (64 + x) * KA K C h s (64 + x) := Finset.sum_range_add _ 64 64
  rw [e]
  unfold lg
  refine congrArg₂ (· + ·) ?_ ?_
  · refine Finset.sum_congr rfl fun l hl => ?_
    have := Finset.mem_range.1 hl
    unfold QA KA; rw [if_pos this, if_pos this]
  · rw [show range 64 = range (4 + 60) from rfl, Finset.sum_range_add, Finset.sum_eq_zero (s := range 60), add_zero]
    · simp only [Finset.sum_range_succ, Finset.sum_range_zero]
      unfold QA KA
      norm_num
      ring
    · intro x _
      unfold QA KA
      rw [if_neg (by omega), if_neg (by omega), if_neg (by omega), if_neg (c := 64 + (4 + x) < 64) (by omega), if_neg (c := 64 + (4 + x) < 67) (by omega), if_neg (c := 64 + (4 + x) < 68) (by omega), mul_zero]

theorem Z_pos (m : ℝ) (h t : ℕ) : 0 < Z Q K C m h t := by
  refine Finset.sum_pos' (fun s _ => ?_) ⟨0, by simp, ?_⟩
  · split_ifs
    · exact (Real.exp_pos _).le
    · exact le_rfl
  · rw [if_pos (Nat.zero_le t)]; exact Real.exp_pos _

theorem Z_shift (m : ℝ) (h t : ℕ) : Z Q K C 0 h t = Real.exp m * Z Q K C m h t := by
  unfold Z
  rw [Finset.mul_sum]
  refine Finset.sum_congr rfl fun s _ => ?_
  split_ifs
  · rw [← Real.exp_add]; congr 1; ring
  · rw [mul_zero]

/-- A probability from the shifted exponentials. -/
theorem P_shift (m : ℝ) (h t s : ℕ) :
    (if s ≤ t then Real.exp (lg Q K C h t s - m) else 0) / Z Q K C m h t = P Q K C h t s := by
  unfold P
  rw [Z_shift Q K C m]
  have := (Z_pos Q K C m h t).ne'
  split_ifs
  · rw [Real.exp_sub]; have := (Real.exp_pos m).ne'; field_simp
  · rw [zero_div]

/-- A probability from the logarithm of the row's sum. -/
theorem P_log (m : ℝ) (h t s : ℕ) (hs : s ≤ t) :
    Real.exp (lg Q K C h t s - (m + Real.log (Z Q K C m h t))) = P Q K C h t s := by
  rw [← P_shift Q K C m, if_pos hs, ← sub_sub, Real.exp_sub, Real.exp_log (Z_pos Q K C m h t)]

theorem P_future (h t s : ℕ) (hs : t < s) : P Q K C h t s = 0 := if_neg (Nat.not_le.2 hs)
theorem DS_future (h t s : ℕ) (hs : t < s) : DS Q K V D C h t s = 0 := by unfold DS; rw [P_future Q K C h t s hs, zero_mul]

theorem DL_eq (h t : ℕ) : DL Q K V D C h t = ∑ s ∈ range 4096, P Q K C h t s * DP V D h t s := by
  unfold DL DP
  simp only [Finset.mul_sum]
  rw [Finset.sum_comm]
  exact Finset.sum_congr rfl fun s _ => Finset.sum_congr rfl fun d _ => by ring

/-- The gradient with respect to a logit as the division's two cotangents give it. -/
theorem DS_quotient (m : ℝ) (h t s : ℕ) :
    (DP V D h t s / Z Q K C m h t + -(∑ u ∈ range 4096, DP V D h t u * (1 / (Z Q K C m h t * Z Q K C m h t))
        * (if u ≤ t then Real.exp (lg Q K C h t u - m) else 0)))
      * (if s ≤ t then Real.exp (lg Q K C h t s - m) else 0) = DS Q K V D C h t s := by
  have hz := (Z_pos Q K C m h t).ne'
  have e : ∑ u ∈ range 4096, DP V D h t u * (1 / (Z Q K C m h t * Z Q K C m h t))
        * (if u ≤ t then Real.exp (lg Q K C h t u - m) else 0) = DL Q K V D C h t / Z Q K C m h t := by
    rw [DL_eq, div_eq_mul_inv (∑ s ∈ range 4096, P Q K C h t s * DP V D h t s), Finset.sum_mul]
    refine Finset.sum_congr rfl fun u _ => ?_
    rw [← P_shift Q K C m]; field_simp
  rw [e]; unfold DS; rw [← P_shift Q K C m]; field_simp; ring

end

end Cert.Proof.Fox.Spec

end
-- ==== Proof.RefStages.lean ====
/-
  The reference's four results in stages: the masked logits, the row maxima, the exponentials, their sums, the
  probabilities, the gradient of a logit, and each stage read at one index.
-/
module

public import proofs.«01_k».proof.Proof.Gen.ReferenceIdeal.Run
public import proofs.«01_k».proof.Proof.Spec
public import Idealize.ShloMosaic.Lib.Pointwise

@[expose] public section

set_option maxRecDepth 16384

noncomputable section

namespace Cert.Proof.Fox.Ref

open ReferenceIdeal ReferenceIdeal.Gen Idealize.ShloMosaic TcCoe Idealize.SL.Sem
open Idealize.ShloMosaic.ValueIdx

/-- Which key each query row sees. -/
def rMask : IVec S16x4096x4096 1 :=
  broadcastInDim S16x4096x4096 ![1, 2] bcast_S4096x4096_S16x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))
/-- The masked logits. -/
def rLog (q k : FVec Ideal S4096x16x64 .f32) (cm : FVec Ideal S4096x16 .f32) : FVec Ideal S16x4096x4096 .f32 :=
  select rMask (addf (Host.dotGeneral dot_S4096x16x64_S4096x16x64_S16x4096x4096_2_2_0_0_1_1 none q k) (subf (broadcastInDim S16x4096x4096 ![0, 1, 2] bcast_S16x4096x1_S16x4096x4096_0_1_2 (broadcastInDim S16x4096x1 ![0, 1] bcast_S16x4096_S16x4096x1_0_1 (transpose S16x4096 [1, 0] cm transposes_S4096x16_S16x4096_1_0))) (broadcastInDim S16x4096x4096 ![0, 1, 2] bcast_S16x1x4096_S16x4096x4096_0_1_2 (broadcastInDim S16x1x4096 ![0, 2] bcast_S16x4096_S16x1x4096_0_2 (transpose S16x4096 [1, 0] cm transposes_S4096x16_S16x4096_1_0))))) (broadcastInDim S16x4096x4096 ![] bcast_S_S16x4096x4096 (id (constant S_ .f32 0xFF800000#32)))
/-- The row maxima, and the reference's second bound on them. -/
def rRed (x : FVec Ideal S16x4096x4096 .f32) : FVec Ideal S16x4096 .f32 :=
  Host.reduce FloatOps.maximumf x (constant S_ .f32 0xFF800000#32) reducesTo_S16x4096x4096_S16x4096_d2 h_S_
def rTop (y : FVec Ideal S16x4096 .f32) : FVec Ideal S16x4096 .f32 :=
  maximumf (broadcastInDim S16x4096 ![] bcast_S_S16x4096 (constant S_ .f32 0xFF800000#32)) y
/-- The shifted exponentials. -/
def rE (x : FVec Ideal S16x4096x4096 .f32) (mx : FVec Ideal S16x4096 .f32) : FVec Ideal S16x4096x4096 .f32 :=
  Host.exp (subf x (broadcastInDim S16x4096x4096 ![0, 1, 2] bcast_S16x4096x1_S16x4096x4096_0_1_2 (broadcastInDim S16x4096x1 ![0, 1] bcast_S16x4096_S16x4096x1_0_1 mx)))
/-- Their row sums. -/
def rZ (e : FVec Ideal S16x4096x4096 .f32) : FVec Ideal S16x4096x1 .f32 :=
  broadcastInDim S16x4096x1 ![0, 1] bcast_S16x4096_S16x4096x1_0_1 (Host.reduceAdd e (constant S_ .f32 0x00000000#32) reducesTo_S16x4096x4096_S16x4096_d2 h_S_)
/-- The probabilities. -/
def rP (e : FVec Ideal S16x4096x4096 .f32) (z : FVec Ideal S16x4096x1 .f32) : FVec Ideal S16x4096x4096 .f32 :=
  Host.divf e (broadcastInDim S16x4096x4096 ![0, 1, 2] bcast_S16x4096x1_S16x4096x4096_0_1_2 z)
/-- The cotangent of the output, heads first. -/
def rD (d : FVec Ideal S4096x16x64 .f32) : FVec Ideal S16x64x4096 .f32 :=
  transpose S16x64x4096 [1, 2, 0] d transposes_S4096x16x64_S16x64x4096_1_2_0
/-- The cotangent of the probabilities. -/
def rDP (v d : FVec Ideal S4096x16x64 .f32) : FVec Ideal S16x4096x4096 .f32 :=
  Host.dotGeneral dot_S16x64x4096_S4096x16x64_S16x4096x4096_1_2_2_0_0_1 none (rD d) v
/-- The cotangent of the row sums. -/
def rN (e : FVec Ideal S16x4096x4096 .f32) (z : FVec Ideal S16x4096x1 .f32) (dp : FVec Ideal S16x4096x4096 .f32) : FVec Ideal S16x4096 .f32 :=
  Host.reduceAdd (Host.negf (shapeCast S16x4096x1 (Host.reduceAdd (mulf (mulf dp (broadcastInDim S16x4096x4096 ![0, 1, 2] bcast_S16x4096x1_S16x4096x4096_0_1_2 (Host.divf (broadcastInDim S16x4096x1 ![] bcast_S_S16x4096x1 (constant S_ .f32 0x3F800000#32)) (mulf z z)))) e) (constant S_ .f32 0x00000000#32) reducesTo_S16x4096x4096_S16x4096_d2 h_S_) shapeCasts_S16x4096_S16x4096x1)) (constant S_ .f32 0x00000000#32) reducesTo_S16x4096x1_S16x4096_d2 h_S_
/-- The cotangent of the logits. -/
def rDS (e : FVec Ideal S16x4096x4096 .f32) (z : FVec Ideal S16x4096x1 .f32) (dp : FVec Ideal S16x4096x4096 .f32) (n : FVec Ideal S16x4096 .f32) : FVec Ideal S16x4096x4096 .f32 :=
  select rMask (mulf (addf (Host.divf dp (broadcastInDim S16x4096x4096 ![0, 1, 2] bcast_S16x4096x1_S16x4096x4096_0_1_2 z)) (broadcastInDim S16x4096x4096 ![0, 1] bcast_S16x4096_S16x4096x4096_0_1 n)) e) (broadcastInDim S16x4096x4096 ![] bcast_S_S16x4096x4096 (constant S_ .f32 0x00000000#32))
/-- The four results from the probabilities and the cotangent of the logits. -/
def rDv (d : FVec Ideal S4096x16x64 .f32) (p : FVec Ideal S16x4096x4096 .f32) : FVec Ideal S4096x16x64 .f32 :=
  transpose S4096x16x64 [2, 0, 1] (Host.dotGeneral dot_S16x64x4096_S16x4096x4096_S16x64x4096_2_1_1_2_0_0 none (rD d) p) transposes_S16x64x4096_S4096x16x64_2_0_1
def rDk (ds : FVec Ideal S16x4096x4096 .f32) (q : FVec Ideal S4096x16x64 .f32) : FVec Ideal S4096x16x64 .f32 :=
  transpose S4096x16x64 [1, 0, 2] (Host.dotGeneral dot_S16x4096x4096_S4096x16x64_S16x4096x64_1_0_2_2_0_1 none ds q) transposes_S16x4096x64_S4096x16x64_1_0_2
def rDq (ds : FVec Ideal S16x4096x4096 .f32) (k : FVec Ideal S4096x16x64 .f32) : FVec Ideal S4096x16x64 .f32 :=
  transpose S4096x16x64 [1, 0, 2] (Host.dotGeneral dot_S16x4096x4096_S4096x16x64_S16x4096x64_2_0_1_2_0_1 none ds k) transposes_S16x4096x64_S4096x16x64_1_0_2
def rDc (ds : FVec Ideal S16x4096x4096 .f32) : FVec Ideal S4096x16 .f32 :=
  transpose S4096x16 [1, 0] (addf
    (Host.reduceAdd (shapeCast S16x1x4096 (Host.reduceAdd (Host.negf ds) (constant S_ .f32 0x00000000#32) reducesTo_S16x4096x4096_S16x4096_d1 h_S_) shapeCasts_S16x4096_S16x1x4096) (constant S_ .f32 0x00000000#32) reducesTo_S16x1x4096_S16x4096_d1 h_S_)
    (Host.reduceAdd (shapeCast S16x4096x1 (Host.reduceAdd ds (constant S_ .f32 0x00000000#32) reducesTo_S16x4096x4096_S16x4096_d2 h_S_) shapeCasts_S16x4096_S16x4096x1) (constant S_ .f32 0x00000000#32) reducesTo_S16x4096x1_S16x4096_d2 h_S_)) transposes_S16x4096_S4096x16_1_0

section
variable (m : (ℓ : Loc nD τ sig) → Buf (Elt Ideal) ℓ) (c : Dev nD)
abbrev aQ : FVec Ideal S4096x16x64 .f32 := m ((c.tc : Thread nD τ).loc main_arg0)
abbrev aK : FVec Ideal S4096x16x64 .f32 := m ((c.tc : Thread nD τ).loc main_arg1)
abbrev aV : FVec Ideal S4096x16x64 .f32 := m ((c.tc : Thread nD τ).loc main_arg2)
abbrev aC : FVec Ideal S4096x16 .f32 := m ((c.tc : Thread nD τ).loc main_arg3)
abbrev aD : FVec Ideal S4096x16x64 .f32 := m ((c.tc : Thread nD τ).loc main_arg4)
end

/-- The exponentials, from the arguments. -/
def tE (q k : FVec Ideal S4096x16x64 .f32) (cm : FVec Ideal S4096x16 .f32) : FVec Ideal S16x4096x4096 .f32 := rE (rLog q k cm) (rTop (rRed (rLog q k cm)))
def tP (q k : FVec Ideal S4096x16x64 .f32) (cm : FVec Ideal S4096x16 .f32) : FVec Ideal S16x4096x4096 .f32 := rP (tE q k cm) (rZ (tE q k cm))
def tDS (q k v d : FVec Ideal S4096x16x64 .f32) (cm : FVec Ideal S4096x16 .f32) : FVec Ideal S16x4096x4096 .f32 :=
  rDS (tE q k cm) (rZ (tE q k cm)) (rDP v d) (rN (tE q k cm) (rZ (tE q k cm)) (rDP v d))

theorem res_dv (m : (ℓ : Loc nD τ sig) → Buf (Elt Ideal) ℓ) (c : Dev nD) :
    Value.res_main_v49 m c = rDv (aD m c) (tP (aQ m c) (aK m c) (aC m c)) := by
  unfold Value.res_main_v49; rfl
theorem res_dk (m : (ℓ : Loc nD τ sig) → Buf (Elt Ideal) ℓ) (c : Dev nD) :
    Value.res_main_v72 m c = rDk (tDS (aQ m c) (aK m c) (aV m c) (aD m c) (aC m c)) (aQ m c) := by
  unfold Value.res_main_v72; rfl
theorem res_dq (m : (ℓ : Loc nD τ sig) → Buf (Elt Ideal) ℓ) (c : Dev nD) :
    Value.res_main_v74 m c = rDq (tDS (aQ m c) (aK m c) (aV m c) (aD m c) (aC m c)) (aK m c) := by
  unfold Value.res_main_v74; rfl
theorem res_dc (m : (ℓ : Loc nD τ sig) → Buf (Elt Ideal) ℓ) (c : Dev nD) :
    Value.res_main_v75 m c = rDc (tDS (aQ m c) (aK m c) (aV m c) (aD m c) (aC m c)) := by
  unfold Value.res_main_v75; rfl

end Cert.Proof.Fox.Ref

end
-- ==== Proof.RefMax.lean ====
/-
  The maximum of a row of real numbers, and what the row maxima of the reference are.
-/
module

public import proofs.«01_k».proof.Proof.RefStages

@[expose] public section

set_option maxRecDepth 16384

noncomputable section

namespace Cert.Proof.Fox.Ref

open Idealize.ShloMosaic TcCoe Idealize.SL.Sem

theorem red_max {n0 n1 n2 : ℕ} (x : FVec Ideal ⟨3, ![n0, n1, n2]⟩ .f32) (init : FVec Ideal ⟨0, ![]⟩ .f32)
    (h : (⟨3, ![n0, n1, n2]⟩ : Shape).ReducesTo [2] ⟨2, ![n0, n1]⟩) (hu : 0 < (⟨0, ![]⟩ : Shape).numel) (a : Fin n0) (b : Fin n1) :
    Host.reduce FloatOps.maximumf x init h hu (ix2 a b) = (Finset.univ : Finset (Fin n2)).fold max (init (Shape.Idx.first hu)) fun k => x (ix3 a b k) := by
  rw [Host.reduce_eq_fold, Shape.ReducesTo.fold_fiber_r3_a2]
  rfl

theorem red_max_real {n0 n1 n2 : ℕ} (x : FVec Ideal ⟨3, ![n0, n1, n2]⟩ .f32) (init : FVec Ideal ⟨0, ![]⟩ .f32)
    (h : (⟨3, ![n0, n1, n2]⟩ : Shape).ReducesTo [2] ⟨2, ![n0, n1]⟩) (hu : 0 < (⟨0, ![]⟩ : Shape).numel) (hi : ∀ i, init i = (⊥ : EReal))
    (a : Fin n0) (b : Fin n1) (k : Fin n2) (h0 : x (ix3 a b k) ≠ (⊥ : EReal)) (h1 : ∀ i, x (ix3 a b i) ≠ (⊤ : EReal)) :
    ∃ m : ℝ, Host.reduce FloatOps.maximumf x init h hu (ix2 a b) = ((m : ℝ) : EReal) := by
  rw [red_max, hi]
  exact Spec.fold_max_real _ k h0 h1

theorem ninf : Ideal.ofBits .f32 0xFF800000#32 = (⊥ : EReal) := by simp [Ideal.ofBits, Ideal.ieee]
theorem pinf : Ideal.ofBits .f32 0x7F800000#32 = (⊤ : EReal) := by simp [Ideal.ofBits, Ideal.ieee]

open ReferenceIdeal ReferenceIdeal.Gen

theorem rTop_at (y : FVec Ideal S16x4096 .f32) (h : Fin 16) (t : Fin 4096) : rTop y (ix2 h t) = y (ix2 h t) := by
  pointwise [rTop]
  rw [ninf]; exact max_eq_right bot_le
theorem rMax_real (x : FVec Ideal S16x4096x4096 .f32) (h : Fin 16) (t k : Fin 4096) (h0 : x (ix3 h t k) ≠ (⊥ : EReal))
    (h1 : ∀ i, x (ix3 h t i) ≠ (⊤ : EReal)) : ∃ m : ℝ, rTop (rRed x) (ix2 h t) = ((m : ℝ) : EReal) := by
  obtain ⟨m, hm⟩ := red_max_real x (constant S_ .f32 0xFF800000#32) reducesTo_S16x4096x4096_S16x4096_d2 h_S_ (fun _ => ninf) h t k h0 h1
  exact ⟨m, (rTop_at _ h t).trans hm⟩
end Cert.Proof.Fox.Ref

end
-- ==== Proof.RefValue.lean ====
/-
  The reference's stages on finite inputs: each is the real formula of `Spec`, and so are its four results.
-/
module

public import proofs.«01_k».proof.Proof.RefMax

@[expose] public section

set_option maxRecDepth 16384

noncomputable section

namespace Cert.Proof.Fox.Ref

open Idealize.ShloMosaic TcCoe Idealize.SL.Sem
open ReferenceIdeal ReferenceIdeal.Gen
open Finset (range)

theorem toInt_pos (a : ℕ) (ha : a < 4096) : (BitVec.ofNat 32 a).toInt = a := by
  have h : (BitVec.ofNat 32 a).toNat = a := by rw [BitVec.toNat_ofNat]; exact Nat.mod_eq_of_lt (by omega)
  rw [BitVec.toInt_eq_toNat_of_lt (by rw [h]; omega), h]
theorem le_word (a b : ℕ) (ha : a < 4096) (hb : b < 4096) :
    IntOp.cmpi .sle (BitVec.ofNat 32 a) (BitVec.ofNat 32 b) = if a ≤ b then 1#1 else 0#1 := by
  show BitVec.ofBool ((BitVec.ofNat 32 a).sle (BitVec.ofNat 32 b)) = _
  rw [BitVec.sle_eq_decide, toInt_pos a ha, toInt_pos b hb]
  by_cases h : a ≤ b
  · rw [if_pos h, decide_eq_true (by exact_mod_cast h)]; rfl
  · rw [if_neg h, decide_eq_false (by exact_mod_cast h)]; rfl
/-- A comparison of two positions, as a choice. -/
theorem sel_le {α : Type} (a b : ℕ) (ha : a < 4096) (hb : b < 4096) (x y : α) :
    Scalar.select (IntOp.cmpi .sle (BitVec.ofNat 32 a) (BitVec.ofNat 32 b)) x y = if a ≤ b then x else y := by
  rw [le_word a b ha hb]; split_ifs <;> rfl

theorem rLog_read (q k : FVec Ideal S4096x16x64 .f32) (cm : FVec Ideal S4096x16 .f32) (h : Fin 16) (t s : Fin 4096) :
    rLog q k cm (ix3 h t s) = if s.val ≤ t.val then ∑ x : Fin 64, q (ix3 t h x) * k (ix3 s h x) + (cm (ix2 t h) - cm (ix2 s h)) else (⊥ : EReal) := by
  pointwise [rLog, rMask]
  rw [sel_le _ _ s.2 t.2]
  congr 1
theorem rE_read (x : FVec Ideal S16x4096x4096 .f32) (mx : FVec Ideal S16x4096 .f32) (h : Fin 16) (t s : Fin 4096) :
    rE x mx (ix3 h t s) = Ideal.exp (x (ix3 h t s) - mx (ix2 h t)) := by
  pointwise [rE]
theorem rZ_read (x : FVec Ideal S16x4096x4096 .f32) (h : Fin 16) (t : Fin 4096) : rZ x (ix3 h t 0) = ∑ s : Fin 4096, x (ix3 h t s) := by
  pointwise [rZ]
theorem rP_read (e : FVec Ideal S16x4096x4096 .f32) (z : FVec Ideal S16x4096x1 .f32) (h : Fin 16) (t s : Fin 4096) :
    rP e z (ix3 h t s) = Ideal.div (e (ix3 h t s)) (z (ix3 h t 0)) := by
  pointwise [rP]
theorem rDP_read (v d : FVec Ideal S4096x16x64 .f32) (h : Fin 16) (t s : Fin 4096) :
    rDP v d (ix3 h t s) = ∑ x : Fin 64, d (ix3 t h x) * v (ix3 s h x) := by
  pointwise [rDP, rD]
theorem rN_read (e : FVec Ideal S16x4096x4096 .f32) (z : FVec Ideal S16x4096x1 .f32) (dp : FVec Ideal S16x4096x4096 .f32) (h : Fin 16) (t : Fin 4096) :
    rN e z dp (ix2 h t) = -∑ s : Fin 4096, dp (ix3 h t s) * Ideal.div 1 (z (ix3 h t 0) * z (ix3 h t 0)) * e (ix3 h t s) := by
  pointwise [rN]
  exact Fin.sum_univ_one _
theorem rDS_read (e : FVec Ideal S16x4096x4096 .f32) (z : FVec Ideal S16x4096x1 .f32) (dp : FVec Ideal S16x4096x4096 .f32) (n : FVec Ideal S16x4096 .f32)
    (h : Fin 16) (t s : Fin 4096) : rDS e z dp n (ix3 h t s)
      = if s.val ≤ t.val then (Ideal.div (dp (ix3 h t s)) (z (ix3 h t 0)) + n (ix2 h t)) * e (ix3 h t s) else (0 : EReal) := by
  pointwise [rDS, rMask]
  rw [sel_le _ _ s.2 t.2]
theorem rDv_read (d : FVec Ideal S4096x16x64 .f32) (p : FVec Ideal S16x4096x4096 .f32) (s : Fin 4096) (h : Fin 16) (l : Fin 64) :
    rDv d p (ix3 s h l) = ∑ t : Fin 4096, d (ix3 t h l) * p (ix3 h t s) := by
  pointwise [rDv, rD]
theorem rDk_read (ds : FVec Ideal S16x4096x4096 .f32) (q : FVec Ideal S4096x16x64 .f32) (s : Fin 4096) (h : Fin 16) (l : Fin 64) :
    rDk ds q (ix3 s h l) = ∑ t : Fin 4096, ds (ix3 h t s) * q (ix3 t h l) := by
  pointwise [rDk]
theorem rDq_read (ds : FVec Ideal S16x4096x4096 .f32) (k : FVec Ideal S4096x16x64 .f32) (t : Fin 4096) (h : Fin 16) (l : Fin 64) :
    rDq ds k (ix3 t h l) = ∑ s : Fin 4096, ds (ix3 h t s) * k (ix3 s h l) := by
  pointwise [rDq]
theorem rDc_read (ds : FVec Ideal S16x4096x4096 .f32) (t : Fin 4096) (h : Fin 16) :
    rDc ds (ix2 t h) = (∑ u : Fin 4096, -ds (ix3 h u t)) + ∑ s : Fin 4096, ds (ix3 h t s) := by
  pointwise [rDc]
  exact congrArg₂ (· + ·) (Fin.sum_univ_one _) (Fin.sum_univ_one _)

section
variable {q k v d : FVec Ideal S4096x16x64 .f32} {cm : FVec Ideal S4096x16 .f32} {Q K V D : ℕ → ℕ → ℕ → ℝ} {C : ℕ → ℕ → ℝ}
  (hq : ∀ (t : Fin 4096) (h : Fin 16) (l : Fin 64), q (ix3 t h l) = ((Q t h l : ℝ) : EReal))
  (hk : ∀ (t : Fin 4096) (h : Fin 16) (l : Fin 64), k (ix3 t h l) = ((K t h l : ℝ) : EReal))
  (hv : ∀ (t : Fin 4096) (h : Fin 16) (l : Fin 64), v (ix3 t h l) = ((V t h l : ℝ) : EReal))
  (hd : ∀ (t : Fin 4096) (h : Fin 16) (l : Fin 64), d (ix3 t h l) = ((D t h l : ℝ) : EReal))
  (hc : ∀ (t : Fin 4096) (h : Fin 16), cm (ix2 t h) = ((C t h : ℝ) : EReal))

include hq hk hc in
theorem rLog_real (h : Fin 16) (t s : Fin 4096) :
    rLog q k cm (ix3 h t s) = if s.val ≤ t.val then ((Spec.lg Q K C h t s : ℝ) : EReal) else (⊥ : EReal) := by
  rw [rLog_read]
  congr 1
  rw [Spec.sum_fin _ (fun x => Q t h x * K s h x) fun x => by rw [hq, hk, EReal.coe_mul], hc, hc, ← EReal.coe_sub, ← EReal.coe_add]
  rfl

include hq hk hc in
theorem tE_real (h : Fin 16) (t : Fin 4096) : ∃ m : ℝ,
    (∀ s : Fin 4096, tE q k cm (ix3 h t s) = ((if s.val ≤ t.val then Real.exp (Spec.lg Q K C h t s - m) else 0 : ℝ) : EReal))
    ∧ rZ (tE q k cm) (ix3 h t 0) = ((Spec.Z Q K C m h t : ℝ) : EReal) := by
  obtain ⟨m, hm⟩ := rMax_real (rLog q k cm) h t ⟨0, by omega⟩
    (by rw [rLog_real hq hk hc, if_pos (Nat.zero_le _)]; exact EReal.coe_ne_bot _)
    (fun i => by rw [rLog_real hq hk hc]; split_ifs <;> simp)
  have hE : ∀ s : Fin 4096, tE q k cm (ix3 h t s) = ((if s.val ≤ t.val then Real.exp (Spec.lg Q K C h t s - m) else 0 : ℝ) : EReal) := fun s => by
    unfold tE
    rw [rE_read, rLog_real hq hk hc, hm]
    split_ifs
    · rw [← EReal.coe_sub, Ideal.exp_coe]
    · rw [EReal.bot_sub, Ideal.exp_bot, EReal.coe_zero]
  exact ⟨m, hE, by rw [rZ_read]; exact Spec.sum_fin _ _ hE⟩

theorem div_real (x y : ℝ) (hy : y ≠ 0) : Ideal.div (x : EReal) (y : EReal) = ((x / y : ℝ) : EReal) := by
  rw [Ideal.div_coe hy, ← EReal.coe_mul]; congr 1; ring

include hq hk hc in
theorem tP_real (h : Fin 16) (t s : Fin 4096) : tP q k cm (ix3 h t s) = ((Spec.P Q K C h t s : ℝ) : EReal) := by
  obtain ⟨m, hE, hZ⟩ := tE_real hq hk hc h t
  unfold tP
  rw [rP_read, hE, hZ, div_real _ _ (Spec.Z_pos Q K C m h t).ne', Spec.P_shift]

include hv hd in
theorem rDP_real (h : Fin 16) (t s : Fin 4096) : rDP v d (ix3 h t s) = ((Spec.DP V D h t s : ℝ) : EReal) := by
  rw [rDP_read]
  exact Spec.sum_fin _ (fun x => D t h x * V s h x) fun x => by rw [hd, hv, EReal.coe_mul]

include hq hk hv hd hc in
theorem tDS_real (h : Fin 16) (t s : Fin 4096) : tDS q k v d cm (ix3 h t s) = ((Spec.DS Q K V D C h t s : ℝ) : EReal) := by
  obtain ⟨m, hE, hZ⟩ := tE_real hq hk hc h t
  unfold tDS
  have hz := (Spec.Z_pos Q K C m h t).ne'
  rw [rDS_read]
  split_ifs with hs
  · rw [rN_read, hZ, rDP_real hv hd, hE, div_real _ _ hz]
    rw [Spec.sum_fin _ (fun u => Spec.DP V D h t u * (1 / (Spec.Z Q K C m h t * Spec.Z Q K C m h t))
        * (if u ≤ t.val then Real.exp (Spec.lg Q K C h t u - m) else 0)) fun u => by
      rw [rDP_real hv hd, hE, ← EReal.coe_mul (Spec.Z Q K C m h t), ← EReal.coe_one, div_real _ _ (mul_ne_zero hz hz), ← EReal.coe_mul, ← EReal.coe_mul]]
    rw [← EReal.coe_neg, ← EReal.coe_add, ← EReal.coe_mul, Spec.DS_quotient]
  · rw [Spec.DS_future Q K V D C _ _ _ (Nat.lt_of_not_le hs), EReal.coe_zero]

include hq hk hc hd in
theorem dv_real (s : Fin 4096) (h : Fin 16) (l : Fin 64) :
    rDv d (tP q k cm) (ix3 s h l) = ((∑ t ∈ range 4096, D t h l * Spec.P Q K C h t s : ℝ) : EReal) := by
  rw [rDv_read]
  exact Spec.sum_fin _ (fun t => D t h l * Spec.P Q K C h t s) fun t => by rw [hd, tP_real hq hk hc, EReal.coe_mul]

include hq hk hv hd hc in
theorem dk_real (s : Fin 4096) (h : Fin 16) (l : Fin 64) :
    rDk (tDS q k v d cm) q (ix3 s h l) = ((∑ t ∈ range 4096, Q t h l * Spec.DS Q K V D C h t s : ℝ) : EReal) := by
  rw [rDk_read]
  exact Spec.sum_fin _ (fun t => Q t h l * Spec.DS Q K V D C h t s) fun t => by
    rw [hq, tDS_real hq hk hv hd hc, EReal.coe_mul, mul_comm]

include hq hk hv hd hc in
theorem dq_real (t : Fin 4096) (h : Fin 16) (l : Fin 64) :
    rDq (tDS q k v d cm) k (ix3 t h l) = ((∑ s ∈ range 4096, Spec.DS Q K V D C h t s * K s h l : ℝ) : EReal) := by
  rw [rDq_read]
  exact Spec.sum_fin _ (fun s => Spec.DS Q K V D C h t s * K s h l) fun s => by
    rw [hk, tDS_real hq hk hv hd hc, EReal.coe_mul]

include hq hk hv hd hc in
theorem dc_real (t : Fin 4096) (h : Fin 16) :
    rDc (tDS q k v d cm) (ix2 t h)
      = ((∑ s ∈ range 4096, Spec.DS Q K V D C h t s - ∑ u ∈ range 4096, Spec.DS Q K V D C h u t : ℝ) : EReal) := by
  rw [rDc_read]
  rw [Spec.sum_fin _ (fun s => Spec.DS Q K V D C h t s) fun s => tDS_real hq hk hv hd hc h t s,
    Spec.sum_fin _ (fun u => -Spec.DS Q K V D C h u t) fun u => by rw [tDS_real hq hk hv hd hc, EReal.coe_neg]]
  rw [← EReal.coe_add, Finset.sum_neg_distrib, neg_add_eq_sub]
end

end Cert.Proof.Fox.Ref

end
-- ==== Proof.Tile.lean ====
/-
  One head's tile of a step, over the ideal numbers: its weights are the probabilities, its gradient of the logits is the
  real one, and each accumulator gains the tile's sum.
-/
module

public import proofs.«01_k».proof.Proof.Steps
public import proofs.«01_k».proof.Proof.RefValue

@[expose] public section

set_option maxRecDepth 16384

noncomputable section

namespace Cert.Proof.Fox.Tile

open KernelIdeal KernelIdeal.Gen Idealize.ShloMosaic TcCoe Idealize.SL.Sem
open Finset (range)

theorem mask_bot : (Named.named κ "mask" 0xF149F2CA#32 : Ideal .f32) = (⊥ : EReal) := rfl
theorem sel_ge {α : Type} (a b : ℕ) (ha : a < 512) (hb : b < 512) (x y : α) :
    Scalar.select (IntOp.cmpi .sge (BitVec.ofNat 32 a) (BitVec.ofNat 32 b)) x y = if b ≤ a then x else y :=
  Ref.sel_le b a (by omega) (by omega) x y

theorem pay14_read (q k : Vec Ideal S512x128 .bf16) (ls : Vec Ideal S512x1 .f32) (a b : Fin 512) :
    k0_pay14 (F := Ideal) q k ls (ix2 a b) = Ideal.exp ((∑ l : Fin 128, q (ix2 a l) * k (ix2 b l) : EReal) - ls (ix2 a 0)) := by
  pointwise [k0_pay14, k0_pay11, k0_pay12]
theorem pay84_read (q k : Vec Ideal S512x128 .bf16) (ls : Vec Ideal S512x1 .f32) (a b : Fin 512) :
    k0_pay84 (F := Ideal) q k ls (ix2 a b)
      = Ideal.exp ((if b.val ≤ a.val then (∑ l : Fin 128, q (ix2 a l) * k (ix2 b l) : EReal) else ⊥) - ls (ix2 a 0)) := by
  pointwise [k0_pay84, k0_pay81, k0_pay82]
  rw [mask_bot, sel_ge _ _ a.2 b.2]
theorem hS_read (p : FVec Ideal S512x512 .f32) (d v : Vec Ideal S512x64 .bf16) (dl : Vec Ideal S512x1 .f32) (a b : Fin 512) :
    hS (F := Ideal) p d v dl (ix2 a b) = p (ix2 a b) * ((∑ l : Fin 64, d (ix2 a l) * v (ix2 b l) : EReal) - dl (ix2 a 0)) := by
  pointwise [hS]
theorem hV_read (p : FVec Ideal S512x512 .f32) (d : Vec Ideal S512x64 .bf16) (old : Vec Ideal S1x64x512 .f32) (l : Fin 64) (b : Fin 512) :
    hV (F := Ideal) p d old (ix3 0 l b) = old (ix3 0 l b) + (∑ a : Fin 512, d (ix2 a l) * p (ix2 a b) : EReal) := by
  pointwise [hV]
theorem hK_read (q : Vec Ideal S512x128 .bf16) (s : FVec Ideal S512x512 .bf16) (old : Vec Ideal S1x128x512 .f32) (l : Fin 128) (b : Fin 512) :
    hK (F := Ideal) q s old (ix3 0 l b) = old (ix3 0 l b) + (∑ a : Fin 512, q (ix2 a l) * s (ix2 a b) : EReal) := by
  pointwise [hK]
theorem hQ_read (k : Vec Ideal S512x128 .bf16) (s : FVec Ideal S512x512 .bf16) (old : Vec Ideal S512x128 .f32) (a : Fin 512) (l : Fin 128) :
    hQ (F := Ideal) k s old (ix2 a l) = old (ix2 a l) + (∑ b : Fin 512, s (ix2 a b) * k (ix2 b l) : EReal) := by
  pointwise [hQ]

section
variable {Q K V D : ℕ → ℕ → ℕ → ℝ} {C : ℕ → ℕ → ℝ} {h T S : ℕ}
  {q k : Vec Ideal S512x128 .bf16} {v d : Vec Ideal S512x64 .bf16} {ls dl : Vec Ideal S512x1 .f32}
  {p : FVec Ideal S512x512 .f32} {g : FVec Ideal S512x512 .bf16}
  (hq : ∀ (a : Fin 512) (l : Fin 128), q (ix2 a l) = ((Spec.QA Q C h (T + a) l : ℝ) : EReal))
  (hk : ∀ (b : Fin 512) (l : Fin 128), k (ix2 b l) = ((Spec.KA K C h (S + b) l : ℝ) : EReal))
  (hv : ∀ (b : Fin 512) (l : Fin 64), v (ix2 b l) = ((V (S + b) h l : ℝ) : EReal))
  (hd : ∀ (a : Fin 512) (l : Fin 64), d (ix2 a l) = ((D (T + a) h l : ℝ) : EReal))
  (hl : ∀ a : Fin 512, ∃ m : ℝ, ls (ix2 a 0) = ((m + Real.log (Spec.Z Q K C m h (T + a)) : ℝ) : EReal))
  (he : ∀ a : Fin 512, dl (ix2 a 0) = ((Spec.DL Q K V D C h (T + a) : ℝ) : EReal))
  (hp : ∀ a b : Fin 512, p (ix2 a b) = ((Spec.P Q K C h (T + a) (S + b) : ℝ) : EReal))
  (hg : ∀ a b : Fin 512, g (ix2 a b) = ((Spec.DS Q K V D C h (T + a) (S + b) : ℝ) : EReal))

include hq hk in
theorem dot_real (a b : Fin 512) : (∑ l : Fin 128, q (ix2 a l) * k (ix2 b l) : EReal) = ((Spec.lg Q K C h (T + a) (S + b) : ℝ) : EReal) := by
  rw [Spec.sum_fin _ (fun l => Spec.QA Q C h (T + a) l * Spec.KA K C h (S + b) l) fun l => by rw [hq, hk, EReal.coe_mul], Spec.QA_KA]

include hq hk hl in
/-- Weights of a tile all of whose keys come before its queries. -/
theorem pay14_real (hTS : S + 512 ≤ T) (a b : Fin 512) : k0_pay14 (F := Ideal) q k ls (ix2 a b) = ((Spec.P Q K C h (T + a) (S + b) : ℝ) : EReal) := by
  obtain ⟨m, hm⟩ := hl a
  rw [pay14_read, dot_real hq hk, hm, ← EReal.coe_sub, Ideal.exp_coe, Spec.P_log Q K C m h _ _ (by omega)]

include hq hk hl in
/-- Weights of a tile on the diagonal. -/
theorem pay84_real (hTS : S = T) (a b : Fin 512) : k0_pay84 (F := Ideal) q k ls (ix2 a b) = ((Spec.P Q K C h (T + a) (S + b) : ℝ) : EReal) := by
  obtain ⟨m, hm⟩ := hl a
  rw [pay84_read, dot_real hq hk, hm]
  split_ifs with c
  · rw [← EReal.coe_sub, Ideal.exp_coe, Spec.P_log Q K C m h _ _ (by omega)]
  · rw [EReal.bot_sub, Ideal.exp_bot, Spec.P_future Q K C h _ _ (by omega), EReal.coe_zero]

include hp hd hv he in
theorem hS_real (a b : Fin 512) : hS (F := Ideal) p d v dl (ix2 a b) = ((Spec.DS Q K V D C h (T + a) (S + b) : ℝ) : EReal) := by
  rw [hS_read, hp, he, Spec.sum_fin _ (fun l => D (T + a) h l * V (S + b) h l) fun l => by rw [hd, hv, EReal.coe_mul], ← EReal.coe_sub, ← EReal.coe_mul]
  rfl

include hd hp in
theorem hV_real (old : Vec Ideal S1x64x512 .f32) (l : Fin 64) (b : Fin 512) (r : ℝ) (ho : old (ix3 0 l b) = (r : EReal)) :
    hV (F := Ideal) p d old (ix3 0 l b) = ((r + ∑ a ∈ range 512, D (T + a) h l * Spec.P Q K C h (T + a) (S + b) : ℝ) : EReal) := by
  rw [hV_read, ho, Spec.sum_fin _ (fun a => D (T + a) h l * Spec.P Q K C h (T + a) (S + b)) fun a => by rw [hd, hp, EReal.coe_mul], ← EReal.coe_add]

include hq hg in
theorem hK_real (old : Vec Ideal S1x128x512 .f32) (l : Fin 128) (b : Fin 512) (r : ℝ) (ho : old (ix3 0 l b) = (r : EReal)) :
    hK (F := Ideal) q g old (ix3 0 l b) = ((r + ∑ a ∈ range 512, Spec.QA Q C h (T + a) l * Spec.DS Q K V D C h (T + a) (S + b) : ℝ) : EReal) := by
  rw [hK_read, ho, Spec.sum_fin _ (fun a => Spec.QA Q C h (T + a) l * Spec.DS Q K V D C h (T + a) (S + b)) fun a => by rw [hq, hg, EReal.coe_mul], ← EReal.coe_add]

include hk hg in
theorem hQ_real (old : Vec Ideal S512x128 .f32) (a : Fin 512) (l : Fin 128) (r : ℝ) (ho : old (ix2 a l) = (r : EReal)) :
    hQ (F := Ideal) k g old (ix2 a l) = ((r + ∑ b ∈ range 512, Spec.DS Q K V D C h (T + a) (S + b) * Spec.KA K C h (S + b) l : ℝ) : EReal) := by
  rw [hQ_read, ho, Spec.sum_fin _ (fun b => Spec.DS Q K V D C h (T + a) (S + b) * Spec.KA K C h (S + b) l) fun b => by rw [hk, hg, EReal.coe_mul], ← EReal.coe_add]
end

end Cert.Proof.Fox.Tile

end
-- ==== Proof.Traj.lean ====
/-
  The three accumulators after each grid point, on finite inputs: the real sums over the tiles the points have met.
-/
module

public import proofs.«01_k».proof.Proof.Places
public import proofs.«01_k».proof.Proof.Tile

@[expose] public section

set_option maxRecDepth 16384

noncomputable section

namespace Cert.Proof.Fox

open KernelIdeal KernelIdeal.Gen Cert.Proof.FoxParts Idealize.ShloMosaic TcCoe Idealize.SL.Sem
open Finset (range)

/-- The arrays a pipeline reads, when they hold the augmented rows of real inputs. -/
structure RealIn (A : (w : Fin 9) → Buf (Elt Ideal) (((cfgA (F := Ideal)).win w).arr.view.loc ((0 : Dev nD) : Thread nD τ)))
    (Q K V D : ℕ → ℕ → ℕ → ℝ) (C : ℕ → ℕ → ℝ) : Prop where
  q : ∀ (t : Fin 4096) (x : Fin 2048), A 0 (ix2 t x) = ((Spec.QA Q C (x.val / 128) t (x.val % 128) : ℝ) : EReal)
  k : ∀ (t : Fin 4096) (x : Fin 2048), A 1 (ix2 t x) = ((Spec.KA K C (x.val / 128) t (x.val % 128) : ℝ) : EReal)
  v : ∀ (t : Fin 4096) (x : Fin 2048), x.val % 128 < 64 → A 2 (ix2 t x) = ((V t (x.val / 128) (x.val % 128) : ℝ) : EReal)
  d : ∀ (t : Fin 4096) (x : Fin 1024), A 3 (ix2 t x) = ((D t (x.val / 64) (x.val % 64) : ℝ) : EReal)
  l : ∀ (t : Fin 4096) (x : Fin 1024), ∃ m : ℝ, A 4 (ix2 t x) = ((m + Real.log (Spec.Z Q K C m (x.val / 64) t) : ℝ) : EReal)
  e : ∀ (t : Fin 4096) (x : Fin 1024), A 5 (ix2 t x) = ((Spec.DL Q K V D C (x.val / 64) t : ℝ) : EReal)

section
variable {A : (w : Fin 9) → Buf (Elt Ideal) (((cfgA (F := Ideal)).win w).arr.view.loc ((0 : Dev nD) : Thread nD τ))}
  {Q K V D : ℕ → ℕ → ℕ → ℝ} {C : ℕ → ℕ → ℝ} (R : RealIn A Q K V D C) (t : Fin grid0.N) (e : Fin 8)

theorem div128 (p e l : ℕ) (h : l < 128) : (1024 * p + (128 * e + l)) / 128 = 8 * p + e := by omega
theorem mod128 (p e l : ℕ) (h : l < 128) : (1024 * p + (128 * e + l)) % 128 = l := by omega
theorem div64 (p e l : ℕ) (h : l < 64) : (512 * p + (64 * e + l)) / 64 = 8 * p + e := by omega
theorem mod64 (p e l : ℕ) (h : l < 64) : (512 * p + (64 * e + l)) % 64 = l := by omega

include R
theorem q_at (a : Fin 512) (l : Fin 128) :
    s128 e (blkA A 0 t) (ix2 a l) = ((Spec.QA Q C (8 * ptP_ t + e) (512 * ptI_ t + a) l : ℝ) : EReal) := by
  refine (s128_at e _ a l).trans ((tileAt0 A t a _).trans ((R.q _ _).trans ?_))
  show ((Spec.QA Q C ((1024 * ptP_ t + (128 * e.val + l.val)) / 128) (512 * ptI_ t + a) ((1024 * ptP_ t + (128 * e.val + l.val)) % 128) : ℝ) : EReal) = _
  rw [div128 _ _ _ l.2, mod128 _ _ _ l.2]
theorem k_at (a : Fin 512) (l : Fin 128) :
    s128 e (blkA A 1 t) (ix2 a l) = ((Spec.KA K C (8 * ptP_ t + e) (512 * ptJ_ t + a) l : ℝ) : EReal) := by
  refine (s128_at e _ a l).trans ((tileAt1 A t a _).trans ((R.k _ _).trans ?_))
  show ((Spec.KA K C ((1024 * ptP_ t + (128 * e.val + l.val)) / 128) (512 * ptJ_ t + a) ((1024 * ptP_ t + (128 * e.val + l.val)) % 128) : ℝ) : EReal) = _
  rw [div128 _ _ _ l.2, mod128 _ _ _ l.2]
theorem v_at (a : Fin 512) (l : Fin 64) :
    s128v e (blkA A 2 t) (ix2 a l) = ((V (512 * ptJ_ t + a) (8 * ptP_ t + e) l : ℝ) : EReal) := by
  have hl : l.val < 128 := by omega
  refine (s128v_at e _ a l).trans ((tileAt2 A t a _).trans ((R.v _ _ ?_).trans ?_))
  · show (1024 * ptP_ t + (128 * e.val + l.val)) % 128 < 64
    rw [mod128 _ _ _ hl]; exact l.2
  show ((V (512 * ptJ_ t + a) ((1024 * ptP_ t + (128 * e.val + l.val)) / 128) ((1024 * ptP_ t + (128 * e.val + l.val)) % 128) : ℝ) : EReal) = _
  rw [div128 _ _ _ hl, mod128 _ _ _ hl]
theorem d_at (a : Fin 512) (l : Fin 64) :
    s64 e (blkA A 3 t) (ix2 a l) = ((D (512 * ptI_ t + a) (8 * ptP_ t + e) l : ℝ) : EReal) := by
  refine (s64_at e _ a l).trans ((tileAt3 A t a _).trans ((R.d _ _).trans ?_))
  show ((D (512 * ptI_ t + a) ((512 * ptP_ t + (64 * e.val + l.val)) / 64) ((512 * ptP_ t + (64 * e.val + l.val)) % 64) : ℝ) : EReal) = _
  rw [div64 _ _ _ l.2, mod64 _ _ _ l.2]
theorem l_at (a : Fin 512) : ∃ m : ℝ,
    s1 e (blkA A 4 t) (ix2 a 0) = ((m + Real.log (Spec.Z Q K C m (8 * ptP_ t + e) (512 * ptI_ t + a)) : ℝ) : EReal) := by
  obtain ⟨m, hm⟩ := R.l (⟨512 * ptI_ t + a, by have := i_lt t; omega⟩ : Fin 4096) (⟨512 * ptP_ t + (64 * e.val), by have := half_lt t; omega⟩ : Fin 1024)
  refine ⟨m, (s1_at e _ a).trans ((tileAt4 A t a _).trans (hm.trans ?_))⟩
  show ((m + Real.log (Spec.Z Q K C m ((512 * ptP_ t + (64 * e.val + 0)) / 64) (512 * ptI_ t + a)) : ℝ) : EReal) = _
  rw [div64 _ _ 0 (by omega)]
theorem e_at (a : Fin 512) :
    s1 e (blkA A 5 t) (ix2 a 0) = ((Spec.DL Q K V D C (8 * ptP_ t + e) (512 * ptI_ t + a) : ℝ) : EReal) := by
  refine (s1_at e _ a).trans ((tileAt5 A t a _).trans ((R.e _ _).trans ?_))
  show ((Spec.DL Q K V D C ((512 * ptP_ t + (64 * e.val + 0)) / 64) (512 * ptI_ t + a) : ℝ) : EReal) = _
  rw [div64 _ _ 0 (by omega)]
end

section
variable (A : (w : Fin 9) → Buf (Elt Ideal) (((cfgA (F := Ideal)).win w).arr.view.loc ((0 : Dev nD) : Thread nD τ)))
  (Q K V D : ℕ → ℕ → ℕ → ℝ) (C : ℕ → ℕ → ℝ) (t : Fin grid0.N)

/-- `Pw` gives the probabilities of the tile of point `t`. -/
def Weights (Pw : Vec Ideal S512x128 .bf16 → Vec Ideal S512x128 .bf16 → Vec Ideal S512x1 .f32 → FVec Ideal S512x512 .f32) : Prop :=
  ∀ (e : Fin 8) (a b : Fin 512), Pw (s128 e (blkA A 0 t)) (s128 e (blkA A 1 t)) (s1 e (blkA A 4 t)) (ix2 a b)
    = ((Spec.P Q K C (8 * ptP_ t + e) (512 * ptI_ t + a) (512 * ptJ_ t + b) : ℝ) : EReal)
end

section
variable {A : (w : Fin 9) → Buf (Elt Ideal) (((cfgA (F := Ideal)).win w).arr.view.loc ((0 : Dev nD) : Thread nD τ))}
  {Q K V D : ℕ → ℕ → ℕ → ℝ} {C : ℕ → ℕ → ℝ} (R : RealIn A Q K V D C) (t : Fin grid0.N)
  {Pw : Vec Ideal S512x128 .bf16 → Vec Ideal S512x128 .bf16 → Vec Ideal S512x1 .f32 → FVec Ideal S512x512 .f32}
  (hw : Weights A Q K C t Pw)

include R in
theorem off_w (h : ptJ_ t < ptI_ t) : Weights A Q K C t (k0_pay14 (F := Ideal)) := fun e a b =>
  Tile.pay14_real (q_at R t e) (k_at R t e) (l_at R t e) (by omega) a b
include R in
theorem diag_w (h : ptI_ t = ptJ_ t) : Weights A Q K C t (k0_pay84 (F := Ideal)) := fun e a b =>
  Tile.pay84_real (q_at R t e) (k_at R t e) (l_at R t e) (by rw [h]) a b

include R hw in
theorem gS_at (e : Fin 8) (a b : Fin 512) : gS (F := Ideal) Pw (blkA A 0 t) (blkA A 1 t) (blkA A 2 t) (blkA A 3 t) (blkA A 4 t) (blkA A 5 t) e (ix2 a b)
    = ((Spec.DS Q K V D C (8 * ptP_ t + e) (512 * ptI_ t + a) (512 * ptJ_ t + b) : ℝ) : EReal) :=
  Tile.hS_real (v_at R t e) (d_at R t e) (e_at R t e) (hw e) a b

include R hw in
theorem stepK (X : S8x128x512.Idx → Elt Ideal .f32) (e : Fin 8) (l : Fin 128) (x : Fin 512) (r : ℝ) (ho : X (ix3 e l x) = (r : EReal)) :
    updK (gK (F := Ideal) Pw (blkA A 0 t) (blkA A 1 t) (blkA A 2 t) (blkA A 3 t) (blkA A 4 t) (blkA A 5 t)) X (ix3 e l x)
    = ((r + ∑ a ∈ range 512, Spec.QA Q C (8 * ptP_ t + e) (512 * ptI_ t + a) l
        * Spec.DS Q K V D C (8 * ptP_ t + e) (512 * ptI_ t + a) (512 * ptJ_ t + x) : ℝ) : EReal) :=
  (updK_at _ X e l x).trans (Tile.hK_real (q_at R t e) (gS_at R t hw e) _ l x r ((slK_at e X l x).trans ho))
include R hw in
theorem stepV (X : S8x64x512.Idx → Elt Ideal .f32) (e : Fin 8) (l : Fin 64) (x : Fin 512) (r : ℝ) (ho : X (ix3 e l x) = (r : EReal)) :
    updV (gV (F := Ideal) Pw (blkA A 0 t) (blkA A 1 t) (blkA A 3 t) (blkA A 4 t)) X (ix3 e l x)
    = ((r + ∑ a ∈ range 512, D (512 * ptI_ t + a) (8 * ptP_ t + e) l
        * Spec.P Q K C (8 * ptP_ t + e) (512 * ptI_ t + a) (512 * ptJ_ t + x) : ℝ) : EReal) :=
  (updV_at _ X e l x).trans (Tile.hV_real (d_at R t e) (hw e) _ l x r ((slV_at e X l x).trans ho))

theorem row_in : rowOf (wI (grid0.coords t)) + 512 ≤ 4096 := by rw [row_pt]; have := i_lt t; omega

theorem updQ_row {α : Type} (r r' : Nat) (hr : r + 512 ≤ 4096) (hr' : r' + 512 ≤ 4096) (e : r = r') (h : Fin 8 → (S512x128.Idx → α) → S512x128.Idx → α)
    (X : S4096x1024.Idx → α) : updQ 8 r hr h X = updQ 8 r' hr' h X := by subst e; rfl
theorem updR_pt (h : Fin 8 → (S512x128.Idx → Elt Ideal .f32) → S512x128.Idx → Elt Ideal .f32) (X : S4096x1024.Idx → Elt Ideal .f32) :
    updR (F := Ideal) (wI (grid0.coords t)) h X = updQ 8 (512 * ptI_ t) (by have := i_lt t; omega) h X :=
  (updR_eq _ (row_in t) h X).trans (updQ_row _ _ _ _ (row_pt t) h X)

include R hw in
theorem stepQ (X : S4096x1024.Idx → Elt Ideal .f32) (a : Fin 512) (e : Fin 8) (l : Fin 128) (r : ℝ)
    (ho : X (ix2 (⟨512 * ptI_ t + a, by have := i_lt t; omega⟩ : Fin 4096) (⟨128 * e.val + l.val, by omega⟩ : Fin 1024)) = (r : EReal)) :
    updR (F := Ideal) (wI (grid0.coords t)) (gQ (F := Ideal) Pw (blkA A 0 t) (blkA A 1 t) (blkA A 2 t) (blkA A 3 t) (blkA A 4 t) (blkA A 5 t)) X
      (ix2 (⟨512 * ptI_ t + a, by have := i_lt t; omega⟩ : Fin 4096) (⟨128 * e.val + l.val, by omega⟩ : Fin 1024))
    = ((r + ∑ b ∈ range 512, Spec.DS Q K V D C (8 * ptP_ t + e) (512 * ptI_ t + a) (512 * ptJ_ t + b)
        * Spec.KA K C (8 * ptP_ t + e) (512 * ptJ_ t + b) l : ℝ) : EReal) := by
  rw [updR_pt]
  exact (updQ_in _ _ _ X a e l).trans (Tile.hQ_real (k_at R t e) (gS_at R t hw e) _ a l r ((slQ_at _ _ e X a l).trans ho))

theorem stepQ_out (h : Fin 8 → (S512x128.Idx → Elt Ideal .f32) → S512x128.Idx → Elt Ideal .f32) (X : S4096x1024.Idx → Elt Ideal .f32) (τ : Fin 4096) (y : Fin 1024) (hτ : τ.val / 512 ≠ ptI_ t) :
    updR (F := Ideal) (wI (grid0.coords t)) h X (ix2 τ y) = X (ix2 τ y) := by
  rw [updR_pt]
  exact updQ_out _ _ _ X τ y (by omega)

include R in
/-- Every point updates the three accumulators by the probabilities of its tile. -/
theorem step_eq : ∃ Pw, Weights A Q K C t Pw
    ∧ (∀ X, nxK (F := Ideal) (wJ (grid0.coords t)) (wI (grid0.coords t)) (blkA A 0 t) (blkA A 1 t) (blkA A 2 t) (blkA A 3 t) (blkA A 4 t) (blkA A 5 t) X
        = updK (gK (F := Ideal) Pw (blkA A 0 t) (blkA A 1 t) (blkA A 2 t) (blkA A 3 t) (blkA A 4 t) (blkA A 5 t)) (clK (F := Ideal) (wJ (grid0.coords t)) (wI (grid0.coords t)) X))
    ∧ (∀ X, nxV (F := Ideal) (wJ (grid0.coords t)) (wI (grid0.coords t)) (blkA A 0 t) (blkA A 1 t) (blkA A 3 t) (blkA A 4 t) X
        = updV (gV (F := Ideal) Pw (blkA A 0 t) (blkA A 1 t) (blkA A 3 t) (blkA A 4 t)) (clV (F := Ideal) (wJ (grid0.coords t)) (wI (grid0.coords t)) X))
    ∧ (∀ X, nxQ (F := Ideal) (wJ (grid0.coords t)) (wI (grid0.coords t)) (blkA A 0 t) (blkA A 1 t) (blkA A 2 t) (blkA A 3 t) (blkA A 4 t) (blkA A 5 t) (grid0.coords t) X
        = updR (F := Ideal) (wI (grid0.coords t)) (gQ (F := Ideal) Pw (blkA A 0 t) (blkA A 1 t) (blkA A 2 t) (blkA A 3 t) (blkA A 4 t) (blkA A 5 t)) (clQ (F := Ideal) (grid0.coords t) X)) := by
  rcases (j_le t).lt_or_eq with h | h
  · have h3 := (cond3_iff t).2 h
    have h4 : ¬k0_cond4 (wJ (grid0.coords t)) (wI (grid0.coords t)) = 1#1 := fun c => by have := (cond4_iff t).1 c; omega
    refine ⟨_, off_w R t h, fun X => ?_, fun X => ?_, fun X => ?_⟩
    · unfold nxK dgK ofK; rw [if_neg h4, if_pos h3]
    · unfold nxV dgV ofV; rw [if_neg h4, if_pos h3]
    · unfold nxQ dgQ ofQ; rw [if_neg h4, if_pos h3]
  · have h4 := (cond4_iff t).2 h.symm
    have h3 : ¬k0_cond3 (wJ (grid0.coords t)) (wI (grid0.coords t)) = 1#1 := fun c => by have := (cond3_iff t).1 c; omega
    refine ⟨_, diag_w R t h.symm, fun X => ?_, fun X => ?_, fun X => ?_⟩
    · unfold nxK dgK ofK; rw [if_pos h4, if_neg h3]
    · unfold nxV dgV ofV; rw [if_pos h4, if_neg h3]
    · unfold nxQ dgQ ofQ; rw [if_pos h4, if_neg h3]
end

theorem zeroQ (τ : Fin 4096) (y : Fin 1024) : k0_pay1 (F := Ideal) (ix2 τ y) = ((0 : ℝ) : EReal) := by
  pointwise [k0_pay1]
  exact EReal.coe_zero.symm
theorem zeroK (e : Fin 8) (l : Fin 128) (x : Fin 512) : k0_pay2 (F := Ideal) (ix3 e l x) = ((0 : ℝ) : EReal) := by
  pointwise [k0_pay2]
  exact EReal.coe_zero.symm
theorem zeroV (e : Fin 8) (l : Fin 64) (x : Fin 512) : k0_pay3 (F := Ideal) (ix3 e l x) = ((0 : ℝ) : EReal) := by
  pointwise [k0_pay3]
  exact EReal.coe_zero.symm

section
variable {A : (w : Fin 9) → Buf (Elt Ideal) (((cfgA (F := Ideal)).win w).arr.view.loc ((0 : Dev nD) : Thread nD τ))}
  {Q K V D : ℕ → ℕ → ℕ → ℝ} {C : ℕ → ℕ → ℝ} (R : RealIn A Q K V D C)

/-- Sums over the rows of the blocks before `n`. -/
theorem rows_next (f : ℕ → ℝ) (n : ℕ) : ∑ τ ∈ range (512 * (n + 1)), f τ = ∑ τ ∈ range (512 * n), f τ + ∑ a ∈ range 512, f (512 * n + a) := by
  rw [show 512 * (n + 1) = 512 * n + 512 by omega, Finset.sum_range_add]

include R in
/-- The key accumulator after each point. -/
theorem trK_real : ∀ (n : ℕ) (hn : n < grid0.N) (e : Fin 8) (l : Fin 128) (x : Fin 512), trK A (n + 1) (ix3 e l x)
    = ((∑ τ ∈ range (512 * (ptI_ ⟨n, hn⟩ + 1)), Spec.QA Q C (8 * ptP_ ⟨n, hn⟩ + e) τ l
        * Spec.DS Q K V D C (8 * ptP_ ⟨n, hn⟩ + e) τ (512 * ptJ_ ⟨n, hn⟩ + x) : ℝ) : EReal) := by
  intro n
  induction n with
  | zero =>
    intro hn e l x
    obtain ⟨Pw, hw, hK, -, -⟩ := step_eq R ⟨0, hn⟩
    have hi := (first_pt ⟨0, hn⟩ rfl)
    rw [trK_succ A ⟨0, hn⟩, hK]
    refine (stepK R _ hw _ e l x 0 ?_).trans ?_
    · unfold clK; rw [if_pos ((cond4_iff _).2 (hi.1.trans hi.2.symm))]; exact zeroK e l x
    · rw [rows_next, hi.1, hi.2]; rfl
  | succ n ih =>
    intro hn e l x
    obtain ⟨Pw, hw, hK, -, -⟩ := step_eq R ⟨n + 1, hn⟩
    rw [trK_succ A ⟨n + 1, hn⟩, hK]
    by_cases hd : ptI_ ⟨n + 1, hn⟩ = ptJ_ ⟨n + 1, hn⟩
    · refine (stepK R _ hw _ e l x 0 ?_).trans ?_
      · unfold clK; rw [if_pos ((cond4_iff _).2 hd)]; exact zeroK e l x
      · rw [rows_next, hd, Finset.sum_eq_zero (s := range (512 * ptJ_ ⟨n + 1, hn⟩))]
        intro τ hτ
        rw [Spec.DS_future Q K V D C _ _ _ (by have := Finset.mem_range.1 hτ; omega), mul_zero]
    · have h36 : (n + 1) % 36 ≠ 0 := fun c => by have := first_pt ⟨n + 1, hn⟩ c; omega
      obtain ⟨hp, h | h⟩ := next_pt ⟨n, by omega⟩ ⟨n + 1, hn⟩ rfl h36
      · refine (stepK R _ hw _ e l x (∑ τ ∈ range (512 * ptI_ ⟨n + 1, hn⟩), Spec.QA Q C (8 * ptP_ ⟨n + 1, hn⟩ + e) τ l
            * Spec.DS Q K V D C (8 * ptP_ ⟨n + 1, hn⟩ + e) τ (512 * ptJ_ ⟨n + 1, hn⟩ + x)) ?_).trans ?_
        · unfold clK
          rw [if_neg fun c => hd ((cond4_iff _).1 c), hp, h.2.1, h.2.2]
          exact ih (by omega) e l x
        · rw [rows_next]
      · omega

include R in
/-- The value accumulator after each point. -/
theorem trV_real : ∀ (n : ℕ) (hn : n < grid0.N) (e : Fin 8) (l : Fin 64) (x : Fin 512), trV A (n + 1) (ix3 e l x)
    = ((∑ τ ∈ range (512 * (ptI_ ⟨n, hn⟩ + 1)), D τ (8 * ptP_ ⟨n, hn⟩ + e) l
        * Spec.P Q K C (8 * ptP_ ⟨n, hn⟩ + e) τ (512 * ptJ_ ⟨n, hn⟩ + x) : ℝ) : EReal) := by
  intro n
  induction n with
  | zero =>
    intro hn e l x
    obtain ⟨Pw, hw, -, hV, -⟩ := step_eq R ⟨0, hn⟩
    have hi := (first_pt ⟨0, hn⟩ rfl)
    rw [trV_succ A ⟨0, hn⟩, hV]
    refine (stepV R _ hw _ e l x 0 ?_).trans ?_
    · unfold clV; rw [if_pos ((cond4_iff _).2 (hi.1.trans hi.2.symm))]; exact zeroV e l x
    · rw [rows_next, hi.1, hi.2]; rfl
  | succ n ih =>
    intro hn e l x
    obtain ⟨Pw, hw, -, hV, -⟩ := step_eq R ⟨n + 1, hn⟩
    rw [trV_succ A ⟨n + 1, hn⟩, hV]
    by_cases hd : ptI_ ⟨n + 1, hn⟩ = ptJ_ ⟨n + 1, hn⟩
    · refine (stepV R _ hw _ e l x 0 ?_).trans ?_
      · unfold clV; rw [if_pos ((cond4_iff _).2 hd)]; exact zeroV e l x
      · rw [rows_next, hd, Finset.sum_eq_zero (s := range (512 * ptJ_ ⟨n + 1, hn⟩))]
        intro τ hτ
        rw [Spec.P_future Q K C _ _ _ (by have := Finset.mem_range.1 hτ; omega), mul_zero]
    · have h36 : (n + 1) % 36 ≠ 0 := fun c => by have := first_pt ⟨n + 1, hn⟩ c; omega
      obtain ⟨hp, h | h⟩ := next_pt ⟨n, by omega⟩ ⟨n + 1, hn⟩ rfl h36
      · refine (stepV R _ hw _ e l x (∑ τ ∈ range (512 * ptI_ ⟨n + 1, hn⟩), D τ (8 * ptP_ ⟨n + 1, hn⟩ + e) l
            * Spec.P Q K C (8 * ptP_ ⟨n + 1, hn⟩ + e) τ (512 * ptJ_ ⟨n + 1, hn⟩ + x)) ?_).trans ?_
        · unfold clV
          rw [if_neg fun c => hd ((cond4_iff _).1 c), hp, h.2.1, h.2.2]
          exact ih (by omega) e l x
        · rw [rows_next]
      · omega
end

end Cert.Proof.Fox

end
-- ==== Proof.TrajQ.lean ====
/-
  The query accumulator after each grid point, on finite inputs: each row has met the key blocks up to the current one.
-/
module

public import proofs.«01_k».proof.Proof.Traj

@[expose] public section

set_option maxRecDepth 16384

noncomputable section

namespace Cert.Proof.Fox

open KernelIdeal KernelIdeal.Gen Cert.Proof.FoxParts Idealize.ShloMosaic TcCoe Idealize.SL.Sem
open Finset (range)

/-- What a query row has summed over its first `n` key blocks. -/
def sumQ (Q K V D : ℕ → ℕ → ℕ → ℝ) (C : ℕ → ℕ → ℝ) (h r l n : ℕ) : ℝ :=
  ∑ s ∈ range (512 * n), Spec.DS Q K V D C h r s * Spec.KA K C h s l

theorem sumQ_next (Q K V D : ℕ → ℕ → ℕ → ℝ) (C : ℕ → ℕ → ℝ) (h r l n : ℕ) : sumQ Q K V D C h r l (n + 1)
    = sumQ Q K V D C h r l n + ∑ b ∈ range 512, Spec.DS Q K V D C h r (512 * n + b) * Spec.KA K C h (512 * n + b) l :=
  rows_next _ n
theorem sumQ_future (Q K V D : ℕ → ℕ → ℕ → ℝ) (C : ℕ → ℕ → ℝ) (h r l n : ℕ) (hr : r < 512 * n) :
    sumQ Q K V D C h r l (n + 1) = sumQ Q K V D C h r l n := by
  rw [sumQ_next, Finset.sum_eq_zero, add_zero]
  intro b _
  rw [Spec.DS_future Q K V D C _ _ _ (by omega), zero_mul]

section
variable {A : (w : Fin 9) → Buf (Elt Ideal) (((cfgA (F := Ideal)).win w).arr.view.loc ((0 : Dev nD) : Thread nD τ))}
  {Q K V D : ℕ → ℕ → ℕ → ℝ} {C : ℕ → ℕ → ℝ} (R : RealIn A Q K V D C)

include R in
/-- One point: from rows at `cb` blocks to rows at `ca` blocks. -/
theorem pointQ (t : Fin grid0.N) (τ : Fin 4096) (e : Fin 8) (l : Fin 128) (X : S4096x1024.Idx → Elt Ideal .f32) (cb ca : ℕ)
    (hin : τ.val / 512 = ptI_ t → cb = ptJ_ t ∧ ca = ptJ_ t + 1)
    (hout : τ.val / 512 ≠ ptI_ t → ca = cb ∨ (ca = cb + 1 ∧ τ.val < 512 * cb))
    (hX : clQ (F := Ideal) (grid0.coords t) X (ix2 τ (⟨128 * e.val + l.val, by omega⟩ : Fin 1024)) = ((sumQ Q K V D C (8 * ptP_ t + e) τ l cb : ℝ) : EReal)) :
    nxQ (F := Ideal) (wJ (grid0.coords t)) (wI (grid0.coords t)) (blkA A 0 t) (blkA A 1 t) (blkA A 2 t) (blkA A 3 t) (blkA A 4 t) (blkA A 5 t) (grid0.coords t) X
      (ix2 τ (⟨128 * e.val + l.val, by omega⟩ : Fin 1024)) = ((sumQ Q K V D C (8 * ptP_ t + e) τ l ca : ℝ) : EReal) := by
  obtain ⟨Pw, hw, -, -, hQ⟩ := step_eq R t
  rw [hQ]
  by_cases h : τ.val / 512 = ptI_ t
  · obtain ⟨h1, h2⟩ := hin h
    obtain ⟨τ, hτ⟩ := τ
    obtain ⟨a, ha, rfl⟩ : ∃ a, a < 512 ∧ τ = 512 * ptI_ t + a := ⟨τ % 512, by omega, by simp only at h; omega⟩
    rw [h2, sumQ_next, ← h1]
    refine (stepQ R t hw _ ⟨a, ha⟩ e l _ hX).trans ?_
    rw [h1]
  · refine (stepQ_out t _ _ τ _ h).trans (hX.trans ?_)
    rcases hout h with h1 | ⟨h1, h2⟩
    · rw [h1]
    · rw [h1, sumQ_future _ _ _ _ _ _ _ _ _ h2]

include R in
/-- The query accumulator after each point. -/
theorem trQ_real : ∀ (n : ℕ) (hn : n < grid0.N) (τ : Fin 4096) (e : Fin 8) (l : Fin 128),
    trQ A (n + 1) (ix2 τ (⟨128 * e.val + l.val, by omega⟩ : Fin 1024))
    = ((sumQ Q K V D C (8 * ptP_ ⟨n, hn⟩ + e) τ l (ptJ_ ⟨n, hn⟩ + if τ.val / 512 ≤ ptI_ ⟨n, hn⟩ then 1 else 0) : ℝ) : EReal) := by
  have first : ∀ (n : ℕ) (hn : n < grid0.N), n % 36 = 0 → ∀ (τ : Fin 4096) (e : Fin 8) (l : Fin 128),
      trQ A (n + 1) (ix2 τ (⟨128 * e.val + l.val, by omega⟩ : Fin 1024))
      = ((sumQ Q K V D C (8 * ptP_ ⟨n, hn⟩ + e) τ l (ptJ_ ⟨n, hn⟩ + if τ.val / 512 ≤ ptI_ ⟨n, hn⟩ then 1 else 0) : ℝ) : EReal) := by
    intro n hn h36 τ e l
    have hi := first_pt ⟨n, hn⟩ h36
    rw [trQ_succ A ⟨n, hn⟩]
    refine pointQ R ⟨n, hn⟩ τ e l _ 0 _ ?_ ?_ ?_
    · intro h; rw [if_pos h.le]; exact ⟨hi.2.symm, rfl⟩
    · intro h; left; rw [if_neg (by omega), hi.2]
    · unfold clQ; rw [if_pos ((cond1_iff ⟨n, hn⟩).2 h36)]
      refine (zeroQ τ _).trans ?_
      show ((0 : ℝ) : EReal) = ((∑ s ∈ range 0, _ : ℝ) : EReal)
      rw [Finset.sum_range_zero]
  intro n
  induction n with
  | zero => exact fun hn => first 0 hn rfl
  | succ n ih =>
    intro hn τ e l
    by_cases h36 : (n + 1) % 36 = 0
    · exact first (n + 1) hn h36 τ e l
    · have hm := ih (by omega) τ e l
      obtain ⟨hp, h⟩ := next_pt ⟨n, by omega⟩ ⟨n + 1, hn⟩ rfl h36
      have hj := j_le ⟨n + 1, hn⟩
      have hτ : τ.val / 512 < 8 := by omega
      rw [trQ_succ A ⟨n + 1, hn⟩]
      refine pointQ R ⟨n + 1, hn⟩ τ e l _ (ptJ_ ⟨n, by omega⟩ + if τ.val / 512 ≤ ptI_ ⟨n, by omega⟩ then 1 else 0) _ ?_ ?_ ?_
      · intro hh; rw [if_pos hh.le]; refine ⟨?_, rfl⟩
        split_ifs <;> omega
      · intro hh
        split_ifs <;> omega
      · unfold clQ; rw [if_neg fun c => h36 ((cond1_iff ⟨n + 1, hn⟩).1 c), hp]
        exact hm
end

end Cert.Proof.Fox

end
-- ==== Proof.Arrays.lean ====
/-
  The three arrays the pipeline leaves, on finite inputs.
-/
module

public import proofs.«01_k».proof.Proof.TrajQ
public import Idealize.ShloMosaic.Lib.Pipeline.ValueKit

@[expose] public section

set_option maxRecDepth 16384

noncomputable section

namespace Cert.Proof.Fox

open KernelIdeal KernelIdeal.Gen Cert.Proof.FoxParts Idealize.ShloMosaic TcCoe Idealize.SL.Sem
open Finset (range)

theorem pay9_at (X : Vec Ideal S1x128x512 .f32) (x : Fin 512) (l : Fin 128) : k0_pay9 (F := Ideal) X (ix2 x l) = X (ix3 0 l x) := by
  pointwise [k0_pay9]
theorem pay10_at (X : Vec Ideal S1x64x512 .f32) (x : Fin 512) (l : Fin 64) : k0_pay10 (F := Ideal) X (ix2 x l) = X (ix3 0 l x) := by
  pointwise [k0_pay10]

section
variable (Q K V D : ℕ → ℕ → ℕ → ℝ) (C : ℕ → ℕ → ℝ)
/-- The query array: each row summed over all the key blocks. -/
def outQ : S4096x2048.Idx → Elt Ideal .f32 := fun i => ((sumQ Q K V D C ((i 1).val / 128) (i 0).val ((i 1).val % 128) 8 : ℝ) : EReal)
/-- The key array. -/
def outK : S4096x2048.Idx → Elt Ideal .f32 := fun i =>
  ((∑ τ ∈ range 4096, Spec.QA Q C ((i 1).val / 128) τ ((i 1).val % 128) * Spec.DS Q K V D C ((i 1).val / 128) τ (i 0).val : ℝ) : EReal)
/-- The value array. -/
def outV : S4096x1024.Idx → Elt Ideal .f32 := fun i =>
  ((∑ τ ∈ range 4096, D τ ((i 1).val / 64) ((i 1).val % 64) * Spec.P Q K C ((i 1).val / 64) τ (i 0).val : ℝ) : EReal)
end

section
variable (A : (w : Fin 9) → Buf (Elt Ideal) (((cfgA (F := Ideal)).win w).arr.view.loc ((0 : Dev nD) : Thread nD τ)))
  (Q K V D : ℕ → ℕ → ℕ → ℝ) (C : ℕ → ℕ → ℝ) (R : RealIn A Q K V D C)

include R in
theorem after6 (t : Fin grid0.N) (hf : ((cfgA (F := Ideal)).win 6).flush t = true) (y : S4096x1024.Idx) :
    trQ A (t.val + 1) y = outQ Q K V D C (((cfgA (F := Ideal)).win 6 |>.blk t).view.emb y) := by
  rw [flush6] at hf
  have hl := last_pt t (of_decide_eq_true hf)
  obtain ⟨τ, z, rfl⟩ : ∃ (τ : Fin 4096) (z : Fin 1024), y = ix2 τ z := ⟨y 0, y 1, by funext d; match d with | 0 => rfl | 1 => rfl⟩
  obtain ⟨z, hz⟩ := z
  obtain ⟨e, l, he, hl', rfl⟩ : ∃ e l, e < 8 ∧ l < 128 ∧ z = 128 * e + l := ⟨z / 128, z % 128, by omega, by omega, by omega⟩
  refine (trQ_real R t.val t.isLt τ ⟨e, he⟩ ⟨l, hl'⟩).trans ?_
  have hp := half_lt t
  have e0 : ((((cfgA (F := Ideal)).win 6 |>.blk t).view.emb (ix2 τ (⟨128 * e + l, hz⟩ : Fin 1024)) : S4096x2048.Idx) 0).val = τ.val := by
    show cc0_transform_6 (grid0.coords t) 0 * 4096 + 1 * τ.val = τ.val
    show 0 * 4096 + 1 * τ.val = τ.val; omega
  have e1 : ((((cfgA (F := Ideal)).win 6 |>.blk t).view.emb (ix2 τ (⟨128 * e + l, hz⟩ : Fin 1024)) : S4096x2048.Idx) 1).val = 1024 * ptP_ t + (128 * e + l) := by
    show (BitVec.ofNat 32 (grid0.coords t 0).val).toNat * 1024 + 1 * (128 * e + l) = _
    rw [half]; unfold ptP_; omega
  unfold outQ
  rw [e0, e1, div128 _ _ _ hl', mod128 _ _ _ hl']
  show ((sumQ Q K V D C (8 * ptP_ t + e) τ l (ptJ_ t + if τ.val / 512 ≤ ptI_ t then 1 else 0) : ℝ) : EReal) = _
  rw [hl.1, hl.2, if_pos (by omega)]

theorem flushed_i (t : Fin grid0.N) (w : Fin 9) (hw : w = 7 ∨ w = 8) (hf : ((cfgA (F := Ideal)).win w).flush t = true) : ptI_ t = 7 := by
  by_contra h
  have h5 : k0_cond5 (wI (grid0.coords t)) ≠ 1#1 := fun c => h ((cond5_iff t).1 c)
  rcases hw with rfl | rfl
  · rw [flush7 t h5] at hf; exact absurd hf (by decide)
  · rw [flush8 t h5] at hf; exact absurd hf (by decide)

include R in
theorem after7 (t : Fin grid0.N) (hf : ((cfgA (F := Ideal)).win 7).flush t = true) (y : S512x1024.Idx) :
    updDK (fun e => k0_pay9 (F := Ideal) (slK e (trK A (t.val + 1)))) y = outK Q K V D C (((cfgA (F := Ideal)).win 7 |>.blk t).view.emb y) := by
  have hi := flushed_i t 7 (.inl rfl) hf
  obtain ⟨x, z, rfl⟩ : ∃ (τ : Fin 512) (z : Fin 1024), y = ix2 τ z := ⟨y 0, y 1, by funext d; match d with | 0 => rfl | 1 => rfl⟩
  obtain ⟨z, hz⟩ := z
  obtain ⟨e, l, he, hl', rfl⟩ : ∃ e l, e < 8 ∧ l < 128 ∧ z = 128 * e + l := ⟨z / 128, z % 128, by omega, by omega, by omega⟩
  refine (updDK_at _ x ⟨e, he⟩ ⟨l, hl'⟩).trans ((pay9_at _ x ⟨l, hl'⟩).trans ((slK_at ⟨e, he⟩ _ ⟨l, hl'⟩ x).trans
    ((trK_real R t.val t.isLt ⟨e, he⟩ ⟨l, hl'⟩ x).trans ?_)))
  have e0 : ((((cfgA (F := Ideal)).win 7 |>.blk t).view.emb (ix2 x (⟨128 * e + l, hz⟩ : Fin 1024)) : S4096x2048.Idx) 0).val = 512 * ptJ_ t + x := by
    show cc0_transform_7 (F := Ideal) k0_off1_inb numel1_S1 pfA (grid0.coords t) 0 * 512 + 1 * x.val = _
    rw [tr7_eq]; show ptJ_ t * 512 + 1 * x.val = _; omega
  have e1 : ((((cfgA (F := Ideal)).win 7 |>.blk t).view.emb (ix2 x (⟨128 * e + l, hz⟩ : Fin 1024)) : S4096x2048.Idx) 1).val = 1024 * ptP_ t + (128 * e + l) := by
    show cc0_transform_7 (F := Ideal) k0_off1_inb numel1_S1 pfA (grid0.coords t) 1 * 1024 + 1 * (128 * e + l) = _
    rw [tr7_eq]; show (BitVec.ofNat 32 (grid0.coords t 0).val).toNat * 1024 + 1 * (128 * e + l) = _; rw [half]; unfold ptP_; omega
  unfold outK
  rw [e0, e1, div128 _ _ _ hl', mod128 _ _ _ hl']
  show ((∑ τ ∈ range (512 * (ptI_ t + 1)), _ : ℝ) : EReal) = _
  rw [hi]

include R in
theorem after8 (t : Fin grid0.N) (hf : ((cfgA (F := Ideal)).win 8).flush t = true) (y : S512x512.Idx) :
    updDV (fun e => k0_pay10 (F := Ideal) (slV e (trV A (t.val + 1)))) y = outV Q K D C (((cfgA (F := Ideal)).win 8 |>.blk t).view.emb y) := by
  have hi := flushed_i t 8 (.inr rfl) hf
  obtain ⟨x, z, rfl⟩ : ∃ (τ z : Fin 512), y = ix2 τ z := ⟨y 0, y 1, by funext d; match d with | 0 => rfl | 1 => rfl⟩
  obtain ⟨z, hz⟩ := z
  obtain ⟨e, l, he, hl', rfl⟩ : ∃ e l, e < 8 ∧ l < 64 ∧ z = 64 * e + l := ⟨z / 64, z % 64, by omega, by omega, by omega⟩
  refine (updDV_at _ x ⟨e, he⟩ ⟨l, hl'⟩).trans ((pay10_at _ x ⟨l, hl'⟩).trans ((slV_at ⟨e, he⟩ _ ⟨l, hl'⟩ x).trans
    ((trV_real R t.val t.isLt ⟨e, he⟩ ⟨l, hl'⟩ x).trans ?_)))
  have e0 : ((((cfgA (F := Ideal)).win 8 |>.blk t).view.emb (ix2 x (⟨64 * e + l, hz⟩ : Fin 512)) : S4096x1024.Idx) 0).val = 512 * ptJ_ t + x := by
    show cc0_transform_8 (F := Ideal) k0_off1_inb numel1_S1 pfA (grid0.coords t) 0 * 512 + 1 * x.val = _
    rw [tr8_eq]; show ptJ_ t * 512 + 1 * x.val = _; omega
  have e1 : ((((cfgA (F := Ideal)).win 8 |>.blk t).view.emb (ix2 x (⟨64 * e + l, hz⟩ : Fin 512)) : S4096x1024.Idx) 1).val = 512 * ptP_ t + (64 * e + l) := by
    show cc0_transform_8 (F := Ideal) k0_off1_inb numel1_S1 pfA (grid0.coords t) 1 * 512 + 1 * (64 * e + l) = _
    rw [tr8_eq]; show (BitVec.ofNat 32 (grid0.coords t 0).val).toNat * 512 + 1 * (64 * e + l) = _; rw [half]; unfold ptP_; omega
  unfold outV
  rw [e0, e1, div64 _ _ _ hl', mod64 _ _ _ hl']
  show ((∑ τ ∈ range (512 * (ptI_ t + 1)), _ : ℝ) : EReal) = _
  rw [hi]
end

section
variable (m : (ℓ : Loc nD τ sig) → Buf (Elt Ideal) ℓ) (c : Dev nD) (Q K V D : ℕ → ℕ → ℕ → ℝ) (C : ℕ → ℕ → ℝ) (R : RealIn (A₀ m c) Q K V D C)

include R in
theorem arr6 : (dats m 0 c).arrAt 6 (pcsA (F := Ideal) 0).N = outQ Q K V D C := by
  refine (dats m 0 c).arrAt_eq_of_covers 6 _ (by decide +kernel) fun t hf y => ?_
  rw [after_eq]
  exact after6 (A₀ m c) Q K V D C R t hf y
include R in
theorem arr7 : (dats m 0 c).arrAt 7 (pcsA (F := Ideal) 0).N = outK Q K V D C := by
  refine (dats m 0 c).arrAt_eq_of_covers 7 _ (by decide +kernel) fun t hf y => ?_
  rw [after_eq]
  exact after7 (A₀ m c) Q K V D C R t hf y
include R in
theorem arr8 : (dats m 0 c).arrAt 8 (pcsA (F := Ideal) 0).N = outV Q K D C := by
  refine (dats m 0 c).arrAt_eq_of_covers 8 _ (by decide +kernel) fun t hf y => ?_
  rw [after_eq]
  exact after8 (A₀ m c) Q K V D C R t hf y
end

end Cert.Proof.Fox

end
-- ==== Proof.HostStages.lean ====
/-
  What the host lines before the pipeline leave in the six arrays the pipeline reads, in stages: the masked logits, the
  exponentials, the rows' logarithms and products, and the augmented queries, keys and values.
-/
module

public import proofs.«01_k».proof.Proof.Flow
public import Idealize.ShloMosaic.Lib.StableHlo.RunRead
public import Idealize.ShloMosaic.Lib.Pointwise

@[expose] public section

set_option maxRecDepth 16384

noncomputable section

namespace Cert.Proof.Fox.Host

open KernelIdeal KernelIdeal.Gen Idealize.ShloMosaic TcCoe Idealize.SL.Sem

/-- Which key each query row sees. -/
def hMask : IVec S16x4096x4096 1 := cmpi .sle (iotaInDim S16x4096x4096 32 2) (iotaInDim S16x4096x4096 32 1)
/-- The masked logits. -/
def hLog (q k : FVec Ideal S4096x16x64 .f32) (cm : FVec Ideal S4096x16 .f32) : FVec Ideal S16x4096x4096 .f32 :=
  select hMask (addf (Host.dotGeneral dot_S4096x16x64_S4096x16x64_S16x4096x4096_2_2_0_0_1_1 none q k)
    (subf (broadcastInDim S16x4096x4096 ![0, 1, 2] bcast_S16x4096x1_S16x4096x4096_0_1_2 (broadcastInDim S16x4096x1 ![0, 1] bcast_S16x4096_S16x4096x1_0_1 (transpose S16x4096 [1, 0] cm transposes_S4096x16_S16x4096_1_0)))
      (broadcastInDim S16x4096x4096 ![0, 1, 2] bcast_S16x1x4096_S16x4096x4096_0_1_2 (broadcastInDim S16x1x4096 ![0, 2] bcast_S16x4096_S16x1x4096_0_2 (transpose S16x4096 [1, 0] cm transposes_S4096x16_S16x4096_1_0)))))
    (broadcastInDim S16x4096x4096 ![] bcast_S_S16x4096x4096 (constant S_ .f32 0xFF800000#32))
/-- The row maxima. -/
def hMax (x : FVec Ideal S16x4096x4096 .f32) : FVec Ideal S16x4096 .f32 :=
  Host.reduce FloatOps.maximumf x (constant S_ .f32 0xFF800000#32) reducesTo_S16x4096x4096_S16x4096_d2 h_S_
/-- A number for each row, at each of its columns. -/
def hRow (y : FVec Ideal S16x4096 .f32) : FVec Ideal S16x4096x4096 .f32 :=
  broadcastInDim S16x4096x4096 ![0, 1, 2] bcast_S16x4096x1_S16x4096x4096_0_1_2 (broadcastInDim S16x4096x1 ![0, 1] bcast_S16x4096_S16x4096x1_0_1 y)
/-- The shifted exponentials. -/
def hE (x : FVec Ideal S16x4096x4096 .f32) (mx : FVec Ideal S16x4096 .f32) : FVec Ideal S16x4096x4096 .f32 := Host.exp (subf x (hRow mx))
/-- Their row sums. -/
def hZ (e : FVec Ideal S16x4096x4096 .f32) : FVec Ideal S16x4096 .f32 :=
  Host.reduceAdd e (constant S_ .f32 0x00000000#32) reducesTo_S16x4096x4096_S16x4096_d2 h_S_
/-- The probabilities. -/
def hP (e : FVec Ideal S16x4096x4096 .f32) (z : FVec Ideal S16x4096 .f32) : FVec Ideal S16x4096x4096 .f32 := Host.divf e (hRow z)
/-- The attention's output. -/
def hO (v : FVec Ideal S4096x16x64 .f32) (p : FVec Ideal S16x4096x4096 .f32) : FVec Ideal S4096x16x64 .f32 :=
  transpose S4096x16x64 [2, 0, 1] (Host.dotGeneral dot_S4096x16x64_S16x4096x4096_S16x64x4096_0_2_2_1_1_0 none v p) transposes_S16x64x4096_S4096x16x64_2_0_1
/-- The logarithm of each row's sum, rows first. -/
def hLse (mx z : FVec Ideal S16x4096 .f32) : FVec Ideal S4096x16 .f32 :=
  transpose S4096x16 [1, 0] (addf mx (Host.log z)) transposes_S16x4096_S4096x16_1_0
/-- The output against its cotangent. -/
def hDl (d o : FVec Ideal S4096x16x64 .f32) : FVec Ideal S4096x16 .f32 :=
  Host.reduceAdd (mulf d o) (constant S_ .f32 0x00000000#32) reducesTo_S4096x16x64_S4096x16_d2 h_S_
/-- A number for each row and head, at each of the head's lanes. -/
def hLane (y : FVec Ideal S4096x16 .f32) : FVec Ideal S4096x1024 .f32 :=
  shapeCast S4096x1024 (broadcastInDim S4096x16x64 ![0, 1, 2] bcast_S4096x16x1_S4096x16x64_0_1_2 (broadcastInDim S4096x16x1 ![0, 1] bcast_S4096x16_S4096x16x1_0_1 y)) shapeCasts_S4096x16x64_S4096x1024
/-- The three parts of the cumulated gates. -/
def hC1 (cm : FVec Ideal S4096x16 .f32) : FVec Ideal S4096x16 .f32 := extf .f32 (truncf .bf16 cm bitsLt_bf16_f32) bitsLt_bf16_f32
def hC2 (cm : FVec Ideal S4096x16 .f32) : FVec Ideal S4096x16 .f32 := extf .f32 (truncf .bf16 (subf cm (hC1 cm)) bitsLt_bf16_f32) bitsLt_bf16_f32
def hC3 (cm : FVec Ideal S4096x16 .f32) : FVec Ideal S4096x16 .f32 :=
  extf .f32 (truncf .bf16 (subf (subf cm (hC1 cm)) (hC2 cm)) bitsLt_bf16_f32) bitsLt_bf16_f32
/-- A row and head's number as one lane. -/
def hOne (y : FVec Ideal S4096x16 .f32) : FVec Ideal S4096x16x1 .f32 := broadcastInDim S4096x16x1 ![0, 1] bcast_S4096x16_S4096x16x1_0_1 y
def hOnes : FVec Ideal S4096x16x3 .f32 := broadcastInDim S4096x16x3 ![] bcast_S_S4096x16x3 (constant S_ .f32 0x3F800000#32)
def hNil : FVec Ideal S4096x16x58 .f32 := broadcastInDim S4096x16x58 ![] bcast_S_S4096x16x58 (constant S_ .f32 0x00000000#32)
/-- The augmented queries, -/
def hQA (q : FVec Ideal S4096x16x64 .f32) (c1 c2 c3 : FVec Ideal S4096x16x1 .f32) : FVec Ideal S4096x2048 .bf16 :=
  truncf .bf16 (shapeCast S4096x2048 (concatenate S4096x16x128 2 [⟨S4096x16x64, q⟩, ⟨S4096x16x1, c1⟩, ⟨S4096x16x1, c2⟩, ⟨S4096x16x1, c3⟩, ⟨S4096x16x3, hOnes⟩, ⟨S4096x16x58, hNil⟩] concatenates_S4096x16x64_S4096x16x1_S4096x16x1_S4096x16x1_S4096x16x3_S4096x16x58_S4096x16x128_d2) shapeCasts_S4096x16x128_S4096x2048) bitsLt_bf16_f32
/-- keys -/
def hKA (k : FVec Ideal S4096x16x64 .f32) (c1 c2 c3 : FVec Ideal S4096x16x1 .f32) : FVec Ideal S4096x2048 .bf16 :=
  truncf .bf16 (shapeCast S4096x2048 (concatenate S4096x16x128 2 [⟨S4096x16x64, k⟩, ⟨S4096x16x3, hOnes⟩, ⟨S4096x16x1, Host.negf c1⟩, ⟨S4096x16x1, Host.negf c2⟩, ⟨S4096x16x1, Host.negf c3⟩, ⟨S4096x16x58, hNil⟩] concatenates_S4096x16x64_S4096x16x3_S4096x16x1_S4096x16x1_S4096x16x1_S4096x16x58_S4096x16x128_d2) shapeCasts_S4096x16x128_S4096x2048) bitsLt_bf16_f32
/-- and values. -/
def hVA (v : FVec Ideal S4096x16x64 .f32) : FVec Ideal S4096x2048 .bf16 :=
  truncf .bf16 (shapeCast S4096x2048 (concatenate S4096x16x128 2 [⟨S4096x16x64, v⟩, ⟨S4096x16x1, broadcastInDim S4096x16x1 ![] bcast_S_S4096x16x1 (constant S_ .f32 0x3F800000#32)⟩, ⟨S4096x16x63, broadcastInDim S4096x16x63 ![] bcast_S_S4096x16x63 (constant S_ .f32 0x00000000#32)⟩] concatenates_S4096x16x64_S4096x16x1_S4096x16x63_S4096x16x128_d2) shapeCasts_S4096x16x128_S4096x2048) bitsLt_bf16_f32
/-- The cotangent, heads side by side. -/
def hDo (d : FVec Ideal S4096x16x64 .f32) : FVec Ideal S4096x1024 .bf16 :=
  truncf .bf16 (shapeCast S4096x1024 d shapeCasts_S4096x16x64_S4096x1024) bitsLt_bf16_f32

section
variable (m : (ℓ : Loc nD τ sig) → Buf (Elt Ideal) ℓ) (c : Dev nD)
abbrev aQ : FVec Ideal S4096x16x64 .f32 := m ((c.tc : Thread nD τ).loc main_arg0)
abbrev aK : FVec Ideal S4096x16x64 .f32 := m ((c.tc : Thread nD τ).loc main_arg1)
abbrev aV : FVec Ideal S4096x16x64 .f32 := m ((c.tc : Thread nD τ).loc main_arg2)
abbrev aC : FVec Ideal S4096x16 .f32 := m ((c.tc : Thread nD τ).loc main_arg3)
abbrev aD : FVec Ideal S4096x16x64 .f32 := m ((c.tc : Thread nD τ).loc main_arg4)
end

/-- The row maxima, exponentials and row sums from the arguments. -/
def tM (q k : FVec Ideal S4096x16x64 .f32) (cm : FVec Ideal S4096x16 .f32) : FVec Ideal S16x4096 .f32 := hMax (hLog q k cm)
def tE (q k : FVec Ideal S4096x16x64 .f32) (cm : FVec Ideal S4096x16 .f32) : FVec Ideal S16x4096x4096 .f32 := hE (hLog q k cm) (tM q k cm)
def tZ (q k : FVec Ideal S4096x16x64 .f32) (cm : FVec Ideal S4096x16 .f32) : FVec Ideal S16x4096 .f32 := hZ (tE q k cm)

variable (m : (ℓ : Loc nD τ sig) → Buf (Elt Ideal) ℓ) (c : Dev nD)

theorem V_do : V₀ m c (Proc.devRef .tc main_v57) = hDo (aD m c) := by
  unfold V₀
  simp only [List.flatten_cons, List.flatten_nil, List.append_nil, StableHlo.TRef.nullary, StableHlo.TRef.ternary, StableHlo.TRef.unary, StableHlo.TRef.toBuf, StableHlo.TRef.ofBuf, cast_eq]
  after_reads_simp
  rfl
theorem V_qa : V₀ m c (Proc.devRef .tc main_v44) = hQA (aQ m c) (hOne (hC1 (aC m c))) (hOne (hC2 (aC m c))) (hOne (hC3 (aC m c))) := by
  unfold V₀
  simp only [List.flatten_cons, List.flatten_nil, List.append_nil, StableHlo.TRef.nullary, StableHlo.TRef.ternary, StableHlo.TRef.unary, StableHlo.TRef.toBuf, StableHlo.TRef.ofBuf, cast_eq]
  after_reads_simp
  rfl
theorem V_ka : V₀ m c (Proc.devRef .tc main_v50) = hKA (aK m c) (hOne (hC1 (aC m c))) (hOne (hC2 (aC m c))) (hOne (hC3 (aC m c))) := by
  unfold V₀
  simp only [List.flatten_cons, List.flatten_nil, List.append_nil, StableHlo.TRef.nullary, StableHlo.TRef.ternary, StableHlo.TRef.unary, StableHlo.TRef.toBuf, StableHlo.TRef.ofBuf, cast_eq]
  after_reads_simp
  rfl
theorem V_va : V₀ m c (Proc.devRef .tc main_v55) = hVA (aV m c) := by
  unfold V₀
  simp only [List.flatten_cons, List.flatten_nil, List.append_nil, StableHlo.TRef.nullary, StableHlo.TRef.ternary, StableHlo.TRef.unary, StableHlo.TRef.toBuf, StableHlo.TRef.ofBuf, cast_eq]
  after_reads_simp
  rfl
theorem V_lse : V₀ m c (Proc.devRef .tc main_v60) = hLane (hLse (tM (aQ m c) (aK m c) (aC m c)) (tZ (aQ m c) (aK m c) (aC m c))) := by
  unfold V₀
  simp only [List.flatten_cons, List.flatten_nil, List.append_nil, StableHlo.TRef.nullary, StableHlo.TRef.ternary, StableHlo.TRef.unary, StableHlo.TRef.toBuf, StableHlo.TRef.ofBuf, cast_eq]
  after_reads_simp
  rfl
theorem V_dl : V₀ m c (Proc.devRef .tc main_v63)
    = hLane (hDl (aD m c) (hO (aV m c) (hP (tE (aQ m c) (aK m c) (aC m c)) (tZ (aQ m c) (aK m c) (aC m c))))) := by
  unfold V₀
  simp only [List.flatten_cons, List.flatten_nil, List.append_nil, StableHlo.TRef.nullary, StableHlo.TRef.ternary, StableHlo.TRef.unary, StableHlo.TRef.toBuf, StableHlo.TRef.ofBuf, cast_eq]
  after_reads_simp
  rfl

end Cert.Proof.Fox.Host

end
-- ==== Proof.HostRead.lean ====
/-
  The host's stages read at one index.
-/
module

public import proofs.«01_k».proof.Proof.HostStages
public import proofs.«01_k».proof.Proof.RefValue

@[expose] public section

set_option maxRecDepth 16384

noncomputable section

namespace Cert.Proof.Fox.Host

open KernelIdeal KernelIdeal.Gen Idealize.ShloMosaic TcCoe Idealize.SL.Sem

theorem hLog_read (q k : FVec Ideal S4096x16x64 .f32) (cm : FVec Ideal S4096x16 .f32) (h : Fin 16) (t s : Fin 4096) :
    hLog q k cm (ix3 h t s) = if s.val ≤ t.val then ∑ x : Fin 64, q (ix3 t h x) * k (ix3 s h x) + (cm (ix2 t h) - cm (ix2 s h)) else (⊥ : EReal) := by
  pointwise [hLog, hMask]
  rw [Ref.sel_le _ _ s.2 t.2]
  congr 1
theorem hE_read (x : FVec Ideal S16x4096x4096 .f32) (mx : FVec Ideal S16x4096 .f32) (h : Fin 16) (t s : Fin 4096) :
    hE x mx (ix3 h t s) = Ideal.exp (x (ix3 h t s) - mx (ix2 h t)) := by
  pointwise [hE, hRow]
theorem hZ_read (x : FVec Ideal S16x4096x4096 .f32) (h : Fin 16) (t : Fin 4096) : hZ x (ix2 h t) = ∑ s : Fin 4096, x (ix3 h t s) := by
  pointwise [hZ]
theorem hP_read (e : FVec Ideal S16x4096x4096 .f32) (z : FVec Ideal S16x4096 .f32) (h : Fin 16) (t s : Fin 4096) :
    hP e z (ix3 h t s) = Ideal.div (e (ix3 h t s)) (z (ix2 h t)) := by
  pointwise [hP, hRow]
theorem hO_read (v : FVec Ideal S4096x16x64 .f32) (p : FVec Ideal S16x4096x4096 .f32) (t : Fin 4096) (h : Fin 16) (l : Fin 64) :
    hO v p (ix3 t h l) = ∑ s : Fin 4096, v (ix3 s h l) * p (ix3 h t s) := by
  pointwise [hO]
theorem hLse_read (mx z : FVec Ideal S16x4096 .f32) (t : Fin 4096) (h : Fin 16) : hLse mx z (ix2 t h) = mx (ix2 h t) + Ideal.log (z (ix2 h t)) := by
  pointwise [hLse]
theorem hDl_read (d o : FVec Ideal S4096x16x64 .f32) (t : Fin 4096) (h : Fin 16) : hDl d o (ix2 t h) = ∑ l : Fin 64, d (ix3 t h l) * o (ix3 t h l) := by
  pointwise [hDl]
theorem hLane_read (y : FVec Ideal S4096x16 .f32) (t : Fin 4096) (x : Fin 1024) : hLane y (ix2 t x) = y (ix2 t (⟨x.val / 64, by omega⟩ : Fin 16)) := by
  pointwise [hLane]
theorem hDo_read (d : FVec Ideal S4096x16x64 .f32) (t : Fin 4096) (x : Fin 1024) :
    hDo d (ix2 t x) = d (ix3 t (⟨x.val / 64, by omega⟩ : Fin 16) (⟨x.val % 64, by omega⟩ : Fin 64)) := by
  pointwise [hDo]
theorem hVA_read (v : FVec Ideal S4096x16x64 .f32) (t : Fin 4096) (x : Fin 2048) (hx : x.val % 128 < 64) :
    hVA v (ix2 t x) = v (ix3 t (⟨x.val / 128, by omega⟩ : Fin 16) (⟨x.val % 128, hx⟩ : Fin 64)) := by
  pointwise [hVA]
  rw [dif_pos hx]
theorem hQA_read (q : FVec Ideal S4096x16x64 .f32) (c1 c2 c3 : FVec Ideal S4096x16x1 .f32) (t : Fin 4096) (x : Fin 2048) :
    hQA q c1 c2 c3 (ix2 t x) = if h : x.val % 128 < 64 then q (ix3 t (⟨x.val / 128, by omega⟩ : Fin 16) (⟨x.val % 128, h⟩ : Fin 64))
      else if h : x.val % 128 - 64 < 1 then c1 (ix3 t (⟨x.val / 128, by omega⟩ : Fin 16) (⟨x.val % 128 - 64, h⟩ : Fin 1))
      else if h : x.val % 128 - 64 - 1 < 1 then c2 (ix3 t (⟨x.val / 128, by omega⟩ : Fin 16) (⟨x.val % 128 - 64 - 1, h⟩ : Fin 1))
      else if h : x.val % 128 - 64 - 1 - 1 < 1 then c3 (ix3 t (⟨x.val / 128, by omega⟩ : Fin 16) (⟨x.val % 128 - 64 - 1 - 1, h⟩ : Fin 1))
      else if h : x.val % 128 - 64 - 1 - 1 - 1 < 3 then (1 : EReal) else 0 := by
  pointwise [hQA, hOnes, hNil]
theorem hKA_read (k : FVec Ideal S4096x16x64 .f32) (c1 c2 c3 : FVec Ideal S4096x16x1 .f32) (t : Fin 4096) (x : Fin 2048) :
    hKA k c1 c2 c3 (ix2 t x) = if h : x.val % 128 < 64 then k (ix3 t (⟨x.val / 128, by omega⟩ : Fin 16) (⟨x.val % 128, h⟩ : Fin 64))
      else if h : x.val % 128 - 64 < 3 then (1 : EReal)
      else if h : x.val % 128 - 64 - 3 < 1 then -c1 (ix3 t (⟨x.val / 128, by omega⟩ : Fin 16) (⟨x.val % 128 - 64 - 3, h⟩ : Fin 1))
      else if h : x.val % 128 - 64 - 3 - 1 < 1 then -c2 (ix3 t (⟨x.val / 128, by omega⟩ : Fin 16) (⟨x.val % 128 - 64 - 3 - 1, h⟩ : Fin 1))
      else if h : x.val % 128 - 64 - 3 - 1 - 1 < 1 then -c3 (ix3 t (⟨x.val / 128, by omega⟩ : Fin 16) (⟨x.val % 128 - 64 - 3 - 1 - 1, h⟩ : Fin 1))
      else 0 := by
  pointwise [hKA, hOnes, hNil]
theorem hC2_read (cm : FVec Ideal S4096x16 .f32) (t : Fin 4096) (h : Fin 16) : hC2 cm (ix2 t h) = cm (ix2 t h) - cm (ix2 t h) := by
  pointwise [hC2, hC1]
theorem hC1_read (cm : FVec Ideal S4096x16 .f32) (t : Fin 4096) (h : Fin 16) : hC1 cm (ix2 t h) = cm (ix2 t h) := by
  pointwise [hC1]
theorem hC3_read (cm : FVec Ideal S4096x16 .f32) (t : Fin 4096) (h : Fin 16) :
    hC3 cm (ix2 t h) = cm (ix2 t h) - cm (ix2 t h) - (cm (ix2 t h) - cm (ix2 t h)) := by
  pointwise [hC3, hC2, hC1]
theorem hOne_read (y : FVec Ideal S4096x16 .f32) (t : Fin 4096) (h : Fin 16) (l : Fin 1) : hOne y (ix3 t h l) = y (ix2 t h) := by
  pointwise [hOne]

section
variable {q k v d : FVec Ideal S4096x16x64 .f32} {cm : FVec Ideal S4096x16 .f32} {Q K V D : ℕ → ℕ → ℕ → ℝ} {C : ℕ → ℕ → ℝ}
  (hq : ∀ (t : Fin 4096) (h : Fin 16) (l : Fin 64), q (ix3 t h l) = ((Q t h l : ℝ) : EReal))
  (hk : ∀ (t : Fin 4096) (h : Fin 16) (l : Fin 64), k (ix3 t h l) = ((K t h l : ℝ) : EReal))
  (hv : ∀ (t : Fin 4096) (h : Fin 16) (l : Fin 64), v (ix3 t h l) = ((V t h l : ℝ) : EReal))
  (hd : ∀ (t : Fin 4096) (h : Fin 16) (l : Fin 64), d (ix3 t h l) = ((D t h l : ℝ) : EReal))
  (hc : ∀ (t : Fin 4096) (h : Fin 16), cm (ix2 t h) = ((C t h : ℝ) : EReal))

include hc in
theorem c1_real (t : Fin 4096) (h : Fin 16) (l : Fin 1) : hOne (hC1 cm) (ix3 t h l) = ((C t h : ℝ) : EReal) := by
  rw [hOne_read, hC1_read, hc]
include hc in
theorem c2_real (t : Fin 4096) (h : Fin 16) (l : Fin 1) : hOne (hC2 cm) (ix3 t h l) = ((0 : ℝ) : EReal) := by
  rw [hOne_read, hC2_read, hc, ← EReal.coe_sub, sub_self]
include hc in
theorem c3_real (t : Fin 4096) (h : Fin 16) (l : Fin 1) : hOne (hC3 cm) (ix3 t h l) = ((0 : ℝ) : EReal) := by
  rw [hOne_read, hC3_read, hc, ← EReal.coe_sub, ← EReal.coe_sub, sub_self]

include hq hc in
/-- The augmented queries. -/
theorem qa_real (t : Fin 4096) (x : Fin 2048) :
    hQA q (hOne (hC1 cm)) (hOne (hC2 cm)) (hOne (hC3 cm)) (ix2 t x) = ((Spec.QA Q C (x.val / 128) t (x.val % 128) : ℝ) : EReal) := by
  rw [hQA_read]
  unfold Spec.QA
  by_cases h1 : x.val % 128 < 64
  · rw [dif_pos h1, if_pos h1]; exact hq _ _ _
  rw [dif_neg h1, if_neg h1]
  by_cases h2 : x.val % 128 - 64 < 1
  · rw [dif_pos h2, if_pos (by omega)]; exact c1_real hc _ _ _
  rw [dif_neg h2, if_neg (by omega)]
  by_cases h3 : x.val % 128 - 64 - 1 < 1
  · rw [dif_pos h3, if_pos (by omega)]; exact c2_real hc _ _ _
  rw [dif_neg h3]
  by_cases h4 : x.val % 128 - 64 - 1 - 1 < 1
  · rw [dif_pos h4, if_pos (by omega)]; exact c3_real hc _ _ _
  rw [dif_neg h4, if_neg (by omega)]
  by_cases h5 : x.val % 128 - 64 - 1 - 1 - 1 < 3
  · first | rw [dif_pos h5, if_pos (by omega)] | rw [if_pos h5, if_pos (by omega)]
    rfl
  first | rw [dif_neg h5, if_neg (by omega)] | rw [if_neg h5, if_neg (by omega)]
  rfl
include hk hc in
/-- The augmented keys. -/
theorem ka_real (t : Fin 4096) (x : Fin 2048) :
    hKA k (hOne (hC1 cm)) (hOne (hC2 cm)) (hOne (hC3 cm)) (ix2 t x) = ((Spec.KA K C (x.val / 128) t (x.val % 128) : ℝ) : EReal) := by
  rw [hKA_read]
  unfold Spec.KA
  by_cases h1 : x.val % 128 < 64
  · rw [dif_pos h1, if_pos h1]; exact hk _ _ _
  rw [dif_neg h1, if_neg h1]
  by_cases h2 : x.val % 128 - 64 < 3
  · first | rw [dif_pos h2, if_pos (by omega)] | rw [if_pos h2, if_pos (by omega)]
    rfl
  first | rw [dif_neg h2, if_neg (by omega)] | rw [if_neg h2, if_neg (by omega)]
  by_cases h3 : x.val % 128 - 64 - 3 < 1
  · rw [dif_pos h3, if_pos (by omega), c1_real hc, ← EReal.coe_neg]
  rw [dif_neg h3, if_neg (by omega)]
  by_cases h4 : x.val % 128 - 64 - 3 - 1 < 1
  · rw [dif_pos h4, c2_real hc, ← EReal.coe_neg, neg_zero]
  rw [dif_neg h4]
  by_cases h5 : x.val % 128 - 64 - 3 - 1 - 1 < 1
  · rw [dif_pos h5, c3_real hc, ← EReal.coe_neg, neg_zero]
  rw [dif_neg h5]
  rfl
include hv in
/-- The values, in a head's first sixty-four lanes. -/
theorem va_real (t : Fin 4096) (x : Fin 2048) (hx : x.val % 128 < 64) : hVA v (ix2 t x) = ((V t (x.val / 128) (x.val % 128) : ℝ) : EReal) := by
  rw [hVA_read v t x hx, hv]
include hd in
/-- The cotangent. -/
theorem do_real (t : Fin 4096) (x : Fin 1024) : hDo d (ix2 t x) = ((D t (x.val / 64) (x.val % 64) : ℝ) : EReal) := by
  rw [hDo_read, hd]

include hq hk hc in
theorem hLog_real (h : Fin 16) (t s : Fin 4096) :
    hLog q k cm (ix3 h t s) = if s.val ≤ t.val then ((Spec.lg Q K C h t s : ℝ) : EReal) else (⊥ : EReal) := by
  rw [hLog_read]
  congr 1
  rw [Spec.sum_fin _ (fun x => Q t h x * K s h x) fun x => by rw [hq, hk, EReal.coe_mul], hc, hc, ← EReal.coe_sub, ← EReal.coe_add]
  rfl

include hq hk hc in
theorem tM_real (h : Fin 16) (t : Fin 4096) : ∃ m : ℝ, tM q k cm (ix2 h t) = ((m : ℝ) : EReal) :=
  Ref.red_max_real (hLog q k cm) (constant S_ .f32 0xFF800000#32) reducesTo_S16x4096x4096_S16x4096_d2 h_S_ (fun _ => Ref.ninf) h t ⟨0, by omega⟩
    (by rw [hLog_real hq hk hc, if_pos (Nat.zero_le _)]; exact EReal.coe_ne_bot _)
    (fun i => by rw [hLog_real hq hk hc]; split_ifs <;> simp)

include hq hk hc in
theorem rows_real (h : Fin 16) (t : Fin 4096) : ∃ m : ℝ, tM q k cm (ix2 h t) = ((m : ℝ) : EReal)
    ∧ (∀ s : Fin 4096, tE q k cm (ix3 h t s) = ((if s.val ≤ t.val then Real.exp (Spec.lg Q K C h t s - m) else 0 : ℝ) : EReal))
    ∧ tZ q k cm (ix2 h t) = ((Spec.Z Q K C m h t : ℝ) : EReal) := by
  obtain ⟨m, hm⟩ := tM_real hq hk hc h t
  have hE : ∀ s : Fin 4096, tE q k cm (ix3 h t s) = ((if s.val ≤ t.val then Real.exp (Spec.lg Q K C h t s - m) else 0 : ℝ) : EReal) := fun s => by
    unfold tE
    rw [hE_read, hLog_real hq hk hc, hm]
    split_ifs
    · rw [← EReal.coe_sub, Ideal.exp_coe]
    · rw [EReal.bot_sub, Ideal.exp_bot, EReal.coe_zero]
  exact ⟨m, hm, hE, by unfold tZ; rw [hZ_read]; exact Spec.sum_fin _ _ hE⟩

include hq hk hc in
/-- The logarithm of each row's sum is a real number from which the probabilities are found. -/
theorem lse_real (t : Fin 4096) (x : Fin 1024) : ∃ m : ℝ, hLane (hLse (tM q k cm) (tZ q k cm)) (ix2 t x)
    = ((m + Real.log (Spec.Z Q K C m (x.val / 64) t) : ℝ) : EReal) := by
  obtain ⟨m, hm, -, hZ⟩ := rows_real hq hk hc (⟨x.val / 64, by omega⟩ : Fin 16) t
  refine ⟨m, ?_⟩
  rw [hLane_read, hLse_read, hm, hZ, Ideal.log_coe, if_neg (not_le.2 (Spec.Z_pos Q K C m _ _)), ← EReal.coe_add]

include hq hk hv hd hc in
/-- The output against its cotangent. -/
theorem dl_real (t : Fin 4096) (x : Fin 1024) : hLane (hDl d (hO v (hP (tE q k cm) (tZ q k cm)))) (ix2 t x)
    = ((Spec.DL Q K V D C (x.val / 64) t : ℝ) : EReal) := by
  obtain ⟨m, hm, hE, hZ⟩ := rows_real hq hk hc (⟨x.val / 64, by omega⟩ : Fin 16) t
  have e : ∀ l : Fin 64, d (ix3 t (⟨x.val / 64, by omega⟩ : Fin 16) l) * hO v (hP (tE q k cm) (tZ q k cm)) (ix3 t (⟨x.val / 64, by omega⟩ : Fin 16) l)
      = ((D t (x.val / 64) l * ∑ s ∈ Finset.range 4096, Spec.P Q K C (x.val / 64) t s * V s (x.val / 64) l : ℝ) : EReal) := fun l => by
    have e' : ∀ s : Fin 4096, v (ix3 s (⟨x.val / 64, by omega⟩ : Fin 16) l) * hP (tE q k cm) (tZ q k cm) (ix3 (⟨x.val / 64, by omega⟩ : Fin 16) t s)
        = ((Spec.P Q K C (x.val / 64) t s * V s (x.val / 64) l : ℝ) : EReal) := fun s => by
      rw [hv, hP_read, hE, hZ, Ref.div_real _ _ (Spec.Z_pos Q K C m _ _).ne', Spec.P_shift, mul_comm, EReal.coe_mul]
    rw [hd, hO_read, Spec.sum_fin _ (fun s => Spec.P Q K C (x.val / 64) t s * V s (x.val / 64) l) e', ← EReal.coe_mul]
  rw [hLane_read, hDl_read,
    Spec.sum_fin _ (fun l => D t (x.val / 64) l * ∑ s ∈ Finset.range 4096, Spec.P Q K C (x.val / 64) t s * V s (x.val / 64) l) e]
  rfl
end

end Cert.Proof.Fox.Host

end
-- ==== Proof.Values.lean ====
/-
  The kernel's four results on finite inputs.
-/
module

public import proofs.«01_k».proof.Proof.Arrays
public import proofs.«01_k».proof.Proof.HostRead
public import proofs.«01_k».proof.Proof.Run

@[expose] public section

set_option maxRecDepth 16384

noncomputable section

namespace Cert.Proof.Fox.Values

open KernelIdeal KernelIdeal.Gen Idealize.ShloMosaic TcCoe Idealize.SL.Sem Host
open Finset (range)

section
variable (x y : FVec Ideal S4096x2048 .f32) (z : FVec Ideal S4096x1024 .f32)
/-- The last host operations: the first lanes of an augmented gradient, the heads apart, and the two lanes the decay's gradient is found from. -/
def eHead : FVec Ideal S4096x16x64 .f32 :=
  extractStridedSlice S4096x16x64 ![0, 0, 0] (shapeCast S4096x16x128 x shapeCasts_S4096x2048_S4096x16x128) slices_S4096x16x128_S4096x16x64_0_0_0
def eVal : FVec Ideal S4096x16x64 .f32 := shapeCast S4096x16x64 z shapeCasts_S4096x1024_S4096x16x64
def eDec : FVec Ideal S4096x16 .f32 := subf
  (shapeCast S4096x16 (extractStridedSlice S4096x16x1 ![0, 0, 64] (shapeCast S4096x16x128 x shapeCasts_S4096x2048_S4096x16x128) slices_S4096x16x128_S4096x16x1_0_0_64) shapeCasts_S4096x16x1_S4096x16)
  (shapeCast S4096x16 (extractStridedSlice S4096x16x1 ![0, 0, 67] (shapeCast S4096x16x128 y shapeCasts_S4096x2048_S4096x16x128) slices_S4096x16x128_S4096x16x1_0_0_67) shapeCasts_S4096x16x1_S4096x16)

theorem eHead_read (t : Fin 4096) (h : Fin 16) (l : Fin 64) : eHead x (ix3 t h l) = x (ix2 t (⟨128 * h.val + l.val, by omega⟩ : Fin 2048)) := by
  pointwise [eHead]
  exact congrArg (fun n => x (ix2 t n)) (Fin.ext (congrArg (· + l.val) (Nat.mul_comm _ _)))
theorem eVal_read (t : Fin 4096) (h : Fin 16) (l : Fin 64) : eVal z (ix3 t h l) = z (ix2 t (⟨64 * h.val + l.val, by omega⟩ : Fin 1024)) := by
  pointwise [eVal]
  exact congrArg (fun n => z (ix2 t n)) (Fin.ext (congrArg (· + l.val) (Nat.mul_comm _ _)))
theorem eDec_read (t : Fin 4096) (h : Fin 16) : eDec x y (ix2 t h)
    = x (ix2 t (⟨128 * h.val + 64, by omega⟩ : Fin 2048)) - y (ix2 t (⟨128 * h.val + 67, by omega⟩ : Fin 2048)) := by
  pointwise [eDec]
  exact congrArg₂ (· - ·) (congrArg (fun n => x (ix2 t n)) (Fin.ext (congrArg (· + 64) (Nat.mul_comm _ _))))
    (congrArg (fun n => y (ix2 t n)) (Fin.ext (congrArg (· + 67) (Nat.mul_comm _ _))))
end

section
variable (W : Valuation τ sig (Elt Ideal))
theorem tail_dq : StableHlo.after (List.flatten [hostOps1 (F := Ideal)]) W (Proc.devRef .tc main_v67) = eHead (W (Proc.devRef .tc main_v64_0)) := by
  simp only [List.flatten_cons, List.flatten_nil, List.append_nil, StableHlo.TRef.nullary, StableHlo.TRef.ternary, StableHlo.TRef.unary, StableHlo.TRef.toBuf, StableHlo.TRef.ofBuf, cast_eq]
  after_reads_simp
  rfl
theorem tail_dk : StableHlo.after (List.flatten [hostOps1 (F := Ideal)]) W (Proc.devRef .tc main_v68) = eHead (W (Proc.devRef .tc main_v64_1)) := by
  simp only [List.flatten_cons, List.flatten_nil, List.append_nil, StableHlo.TRef.nullary, StableHlo.TRef.ternary, StableHlo.TRef.unary, StableHlo.TRef.toBuf, StableHlo.TRef.ofBuf, cast_eq]
  after_reads_simp
  rfl
theorem tail_dv : StableHlo.after (List.flatten [hostOps1 (F := Ideal)]) W (Proc.devRef .tc main_v69) = eVal (W (Proc.devRef .tc main_v64_2)) := by
  simp only [List.flatten_cons, List.flatten_nil, List.append_nil, StableHlo.TRef.nullary, StableHlo.TRef.ternary, StableHlo.TRef.unary, StableHlo.TRef.toBuf, StableHlo.TRef.ofBuf, cast_eq]
  after_reads_simp
  rfl
theorem tail_dc : StableHlo.after (List.flatten [hostOps1 (F := Ideal)]) W (Proc.devRef .tc main_v74)
    = eDec (W (Proc.devRef .tc main_v64_0)) (W (Proc.devRef .tc main_v64_1)) := by
  simp only [List.flatten_cons, List.flatten_nil, List.append_nil, StableHlo.TRef.nullary, StableHlo.TRef.ternary, StableHlo.TRef.unary, StableHlo.TRef.toBuf, StableHlo.TRef.ofBuf, cast_eq]
  after_reads_simp
  rfl
end

section
variable (m : (ℓ : Loc nD τ sig) → Buf (Elt Ideal) ℓ) (c : Dev nD) {Q K V D : ℕ → ℕ → ℕ → ℝ} {C : ℕ → ℕ → ℝ}
  (hq : ∀ (t : Fin 4096) (h : Fin 16) (l : Fin 64), aQ m c (ix3 t h l) = ((Q t h l : ℝ) : EReal))
  (hk : ∀ (t : Fin 4096) (h : Fin 16) (l : Fin 64), aK m c (ix3 t h l) = ((K t h l : ℝ) : EReal))
  (hv : ∀ (t : Fin 4096) (h : Fin 16) (l : Fin 64), aV m c (ix3 t h l) = ((V t h l : ℝ) : EReal))
  (hd : ∀ (t : Fin 4096) (h : Fin 16) (l : Fin 64), aD m c (ix3 t h l) = ((D t h l : ℝ) : EReal))
  (hc : ∀ (t : Fin 4096) (h : Fin 16), aC m c (ix2 t h) = ((C t h : ℝ) : EReal))

include hq hk hv hd hc in
/-- The arrays the pipeline reads. -/
theorem real_in : RealIn (A₀ m c) Q K V D C where
  q t x := (congrFun (V_qa m c) (ix2 t x)).trans (qa_real hq hc t x)
  k t x := (congrFun (V_ka m c) (ix2 t x)).trans (ka_real hk hc t x)
  v t x hx := (congrFun (V_va m c) (ix2 t x)).trans (va_real hv t x hx)
  d t x := (congrFun (V_do m c) (ix2 t x)).trans (do_real hd t x)
  l t x := by
    obtain ⟨μ, h⟩ := lse_real hq hk hc t x
    exact ⟨μ, (congrFun (V_lse m c) (ix2 t x)).trans h⟩
  e t x := (congrFun (V_dl m c) (ix2 t x)).trans (dl_real hq hk hv hd hc t x)

variable (r : PUnit × MemSt nD τ sig (Elt Ideal))
  (h : Pipeline.FramePost (pcsA (F := Ideal)) (dats m) 0 (Pipeline.afterTail pcfgs (fun _ => adm) (dats m) 0 (V₀ m) [hostOps1]) r)

theorem head_div (h l : ℕ) (hl : l < 128) : (128 * h + l) / 128 = h := by omega
theorem head_mod (h l : ℕ) (hl : l < 128) : (128 * h + l) % 128 = l := by omega
theorem val_div (h l : ℕ) (hl : l < 64) : (64 * h + l) / 64 = h := by omega
theorem val_mod (h l : ℕ) (hl : l < 64) : (64 * h + l) % 64 = l := by omega

theorem outQ_at (Q K V D : ℕ → ℕ → ℕ → ℝ) (C : ℕ → ℕ → ℝ) (t : Fin 4096) (h l : ℕ) (hl : l < 128) (hx : 128 * h + l < 2048) :
    outQ Q K V D C (ix2 t (⟨128 * h + l, hx⟩ : Fin 2048)) = ((∑ s ∈ range 4096, Spec.DS Q K V D C h t s * Spec.KA K C h s l : ℝ) : EReal) := by
  show ((sumQ Q K V D C ((128 * h + l) / 128) t ((128 * h + l) % 128) 8 : ℝ) : EReal) = _
  rw [head_div _ _ hl, head_mod _ _ hl]; rfl
theorem outK_at (Q K V D : ℕ → ℕ → ℕ → ℝ) (C : ℕ → ℕ → ℝ) (t : Fin 4096) (h l : ℕ) (hl : l < 128) (hx : 128 * h + l < 2048) :
    outK Q K V D C (ix2 t (⟨128 * h + l, hx⟩ : Fin 2048)) = ((∑ s ∈ range 4096, Spec.QA Q C h s l * Spec.DS Q K V D C h s t : ℝ) : EReal) := by
  show ((∑ s ∈ range 4096, Spec.QA Q C ((128 * h + l) / 128) s ((128 * h + l) % 128) * Spec.DS Q K V D C ((128 * h + l) / 128) s t : ℝ) : EReal) = _
  rw [head_div _ _ hl, head_mod _ _ hl]
theorem outV_at (Q K D : ℕ → ℕ → ℕ → ℝ) (C : ℕ → ℕ → ℝ) (t : Fin 4096) (h l : ℕ) (hl : l < 64) (hx : 64 * h + l < 1024) :
    outV Q K D C (ix2 t (⟨64 * h + l, hx⟩ : Fin 1024)) = ((∑ s ∈ range 4096, D s h l * Spec.P Q K C h s t : ℝ) : EReal) := by
  show ((∑ s ∈ range 4096, D s ((64 * h + l) / 64) ((64 * h + l) % 64) * Spec.P Q K C ((64 * h + l) / 64) s t : ℝ) : EReal) = _
  rw [val_div _ _ hl, val_mod _ _ hl]

include hq hk hv hd hc in
theorem with6 : Pipeline.withArrays spec0 c (V₀ m c) (fun w => (dats m 0 c).arrAt w (pcsA (F := Ideal) 0).N) (Proc.devRef .tc main_v64_0) = outQ Q K V D C :=
  (Pipeline.withArrays_arr spec0 (launch0 (F := Ideal)).win.arr_inj c _ _ 6).trans (arr6 m c Q K V D C (real_in m c hq hk hv hd hc))
include hq hk hv hd hc in
theorem with7 : Pipeline.withArrays spec0 c (V₀ m c) (fun w => (dats m 0 c).arrAt w (pcsA (F := Ideal) 0).N) (Proc.devRef .tc main_v64_1) = outK Q K V D C :=
  (Pipeline.withArrays_arr spec0 (launch0 (F := Ideal)).win.arr_inj c _ _ 7).trans (arr7 m c Q K V D C (real_in m c hq hk hv hd hc))
include hq hk hv hd hc in
theorem with8 : Pipeline.withArrays spec0 c (V₀ m c) (fun w => (dats m 0 c).arrAt w (pcsA (F := Ideal) 0).N) (Proc.devRef .tc main_v64_2) = outV Q K D C :=
  (Pipeline.withArrays_arr spec0 (launch0 (F := Ideal)).win.arr_inj c _ _ 8).trans (arr8 m c Q K V D C (real_in m c hq hk hv hd hc))

include h hq hk hv hd hc in
theorem dq_value (t : Fin 4096) (n : Fin 16) (l : Fin 64) : r.2.mem ((c.tc : Thread nD τ).loc main_v67) (ix3 t n l)
    = ((∑ s ∈ range 4096, Spec.DS Q K V D C n t s * K s n l : ℝ) : EReal) := by
  have e : r.2.mem ((c.tc : Thread nD τ).loc main_v67) = eHead (outQ Q K V D C) :=
    ((h c).2 main_v67 (by decide)).trans ((tail_dq _).trans (congrArg eHead (with6 m c hq hk hv hd hc)))
  rw [e, eHead_read, outQ_at _ _ _ _ _ _ _ _ (by omega)]
  refine congrArg _ (Finset.sum_congr rfl fun s _ => ?_)
  unfold Spec.KA; rw [if_pos l.2]
include h hq hk hv hd hc in
theorem dk_value (t : Fin 4096) (n : Fin 16) (l : Fin 64) : r.2.mem ((c.tc : Thread nD τ).loc main_v68) (ix3 t n l)
    = ((∑ s ∈ range 4096, Q s n l * Spec.DS Q K V D C n s t : ℝ) : EReal) := by
  have e : r.2.mem ((c.tc : Thread nD τ).loc main_v68) = eHead (outK Q K V D C) :=
    ((h c).2 main_v68 (by decide)).trans ((tail_dk _).trans (congrArg eHead (with7 m c hq hk hv hd hc)))
  rw [e, eHead_read, outK_at _ _ _ _ _ _ _ _ (by omega)]
  refine congrArg _ (Finset.sum_congr rfl fun s _ => ?_)
  unfold Spec.QA; rw [if_pos l.2]
include h hq hk hv hd hc in
theorem dv_value (t : Fin 4096) (n : Fin 16) (l : Fin 64) : r.2.mem ((c.tc : Thread nD τ).loc main_v69) (ix3 t n l)
    = ((∑ s ∈ range 4096, D s n l * Spec.P Q K C n s t : ℝ) : EReal) := by
  have e : r.2.mem ((c.tc : Thread nD τ).loc main_v69) = eVal (outV Q K D C) :=
    ((h c).2 main_v69 (by decide)).trans ((tail_dv _).trans (congrArg eVal (with8 m c hq hk hv hd hc)))
  rw [e, eVal_read, outV_at _ _ _ _ _ _ _ (by omega)]
include h hq hk hv hd hc in
theorem dc_value (t : Fin 4096) (n : Fin 16) : r.2.mem ((c.tc : Thread nD τ).loc main_v74) (ix2 t n)
    = ((∑ s ∈ range 4096, Spec.DS Q K V D C n t s - ∑ s ∈ range 4096, Spec.DS Q K V D C n s t : ℝ) : EReal) := by
  have e : r.2.mem ((c.tc : Thread nD τ).loc main_v74) = eDec (outQ Q K V D C) (outK Q K V D C) :=
    ((h c).2 main_v74 (by decide)).trans ((tail_dc _).trans (congrArg₂ eDec (with6 m c hq hk hv hd hc) (with7 m c hq hk hv hd hc)))
  rw [e, eDec_read, outQ_at _ _ _ _ _ _ _ _ (by omega), outK_at _ _ _ _ _ _ _ _ (by omega), ← EReal.coe_sub]
  refine congrArg _ (congrArg₂ (· - ·) (Finset.sum_congr rfl fun s _ => ?_) (Finset.sum_congr rfl fun s _ => ?_))
  · show _ * Spec.KA K C n s 64 = _
    unfold Spec.KA; rw [if_neg (by omega), if_pos (by omega), mul_one]
  · show Spec.QA Q C n s 67 * _ = _
    unfold Spec.QA; rw [if_neg (by omega), if_neg (by omega), if_neg (by omega), if_pos (by omega), one_mul]
end

end Cert.Proof.Fox.Values

end
-- ==== Proof.Finite.lean ====
/-
  What the finiteness of the arguments says of their elements.
-/
module

public import proofs.«01_k».proof.Proof.Gen.Pre_finite
public import proofs.«01_k».proof.Proof.RefMax

@[expose] public section

set_option maxRecDepth 16384

noncomputable section

namespace Cert.Proof.Fox.Finite

open Cert.Pre_finite Gen Idealize.ShloMosaic

/-- Both comparisons of an element hold. -/
def both (x : EReal) : BitVec 1 := IntOp.andi (BitVec.ofBool (decide (⊥ < x))) (BitVec.ofBool (decide (x < ⊤)))

theorem ofBool_one {b : Bool} (h : BitVec.ofBool b = 1#1) : b = true := by revert h; cases b <;> decide

theorem both_real {x : EReal} (h : both x = 1#1) : x = ((x.toReal : ℝ) : EReal) := by
  obtain ⟨h1, h2⟩ := IntOp.andi_eq_one.1 h
  exact (EReal.coe_toReal (of_decide_eq_true (ofBool_one h2)).ne (of_decide_eq_true (ofBool_one h1)).ne').symm

variable (a b c d : FVec Ideal S4096x16x64 .f32) (e : FVec Ideal S4096x16 .f32)

theorem fn_read (t : Fin 4096) (h : Fin 16) (l : Fin 64) : fn (F := Ideal) a b c e d (ix3 t h l)
    = IntOp.andi (IntOp.andi (IntOp.andi (IntOp.andi (both (a (ix3 t h l))) (both (b (ix3 t h l)))) (both (c (ix3 t h l)))) (both (d (ix3 t h l))))
      (both (e (ix2 t h))) := by
  pointwise [fn, fn_part1]
  rw [Ref.ninf, Ref.pinf]
  rfl

/-- The real numbers of an array of three axes, and of two. -/
def val3 (x : FVec Ideal S4096x16x64 .f32) (t h l : ℕ) : ℝ :=
  if H : t < 4096 ∧ h < 16 ∧ l < 64 then EReal.toReal (x (ix3 (⟨t, H.1⟩ : Fin 4096) (⟨h, H.2.1⟩ : Fin 16) (⟨l, H.2.2⟩ : Fin 64))) else 0
def val2 (x : FVec Ideal S4096x16 .f32) (t h : ℕ) : ℝ :=
  if H : t < 4096 ∧ h < 16 then EReal.toReal (x (ix2 (⟨t, H.1⟩ : Fin 4096) (⟨h, H.2⟩ : Fin 16))) else 0

theorem val3_at (x : FVec Ideal S4096x16x64 .f32) (t : Fin 4096) (h : Fin 16) (l : Fin 64) (hx : both (x (ix3 t h l)) = 1#1) :
    x (ix3 t h l) = ((val3 x t h l : ℝ) : EReal) := by
  unfold val3
  rw [dif_pos ⟨t.2, h.2, l.2⟩]
  exact both_real hx
theorem val2_at (x : FVec Ideal S4096x16 .f32) (t : Fin 4096) (h : Fin 16) (hx : both (x (ix2 t h)) = 1#1) :
    x (ix2 t h) = ((val2 x t h : ℝ) : EReal) := by
  unfold val2
  rw [dif_pos ⟨t.2, h.2⟩]
  exact both_real hx

section
variable (H : fn (F := Ideal) a b c e d = fun _ => 1#1)
include H
theorem split (t : Fin 4096) (h : Fin 16) (l : Fin 64) : (((both (a (ix3 t h l)) = 1#1 ∧ both (b (ix3 t h l)) = 1#1) ∧ both (c (ix3 t h l)) = 1#1)
    ∧ both (d (ix3 t h l)) = 1#1) ∧ both (e (ix2 t h)) = 1#1 := by
  have h0 := (fn_read a b c d e t h l).symm.trans (congrFun H (ix3 t h l))
  rwa [IntOp.andi_eq_one, IntOp.andi_eq_one, IntOp.andi_eq_one, IntOp.andi_eq_one] at h0
theorem real_a (t : Fin 4096) (h : Fin 16) (l : Fin 64) : a (ix3 t h l) = ((val3 a t h l : ℝ) : EReal) := val3_at a t h l (split a b c d e H t h l).1.1.1.1
theorem real_b (t : Fin 4096) (h : Fin 16) (l : Fin 64) : b (ix3 t h l) = ((val3 b t h l : ℝ) : EReal) := val3_at b t h l (split a b c d e H t h l).1.1.1.2
theorem real_c (t : Fin 4096) (h : Fin 16) (l : Fin 64) : c (ix3 t h l) = ((val3 c t h l : ℝ) : EReal) := val3_at c t h l (split a b c d e H t h l).1.1.2
theorem real_d (t : Fin 4096) (h : Fin 16) (l : Fin 64) : d (ix3 t h l) = ((val3 d t h l : ℝ) : EReal) := val3_at d t h l (split a b c d e H t h l).1.2
theorem real_e (t : Fin 4096) (h : Fin 16) : e (ix2 t h) = ((val2 e t h : ℝ) : EReal) := val2_at e t h (split a b c d e H t h 0).2
end

end Cert.Proof.Fox.Finite

end
-- ==== Proof.Equal.lean ====
/-
  The kernel and the reference end with equal results.
-/
module

public import proofs.«01_k».proof.Proof.Frame
public import proofs.«01_k».proof.Proof.Values
public import proofs.«01_k».proof.Proof.Finite

@[expose] public section

set_option maxRecDepth 16384

noncomputable section

namespace Cert.Proof.Fox

open KernelIdeal KernelIdeal.Gen Idealize.ShloMosaic TcCoe Idealize.SL.Sem
open Finset (range)

theorem ext3 {α : Type} {f g : S4096x16x64.Idx → α} (h : ∀ (t : Fin 4096) (n : Fin 16) (l : Fin 64), f (ix3 t n l) = g (ix3 t n l)) : f = g :=
  funext fun i => by
    have e : i = ix3 (i 0) (i 1) (i 2) := funext fun d => match d with | 0 => rfl | 1 => rfl | 2 => rfl
    rw [e]; exact h (i 0) (i 1) (i 2)
theorem ext2 {α : Type} {f g : S4096x16.Idx → α} (h : ∀ (t : Fin 4096) (n : Fin 16), f (ix2 t n) = g (ix2 t n)) : f = g :=
  funext fun i => by
    have e : i = ix2 (i 0) (i 1) := funext fun d => match d with | 0 => rfl | 1 => rfl
    rw [e]; exact h (i 0) (i 1)

section
variable (q k v d : FVec Ideal S4096x16x64 .f32) (cm : FVec Ideal S4096x16 .f32)
/-- What the reference computes of its arguments. -/
def gDq : FVec Ideal S4096x16x64 .f32 := Ref.rDq (Ref.tDS q k v d cm) k
def gDk : FVec Ideal S4096x16x64 .f32 := Ref.rDk (Ref.tDS q k v d cm) q
def gDv : FVec Ideal S4096x16x64 .f32 := Ref.rDv d (Ref.tP q k cm)
def gDc : FVec Ideal S4096x16 .f32 := Ref.rDc (Ref.tDS q k v d cm)
end

section
variable (m : (ℓ : Loc nD τ sig) → Buf (Elt Ideal) ℓ) (c : Dev nD) (r : PUnit × MemSt nD τ sig (Elt Ideal))
  (h : Pipeline.FramePost (pcsA (F := Ideal)) (dats m) 0 (Pipeline.afterTail pcfgs (fun _ => adm) (dats m) 0 (V₀ m) [hostOps1]) r)
  (H : Cert.Pre_finite.fn (F := Ideal) (Host.aQ m c) (Host.aK m c) (Host.aV m c) (Host.aC m c) (Host.aD m c) = fun _ => 1#1)
include h H
open Finite (real_a real_b real_c real_d real_e)
theorem kernel_dq : r.2.mem ((c.tc : Thread nD τ).loc main_v67) = gDq (Host.aQ m c) (Host.aK m c) (Host.aV m c) (Host.aD m c) (Host.aC m c) :=
  ext3 fun t n l => (Values.dq_value m c (real_a _ _ _ _ _ H) (real_b _ _ _ _ _ H) (real_c _ _ _ _ _ H) (real_d _ _ _ _ _ H) (real_e _ _ _ _ _ H) r h t n l).trans
    (Ref.dq_real (real_a _ _ _ _ _ H) (real_b _ _ _ _ _ H) (real_c _ _ _ _ _ H) (real_d _ _ _ _ _ H) (real_e _ _ _ _ _ H) t n l).symm
theorem kernel_dk : r.2.mem ((c.tc : Thread nD τ).loc main_v68) = gDk (Host.aQ m c) (Host.aK m c) (Host.aV m c) (Host.aD m c) (Host.aC m c) :=
  ext3 fun t n l => (Values.dk_value m c (real_a _ _ _ _ _ H) (real_b _ _ _ _ _ H) (real_c _ _ _ _ _ H) (real_d _ _ _ _ _ H) (real_e _ _ _ _ _ H) r h t n l).trans
    (Ref.dk_real (real_a _ _ _ _ _ H) (real_b _ _ _ _ _ H) (real_c _ _ _ _ _ H) (real_d _ _ _ _ _ H) (real_e _ _ _ _ _ H) t n l).symm
theorem kernel_dv : r.2.mem ((c.tc : Thread nD τ).loc main_v69) = gDv (Host.aQ m c) (Host.aK m c) (Host.aD m c) (Host.aC m c) :=
  ext3 fun t n l => (Values.dv_value m c (real_a _ _ _ _ _ H) (real_b _ _ _ _ _ H) (real_c _ _ _ _ _ H) (real_d _ _ _ _ _ H) (real_e _ _ _ _ _ H) r h t n l).trans
    (Ref.dv_real (real_a _ _ _ _ _ H) (real_b _ _ _ _ _ H) (real_d _ _ _ _ _ H) (real_e _ _ _ _ _ H) t n l).symm
theorem kernel_dc : r.2.mem ((c.tc : Thread nD τ).loc main_v74) = gDc (Host.aQ m c) (Host.aK m c) (Host.aV m c) (Host.aD m c) (Host.aC m c) :=
  ext2 fun t n => (Values.dc_value m c (real_a _ _ _ _ _ H) (real_b _ _ _ _ _ H) (real_c _ _ _ _ _ H) (real_d _ _ _ _ _ H) (real_e _ _ _ _ _ H) r h t n).trans
    (Ref.dc_real (real_a _ _ _ _ _ H) (real_b _ _ _ _ _ H) (real_c _ _ _ _ _ H) (real_d _ _ _ _ _ H) (real_e _ _ _ _ _ H) t n).symm
end

/-- On finite arguments the kernel and the reference end with equal results. -/
theorem equal : algebraic_KernelIdeal_ReferenceIdeal_pre_finite := by
  intro m g m' g' H hargs
  refine ⟨fun c => gDq (Host.aQ m c) (Host.aK m c) (Host.aV m c) (Host.aD m c) (Host.aC m c), fun c => gDk (Host.aQ m c) (Host.aK m c) (Host.aV m c) (Host.aD m c) (Host.aC m c),
    fun c => gDv (Host.aQ m c) (Host.aK m c) (Host.aD m c) (Host.aC m c), fun c => gDc (Host.aQ m c) (Host.aK m c) (Host.aV m c) (Host.aD m c) (Host.aC m c), ?_, ?_⟩
  · refine (θ_run _ _ _).mono (fun r h c => ?_) (run_main m g)
    exact ⟨kernel_dq m c r h.1 (H c), kernel_dk m c r h.1 (H c), kernel_dv m c r h.1 (H c), kernel_dc m c r h.1 (H c),
      kept m r h.1 c main_arg0 (by decide) (by decide) (by decide) (by decide), kept m r h.1 c main_arg1 (by decide) (by decide) (by decide) (by decide),
      kept m r h.1 c main_arg2 (by decide) (by decide) (by decide) (by decide), kept m r h.1 c main_arg3 (by decide) (by decide) (by decide) (by decide),
      kept m r h.1 c main_arg4 (by decide) (by decide) (by decide) (by decide)⟩
  · refine (θ_run _ _ _).mono (fun r h c => ?_) (ReferenceIdeal.Value.run (F := Ideal) m' g')
    obtain ⟨e0, e1, e2, e3, e4⟩ := hargs c
    obtain ⟨h0, h1, h2, h3, hk⟩ := h c
    refine ⟨h0.trans ((Ref.res_dq m' c).trans ?_), h1.trans ((Ref.res_dk m' c).trans ?_), h2.trans ((Ref.res_dv m' c).trans ?_), h3.trans ((Ref.res_dc m' c).trans ?_), hk⟩
    · unfold Ref.aQ Ref.aK Ref.aV Ref.aC Ref.aD; rw [e0, e1, e2, e3, e4]; rfl
    · unfold Ref.aQ Ref.aK Ref.aV Ref.aC Ref.aD; rw [e0, e1, e2, e3, e4]; rfl
    · unfold Ref.aQ Ref.aK Ref.aC Ref.aD; rw [e0, e1, e3, e4]; rfl
    · unfold Ref.aQ Ref.aK Ref.aV Ref.aC Ref.aD; rw [e0, e1, e2, e3, e4]; rfl

end Cert.Proof.Fox

end
-- ==== Proof.Mix.Shared.lean ====
/-
  Facts of padding and of sums that every product below uses.
-/
module

public import Idealize.ShloMosaic.Lib.KernelVsHost
public import Idealize.ShloMosaic.Lib.Pointwise

@[expose] public section

noncomputable section

namespace Cert.Proof.Mix

open Idealize.ShloMosaic Idealize.SL.Sem

abbrev Sh (M N : ℕ) : Shape := ⟨2, ![M, N]⟩

theorem rc {M N : ℕ} (x : (Sh M N).Idx) : x = ix2 (x 0) (x 1) := funext fun d => match d with | 0 => rfl | 1 => rfl

/-- Two functions of a row and a column are equal if they are so at each. -/
theorem ext_rc {α : Type} {M N : ℕ} {f g : (Sh M N).Idx → α} (h : ∀ (i : Fin M) (j : Fin N), f (ix2 i j) = g (ix2 i j)) : f = g :=
  funext fun x => by rw [rc x]; exact h (x 0) (x 1)

/-- An index with a given row and column. -/
theorem at_rc {M N : ℕ} {x : (Sh M N).Idx} {i : Fin M} {j : Fin N} (h₀ : (x 0).val = i.val) (h₁ : (x 1).val = j.val) : x = ix2 i j :=
  (rc x).trans (congrArg₂ ix2 (Fin.ext h₀) (Fin.ext h₁))

section
variable {α : Type} {M N P q : ℕ} (x : (Sh M N).Idx → α) {u : Shape} (v : u.Idx → α)
  (hp : (Sh M N).Pads (![0, 0] : Fin 2 → ℕ) ![0, q] ![0, 0] (Sh M P)) (hu : 0 < u.numel)

/-- A column that the unpadded array has. -/
theorem pad_old (i : Fin M) (j : Fin P) (k : Fin N) (h : j.val = k.val) :
    pad (Sh M P) ![0, 0] ![0, q] ![0, 0] x v hp hu (ix2 i j) = x (ix2 i k) :=
  pad_apply_of_inside _ _ _ x v hp hu _ (ix2 i k) fun a => match a with
    | 0 => by show i.val = 0 + i.val * (0 + 1); omega
    | 1 => by show j.val = 0 + k.val * (0 + 1); omega

/-- A column of the padding. -/
theorem pad_new (i : Fin M) (j : Fin P) (h : N ≤ j.val) :
    pad (Sh M P) ![0, 0] ![0, q] ![0, 0] x v hp hu (ix2 i j) = v (Shape.Idx.first hu) :=
  pad_apply_of_not_inside _ _ _ x v hp hu _ 1 fun c => by
    have := c.2.2
    have e : (j.val - 0) / (0 + 1) < N := this
    omega
end

/-- The host's padding value. -/
theorem zero_fill (φ : FTy) (i : (⟨0, ![]⟩ : Shape).Idx) : (sitofp (F := Ideal) φ (constantI ⟨0, ![]⟩ 32 0#32) i : EReal) = 0 := by
  show (((0#32 : BitVec 32).toInt : ℝ) : EReal) = 0
  simp

/-- A sum whose last terms vanish is the sum of the others. -/
theorem sum_front {N q P : ℕ} (hP : N + q = P) (f : Fin P → EReal) (g : Fin N → EReal)
    (h₀ : ∀ (j : Fin P) (k : Fin N), j.val = k.val → f j = g k) (h₁ : ∀ j : Fin P, N ≤ j.val → f j = 0) : ∑ j, f j = ∑ k, g k := by
  subst hP
  rw [Fin.sum_univ_add, Finset.sum_congr rfl fun k _ => h₀ (Fin.castAdd q k) k rfl,
    Finset.sum_eq_zero fun k _ => h₁ (Fin.natAdd N k) (by simp), add_zero]

/-- A row against the columns of a padded array is a padded array. -/
theorem product_pad {M K N P q : ℕ} (f : Fin K → EReal) (w : (Sh K N).Idx → EReal) (g : (Sh M N).Idx → EReal) {u : Shape} (v v' : u.Idx → EReal)
    (hp : (Sh K N).Pads (![0, 0] : Fin 2 → ℕ) ![0, q] ![0, 0] (Sh K P)) (hp' : (Sh M N).Pads (![0, 0] : Fin 2 → ℕ) ![0, q] ![0, 0] (Sh M P))
    (hu hu' : 0 < u.numel) (hv : ∀ x, v x = 0) (hv' : ∀ x, v' x = 0) (i : Fin M) (j : Fin P)
    (hg : ∀ l : Fin N, g (ix2 i l) = ∑ k, f k * w (ix2 k l)) :
    ∑ k, f k * pad (Sh K P) ![0, 0] ![0, q] ![0, 0] w v hp hu (ix2 k j) = pad (Sh M P) ![0, 0] ![0, q] ![0, 0] g v' hp' hu' (ix2 i j) := by
  by_cases h : j.val < N
  · rw [pad_old g v' hp' hu' i j ⟨j.val, h⟩ rfl, hg]
    exact Finset.sum_congr rfl fun k _ => congrArg _ (pad_old w v hp hu k j ⟨j.val, h⟩ rfl)
  · rw [pad_new g v' hp' hu' i j (by omega), hv']
    exact Finset.sum_eq_zero fun k _ => (congrArg _ ((pad_new w v hp hu k j (by omega)).trans (hv _))).trans (mul_zero _)

/-- A product along a padded axis does not see the padding. -/
theorem product_along {M N P K q : ℕ} (hP : K + q = P) (a : (Sh M K).Idx → EReal) (b : (Sh N K).Idx → EReal) {u : Shape} (v : u.Idx → EReal)
    (ha : (Sh M K).Pads (![0, 0] : Fin 2 → ℕ) ![0, q] ![0, 0] (Sh M P)) (hb : (Sh N K).Pads (![0, 0] : Fin 2 → ℕ) ![0, q] ![0, 0] (Sh N P))
    (hu hu' : 0 < u.numel) (hv : ∀ x, v x = 0) (i : Fin M) (j : Fin N) :
    ∑ k, pad (Sh M P) ![0, 0] ![0, q] ![0, 0] a v ha hu (ix2 i k) * pad (Sh N P) ![0, 0] ![0, q] ![0, 0] b v hb hu' (ix2 j k)
      = ∑ k, a (ix2 i k) * b (ix2 j k) :=
  sum_front hP _ _ (fun k l h => congrArg₂ (· * ·) (pad_old a v ha hu i k l h) (pad_old b v hb hu' j k l h))
    fun k h => (congrArg (· * _) ((pad_new a v ha hu i k h).trans (hv _))).trans (zero_mul _)

end Cert.Proof.Mix

end
-- ==== Proof.Mix.In.lean ====
/-
  The input projection: each block of the result is the product of a block of rows and a block of columns, and the array
  is the host's product beside its columns of padding.
-/
module

public import proofs.«01_k».proof.Defs
public import proofs.«01_k».proof.Proof.Mix.Shared
public import proofs.«01_k».proof.Proof.Gen.MixIn.Frame
public import proofs.«01_k».proof.Proof.Gen.MixInIdeal.Value
public import proofs.«01_k».proof.Proof.Gen.MixInRefIdeal.Run
public import Idealize.ShloMosaic.Lib.StableHlo.RunRead
public import Idealize.ShloMosaic.Lib.Pipeline.ValueKit

@[expose] public section

set_option maxRecDepth 16384

noncomputable section

namespace Cert.Proof.MixIn

open MixInIdeal MixInIdeal.Gen Idealize.ShloMosaic TcCoe Idealize.SL.Sem
open Cert.Proof.Mix

/-- One block of the result. -/
theorem block_at (a : Vec Ideal S2048x1024 .bf16) (b : Vec Ideal S1024x896 .bf16) (i : Fin 2048) (j : Fin 896) :
    k0_pay1 (F := Ideal) a b (ix2 i j) = ∑ k : Fin 1024, a (ix2 i k) * b (ix2 k j) := by
  pointwise [k0_pay1]

theorem out_at (a : Vec Ideal S2048x1024 .bf16) (b : Vec Ideal S1024x896 .bf16) : out0_2 (F := Ideal) a b = k0_pay1 a b := by
  have z : (![0, 0] : Fin 2 → ℕ) = fun _ => 0 := funext fun d => match d with | 0 => rfl | 1 => rfl
  unfold out0_2
  rw [View.canon_unit_zero z, View.ld_unit_zero z, View.ld_unit_zero z]

theorem places : ∀ t : Fin grid0.N, win0_0.index t 0 = win0_2.index t 0 ∧ win0_0.index t 1 = 0 ∧ win0_1.index t 0 = 0 ∧ win0_1.index t 1 = win0_2.index t 1 := by
  decide +kernel

section
variable (m : (ℓ : Loc nD τ sig) → Buf (Elt Ideal) ℓ) (c : Dev nD)
abbrev aH : FVec Ideal S4096x1024 .f32 := m ((c.tc : Thread nD τ).loc main_arg0)
abbrev aW : FVec Ideal S1024x6176 .f32 := m ((c.tc : Thread nD τ).loc main_arg1)
abbrev left : FVec Ideal S4096x1024 .bf16 := V m c main_v0
abbrev right : FVec Ideal S1024x6272 .bf16 := V m c main_v2

/-- The array of the two operands' products. -/
def whole : S4096x6272.Idx → EReal := fun x => ∑ k : Fin 1024, left m c (ix2 (x 0 : Fin 4096) k) * right m c (ix2 k (x 1 : Fin 6272))

theorem array : (dats m 0 c).arrAt 2 cfg0.N = whole m c := by
  refine (dats m 0 c).arrAt_eq_of_covers 2 _ (by decide +kernel) fun t _ y => ?_
  rw [after0_2, out_at]
  obtain ⟨i, j, rfl⟩ : ∃ (i : Fin 2048) (j : Fin 896), y = ix2 i j := ⟨y 0, y 1, rc y⟩
  obtain ⟨p, q, r, s⟩ := places t
  refine (block_at _ _ i j).trans (Finset.sum_congr rfl fun k _ => ?_)
  refine congrArg₂ (· * ·) (congrArg (left m c) (at_rc ?_ ?_)) (congrArg (right m c) (at_rc ?_ ?_))
  · show win0_0.index t 0 * 2048 + 1 * i.val = win0_2.index t 0 * 2048 + 1 * i.val; rw [p]
  · show win0_0.index t 1 * 1024 + 1 * k.val = k.val; rw [q]; omega
  · show win0_1.index t 0 * 1024 + 1 * k.val = k.val; rw [r]; omega
  · show win0_1.index t 1 * 896 + 1 * j.val = win0_2.index t 1 * 896 + 1 * j.val; rw [s]

theorem left_eq : left m c = truncf .bf16 (aH m c) bitsLt_bf16_f32 := by
  unfold left V
  simp only [List.flatten_cons, List.flatten_nil, List.append_nil, StableHlo.TRef.binary, StableHlo.TRef.unary, StableHlo.TRef.toBuf, StableHlo.TRef.ofBuf, cast_eq]
  after_reads_simp
theorem right_eq : right m c = pad S1024x6272 ![0, 0] ![0, 96] ![0, 0] (truncf .bf16 (aW m c) bitsLt_bf16_f32) (sitofp .bf16 (constantI S_ 32 0#32)) pads_S1024x6176_S1024x6272_000_0960 h_S_ := by
  unfold right V
  simp only [List.flatten_cons, List.flatten_nil, List.append_nil, StableHlo.TRef.binary, StableHlo.TRef.unary, StableHlo.TRef.toBuf, StableHlo.TRef.ofBuf, cast_eq]
  after_reads_simp
  rfl

theorem whole_eq : whole m c = pad S4096x6272 ![0, 0] ![0, 96] ![0, 0]
    (Host.dotGeneral MixInRefIdeal.dot_S4096x1024_S1024x6176_S4096x6176_1_0_0_1_n_n none (aH m c) (aW m c))
    (sitofp .f32 (constantI S_ 32 0#32)) MixInRefIdeal.Gen.pads_S4096x6176_S4096x6272_000_0960 h_S_ := by
  refine ext_rc fun i j => ?_
  unfold whole
  rw [left_eq, right_eq]
  exact product_pad (fun k => aH m c (ix2 i k)) (aW m c) _ _ _ _ _ _ _ (zero_fill _) (zero_fill _) i j fun l => by pointwise []
end

theorem frame_bits : quiescent_MixIn := fun m g _ => Cert.MixIn.Gen.frame m g
theorem frame_ideal : quiescent_MixInIdeal := fun m g _ => MixInIdeal.Gen.frame m g
theorem frame_reference : quiescent_MixInRefIdeal := fun m g _ =>
  (θ_run (MixInRefIdeal.defs (F := Ideal)) _ _).mono (fun r h => ⟨fun c => (h c).2, sem_eq_zero_of_no_sems (by decide) r.2⟩) (MixInRefIdeal.Value.run (F := Ideal) m g)

/-- The kernel and the reference end with equal results. -/
theorem equal : algebraic_MixInIdeal_MixInRefIdeal := by
  intro m g m' g' _ hargs
  refine ⟨fun c => whole m c, ?_, ?_⟩
  · exact (θ_run _ _ _).mono (fun r h c => ⟨(h c).1.trans (array m c), (h c).2⟩) (MixInIdeal.Value.run_blocks m g)
  · refine (θ_run _ _ _).mono (fun r h c => ⟨(h c).1.trans ?_, (h c).2⟩) (MixInRefIdeal.Value.run (F := Ideal) m' g')
    obtain ⟨e0, e1⟩ := hargs c
    rw [e0, e1]
    exact (whole_eq m c).symm

end Cert.Proof.MixIn

end
-- ==== Proof.Mix.Dw.lean ====
/-
  The weight gradient of the input projection: both operands are contracted along their rows, and the array is the
  transpose of the host's product beside its columns of padding.
-/
module

public import proofs.«01_k».proof.Defs
public import proofs.«01_k».proof.Proof.Mix.Shared
public import proofs.«01_k».proof.Proof.Gen.MixDw.Frame
public import proofs.«01_k».proof.Proof.Gen.MixDwIdeal.Value
public import proofs.«01_k».proof.Proof.Gen.MixDwRefIdeal.Run
public import Idealize.ShloMosaic.Lib.StableHlo.RunRead
public import Idealize.ShloMosaic.Lib.Pipeline.ValueKit

@[expose] public section

set_option maxRecDepth 16384

noncomputable section

namespace Cert.Proof.MixDw

open MixDwIdeal MixDwIdeal.Gen Idealize.ShloMosaic TcCoe Idealize.SL.Sem
open Cert.Proof.Mix

/-- One block of the result. -/
theorem block_at (a : Vec Ideal S4096x1024 .bf16) (b : Vec Ideal S4096x896 .bf16) (i : Fin 1024) (j : Fin 896) :
    k0_pay1 (F := Ideal) a b (ix2 i j) = ∑ k : Fin 4096, a (ix2 k i) * b (ix2 k j) := by
  pointwise [k0_pay1]

theorem out_at (a : Vec Ideal S4096x1024 .bf16) (b : Vec Ideal S4096x896 .bf16) : out0_2 (F := Ideal) a b = k0_pay1 a b := by
  have z : (![0, 0] : Fin 2 → ℕ) = fun _ => 0 := funext fun d => match d with | 0 => rfl | 1 => rfl
  unfold out0_2
  rw [View.canon_unit_zero z, View.ld_unit_zero z, View.ld_unit_zero z]

theorem places : ∀ t : Fin grid0.N, win0_0.index t 0 = 0 ∧ win0_0.index t 1 = win0_2.index t 0 ∧ win0_1.index t 0 = 0 ∧ win0_1.index t 1 = win0_2.index t 1 := by
  decide +kernel

section
variable (m : (ℓ : Loc nD τ sig) → Buf (Elt Ideal) ℓ) (c : Dev nD)
abbrev aH : FVec Ideal S4096x1024 .f32 := m ((c.tc : Thread nD τ).loc main_arg0)
abbrev aD : FVec Ideal S4096x6176 .f32 := m ((c.tc : Thread nD τ).loc main_arg2)
abbrev left : FVec Ideal S4096x1024 .bf16 := V m c main_v0
abbrev right : FVec Ideal S4096x6272 .bf16 := V m c main_v2

/-- The array of the two operands' products. -/
def whole : S1024x6272.Idx → EReal := fun x => ∑ k : Fin 4096, left m c (ix2 k (x 0 : Fin 1024)) * right m c (ix2 k (x 1 : Fin 6272))

theorem array : (dats m 0 c).arrAt 2 cfg0.N = whole m c := by
  refine (dats m 0 c).arrAt_eq_of_covers 2 _ (by decide +kernel) fun t _ y => ?_
  rw [after0_2, out_at]
  obtain ⟨i, j, rfl⟩ : ∃ (i : Fin 1024) (j : Fin 896), y = ix2 i j := ⟨y 0, y 1, rc y⟩
  obtain ⟨p, q, r, s⟩ := places t
  refine (block_at _ _ i j).trans (Finset.sum_congr rfl fun k _ => ?_)
  refine congrArg₂ (· * ·) (congrArg (left m c) (at_rc ?_ ?_)) (congrArg (right m c) (at_rc ?_ ?_))
  · show win0_0.index t 0 * 4096 + 1 * k.val = k.val; rw [p]; omega
  · show win0_0.index t 1 * 1024 + 1 * i.val = win0_2.index t 0 * 1024 + 1 * i.val; rw [q]
  · show win0_1.index t 0 * 4096 + 1 * k.val = k.val; rw [r]; omega
  · show win0_1.index t 1 * 896 + 1 * j.val = win0_2.index t 1 * 896 + 1 * j.val; rw [s]

theorem left_eq : left m c = truncf .bf16 (aH m c) bitsLt_bf16_f32 := by
  unfold left V
  simp only [List.flatten_cons, List.flatten_nil, List.append_nil, StableHlo.TRef.binary, StableHlo.TRef.unary, StableHlo.TRef.toBuf, StableHlo.TRef.ofBuf, cast_eq]
  after_reads_simp
theorem right_eq : right m c = pad S4096x6272 ![0, 0] ![0, 96] ![0, 0] (truncf .bf16 (aD m c) bitsLt_bf16_f32) (sitofp .bf16 (constantI S_ 32 0#32)) pads_S4096x6176_S4096x6272_000_0960 h_S_ := by
  unfold right V
  simp only [List.flatten_cons, List.flatten_nil, List.append_nil, StableHlo.TRef.binary, StableHlo.TRef.unary, StableHlo.TRef.toBuf, StableHlo.TRef.ofBuf, cast_eq]
  after_reads_simp
  rfl

theorem whole_eq : whole m c = truncf (F := Ideal) .bf16 (pad S1024x6272 ![0, 0] ![0, 96] ![0, 0]
    (transpose S1024x6176 [1, 0] (Host.dotGeneral MixDwRefIdeal.dot_S4096x6176_S4096x1024_S6176x1024_0_0_1_1_n_n none (aD m c) (aH m c)) MixDwRefIdeal.Gen.transposes_S6176x1024_S1024x6176_1_0)
    (sitofp .f32 (constantI S_ 32 0#32)) MixDwRefIdeal.Gen.pads_S1024x6176_S1024x6272_000_0960 h_S_) bitsLt_bf16_f32 := by
  refine ext_rc fun i j => ?_
  unfold whole
  rw [left_eq, right_eq]
  change _ = pad S1024x6272 ![0, 0] ![0, 96] ![0, 0] (transpose S1024x6176 [1, 0] _ MixDwRefIdeal.Gen.transposes_S6176x1024_S1024x6176_1_0) _ MixDwRefIdeal.Gen.pads_S1024x6176_S1024x6272_000_0960 h_S_ (ix2 i j)
  exact product_pad (fun k => aH m c (ix2 k i)) (aD m c) _ _ _ _ _ _ _ (zero_fill _) (zero_fill _) i j fun l => by
    pointwise []
    exact Finset.sum_congr rfl fun k _ => mul_comm _ _
end

theorem frame_bits : quiescent_MixDw := fun m g _ => Cert.MixDw.Gen.frame m g
theorem frame_ideal : quiescent_MixDwIdeal := fun m g _ => MixDwIdeal.Gen.frame m g
theorem frame_reference : quiescent_MixDwRefIdeal := fun m g _ =>
  (θ_run (MixDwRefIdeal.defs (F := Ideal)) _ _).mono (fun r h => ⟨fun c => (h c).2, sem_eq_zero_of_no_sems (by decide) r.2⟩) (MixDwRefIdeal.Value.run (F := Ideal) m g)

/-- The kernel and the reference end with equal results. -/
theorem equal : algebraic_MixDwIdeal_MixDwRefIdeal := by
  intro m g m' g' _ hargs
  refine ⟨fun c => whole m c, ?_, ?_⟩
  · exact (θ_run _ _ _).mono (fun r h c => ⟨(h c).1.trans (array m c), (h c).2⟩) (MixDwIdeal.Value.run_blocks m g)
  · refine (θ_run _ _ _).mono (fun r h c => ⟨(h c).1.trans ?_, (h c).2⟩) (MixDwRefIdeal.Value.run (F := Ideal) m' g')
    obtain ⟨e0, e1, e2⟩ := hargs c
    rw [e0, e2]
    exact (whole_eq m c).symm

end Cert.Proof.MixDw

end
-- ==== Proof.Mix.Dh.lean ====
/-
  The gradient of the input of the input projection: both operands are contracted along their padded columns, where
  the padding adds nothing.
-/
module

public import proofs.«01_k».proof.Defs
public import proofs.«01_k».proof.Proof.Mix.Shared
public import proofs.«01_k».proof.Proof.Gen.MixDh.Frame
public import proofs.«01_k».proof.Proof.Gen.MixDhIdeal.Value
public import proofs.«01_k».proof.Proof.Gen.MixDhRefIdeal.Run
public import Idealize.ShloMosaic.Lib.StableHlo.RunRead
public import Idealize.ShloMosaic.Lib.Pipeline.ValueKit

@[expose] public section

set_option maxRecDepth 16384

noncomputable section

namespace Cert.Proof.MixDh

open MixDhIdeal MixDhIdeal.Gen Idealize.ShloMosaic TcCoe Idealize.SL.Sem
open Cert.Proof.Mix

/-- One block of the result. -/
theorem block_at (a : Vec Ideal S1024x6272 .bf16) (b : Vec Ideal S512x6272 .bf16) (i : Fin 1024) (j : Fin 512) :
    k0_pay1 (F := Ideal) a b (ix2 i j) = ∑ k : Fin 6272, a (ix2 i k) * b (ix2 j k) := by
  pointwise [k0_pay1]

theorem out_at (a : Vec Ideal S1024x6272 .bf16) (b : Vec Ideal S512x6272 .bf16) : out0_2 (F := Ideal) a b = k0_pay1 a b := by
  have z : (![0, 0] : Fin 2 → ℕ) = fun _ => 0 := funext fun d => match d with | 0 => rfl | 1 => rfl
  unfold out0_2
  rw [View.canon_unit_zero z, View.ld_unit_zero z, View.ld_unit_zero z]

theorem places : ∀ t : Fin grid0.N, win0_0.index t 0 = win0_2.index t 0 ∧ win0_0.index t 1 = 0 ∧ win0_1.index t 0 = win0_2.index t 1 ∧ win0_1.index t 1 = 0 := by
  decide +kernel

section
variable (m : (ℓ : Loc nD τ sig) → Buf (Elt Ideal) ℓ) (c : Dev nD)
abbrev aW : FVec Ideal S1024x6176 .f32 := m ((c.tc : Thread nD τ).loc main_arg1)
abbrev aD : FVec Ideal S4096x6176 .f32 := m ((c.tc : Thread nD τ).loc main_arg2)
abbrev left : FVec Ideal S4096x6272 .bf16 := V m c main_v1
abbrev right : FVec Ideal S1024x6272 .bf16 := V m c main_v3

/-- The array of the two operands' products. -/
def whole : S4096x1024.Idx → EReal := fun x => ∑ k : Fin 6272, left m c (ix2 (x 0 : Fin 4096) k) * right m c (ix2 (x 1 : Fin 1024) k)

theorem array : (dats m 0 c).arrAt 2 cfg0.N = whole m c := by
  refine (dats m 0 c).arrAt_eq_of_covers 2 _ (by decide +kernel) fun t _ y => ?_
  rw [after0_2, out_at]
  obtain ⟨i, j, rfl⟩ : ∃ (i : Fin 1024) (j : Fin 512), y = ix2 i j := ⟨y 0, y 1, rc y⟩
  obtain ⟨p, q, r, s⟩ := places t
  refine (block_at _ _ i j).trans (Finset.sum_congr rfl fun k _ => ?_)
  refine congrArg₂ (· * ·) (congrArg (left m c) (at_rc ?_ ?_)) (congrArg (right m c) (at_rc ?_ ?_))
  · show win0_0.index t 0 * 1024 + 1 * i.val = win0_2.index t 0 * 1024 + 1 * i.val; rw [p]
  · show win0_0.index t 1 * 6272 + 1 * k.val = k.val; rw [q]; omega
  · show win0_1.index t 0 * 512 + 1 * j.val = win0_2.index t 1 * 512 + 1 * j.val; rw [r]
  · show win0_1.index t 1 * 6272 + 1 * k.val = k.val; rw [s]; omega

theorem left_eq : left m c = pad S4096x6272 ![0, 0] ![0, 96] ![0, 0] (truncf .bf16 (aD m c) bitsLt_bf16_f32) (sitofp .bf16 (constantI S_ 32 0#32)) pads_S4096x6176_S4096x6272_000_0960 h_S_ := by
  unfold left V
  simp only [List.flatten_cons, List.flatten_nil, List.append_nil, StableHlo.TRef.binary, StableHlo.TRef.unary, StableHlo.TRef.toBuf, StableHlo.TRef.ofBuf, cast_eq]
  after_reads_simp
  rfl
theorem right_eq : right m c = pad S1024x6272 ![0, 0] ![0, 96] ![0, 0] (truncf .bf16 (aW m c) bitsLt_bf16_f32) (sitofp .bf16 (constantI S_ 32 0#32)) pads_S1024x6176_S1024x6272_000_0960 h_S_ := by
  unfold right V
  simp only [List.flatten_cons, List.flatten_nil, List.append_nil, StableHlo.TRef.binary, StableHlo.TRef.unary, StableHlo.TRef.toBuf, StableHlo.TRef.ofBuf, cast_eq]
  after_reads_simp
  rfl

theorem whole_eq : whole m c = (Host.dotGeneral MixDhRefIdeal.dot_S4096x6176_S1024x6176_S4096x1024_1_1_0_0_n_n none (aD m c) (aW m c) : FVec Ideal S4096x1024 .f32) := by
  refine ext_rc fun i j => ?_
  unfold whole
  rw [left_eq, right_eq]
  refine (product_along (q := 96) rfl (aD m c) (aW m c) _ _ _ _ _ (zero_fill _) i j).trans ?_
  symm
  pointwise []
end

theorem frame_bits : quiescent_MixDh := fun m g _ => Cert.MixDh.Gen.frame m g
theorem frame_ideal : quiescent_MixDhIdeal := fun m g _ => MixDhIdeal.Gen.frame m g
theorem frame_reference : quiescent_MixDhRefIdeal := fun m g _ =>
  (θ_run (MixDhRefIdeal.defs (F := Ideal)) _ _).mono (fun r h => ⟨fun c => (h c).2, sem_eq_zero_of_no_sems (by decide) r.2⟩) (MixDhRefIdeal.Value.run (F := Ideal) m g)

/-- The kernel and the reference end with equal results. -/
theorem equal : algebraic_MixDhIdeal_MixDhRefIdeal := by
  intro m g m' g' _ hargs
  refine ⟨fun c => whole m c, ?_, ?_⟩
  · exact (θ_run _ _ _).mono (fun r h c => ⟨(h c).1.trans (array m c), (h c).2⟩) (MixDhIdeal.Value.run_blocks m g)
  · refine (θ_run _ _ _).mono (fun r h c => ⟨(h c).1.trans ?_, (h c).2⟩) (MixDhRefIdeal.Value.run (F := Ideal) m' g')
    obtain ⟨e0, e1, e2⟩ := hargs c
    rw [e1, e2]
    exact (whole_eq m c).symm

end Cert.Proof.MixDh

end
-- ==== Proof.Mix.Out.lean ====
/-
  The output projection and the residual sum: each block of the results is computed from a block of rows and all the
  weights.
-/
module

public import proofs.«01_k».proof.Defs
public import proofs.«01_k».proof.Proof.Mix.Shared
public import proofs.«01_k».proof.Proof.Gen.MixOut.Frame
public import proofs.«01_k».proof.Proof.Gen.MixOutIdeal.Value
public import proofs.«01_k».proof.Proof.Gen.MixOutRefIdeal.Run
public import Idealize.ShloMosaic.Lib.StableHlo.RunRead
public import Idealize.ShloMosaic.Lib.Pipeline.ValueKit

@[expose] public section

set_option maxRecDepth 16384

noncomputable section

namespace Cert.Proof.MixOut

open MixOutIdeal MixOutIdeal.Gen Idealize.ShloMosaic TcCoe Idealize.SL.Sem
open Cert.Proof.Mix

/-- One block of the product, and one of the residual sum. -/
theorem block_at (a : Vec Ideal S1024x2048 .bf16) (b : Vec Ideal S2048x1024 .bf16) (i j : Fin 1024) :
    k0_pay1 (F := Ideal) a b (ix2 i j) = ∑ k : Fin 2048, a (ix2 i k) * b (ix2 k j) := by
  pointwise [k0_pay1]
theorem sum_at (a : Vec Ideal S1024x2048 .bf16) (b : Vec Ideal S2048x1024 .bf16) (x : Vec Ideal S1024x1024 .f32) (g : Vec Ideal S1x1024 .f32) (i j : Fin 1024) :
    k0_pay2 (F := Ideal) a b x g (ix2 i j) = x (ix2 i j) + g (ix2 (0 : Fin 1) j) * k0_pay1 (F := Ideal) a b (ix2 i j) := by
  pointwise [k0_pay2]

theorem outs_at (a : Vec Ideal S1024x2048 .bf16) (b : Vec Ideal S2048x1024 .bf16) (x : Vec Ideal S1024x1024 .f32) (g : Vec Ideal S1x1024 .f32) :
    out0_4 (F := Ideal) a b x g = k0_pay1 a b ∧ out0_5 (F := Ideal) a b x g = k0_pay2 a b x g := by
  have z : (![0, 0] : Fin 2 → ℕ) = fun _ => 0 := funext fun d => match d with | 0 => rfl | 1 => rfl
  constructor
  · unfold out0_4
    rw [View.canon_unit_zero z, View.ld_unit_zero z, View.ld_unit_zero z]
  · unfold out0_5
    rw [View.canon_unit_zero z, View.ld_unit_zero z, View.ld_unit_zero z, View.ld_unit_zero z, View.ld_unit_zero z]

theorem places : ∀ t : Fin grid0.N, win0_0.index t 0 = win0_4.index t 0 ∧ win0_0.index t 1 = 0 ∧ win0_1.index t 0 = 0 ∧ win0_1.index t 1 = win0_4.index t 1
    ∧ win0_2.index t 0 = win0_4.index t 0 ∧ win0_2.index t 1 = win0_4.index t 1 ∧ win0_3.index t 0 = 0 ∧ win0_3.index t 1 = win0_4.index t 1
    ∧ win0_5.index t 0 = win0_4.index t 0 ∧ win0_5.index t 1 = win0_4.index t 1 := by
  decide +kernel

section
variable (m : (ℓ : Loc nD τ sig) → Buf (Elt Ideal) ℓ) (c : Dev nD)
abbrev aO : FVec Ideal S4096x2048 .f32 := m ((c.tc : Thread nD τ).loc main_arg0)
abbrev aW : FVec Ideal S2048x1024 .f32 := m ((c.tc : Thread nD τ).loc main_arg1)
abbrev aX : FVec Ideal S4096x1024 .f32 := m ((c.tc : Thread nD τ).loc main_arg2)
abbrev aG : FVec Ideal S1x1024 .f32 := m ((c.tc : Thread nD τ).loc main_arg3)
abbrev left : FVec Ideal S4096x2048 .bf16 := V m c main_v0
abbrev right : FVec Ideal S2048x1024 .bf16 := V m c main_v1
abbrev keptX : FVec Ideal S4096x1024 .f32 := V m c main_arg2
abbrev keptG : FVec Ideal S1x1024 .f32 := V m c main_arg3

/-- The product at a row and a column, and the residual sum. -/
def prod (i : Fin 4096) (j : Fin 1024) : EReal := ∑ k : Fin 2048, left m c (ix2 i k) * right m c (ix2 k j)
def whole : S4096x1024.Idx → EReal := fun x => prod m c (x 0 : Fin 4096) (x 1 : Fin 1024)
def total : S4096x1024.Idx → EReal := fun x =>
  keptX m c x + keptG m c (ix2 (0 : Fin 1) (x 1 : Fin 1024)) * prod m c (x 0 : Fin 4096) (x 1 : Fin 1024)

/-- What one point computes of the product. -/
theorem piece (t : Fin cfg0.N) (i j : Fin 1024) (r : Fin 4096) (l : Fin 1024) (hr : r.val = win0_4.index t 0 * 1024 + 1 * i.val) (hl : l.val = win0_4.index t 1 * 1024 + 1 * j.val) :
    k0_pay1 (F := Ideal) (iblk m c 0 t) (iblk m c 1 t) (ix2 i j) = prod m c r l := by
  obtain ⟨p, q, u, s, -⟩ := places t
  refine (block_at _ _ i j).trans (Finset.sum_congr rfl fun k _ => ?_)
  refine congrArg₂ (· * ·) (congrArg (left m c) (at_rc ?_ ?_)) (congrArg (right m c) (at_rc ?_ ?_))
  · rw [hr, ← p]; rfl
  · show win0_0.index t 1 * 2048 + 1 * k.val = k.val; rw [q]; omega
  · show win0_1.index t 0 * 2048 + 1 * k.val = k.val; rw [u]; omega
  · rw [hl, ← s]; rfl

theorem array : (dats m 0 c).arrAt 4 cfg0.N = whole m c := by
  refine (dats m 0 c).arrAt_eq_of_covers 4 _ (by decide +kernel) fun t _ y => ?_
  rw [after0_4, (outs_at _ _ _ _).1]
  obtain ⟨i, j, rfl⟩ : ∃ (i j : Fin 1024), y = ix2 i j := ⟨y 0, y 1, rc y⟩
  exact piece m c t i j _ _ rfl rfl

theorem array_sum : (dats m 0 c).arrAt 5 cfg0.N = total m c := by
  refine (dats m 0 c).arrAt_eq_of_covers 5 _ (by decide +kernel) fun t _ y => ?_
  rw [after0_5, (outs_at _ _ _ _).2]
  obtain ⟨i, j, rfl⟩ : ∃ (i j : Fin 1024), y = ix2 i j := ⟨y 0, y 1, rc y⟩
  obtain ⟨-, -, -, -, p, q, r, s, u, v⟩ := places t
  refine (sum_at _ _ _ _ i j).trans (congrArg₂ (· + ·) (congrArg (keptX m c) ?_)
    (congrArg₂ (· * ·) (congrArg (keptG m c) (at_rc ?_ ?_)) (piece m c t i j _ _ ?_ ?_)))
  · refine funext fun d => Fin.ext (match d with | 0 => ?_ | 1 => ?_)
    · show win0_2.index t 0 * 1024 + 1 * i.val = win0_5.index t 0 * 1024 + 1 * i.val; rw [p, u]
    · show win0_2.index t 1 * 1024 + 1 * j.val = win0_5.index t 1 * 1024 + 1 * j.val; rw [q, v]
  · show win0_3.index t 0 * 1 + 1 * 0 = 0; rw [r]
  · show win0_3.index t 1 * 1024 + 1 * j.val = win0_5.index t 1 * 1024 + 1 * j.val; rw [s, v]
  · rw [← u]; rfl
  · rw [← v]; rfl

theorem left_eq : left m c = truncf .bf16 (aO m c) bitsLt_bf16_f32 := by
  unfold left V
  after_reads_simp
theorem right_eq : right m c = truncf .bf16 (aW m c) bitsLt_bf16_f32 := by
  unfold right V
  after_reads_simp
theorem kept_x : keptX m c = aX m c := by
  unfold keptX V
  after_reads_simp
theorem kept_g : keptG m c = aG m c := by
  unfold keptG V
  after_reads_simp

/-- The host's product. -/
abbrev host : FVec Ideal S4096x1024 .f32 :=
  Host.dotGeneral MixOutRefIdeal.dot_S4096x2048_S2048x1024_S4096x1024_1_0_0_1_n_n none (aO m c) (aW m c)

theorem prod_eq (i : Fin 4096) (j : Fin 1024) : prod m c i j = host m c (ix2 i j) := by
  unfold prod
  rw [left_eq, right_eq]
  symm
  pointwise []
theorem whole_eq : whole m c = host m c := ext_rc fun i j => prod_eq m c i j
theorem total_eq (b : FVec Ideal S4096x1024 .f32) (hb : ∀ i j, b (ix2 i j) = aG m c (ix2 (0 : Fin 1) j)) :
    total m c = addf (aX m c) (mulf b (host m c)) := ext_rc fun i j => by
  unfold total
  rw [kept_x, kept_g]
  refine (congrArg₂ (· + ·) rfl (congrArg₂ (· * ·) (hb i j).symm (prod_eq m c i j))).trans ?_
  rfl
end

theorem frame_bits : quiescent_MixOut := fun m g _ => Cert.MixOut.Gen.frame m g
theorem frame_ideal : quiescent_MixOutIdeal := fun m g _ => MixOutIdeal.Gen.frame m g
theorem frame_reference : quiescent_MixOutRefIdeal := fun m g _ =>
  (θ_run (MixOutRefIdeal.defs (F := Ideal)) _ _).mono (fun r h => ⟨fun c => (h c).2.2, sem_eq_zero_of_no_sems (by decide) r.2⟩) (MixOutRefIdeal.Value.run (F := Ideal) m g)

/-- The kernel and the reference end with equal results. -/
theorem equal : algebraic_MixOutIdeal_MixOutRefIdeal := by
  intro m g m' g' _ hargs
  refine ⟨fun c => whole m c, fun c => total m c, ?_, ?_⟩
  · exact (θ_run _ _ _).mono (fun r h c => ⟨(h c).1.trans (array m c), (h c).2.1.trans (array_sum m c), (h c).2.2⟩) (MixOutIdeal.Value.run_blocks m g)
  · refine (θ_run _ _ _).mono (fun r h c => ⟨(h c).1.trans ?_, (h c).2.1.trans ?_, (h c).2.2⟩) (MixOutRefIdeal.Value.run (F := Ideal) m' g')
    all_goals obtain ⟨e0, e1, e2, e3⟩ := hargs c
    · rw [e0, e1]
      exact (whole_eq m c).symm
    · rw [e0, e1, e2, e3]
      exact (total_eq m c _ fun i j => by pointwise []).symm

end Cert.Proof.MixOut

end
-- ==== Proof.Mix.Dwo.lean ====
/-
  The weight gradient of the output projection: both operands are contracted along their rows, and the array is the
  transpose of the host's product.
-/
module

public import proofs.«01_k».proof.Defs
public import proofs.«01_k».proof.Proof.Mix.Shared
public import proofs.«01_k».proof.Proof.Gen.MixDwo.Frame
public import proofs.«01_k».proof.Proof.Gen.MixDwoIdeal.Value
public import proofs.«01_k».proof.Proof.Gen.MixDwoRefIdeal.Run
public import Idealize.ShloMosaic.Lib.StableHlo.RunRead
public import Idealize.ShloMosaic.Lib.Pipeline.ValueKit

@[expose] public section

set_option maxRecDepth 16384

noncomputable section

namespace Cert.Proof.MixDwo

open MixDwoIdeal MixDwoIdeal.Gen Idealize.ShloMosaic TcCoe Idealize.SL.Sem
open Cert.Proof.Mix

/-- One block of the result. -/
theorem block_at (a b : Vec Ideal S4096x1024 .bf16) (i j : Fin 1024) :
    k0_pay1 (F := Ideal) a b (ix2 i j) = ∑ k : Fin 4096, a (ix2 k i) * b (ix2 k j) := by
  pointwise [k0_pay1]

theorem out_at (a b : Vec Ideal S4096x1024 .bf16) : out0_2 (F := Ideal) a b = k0_pay1 a b := by
  have z : (![0, 0] : Fin 2 → ℕ) = fun _ => 0 := funext fun d => match d with | 0 => rfl | 1 => rfl
  unfold out0_2
  rw [View.canon_unit_zero z, View.ld_unit_zero z, View.ld_unit_zero z]

theorem places : ∀ t : Fin grid0.N, win0_0.index t 0 = 0 ∧ win0_0.index t 1 = win0_2.index t 0 ∧ win0_1.index t 0 = 0 ∧ win0_1.index t 1 = win0_2.index t 1 := by
  decide +kernel

section
variable (m : (ℓ : Loc nD τ sig) → Buf (Elt Ideal) ℓ) (c : Dev nD)
abbrev aH : FVec Ideal S4096x2048 .f32 := m ((c.tc : Thread nD τ).loc main_arg0)
abbrev aD : FVec Ideal S4096x1024 .f32 := m ((c.tc : Thread nD τ).loc main_arg2)
abbrev left : FVec Ideal S4096x2048 .bf16 := V m c main_v0
abbrev right : FVec Ideal S4096x1024 .bf16 := V m c main_v1

/-- The array of the two operands' products. -/
def whole : S2048x1024.Idx → EReal := fun x => ∑ k : Fin 4096, left m c (ix2 k (x 0 : Fin 2048)) * right m c (ix2 k (x 1 : Fin 1024))

theorem array : (dats m 0 c).arrAt 2 cfg0.N = whole m c := by
  refine (dats m 0 c).arrAt_eq_of_covers 2 _ (by decide +kernel) fun t _ y => ?_
  rw [after0_2, out_at]
  obtain ⟨i, j, rfl⟩ : ∃ (i j : Fin 1024), y = ix2 i j := ⟨y 0, y 1, rc y⟩
  obtain ⟨p, q, r, s⟩ := places t
  refine (block_at _ _ i j).trans (Finset.sum_congr rfl fun k _ => ?_)
  refine congrArg₂ (· * ·) (congrArg (left m c) (at_rc ?_ ?_)) (congrArg (right m c) (at_rc ?_ ?_))
  · show win0_0.index t 0 * 4096 + 1 * k.val = k.val; rw [p]; omega
  · show win0_0.index t 1 * 1024 + 1 * i.val = win0_2.index t 0 * 1024 + 1 * i.val; rw [q]
  · show win0_1.index t 0 * 4096 + 1 * k.val = k.val; rw [r]; omega
  · show win0_1.index t 1 * 1024 + 1 * j.val = win0_2.index t 1 * 1024 + 1 * j.val; rw [s]

theorem left_eq : left m c = truncf .bf16 (aH m c) bitsLt_bf16_f32 := by
  unfold left V
  after_reads_simp
theorem right_eq : right m c = truncf .bf16 (aD m c) bitsLt_bf16_f32 := by
  unfold right V
  after_reads_simp

theorem whole_eq : whole m c = truncf (F := Ideal) .bf16
    (transpose S2048x1024 [1, 0] (Host.dotGeneral MixDwoRefIdeal.dot_S4096x1024_S4096x2048_S1024x2048_0_0_1_1_n_n none (aD m c) (aH m c) : FVec Ideal MixDwoRefIdeal.S1024x2048 .f32) MixDwoRefIdeal.Gen.transposes_S1024x2048_S2048x1024_1_0) bitsLt_bf16_f32 := by
  refine ext_rc fun i j => ?_
  unfold whole
  rw [left_eq, right_eq]
  symm
  pointwise []
  exact Finset.sum_congr rfl fun k _ => mul_comm _ _
end

theorem frame_bits : quiescent_MixDwo := fun m g _ => Cert.MixDwo.Gen.frame m g
theorem frame_ideal : quiescent_MixDwoIdeal := fun m g _ => MixDwoIdeal.Gen.frame m g
theorem frame_reference : quiescent_MixDwoRefIdeal := fun m g _ =>
  (θ_run (MixDwoRefIdeal.defs (F := Ideal)) _ _).mono (fun r h => ⟨fun c => (h c).2, sem_eq_zero_of_no_sems (by decide) r.2⟩) (MixDwoRefIdeal.Value.run (F := Ideal) m g)

/-- The kernel and the reference end with equal results. -/
theorem equal : algebraic_MixDwoIdeal_MixDwoRefIdeal := by
  intro m g m' g' _ hargs
  refine ⟨fun c => whole m c, ?_, ?_⟩
  · exact (θ_run _ _ _).mono (fun r h c => ⟨(h c).1.trans (array m c), (h c).2⟩) (MixDwoIdeal.Value.run_blocks m g)
  · refine (θ_run _ _ _).mono (fun r h c => ⟨(h c).1.trans ?_, (h c).2⟩) (MixDwoRefIdeal.Value.run (F := Ideal) m' g')
    obtain ⟨e0, e1, e2⟩ := hargs c
    rw [e0, e2]
    exact (whole_eq m c).symm

end Cert.Proof.MixDwo

end
-- ==== Proof.Mix.FoxIn.lean ====
/-
  The input projection of the forgetting attention: each block of the result is the product of a block of rows and a block of columns, and the array
  is the host's product beside its columns of padding.
-/
module

public import proofs.«01_k».proof.Defs
public import proofs.«01_k».proof.Proof.Mix.Shared
public import proofs.«01_k».proof.Proof.Gen.FoxIn.Frame
public import proofs.«01_k».proof.Proof.Gen.FoxInIdeal.Value
public import proofs.«01_k».proof.Proof.Gen.FoxInRefIdeal.Run
public import Idealize.ShloMosaic.Lib.StableHlo.RunRead
public import Idealize.ShloMosaic.Lib.Pipeline.ValueKit

@[expose] public section

set_option maxRecDepth 16384

noncomputable section

namespace Cert.Proof.FoxIn

open FoxInIdeal FoxInIdeal.Gen Idealize.ShloMosaic TcCoe Idealize.SL.Sem
open Cert.Proof.Mix

/-- One block of the result. -/
theorem block_at (a : Vec Ideal S2048x1024 .bf16) (b : Vec Ideal S1024x1408 .bf16) (i : Fin 2048) (j : Fin 1408) :
    k0_pay1 (F := Ideal) a b (ix2 i j) = ∑ k : Fin 1024, a (ix2 i k) * b (ix2 k j) := by
  pointwise [k0_pay1]

theorem out_at (a : Vec Ideal S2048x1024 .bf16) (b : Vec Ideal S1024x1408 .bf16) : out0_2 (F := Ideal) a b = k0_pay1 a b := by
  have z : (![0, 0] : Fin 2 → ℕ) = fun _ => 0 := funext fun d => match d with | 0 => rfl | 1 => rfl
  unfold out0_2
  rw [View.canon_unit_zero z, View.ld_unit_zero z, View.ld_unit_zero z]

theorem places : ∀ t : Fin grid0.N, win0_0.index t 0 = win0_2.index t 0 ∧ win0_0.index t 1 = 0 ∧ win0_1.index t 0 = 0 ∧ win0_1.index t 1 = win0_2.index t 1 := by
  decide +kernel

section
variable (m : (ℓ : Loc nD τ sig) → Buf (Elt Ideal) ℓ) (c : Dev nD)
abbrev aH : FVec Ideal S4096x1024 .f32 := m ((c.tc : Thread nD τ).loc main_arg0)
abbrev aW : FVec Ideal S1024x4112 .f32 := m ((c.tc : Thread nD τ).loc main_arg1)
abbrev left : FVec Ideal S4096x1024 .bf16 := V m c main_v0
abbrev right : FVec Ideal S1024x4224 .bf16 := V m c main_v2

/-- The array of the two operands' products. -/
def whole : S4096x4224.Idx → EReal := fun x => ∑ k : Fin 1024, left m c (ix2 (x 0 : Fin 4096) k) * right m c (ix2 k (x 1 : Fin 4224))

theorem array : (dats m 0 c).arrAt 2 cfg0.N = whole m c := by
  refine (dats m 0 c).arrAt_eq_of_covers 2 _ (by decide +kernel) fun t _ y => ?_
  rw [after0_2, out_at]
  obtain ⟨i, j, rfl⟩ : ∃ (i : Fin 2048) (j : Fin 1408), y = ix2 i j := ⟨y 0, y 1, rc y⟩
  obtain ⟨p, q, r, s⟩ := places t
  refine (block_at _ _ i j).trans (Finset.sum_congr rfl fun k _ => ?_)
  refine congrArg₂ (· * ·) (congrArg (left m c) (at_rc ?_ ?_)) (congrArg (right m c) (at_rc ?_ ?_))
  · show win0_0.index t 0 * 2048 + 1 * i.val = win0_2.index t 0 * 2048 + 1 * i.val; rw [p]
  · show win0_0.index t 1 * 1024 + 1 * k.val = k.val; rw [q]; omega
  · show win0_1.index t 0 * 1024 + 1 * k.val = k.val; rw [r]; omega
  · show win0_1.index t 1 * 1408 + 1 * j.val = win0_2.index t 1 * 1408 + 1 * j.val; rw [s]

theorem left_eq : left m c = truncf .bf16 (aH m c) bitsLt_bf16_f32 := by
  unfold left V
  simp only [List.flatten_cons, List.flatten_nil, List.append_nil, StableHlo.TRef.binary, StableHlo.TRef.unary, StableHlo.TRef.toBuf, StableHlo.TRef.ofBuf, cast_eq]
  after_reads_simp
theorem right_eq : right m c = pad S1024x4224 ![0, 0] ![0, 112] ![0, 0] (truncf .bf16 (aW m c) bitsLt_bf16_f32) (sitofp .bf16 (constantI S_ 32 0#32)) pads_S1024x4112_S1024x4224_000_01120 h_S_ := by
  unfold right V
  simp only [List.flatten_cons, List.flatten_nil, List.append_nil, StableHlo.TRef.binary, StableHlo.TRef.unary, StableHlo.TRef.toBuf, StableHlo.TRef.ofBuf, cast_eq]
  after_reads_simp
  rfl

theorem whole_eq : whole m c = pad S4096x4224 ![0, 0] ![0, 112] ![0, 0]
    (Host.dotGeneral FoxInRefIdeal.dot_S4096x1024_S1024x4112_S4096x4112_1_0_0_1_n_n none (aH m c) (aW m c))
    (sitofp .f32 (constantI S_ 32 0#32)) FoxInRefIdeal.Gen.pads_S4096x4112_S4096x4224_000_01120 h_S_ := by
  refine ext_rc fun i j => ?_
  unfold whole
  rw [left_eq, right_eq]
  exact product_pad (fun k => aH m c (ix2 i k)) (aW m c) _ _ _ _ _ _ _ (zero_fill _) (zero_fill _) i j fun l => by pointwise []
end

theorem frame_bits : quiescent_FoxIn := fun m g _ => Cert.FoxIn.Gen.frame m g
theorem frame_ideal : quiescent_FoxInIdeal := fun m g _ => FoxInIdeal.Gen.frame m g
theorem frame_reference : quiescent_FoxInRefIdeal := fun m g _ =>
  (θ_run (FoxInRefIdeal.defs (F := Ideal)) _ _).mono (fun r h => ⟨fun c => (h c).2, sem_eq_zero_of_no_sems (by decide) r.2⟩) (FoxInRefIdeal.Value.run (F := Ideal) m g)

/-- The kernel and the reference end with equal results. -/
theorem equal : algebraic_FoxInIdeal_FoxInRefIdeal := by
  intro m g m' g' _ hargs
  refine ⟨fun c => whole m c, ?_, ?_⟩
  · exact (θ_run _ _ _).mono (fun r h c => ⟨(h c).1.trans (array m c), (h c).2⟩) (FoxInIdeal.Value.run_blocks m g)
  · refine (θ_run _ _ _).mono (fun r h c => ⟨(h c).1.trans ?_, (h c).2⟩) (FoxInRefIdeal.Value.run (F := Ideal) m' g')
    obtain ⟨e0, e1⟩ := hargs c
    rw [e0, e1]
    exact (whole_eq m c).symm

end Cert.Proof.FoxIn

end
-- ==== Proof.Mix.FoxDw.lean ====
/-
  The weight gradient of the forgetting attention's input projection: both operands are contracted along their rows, and the array is the
  transpose of the host's product beside its columns of padding.
-/
module

public import proofs.«01_k».proof.Defs
public import proofs.«01_k».proof.Proof.Mix.Shared
public import proofs.«01_k».proof.Proof.Gen.FoxDw.Frame
public import proofs.«01_k».proof.Proof.Gen.FoxDwIdeal.Value
public import proofs.«01_k».proof.Proof.Gen.FoxDwRefIdeal.Run
public import Idealize.ShloMosaic.Lib.StableHlo.RunRead
public import Idealize.ShloMosaic.Lib.Pipeline.ValueKit

@[expose] public section

set_option maxRecDepth 16384

noncomputable section

namespace Cert.Proof.FoxDw

open FoxDwIdeal FoxDwIdeal.Gen Idealize.ShloMosaic TcCoe Idealize.SL.Sem
open Cert.Proof.Mix

/-- One block of the result. -/
theorem block_at (a : Vec Ideal S4096x512 .bf16) (b : Vec Ideal S4096x1408 .bf16) (i : Fin 512) (j : Fin 1408) :
    k0_pay1 (F := Ideal) a b (ix2 i j) = ∑ k : Fin 4096, a (ix2 k i) * b (ix2 k j) := by
  pointwise [k0_pay1]

theorem out_at (a : Vec Ideal S4096x512 .bf16) (b : Vec Ideal S4096x1408 .bf16) : out0_2 (F := Ideal) a b = k0_pay1 a b := by
  have z : (![0, 0] : Fin 2 → ℕ) = fun _ => 0 := funext fun d => match d with | 0 => rfl | 1 => rfl
  unfold out0_2
  rw [View.canon_unit_zero z, View.ld_unit_zero z, View.ld_unit_zero z]

theorem places : ∀ t : Fin grid0.N, win0_0.index t 0 = 0 ∧ win0_0.index t 1 = win0_2.index t 0 ∧ win0_1.index t 0 = 0 ∧ win0_1.index t 1 = win0_2.index t 1 := by
  decide +kernel

section
variable (m : (ℓ : Loc nD τ sig) → Buf (Elt Ideal) ℓ) (c : Dev nD)
abbrev aH : FVec Ideal S4096x1024 .f32 := m ((c.tc : Thread nD τ).loc main_arg0)
abbrev aD : FVec Ideal S4096x4112 .f32 := m ((c.tc : Thread nD τ).loc main_arg2)
abbrev left : FVec Ideal S4096x1024 .bf16 := V m c main_v0
abbrev right : FVec Ideal S4096x4224 .bf16 := V m c main_v2

/-- The array of the two operands' products. -/
def whole : S1024x4224.Idx → EReal := fun x => ∑ k : Fin 4096, left m c (ix2 k (x 0 : Fin 1024)) * right m c (ix2 k (x 1 : Fin 4224))

theorem array : (dats m 0 c).arrAt 2 cfg0.N = whole m c := by
  refine (dats m 0 c).arrAt_eq_of_covers 2 _ (by decide +kernel) fun t _ y => ?_
  rw [after0_2, out_at]
  obtain ⟨i, j, rfl⟩ : ∃ (i : Fin 512) (j : Fin 1408), y = ix2 i j := ⟨y 0, y 1, rc y⟩
  obtain ⟨p, q, r, s⟩ := places t
  refine (block_at _ _ i j).trans (Finset.sum_congr rfl fun k _ => ?_)
  refine congrArg₂ (· * ·) (congrArg (left m c) (at_rc ?_ ?_)) (congrArg (right m c) (at_rc ?_ ?_))
  · show win0_0.index t 0 * 4096 + 1 * k.val = k.val; rw [p]; omega
  · show win0_0.index t 1 * 512 + 1 * i.val = win0_2.index t 0 * 512 + 1 * i.val; rw [q]
  · show win0_1.index t 0 * 4096 + 1 * k.val = k.val; rw [r]; omega
  · show win0_1.index t 1 * 1408 + 1 * j.val = win0_2.index t 1 * 1408 + 1 * j.val; rw [s]

theorem left_eq : left m c = truncf .bf16 (aH m c) bitsLt_bf16_f32 := by
  unfold left V
  simp only [List.flatten_cons, List.flatten_nil, List.append_nil, StableHlo.TRef.binary, StableHlo.TRef.unary, StableHlo.TRef.toBuf, StableHlo.TRef.ofBuf, cast_eq]
  after_reads_simp
theorem right_eq : right m c = pad S4096x4224 ![0, 0] ![0, 112] ![0, 0] (truncf .bf16 (aD m c) bitsLt_bf16_f32) (sitofp .bf16 (constantI S_ 32 0#32)) pads_S4096x4112_S4096x4224_000_01120 h_S_ := by
  unfold right V
  simp only [List.flatten_cons, List.flatten_nil, List.append_nil, StableHlo.TRef.binary, StableHlo.TRef.unary, StableHlo.TRef.toBuf, StableHlo.TRef.ofBuf, cast_eq]
  after_reads_simp
  rfl

theorem whole_eq : whole m c = truncf (F := Ideal) .bf16 (pad S1024x4224 ![0, 0] ![0, 112] ![0, 0]
    (transpose S1024x4112 [1, 0] (Host.dotGeneral FoxDwRefIdeal.dot_S4096x4112_S4096x1024_S4112x1024_0_0_1_1_n_n none (aD m c) (aH m c)) FoxDwRefIdeal.Gen.transposes_S4112x1024_S1024x4112_1_0)
    (sitofp .f32 (constantI S_ 32 0#32)) FoxDwRefIdeal.Gen.pads_S1024x4112_S1024x4224_000_01120 h_S_) bitsLt_bf16_f32 := by
  refine ext_rc fun i j => ?_
  unfold whole
  rw [left_eq, right_eq]
  change _ = pad S1024x4224 ![0, 0] ![0, 112] ![0, 0] (transpose S1024x4112 [1, 0] _ FoxDwRefIdeal.Gen.transposes_S4112x1024_S1024x4112_1_0) _ FoxDwRefIdeal.Gen.pads_S1024x4112_S1024x4224_000_01120 h_S_ (ix2 i j)
  exact product_pad (fun k => aH m c (ix2 k i)) (aD m c) _ _ _ _ _ _ _ (zero_fill _) (zero_fill _) i j fun l => by
    pointwise []
    exact Finset.sum_congr rfl fun k _ => mul_comm _ _
end

theorem frame_bits : quiescent_FoxDw := fun m g _ => Cert.FoxDw.Gen.frame m g
theorem frame_ideal : quiescent_FoxDwIdeal := fun m g _ => FoxDwIdeal.Gen.frame m g
theorem frame_reference : quiescent_FoxDwRefIdeal := fun m g _ =>
  (θ_run (FoxDwRefIdeal.defs (F := Ideal)) _ _).mono (fun r h => ⟨fun c => (h c).2, sem_eq_zero_of_no_sems (by decide) r.2⟩) (FoxDwRefIdeal.Value.run (F := Ideal) m g)

/-- The kernel and the reference end with equal results. -/
theorem equal : algebraic_FoxDwIdeal_FoxDwRefIdeal := by
  intro m g m' g' _ hargs
  refine ⟨fun c => whole m c, ?_, ?_⟩
  · exact (θ_run _ _ _).mono (fun r h c => ⟨(h c).1.trans (array m c), (h c).2⟩) (FoxDwIdeal.Value.run_blocks m g)
  · refine (θ_run _ _ _).mono (fun r h c => ⟨(h c).1.trans ?_, (h c).2⟩) (FoxDwRefIdeal.Value.run (F := Ideal) m' g')
    obtain ⟨e0, e1, e2⟩ := hargs c
    rw [e0, e2]
    exact (whole_eq m c).symm

end Cert.Proof.FoxDw

end
-- ==== Proof.Mix.FoxDh.lean ====
/-
  The gradient of the input of the forgetting attention's input projection: both operands are contracted along their padded columns, where
  the padding adds nothing.
-/
module

public import proofs.«01_k».proof.Defs
public import proofs.«01_k».proof.Proof.Mix.Shared
public import proofs.«01_k».proof.Proof.Gen.FoxDh.Frame
public import proofs.«01_k».proof.Proof.Gen.FoxDhIdeal.Value
public import proofs.«01_k».proof.Proof.Gen.FoxDhRefIdeal.Run
public import Idealize.ShloMosaic.Lib.StableHlo.RunRead
public import Idealize.ShloMosaic.Lib.Pipeline.ValueKit

@[expose] public section

set_option maxRecDepth 16384

noncomputable section

namespace Cert.Proof.FoxDh

open FoxDhIdeal FoxDhIdeal.Gen Idealize.ShloMosaic TcCoe Idealize.SL.Sem
open Cert.Proof.Mix

/-- One block of the result. -/
theorem block_at (a b : Vec Ideal S1024x4224 .bf16) (i j : Fin 1024) :
    k0_pay1 (F := Ideal) a b (ix2 i j) = ∑ k : Fin 4224, a (ix2 i k) * b (ix2 j k) := by
  pointwise [k0_pay1]

theorem out_at (a b : Vec Ideal S1024x4224 .bf16) : out0_2 (F := Ideal) a b = k0_pay1 a b := by
  have z : (![0, 0] : Fin 2 → ℕ) = fun _ => 0 := funext fun d => match d with | 0 => rfl | 1 => rfl
  unfold out0_2
  rw [View.canon_unit_zero z, View.ld_unit_zero z, View.ld_unit_zero z]

theorem places : ∀ t : Fin grid0.N, win0_0.index t 0 = win0_2.index t 0 ∧ win0_0.index t 1 = 0 ∧ win0_1.index t 0 = win0_2.index t 1 ∧ win0_1.index t 1 = 0 := by
  decide +kernel

section
variable (m : (ℓ : Loc nD τ sig) → Buf (Elt Ideal) ℓ) (c : Dev nD)
abbrev aW : FVec Ideal S1024x4112 .f32 := m ((c.tc : Thread nD τ).loc main_arg1)
abbrev aD : FVec Ideal S4096x4112 .f32 := m ((c.tc : Thread nD τ).loc main_arg2)
abbrev left : FVec Ideal S4096x4224 .bf16 := V m c main_v1
abbrev right : FVec Ideal S1024x4224 .bf16 := V m c main_v3

/-- The array of the two operands' products. -/
def whole : S4096x1024.Idx → EReal := fun x => ∑ k : Fin 4224, left m c (ix2 (x 0 : Fin 4096) k) * right m c (ix2 (x 1 : Fin 1024) k)

theorem array : (dats m 0 c).arrAt 2 cfg0.N = whole m c := by
  refine (dats m 0 c).arrAt_eq_of_covers 2 _ (by decide +kernel) fun t _ y => ?_
  rw [after0_2, out_at]
  obtain ⟨i, j, rfl⟩ : ∃ (i j : Fin 1024), y = ix2 i j := ⟨y 0, y 1, rc y⟩
  obtain ⟨p, q, r, s⟩ := places t
  refine (block_at _ _ i j).trans (Finset.sum_congr rfl fun k _ => ?_)
  refine congrArg₂ (· * ·) (congrArg (left m c) (at_rc ?_ ?_)) (congrArg (right m c) (at_rc ?_ ?_))
  · show win0_0.index t 0 * 1024 + 1 * i.val = win0_2.index t 0 * 1024 + 1 * i.val; rw [p]
  · show win0_0.index t 1 * 4224 + 1 * k.val = k.val; rw [q]; omega
  · show win0_1.index t 0 * 1024 + 1 * j.val = win0_2.index t 1 * 1024 + 1 * j.val; rw [r]
  · show win0_1.index t 1 * 4224 + 1 * k.val = k.val; rw [s]; omega

theorem left_eq : left m c = pad S4096x4224 ![0, 0] ![0, 112] ![0, 0] (truncf .bf16 (aD m c) bitsLt_bf16_f32) (sitofp .bf16 (constantI S_ 32 0#32)) pads_S4096x4112_S4096x4224_000_01120 h_S_ := by
  unfold left V
  simp only [List.flatten_cons, List.flatten_nil, List.append_nil, StableHlo.TRef.binary, StableHlo.TRef.unary, StableHlo.TRef.toBuf, StableHlo.TRef.ofBuf, cast_eq]
  after_reads_simp
  rfl
theorem right_eq : right m c = pad S1024x4224 ![0, 0] ![0, 112] ![0, 0] (truncf .bf16 (aW m c) bitsLt_bf16_f32) (sitofp .bf16 (constantI S_ 32 0#32)) pads_S1024x4112_S1024x4224_000_01120 h_S_ := by
  unfold right V
  simp only [List.flatten_cons, List.flatten_nil, List.append_nil, StableHlo.TRef.binary, StableHlo.TRef.unary, StableHlo.TRef.toBuf, StableHlo.TRef.ofBuf, cast_eq]
  after_reads_simp
  rfl

theorem whole_eq : whole m c = (Host.dotGeneral FoxDhRefIdeal.dot_S4096x4112_S1024x4112_S4096x1024_1_1_0_0_n_n none (aD m c) (aW m c) : FVec Ideal S4096x1024 .f32) := by
  refine ext_rc fun i j => ?_
  unfold whole
  rw [left_eq, right_eq]
  refine (product_along (q := 112) rfl (aD m c) (aW m c) _ _ _ _ _ (zero_fill _) i j).trans ?_
  symm
  pointwise []
end

theorem frame_bits : quiescent_FoxDh := fun m g _ => Cert.FoxDh.Gen.frame m g
theorem frame_ideal : quiescent_FoxDhIdeal := fun m g _ => FoxDhIdeal.Gen.frame m g
theorem frame_reference : quiescent_FoxDhRefIdeal := fun m g _ =>
  (θ_run (FoxDhRefIdeal.defs (F := Ideal)) _ _).mono (fun r h => ⟨fun c => (h c).2, sem_eq_zero_of_no_sems (by decide) r.2⟩) (FoxDhRefIdeal.Value.run (F := Ideal) m g)

/-- The kernel and the reference end with equal results. -/
theorem equal : algebraic_FoxDhIdeal_FoxDhRefIdeal := by
  intro m g m' g' _ hargs
  refine ⟨fun c => whole m c, ?_, ?_⟩
  · exact (θ_run _ _ _).mono (fun r h c => ⟨(h c).1.trans (array m c), (h c).2⟩) (FoxDhIdeal.Value.run_blocks m g)
  · refine (θ_run _ _ _).mono (fun r h c => ⟨(h c).1.trans ?_, (h c).2⟩) (FoxDhRefIdeal.Value.run (F := Ideal) m' g')
    obtain ⟨e0, e1, e2⟩ := hargs c
    rw [e1, e2]
    exact (whole_eq m c).symm

end Cert.Proof.FoxDh

end
-- ==== Proof.Mix.FoxOut.lean ====
/-
  The output projection of the forgetting attention and the residual sum: each block of the results is computed from a block of rows and all the
  weights.
-/
module

public import proofs.«01_k».proof.Defs
public import proofs.«01_k».proof.Proof.Mix.Shared
public import proofs.«01_k».proof.Proof.Gen.FoxOut.Frame
public import proofs.«01_k».proof.Proof.Gen.FoxOutIdeal.Value
public import proofs.«01_k».proof.Proof.Gen.FoxOutRefIdeal.Run
public import Idealize.ShloMosaic.Lib.StableHlo.RunRead
public import Idealize.ShloMosaic.Lib.Pipeline.ValueKit

@[expose] public section

set_option maxRecDepth 16384

noncomputable section

namespace Cert.Proof.FoxOut

open FoxOutIdeal FoxOutIdeal.Gen Idealize.ShloMosaic TcCoe Idealize.SL.Sem
open Cert.Proof.Mix

/-- One block of the product, and one of the residual sum. -/
theorem block_at (a b : Vec Ideal S1024x1024 .bf16) (i j : Fin 1024) :
    k0_pay1 (F := Ideal) a b (ix2 i j) = ∑ k : Fin 1024, a (ix2 i k) * b (ix2 k j) := by
  pointwise [k0_pay1]
theorem sum_at (a b : Vec Ideal S1024x1024 .bf16) (x : Vec Ideal S1024x1024 .f32) (g : Vec Ideal S1x1024 .f32) (i j : Fin 1024) :
    k0_pay2 (F := Ideal) a b x g (ix2 i j) = x (ix2 i j) + g (ix2 (0 : Fin 1) j) * k0_pay1 (F := Ideal) a b (ix2 i j) := by
  pointwise [k0_pay2]

theorem outs_at (a b : Vec Ideal S1024x1024 .bf16) (x : Vec Ideal S1024x1024 .f32) (g : Vec Ideal S1x1024 .f32) :
    out0_4 (F := Ideal) a b x g = k0_pay1 a b ∧ out0_5 (F := Ideal) a b x g = k0_pay2 a b x g := by
  have z : (![0, 0] : Fin 2 → ℕ) = fun _ => 0 := funext fun d => match d with | 0 => rfl | 1 => rfl
  constructor
  · unfold out0_4
    rw [View.canon_unit_zero z, View.ld_unit_zero z, View.ld_unit_zero z]
  · unfold out0_5
    rw [View.canon_unit_zero z, View.ld_unit_zero z, View.ld_unit_zero z, View.ld_unit_zero z, View.ld_unit_zero z]

theorem places : ∀ t : Fin grid0.N, win0_0.index t 0 = win0_4.index t 0 ∧ win0_0.index t 1 = 0 ∧ win0_1.index t 0 = 0 ∧ win0_1.index t 1 = win0_4.index t 1
    ∧ win0_2.index t 0 = win0_4.index t 0 ∧ win0_2.index t 1 = win0_4.index t 1 ∧ win0_3.index t 0 = 0 ∧ win0_3.index t 1 = win0_4.index t 1
    ∧ win0_5.index t 0 = win0_4.index t 0 ∧ win0_5.index t 1 = win0_4.index t 1 := by
  decide +kernel

section
variable (m : (ℓ : Loc nD τ sig) → Buf (Elt Ideal) ℓ) (c : Dev nD)
abbrev aO : FVec Ideal S4096x1024 .f32 := m ((c.tc : Thread nD τ).loc main_arg0)
abbrev aW : FVec Ideal S1024x1024 .f32 := m ((c.tc : Thread nD τ).loc main_arg1)
abbrev aX : FVec Ideal S4096x1024 .f32 := m ((c.tc : Thread nD τ).loc main_arg2)
abbrev aG : FVec Ideal S1x1024 .f32 := m ((c.tc : Thread nD τ).loc main_arg3)
abbrev left : FVec Ideal S4096x1024 .bf16 := V m c main_v0
abbrev right : FVec Ideal S1024x1024 .bf16 := V m c main_v1
abbrev keptX : FVec Ideal S4096x1024 .f32 := V m c main_arg2
abbrev keptG : FVec Ideal S1x1024 .f32 := V m c main_arg3

/-- The product at a row and a column, and the residual sum. -/
def prod (i : Fin 4096) (j : Fin 1024) : EReal := ∑ k : Fin 1024, left m c (ix2 i k) * right m c (ix2 k j)
def whole : S4096x1024.Idx → EReal := fun x => prod m c (x 0 : Fin 4096) (x 1 : Fin 1024)
def total : S4096x1024.Idx → EReal := fun x =>
  keptX m c x + keptG m c (ix2 (0 : Fin 1) (x 1 : Fin 1024)) * prod m c (x 0 : Fin 4096) (x 1 : Fin 1024)

/-- What one point computes of the product. -/
theorem piece (t : Fin cfg0.N) (i j : Fin 1024) (r : Fin 4096) (l : Fin 1024) (hr : r.val = win0_4.index t 0 * 1024 + 1 * i.val) (hl : l.val = win0_4.index t 1 * 1024 + 1 * j.val) :
    k0_pay1 (F := Ideal) (iblk m c 0 t) (iblk m c 1 t) (ix2 i j) = prod m c r l := by
  obtain ⟨p, q, u, s, -⟩ := places t
  refine (block_at _ _ i j).trans (Finset.sum_congr rfl fun k _ => ?_)
  refine congrArg₂ (· * ·) (congrArg (left m c) (at_rc ?_ ?_)) (congrArg (right m c) (at_rc ?_ ?_))
  · rw [hr, ← p]; rfl
  · show win0_0.index t 1 * 1024 + 1 * k.val = k.val; rw [q]; omega
  · show win0_1.index t 0 * 1024 + 1 * k.val = k.val; rw [u]; omega
  · rw [hl, ← s]; rfl

theorem array : (dats m 0 c).arrAt 4 cfg0.N = whole m c := by
  refine (dats m 0 c).arrAt_eq_of_covers 4 _ (by decide +kernel) fun t _ y => ?_
  rw [after0_4, (outs_at _ _ _ _).1]
  obtain ⟨i, j, rfl⟩ : ∃ (i j : Fin 1024), y = ix2 i j := ⟨y 0, y 1, rc y⟩
  exact piece m c t i j _ _ rfl rfl

theorem array_sum : (dats m 0 c).arrAt 5 cfg0.N = total m c := by
  refine (dats m 0 c).arrAt_eq_of_covers 5 _ (by decide +kernel) fun t _ y => ?_
  rw [after0_5, (outs_at _ _ _ _).2]
  obtain ⟨i, j, rfl⟩ : ∃ (i j : Fin 1024), y = ix2 i j := ⟨y 0, y 1, rc y⟩
  obtain ⟨-, -, -, -, p, q, r, s, u, v⟩ := places t
  refine (sum_at _ _ _ _ i j).trans (congrArg₂ (· + ·) (congrArg (keptX m c) ?_)
    (congrArg₂ (· * ·) (congrArg (keptG m c) (at_rc ?_ ?_)) (piece m c t i j _ _ ?_ ?_)))
  · refine funext fun d => Fin.ext (match d with | 0 => ?_ | 1 => ?_)
    · show win0_2.index t 0 * 1024 + 1 * i.val = win0_5.index t 0 * 1024 + 1 * i.val; rw [p, u]
    · show win0_2.index t 1 * 1024 + 1 * j.val = win0_5.index t 1 * 1024 + 1 * j.val; rw [q, v]
  · show win0_3.index t 0 * 1 + 1 * 0 = 0; rw [r]
  · show win0_3.index t 1 * 1024 + 1 * j.val = win0_5.index t 1 * 1024 + 1 * j.val; rw [s, v]
  · rw [← u]; rfl
  · rw [← v]; rfl

theorem left_eq : left m c = truncf .bf16 (aO m c) bitsLt_bf16_f32 := by
  unfold left V
  after_reads_simp
theorem right_eq : right m c = truncf .bf16 (aW m c) bitsLt_bf16_f32 := by
  unfold right V
  after_reads_simp
theorem kept_x : keptX m c = aX m c := by
  unfold keptX V
  after_reads_simp
theorem kept_g : keptG m c = aG m c := by
  unfold keptG V
  after_reads_simp

/-- The host's product. -/
abbrev host : FVec Ideal S4096x1024 .f32 :=
  Host.dotGeneral FoxOutRefIdeal.dot_S4096x1024_S1024x1024_S4096x1024_1_0_0_1_n_n none (aO m c) (aW m c)

theorem prod_eq (i : Fin 4096) (j : Fin 1024) : prod m c i j = host m c (ix2 i j) := by
  unfold prod
  rw [left_eq, right_eq]
  symm
  pointwise []
theorem whole_eq : whole m c = host m c := ext_rc fun i j => prod_eq m c i j
theorem total_eq (b : FVec Ideal S4096x1024 .f32) (hb : ∀ i j, b (ix2 i j) = aG m c (ix2 (0 : Fin 1) j)) :
    total m c = addf (aX m c) (mulf b (host m c)) := ext_rc fun i j => by
  unfold total
  rw [kept_x, kept_g]
  refine (congrArg₂ (· + ·) rfl (congrArg₂ (· * ·) (hb i j).symm (prod_eq m c i j))).trans ?_
  rfl
end

theorem frame_bits : quiescent_FoxOut := fun m g _ => Cert.FoxOut.Gen.frame m g
theorem frame_ideal : quiescent_FoxOutIdeal := fun m g _ => FoxOutIdeal.Gen.frame m g
theorem frame_reference : quiescent_FoxOutRefIdeal := fun m g _ =>
  (θ_run (FoxOutRefIdeal.defs (F := Ideal)) _ _).mono (fun r h => ⟨fun c => (h c).2.2, sem_eq_zero_of_no_sems (by decide) r.2⟩) (FoxOutRefIdeal.Value.run (F := Ideal) m g)

/-- The kernel and the reference end with equal results. -/
theorem equal : algebraic_FoxOutIdeal_FoxOutRefIdeal := by
  intro m g m' g' _ hargs
  refine ⟨fun c => whole m c, fun c => total m c, ?_, ?_⟩
  · exact (θ_run _ _ _).mono (fun r h c => ⟨(h c).1.trans (array m c), (h c).2.1.trans (array_sum m c), (h c).2.2⟩) (FoxOutIdeal.Value.run_blocks m g)
  · refine (θ_run _ _ _).mono (fun r h c => ⟨(h c).1.trans ?_, (h c).2.1.trans ?_, (h c).2.2⟩) (FoxOutRefIdeal.Value.run (F := Ideal) m' g')
    all_goals obtain ⟨e0, e1, e2, e3⟩ := hargs c
    · rw [e0, e1]
      exact (whole_eq m c).symm
    · rw [e0, e1, e2, e3]
      exact (total_eq m c _ fun i j => by pointwise []).symm

end Cert.Proof.FoxOut

end
-- ==== Proof.Mix.FoxDwo.lean ====
/-
  The weight gradient of the forgetting attention's output projection: both operands are contracted along their rows, and the array is the
  transpose of the host's product.
-/
module

public import proofs.«01_k».proof.Defs
public import proofs.«01_k».proof.Proof.Mix.Shared
public import proofs.«01_k».proof.Proof.Gen.FoxDwo.Frame
public import proofs.«01_k».proof.Proof.Gen.FoxDwoIdeal.Value
public import proofs.«01_k».proof.Proof.Gen.FoxDwoRefIdeal.Run
public import Idealize.ShloMosaic.Lib.StableHlo.RunRead
public import Idealize.ShloMosaic.Lib.Pipeline.ValueKit

@[expose] public section

set_option maxRecDepth 16384

noncomputable section

namespace Cert.Proof.FoxDwo

open FoxDwoIdeal FoxDwoIdeal.Gen Idealize.ShloMosaic TcCoe Idealize.SL.Sem
open Cert.Proof.Mix

/-- One block of the result. -/
theorem block_at (a b : Vec Ideal S4096x1024 .bf16) (i j : Fin 1024) :
    k0_pay1 (F := Ideal) a b (ix2 i j) = ∑ k : Fin 4096, a (ix2 k i) * b (ix2 k j) := by
  pointwise [k0_pay1]

theorem out_at (a b : Vec Ideal S4096x1024 .bf16) : out0_2 (F := Ideal) a b = k0_pay1 a b := by
  have z : (![0, 0] : Fin 2 → ℕ) = fun _ => 0 := funext fun d => match d with | 0 => rfl | 1 => rfl
  unfold out0_2
  rw [View.canon_unit_zero z, View.ld_unit_zero z, View.ld_unit_zero z]

theorem places : ∀ t : Fin grid0.N, win0_0.index t 0 = 0 ∧ win0_0.index t 1 = win0_2.index t 0 ∧ win0_1.index t 0 = 0 ∧ win0_1.index t 1 = win0_2.index t 1 := by
  decide +kernel

section
variable (m : (ℓ : Loc nD τ sig) → Buf (Elt Ideal) ℓ) (c : Dev nD)
abbrev aH : FVec Ideal S4096x1024 .f32 := m ((c.tc : Thread nD τ).loc main_arg0)
abbrev aD : FVec Ideal S4096x1024 .f32 := m ((c.tc : Thread nD τ).loc main_arg2)
abbrev left : FVec Ideal S4096x1024 .bf16 := V m c main_v0
abbrev right : FVec Ideal S4096x1024 .bf16 := V m c main_v1

/-- The array of the two operands' products. -/
def whole : S1024x1024.Idx → EReal := fun x => ∑ k : Fin 4096, left m c (ix2 k (x 0 : Fin 1024)) * right m c (ix2 k (x 1 : Fin 1024))

theorem array : (dats m 0 c).arrAt 2 cfg0.N = whole m c := by
  refine (dats m 0 c).arrAt_eq_of_covers 2 _ (by decide +kernel) fun t _ y => ?_
  rw [after0_2, out_at]
  obtain ⟨i, j, rfl⟩ : ∃ (i j : Fin 1024), y = ix2 i j := ⟨y 0, y 1, rc y⟩
  obtain ⟨p, q, r, s⟩ := places t
  refine (block_at _ _ i j).trans (Finset.sum_congr rfl fun k _ => ?_)
  refine congrArg₂ (· * ·) (congrArg (left m c) (at_rc ?_ ?_)) (congrArg (right m c) (at_rc ?_ ?_))
  · show win0_0.index t 0 * 4096 + 1 * k.val = k.val; rw [p]; omega
  · show win0_0.index t 1 * 1024 + 1 * i.val = win0_2.index t 0 * 1024 + 1 * i.val; rw [q]
  · show win0_1.index t 0 * 4096 + 1 * k.val = k.val; rw [r]; omega
  · show win0_1.index t 1 * 1024 + 1 * j.val = win0_2.index t 1 * 1024 + 1 * j.val; rw [s]

theorem left_eq : left m c = truncf .bf16 (aH m c) bitsLt_bf16_f32 := by
  unfold left V
  after_reads_simp
theorem right_eq : right m c = truncf .bf16 (aD m c) bitsLt_bf16_f32 := by
  unfold right V
  after_reads_simp

theorem whole_eq : whole m c = truncf (F := Ideal) .bf16
    (transpose S1024x1024 [1, 0] (Host.dotGeneral FoxDwoRefIdeal.dot_S4096x1024_S4096x1024_S1024x1024_0_0_1_1_n_n none (aD m c) (aH m c) : FVec Ideal FoxDwoRefIdeal.S1024x1024 .f32) FoxDwoRefIdeal.Gen.transposes_S1024x1024_S1024x1024_1_0) bitsLt_bf16_f32 := by
  refine ext_rc fun i j => ?_
  unfold whole
  rw [left_eq, right_eq]
  symm
  pointwise []
  exact Finset.sum_congr rfl fun k _ => mul_comm _ _
end

theorem frame_bits : quiescent_FoxDwo := fun m g _ => Cert.FoxDwo.Gen.frame m g
theorem frame_ideal : quiescent_FoxDwoIdeal := fun m g _ => FoxDwoIdeal.Gen.frame m g
theorem frame_reference : quiescent_FoxDwoRefIdeal := fun m g _ =>
  (θ_run (FoxDwoRefIdeal.defs (F := Ideal)) _ _).mono (fun r h => ⟨fun c => (h c).2, sem_eq_zero_of_no_sems (by decide) r.2⟩) (FoxDwoRefIdeal.Value.run (F := Ideal) m g)

/-- The kernel and the reference end with equal results. -/
theorem equal : algebraic_FoxDwoIdeal_FoxDwoRefIdeal := by
  intro m g m' g' _ hargs
  refine ⟨fun c => whole m c, ?_, ?_⟩
  · exact (θ_run _ _ _).mono (fun r h c => ⟨(h c).1.trans (array m c), (h c).2⟩) (FoxDwoIdeal.Value.run_blocks m g)
  · refine (θ_run _ _ _).mono (fun r h c => ⟨(h c).1.trans ?_, (h c).2⟩) (FoxDwoRefIdeal.Value.run (F := Ideal) m' g')
    obtain ⟨e0, e1, e2⟩ := hargs c
    rw [e0, e2]
    exact (whole_eq m c).symm

end Cert.Proof.FoxDwo

end
-- ==== Proof.Attn.Parts.lean ====
/-
  Sixteen heads side by side: a head's columns of a block, its slot of an accumulator, and what sixteen stores leave.
-/
module

public import Idealize.ShloMosaic.Lib.WritesUnit
public import Idealize.ShloMosaic.Lib.Tactic
public import Idealize.ShloMosaic.Lib.Pipeline.Kit

@[expose] public section

noncomputable section

namespace Cert.Proof.AttnParts

open Idealize.ShloMosaic Idealize.SL.Sem

/-- A block of augmented rows, a head's part of it, and the value columns of that. -/
abbrev Blk : Shape := ⟨2, ![512, 2048]⟩
abbrev Row : Shape := ⟨2, ![512, 128]⟩
abbrev Col : Shape := ⟨2, ![512, 64]⟩
/-- A block of results. -/
abbrev Res : Shape := ⟨2, ![512, 1024]⟩
/-- An accumulator and one of its slots. -/
abbrev Acc : Shape := ⟨3, ![16, 512, 128]⟩
abbrev Slot : Shape := ⟨3, ![1, 512, 128]⟩

theorem inRow (e : Fin 16) : ∀ a, (![0, 128 * e.val] : Fin 2 → Nat) a + Row.size a ≤ Blk.size a :=
  Fin.forall_fin_two.mpr ⟨by show 0 + 512 ≤ 512; omega, by show 128 * e.val + 128 ≤ 2048; omega⟩
theorem inRes (e : Fin 16) : ∀ a, (![0, 64 * e.val] : Fin 2 → Nat) a + Col.size a ≤ Res.size a :=
  Fin.forall_fin_two.mpr ⟨by show 0 + 512 ≤ 512; omega, by show 64 * e.val + 64 ≤ 1024; omega⟩
theorem inAcc (e : Fin 16) : ∀ a, (![e.val, 0, 0] : Fin 3 → Nat) a + Slot.size a ≤ Acc.size a := by
  intro a; match a with
  | 0 => show e.val + 1 ≤ 16; omega
  | 1 => show 0 + 512 ≤ 512; omega
  | 2 => show 0 + 128 ≤ 128; omega

section Parts
variable {α : Type}

/-- The columns of head `e` of a block. -/
def row (e : Fin 16) (X : Blk.Idx → α) : Row.Idx → α := fun x => X ((Rect.unit (s := Blk) ![0, 128 * e.val] Row.size (inRow e)).emb x)
/-- Slot `e` of an accumulator. -/
def slot (e : Fin 16) (X : Acc.Idx → α) : Slot.Idx → α := fun x => X ((Rect.unit (s := Acc) ![e.val, 0, 0] Slot.size (inAcc e)).emb x)
/-- An accumulator whose slot `e` is `h e`. -/
def acc (h : Fin 16 → Slot.Idx → α) : Acc.Idx → α :=
  fun y => h (y 0) (fun a => match a with | 0 => (0 : Fin 1) | 1 => y 1 | 2 => y 2)
/-- A block of results whose columns of head `e` are `h e`. -/
def res (h : Fin 16 → Col.Idx → α) : Res.Idx → α :=
  fun y => h ⟨(y 1).val / 64, by have h : (y 1).val < 1024 := (y 1).isLt; omega⟩
    (fun a => match a with | 0 => y 0 | 1 => (⟨(y 1).val % 64, Nat.mod_lt _ (by decide)⟩ : Fin 64))

theorem acc_emb (h : Fin 16 → Slot.Idx → α) (e : Fin 16) (x : Slot.Idx) :
    acc h ((Rect.unit (s := Acc) ![e.val, 0, 0] Slot.size (inAcc e)).emb x) = h e x := by
  have e0 : (Rect.unit (s := Acc) ![e.val, 0, 0] Slot.size (inAcc e)).emb x 0 = e :=
    Fin.ext (by show e.val + 1 * (x 0).val = e.val; have : (x 0).val < 1 := (x 0).isLt; omega)
  unfold acc
  rw [e0]
  congr 1
  funext a
  match a with
  | 0 => exact Fin.ext (by show 0 = (x 0).val; have : (x 0).val < 1 := (x 0).isLt; omega)
  | 1 => exact Fin.ext (by show 0 + 1 * (x 1).val = (x 1).val; omega)
  | 2 => exact Fin.ext (by show 0 + 1 * (x 2).val = (x 2).val; omega)

theorem slot_acc (h : Fin 16 → Slot.Idx → α) (e : Fin 16) : slot e (acc h) = h e := funext fun x => acc_emb h e x

theorem res_emb (h : Fin 16 → Col.Idx → α) (e : Fin 16) (x : Col.Idx) :
    res h ((Rect.unit (s := Res) ![0, 64 * e.val] Col.size (inRes e)).emb x) = h e x := by
  set y := (Rect.unit (s := Res) ![0, 64 * e.val] Col.size (inRes e)).emb x with hy
  have y0 : (y 0).val = (x 0).val := by show 0 + 1 * (x 0).val = _; omega
  have y1 : (y 1).val = 64 * e.val + (x 1).val := by show 64 * e.val + 1 * (x 1).val = _; omega
  have x1 : (x 1).val < 64 := (x 1).isLt
  unfold res
  have e0 : (⟨(y 1).val / 64, by have h : (y 1).val < 1024 := (y 1).isLt; omega⟩ : Fin 16) = e := Fin.ext (by show (y 1).val / 64 = e.val; omega)
  rw [e0]
  congr 1
  funext a
  match a with
  | 0 => exact Fin.ext y0
  | 1 => exact Fin.ext (by show (y 1).val % 64 = (x 1).val; omega)

end Parts

section Stores
variable {nD : Nat} {τ : Topo} {sig : RefSig} {Val : EltTy → Type}

/-- The piece that stores slot `e` of an accumulator, -/
def pcA (e : Fin 16) (w : Slot.Idx → Val .f32) : View.Piece Val Acc .f32 := ⟨Rect.unit (s := Acc) ![e.val, 0, 0] Slot.size (inAcc e), w⟩
/-- and the one that stores the columns of head `e` of a block of results. -/
def pcR (e : Fin 16) (w : Col.Idx → Val .f32) : View.Piece Val Res .f32 := ⟨Rect.unit (s := Res) ![0, 64 * e.val] Col.size (inRes e), w⟩

/-- Sixteen pieces, the last first. -/
def all16 {β : Type} (p : Fin 16 → β) : List β := [p 15, p 14, p 13, p 12, p 11, p 10, p 9, p 8, p 7, p 6, p 5, p 4, p 3, p 2, p 1, p 0]

theorem mem_all16 {β : Type} (p : Fin 16 → β) (b : β) : b ∈ all16 p ↔ ∃ e, b = p e := by
  constructor
  · intro hb
    simp only [all16, List.mem_cons, List.not_mem_nil, or_false] at hb
    rcases hb with h | h | h | h | h | h | h | h | h | h | h | h | h | h | h | h <;> exact ⟨_, h⟩
  · rintro ⟨e, rfl⟩
    unfold all16
    fin_cases e <;> simp

theorem whole3 {d : Fin 3 → Nat} {e : EltTy} (v : View sig .tc .vmem ⟨3, d⟩ e) (f : v.ty.Contents Val)
    (off : Fin 3 → Nat) (h : off = ![0, 0, 0]) {inb : ∀ a, off a + d a ≤ d a} {w : (⟨3, d⟩ : Shape).Idx → Val e} :
    v.read Val (v.writes Val f [(⟨Rect.unit (s := ⟨3, d⟩) off d inb, w⟩ : View.Piece Val ⟨3, d⟩ e)]) = w := by
  funext y
  exact View.read_writes_cons_unit_of_mem v f inb w [] y y h (fun a => match a with
    | 0 => (Nat.zero_add _).symm | 1 => (Nat.zero_add _).symm | 2 => (Nat.zero_add _).symm)

theorem read_acc (v : View sig .tc .vmem Acc .f32) (f : v.ty.Contents Val) (w : Fin 16 → Slot.Idx → Val .f32) :
    v.read Val (v.writes Val f (all16 fun e => pcA e (w e))) = acc w := by
  funext y
  refine View.read_writes_apply_of_pieces v f (acc w) _ ?_ y ⟨pcA (y 0) (w (y 0)), (mem_all16 _ _).2 ⟨y 0, rfl⟩, ?_⟩
  · intro p hp
    obtain ⟨e, rfl⟩ := (mem_all16 _ _).1 hp
    exact fun x => (acc_emb w e x).symm
  · show y ∈ (Rect.unit (s := Acc) ![(y 0).val, 0, 0] Slot.size (inAcc (y 0))).set
    rw [Rect.mem_set_unit]
    intro a
    match a with
    | 0 => exact ⟨le_rfl, Nat.lt_succ_self _⟩
    | 1 => exact ⟨Nat.zero_le _, by show (y 1).val < 0 + 512; have : (y 1).val < 512 := (y 1).isLt; omega⟩
    | 2 => exact ⟨Nat.zero_le _, by show (y 2).val < 0 + 128; have : (y 2).val < 128 := (y 2).isLt; omega⟩

theorem read_res (v : View sig .tc .vmem Res .f32) (f : v.ty.Contents Val) (w : Fin 16 → Col.Idx → Val .f32) :
    v.read Val (v.writes Val f (all16 fun e => pcR e (w e))) = res w := by
  funext y
  have y1 : (y 1).val < 1024 := (y 1).isLt
  refine View.read_writes_apply_of_pieces v f (res w) _ ?_ y
    ⟨pcR (⟨(y 1).val / 64, by omega⟩ : Fin 16) (w _), (mem_all16 _ _).2 ⟨_, rfl⟩, ?_⟩
  · intro p hp
    obtain ⟨e, rfl⟩ := (mem_all16 _ _).1 hp
    exact fun x => (res_emb w e x).symm
  · show y ∈ (Rect.unit (s := Res) ![0, 64 * ((y 1).val / 64)] Col.size (inRes ⟨(y 1).val / 64, by omega⟩)).set
    rw [Rect.mem_set_unit]
    intro a
    match a with
    | 0 => exact ⟨Nat.zero_le _, by show (y 0).val < 0 + 512; have : (y 0).val < 512 := (y 0).isLt; omega⟩
    | 1 => exact ⟨by show 64 * ((y 1).val / 64) ≤ (y 1).val; omega, by show (y 1).val < 64 * ((y 1).val / 64) + 64; omega⟩

/-- A slot loaded back after the sixteen stores. -/
theorem cov_acc [∀ e, Nonempty (Val e)] (v : View sig .tc .vmem Acc .f32) (w : Fin 16 → Slot.Idx → Val .f32) (e : Fin 16) :
    v.readCov (all16 fun e => pcA e (w e)) (Rect.unit (s := Acc) ![e.val, 0, 0] Slot.size (inAcc e)).toLoadRect = w e := by
  funext j
  exact (congrFun (read_acc v v.junk w) _).trans (acc_emb w e j)

/-- The same with the sixteen values one by one. -/
theorem acc_all (v : View sig .tc .vmem Acc .f32) (f : v.ty.Contents Val) (h : Fin 16 → Slot.Idx → Val .f32)
    (w0 w1 w2 w3 w4 w5 w6 w7 w8 w9 w10 w11 w12 w13 w14 w15 : Slot.Idx → Val .f32)
    (e0 : w0 = h 0) (e1 : w1 = h 1) (e2 : w2 = h 2) (e3 : w3 = h 3) (e4 : w4 = h 4) (e5 : w5 = h 5) (e6 : w6 = h 6) (e7 : w7 = h 7) (e8 : w8 = h 8) (e9 : w9 = h 9) (e10 : w10 = h 10) (e11 : w11 = h 11) (e12 : w12 = h 12) (e13 : w13 = h 13) (e14 : w14 = h 14) (e15 : w15 = h 15) :
    v.read Val (v.writes Val f [pcA 15 w15, pcA 14 w14, pcA 13 w13, pcA 12 w12, pcA 11 w11, pcA 10 w10, pcA 9 w9, pcA 8 w8, pcA 7 w7, pcA 6 w6, pcA 5 w5, pcA 4 w4, pcA 3 w3, pcA 2 w2, pcA 1 w1, pcA 0 w0]) = acc h := by
  subst e0 e1 e2 e3 e4 e5 e6 e7 e8 e9 e10 e11 e12 e13 e14 e15
  exact read_acc v f h

/-- The same with the sixteen values one by one. -/
theorem res_all (v : View sig .tc .vmem Res .f32) (f : v.ty.Contents Val) (h : Fin 16 → Col.Idx → Val .f32)
    (w0 w1 w2 w3 w4 w5 w6 w7 w8 w9 w10 w11 w12 w13 w14 w15 : Col.Idx → Val .f32)
    (e0 : w0 = h 0) (e1 : w1 = h 1) (e2 : w2 = h 2) (e3 : w3 = h 3) (e4 : w4 = h 4) (e5 : w5 = h 5) (e6 : w6 = h 6) (e7 : w7 = h 7) (e8 : w8 = h 8) (e9 : w9 = h 9) (e10 : w10 = h 10) (e11 : w11 = h 11) (e12 : w12 = h 12) (e13 : w13 = h 13) (e14 : w14 = h 14) (e15 : w15 = h 15) :
    v.read Val (v.writes Val f [pcR 15 w15, pcR 14 w14, pcR 13 w13, pcR 12 w12, pcR 11 w11, pcR 10 w10, pcR 9 w9, pcR 8 w8, pcR 7 w7, pcR 6 w6, pcR 5 w5, pcR 4 w4, pcR 3 w3, pcR 2 w2, pcR 1 w1, pcR 0 w0]) = res h := by
  subst e0 e1 e2 e3 e4 e5 e6 e7 e8 e9 e10 e11 e12 e13 e14 e15
  exact read_res v f h

end Stores

end Cert.Proof.AttnParts

end
-- ==== Proof.Attn.BitsFrame.lean ====
/-
  The frame of the forward call as it is.
-/
module

public import proofs.«01_k».proof.Proof.Attn.BitsRun
public import proofs.«01_k».proof.Defs

@[expose] public section

noncomputable section

namespace Cert.Proof.AttnBits

open Cert.Attn Gen

open Idealize.ShloMosaic TcCoe Tactic
open Idealize.SL.Sem

theorem frame_bits : quiescent_Attn := fun m g _ => frame_any m g

end Cert.Proof.AttnBits

end
-- ==== Proof.Attn.Pieces.lean ====
/-
  The body of the forward attention call in three pieces, one for each conditional: what a piece runs when its condition
  holds, followed by whatever comes after it.
-/
module

public import proofs.«01_k».proof.Proof.Gen.AttnIdeal.Skeleton
public import Idealize.ShloMosaic.Lib.Tactic
public import Idealize.ShloMosaic.Lib.Pipeline.Kit

@[expose] public section

noncomputable section

namespace Cert.Proof.Attn

open AttnIdeal AttnIdeal.Gen

open Idealize.ShloMosaic TcCoe Tactic
open Idealize.SL.Sem

variable {F : FTy → Type} [FloatOps F] [Named F]

variable (i : grid0.Coords) (a2 : Memref sig .tc .smem S36 .i32) (g2 : a2.IsWhole) (a3 : Memref sig .tc .smem S36 .i32) (g3 : a3.IsWhole)
variable (a4 : Memref sig .tc .vmem S512x2048 .bf16) (g4 : a4.IsWhole) (a5 : Memref sig .tc .vmem S512x2048 .bf16) (g5 : a5.IsWhole)
variable (a6 : Memref sig .tc .vmem S512x2048 .bf16) (g6 : a6.IsWhole) (a7 : Memref sig .tc .vmem S512x1024 .f32) (g7 : a7.IsWhole)
variable (a8 : Memref sig .tc .vmem S512x1024 .f32) (g8 : a8.IsWhole) (a9 : Memref sig .tc .vmem S16x512x128 .f32) (g9 : a9.IsWhole)
variable (a10 : Memref sig .tc .vmem S16x512x128 .f32) (g10 : a10.IsWhole)

set_option cleanup.letToHave false in
/-- Clear the running maximum and the accumulator. -/
def blkA (kk : PUnit.{1} → Prog (TpuEff nD τ sig (Elt F) Λ₀ .tc) PUnit) : Prog (TpuEff nD τ sig (Elt F) Λ₀ .tc) PUnit := do
  let v14 : Vec F S16x512x128 .f32 ← Prog.lift (.load a9 (Rect.unit (s := S16x512x128) ![0, 0, 0] S16x512x128.size inb_S16x512x128_S16x512x128_0_0_0).toLoadRect (View.loadsAt_vmem h_S16x512x128))
  Prog.lift (.store a9 (Rect.unit (s := S16x512x128) ![0, 0, 0] S16x512x128.size inb_S16x512x128_S16x512x128_0_0_0) (k0_pay1 (F := F)) Finset.univ (View.stores_vmem_bits_univ h_S16x512x128 rfl) (.inl rfl))
  let v18 : Vec F S16x512x128 .f32 ← Prog.lift (.load a10 (Rect.unit (s := S16x512x128) ![0, 0, 0] S16x512x128.size inb_S16x512x128_S16x512x128_0_0_0).toLoadRect (View.loadsAt_vmem h_S16x512x128))
  Prog.lift (.store a10 (Rect.unit (s := S16x512x128) ![0, 0, 0] S16x512x128.size inb_S16x512x128_S16x512x128_0_0_0) (k0_pay2 (F := F)) Finset.univ (View.stores_vmem_bits_univ h_S16x512x128 rfl) (.inl rfl))
  kk ⟨⟩

set_option cleanup.letToHave false in
/-- A step off the diagonal. -/
def blkB (kk : PUnit.{1} → Prog (TpuEff nD τ sig (Elt F) Λ₀ .tc) PUnit) : Prog (TpuEff nD τ sig (Elt F) Λ₀ .tc) PUnit := do
  let v45 : FVec F S512x128 .bf16 ← k0_part1 i a2 g2 a3 g3 a4 g4 a5 g5 a6 g6 a7 g7 a8 g8 a9 g9 a10 g10
  let v79 : FVec F S512x512 .f32 ← k0_part2 i a2 g2 a3 g3 a4 g4 a5 g5 a6 g6 a7 g7 a8 g8 a9 g9 a10 g10 v45
  let ⟨v110, v112, v114⟩ : Σ' (v110 : FVec F S512x512 .f32) (v112 : FVec F S512x128 .f32), FVec F S512x1 .f32 ← k0_part3 i a2 g2 a3 g3 a4 g4 a5 g5 a6 g6 a7 g7 a8 g8 a9 g9 a10 g10 v79
  let ⟨v143, v147, v151⟩ : Σ' (v143 v147 : FVec F S512x128 .f32), FVec F S512x512 .f32 ← k0_part4 i a2 g2 a3 g3 a4 g4 a5 g5 a6 g6 a7 g7 a8 g8 a9 g9 a10 g10 v110 v112 v114
  let ⟨v178, v182, v184, v185⟩ : Σ' (v178 : FVec F S512x128 .f32) (v182 : FVec F S512x512 .f32) (v184 : FVec F S512x128 .f32), FVec F S512x128 .f32 ← k0_part5 i a2 g2 a3 g3 a4 g4 a5 g5 a6 g6 a7 g7 a8 g8 a9 g9 a10 g10 v143 v147 v151
  let ⟨v209, v218, v219, v220⟩ : Σ' (v209 v218 : FVec F S512x128 .f32) (v219 : FVec F S512x512 .bf16), Vec F S512x128 .bf16 ← k0_part6 i a2 g2 a3 g3 a4 g4 a5 g5 a6 g6 a7 g7 a8 g8 a9 g9 a10 g10 v178 v182 v184 v185
  let ⟨v240, v254⟩ : Σ' (v240 : FVec F S512x128 .f32), FVec F S512x128 .f32 ← k0_part7 i a2 g2 a3 g3 a4 g4 a5 g5 a6 g6 a7 g7 a8 g8 a9 g9 a10 g10 v209 v218 v219 v220
  let v271 : FVec F S512x128 .f32 ← k0_part8 i a2 g2 a3 g3 a4 g4 a5 g5 a6 g6 a7 g7 a8 g8 a9 g9 a10 g10 v240 v254
  k0_part9 i a2 g2 a3 g3 a4 g4 a5 g5 a6 g6 a7 g7 a8 g8 a9 g9 a10 g10 v271
  let v355 : FVec F S512x128 .bf16 ← k0_part10 i a2 g2 a3 g3 a4 g4 a5 g5 a6 g6 a7 g7 a8 g8 a9 g9 a10 g10
  let v389 : FVec F S512x512 .f32 ← k0_part11 i a2 g2 a3 g3 a4 g4 a5 g5 a6 g6 a7 g7 a8 g8 a9 g9 a10 g10 v355
  let ⟨v420, v422, v424⟩ : Σ' (v420 : FVec F S512x512 .f32) (v422 : FVec F S512x128 .f32), FVec F S512x1 .f32 ← k0_part12 i a2 g2 a3 g3 a4 g4 a5 g5 a6 g6 a7 g7 a8 g8 a9 g9 a10 g10 v389
  let ⟨v453, v457, v461⟩ : Σ' (v453 v457 : FVec F S512x128 .f32), FVec F S512x512 .f32 ← k0_part13 i a2 g2 a3 g3 a4 g4 a5 g5 a6 g6 a7 g7 a8 g8 a9 g9 a10 g10 v420 v422 v424
  let ⟨v488, v492, v494, v495⟩ : Σ' (v488 : FVec F S512x128 .f32) (v492 : FVec F S512x512 .f32) (v494 : FVec F S512x128 .f32), FVec F S512x128 .f32 ← k0_part14 i a2 g2 a3 g3 a4 g4 a5 g5 a6 g6 a7 g7 a8 g8 a9 g9 a10 g10 v453 v457 v461
  let v499 : Vec F S512x128 .bf16 ← Prog.lift (.load a6 (Rect.unit (s := S512x2048) ![0, 1920] S512x128.size inb_S512x2048_S512x128_0_1920).toLoadRect (View.loadsAt_vmem h_S512x128))
  let v503 : Vec F S1x512x128 .f32 ← Prog.lift (.load a10 (Rect.unit (s := S16x512x128) ![15, 0, 0] S1x512x128.size inb_S16x512x128_S1x512x128_15_0_0).toLoadRect (View.loadsAt_vmem h_S1x512x128))
  Prog.lift (.store a10 (Rect.unit (s := S16x512x128) ![15, 0, 0] S1x512x128.size inb_S16x512x128_S1x512x128_15_0_0) (k0_pay3 v492 v494 v495 v499) Finset.univ (View.stores_vmem_bits_univ h_S1x512x128 rfl) (.inl rfl))
  let v506 : Vec F S1x512x128 .f32 ← Prog.lift (.load a9 (Rect.unit (s := S16x512x128) ![15, 0, 0] S1x512x128.size inb_S16x512x128_S1x512x128_15_0_0).toLoadRect (View.loadsAt_vmem h_S1x512x128))
  Prog.lift (.store a9 (Rect.unit (s := S16x512x128) ![15, 0, 0] S1x512x128.size inb_S16x512x128_S1x512x128_15_0_0) (k0_pay4 v488) Finset.univ (View.stores_vmem_bits_univ h_S1x512x128 rfl) (.inl rfl))
  kk ⟨⟩

set_option cleanup.letToHave false in
/-- The step on the diagonal, and the results of the row block. -/
def blkC (kk : PUnit.{1} → Prog (TpuEff nD τ sig (Elt F) Λ₀ .tc) PUnit) : Prog (TpuEff nD τ sig (Elt F) Λ₀ .tc) PUnit := do
  let ⟨v801, v802, v803⟩ : Σ' (v801 : FVec F S512x1 .f32) (v802 : FVec F S512x64 .f32), FVec F S512x64 .f32 ← k0_part37 i a2 g2 a3 g3 a4 g4 a5 g5 a6 g6 a7 g7 a8 g8 a9 g9 a10 g10
  let v805 : Vec F S512x64 .f32 ← Prog.lift (.load a7 (Rect.unit (s := S512x1024) ![0, 960] S512x64.size inb_S512x1024_S512x64_0_960).toLoadRect (View.loadsAt_vmem h_S512x64))
  Prog.lift (.store a7 (Rect.unit (s := S512x1024) ![0, 960] S512x64.size inb_S512x1024_S512x64_0_960) (k0_pay5 v802 v803) Finset.univ (View.stores_vmem_bits_univ h_S512x64 rfl) (.inl rfl))
  let v806 : Vec F S1x512x128 .f32 ← Prog.lift (.load a9 (Rect.unit (s := S16x512x128) ![15, 0, 0] S1x512x128.size inb_S16x512x128_S1x512x128_15_0_0).toLoadRect (View.loadsAt_vmem h_S1x512x128))
  let v812 : Vec F S512x64 .f32 ← Prog.lift (.load a8 (Rect.unit (s := S512x1024) ![0, 960] S512x64.size inb_S512x1024_S512x64_0_960).toLoadRect (View.loadsAt_vmem h_S512x64))
  Prog.lift (.store a8 (Rect.unit (s := S512x1024) ![0, 960] S512x64.size inb_S512x1024_S512x64_0_960) (k0_pay6 v801 v806) Finset.univ (View.stores_vmem_bits_univ h_S512x64 rfl) (.inl rfl))
  kk ⟨⟩

/-- The conditions of the three pieces, from the row word `v1` and the column word `v3`. -/
def cndA (v3 : BitVec 32) : BitVec 1 := Scalar.cmpi .ne (Scalar.extui (Scalar.cmpi .eq v3 0#32) : BitVec 32) 0#32
def cndB (v1 v3 : BitVec 32) : BitVec 1 := Scalar.cmpi .ne (Scalar.extui (Scalar.cmpi .slt v3 v1) : BitVec 32) 0#32

set_option cleanup.letToHave false in
/-- From the third conditional on. -/
def tailC (v1 v3 : Elt F .i32) : Prog (TpuEff nD τ sig (Elt F) Λ₀ .tc) PUnit :=
  if h : k0_cond3 v1 v3 = 1#1 then blkC i a2 g2 a3 g3 a4 g4 a5 g5 a6 g6 a7 g7 a8 g8 a9 g9 a10 g10 (fun _ => pure ⟨⟩) else pure ⟨⟩

set_option cleanup.letToHave false in
/-- From the second conditional on. -/
def tailB (v1 v3 : Elt F .i32) : Prog (TpuEff nD τ sig (Elt F) Λ₀ .tc) PUnit :=
  if cndB v1 v3 = 1#1 then blkB i a2 g2 a3 g3 a4 g4 a5 g5 a6 g6 a7 g7 a8 g8 a9 g9 a10 g10 (fun _ => tailC i a2 g2 a3 g3 a4 g4 a5 g5 a6 g6 a7 g7 a8 g8 a9 g9 a10 g10 v1 v3) else tailC i a2 g2 a3 g3 a4 g4 a5 g5 a6 g6 a7 g7 a8 g8 a9 g9 a10 g10 v1 v3

set_option cleanup.letToHave false in
/-- From the first conditional on. -/
def tailA (v1 v3 : Elt F .i32) : Prog (TpuEff nD τ sig (Elt F) Λ₀ .tc) PUnit :=
  if cndA v3 = 1#1 then blkA a9 a10 (fun _ => tailB i a2 g2 a3 g3 a4 g4 a5 g5 a6 g6 a7 g7 a8 g8 a9 g9 a10 g10 v1 v3) else tailB i a2 g2 a3 g3 a4 g4 a5 g5 a6 g6 a7 g7 a8 g8 a9 g9 a10 g10 v1 v3

set_option maxRecDepth 65536 in
/-- The body reads its two table words and runs the three pieces in order. -/
theorem skel_eq : cc0_fox_attn_skel (F := F) i a2 g2 a3 g3 a4 g4 a5 g5 a6 g6 a7 g7 a8 g8 a9 g9 a10 g10 = (do
    let v1 : Elt F .i32 ← smemLoad a2 (Rect.unit (s := S36) (k0_off1 i) S1.size (k0_off1_inb i)) numel1_S1 rfl
    let v3 : Elt F .i32 ← smemLoad a3 (Rect.unit (s := S36) (k0_off1 i) S1.size (k0_off1_inb i)) numel1_S1 rfl
    tailA i a2 g2 a3 g3 a4 g4 a5 g5 a6 g6 a7 g7 a8 g8 a9 g9 a10 g10 v1 v3) := rfl

end Cert.Proof.Attn

end
-- ==== Proof.Attn.Runs.lean ====
/-
  One head's step of the running softmax, and what each piece of the body does to the buffers, whatever comes after it.
-/
module

public import proofs.«01_k».proof.Proof.Attn.Pieces
public import proofs.«01_k».proof.Proof.Attn.Parts

@[expose] public section

noncomputable section

namespace Cert.Proof.Attn

open AttnIdeal AttnIdeal.Gen

open Idealize.ShloMosaic TcCoe Tactic
open Idealize.SL Idealize.SL.RA Idealize.SL.BI
open Idealize.SL.BI.BIBase Idealize.SL.BI.Laws Idealize.SL.ProofMode Idealize.SL.Sem
open Idealize.ShloMosaic.Rounds

variable {F : FTy → Type} [FloatOps F] [Named F]

open Cert.Proof.AttnParts

/-- The running maximum `m` of a head raised to the row maxima of the scores `s`, -/
def mNew (s : FVec F S512x512 .f32) (m : FVec F S1x512x128 .f32) : FVec F S512x128 .f32 :=
  maximumf (shapeCast S512x128 m shapeCasts_S1x512x128_S512x128)
    (broadcastTo S512x128 (shapeCast S512x1 (multiReduction .maximumf [1] S512 s 0xFF800000#32 reduces_S512x512_S512 (.inl rfl) rfl) shapeCasts_S512_S512x1) broadcasts_S512x1_S512x128)
/-- the weights of the scores against it, -/
def wts (s : FVec F S512x512 .f32) (m : FVec F S1x512x128 .f32) : FVec F S512x512 .f32 :=
  exp (subf s (broadcastTo S512x512 (extractStridedSlice S512x1 ![0, 0] (mNew s m) slices_S512x128_o0_0_S512x1) broadcasts_S512x1_S512x512))
/-- the slot of the maximum after the step, -/
def stM (s : FVec F S512x512 .f32) (m : FVec F S1x512x128 .f32) : FVec F S1x512x128 .f32 :=
  shapeCast S1x512x128 (mNew s m) shapeCasts_S512x128_S1x512x128
/-- and the slot of the accumulator: rescaled, the weighted values added. -/
def stA (s : FVec F S512x512 .f32) (m a : FVec F S1x512x128 .f32) (v : FVec F S512x128 .bf16) : FVec F S1x512x128 .f32 :=
  shapeCast S1x512x128
    (addf (mulf (shapeCast S512x128 a shapeCasts_S1x512x128_S512x128) (exp (subf (shapeCast S512x128 m shapeCasts_S1x512x128_S512x128) (mNew s m))))
      (matmul dot_S512x512_S512x128_S512x128_1_0_0_1_n_n none (truncf .bf16 (wts s m) bitsLt_bf16_f32) (shapeCast S512x128 v shapeCasts_S512x128_S512x128) (constant S512x128 .f32 0x00000000#32)))
    shapeCasts_S512x128_S1x512x128

section Heads
variable (sc : FVec F S512x128 .bf16 → FVec F S512x128 .bf16 → FVec F S512x512 .f32) (X4 X5 X6 : S512x2048.Idx → Elt F .bf16) (X9 X10 : S16x512x128.Idx → Elt F .f32)

/-- Every head's slot of the maximum after a step whose scores are `sc`, -/
def gM (e : Fin 16) : FVec F S1x512x128 .f32 := stM (sc (row e X4) (row e X5)) (slot e X9)
/-- and of the accumulator. -/
def gA (e : Fin 16) : FVec F S1x512x128 .f32 := stA (sc (row e X4) (row e X5)) (slot e X9) (slot e X10) (row e X6)

end Heads

theorem fin_o (a : FVec F S1x512x128 .f32) : k0_pay5 (k0_pay244 a) (k0_pay245 a) = k0_pay204 a := rfl
theorem fin_l (a m : FVec F S1x512x128 .f32) : k0_pay6 (k0_pay243 a) m = k0_pay205 a m := rfl

/-- The resource algebra of the run. -/
abbrev UU (nD : Nat) (τ : Topo) : Type := UR sig nD τ

local notation "𝕄" => MT nD τ sig Unit (Elt F) ℕ (UU nD τ) ℕ

/-- The contents of memref `M`'s buffer on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
/-- The buffer of `M` held whole at some contents that read `X`. -/
abbrev rd (c : Dev nD) {sp : Space} {S : Shape} {e : EltTy} (M : Memref sig .tc sp S e) (X : S.Idx → Elt F e) : sProp 𝕄 :=
  iprop(∃ f : Bf (F := F) c M, ⌜M.view.read (Elt F) f = X⌝ ∗ pt c M f)

theorem rd_of (c : Dev nD) {sp : Space} {S : Shape} {e : EltTy} (M : Memref sig .tc sp S e) (f : Bf (F := F) c M) (X : S.Idx → Elt F e)
    (h : M.view.read (Elt F) f = X) : (pt c M f : sProp 𝕄) ⊢ rd c M X := by
  iintro H
  iexists f
  isplitr
  · ipureintro; exact h
  · iexact H

variable (i : grid0.Coords) (a2 : Memref sig .tc .smem S36 .i32) (g2 : a2.IsWhole) (a3 : Memref sig .tc .smem S36 .i32) (g3 : a3.IsWhole)
variable (a4 : Memref sig .tc .vmem S512x2048 .bf16) (g4 : a4.IsWhole) (a5 : Memref sig .tc .vmem S512x2048 .bf16) (g5 : a5.IsWhole)
variable (a6 : Memref sig .tc .vmem S512x2048 .bf16) (g6 : a6.IsWhole) (a7 : Memref sig .tc .vmem S512x1024 .f32) (g7 : a7.IsWhole)
variable (a8 : Memref sig .tc .vmem S512x1024 .f32) (g8 : a8.IsWhole) (a9 : Memref sig .tc .vmem S16x512x128 .f32) (g9 : a9.IsWhole)
variable (a10 : Memref sig .tc .vmem S16x512x128 .f32) (g10 : a10.IsWhole) (c : Dev nD) (W : Waits sig Unit)
variable (kk : PUnit.{1} → Prog (TpuEff nD τ sig (Elt F) Λ₀ .tc) PUnit) (Q : PUnit.{1} → sProp (MT nD τ sig Unit (Elt F) ℕ (UU nD τ) ℕ))
variable (X4 X5 X6 : S512x2048.Idx → Elt F .bf16) (X7 X8 : S512x1024.Idx → Elt F .f32) (X9 X10 : S16x512x128.Idx → Elt F .f32)

theorem blkA_run :
   iprop(rd c a9 X9 ∗ rd c a10 X10 ∗ owes (c : Thread nD τ) 0 W
     ∗ (iprop(rd c a9 (k0_pay1 (F := F)) ∗ rd c a10 (k0_pay2 (F := F)) ∗ owes (c : Thread nD τ) 0 W) -∗ wp frame (wpE (defs₀ (F := F)) Variants.none c none) Set.univ (kk ⟨⟩) Q))
   ⊢ wp frame (wpE (defs₀ (F := F)) Variants.none c none) Set.univ (blkA a9 a10 kk) Q := by
  iintro ⟨⟨%f9, %h9, H9⟩, ⟨%f10, %h10, H10⟩, HO, Hk⟩
  unfold blkA
  sl_exec
  iapply Hk
  isplitl [H9]
  · iexists _; isplitr; swap; · iexact H9
    ipureintro
    exact whole3 _ _ _ rfl
  isplitl [H10]
  · iexists _; isplitr; swap; · iexact H10
    ipureintro
    exact whole3 _ _ _ rfl
  iexact HO

set_option maxHeartbeats 4000000 in
theorem blkB_run :
   iprop(rd c a4 X4 ∗ rd c a5 X5 ∗ rd c a6 X6 ∗ rd c a9 X9 ∗ rd c a10 X10 ∗ owes (c : Thread nD τ) 0 W
     ∗ (iprop(rd c a4 X4 ∗ rd c a5 X5 ∗ rd c a6 X6 ∗ rd c a9 (acc (gM k0_pay7 X4 X5 X9)) ∗ rd c a10 (acc (gA k0_pay7 X4 X5 X6 X9 X10)) ∗ owes (c : Thread nD τ) 0 W) -∗ wp frame (wpE (defs₀ (F := F)) Variants.none c none) Set.univ (kk ⟨⟩) Q))
   ⊢ wp frame (wpE (defs₀ (F := F)) Variants.none c none) Set.univ (blkB i a2 g2 a3 g3 a4 g4 a5 g5 a6 g6 a7 g7 a8 g8 a9 g9 a10 g10 kk) Q := by
  iintro ⟨⟨%f4, %h4, H4⟩, ⟨%f5, %h5, H5⟩, ⟨%f6, %h6, H6⟩, ⟨%f9, %h9, H9⟩, ⟨%f10, %h10, H10⟩, HO, Hk⟩
  subst h4 h5 h6 h9 h10
  unfold blkB
  sl_exec
  iapply Hk
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H9]
  · iexists _; isplitr; swap; · iexact H9
    ipureintro
    exact acc_all a9.view f9 (gM k0_pay7 (a4.view.read (Elt F) f4) (a5.view.read (Elt F) f5) (a9.view.read (Elt F) f9)) _ _ _ _ _ _ _ _ _ _ _ _ _ _ _ _ rfl rfl rfl rfl rfl rfl rfl rfl rfl rfl rfl rfl rfl rfl rfl rfl
  isplitl [H10]
  · iexists _; isplitr; swap; · iexact H10
    ipureintro
    exact acc_all a10.view f10 (gA k0_pay7 (a4.view.read (Elt F) f4) (a5.view.read (Elt F) f5) (a6.view.read (Elt F) f6) (a9.view.read (Elt F) f9) (a10.view.read (Elt F) f10)) _ _ _ _ _ _ _ _ _ _ _ _ _ _ _ _ rfl rfl rfl rfl rfl rfl rfl rfl rfl rfl rfl rfl rfl rfl rfl rfl
  iexact HO

set_option maxHeartbeats 8000000 in
theorem blkC_run :
   iprop(rd c a4 X4 ∗ rd c a5 X5 ∗ rd c a6 X6 ∗ rd c a7 X7 ∗ rd c a8 X8 ∗ rd c a9 X9 ∗ rd c a10 X10 ∗ owes (c : Thread nD τ) 0 W
     ∗ (iprop(rd c a4 X4 ∗ rd c a5 X5 ∗ rd c a6 X6 ∗ rd c a7 (res fun e => k0_pay204 (gA k0_pay100 X4 X5 X6 X9 X10 e))
          ∗ rd c a8 (res fun e => k0_pay205 (gA k0_pay100 X4 X5 X6 X9 X10 e) (gM k0_pay100 X4 X5 X9 e))
          ∗ rd c a9 (acc (gM k0_pay100 X4 X5 X9)) ∗ rd c a10 (acc (gA k0_pay100 X4 X5 X6 X9 X10)) ∗ owes (c : Thread nD τ) 0 W) -∗ wp frame (wpE (defs₀ (F := F)) Variants.none c none) Set.univ (kk ⟨⟩) Q))
   ⊢ wp frame (wpE (defs₀ (F := F)) Variants.none c none) Set.univ (blkC i a2 g2 a3 g3 a4 g4 a5 g5 a6 g6 a7 g7 a8 g8 a9 g9 a10 g10 kk) Q := by
  iintro ⟨⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, HO, Hk⟩
  subst h4 h5 h6 h7 h8 h9 h10
  unfold blkC
  sl_exec
  have hA : blkC_run.sl.H10_16 a4 a5 a6 a9 a10 c f4 f5 f6 f9 f10 = all16 fun e => pcA e (gA k0_pay100 (a4.view.read (Elt F) f4) (a5.view.read (Elt F) f5) (a6.view.read (Elt F) f6) (a9.view.read (Elt F) f9) (a10.view.read (Elt F) f10) e) := rfl
  have hM : blkC_run.sl.H9_16 a4 a5 a9 c f4 f5 f9 = all16 fun e => pcA e (gM k0_pay100 (a4.view.read (Elt F) f4) (a5.view.read (Elt F) f5) (a9.view.read (Elt F) f9) e) := rfl
  have cA : ∀ e, a10.view.readCov (blkC_run.sl.H10_16 a4 a5 a6 a9 a10 c f4 f5 f6 f9 f10) (Rect.unit (s := Acc) ![e.val, 0, 0] Slot.size (inAcc e)).toLoadRect = gA k0_pay100 (a4.view.read (Elt F) f4) (a5.view.read (Elt F) f5) (a6.view.read (Elt F) f6) (a9.view.read (Elt F) f9) (a10.view.read (Elt F) f10) e := fun e => by
    rw [hA]; exact cov_acc _ _ e
  have cM : ∀ e, a9.view.readCov (blkC_run.sl.H9_16 a4 a5 a9 c f4 f5 f9) (Rect.unit (s := Acc) ![e.val, 0, 0] Slot.size (inAcc e)).toLoadRect = gM k0_pay100 (a4.view.read (Elt F) f4) (a5.view.read (Elt F) f5) (a9.view.read (Elt F) f9) e := fun e => by
    rw [hM]; exact cov_acc _ _ e
  iapply Hk
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    exact res_all a7.view f7 (fun e => k0_pay204 (gA k0_pay100 (a4.view.read (Elt F) f4) (a5.view.read (Elt F) f5) (a6.view.read (Elt F) f6) (a9.view.read (Elt F) f9) (a10.view.read (Elt F) f10) e)) _ _ _ _ _ _ _ _ _ _ _ _ _ _ _ _ (congrArg k0_pay204 (cA 0)) (congrArg k0_pay204 (cA 1)) (congrArg k0_pay204 (cA 2)) (congrArg k0_pay204 (cA 3)) (congrArg k0_pay204 (cA 4)) (congrArg k0_pay204 (cA 5)) (congrArg k0_pay204 (cA 6)) (congrArg k0_pay204 (cA 7)) (congrArg k0_pay204 (cA 8)) (congrArg k0_pay204 (cA 9)) (congrArg k0_pay204 (cA 10)) (congrArg k0_pay204 (cA 11)) (congrArg k0_pay204 (cA 12)) (congrArg k0_pay204 (cA 13)) (congrArg k0_pay204 (cA 14)) ((fin_o _).trans (congrArg k0_pay204 (cA 15)))
  isplitl [H8]
  · iexists _; isplitr; swap; · iexact H8
    ipureintro
    exact res_all a8.view f8 (fun e => k0_pay205 (gA k0_pay100 (a4.view.read (Elt F) f4) (a5.view.read (Elt F) f5) (a6.view.read (Elt F) f6) (a9.view.read (Elt F) f9) (a10.view.read (Elt F) f10) e) (gM k0_pay100 (a4.view.read (Elt F) f4) (a5.view.read (Elt F) f5) (a9.view.read (Elt F) f9) e)) _ _ _ _ _ _ _ _ _ _ _ _ _ _ _ _ (congrArg₂ k0_pay205 (cA 0) (cM 0)) (congrArg₂ k0_pay205 (cA 1) (cM 1)) (congrArg₂ k0_pay205 (cA 2) (cM 2)) (congrArg₂ k0_pay205 (cA 3) (cM 3)) (congrArg₂ k0_pay205 (cA 4) (cM 4)) (congrArg₂ k0_pay205 (cA 5) (cM 5)) (congrArg₂ k0_pay205 (cA 6) (cM 6)) (congrArg₂ k0_pay205 (cA 7) (cM 7)) (congrArg₂ k0_pay205 (cA 8) (cM 8)) (congrArg₂ k0_pay205 (cA 9) (cM 9)) (congrArg₂ k0_pay205 (cA 10) (cM 10)) (congrArg₂ k0_pay205 (cA 11) (cM 11)) (congrArg₂ k0_pay205 (cA 12) (cM 12)) (congrArg₂ k0_pay205 (cA 13) (cM 13)) (congrArg₂ k0_pay205 (cA 14) (cM 14)) ((fin_l _ _).trans (congrArg₂ k0_pay205 (cA 15) (cM 15)))
  isplitl [H9]
  · iexists _; isplitr; swap; · iexact H9
    ipureintro
    exact acc_all a9.view f9 (gM k0_pay100 (a4.view.read (Elt F) f4) (a5.view.read (Elt F) f5) (a9.view.read (Elt F) f9)) _ _ _ _ _ _ _ _ _ _ _ _ _ _ _ _ rfl rfl rfl rfl rfl rfl rfl rfl rfl rfl rfl rfl rfl rfl rfl rfl
  isplitl [H10]
  · iexists _; isplitr; swap; · iexact H10
    ipureintro
    exact acc_all a10.view f10 (gA k0_pay100 (a4.view.read (Elt F) f4) (a5.view.read (Elt F) f5) (a6.view.read (Elt F) f6) (a9.view.read (Elt F) f9) (a10.view.read (Elt F) f10)) _ _ _ _ _ _ _ _ _ _ _ _ _ _ _ _ rfl rfl rfl rfl rfl rfl rfl rfl rfl rfl rfl rfl rfl rfl rfl rfl
  iexact HO

end Cert.Proof.Attn

end
-- ==== Proof.Attn.Body.lean ====
/-
  One run of the whole body: what it leaves in each buffer, as a function of the two table words and of what the buffers held.
-/
module

public import proofs.«01_k».proof.Proof.Attn.Runs

@[expose] public section

noncomputable section

namespace Cert.Proof.Attn

open AttnIdeal AttnIdeal.Gen

open Idealize.ShloMosaic TcCoe Tactic
open Idealize.SL Idealize.SL.RA Idealize.SL.BI
open Idealize.SL.BI.BIBase Idealize.SL.BI.Laws Idealize.SL.ProofMode Idealize.SL.Sem
open Idealize.ShloMosaic.Rounds

variable {F : FTy → Type} [FloatOps F] [Named F]

open Cert.Proof.AttnParts

local notation "𝕄" => MT nD τ sig Unit (Elt F) ℕ (UU nD τ) ℕ

section Steps
variable (v1 v3 : Elt F .i32) (X4 X5 X6 : S512x2048.Idx → Elt F .bf16) (X7 X8 : S512x1024.Idx → Elt F .f32) (X9 X10 : S16x512x128.Idx → Elt F .f32)

/-- The two accumulators, cleared where the column is the first; -/
def clM : S16x512x128.Idx → Elt F .f32 := if cndA v3 = 1#1 then k0_pay1 (F := F) else X9
def clA : S16x512x128.Idx → Elt F .f32 := if cndA v3 = 1#1 then k0_pay2 (F := F) else X10
/-- after the step off the diagonal, where there is one; -/
def ofM : S16x512x128.Idx → Elt F .f32 := if cndB v1 v3 = 1#1 then acc (gM k0_pay7 X4 X5 X9) else X9
def ofA : S16x512x128.Idx → Elt F .f32 := if cndB v1 v3 = 1#1 then acc (gA k0_pay7 X4 X5 X6 X9 X10) else X10
/-- after the step on the diagonal, where there is one; -/
def dgM : S16x512x128.Idx → Elt F .f32 := if k0_cond3 v1 v3 = 1#1 then acc (gM k0_pay100 X4 X5 X9) else X9
def dgA : S16x512x128.Idx → Elt F .f32 := if k0_cond3 v1 v3 = 1#1 then acc (gA k0_pay100 X4 X5 X6 X9 X10) else X10
/-- and the two results, written on the diagonal. -/
def fiO : S512x1024.Idx → Elt F .f32 := if k0_cond3 v1 v3 = 1#1 then res fun e => k0_pay204 (gA k0_pay100 X4 X5 X6 X9 X10 e) else X7
def fiL : S512x1024.Idx → Elt F .f32 := if k0_cond3 v1 v3 = 1#1 then res fun e => k0_pay205 (gA k0_pay100 X4 X5 X6 X9 X10 e) (gM k0_pay100 X4 X5 X9 e) else X8

/-- The accumulators before the step on the diagonal. -/
def mdM : S16x512x128.Idx → Elt F .f32 := ofM v1 v3 X4 X5 (clM v3 X9)
def mdA : S16x512x128.Idx → Elt F .f32 := ofA v1 v3 X4 X5 X6 (clM v3 X9) (clA v3 X10)
/-- What the body leaves in the running maximum, -/
def nxM : S16x512x128.Idx → Elt F .f32 := dgM v1 v3 X4 X5 (mdM v1 v3 X4 X5 X9)
/-- in the accumulator -/
def nxA : S16x512x128.Idx → Elt F .f32 := dgA v1 v3 X4 X5 X6 (mdM v1 v3 X4 X5 X9) (mdA v1 v3 X4 X5 X6 X9 X10)
/-- and in the two results. -/
def nxO : S512x1024.Idx → Elt F .f32 := fiO v1 v3 X4 X5 X6 X7 (mdM v1 v3 X4 X5 X9) (mdA v1 v3 X4 X5 X6 X9 X10)
def nxL : S512x1024.Idx → Elt F .f32 := fiL v1 v3 X4 X5 X6 X8 (mdM v1 v3 X4 X5 X9) (mdA v1 v3 X4 X5 X6 X9 X10)

end Steps

variable (i : grid0.Coords) (a2 : Memref sig .tc .smem S36 .i32) (g2 : a2.IsWhole) (a3 : Memref sig .tc .smem S36 .i32) (g3 : a3.IsWhole)
variable (a4 : Memref sig .tc .vmem S512x2048 .bf16) (g4 : a4.IsWhole) (a5 : Memref sig .tc .vmem S512x2048 .bf16) (g5 : a5.IsWhole)
variable (a6 : Memref sig .tc .vmem S512x2048 .bf16) (g6 : a6.IsWhole) (a7 : Memref sig .tc .vmem S512x1024 .f32) (g7 : a7.IsWhole)
variable (a8 : Memref sig .tc .vmem S512x1024 .f32) (g8 : a8.IsWhole) (a9 : Memref sig .tc .vmem S16x512x128 .f32) (g9 : a9.IsWhole)
variable (a10 : Memref sig .tc .vmem S16x512x128 .f32) (g10 : a10.IsWhole)
variable (c : Dev nD) (W : Waits sig Unit) (Q : PUnit.{1} → sProp (MT nD τ sig Unit (Elt F) ℕ (UU nD τ) ℕ)) (v1 v3 : Elt F .i32)
variable (X4 X5 X6 : S512x2048.Idx → Elt F .bf16) (X7 X8 : S512x1024.Idx → Elt F .f32) (X9 X10 : S16x512x128.Idx → Elt F .f32)

theorem tailC_run :
   iprop(rd c a4 X4 ∗ rd c a5 X5 ∗ rd c a6 X6 ∗ rd c a7 X7 ∗ rd c a8 X8 ∗ rd c a9 X9 ∗ rd c a10 X10 ∗ owes (c : Thread nD τ) 0 W
     ∗ (iprop(rd c a4 X4 ∗ rd c a5 X5 ∗ rd c a6 X6 ∗ rd c a7 (fiO v1 v3 X4 X5 X6 X7 X9 X10) ∗ rd c a8 (fiL v1 v3 X4 X5 X6 X8 X9 X10) ∗ rd c a9 (dgM v1 v3 X4 X5 X9) ∗ rd c a10 (dgA v1 v3 X4 X5 X6 X9 X10) ∗ owes (c : Thread nD τ) 0 W) -∗ Q ⟨⟩))
   ⊢ wp frame (wpE (defs₀ (F := F)) Variants.none c none) Set.univ (tailC i a2 g2 a3 g3 a4 g4 a5 g5 a6 g6 a7 g7 a8 g8 a9 g9 a10 g10 v1 v3) Q := by
  iintro ⟨H4, H5, H6, H7, H8, H9, H10, HO, Hk⟩
  by_cases h : k0_cond3 v1 v3 = 1#1
  · rw [show tailC i a2 g2 a3 g3 a4 g4 a5 g5 a6 g6 a7 g7 a8 g8 a9 g9 a10 g10 v1 v3 = blkC i a2 g2 a3 g3 a4 g4 a5 g5 a6 g6 a7 g7 a8 g8 a9 g9 a10 g10 (fun _ => pure ⟨⟩) from dif_pos h]
    rw [show fiO v1 v3 X4 X5 X6 X7 X9 X10 = res fun e => k0_pay204 (gA k0_pay100 X4 X5 X6 X9 X10 e) from if_pos h, show fiL v1 v3 X4 X5 X6 X8 X9 X10 = res fun e => k0_pay205 (gA k0_pay100 X4 X5 X6 X9 X10 e) (gM k0_pay100 X4 X5 X9 e) from if_pos h, show dgM v1 v3 X4 X5 X9 = acc (gM k0_pay100 X4 X5 X9) from if_pos h, show dgA v1 v3 X4 X5 X6 X9 X10 = acc (gA k0_pay100 X4 X5 X6 X9 X10) from if_pos h]
    iapply blkC_run
    iframe H4 H5 H6 H7 H8 H9 H10 HO
    iintro ⟨H4, H5, H6, H7, H8, H9, H10, HO⟩
    sl_step
    iapply Hk
    iframe H4 H5 H6 H7 H8 H9 H10
    iexact HO
  · rw [show tailC i a2 g2 a3 g3 a4 g4 a5 g5 a6 g6 a7 g7 a8 g8 a9 g9 a10 g10 v1 v3 = pure ⟨⟩ from dif_neg h]
    rw [show fiO v1 v3 X4 X5 X6 X7 X9 X10 = X7 from if_neg h, show fiL v1 v3 X4 X5 X6 X8 X9 X10 = X8 from if_neg h, show dgM v1 v3 X4 X5 X9 = X9 from if_neg h, show dgA v1 v3 X4 X5 X6 X9 X10 = X10 from if_neg h]
    sl_step
    iapply Hk
    iframe H4 H5 H6 H7 H8 H9 H10
    iexact HO

theorem tailB_run :
   iprop(rd c a4 X4 ∗ rd c a5 X5 ∗ rd c a6 X6 ∗ rd c a7 X7 ∗ rd c a8 X8 ∗ rd c a9 X9 ∗ rd c a10 X10 ∗ owes (c : Thread nD τ) 0 W
     ∗ (iprop(rd c a4 X4 ∗ rd c a5 X5 ∗ rd c a6 X6 ∗ rd c a7 (fiO v1 v3 X4 X5 X6 X7 (ofM v1 v3 X4 X5 X9) (ofA v1 v3 X4 X5 X6 X9 X10)) ∗ rd c a8 (fiL v1 v3 X4 X5 X6 X8 (ofM v1 v3 X4 X5 X9) (ofA v1 v3 X4 X5 X6 X9 X10)) ∗ rd c a9 (dgM v1 v3 X4 X5 (ofM v1 v3 X4 X5 X9)) ∗ rd c a10 (dgA v1 v3 X4 X5 X6 (ofM v1 v3 X4 X5 X9) (ofA v1 v3 X4 X5 X6 X9 X10)) ∗ owes (c : Thread nD τ) 0 W) -∗ Q ⟨⟩))
   ⊢ wp frame (wpE (defs₀ (F := F)) Variants.none c none) Set.univ (tailB i a2 g2 a3 g3 a4 g4 a5 g5 a6 g6 a7 g7 a8 g8 a9 g9 a10 g10 v1 v3) Q := by
  iintro ⟨H4, H5, H6, H7, H8, H9, H10, HO, Hk⟩
  by_cases h : cndB v1 v3 = 1#1
  · rw [show tailB i a2 g2 a3 g3 a4 g4 a5 g5 a6 g6 a7 g7 a8 g8 a9 g9 a10 g10 v1 v3 = blkB i a2 g2 a3 g3 a4 g4 a5 g5 a6 g6 a7 g7 a8 g8 a9 g9 a10 g10 (fun _ => tailC i a2 g2 a3 g3 a4 g4 a5 g5 a6 g6 a7 g7 a8 g8 a9 g9 a10 g10 v1 v3) from if_pos h]
    rw [show ofM v1 v3 X4 X5 X9 = acc (gM k0_pay7 X4 X5 X9) from if_pos h, show ofA v1 v3 X4 X5 X6 X9 X10 = acc (gA k0_pay7 X4 X5 X6 X9 X10) from if_pos h]
    iapply blkB_run
    iframe H4 H5 H6 H9 H10 HO
    iintro ⟨H4, H5, H6, H9, H10, HO⟩
    iapply tailC_run
    iframe H4 H5 H6 H7 H8 H9 H10 HO
    iexact Hk
  · rw [show tailB i a2 g2 a3 g3 a4 g4 a5 g5 a6 g6 a7 g7 a8 g8 a9 g9 a10 g10 v1 v3 = tailC i a2 g2 a3 g3 a4 g4 a5 g5 a6 g6 a7 g7 a8 g8 a9 g9 a10 g10 v1 v3 from if_neg h]
    rw [show ofM v1 v3 X4 X5 X9 = X9 from if_neg h, show ofA v1 v3 X4 X5 X6 X9 X10 = X10 from if_neg h]
    iapply tailC_run
    iframe H4 H5 H6 H7 H8 H9 H10 HO
    iexact Hk

theorem tailA_run :
   iprop(rd c a4 X4 ∗ rd c a5 X5 ∗ rd c a6 X6 ∗ rd c a7 X7 ∗ rd c a8 X8 ∗ rd c a9 X9 ∗ rd c a10 X10 ∗ owes (c : Thread nD τ) 0 W
     ∗ (iprop(rd c a4 X4 ∗ rd c a5 X5 ∗ rd c a6 X6 ∗ rd c a7 (fiO v1 v3 X4 X5 X6 X7 (ofM v1 v3 X4 X5 (clM v3 X9)) (ofA v1 v3 X4 X5 X6 (clM v3 X9) (clA v3 X10))) ∗ rd c a8 (fiL v1 v3 X4 X5 X6 X8 (ofM v1 v3 X4 X5 (clM v3 X9)) (ofA v1 v3 X4 X5 X6 (clM v3 X9) (clA v3 X10))) ∗ rd c a9 (dgM v1 v3 X4 X5 (ofM v1 v3 X4 X5 (clM v3 X9))) ∗ rd c a10 (dgA v1 v3 X4 X5 X6 (ofM v1 v3 X4 X5 (clM v3 X9)) (ofA v1 v3 X4 X5 X6 (clM v3 X9) (clA v3 X10))) ∗ owes (c : Thread nD τ) 0 W) -∗ Q ⟨⟩))
   ⊢ wp frame (wpE (defs₀ (F := F)) Variants.none c none) Set.univ (tailA i a2 g2 a3 g3 a4 g4 a5 g5 a6 g6 a7 g7 a8 g8 a9 g9 a10 g10 v1 v3) Q := by
  iintro ⟨H4, H5, H6, H7, H8, H9, H10, HO, Hk⟩
  by_cases h : cndA v3 = 1#1
  · rw [show tailA i a2 g2 a3 g3 a4 g4 a5 g5 a6 g6 a7 g7 a8 g8 a9 g9 a10 g10 v1 v3 = blkA a9 a10 (fun _ => tailB i a2 g2 a3 g3 a4 g4 a5 g5 a6 g6 a7 g7 a8 g8 a9 g9 a10 g10 v1 v3) from if_pos h]
    rw [show clM v3 X9 = k0_pay1 (F := F) from if_pos h, show clA v3 X10 = k0_pay2 (F := F) from if_pos h]
    iapply blkA_run
    iframe H9 H10 HO
    iintro ⟨H9, H10, HO⟩
    iapply tailB_run
    iframe H4 H5 H6 H7 H8 H9 H10 HO
    iexact Hk
  · rw [show tailA i a2 g2 a3 g3 a4 g4 a5 g5 a6 g6 a7 g7 a8 g8 a9 g9 a10 g10 v1 v3 = tailB i a2 g2 a3 g3 a4 g4 a5 g5 a6 g6 a7 g7 a8 g8 a9 g9 a10 g10 v1 v3 from if_neg h]
    rw [show clM v3 X9 = X9 from if_neg h, show clA v3 X10 = X10 from if_neg h]
    iapply tailB_run
    iframe H4 H5 H6 H7 H8 H9 H10 HO
    iexact Hk

end Cert.Proof.Attn

end
-- ==== Proof.Attn.Tables.lean ====
/-
  The two prefetched tables: their words, and the body run at a grid point.
-/
module

public import proofs.«01_k».proof.Proof.Attn.Body
public import Mathlib.Tactic.IntervalCases

@[expose] public section

noncomputable section

namespace Cert.Proof.Attn

open AttnIdeal AttnIdeal.Gen

open Idealize.ShloMosaic TcCoe Tactic
open Idealize.SL Idealize.SL.RA Idealize.SL.BI
open Idealize.SL.BI.BIBase Idealize.SL.BI.Laws Idealize.SL.ProofMode Idealize.SL.Sem
open Idealize.ShloMosaic.Rounds

variable {F : FTy → Type} [FloatOps F] [Named F]

open Cert.Proof.AttnParts

local notation "𝕄" => MT nD τ sig Unit (Elt F) ℕ (UU nD τ) ℕ

/-- The row-block word of a grid point -/
def wI (i : grid0.Coords) : BitVec 32 := lit0 (i 1)
/-- and its column-block word. -/
def wJ (i : grid0.Coords) : BitVec 32 := lit1 (i 1)

/-- The two tables. -/
def tabI : S36.Idx → BitVec 32 := fun x => lit0 (S36.rowMajor x)
def tabJ : S36.Idx → BitVec 32 := fun x => lit1 (S36.rowMajor x)

/-- Their contents, as the pipeline reads them. -/
def pfA : pre0.Contents (Elt F) := fun
  | ⟨0, _⟩ => tabI
  | ⟨1, _⟩ => tabJ
  | ⟨_ + 2, h⟩ => absurd h (by simp)

theorem tabI_word : ∀ i : grid0.Coords, tabI ((Rect.unit (s := S36) (k0_off1 i) S1.size (k0_off1_inb i)).emb (Shape.Idx.first (numel1_S1.symm ▸ Nat.one_pos))) = wI i := by
  decide +kernel
theorem tabJ_word : ∀ i : grid0.Coords, tabJ ((Rect.unit (s := S36) (k0_off1 i) S1.size (k0_off1_inb i)).emb (Shape.Idx.first (numel1_S1.symm ▸ Nat.one_pos))) = wJ i := by
  decide +kernel
theorem tabI_off : ∀ (i : grid0.Coords) (h : ∀ a, k0_off1 i a + 1 ≤ S36.size a), tabI (fun a => ⟨k0_off1 i a, h a⟩) = wI i := by
  decide +kernel
theorem tabJ_off : ∀ (i : grid0.Coords) (h : ∀ a, k0_off1 i a + 1 ≤ S36.size a), tabJ (fun a => ⟨k0_off1 i a, h a⟩) = wJ i := by
  decide +kernel

theorem pfA_atD0 (i : grid0.Coords) : (pfA (F := F)).atD 0 (k0_off1 i) = wI i := by
  exact (dif_pos (show ∀ a, k0_off1 i a + 1 ≤ S36.size a from fun a => by fin_cases a; exact k0_off1_inb i 0)).trans (tabI_off i _)
theorem pfA_atD1 (i : grid0.Coords) : (pfA (F := F)).atD 1 (k0_off1 i) = wJ i := by
  exact (dif_pos (show ∀ a, k0_off1 i a + 1 ≤ S36.size a from fun a => by fin_cases a; exact k0_off1_inb i 0)).trans (tabJ_off i _)

theorem wI_lt : ∀ i : grid0.Coords, (wI i).toNat < 8 := by decide +kernel
theorem wJ_lt : ∀ i : grid0.Coords, (wJ i).toNat < 8 := by decide +kernel
theorem coord0 : ∀ i : grid0.Coords, (BitVec.ofNat 32 (i 0).val).toNat = 0 := by decide +kernel

theorem tr0_eq (i : grid0.Coords) : cc0_transform_0 (F := F) k0_off1_inb numel1_S1 pfA i = ![(wI i).toNat, 0] := by
  unfold cc0_transform_0; exact (congrArg (fun w : BitVec 32 => ![w.toNat, (BitVec.ofNat 32 (i 0).val).toNat]) (tabI_word i)).trans (by rw [coord0])
theorem tr1_eq (i : grid0.Coords) : cc0_transform_1 (F := F) k0_off1_inb numel1_S1 pfA i = ![(wJ i).toNat, 0] := by
  unfold cc0_transform_1; exact (congrArg (fun w : BitVec 32 => ![w.toNat, (BitVec.ofNat 32 (i 0).val).toNat]) (tabJ_word i)).trans (by rw [coord0])
theorem tr2_eq (i : grid0.Coords) : cc0_transform_2 (F := F) k0_off1_inb numel1_S1 pfA i = ![(wJ i).toNat, 0] := by
  unfold cc0_transform_2; exact (congrArg (fun w : BitVec 32 => ![w.toNat, (BitVec.ofNat 32 (i 0).val).toNat]) (tabJ_word i)).trans (by rw [coord0])
theorem tr3_eq (i : grid0.Coords) : cc0_transform_3 (F := F) k0_off1_inb numel1_S1 pfA i = ![(wI i).toNat, 0] := by
  unfold cc0_transform_3; exact (congrArg (fun w : BitVec 32 => ![w.toNat, (BitVec.ofNat 32 (i 0).val).toNat]) (tabI_word i)).trans (by rw [coord0])
theorem tr4_eq (i : grid0.Coords) : cc0_transform_4 (F := F) k0_off1_inb numel1_S1 pfA i = ![(wI i).toNat, 0] := by
  unfold cc0_transform_4; exact (congrArg (fun w : BitVec 32 => ![w.toNat, (BitVec.ofNat 32 (i 0).val).toNat]) (tabI_word i)).trans (by rw [coord0])

theorem inA (n : ℕ) (hn : n < 8) : ∀ a : Fin 2, ((![n, 0] : Fin 2 → ℕ) a + 1) * S512x2048.size a ≤ S4096x2048.size a := by
  intro a; fin_cases a
  · show (n + 1) * 512 ≤ 4096; omega
  · show (0 + 1) * 2048 ≤ 2048; omega
theorem inB (n : ℕ) (hn : n < 8) : ∀ a : Fin 2, ((![n, 0] : Fin 2 → ℕ) a + 1) * S512x1024.size a ≤ S4096x1024.size a := by
  intro a; fin_cases a
  · show (n + 1) * 512 ≤ 4096; omega
  · show (0 + 1) * 1024 ≤ 1024; omega

theorem wwA (ix : Fin 2 → ℕ) (h : ∀ a : Fin 2, (ix a + 1) * S512x2048.size a ≤ S4096x2048.size a) (hf : ∃ n : ℕ, n < 8 ∧ ix = ![n, 0]) :
    (Rect.block (s := S4096x2048) S512x2048.size ix h).WholeWords (EltTy.packing .bf16) := by
  obtain ⟨n, hn, rfl⟩ := hf
  interval_cases n <;> decide +revert +kernel

theorem ok_pfA : ok0 (F := F) pfA := by
  unfold ok0
  refine ⟨fun i => ?_, fun i => ?_, fun i => ?_, fun i => ?_, fun i => ?_⟩
  · exact ⟨by rw [tr0_eq]; exact inA _ (wI_lt i), .inr (wwA _ _ ⟨_, wI_lt i, tr0_eq i⟩)⟩
  · exact ⟨by rw [tr1_eq]; exact inA _ (wJ_lt i), .inr (wwA _ _ ⟨_, wJ_lt i, tr1_eq i⟩)⟩
  · exact ⟨by rw [tr2_eq]; exact inA _ (wJ_lt i), .inr (wwA _ _ ⟨_, wJ_lt i, tr2_eq i⟩)⟩
  · exact ⟨by rw [tr3_eq]; exact inB _ (wI_lt i), .inl rfl⟩
  · exact ⟨by rw [tr4_eq]; exact inB _ (wI_lt i), .inl rfl⟩

/-- The contents are admissible. -/
def adm : (pcfg0 (F := F)).Adm := ⟨pfA, ok_pfA⟩

/-- The two tables held at the share the launch hands the body. -/
abbrev ptI (c : Dev nD) : sProp 𝕄 := (((c : Thread nD τ).loc main_c) ↦{fullShare.right} (show Buf (Elt F) ((c : Thread nD τ).loc main_c) from tabI))
abbrev ptJ (c : Dev nD) : sProp 𝕄 := (((c : Thread nD τ).loc main_c_0) ↦{fullShare.right} (show Buf (Elt F) ((c : Thread nD τ).loc main_c_0) from tabJ))

variable (i : grid0.Coords)
variable (a4 : Memref sig .tc .vmem S512x2048 .bf16) (g4 : a4.IsWhole) (a5 : Memref sig .tc .vmem S512x2048 .bf16) (g5 : a5.IsWhole)
variable (a6 : Memref sig .tc .vmem S512x2048 .bf16) (g6 : a6.IsWhole) (a7 : Memref sig .tc .vmem S512x1024 .f32) (g7 : a7.IsWhole)
variable (a8 : Memref sig .tc .vmem S512x1024 .f32) (g8 : a8.IsWhole) (a9 : Memref sig .tc .vmem S16x512x128 .f32) (g9 : a9.IsWhole)
variable (a10 : Memref sig .tc .vmem S16x512x128 .f32) (g10 : a10.IsWhole) (c : Dev nD) (W : Waits sig Unit) (Q : PUnit.{1} → sProp (MT nD τ sig Unit (Elt F) ℕ (UU nD τ) ℕ))
variable (X4 X5 X6 : S512x2048.Idx → Elt F .bf16) (X7 X8 : S512x1024.Idx → Elt F .f32) (X9 X10 : S16x512x128.Idx → Elt F .f32)

set_option maxHeartbeats 1000000 in
theorem body_at :
   iprop(rd c a4 X4 ∗ rd c a5 X5 ∗ rd c a6 X6 ∗ rd c a7 X7 ∗ rd c a8 X8 ∗ rd c a9 X9 ∗ rd c a10 X10 ∗ ptI c ∗ ptJ c ∗ owes (c : Thread nD τ) 0 W
     ∗ (iprop(rd c a4 X4 ∗ rd c a5 X5 ∗ rd c a6 X6 ∗ rd c a7 (nxO (wI i) (wJ i) X4 X5 X6 X7 X9 X10) ∗ rd c a8 (nxL (wI i) (wJ i) X4 X5 X6 X8 X9 X10) ∗ rd c a9 (nxM (wI i) (wJ i) X4 X5 X9) ∗ rd c a10 (nxA (wI i) (wJ i) X4 X5 X6 X9 X10) ∗ ptI c ∗ ptJ c ∗ owes (c : Thread nD τ) 0 W) -∗ Q ⟨⟩))
   ⊢ wp frame (wpE (defs₀ (F := F)) Variants.none c none) Set.univ (cc0_fox_attn i (Memref.whole main_c) (Memref.isWhole_whole _) (Memref.whole main_c_0) (Memref.isWhole_whole _) a4 g4 a5 g5 a6 g6 a7 g7 a8 g8 a9 g9 a10 g10) Q := by
  unfold nxO nxL nxM nxA mdM mdA
  rw [cc0_fox_attn_eq_skeleton, skel_eq]
  unfold smemLoad smemLoadElt
  simp only [Prog.bind_op, Prog.bind_ret]
  iintro ⟨H4, H5, H6, H7, H8, H9, H10, HI, HJ, HO, Hk⟩
  iapply (wp_load_rect Variants.none (c : Thread nD τ) none Set.univ (m := Memref.whole main_c) (r := Rect.unit (s := S36) (k0_off1 i) S1.size (k0_off1_inb i)) (Finset.subset_univ _)) $$ HI
  iintro HI
  iapply (wp_load_rect Variants.none (c : Thread nD τ) none Set.univ (m := Memref.whole main_c_0) (r := Rect.unit (s := S36) (k0_off1 i) S1.size (k0_off1_inb i)) (Finset.subset_univ _)) $$ HJ
  iintro HJ
  have e1 : (((Memref.whole main_c).access (Rect.unit (s := S36) (k0_off1 i) S1.size (k0_off1_inb i)) : View sig .tc _ _ _).read (Elt F) (show Buf (Elt F) ((c : Thread nD τ).loc main_c) from tabI)) (Shape.Idx.first (numel1_S1.symm ▸ Nat.one_pos)) = wI i := tabI_word i
  have e3 : (((Memref.whole main_c_0).access (Rect.unit (s := S36) (k0_off1 i) S1.size (k0_off1_inb i)) : View sig .tc _ _ _).read (Elt F) (show Buf (Elt F) ((c : Thread nD τ).loc main_c_0) from tabJ)) (Shape.Idx.first (numel1_S1.symm ▸ Nat.one_pos)) = wJ i := tabJ_word i
  rw [e1, e3]
  iapply tailA_run
  iframe H4 H5 H6 H7 H8 H9 H10 HO
  iintro ⟨H4, H5, H6, H7, H8, H9, H10, HO⟩
  iapply Hk
  iframe H4 H5 H6 H7 H8 H9 H10 HI HJ
  iexact HO

end Cert.Proof.Attn

end
-- ==== Proof.Attn.Flow.lean ====
/-
  What the pipeline's buffers hold at each point, its schedule, and the proof of the body at every point.
-/
module

public import proofs.«01_k».proof.Proof.Attn.Tables
public import proofs.«01_k».proof.Proof.Gen.AttnIdeal.Launch
public import Idealize.ShloMosaic.Lib.Pipeline.FrameSuffix
public import Idealize.ShloMosaic.Lib.Pipeline.FrameBody
public import Idealize.ShloMosaic.Lib.Pipeline.TableIdle

@[expose] public section

noncomputable section

namespace Cert.Proof.Attn

open AttnIdeal AttnIdeal.Gen

open Idealize.ShloMosaic TcCoe Tactic
open Idealize.SL Idealize.SL.RA Idealize.SL.BI
open Idealize.SL.BI.BIBase Idealize.SL.BI.Laws Idealize.SL.ProofMode Idealize.SL.Sem
open Idealize.ShloMosaic.Rounds

variable {F : FTy → Type} [FloatOps F] [Named F]

open Cert.Proof.AttnParts

local notation "𝕄" => MT nD τ sig Unit (Elt F) ℕ (UU nD τ) ℕ

/-- The pipeline at the tables' contents. -/
abbrev cfgA : Pipeline.Cfg sig Λ₀ := cfg0 (F := F) adm

/-- The buffers of the device when the pipeline starts: the host lines before it have run. -/
def V₀ (m : (ℓ : Loc nD τ sig) → Buf (Elt F) ℓ) (c : Dev nD) : Valuation τ sig (Elt F) :=
  StableHlo.after [hostOps0 (F := F)].flatten (fun b => m (c, b))

section Data
variable (A : (w : Fin 5) → Buf (Elt F) (((cfgA (F := F)).win w).arr.view.loc ((0 : Dev nD) : Thread nD τ)))

/-- The block of window `w`'s array at point `t`. -/
def inBlk (w : Fin 5) (t : Fin grid0.N) : ((cfgA (F := F)).win w).block.Idx → Elt F ((cfgA (F := F)).win w).elt :=
  (((cfgA (F := F)).win w).blk t).view.read (Elt F) (A w)

/-- The running maximum after the first `n` points -/
def trM : ℕ → S16x512x128.Idx → Elt F .f32
  | 0 => k0_pay1 (F := F)
  | n + 1 => if h : n < grid0.N then nxM (wI (grid0.coords ⟨n, h⟩)) (wJ (grid0.coords ⟨n, h⟩)) (inBlk A 0 ⟨n, h⟩) (inBlk A 1 ⟨n, h⟩) (trM n) else trM n
/-- and the accumulator. -/
def trA : ℕ → S16x512x128.Idx → Elt F .f32
  | 0 => k0_pay2 (F := F)
  | n + 1 => if h : n < grid0.N then nxA (wI (grid0.coords ⟨n, h⟩)) (wJ (grid0.coords ⟨n, h⟩)) (inBlk A 0 ⟨n, h⟩) (inBlk A 1 ⟨n, h⟩) (inBlk A 2 ⟨n, h⟩) (trM A n) (trA n) else trA n

theorem trM_succ (t : Fin grid0.N) : trM A (t.val + 1) = nxM (wI (grid0.coords t)) (wJ (grid0.coords t)) (inBlk A 0 t) (inBlk A 1 t) (trM A t.val) := by
  rw [trM, dif_pos t.isLt]
theorem trA_succ (t : Fin grid0.N) : trA A (t.val + 1) = nxA (wI (grid0.coords t)) (wJ (grid0.coords t)) (inBlk A 0 t) (inBlk A 1 t) (inBlk A 2 t) (trM A t.val) (trA A t.val) := by
  rw [trA, dif_pos t.isLt]

/-- What the body leaves in window `w`'s buffer at point `t`. -/
def afterA (w : Fin 5) (t : Fin grid0.N) : ((cfgA (F := F)).win w).block.Idx → Elt F ((cfgA (F := F)).win w).elt :=
  match w with
  | 0 => inBlk A 0 t
  | 1 => inBlk A 1 t
  | 2 => inBlk A 2 t
  | 3 => res fun e => k0_pay204 (F := F) (slot e (trA A (t.val + 1)))
  | 4 => res fun e => k0_pay205 (F := F) (slot e (trA A (t.val + 1))) (slot e (trM A (t.val + 1)))
  | ⟨_ + 5, h⟩ => absurd h (Nat.not_lt.2 (Nat.le_add_left _ _))

/-- The invariant before point `n`: the tables held, the accumulators at their values once a point has run. -/
def Φn (c : Dev nD) (n : ℕ) : sProp 𝕄 :=
  iprop(ptI c ∗ ptJ c ∗ (∃ X, ⌜n ≠ 0 → X = trM A n⌝ ∗ rd c (Memref.whole cc0_scratch0) X)
    ∗ (∃ X, ⌜n ≠ 0 → X = trA A n⌝ ∗ rd c (Memref.whole cc0_scratch1) X) ∗ (∃ r, prngReg c r))

end Data

/-- The windows' arrays when the pipeline starts. -/
def A₀ (m : (ℓ : Loc nD τ sig) → Buf (Elt F) ℓ) (c : Dev nD) (w : Fin 5) : Buf (Elt F) (((cfgA (F := F)).win w).arr.view.loc ((0 : Dev nD) : Thread nD τ)) :=
  V₀ m c (Pipeline.arrRef spec0 w)

variable (m : (ℓ : Loc nD τ sig) → Buf (Elt F) ℓ)

/-- The pipelines at their tables. -/
abbrev pcsA : Fin 1 → Pipeline.Cfg sig Λ₀ := Pipeline.pin (pcfgs (F := F)) fun _ => adm

/-- The proof data. -/
def dats (p : Fin 1) (c : Dev nD) : Pipeline.Dat τ (Elt F) Unit ℕ (UU nD τ) ℕ (pcsA (F := F) p) c where
  A w := V₀ m c (Pipeline.arrRef spec0 w)
  after w t := afterA (A₀ m c) w t
  Φ t := Φn (A₀ m c) c t.val
  q _ := fullShare
  owed _ := 0

theorem A_eq (c : Dev nD) (w : Fin 5) : (dats m 0 c).A w = V₀ m c (Pipeline.arrRef spec0 w) := by
  dsimp only [dats]

theorem after_eq (c : Dev nD) (w : Fin 5) (t : Fin grid0.N) : (dats m 0 c).after w t = afterA (A₀ m c) w t := by
  dsimp only [dats]

theorem before_0 (c : Dev nD) (t : Fin grid0.N) (d) : (dats m 0 c).before 0 t d = inBlk (A₀ m c) 0 t :=
  (dats m 0 c).before_in_eq_fetched 0 rfl (fun _ => rfl) (fun _ _ _ => rfl) (fun t => by dsimp only [dats]; rfl) t d
theorem before_1 (c : Dev nD) (t : Fin grid0.N) (d) : (dats m 0 c).before 1 t d = inBlk (A₀ m c) 1 t :=
  (dats m 0 c).before_in_eq_fetched 1 rfl (fun _ => rfl) (fun _ _ _ => rfl) (fun t => by dsimp only [dats]; rfl) t d
theorem before_2 (c : Dev nD) (t : Fin grid0.N) (d) : (dats m 0 c).before 2 t d = inBlk (A₀ m c) 2 t :=
  (dats m 0 c).before_in_eq_fetched 2 rfl (fun _ => rfl) (fun _ _ _ => rfl) (fun t => by dsimp only [dats]; rfl) t d

theorem cndA_zero : ∀ t : Fin grid0.N, t.val = 0 → cndA (wJ (grid0.coords t)) = 1#1 := by decide +kernel
theorem keep : ∀ t : Fin grid0.N, k0_cond3 (wI (grid0.coords t)) (wJ (grid0.coords t)) ≠ 1#1 → ∃ h : t.val + 1 < grid0.N,
    wI (grid0.coords ⟨t.val + 1, h⟩) = wI (grid0.coords t) := by
  decide +kernel

theorem idle3 (t : Fin grid0.N) : (cfgA (F := F)).idle 3 (grid0.coords t) = !(k0_cond3 (wI (grid0.coords t)) (wJ (grid0.coords t)) == 1#1) := by
  show (!(k0_cond3 ((pfA (F := F)).atD 0 (k0_off1 (grid0.coords t))) ((pfA (F := F)).atD 1 (k0_off1 (grid0.coords t))) == 1#1)) = _
  rw [pfA_atD0, pfA_atD1]
theorem flush3 (t : Fin grid0.N) (h3 : k0_cond3 (wI (grid0.coords t)) (wJ (grid0.coords t)) ≠ 1#1) : ((cfgA (F := F)).win 3).flush t = false := by
  obtain ⟨h, e1⟩ := keep t h3
  have e : cc0_transform_3 (F := F) k0_off1_inb numel1_S1 pfA (grid0.coords ⟨t.val + 1, h⟩) = cc0_transform_3 (F := F) k0_off1_inb numel1_S1 pfA (grid0.coords t) := by
    rw [tr3_eq, tr3_eq, e1]
  show (true && (decide (t.val + 1 = grid0.N) || decide (∃ h : t.val + 1 < grid0.N, cc0_transform_3 (F := F) k0_off1_inb numel1_S1 pfA (grid0.coords ⟨t.val + 1, h⟩) ≠ cc0_transform_3 (F := F) k0_off1_inb numel1_S1 pfA (grid0.coords t)))) = false
  simp only [Bool.true_and, Bool.or_eq_false_iff, decide_eq_false_iff_not]
  exact ⟨by omega, fun ⟨_, hn⟩ => hn e⟩
theorem idle4 (t : Fin grid0.N) : (cfgA (F := F)).idle 4 (grid0.coords t) = !(k0_cond3 (wI (grid0.coords t)) (wJ (grid0.coords t)) == 1#1) := by
  show (!(k0_cond3 ((pfA (F := F)).atD 0 (k0_off1 (grid0.coords t))) ((pfA (F := F)).atD 1 (k0_off1 (grid0.coords t))) == 1#1)) = _
  rw [pfA_atD0, pfA_atD1]
theorem flush4 (t : Fin grid0.N) (h3 : k0_cond3 (wI (grid0.coords t)) (wJ (grid0.coords t)) ≠ 1#1) : ((cfgA (F := F)).win 4).flush t = false := by
  obtain ⟨h, e1⟩ := keep t h3
  have e : cc0_transform_4 (F := F) k0_off1_inb numel1_S1 pfA (grid0.coords ⟨t.val + 1, h⟩) = cc0_transform_4 (F := F) k0_off1_inb numel1_S1 pfA (grid0.coords t) := by
    rw [tr4_eq, tr4_eq, e1]
  show (true && (decide (t.val + 1 = grid0.N) || decide (∃ h : t.val + 1 < grid0.N, cc0_transform_4 (F := F) k0_off1_inb numel1_S1 pfA (grid0.coords ⟨t.val + 1, h⟩) ≠ cc0_transform_4 (F := F) k0_off1_inb numel1_S1 pfA (grid0.coords t)))) = false
  simp only [Bool.true_and, Bool.or_eq_false_iff, decide_eq_false_iff_not]
  exact ⟨by omega, fun ⟨_, hn⟩ => hn e⟩

theorem nxM_first (c : Dev nD) (t : Fin grid0.N) (X) (hX : t.val ≠ 0 → X = trM (A₀ m c) t.val) :
    nxM (wI (grid0.coords t)) (wJ (grid0.coords t)) (inBlk (A₀ m c) 0 t) (inBlk (A₀ m c) 1 t) X = trM (A₀ m c) (t.val + 1) := by
  rw [trM_succ]
  by_cases h0 : t.val = 0
  · unfold nxM mdM clM
    rw [if_pos (cndA_zero t h0), if_pos (cndA_zero t h0)]
  · rw [hX h0]
theorem nxA_first (c : Dev nD) (t : Fin grid0.N) (X Y) (hX : t.val ≠ 0 → X = trM (A₀ m c) t.val) (hY : t.val ≠ 0 → Y = trA (A₀ m c) t.val) :
    nxA (wI (grid0.coords t)) (wJ (grid0.coords t)) (inBlk (A₀ m c) 0 t) (inBlk (A₀ m c) 1 t) (inBlk (A₀ m c) 2 t) X Y = trA (A₀ m c) (t.val + 1) := by
  rw [trA_succ]
  by_cases h0 : t.val = 0
  · unfold nxA mdM mdA clM clA
    rw [if_pos (cndA_zero t h0), if_pos (cndA_zero t h0), if_pos (cndA_zero t h0), if_pos (cndA_zero t h0)]
  · rw [hX h0, hY h0]

section Diagonal
variable (v1 v3 : Elt F .i32) (X4 X5 X6 : S512x2048.Idx → Elt F .bf16) (X7 X8 : S512x1024.Idx → Elt F .f32) (X9 X10 : S16x512x128.Idx → Elt F .f32)

/-- On the diagonal the results are read off the accumulators as the step leaves them. -/
theorem nxO_diag (h : k0_cond3 v1 v3 = 1#1) : nxO v1 v3 X4 X5 X6 X7 X9 X10 = res fun e => k0_pay204 (slot e (nxA v1 v3 X4 X5 X6 X9 X10)) := by
  unfold nxO nxA fiO dgA
  rw [if_pos h, if_pos h]
  simp only [slot_acc]
theorem nxL_diag (h : k0_cond3 v1 v3 = 1#1) : nxL v1 v3 X4 X5 X6 X8 X9 X10 = res fun e => k0_pay205 (slot e (nxA v1 v3 X4 X5 X6 X9 X10)) (slot e (nxM v1 v3 X4 X5 X9)) := by
  unfold nxL nxA nxM fiL dgA dgM
  rw [if_pos h, if_pos h, if_pos h]
  simp only [slot_acc]

end Diagonal

/-- A whole memref owned, as a buffer held. -/
theorem owns_rd (c : Dev nD) {sp : Space} {S : Shape} {e : EltTy} (M : Memref sig .tc sp S e) (hM : M.IsWhole) (X : S.Idx → Elt F e) :
    (owns (c : Thread nD τ) M fullShare X : sProp 𝕄) = rd c M X := by
  unfold owns rd pt
  obtain ⟨b, rfl, rfl, rfl, hM⟩ := hM
  cases hM
  simp only [Memref.view_whole, View.set_whole]

theorem prefHeld_pair (c : Dev nD) :
    (Pipeline.prefHeld pre0 c (fun _ => fullShare.right) (pfA (F := F)) : sProp 𝕄) = iprop(ptI c ∗ ptJ c) := by
  unfold Pipeline.prefHeld
  rw [show (Finset.univ : Finset (Fin 2)) = insert 0 {1} from by decide, bigSep_insert (by decide), bigSep_singleton]
  rfl

theorem val_castSucc {N : ℕ} {P : Type} (S : ℕ → P) (t : Fin N) : S t.castSucc.val = S t.val := rfl
theorem val_succ {N : ℕ} {P : Type} (S : ℕ → P) (t : Fin N) : S t.succ.val = S (t.val + 1) := rfl

set_option maxHeartbeats 400000 in
set_option backward.isDefEq.respectTransparency.types false in
theorem body_obligation (c : Dev nD) : Pipeline.BodyObligationLoose (dats m 0 c) (defs₀ (F := F)) Variants.none () Set.univ := fun t => by
  rw [bigSep_W0, bigSep_W0]
  rw [show (dats m 0 c).Φ t.castSucc = Φn (A₀ m c) c t.val from by dsimp only [dats]; exact val_castSucc (fun n => Φn (A₀ m c) c n) t, show (dats m 0 c).Φ t.succ = Φn (A₀ m c) c (t.val + 1) from by dsimp only [dats]; exact val_succ (fun n => Φn (A₀ m c) c n) t]
  unfold Φn Pipeline.Dat.owesAt Pipeline.owesWithin
  rw [show (dats m 0 c).owed t.castSucc = 0 from by dsimp only [dats], show (dats m 0 c).owed t.succ = 0 from by dsimp only [dats]]
  dsimp only
  rw [show defs₀ (F := F) .tc (pcsA (F := F) 0).body ((pcsA (F := F) 0).bodyArgs t ((pcsA (F := F) 0).slots t)) = cc0_fox_attn (grid0.coords t) (Memref.whole main_c) (Memref.isWhole_whole _) (Memref.whole main_c_0) (Memref.isWhole_whole _) (spec0_0.stage (((pcsA (F := F) 0).slots t) 0)) (hstage0_0 ((((pcsA (F := F) 0).slots t) 0).cast nbuf0_0)) (spec0_1.stage (((pcsA (F := F) 0).slots t) 1)) (hstage0_1 ((((pcsA (F := F) 0).slots t) 1).cast nbuf0_1)) (spec0_2.stage (((pcsA (F := F) 0).slots t) 2)) (hstage0_2 ((((pcsA (F := F) 0).slots t) 2).cast nbuf0_2)) (spec0_3.stage (((pcsA (F := F) 0).slots t) 3)) (hstage0_3 ((((pcsA (F := F) 0).slots t) 3).cast nbuf0_3)) (spec0_4.stage (((pcsA (F := F) 0).slots t) 4)) (hstage0_4 ((((pcsA (F := F) 0).slots t) 4).cast nbuf0_4)) (Memref.whole cc0_scratch0) (Memref.isWhole_whole _) (Memref.whole cc0_scratch1) (Memref.isWhole_whole _) from rfl]
  simp only [before_0, before_1, before_2]
  iintro ⟨⟨HI, HJ, ⟨%X9, %h9, H9⟩, ⟨%X10, %h10, H10⟩, Hp⟩, ⟨%W, %hW, HO⟩, ⟨%d0, H4⟩, ⟨%d1, H5⟩, ⟨%d2, H6⟩, ⟨%d3, H7⟩, ⟨%d4, H8⟩⟩
  ihave H4 := (Entails.of_eq (owns_rd c (spec0_0.stage (((pcsA (F := F) 0).slots t) 0)) (hstage0_0 ((((pcsA (F := F) 0).slots t) 0).cast nbuf0_0)) _)) $$ H4
  ihave H5 := (Entails.of_eq (owns_rd c (spec0_1.stage (((pcsA (F := F) 0).slots t) 1)) (hstage0_1 ((((pcsA (F := F) 0).slots t) 1).cast nbuf0_1)) _)) $$ H5
  ihave H6 := (Entails.of_eq (owns_rd c (spec0_2.stage (((pcsA (F := F) 0).slots t) 2)) (hstage0_2 ((((pcsA (F := F) 0).slots t) 2).cast nbuf0_2)) _)) $$ H6
  ihave H7 := (Entails.of_eq (owns_rd c (spec0_3.stage (((pcsA (F := F) 0).slots t) 3)) (hstage0_3 ((((pcsA (F := F) 0).slots t) 3).cast nbuf0_3)) _)) $$ H7
  ihave H8 := (Entails.of_eq (owns_rd c (spec0_4.stage (((pcsA (F := F) 0).slots t) 4)) (hstage0_4 ((((pcsA (F := F) 0).slots t) 4).cast nbuf0_4)) _)) $$ H8
  iapply body_at
  iframe H4 H5 H6 H7 H8 H9 H10 HI HJ HO
  iintro ⟨H4, H5, H6, H7, H8, H9, H10, HI, HJ, HO⟩
  isplitl [HI HJ H9 H10 Hp]
  · isplitl [HI]; iexact HI
    isplitl [HJ]; iexact HJ
    isplitl [H9]
    · iexists _; isplitr; swap; (· iexact H9); ipureintro; exact fun _ => nxM_first m c t X9 h9
    isplitl [H10]
    · iexists _; isplitr; swap; (· iexact H10); ipureintro; exact fun _ => nxA_first m c t X9 X10 h9 h10
    iexact Hp
  isplitl [HO]
  · iexists W; isplitr; · ipureintro; exact fun _ _ => Or.inl trivial
    iexact HO
  isplitl [H4]
  · rw [after_eq]
    iapply (Entails.of_eq (owns_rd c (spec0_0.stage (((pcsA (F := F) 0).slots t) 0)) (hstage0_0 ((((pcsA (F := F) 0).slots t) 0).cast nbuf0_0)) _).symm)
    iexact H4
  isplitl [H5]
  · rw [after_eq]
    iapply (Entails.of_eq (owns_rd c (spec0_1.stage (((pcsA (F := F) 0).slots t) 1)) (hstage0_1 ((((pcsA (F := F) 0).slots t) 1).cast nbuf0_1)) _).symm)
    iexact H5
  isplitl [H6]
  · rw [after_eq]
    iapply (Entails.of_eq (owns_rd c (spec0_2.stage (((pcsA (F := F) 0).slots t) 2)) (hstage0_2 ((((pcsA (F := F) 0).slots t) 2).cast nbuf0_2)) _).symm)
    iexact H6
  isplitl [H7]
  · by_cases h3 : k0_cond3 (wI (grid0.coords t)) (wJ (grid0.coords t)) = 1#1
    · rw [show idle0 (adm (F := F)).1 3 (((pcfgs (F := F) 0).gridAt (adm (F := F)).1).coords t) = false from (idle3 (F := F) t).trans (by rw [h3]; rfl)]
      rw [after_eq]
      iapply (Entails.of_eq (owns_rd c (spec0_3.stage (((pcsA (F := F) 0).slots t) 3)) (hstage0_3 ((((pcsA (F := F) 0).slots t) 3).cast nbuf0_3)) _).symm)
      rw [nxO_diag _ _ _ _ _ _ _ _ h3, nxA_first m c t X9 X10 h9 h10]
      iexact H7
    · rw [show idle0 (adm (F := F)).1 3 (((pcfgs (F := F) 0).gridAt (adm (F := F)).1).coords t) = true from (idle3 (F := F) t).trans (by simp [h3])]
      dsimp only
      split; swap; · next hh => exact absurd ((flush3 (F := F) t h3).symm.trans hh) (by decide)
      iexists d3
      iapply (Entails.of_eq (owns_rd c (spec0_3.stage (((pcsA (F := F) 0).slots t) 3)) (hstage0_3 ((((pcsA (F := F) 0).slots t) 3).cast nbuf0_3)) _).symm)
      rw [show nxO (wI (grid0.coords t)) (wJ (grid0.coords t)) (inBlk (A₀ m c) 0 t) (inBlk (A₀ m c) 1 t) (inBlk (A₀ m c) 2 t) ((dats m 0 c).before 3 t d3) X9 X10 = (dats m 0 c).before 3 t d3 from if_neg h3]
      iexact H7
  · by_cases h3 : k0_cond3 (wI (grid0.coords t)) (wJ (grid0.coords t)) = 1#1
    · rw [show idle0 (adm (F := F)).1 4 (((pcfgs (F := F) 0).gridAt (adm (F := F)).1).coords t) = false from (idle4 (F := F) t).trans (by rw [h3]; rfl)]
      rw [after_eq]
      iapply (Entails.of_eq (owns_rd c (spec0_4.stage (((pcsA (F := F) 0).slots t) 4)) (hstage0_4 ((((pcsA (F := F) 0).slots t) 4).cast nbuf0_4)) _).symm)
      rw [nxL_diag _ _ _ _ _ _ _ _ h3, nxA_first m c t X9 X10 h9 h10, nxM_first m c t X9 h9]
      iexact H8
    · rw [show idle0 (adm (F := F)).1 4 (((pcfgs (F := F) 0).gridAt (adm (F := F)).1).coords t) = true from (idle4 (F := F) t).trans (by simp [h3])]
      dsimp only
      split; swap; · next hh => exact absurd ((flush4 (F := F) t h3).symm.trans hh) (by decide)
      iexists d4
      iapply (Entails.of_eq (owns_rd c (spec0_4.stage (((pcsA (F := F) 0).slots t) 4)) (hstage0_4 ((((pcsA (F := F) 0).slots t) 4).cast nbuf0_4)) _).symm)
      rw [show nxL (wI (grid0.coords t)) (wJ (grid0.coords t)) (inBlk (A₀ m c) 0 t) (inBlk (A₀ m c) 1 t) (inBlk (A₀ m c) 2 t) ((dats m 0 c).before 4 t d4) X9 X10 = (dats m 0 c).before 4 t d4 from if_neg h3]
      iexact H8

end Cert.Proof.Attn

end
-- ==== Proof.Attn.Run.lean ====
/-
  The run of the whole program: the host operations, then the pipeline; and the frame.
-/
module

public import proofs.«01_k».proof.Proof.Attn.Flow

@[expose] public section

noncomputable section

namespace Cert.Proof.Attn

open AttnIdeal AttnIdeal.Gen

open Idealize.ShloMosaic TcCoe Tactic
open Idealize.SL Idealize.SL.RA Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

variable (m : (ℓ : Loc nD τ sig) → Buf (Elt F) ℓ)

/-- The arrays the host operations write, in order. -/
def refs_hostOps0 : List (Ref sig .tc) := [main_c, main_c_0, main_v0, main_v1, main_v2, main_v3, main_v4, main_v5, main_v6, main_v7, main_v8, main_v9, main_v10, main_v11, main_cst, main_v12, main_cst_1, main_v13, main_v14, main_v15, main_v16, main_v17, main_v18, main_v19, main_v20, main_v21, main_v22, main_cst_2, main_v23, main_cst_3, main_v24, main_v25, main_v26, main_v27]
theorem writes_before : List.Forall₂ (fun (op : HloOp τ sig (Elt F)) (r : Ref sig .tc) => op.writes = {Proc.devRef .tc r}) [hostOps0 (F := F)].flatten refs_hostOps0 := by
  unfold refs_hostOps0
  repeat' (first | exact List.Forall₂.nil | refine List.Forall₂.cons rfl ?_)

/-- A buffer none of the operations writes. -/
theorem not_written_of {ops : List (HloOp τ sig (Elt F))} {refs : List (Ref sig .tc)}
    (h : List.Forall₂ (fun (op : HloOp τ sig (Elt F)) (r : Ref sig .tc) => op.writes = {Proc.devRef .tc r}) ops refs)
    (b : Ref sig .tc) (hb : b ∉ refs) : ∀ op ∈ ops, Proc.devRef .tc b ∉ op.writes := by
  induction h with
  | nil => intro op hop; cases hop
  | @cons op' r ops' refs' h' _ ih =>
    intro op hop
    rw [List.mem_cons, not_or] at hb
    rcases List.mem_cons.1 hop with rfl | hop
    · rw [h', Finset.mem_singleton]; exact StableHlo.devRef_ne_of_ne hb.1
    · exact ih hb.2 op hop

/-- An argument keeps its contents up to the pipeline. -/
theorem V₀_kept (c : Dev nD) (b : Ref sig .tc) (hb : b ∉ refs_hostOps0) :
    V₀ m c (Proc.devRef .tc b) = m ((c : Thread nD τ).loc b) :=
  StableHlo.after_of_forall_not_mem (b := Proc.devRef .tc b) _ _ (not_written_of writes_before b hb)

/-- What no operation but the first two writes is what those two leave. -/
theorem after_two {o₀ o₁ : HloOp τ sig (Elt F)} {ops : List (HloOp τ sig (Elt F))} {r₀ r₁ : Ref sig .tc} {rs : List (Ref sig .tc)}
    (h : List.Forall₂ (fun (op : HloOp τ sig (Elt F)) (r : Ref sig .tc) => op.writes = {Proc.devRef .tc r}) (o₀ :: o₁ :: ops) (r₀ :: r₁ :: rs))
    (V : Valuation τ sig (Elt F)) (b : Ref sig .tc) (hb : b ∉ rs) :
    StableHlo.after (o₀ :: o₁ :: ops) V (Proc.devRef .tc b) = o₁.result (o₀.result V) (Proc.devRef .tc b) := by
  rw [StableHlo.after_cons, StableHlo.after_cons]
  exact StableHlo.after_of_forall_not_mem (b := Proc.devRef .tc b) _ _ (not_written_of (List.forall₂_cons.1 (List.forall₂_cons.1 h).2).2 b hb)

theorem V₀_tabs (c : Dev nD) (k : Fin 2) : V₀ m c (Proc.devRef .tc (pre0.ref k)) = (pfA (F := F)) k := by
  match k with
  | 0 =>
    refine (after_two (writes_before (F := F)) _ main_c (by decide)).trans ?_
    rw [StableHlo.nullary_result_ne (h := by decide)]
    exact StableHlo.nullary_result ..
  | 1 =>
    refine (after_two (writes_before (F := F)) _ main_c_0 (by decide)).trans ?_
    exact StableHlo.nullary_result ..

/-- A buffer held whole, as a memref read, -/
theorem rd_buf (c : Dev nD) (b : Ref sig .tc) (f : Buf (Elt F) ((c : Thread nD τ).loc b)) :
    ((((c : Thread nD τ).loc b) ↦{fullShare} f : sProp 𝕄)) ⊢ rd c (Memref.whole b) ((Memref.whole b).view.read (Elt F) f) := by
  unfold rd
  iintro H; iexists f
  isplitr
  · ipureintro; rfl
  · iexact H

/-- and back. -/
theorem rd_to (c : Dev nD) (b : Ref sig .tc) (X) :
    (rd c (Memref.whole b) X : sProp 𝕄) ⊢ iprop(∃ f : Buf (Elt F) ((c : Thread nD τ).loc b), ((c : Thread nD τ).loc b) ↦{fullShare} f) := by
  unfold rd
  iintro ⟨%f, -, H⟩; iexists f; iexact H

theorem hin_aux (A) (c : Dev nD) : iprop(Pipeline.ΦA spec0 c ∗ Pipeline.ΦT pre0 (pfA (F := F)) c : sProp 𝕄) ⊢ Φn A c 0 := by
  unfold Pipeline.ΦA Pipeline.ΦT Φn
  rw [scopedRest0_eq, prefHeld_pair]
  iintro ⟨⟨⟨⟨%f, Hf⟩, ⟨%g, Hg⟩⟩, Hr⟩, HI, HJ⟩
  iframe HI HJ
  isplitl [Hf]
  · iexists _
    isplitr
    rotate_left
    · iapply (rd_buf c cc0_scratch0 f); iexact Hf
    · ipureintro; exact fun h => absurd rfl h
  isplitl [Hg]
  · iexists _
    isplitr
    rotate_left
    · iapply (rd_buf c cc0_scratch1 g); iexact Hg
    · ipureintro; exact fun h => absurd rfl h
  iexact Hr

theorem hout_aux (A) (c : Dev nD) (n : ℕ) : (Φn (F := F) A c n) ⊢ (Pipeline.ΦA spec0 c : sProp 𝕄) := by
  unfold Pipeline.ΦA Φn
  rw [scopedRest0_eq]
  iintro ⟨-, -, ⟨%X, -, HX⟩, ⟨%Y, -, HY⟩, Hr⟩
  isplitr [Hr]
  · isplitl [HX]
    · iapply (rd_to c cc0_scratch0 X); iexact HX
    · iapply (rd_to c cc0_scratch1 Y); iexact HY
  iexact Hr

/-- The pipeline's invariant at the start, -/
theorem hin (c : Dev nD) : iprop(Pipeline.ΦA spec0 c ∗ Pipeline.ΦT pre0 (pfA (F := F)) c : sProp 𝕄) ⊢ (dats m 0 c).Φ 0 := by
  dsimp only [dats]
  exact hin_aux _ c
/-- and at the end. -/
theorem hout (c : Dev nD) : (dats m 0 c).Φ (Fin.last (cfgA (F := F)).N) ⊢ (Pipeline.ΦA spec0 c : sProp 𝕄) := by
  dsimp only [dats]
  exact hout_aux _ c _

theorem before_fresh : [hostOps0 (F := F)].Forall fun ops => ops.Forall fun op => op.fresh = ∅ := by
  simp only [List.Forall]; and_intros <;> rfl

set_option backward.isDefEq.respectTransparency.types false in
/-- The run: every array at what the pipeline leaves, every other buffer at what the host operations leave. -/
theorem run_main (g : Dev nD → PrngReg) :
    θ_run (defs (F := F)) (onTc (τ := τ) main) (s₀ m g) fun r =>
      Pipeline.FramePost (pcsA (F := F)) (dats m) 0 (Pipeline.afterTail pcfgs (fun _ => adm) (dats m) 0 (V₀ m) []) r
        ∧ r.2.sem = fun _ => 0 :=
  Pipeline.θ_run_frameP_around_track pcfgs (fun _ => adm) (dats m) 0 launch0 defs₀ Variants.none m g main
    (body_obligation m) (fun c w => (dats m 0 c).share_full (fun _ => rfl) w) (fun _ _ => rfl) (V₀ m) []
    (by simp) (by simp) (by simp)
    (Pipeline.hmainP_around pcfgs 0 defs₀ Variants.none m main [hostOps0] []
      hostOps0_sub before_fresh main_chain)
    (A_eq m) (V₀_tabs m) (hin m) (hout m) _ (fun _ h => h)

/-- A buffer that is no window's array and that no host operation writes ends as it began. -/
theorem kept (r : PUnit × MemSt nD τ sig (Elt F))
    (h : Pipeline.FramePost (pcsA (F := F)) (dats m) 0 (Pipeline.afterTail pcfgs (fun _ => adm) (dats m) 0 (V₀ m) []) r)
    (c : Dev nD) (b : Ref sig .tc) (h₀ : b ∈ Pipeline.restRefs sig spec0)
    (h₂ : ∀ w, Pipeline.arrRef spec0 w ≠ b) (h₃ : b ∉ refs_hostOps0) :
    r.2.mem ((c : Thread nD τ).loc b) = m ((c : Thread nD τ).loc b) := by
  refine ((h c).2 b h₀).trans ?_
  show StableHlo.after [] (Pipeline.withArrays spec0 c (V₀ m c) _) (Proc.devRef .tc b) = _
  exact (Pipeline.withArrays_of_ne spec0 c _ _ b h₂).trans (V₀_kept m c b h₃)

/-- The frame, for any floats. -/
theorem frame_any (g : Dev nD → PrngReg) :
    θ_run (defs (F := F)) (onTc (τ := τ) main) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run (defs (F := F)) _ _).mono (fun r h => ⟨fun c =>
    ⟨kept m r h.1 c main_arg0 (by decide) (by decide) (by decide), kept m r h.1 c main_arg1 (by decide) (by decide) (by decide),
     kept m r h.1 c main_arg2 (by decide) (by decide) (by decide), kept m r h.1 c main_arg3 (by decide) (by decide) (by decide)⟩, h.2⟩) (run_main m g)

end Cert.Proof.Attn

end
-- ==== Proof.Attn.Frame.lean ====
/-
  The three frames of the forward call, and its named constant.
-/
module

public import proofs.«01_k».proof.Proof.Attn.Run
public import proofs.«01_k».proof.Proof.Gen.AttnRefIdeal.Run
public import proofs.«01_k».proof.Proof.Gen.Pre_attn_finite
public import proofs.«01_k».proof.Defs

@[expose] public section

noncomputable section

namespace Cert.Proof.Attn

open AttnIdeal AttnIdeal.Gen

open Idealize.ShloMosaic TcCoe Tactic
open Idealize.SL.Sem

theorem frame_ideal : quiescent_AttnIdeal := fun m g _ => frame_any m g
theorem frame_ideal_finite : quiescent_AttnIdeal_pre_attn_finite := fun m g _ => frame_any m g

theorem frame_reference_any (m : (ℓ : Loc AttnRefIdeal.nD AttnRefIdeal.τ AttnRefIdeal.sig) → Buf (Elt Ideal) ℓ) (g : Dev AttnRefIdeal.nD → PrngReg) :
    θ_run (AttnRefIdeal.defs (F := Ideal)) (onTc (τ := AttnRefIdeal.τ) (AttnRefIdeal.main (F := Ideal))) ⟨m, fun _ => 0, g⟩ (fun r => (∀ c : Dev AttnRefIdeal.nD,
      r.2.mem ((c.tc : Thread AttnRefIdeal.nD AttnRefIdeal.τ).loc AttnRefIdeal.main_arg0) = m ((c.tc : Thread AttnRefIdeal.nD AttnRefIdeal.τ).loc AttnRefIdeal.main_arg0)
      ∧ r.2.mem ((c.tc : Thread AttnRefIdeal.nD AttnRefIdeal.τ).loc AttnRefIdeal.main_arg1) = m ((c.tc : Thread AttnRefIdeal.nD AttnRefIdeal.τ).loc AttnRefIdeal.main_arg1)
      ∧ r.2.mem ((c.tc : Thread AttnRefIdeal.nD AttnRefIdeal.τ).loc AttnRefIdeal.main_arg2) = m ((c.tc : Thread AttnRefIdeal.nD AttnRefIdeal.τ).loc AttnRefIdeal.main_arg2)
      ∧ r.2.mem ((c.tc : Thread AttnRefIdeal.nD AttnRefIdeal.τ).loc AttnRefIdeal.main_arg3) = m ((c.tc : Thread AttnRefIdeal.nD AttnRefIdeal.τ).loc AttnRefIdeal.main_arg3))
      ∧ r.2.sem = fun _ => 0) :=
  (θ_run (AttnRefIdeal.defs (F := Ideal)) _ _).mono (fun r h => ⟨fun c => (h c).2.2, sem_eq_zero_of_no_sems (by decide) r.2⟩) (AttnRefIdeal.Value.run (F := Ideal) m g)
theorem frame_ref : quiescent_AttnRefIdeal := fun m g _ => frame_reference_any m g
theorem frame_ref_finite : quiescent_AttnRefIdeal_pre_attn_finite := fun m g _ => frame_reference_any m g

theorem mask_named : preserves_Attn_AttnIdeal := IdealRules.named_const.statement _ _ _ _ _ rfl

end Cert.Proof.Attn

end
-- ==== Proof.Attn.Tile.lean ====
/-
  One head's step of the running softmax over the ideal numbers, at one row: the maximum stays a real number, and the accumulator
  holds the sum over the keys met of the weighted values, the weights taken against that maximum.
-/
module

public import proofs.«01_k».proof.Proof.Attn.Runs
public import proofs.«01_k».proof.Proof.Tile

@[expose] public section

set_option maxRecDepth 16384

noncomputable section

namespace Cert.Proof.Attn.Tile

open AttnIdeal AttnIdeal.Gen Idealize.ShloMosaic TcCoe Idealize.SL.Sem
open Cert.Proof.Fox (Spec.QA Spec.KA)
open Cert.Proof.Fox
open Finset (range)

/-! ## The step read at an index -/

theorem mNew_read (s : FVec Ideal S512x512 .f32) (m : FVec Ideal S1x512x128 .f32) (a : Fin 512) (l : Fin 128) :
    mNew (F := Ideal) s m (ix2 a l) = max (m (ix3 0 a l)) ((Finset.univ : Finset (Fin 512)).fold max (⊥ : EReal) fun b => s (ix2 a b)) := by
  pointwise [mNew]
  rw [Ref.ninf]
theorem wts_read (s : FVec Ideal S512x512 .f32) (m : FVec Ideal S1x512x128 .f32) (a b : Fin 512) :
    wts (F := Ideal) s m (ix2 a b) = Ideal.exp (s (ix2 a b) - mNew (F := Ideal) s m (ix2 a 0)) := by
  pointwise [wts]
theorem stM_read (s : FVec Ideal S512x512 .f32) (m : FVec Ideal S1x512x128 .f32) (a : Fin 512) (l : Fin 128) :
    stM (F := Ideal) s m (ix3 0 a l) = mNew (F := Ideal) s m (ix2 a l) := by
  pointwise [stM]
theorem stA_read (s : FVec Ideal S512x512 .f32) (m x : FVec Ideal S1x512x128 .f32) (v : FVec Ideal S512x128 .bf16) (a : Fin 512) (l : Fin 128) :
    stA (F := Ideal) s m x v (ix3 0 a l) = x (ix3 0 a l) * Ideal.exp (m (ix3 0 a l) - mNew (F := Ideal) s m (ix2 a l))
      + (∑ b : Fin 512, wts (F := Ideal) s m (ix2 a b) * v (ix2 b l) : EReal) := by
  pointwise [stA]
theorem pay7_read (q k : Vec Ideal S512x128 .bf16) (a b : Fin 512) :
    k0_pay7 (F := Ideal) q k (ix2 a b) = (∑ l : Fin 128, q (ix2 a l) * k (ix2 b l) : EReal) := by
  pointwise [k0_pay7]
theorem pay100_read (q k : Vec Ideal S512x128 .bf16) (a b : Fin 512) :
    k0_pay100 (F := Ideal) q k (ix2 a b) = if b.val ≤ a.val then (∑ l : Fin 128, q (ix2 a l) * k (ix2 b l) : EReal) else ⊥ := by
  pointwise [k0_pay100]
  rw [Fox.Tile.sel_ge _ _ a.2 b.2]
  rfl
theorem pay204_read (x : Vec Ideal S1x512x128 .f32) (a : Fin 512) (l : Fin 64) :
    k0_pay204 (F := Ideal) x (ix2 a l) = Ideal.div (x (ix3 0 a (⟨l.val, by omega⟩ : Fin 128))) (x (ix3 0 a (64 : Fin 128))) := by
  pointwise [k0_pay204, k0_pay202, k0_pay203]
theorem pay205_read (x m : Vec Ideal S1x512x128 .f32) (a : Fin 512) (l : Fin 64) :
    k0_pay205 (F := Ideal) x m (ix2 a l) = m (ix3 0 a (⟨l.val, by omega⟩ : Fin 128)) + Ideal.log (x (ix3 0 a (64 : Fin 128))) := by
  pointwise [k0_pay205, k0_pay202, k0_pay203]

/-! ## The invariant of a row -/

/-- A number that is neither negative nor infinite distributes over a sum. -/
theorem sum_mul {ι : Type*} (S : Finset ι) (f : ι → EReal) (r : ℝ) (hr : 0 ≤ r) : (∑ s ∈ S, f s) * (r : EReal) = ∑ s ∈ S, f s * (r : EReal) := by
  classical
  induction S using Finset.induction_on with
  | empty => simp
  | insert a S ha ih =>
    rw [Finset.sum_insert ha, Finset.sum_insert ha, EReal.right_distrib_of_nonneg_of_ne_top (EReal.coe_nonneg.2 hr) (EReal.coe_ne_top r), ih]

section
variable (Q K : ℕ → ℕ → ℕ → ℝ) (V : ℕ → ℕ → ℕ → EReal) (C : ℕ → ℕ → ℝ)

/-- The augmented value row: the value, then a one. -/
def VA (h s l : ℕ) : EReal := if l < 64 then V s h l else 1
/-- The weight of key `s` in row `t` against `μ`. -/
def wt (h t s : ℕ) (μ : ℝ) : ℝ := if s ≤ t then Real.exp (Spec.lg Q K C h t s - μ) else 0
/-- The weighted values of the first `n` keys, weights against `μ`; the values may be infinite. -/
def G (h t n l : ℕ) (μ : ℝ) : EReal := ∑ s ∈ range n, (wt Q K C h t s μ : EReal) * VA V h s l
/-- The output of a row. -/
def PV (h t l : ℕ) : EReal := ∑ s ∈ range 4096, (Spec.P Q K C h t s : EReal) * V s h l

theorem wt_shift (h t s : ℕ) (μ ν : ℝ) : wt Q K C h t s μ * Real.exp (μ - ν) = wt Q K C h t s ν := by
  unfold wt
  split_ifs
  · rw [← Real.exp_add]; congr 1; ring
  · rw [zero_mul]
theorem G_shift (h t n l : ℕ) (μ ν : ℝ) : G Q K V C h t n l μ * ((Real.exp (μ - ν) : ℝ) : EReal) = G Q K V C h t n l ν := by
  unfold G
  rw [sum_mul _ _ _ (Real.exp_pos _).le]
  refine Finset.sum_congr rfl fun s _ => ?_
  rw [← wt_shift Q K C h t s μ ν, EReal.coe_mul, mul_right_comm]
/-- Keys after the row weigh nothing. -/
theorem G_all (h t n l : ℕ) (μ : ℝ) (hn : t < n) (hn' : n ≤ 4096) : G Q K V C h t n l μ = G Q K V C h t 4096 l μ := by
  unfold G
  refine Finset.sum_subset (fun s hs => Finset.mem_range.2 (by have := Finset.mem_range.1 hs; omega)) fun s _ hs => ?_
  unfold wt
  have hsn : ¬s < n := fun c => hs (Finset.mem_range.2 c)
  rw [if_neg (by omega), EReal.coe_zero, zero_mul]
theorem G_one (h t : ℕ) (μ : ℝ) : G Q K V C h t 4096 64 μ = ((Spec.Z Q K C μ h t : ℝ) : EReal) := by
  unfold G Spec.Z VA wt
  rw [Spec.coe_sum]
  exact Finset.sum_congr rfl fun s _ => by rw [if_neg (lt_irrefl _), mul_one]
theorem div_pos (x : EReal) (r : ℝ) (hr : 0 < r) : Ideal.div x (r : EReal) = x * ((r⁻¹ : ℝ) : EReal) := by
  unfold Ideal.div
  rw [if_neg (by exact_mod_cast hr.ne'), EReal.coe_inv]
theorem G_out (h t l : ℕ) (μ : ℝ) (hl : l < 64) : Ideal.div (G Q K V C h t 4096 l μ) ((Spec.Z Q K C μ h t : ℝ) : EReal) = PV Q K V C h t l := by
  have hZ := Spec.Z_pos Q K C μ h t
  unfold G PV
  rw [div_pos _ _ hZ, sum_mul _ _ _ (inv_pos.2 hZ).le]
  refine Finset.sum_congr rfl fun s _ => ?_
  rw [← Spec.P_shift Q K C μ, div_eq_mul_inv, EReal.coe_mul, mul_right_comm]
  unfold wt VA
  rw [if_pos hl]

/-- Row `a` of a head's two slots before a step: the keys before `n` are met. -/
def Met (h t n : ℕ) (a : Fin 512) (m x : FVec Ideal S1x512x128 .f32) : Prop :=
  ∃ μ : EReal, μ ≠ ⊤ ∧ (∀ l : Fin 128, m (ix3 0 a l) = μ)
    ∧ ∀ (ν : ℝ) (l : Fin 128), l.val ≤ 64 → x (ix3 0 a l) * Ideal.exp (μ - (ν : EReal)) = G Q K V C h t n l ν
/-- The same after a step. -/
def Done (h t n : ℕ) (a : Fin 512) (m x : FVec Ideal S1x512x128 .f32) : Prop :=
  ∃ μ : ℝ, (∀ l : Fin 128, m (ix3 0 a l) = (μ : EReal)) ∧ ∀ l : Fin 128, l.val ≤ 64 → x (ix3 0 a l) = G Q K V C h t n l μ

variable {Q K V C}

theorem Done.met {h t n : ℕ} {a : Fin 512} {m x : FVec Ideal S1x512x128 .f32} (H : Done Q K V C h t n a m x) : Met Q K V C h t n a m x := by
  obtain ⟨μ, hm, hx⟩ := H
  refine ⟨μ, EReal.coe_ne_top μ, hm, fun ν l hl => ?_⟩
  rw [hx l hl, ← EReal.coe_sub, Ideal.exp_coe, G_shift]
theorem met_zero {h t : ℕ} {a : Fin 512} {m x : FVec Ideal S1x512x128 .f32} (hm : ∀ l : Fin 128, m (ix3 0 a l) = (⊥ : EReal))
    (hx : ∀ l : Fin 128, x (ix3 0 a l) = (0 : EReal)) : Met Q K V C h t 0 a m x := by
  refine ⟨⊥, bot_ne_top, hm, fun ν l _ => ?_⟩
  rw [hx, zero_mul]
  unfold G
  rw [Finset.range_zero, Finset.sum_empty]

variable {h t S : ℕ} {a : Fin 512} {s : FVec Ideal S512x512 .f32} {m x : FVec Ideal S1x512x128 .f32} {v : FVec Ideal S512x128 .bf16}
  (hs : ∀ b : Fin 512, s (ix2 a b) = if S + b.val ≤ t then ((Spec.lg Q K C h t (S + b) : ℝ) : EReal) else ⊥)
  (hv : ∀ (b : Fin 512) (l : Fin 128), l.val ≤ 64 → v (ix2 b l) = VA V h (S + b) l)

include hs hv in
/-- A step meets the tile's keys. -/
theorem step (hS : S ≤ t) (H : Met Q K V C h t S a m x) : Done Q K V C h t (S + 512) a (stM (F := Ideal) s m) (stA (F := Ideal) s m x v) := by
  obtain ⟨μ, hμ, hm, hx⟩ := H
  obtain ⟨ρ, hρ⟩ := Spec.fold_max_real (fun b : Fin 512 => s (ix2 a b)) 0
    (by rw [hs, if_pos (by simpa using hS)]; exact EReal.coe_ne_bot _) (fun b => by rw [hs]; split_ifs <;> simp)
  obtain ⟨ν, hν⟩ : ∃ ν : ℝ, max μ (ρ : EReal) = (ν : EReal) :=
    ⟨_, (EReal.coe_toReal (max_lt (lt_top_iff_ne_top.2 hμ) (EReal.coe_lt_top ρ)).ne (lt_of_lt_of_le (EReal.bot_lt_coe ρ) (le_max_right _ _)).ne').symm⟩
  have hN : ∀ l : Fin 128, mNew (F := Ideal) s m (ix2 a l) = (ν : EReal) := fun l => by rw [mNew_read, hm, hρ, hν]
  have hw : ∀ b : Fin 512, wts (F := Ideal) s m (ix2 a b) = ((wt Q K C h t (S + b) ν : ℝ) : EReal) := fun b => by
    rw [wts_read, hN, hs]
    unfold wt
    split_ifs
    · rw [← EReal.coe_sub, Ideal.exp_coe]
    · rw [EReal.bot_sub, Ideal.exp_bot, EReal.coe_zero]
  refine ⟨ν, fun l => (stM_read s m a l).trans (hN l), fun l hl => ?_⟩
  rw [stA_read, hN, hm, hx ν l hl]
  unfold G
  rw [Finset.sum_range_add, Finset.sum_range (n := 512)]
  exact congrArg _ (Finset.sum_congr rfl fun b _ => by rw [hw, hv b l hl])

/-- The results of a row all of whose keys are met. -/
theorem done_o {n : ℕ} (H : Done Q K V C h t n a m x) (hn : t < n) (hn' : n ≤ 4096) (l : Fin 64) :
    k0_pay204 (F := Ideal) x (ix2 a l) = PV Q K V C h t l := by
  obtain ⟨μ, hm, hx⟩ := H
  have h1 : x (ix3 0 a (64 : Fin 128)) = ((Spec.Z Q K C μ h t : ℝ) : EReal) :=
    (hx 64 (le_refl 64)).trans ((G_all Q K V C h t n 64 μ hn hn').trans (G_one Q K V C h t μ))
  rw [pay204_read, h1, hx _ (by show l.val ≤ 64; omega), G_all Q K V C h t n _ μ hn hn', G_out Q K V C h t _ μ l.2]
theorem done_l {n : ℕ} (H : Done Q K V C h t n a m x) (hn : t < n) (hn' : n ≤ 4096) (l : Fin 64) :
    k0_pay205 (F := Ideal) x m (ix2 a l) = ((Real.log (Spec.Z Q K C 0 h t) : ℝ) : EReal) := by
  obtain ⟨μ, hm, hx⟩ := H
  have h1 : x (ix3 0 a (64 : Fin 128)) = ((Spec.Z Q K C μ h t : ℝ) : EReal) :=
    (hx 64 (le_refl 64)).trans ((G_all Q K V C h t n 64 μ hn hn').trans (G_one Q K V C h t μ))
  rw [pay205_read, h1, hm, Ideal.log_coe, if_neg (not_le.2 (Spec.Z_pos Q K C μ _ _)), ← EReal.coe_add,
    Spec.Z_shift Q K C μ, Real.log_mul (Real.exp_pos μ).ne' (Spec.Z_pos Q K C μ _ _).ne', Real.log_exp]
end

/-! ## The scores of a tile -/

section
variable {Q K : ℕ → ℕ → ℕ → ℝ} {C : ℕ → ℕ → ℝ} {h T S : ℕ} {q k : Vec Ideal S512x128 .bf16}
  (hq : ∀ (a : Fin 512) (l : Fin 128), q (ix2 a l) = ((Spec.QA Q C h (T + a) l : ℝ) : EReal))
  (hk : ∀ (b : Fin 512) (l : Fin 128), k (ix2 b l) = ((Spec.KA K C h (S + b) l : ℝ) : EReal))

include hq hk in
theorem off_real (hTS : S + 512 ≤ T) (a b : Fin 512) : k0_pay7 (F := Ideal) q k (ix2 a b)
    = if S + b.val ≤ T + a.val then ((Spec.lg Q K C h (T + a) (S + b) : ℝ) : EReal) else ⊥ := by
  rw [pay7_read, Fox.Tile.dot_real hq hk, if_pos (by omega)]
include hq hk in
theorem diag_real (hTS : S = T) (a b : Fin 512) : k0_pay100 (F := Ideal) q k (ix2 a b)
    = if S + b.val ≤ T + a.val then ((Spec.lg Q K C h (T + a) (S + b) : ℝ) : EReal) else ⊥ := by
  rw [pay100_read, Fox.Tile.dot_real hq hk]
  by_cases c : b.val ≤ a.val
  · rw [if_pos c, if_pos (by omega)]
  · rw [if_neg c, if_neg (by omega)]
end

end Cert.Proof.Attn.Tile

end
-- ==== Proof.Attn.Host.lean ====
/-
  The host lines before the forward call, and the reference's two results, in the terms of the backward call's host lines:
  the same augmented rows, the same probabilities, the same logarithms of the row sums.
-/
module

public import proofs.«01_k».proof.Proof.HostRead
public import proofs.«01_k».proof.Proof.Attn.Tile
public import proofs.«01_k».proof.Proof.Attn.Flow
public import proofs.«01_k».proof.Proof.Gen.AttnRefIdeal.Run

@[expose] public section

set_option maxRecDepth 16384

noncomputable section

namespace Cert.Proof.Attn.Host

open Idealize.ShloMosaic TcCoe Idealize.SL.Sem
open Cert.Proof.Fox.Host (hQA hKA hVA hOne hC1 hC2 hC3 hP hO hLse hLane tM tE tZ)

section
open AttnIdeal AttnIdeal.Gen
variable (m : (ℓ : Loc nD τ sig) → Buf (Elt Ideal) ℓ) (c : Dev nD)
abbrev aQ : FVec Ideal S4096x16x64 .f32 := m ((c.tc : Thread nD τ).loc main_arg0)
abbrev aK : FVec Ideal S4096x16x64 .f32 := m ((c.tc : Thread nD τ).loc main_arg1)
abbrev aV : FVec Ideal S4096x16x64 .f32 := m ((c.tc : Thread nD τ).loc main_arg2)
abbrev aC : FVec Ideal S4096x16 .f32 := m ((c.tc : Thread nD τ).loc main_arg3)

theorem V_qa : V₀ m c (Proc.devRef .tc main_v16) = hQA (aQ m c) (hOne (hC1 (aC m c))) (hOne (hC2 (aC m c))) (hOne (hC3 (aC m c))) := by
  unfold V₀
  simp only [List.flatten_cons, List.flatten_nil, List.append_nil, StableHlo.TRef.nullary, StableHlo.TRef.ternary, StableHlo.TRef.unary, StableHlo.TRef.toBuf, StableHlo.TRef.ofBuf, cast_eq]
  after_reads_simp
  rfl
theorem V_ka : V₀ m c (Proc.devRef .tc main_v22) = hKA (aK m c) (hOne (hC1 (aC m c))) (hOne (hC2 (aC m c))) (hOne (hC3 (aC m c))) := by
  unfold V₀
  simp only [List.flatten_cons, List.flatten_nil, List.append_nil, StableHlo.TRef.nullary, StableHlo.TRef.ternary, StableHlo.TRef.unary, StableHlo.TRef.toBuf, StableHlo.TRef.ofBuf, cast_eq]
  after_reads_simp
  rfl
theorem V_va : V₀ m c (Proc.devRef .tc main_v27) = hVA (aV m c) := by
  unfold V₀
  simp only [List.flatten_cons, List.flatten_nil, List.append_nil, StableHlo.TRef.nullary, StableHlo.TRef.ternary, StableHlo.TRef.unary, StableHlo.TRef.toBuf, StableHlo.TRef.ofBuf, cast_eq]
  after_reads_simp
  rfl
end

section
open KernelIdeal KernelIdeal.Gen
/-- Past the values come a one and zeros. -/
theorem va_one (v : FVec Ideal S4096x16x64 .f32) (t : Fin 4096) (x : Fin 2048) (hx : x.val % 128 = 64) : hVA v (ix2 t x) = (1 : EReal) := by
  pointwise [hVA]
  rw [dif_neg (by omega)]
  first | rw [dif_pos (by omega)] | rw [if_pos (by omega)]
/-- The attention's output, heads side by side. -/
def hOut (o : FVec Ideal S4096x16x64 .f32) : FVec Ideal S4096x1024 .f32 := shapeCast S4096x1024 o shapeCasts_S4096x16x64_S4096x1024
theorem hOut_read (o : FVec Ideal S4096x16x64 .f32) (t : Fin 4096) (x : Fin 1024) :
    hOut o (ix2 t x) = o (ix3 t (⟨x.val / 64, by omega⟩ : Fin 16) (⟨x.val % 64, by omega⟩ : Fin 64)) := by
  pointwise [hOut]
/-- The two results of the reference. -/
def gO (q k v : FVec Ideal S4096x16x64 .f32) (cm : FVec Ideal S4096x16 .f32) : FVec Ideal S4096x1024 .f32 :=
  hOut (hO v (hP (tE q k cm) (tZ q k cm)))
def gL (q k : FVec Ideal S4096x16x64 .f32) (cm : FVec Ideal S4096x16 .f32) : FVec Ideal S4096x1024 .f32 :=
  hLane (hLse (tM q k cm) (tZ q k cm))
end

section
open AttnRefIdeal AttnRefIdeal.Gen
theorem ref_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v26) = gO (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v29) = gL (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun r h c => ⟨(h c).1.trans (by unfold Value.res_main_v26; rfl), (h c).2.1.trans rfl, (h c).2.2⟩) (Value.run (F := Ideal) m g)
end

section
open KernelIdeal KernelIdeal.Gen Cert.Proof.Fox
variable {q k v : FVec Ideal S4096x16x64 .f32} {cm : FVec Ideal S4096x16 .f32} {Q K : ℕ → ℕ → ℕ → ℝ} {V : ℕ → ℕ → ℕ → EReal} {C : ℕ → ℕ → ℝ}
  (hq : ∀ (t : Fin 4096) (h : Fin 16) (l : Fin 64), q (ix3 t h l) = ((Q t h l : ℝ) : EReal))
  (hk : ∀ (t : Fin 4096) (h : Fin 16) (l : Fin 64), k (ix3 t h l) = ((K t h l : ℝ) : EReal))
  (hv : ∀ (t : Fin 4096) (h : Fin 16) (l : Fin 64), v (ix3 t h l) = V t h l)
  (hc : ∀ (t : Fin 4096) (h : Fin 16), cm (ix2 t h) = ((C t h : ℝ) : EReal))

include hq hk hv hc in
/-- The output, of values that may be infinite. -/
theorem gO_real (t : Fin 4096) (x : Fin 1024) : gO q k v cm (ix2 t x) = Tile.PV Q K V C (x.val / 64) t (x.val % 64) := by
  obtain ⟨m, hm, hE, hZ⟩ := Fox.Host.rows_real hq hk hc (⟨x.val / 64, by omega⟩ : Fin 16) t
  unfold gO Tile.PV
  rw [hOut_read, Fox.Host.hO_read, Finset.sum_range]
  refine Finset.sum_congr rfl fun s _ => ?_
  rw [hv, Fox.Host.hP_read, hE, hZ, Ref.div_real _ _ (Spec.Z_pos Q K C m _ _).ne', Spec.P_shift, mul_comm]

include hq hk hc in
/-- The logarithm of a row's sum over the real numbers. -/
theorem gL_real (t : Fin 4096) (x : Fin 1024) : gL q k cm (ix2 t x) = ((Real.log (Spec.Z Q K C 0 (x.val / 64) t) : ℝ) : EReal) := by
  obtain ⟨m, hm⟩ := Fox.Host.lse_real hq hk hc t x
  refine hm.trans ?_
  rw [Spec.Z_shift Q K C m, Real.log_mul (Real.exp_pos m).ne' (Spec.Z_pos Q K C m _ _).ne', Real.log_exp]
end

end Cert.Proof.Attn.Host

end
-- ==== Proof.Attn.Traj.lean ====
/-
  The accumulators after every grid point, and the two arrays the pipeline leaves, of real queries, keys and gates.
-/
module

public import proofs.«01_k».proof.Proof.Attn.Host
public import Idealize.ShloMosaic.Lib.Pipeline.ValueKit

@[expose] public section

set_option maxRecDepth 16384

noncomputable section

namespace Cert.Proof.Attn

open AttnIdeal AttnIdeal.Gen Cert.Proof.AttnParts Idealize.ShloMosaic TcCoe Idealize.SL.Sem
open Cert.Proof.Fox (Spec.sum_fin)
open Cert.Proof.Fox
open Finset (range)

section Parts
variable {α : Type}
theorem row_at (e : Fin 16) (X : S512x2048.Idx → α) (a : Fin 512) (l : Fin 128) :
    row e X (ix2 a l) = X (ix2 a (⟨128 * e.val + l.val, by omega⟩ : Fin 2048)) := by
  refine congrArg X (funext fun d => ?_)
  match d with
  | 0 => exact Fin.ext (by show 0 + 1 * a.val = a.val; omega)
  | 1 => exact Fin.ext (by show 128 * e.val + 1 * l.val = 128 * e.val + l.val; omega)
theorem res_at (h : Fin 16 → S512x64.Idx → α) (e : Fin 16) (a : Fin 512) (l : Fin 64) :
    res h (ix2 a (⟨64 * e.val + l.val, by omega⟩ : Fin 1024)) = h e (ix2 a l) := by
  rw [← res_emb h e (ix2 a l)]
  refine congrArg (res h) (funext fun d => ?_)
  match d with
  | 0 => exact Fin.ext (by show a.val = 0 + 1 * a.val; omega)
  | 1 => exact Fin.ext (by show 64 * e.val + l.val = 64 * e.val + 1 * l.val; omega)
end Parts

/-! ## The grid's points -/

/-- The row block and the column block of a point. -/
def ptI_ (t : Fin grid0.N) : ℕ := (wI (grid0.coords t)).toNat
def ptJ_ (t : Fin grid0.N) : ℕ := (wJ (grid0.coords t)).toNat

theorem i_lt (t : Fin grid0.N) : ptI_ t < 8 := wI_lt _
theorem j_lt (t : Fin grid0.N) : ptJ_ t < 8 := wJ_lt _
theorem j_le : ∀ t : Fin grid0.N, ptJ_ t ≤ ptI_ t := by decide +kernel
theorem next_pt : ∀ t s : Fin grid0.N, s.val = t.val + 1 → ptJ_ s ≠ 0 → ptI_ s = ptI_ t ∧ ptJ_ s = ptJ_ t + 1 := by decide +kernel
theorem condA_iff : ∀ t : Fin grid0.N, cndA (wJ (grid0.coords t)) = 1#1 ↔ ptJ_ t = 0 := by decide +kernel
theorem condB_iff : ∀ t : Fin grid0.N, cndB (wI (grid0.coords t)) (wJ (grid0.coords t)) = 1#1 ↔ ptJ_ t < ptI_ t := by decide +kernel
theorem cond3_iff : ∀ t : Fin grid0.N, k0_cond3 (wI (grid0.coords t)) (wJ (grid0.coords t)) = 1#1 ↔ ptJ_ t = ptI_ t := by decide +kernel

section
variable (A : (w : Fin 5) → Buf (Elt Ideal) (((cfgA (F := Ideal)).win w).arr.view.loc ((0 : Dev nD) : Thread nD τ)))

theorem tileAt0 (t : Fin grid0.N) (a : Fin 512) (x : Fin 2048) :
    inBlk A 0 t (ix2 a x) = A 0 (ix2 (⟨512 * ptI_ t + a, by have := i_lt t; omega⟩ : Fin 4096) x) := by
  refine congrArg (A 0) (funext fun d => ?_)
  match d with
  | 0 =>
    refine Fin.ext ?_
    show cc0_transform_0 (F := Ideal) k0_off1_inb numel1_S1 pfA (grid0.coords t) 0 * 512 + 1 * a.val = 512 * ptI_ t + a
    rw [tr0_eq]; show ptI_ t * 512 + 1 * a.val = _; omega
  | 1 =>
    refine Fin.ext ?_
    show cc0_transform_0 (F := Ideal) k0_off1_inb numel1_S1 pfA (grid0.coords t) 1 * 2048 + 1 * x.val = x.val
    rw [tr0_eq]; show 0 * 2048 + 1 * x.val = _; omega
theorem tileAt1 (t : Fin grid0.N) (a : Fin 512) (x : Fin 2048) :
    inBlk A 1 t (ix2 a x) = A 1 (ix2 (⟨512 * ptJ_ t + a, by have := j_lt t; omega⟩ : Fin 4096) x) := by
  refine congrArg (A 1) (funext fun d => ?_)
  match d with
  | 0 =>
    refine Fin.ext ?_
    show cc0_transform_1 (F := Ideal) k0_off1_inb numel1_S1 pfA (grid0.coords t) 0 * 512 + 1 * a.val = 512 * ptJ_ t + a
    rw [tr1_eq]; show ptJ_ t * 512 + 1 * a.val = _; omega
  | 1 =>
    refine Fin.ext ?_
    show cc0_transform_1 (F := Ideal) k0_off1_inb numel1_S1 pfA (grid0.coords t) 1 * 2048 + 1 * x.val = x.val
    rw [tr1_eq]; show 0 * 2048 + 1 * x.val = _; omega
theorem tileAt2 (t : Fin grid0.N) (a : Fin 512) (x : Fin 2048) :
    inBlk A 2 t (ix2 a x) = A 2 (ix2 (⟨512 * ptJ_ t + a, by have := j_lt t; omega⟩ : Fin 4096) x) := by
  refine congrArg (A 2) (funext fun d => ?_)
  match d with
  | 0 =>
    refine Fin.ext ?_
    show cc0_transform_2 (F := Ideal) k0_off1_inb numel1_S1 pfA (grid0.coords t) 0 * 512 + 1 * a.val = 512 * ptJ_ t + a
    rw [tr2_eq]; show ptJ_ t * 512 + 1 * a.val = _; omega
  | 1 =>
    refine Fin.ext ?_
    show cc0_transform_2 (F := Ideal) k0_off1_inb numel1_S1 pfA (grid0.coords t) 1 * 2048 + 1 * x.val = x.val
    rw [tr2_eq]; show 0 * 2048 + 1 * x.val = _; omega

/-- The arrays a pipeline reads, when they hold the augmented rows of real queries, keys and gates. -/
structure RealIn (Q K : ℕ → ℕ → ℕ → ℝ) (V : ℕ → ℕ → ℕ → EReal) (C : ℕ → ℕ → ℝ) : Prop where
  q : ∀ (t : Fin 4096) (x : Fin 2048), A 0 (ix2 t x) = ((Spec.QA Q C (x.val / 128) t (x.val % 128) : ℝ) : EReal)
  k : ∀ (t : Fin 4096) (x : Fin 2048), A 1 (ix2 t x) = ((Spec.KA K C (x.val / 128) t (x.val % 128) : ℝ) : EReal)
  v : ∀ (t : Fin 4096) (x : Fin 2048), x.val % 128 ≤ 64 → A 2 (ix2 t x) = Tile.VA V (x.val / 128) t (x.val % 128)
end

theorem zeroM (e : Fin 16) (a : Fin 512) (l : Fin 128) : slot e (k0_pay1 (F := Ideal)) (ix3 0 a l) = (⊥ : EReal) := by
  unfold slot
  pointwise [k0_pay1]
  rfl
theorem zeroA (e : Fin 16) (a : Fin 512) (l : Fin 128) : slot e (k0_pay2 (F := Ideal)) (ix3 0 a l) = (0 : EReal) := by
  unfold slot
  pointwise [k0_pay2]

section
variable {A : (w : Fin 5) → Buf (Elt Ideal) (((cfgA (F := Ideal)).win w).arr.view.loc ((0 : Dev nD) : Thread nD τ))}
  {Q K : ℕ → ℕ → ℕ → ℝ} {V : ℕ → ℕ → ℕ → EReal} {C : ℕ → ℕ → ℝ} (R : RealIn A Q K V C) (t : Fin grid0.N) (e : Fin 16)

theorem div128 (e l : ℕ) (h : l < 128) : (128 * e + l) / 128 = e := by omega
theorem mod128 (e l : ℕ) (h : l < 128) : (128 * e + l) % 128 = l := by omega
theorem div64 (e l : ℕ) (h : l < 64) : (64 * e + l) / 64 = e := by omega
theorem mod64 (e l : ℕ) (h : l < 64) : (64 * e + l) % 64 = l := by omega

include R
theorem q_at (a : Fin 512) (l : Fin 128) : row e (inBlk A 0 t) (ix2 a l) = ((Spec.QA Q C e (512 * ptI_ t + a) l : ℝ) : EReal) := by
  refine (row_at e _ a l).trans ((tileAt0 A t a _).trans ((R.q _ _).trans ?_))
  show ((Spec.QA Q C ((128 * e.val + l.val) / 128) (512 * ptI_ t + a) ((128 * e.val + l.val) % 128) : ℝ) : EReal) = _
  rw [div128 _ _ l.2, mod128 _ _ l.2]
theorem k_at (a : Fin 512) (l : Fin 128) : row e (inBlk A 1 t) (ix2 a l) = ((Spec.KA K C e (512 * ptJ_ t + a) l : ℝ) : EReal) := by
  refine (row_at e _ a l).trans ((tileAt1 A t a _).trans ((R.k _ _).trans ?_))
  show ((Spec.KA K C ((128 * e.val + l.val) / 128) (512 * ptJ_ t + a) ((128 * e.val + l.val) % 128) : ℝ) : EReal) = _
  rw [div128 _ _ l.2, mod128 _ _ l.2]
theorem v_at (a : Fin 512) (l : Fin 128) (hl : l.val ≤ 64) : row e (inBlk A 2 t) (ix2 a l) = Tile.VA V e (512 * ptJ_ t + a) l := by
  refine (row_at e _ a l).trans ((tileAt2 A t a _).trans ((R.v _ _ ?_).trans ?_))
  · show (128 * e.val + l.val) % 128 ≤ 64
    rw [mod128 _ _ l.2]; exact hl
  show Tile.VA V ((128 * e.val + l.val) / 128) (512 * ptJ_ t + a) ((128 * e.val + l.val) % 128) = _
  rw [div128 _ _ l.2, mod128 _ _ l.2]

/-- A point meets the keys of its tile. -/
theorem step_at (X9 X10 : S16x512x128.Idx → Elt Ideal .f32) (a : Fin 512)
    (H : Tile.Met Q K V C e (512 * ptI_ t + a) (512 * ptJ_ t) a (slot e (clM (F := Ideal) (wJ (grid0.coords t)) X9)) (slot e (clA (F := Ideal) (wJ (grid0.coords t)) X10))) :
    Tile.Done Q K V C e (512 * ptI_ t + a) (512 * ptJ_ t + 512) a
      (slot e (nxM (F := Ideal) (wI (grid0.coords t)) (wJ (grid0.coords t)) (inBlk A 0 t) (inBlk A 1 t) X9))
      (slot e (nxA (F := Ideal) (wI (grid0.coords t)) (wJ (grid0.coords t)) (inBlk A 0 t) (inBlk A 1 t) (inBlk A 2 t) X9 X10)) := by
  have hle := j_le t
  unfold nxM nxA mdM mdA
  rcases hle.lt_or_eq with h | h
  · have hB := (condB_iff t).2 h
    have h3 : ¬k0_cond3 (wI (grid0.coords t)) (wJ (grid0.coords t)) = 1#1 := fun c => by have := (cond3_iff t).1 c; omega
    unfold dgM dgA ofM ofA
    rw [if_neg h3, if_neg h3, if_pos hB, if_pos hB, slot_acc, slot_acc]
    exact Tile.step (fun b => Tile.off_real (q_at R t e) (k_at R t e) (by omega) a b) (fun b l hl => v_at R t e b l hl) (by omega) H
  · have h3 := (cond3_iff t).2 h
    have hB : ¬cndB (wI (grid0.coords t)) (wJ (grid0.coords t)) = 1#1 := fun c => by have := (condB_iff t).1 c; omega
    unfold dgM dgA ofM ofA
    rw [if_pos h3, if_pos h3, if_neg hB, if_neg hB, slot_acc, slot_acc]
    exact Tile.step (fun b => Tile.diag_real (q_at R t e) (k_at R t e) (by rw [h]) a b) (fun b l hl => v_at R t e b l hl) (by omega) H

/-- After a point the keys of its row block up to its column block are met. -/
theorem tr_done : ∀ (n : ℕ) (hn : n < grid0.N) (e : Fin 16) (a : Fin 512),
    Tile.Done Q K V C e (512 * ptI_ ⟨n, hn⟩ + a) (512 * ptJ_ ⟨n, hn⟩ + 512) a (slot e (trM A (n + 1))) (slot e (trA A (n + 1))) := by
  intro n
  induction n with
  | zero =>
    intro hn e a
    rw [trM_succ A ⟨0, hn⟩, trA_succ A ⟨0, hn⟩]
    refine step_at R ⟨0, hn⟩ e _ _ a ?_
    have h0 : ptJ_ ⟨0, hn⟩ = 0 := (condA_iff _).1 (cndA_zero _ rfl)
    unfold clM clA
    rw [if_pos (cndA_zero _ rfl), if_pos (cndA_zero _ rfl), h0]
    exact Tile.met_zero (zeroM e a) (zeroA e a)
  | succ n ih =>
    intro hn e a
    rw [trM_succ A ⟨n + 1, hn⟩, trA_succ A ⟨n + 1, hn⟩]
    refine step_at R ⟨n + 1, hn⟩ e _ _ a ?_
    unfold clM clA
    by_cases h0 : ptJ_ ⟨n + 1, hn⟩ = 0
    · rw [if_pos ((condA_iff _).2 h0), if_pos ((condA_iff _).2 h0), h0]
      exact Tile.met_zero (zeroM e a) (zeroA e a)
    · rw [if_neg fun c => h0 ((condA_iff _).1 c), if_neg fun c => h0 ((condA_iff _).1 c)]
      obtain ⟨hi, hj⟩ := next_pt ⟨n, by omega⟩ ⟨n + 1, hn⟩ rfl h0
      rw [hi, hj, show 512 * (ptJ_ ⟨n, by omega⟩ + 1) = 512 * ptJ_ ⟨n, by omega⟩ + 512 by omega]
      exact (ih (by omega) e a).met
end

/-! ## The two arrays -/

section
variable (Q K : ℕ → ℕ → ℕ → ℝ) (V : ℕ → ℕ → ℕ → EReal) (C : ℕ → ℕ → ℝ)
/-- The output, heads side by side, -/
def outO : S4096x1024.Idx → Elt Ideal .f32 := fun i =>
  Tile.PV Q K V C ((i 1).val / 64) (i 0).val ((i 1).val % 64)
/-- and the logarithm of each row's sum. -/
def outL : S4096x1024.Idx → Elt Ideal .f32 := fun i => ((Real.log (Spec.Z Q K C 0 ((i 1).val / 64) (i 0).val) : ℝ) : EReal)
end

section
variable (A : (w : Fin 5) → Buf (Elt Ideal) (((cfgA (F := Ideal)).win w).arr.view.loc ((0 : Dev nD) : Thread nD τ)))
  (Q K : ℕ → ℕ → ℕ → ℝ) (V : ℕ → ℕ → ℕ → EReal) (C : ℕ → ℕ → ℝ) (R : RealIn A Q K V C)

theorem flushed (t : Fin grid0.N) (w : Fin 5) (hw : w = 3 ∨ w = 4) (hf : ((cfgA (F := Ideal)).win w).flush t = true) : ptJ_ t = ptI_ t := by
  by_contra h
  have h3 : k0_cond3 (wI (grid0.coords t)) (wJ (grid0.coords t)) ≠ 1#1 := fun c => h ((cond3_iff t).1 c)
  rcases hw with rfl | rfl
  · rw [flush3 t h3] at hf; exact absurd hf (by decide)
  · rw [flush4 t h3] at hf; exact absurd hf (by decide)

include R in
theorem after3 (t : Fin grid0.N) (hf : ((cfgA (F := Ideal)).win 3).flush t = true) (y : S512x1024.Idx) :
    res (fun e => k0_pay204 (F := Ideal) (slot e (trA A (t.val + 1)))) y = outO Q K V C (((cfgA (F := Ideal)).win 3 |>.blk t).view.emb y) := by
  have hj := flushed t 3 (.inl rfl) hf
  have hi := i_lt t
  obtain ⟨a, z, rfl⟩ : ∃ (a : Fin 512) (z : Fin 1024), y = ix2 a z := ⟨y 0, y 1, by funext d; match d with | 0 => rfl | 1 => rfl⟩
  obtain ⟨z, hz⟩ := z
  obtain ⟨e, l, he, hl, rfl⟩ : ∃ e l, e < 16 ∧ l < 64 ∧ z = 64 * e + l := ⟨z / 64, z % 64, by omega, by omega, by omega⟩
  refine (res_at _ ⟨e, he⟩ a ⟨l, hl⟩).trans ((Tile.done_o (tr_done R t.val t.isLt ⟨e, he⟩ a) (by show 512 * ptI_ t + a.val < 512 * ptJ_ t + 512; omega)
    (by show 512 * ptJ_ t + 512 ≤ 4096; omega) ⟨l, hl⟩).trans ?_)
  have e0 : ((((cfgA (F := Ideal)).win 3 |>.blk t).view.emb (ix2 a (⟨64 * e + l, hz⟩ : Fin 1024)) : S4096x1024.Idx) 0).val = 512 * ptI_ t + a := by
    show cc0_transform_3 (F := Ideal) k0_off1_inb numel1_S1 pfA (grid0.coords t) 0 * 512 + 1 * a.val = _
    rw [tr3_eq]; show ptI_ t * 512 + 1 * a.val = _; omega
  have e1 : ((((cfgA (F := Ideal)).win 3 |>.blk t).view.emb (ix2 a (⟨64 * e + l, hz⟩ : Fin 1024)) : S4096x1024.Idx) 1).val = 64 * e + l := by
    show cc0_transform_3 (F := Ideal) k0_off1_inb numel1_S1 pfA (grid0.coords t) 1 * 1024 + 1 * (64 * e + l) = _
    rw [tr3_eq]; show 0 * 1024 + 1 * (64 * e + l) = _; omega
  unfold outO
  rw [e0, e1, div64 _ _ hl, mod64 _ _ hl]

include R in
theorem after4 (t : Fin grid0.N) (hf : ((cfgA (F := Ideal)).win 4).flush t = true) (y : S512x1024.Idx) :
    res (fun e => k0_pay205 (F := Ideal) (slot e (trA A (t.val + 1))) (slot e (trM A (t.val + 1)))) y = outL Q K C (((cfgA (F := Ideal)).win 4 |>.blk t).view.emb y) := by
  have hj := flushed t 4 (.inr rfl) hf
  have hi := i_lt t
  obtain ⟨a, z, rfl⟩ : ∃ (a : Fin 512) (z : Fin 1024), y = ix2 a z := ⟨y 0, y 1, by funext d; match d with | 0 => rfl | 1 => rfl⟩
  obtain ⟨z, hz⟩ := z
  obtain ⟨e, l, he, hl, rfl⟩ : ∃ e l, e < 16 ∧ l < 64 ∧ z = 64 * e + l := ⟨z / 64, z % 64, by omega, by omega, by omega⟩
  refine (res_at _ ⟨e, he⟩ a ⟨l, hl⟩).trans ((Tile.done_l (tr_done R t.val t.isLt ⟨e, he⟩ a) (by show 512 * ptI_ t + a.val < 512 * ptJ_ t + 512; omega)
    (by show 512 * ptJ_ t + 512 ≤ 4096; omega) ⟨l, hl⟩).trans ?_)
  have e0 : ((((cfgA (F := Ideal)).win 4 |>.blk t).view.emb (ix2 a (⟨64 * e + l, hz⟩ : Fin 1024)) : S4096x1024.Idx) 0).val = 512 * ptI_ t + a := by
    show cc0_transform_4 (F := Ideal) k0_off1_inb numel1_S1 pfA (grid0.coords t) 0 * 512 + 1 * a.val = _
    rw [tr4_eq]; show ptI_ t * 512 + 1 * a.val = _; omega
  have e1 : ((((cfgA (F := Ideal)).win 4 |>.blk t).view.emb (ix2 a (⟨64 * e + l, hz⟩ : Fin 1024)) : S4096x1024.Idx) 1).val = 64 * e + l := by
    show cc0_transform_4 (F := Ideal) k0_off1_inb numel1_S1 pfA (grid0.coords t) 1 * 1024 + 1 * (64 * e + l) = _
    rw [tr4_eq]; show 0 * 1024 + 1 * (64 * e + l) = _; omega
  unfold outL
  rw [e0, e1, div64 _ _ hl]
end

section
variable (m : (ℓ : Loc nD τ sig) → Buf (Elt Ideal) ℓ) (c : Dev nD) (Q K : ℕ → ℕ → ℕ → ℝ) (V : ℕ → ℕ → ℕ → EReal) (C : ℕ → ℕ → ℝ) (R : RealIn (A₀ m c) Q K V C)

include R in
theorem arr3 : (dats m 0 c).arrAt 3 (pcsA (F := Ideal) 0).N = outO Q K V C := by
  refine (dats m 0 c).arrAt_eq_of_covers 3 _ (by decide +kernel) fun t hf y => ?_
  rw [after_eq]
  exact after3 (A₀ m c) Q K V C R t hf y
include R in
theorem arr4 : (dats m 0 c).arrAt 4 (pcsA (F := Ideal) 0).N = outL Q K C := by
  refine (dats m 0 c).arrAt_eq_of_covers 4 _ (by decide +kernel) fun t hf y => ?_
  rw [after_eq]
  exact after4 (A₀ m c) Q K V C R t hf y
end

end Cert.Proof.Attn

end
-- ==== Proof.Attn.Equal.lean ====
/-
  On finite queries, keys and gates the forward call and the reference end with equal results.
-/
module

public import proofs.«01_k».proof.Proof.Attn.Frame
public import proofs.«01_k».proof.Proof.Attn.Traj
public import proofs.«01_k».proof.Proof.Finite

@[expose] public section

set_option maxRecDepth 16384

noncomputable section

namespace Cert.Proof.Attn

open Idealize.ShloMosaic TcCoe Idealize.SL.Sem
open Cert.Proof.Fox.Finite (both both_real val2 val3 val2_at val3_at)

section
open Cert.Pre_attn_finite Gen
variable (a b d : FVec Ideal S4096x16x64 .f32) (e : FVec Ideal S4096x16 .f32)

theorem fn_read (t : Fin 4096) (h : Fin 16) (l : Fin 64) : fn (F := Ideal) a b d e (ix3 t h l)
    = IntOp.andi (IntOp.andi (both (a (ix3 t h l))) (both (b (ix3 t h l)))) (both (e (ix2 t h))) := by
  pointwise [fn, fn_part1]
  rw [Fox.Ref.ninf, Fox.Ref.pinf]
  rfl

variable (H : fn (F := Ideal) a b d e = fun _ => 1#1)
include H
theorem split (t : Fin 4096) (h : Fin 16) (l : Fin 64) : (both (a (ix3 t h l)) = 1#1 ∧ both (b (ix3 t h l)) = 1#1) ∧ both (e (ix2 t h)) = 1#1 := by
  have h0 := (fn_read a b d e t h l).symm.trans (congrFun H (ix3 t h l))
  rwa [IntOp.andi_eq_one, IntOp.andi_eq_one] at h0
theorem real_q (t : Fin 4096) (h : Fin 16) (l : Fin 64) : a (ix3 t h l) = ((val3 a t h l : ℝ) : EReal) := val3_at a t h l (split a b d e H t h l).1.1
theorem real_k (t : Fin 4096) (h : Fin 16) (l : Fin 64) : b (ix3 t h l) = ((val3 b t h l : ℝ) : EReal) := val3_at b t h l (split a b d e H t h l).1.2
theorem real_c (t : Fin 4096) (h : Fin 16) : e (ix2 t h) = ((val2 e t h : ℝ) : EReal) := val2_at e t h (split a b d e H t h 0).2
end

open AttnIdeal AttnIdeal.Gen

/-- An array's entry at three numbers. -/
def at3 (v : FVec Ideal S4096x16x64 .f32) (t h l : ℕ) : EReal :=
  if c : t < 4096 ∧ h < 16 ∧ l < 64 then v (ix3 (⟨t, c.1⟩ : Fin 4096) (⟨h, c.2.1⟩ : Fin 16) (⟨l, c.2.2⟩ : Fin 64)) else 0
theorem at3_at (v : FVec Ideal S4096x16x64 .f32) (t : Fin 4096) (h : Fin 16) (l : Fin 64) : v (ix3 t h l) = at3 v t h l := by
  unfold at3
  rw [dif_pos ⟨t.2, h.2, l.2⟩]

theorem ext2 {α : Type} {f g : S4096x1024.Idx → α} (h : ∀ (t : Fin 4096) (x : Fin 1024), f (ix2 t x) = g (ix2 t x)) : f = g :=
  funext fun i => by
    have e : i = ix2 (i 0) (i 1) := funext fun d => match d with | 0 => rfl | 1 => rfl
    rw [e]; exact h (i 0) (i 1)

section
variable (m : (ℓ : Loc nD τ sig) → Buf (Elt Ideal) ℓ) (c : Dev nD)

section
variable {Q K : ℕ → ℕ → ℕ → ℝ} {V : ℕ → ℕ → ℕ → EReal} {C : ℕ → ℕ → ℝ}
  (hq : ∀ (t : Fin 4096) (h : Fin 16) (l : Fin 64), Host.aQ m c (ix3 t h l) = ((Q t h l : ℝ) : EReal))
  (hk : ∀ (t : Fin 4096) (h : Fin 16) (l : Fin 64), Host.aK m c (ix3 t h l) = ((K t h l : ℝ) : EReal))
  (hv : ∀ (t : Fin 4096) (h : Fin 16) (l : Fin 64), Host.aV m c (ix3 t h l) = V t h l)
  (hc : ∀ (t : Fin 4096) (h : Fin 16), Host.aC m c (ix2 t h) = ((C t h : ℝ) : EReal))

include hq hk hv hc in
/-- The arrays the pipeline reads. -/
theorem real_in : RealIn (A₀ m c) Q K V C where
  q t x := (congrFun (Host.V_qa m c) (ix2 t x)).trans (Fox.Host.qa_real hq hc t x)
  k t x := (congrFun (Host.V_ka m c) (ix2 t x)).trans (Fox.Host.ka_real hk hc t x)
  v t x hx := by
    refine (congrFun (Host.V_va m c) (ix2 t x)).trans ?_
    unfold Tile.VA
    rcases hx.lt_or_eq with h | h
    · rw [if_pos h, Fox.Host.hVA_read _ t x h, hv]
    · rw [if_neg (by omega)]; exact Host.va_one _ t x h
end

variable (r : PUnit × MemSt nD τ sig (Elt Ideal))
  (h : Pipeline.FramePost (pcsA (F := Ideal)) (dats m) 0 (Pipeline.afterTail pcfgs (fun _ => adm) (dats m) 0 (V₀ m) []) r)
  (H : Cert.Pre_attn_finite.fn (F := Ideal) (Host.aQ m c) (Host.aK m c) (Host.aV m c) (Host.aC m c) = fun _ => 1#1)
include h H
theorem kernel_o : r.2.mem ((c.tc : Thread nD τ).loc main_v28_0) = Host.gO (Host.aQ m c) (Host.aK m c) (Host.aV m c) (Host.aC m c) :=
  ((h c).1 3).trans ((arr3 m c _ _ _ _ (real_in m c (real_q _ _ _ _ H) (real_k _ _ _ _ H) (at3_at _) (real_c _ _ _ _ H))).trans
    (ext2 fun t x => (Host.gO_real (real_q _ _ _ _ H) (real_k _ _ _ _ H) (at3_at _) (real_c _ _ _ _ H) t x).symm))
theorem kernel_l : r.2.mem ((c.tc : Thread nD τ).loc main_v28_1) = Host.gL (Host.aQ m c) (Host.aK m c) (Host.aC m c) :=
  ((h c).1 4).trans ((arr4 m c _ _ _ _ (real_in m c (real_q _ _ _ _ H) (real_k _ _ _ _ H) (at3_at _) (real_c _ _ _ _ H))).trans
    (ext2 fun t x => (Host.gL_real (real_q _ _ _ _ H) (real_k _ _ _ _ H) (real_c _ _ _ _ H) t x).symm))
end

theorem equal : algebraic_AttnIdeal_AttnRefIdeal_pre_attn_finite := by
  intro m g m' g' H hargs
  refine ⟨fun c => Host.gO (Host.aQ m c) (Host.aK m c) (Host.aV m c) (Host.aC m c), fun c => Host.gL (Host.aQ m c) (Host.aK m c) (Host.aC m c), ?_, ?_⟩
  · refine (θ_run _ _ _).mono (fun r h c => ?_) (run_main m g)
    exact ⟨kernel_o m c r h.1 (H c), kernel_l m c r h.1 (H c),
      kept m r h.1 c main_arg0 (by decide) (by decide) (by decide), kept m r h.1 c main_arg1 (by decide) (by decide) (by decide),
      kept m r h.1 c main_arg2 (by decide) (by decide) (by decide), kept m r h.1 c main_arg3 (by decide) (by decide) (by decide)⟩
  · refine (θ_run _ _ _).mono (fun r h c => ?_) (Host.ref_run m' g')
    obtain ⟨e0, e1, e2, e3⟩ := hargs c
    obtain ⟨h0, h1, hk⟩ := h c
    refine ⟨h0.trans ?_, h1.trans ?_, hk⟩
    · rw [e0, e1, e2, e3]
    · rw [e0, e1, e3]

end Cert.Proof.Attn

end
-- ==== Proof.Adam.Shared.lean ====
/-
  One entry of an AdamW step.
-/
module

public import Idealize.ShloMosaic.Lib.Pipeline.ValueKit

@[expose] public section

noncomputable section

namespace Cert.Proof.Adam

open Idealize.ShloMosaic

/-- The new mean of an entry's gradient `g`, from the old one. -/
def mean (g m : Ideal .f32) : Ideal .f32 :=
  FloatOps.addf (FloatOps.mulf (Scalar.ofBits .f32 0x3F666666#32) m) (FloatOps.mulf (Scalar.ofBits .f32 0x3DCCCCCD#32) g)
/-- The new mean of its square. -/
def square (g v : Ideal .f32) : Ideal .f32 :=
  FloatOps.addf (FloatOps.mulf (Scalar.ofBits .f32 0x3F7FBE77#32) v) (FloatOps.mulf (Scalar.ofBits .f32 0x3A83126F#32) (FloatOps.mulf g g))
/-- The change of the weight `w`. -/
def change (w g m v : Ideal .f32) : Ideal .f32 :=
  FloatOps.mulf (Scalar.ofBits .f32 0xBA83126F#32) (FloatOps.addf
    (FloatOps.divf (FloatOps.divf (mean g m) (Scalar.ofBits .f32 0x3F26BD02#32))
      (FloatOps.addf (FloatOps.sqrt (FloatOps.divf (square g v) (Scalar.ofBits .f32 0x3C231ACC#32))) (Scalar.ofBits .f32 0x322BCC77#32)))
    (FloatOps.mulf (Scalar.ofBits .f32 0x3C23D70A#32) w))

theorem zero : (![0, 0] : Fin 2 → ℕ) = fun _ => 0 := funext fun d => match d with | 0 => rfl | 1 => rfl

end Cert.Proof.Adam

end
-- ==== Proof.Adam.Rows.lean ====
/-
  The AdamW step of the weights the call reshapes to rows: kernel and reference end with equal results.
-/
module

public import proofs.«01_k».proof.Defs
public import proofs.«01_k».proof.Proof.Adam.Shared
public import proofs.«01_k».proof.Proof.Gen.AdamAdaW.Frame
public import proofs.«01_k».proof.Proof.Gen.AdamAdaWIdeal.Value
public import proofs.«01_k».proof.Proof.Gen.AdamAdaWRefIdeal.Run
public import proofs.«01_k».proof.Proof.Gen.AdamAWIn.Frame
public import proofs.«01_k».proof.Proof.Gen.AdamAWInIdeal.Value
public import proofs.«01_k».proof.Proof.Gen.AdamAWInRefIdeal.Run
public import proofs.«01_k».proof.Proof.Gen.AdamAConvW.Frame
public import proofs.«01_k».proof.Proof.Gen.AdamAConvWIdeal.Value
public import proofs.«01_k».proof.Proof.Gen.AdamAConvWRefIdeal.Run
public import proofs.«01_k».proof.Proof.Gen.AdamAWOut.Frame
public import proofs.«01_k».proof.Proof.Gen.AdamAWOutIdeal.Value
public import proofs.«01_k».proof.Proof.Gen.AdamAWOutRefIdeal.Run
public import proofs.«01_k».proof.Proof.Gen.AdamBWIn.Frame
public import proofs.«01_k».proof.Proof.Gen.AdamBWInIdeal.Value
public import proofs.«01_k».proof.Proof.Gen.AdamBWInRefIdeal.Run
public import proofs.«01_k».proof.Proof.Gen.AdamBWOut.Frame
public import proofs.«01_k».proof.Proof.Gen.AdamBWOutIdeal.Value
public import proofs.«01_k».proof.Proof.Gen.AdamBWOutRefIdeal.Run
public import proofs.«01_k».proof.Proof.Gen.AdamFinalNormW.Frame
public import proofs.«01_k».proof.Proof.Gen.AdamFinalNormWIdeal.Value
public import proofs.«01_k».proof.Proof.Gen.AdamFinalNormWRefIdeal.Run
public import Idealize.ShloMosaic.Lib.StableHlo.RunRead

@[expose] public section

noncomputable section

open Idealize.ShloMosaic TcCoe Idealize.SL.Sem Cert.Proof.Adam

namespace Cert.Proof.AdamAdaW

open AdamAdaWIdeal Gen Value

theorem frame_bits : quiescent_AdamAdaW := fun m g _ => AdamAdaW.Gen.frame m g
theorem frame_ideal : quiescent_AdamAdaWIdeal := fun m g _ => Gen.frame m g
theorem frame_ref : quiescent_AdamAdaWRefIdeal := fun m g _ => (θ_run _ _ _).mono
  (fun r h => ⟨fun c => (h c).2.2.2, sem_eq_zero_of_no_sems (by decide) r.2⟩) (AdamAdaWRefIdeal.Value.run m g)

theorem equal : algebraic_AdamAdaWIdeal_AdamAdaWRefIdeal := by
  intro m g m' g' _ ha
  refine ⟨fun c x => change (V m c main_v1 x) (V m c main_v2 x) (V m c main_v3 x) (V m c main_v4 x), fun c x => mean (V m c main_v2 x) (V m c main_v3 x),
    fun c x => Adam.square (V m c main_v2 x) (V m c main_v4 x), (θ_run _ _ _).mono (fun r h c =>
    ⟨(h c).1.trans ((dats m 0 c).arrAt_eq_of_covers 4 _ (by decide +kernel) fun t _ y => ?_),
    (h c).2.1.trans ((dats m 0 c).arrAt_eq_of_covers 5 _ (by decide +kernel) fun t _ y => ?_),
    (h c).2.2.1.trans ((dats m 0 c).arrAt_eq_of_covers 6 _ (by decide +kernel) fun t _ y => ?_), (h c).2.2.2⟩) (run_blocks m g),
    (θ_run _ _ _).mono (fun r h c => ?_) (AdamAdaWRefIdeal.Value.run m' g')⟩
  · obtain ⟨e0, e1, e2, e3⟩ := ha c
    refine ⟨(h c).1.trans ?_, (h c).2.1.trans ?_, (h c).2.2.1.trans ?_, (h c).2.2.2⟩
    · unfold V; after_reads_simp; rw [e0, e1, e2, e3]; rfl
    · unfold V; after_reads_simp; rw [e1, e2]; rfl
    · unfold V; after_reads_simp; rw [e1, e3]; rfl
  · rw [after0_4]; unfold out0_4; rw [View.canon_unit_zero zero]; repeat rw [View.ld_unit_zero zero]
    rw [lay4_0_eq]; simp only [shapeCast_self]; rfl
  · rw [after0_5]; unfold out0_5; rw [View.canon_unit_zero zero]; repeat rw [View.ld_unit_zero zero]
    rw [lay5_0_eq]; simp only [shapeCast_self]; rfl
  · rw [after0_6]; unfold out0_6; rw [View.canon_unit_zero zero]; repeat rw [View.ld_unit_zero zero]
    rw [lay6_0_eq]; simp only [shapeCast_self]; rfl

end Cert.Proof.AdamAdaW

namespace Cert.Proof.AdamAWIn

open AdamAWInIdeal Gen Value

theorem frame_bits : quiescent_AdamAWIn := fun m g _ => AdamAWIn.Gen.frame m g
theorem frame_ideal : quiescent_AdamAWInIdeal := fun m g _ => Gen.frame m g
theorem frame_ref : quiescent_AdamAWInRefIdeal := fun m g _ => (θ_run _ _ _).mono
  (fun r h => ⟨fun c => (h c).2.2.2, sem_eq_zero_of_no_sems (by decide) r.2⟩) (AdamAWInRefIdeal.Value.run m g)

theorem equal : algebraic_AdamAWInIdeal_AdamAWInRefIdeal := by
  intro m g m' g' _ ha
  refine ⟨fun c x => change (V m c main_v1 x) (V m c main_v2 x) (V m c main_v3 x) (V m c main_v4 x), fun c x => mean (V m c main_v2 x) (V m c main_v3 x),
    fun c x => Adam.square (V m c main_v2 x) (V m c main_v4 x), (θ_run _ _ _).mono (fun r h c =>
    ⟨(h c).1.trans ((dats m 0 c).arrAt_eq_of_covers 4 _ (by decide +kernel) fun t _ y => ?_),
    (h c).2.1.trans ((dats m 0 c).arrAt_eq_of_covers 5 _ (by decide +kernel) fun t _ y => ?_),
    (h c).2.2.1.trans ((dats m 0 c).arrAt_eq_of_covers 6 _ (by decide +kernel) fun t _ y => ?_), (h c).2.2.2⟩) (run_blocks m g),
    (θ_run _ _ _).mono (fun r h c => ?_) (AdamAWInRefIdeal.Value.run m' g')⟩
  · obtain ⟨e0, e1, e2, e3⟩ := ha c
    refine ⟨(h c).1.trans ?_, (h c).2.1.trans ?_, (h c).2.2.1.trans ?_, (h c).2.2.2⟩
    · unfold V; after_reads_simp; rw [e0, e1, e2, e3]; rfl
    · unfold V; after_reads_simp; rw [e1, e2]; rfl
    · unfold V; after_reads_simp; rw [e1, e3]; rfl
  · rw [after0_4]; unfold out0_4; rw [View.canon_unit_zero zero]; repeat rw [View.ld_unit_zero zero]
    rw [lay4_0_eq]; simp only [shapeCast_self]; rfl
  · rw [after0_5]; unfold out0_5; rw [View.canon_unit_zero zero]; repeat rw [View.ld_unit_zero zero]
    rw [lay5_0_eq]; simp only [shapeCast_self]; rfl
  · rw [after0_6]; unfold out0_6; rw [View.canon_unit_zero zero]; repeat rw [View.ld_unit_zero zero]
    rw [lay6_0_eq]; simp only [shapeCast_self]; rfl

end Cert.Proof.AdamAWIn

namespace Cert.Proof.AdamAConvW

open AdamAConvWIdeal Gen Value

theorem frame_bits : quiescent_AdamAConvW := fun m g _ => AdamAConvW.Gen.frame m g
theorem frame_ideal : quiescent_AdamAConvWIdeal := fun m g _ => Gen.frame m g
theorem frame_ref : quiescent_AdamAConvWRefIdeal := fun m g _ => (θ_run _ _ _).mono
  (fun r h => ⟨fun c => (h c).2.2.2, sem_eq_zero_of_no_sems (by decide) r.2⟩) (AdamAConvWRefIdeal.Value.run m g)

theorem equal : algebraic_AdamAConvWIdeal_AdamAConvWRefIdeal := by
  intro m g m' g' _ ha
  refine ⟨fun c x => change (V m c main_v1 x) (V m c main_v2 x) (V m c main_v3 x) (V m c main_v4 x), fun c x => mean (V m c main_v2 x) (V m c main_v3 x),
    fun c x => Adam.square (V m c main_v2 x) (V m c main_v4 x), (θ_run _ _ _).mono (fun r h c =>
    ⟨(h c).1.trans ((dats m 0 c).arrAt_eq_of_covers 4 _ (by decide +kernel) fun t _ y => ?_),
    (h c).2.1.trans ((dats m 0 c).arrAt_eq_of_covers 5 _ (by decide +kernel) fun t _ y => ?_),
    (h c).2.2.1.trans ((dats m 0 c).arrAt_eq_of_covers 6 _ (by decide +kernel) fun t _ y => ?_), (h c).2.2.2⟩) (run_blocks m g),
    (θ_run _ _ _).mono (fun r h c => ?_) (AdamAConvWRefIdeal.Value.run m' g')⟩
  · obtain ⟨e0, e1, e2, e3⟩ := ha c
    refine ⟨(h c).1.trans ?_, (h c).2.1.trans ?_, (h c).2.2.1.trans ?_, (h c).2.2.2⟩
    · unfold V; after_reads_simp; rw [e0, e1, e2, e3]; rfl
    · unfold V; after_reads_simp; rw [e1, e2]; rfl
    · unfold V; after_reads_simp; rw [e1, e3]; rfl
  · rw [after0_4]; unfold out0_4; rw [View.canon_unit_zero zero]; repeat rw [View.ld_unit_zero zero]
    rw [lay4_0_eq]; simp only [shapeCast_self]; rfl
  · rw [after0_5]; unfold out0_5; rw [View.canon_unit_zero zero]; repeat rw [View.ld_unit_zero zero]
    rw [lay5_0_eq]; simp only [shapeCast_self]; rfl
  · rw [after0_6]; unfold out0_6; rw [View.canon_unit_zero zero]; repeat rw [View.ld_unit_zero zero]
    rw [lay6_0_eq]; simp only [shapeCast_self]; rfl

end Cert.Proof.AdamAConvW

namespace Cert.Proof.AdamAWOut

open AdamAWOutIdeal Gen Value

theorem frame_bits : quiescent_AdamAWOut := fun m g _ => AdamAWOut.Gen.frame m g
theorem frame_ideal : quiescent_AdamAWOutIdeal := fun m g _ => Gen.frame m g
theorem frame_ref : quiescent_AdamAWOutRefIdeal := fun m g _ => (θ_run _ _ _).mono
  (fun r h => ⟨fun c => (h c).2.2.2, sem_eq_zero_of_no_sems (by decide) r.2⟩) (AdamAWOutRefIdeal.Value.run m g)

theorem equal : algebraic_AdamAWOutIdeal_AdamAWOutRefIdeal := by
  intro m g m' g' _ ha
  refine ⟨fun c x => change (V m c main_v1 x) (V m c main_v2 x) (V m c main_v3 x) (V m c main_v4 x), fun c x => mean (V m c main_v2 x) (V m c main_v3 x),
    fun c x => Adam.square (V m c main_v2 x) (V m c main_v4 x), (θ_run _ _ _).mono (fun r h c =>
    ⟨(h c).1.trans ((dats m 0 c).arrAt_eq_of_covers 4 _ (by decide +kernel) fun t _ y => ?_),
    (h c).2.1.trans ((dats m 0 c).arrAt_eq_of_covers 5 _ (by decide +kernel) fun t _ y => ?_),
    (h c).2.2.1.trans ((dats m 0 c).arrAt_eq_of_covers 6 _ (by decide +kernel) fun t _ y => ?_), (h c).2.2.2⟩) (run_blocks m g),
    (θ_run _ _ _).mono (fun r h c => ?_) (AdamAWOutRefIdeal.Value.run m' g')⟩
  · obtain ⟨e0, e1, e2, e3⟩ := ha c
    refine ⟨(h c).1.trans ?_, (h c).2.1.trans ?_, (h c).2.2.1.trans ?_, (h c).2.2.2⟩
    · unfold V; after_reads_simp; rw [e0, e1, e2, e3]; rfl
    · unfold V; after_reads_simp; rw [e1, e2]; rfl
    · unfold V; after_reads_simp; rw [e1, e3]; rfl
  · rw [after0_4]; unfold out0_4; rw [View.canon_unit_zero zero]; repeat rw [View.ld_unit_zero zero]
    rw [lay4_0_eq]; simp only [shapeCast_self]; rfl
  · rw [after0_5]; unfold out0_5; rw [View.canon_unit_zero zero]; repeat rw [View.ld_unit_zero zero]
    rw [lay5_0_eq]; simp only [shapeCast_self]; rfl
  · rw [after0_6]; unfold out0_6; rw [View.canon_unit_zero zero]; repeat rw [View.ld_unit_zero zero]
    rw [lay6_0_eq]; simp only [shapeCast_self]; rfl

end Cert.Proof.AdamAWOut

namespace Cert.Proof.AdamBWIn

open AdamBWInIdeal Gen Value

theorem frame_bits : quiescent_AdamBWIn := fun m g _ => AdamBWIn.Gen.frame m g
theorem frame_ideal : quiescent_AdamBWInIdeal := fun m g _ => Gen.frame m g
theorem frame_ref : quiescent_AdamBWInRefIdeal := fun m g _ => (θ_run _ _ _).mono
  (fun r h => ⟨fun c => (h c).2.2.2, sem_eq_zero_of_no_sems (by decide) r.2⟩) (AdamBWInRefIdeal.Value.run m g)

theorem equal : algebraic_AdamBWInIdeal_AdamBWInRefIdeal := by
  intro m g m' g' _ ha
  refine ⟨fun c x => change (V m c main_v1 x) (V m c main_v2 x) (V m c main_v3 x) (V m c main_v4 x), fun c x => mean (V m c main_v2 x) (V m c main_v3 x),
    fun c x => Adam.square (V m c main_v2 x) (V m c main_v4 x), (θ_run _ _ _).mono (fun r h c =>
    ⟨(h c).1.trans ((dats m 0 c).arrAt_eq_of_covers 4 _ (by decide +kernel) fun t _ y => ?_),
    (h c).2.1.trans ((dats m 0 c).arrAt_eq_of_covers 5 _ (by decide +kernel) fun t _ y => ?_),
    (h c).2.2.1.trans ((dats m 0 c).arrAt_eq_of_covers 6 _ (by decide +kernel) fun t _ y => ?_), (h c).2.2.2⟩) (run_blocks m g),
    (θ_run _ _ _).mono (fun r h c => ?_) (AdamBWInRefIdeal.Value.run m' g')⟩
  · obtain ⟨e0, e1, e2, e3⟩ := ha c
    refine ⟨(h c).1.trans ?_, (h c).2.1.trans ?_, (h c).2.2.1.trans ?_, (h c).2.2.2⟩
    · unfold V; after_reads_simp; rw [e0, e1, e2, e3]; rfl
    · unfold V; after_reads_simp; rw [e1, e2]; rfl
    · unfold V; after_reads_simp; rw [e1, e3]; rfl
  · rw [after0_4]; unfold out0_4; rw [View.canon_unit_zero zero]; repeat rw [View.ld_unit_zero zero]
    rw [lay4_0_eq]; simp only [shapeCast_self]; rfl
  · rw [after0_5]; unfold out0_5; rw [View.canon_unit_zero zero]; repeat rw [View.ld_unit_zero zero]
    rw [lay5_0_eq]; simp only [shapeCast_self]; rfl
  · rw [after0_6]; unfold out0_6; rw [View.canon_unit_zero zero]; repeat rw [View.ld_unit_zero zero]
    rw [lay6_0_eq]; simp only [shapeCast_self]; rfl

end Cert.Proof.AdamBWIn

namespace Cert.Proof.AdamBWOut

open AdamBWOutIdeal Gen Value

theorem frame_bits : quiescent_AdamBWOut := fun m g _ => AdamBWOut.Gen.frame m g
theorem frame_ideal : quiescent_AdamBWOutIdeal := fun m g _ => Gen.frame m g
theorem frame_ref : quiescent_AdamBWOutRefIdeal := fun m g _ => (θ_run _ _ _).mono
  (fun r h => ⟨fun c => (h c).2.2.2, sem_eq_zero_of_no_sems (by decide) r.2⟩) (AdamBWOutRefIdeal.Value.run m g)

theorem equal : algebraic_AdamBWOutIdeal_AdamBWOutRefIdeal := by
  intro m g m' g' _ ha
  refine ⟨fun c x => change (V m c main_v1 x) (V m c main_v2 x) (V m c main_v3 x) (V m c main_v4 x), fun c x => mean (V m c main_v2 x) (V m c main_v3 x),
    fun c x => Adam.square (V m c main_v2 x) (V m c main_v4 x), (θ_run _ _ _).mono (fun r h c =>
    ⟨(h c).1.trans ((dats m 0 c).arrAt_eq_of_covers 4 _ (by decide +kernel) fun t _ y => ?_),
    (h c).2.1.trans ((dats m 0 c).arrAt_eq_of_covers 5 _ (by decide +kernel) fun t _ y => ?_),
    (h c).2.2.1.trans ((dats m 0 c).arrAt_eq_of_covers 6 _ (by decide +kernel) fun t _ y => ?_), (h c).2.2.2⟩) (run_blocks m g),
    (θ_run _ _ _).mono (fun r h c => ?_) (AdamBWOutRefIdeal.Value.run m' g')⟩
  · obtain ⟨e0, e1, e2, e3⟩ := ha c
    refine ⟨(h c).1.trans ?_, (h c).2.1.trans ?_, (h c).2.2.1.trans ?_, (h c).2.2.2⟩
    · unfold V; after_reads_simp; rw [e0, e1, e2, e3]; rfl
    · unfold V; after_reads_simp; rw [e1, e2]; rfl
    · unfold V; after_reads_simp; rw [e1, e3]; rfl
  · rw [after0_4]; unfold out0_4; rw [View.canon_unit_zero zero]; repeat rw [View.ld_unit_zero zero]
    rw [lay4_0_eq]; simp only [shapeCast_self]; rfl
  · rw [after0_5]; unfold out0_5; rw [View.canon_unit_zero zero]; repeat rw [View.ld_unit_zero zero]
    rw [lay5_0_eq]; simp only [shapeCast_self]; rfl
  · rw [after0_6]; unfold out0_6; rw [View.canon_unit_zero zero]; repeat rw [View.ld_unit_zero zero]
    rw [lay6_0_eq]; simp only [shapeCast_self]; rfl

end Cert.Proof.AdamBWOut

namespace Cert.Proof.AdamFinalNormW

open AdamFinalNormWIdeal Gen Value

theorem frame_bits : quiescent_AdamFinalNormW := fun m g _ => AdamFinalNormW.Gen.frame m g
theorem frame_ideal : quiescent_AdamFinalNormWIdeal := fun m g _ => Gen.frame m g
theorem frame_ref : quiescent_AdamFinalNormWRefIdeal := fun m g _ => (θ_run _ _ _).mono
  (fun r h => ⟨fun c => (h c).2.2.2, sem_eq_zero_of_no_sems (by decide) r.2⟩) (AdamFinalNormWRefIdeal.Value.run m g)

theorem equal : algebraic_AdamFinalNormWIdeal_AdamFinalNormWRefIdeal := by
  intro m g m' g' _ ha
  refine ⟨fun c x => change (V m c main_v1 x) (V m c main_v2 x) (V m c main_v3 x) (V m c main_v4 x), fun c x => mean (V m c main_v2 x) (V m c main_v3 x),
    fun c x => Adam.square (V m c main_v2 x) (V m c main_v4 x), (θ_run _ _ _).mono (fun r h c =>
    ⟨(h c).1.trans ((dats m 0 c).arrAt_eq_of_covers 4 _ (by decide +kernel) fun t _ y => ?_),
    (h c).2.1.trans ((dats m 0 c).arrAt_eq_of_covers 5 _ (by decide +kernel) fun t _ y => ?_),
    (h c).2.2.1.trans ((dats m 0 c).arrAt_eq_of_covers 6 _ (by decide +kernel) fun t _ y => ?_), (h c).2.2.2⟩) (run_blocks m g),
    (θ_run _ _ _).mono (fun r h c => ?_) (AdamFinalNormWRefIdeal.Value.run m' g')⟩
  · obtain ⟨e0, e1, e2, e3⟩ := ha c
    refine ⟨(h c).1.trans ?_, (h c).2.1.trans ?_, (h c).2.2.1.trans ?_, (h c).2.2.2⟩
    · unfold V; after_reads_simp; rw [e0, e1, e2, e3]; rfl
    · unfold V; after_reads_simp; rw [e1, e2]; rfl
    · unfold V; after_reads_simp; rw [e1, e3]; rfl
  · rw [after0_4]; unfold out0_4; rw [View.canon_unit_zero zero]; repeat rw [View.ld_unit_zero zero]
    rw [lay4_0_eq]; simp only [shapeCast_self]; rfl
  · rw [after0_5]; unfold out0_5; rw [View.canon_unit_zero zero]; repeat rw [View.ld_unit_zero zero]
    rw [lay5_0_eq]; simp only [shapeCast_self]; rfl
  · rw [after0_6]; unfold out0_6; rw [View.canon_unit_zero zero]; repeat rw [View.ld_unit_zero zero]
    rw [lay6_0_eq]; simp only [shapeCast_self]; rfl

end Cert.Proof.AdamFinalNormW

end
-- ==== Proof.Adam.Plain.lean ====
/-
  The AdamW step of the weights the call takes as they are: kernel and reference end with equal results.
-/
module

public import proofs.«01_k».proof.Defs
public import proofs.«01_k».proof.Proof.Adam.Shared
public import proofs.«01_k».proof.Proof.Gen.AdamNormW.Frame
public import proofs.«01_k».proof.Proof.Gen.AdamNormWIdeal.Value
public import proofs.«01_k».proof.Proof.Gen.AdamNormWRefIdeal.Run
public import proofs.«01_k».proof.Proof.Gen.AdamAdaB.Frame
public import proofs.«01_k».proof.Proof.Gen.AdamAdaBIdeal.Value
public import proofs.«01_k».proof.Proof.Gen.AdamAdaBRefIdeal.Run
public import proofs.«01_k».proof.Proof.Gen.AdamAALog.Frame
public import proofs.«01_k».proof.Proof.Gen.AdamAALogIdeal.Value
public import proofs.«01_k».proof.Proof.Gen.AdamAALogRefIdeal.Run
public import proofs.«01_k».proof.Proof.Gen.AdamANormW.Frame
public import proofs.«01_k».proof.Proof.Gen.AdamANormWIdeal.Value
public import proofs.«01_k».proof.Proof.Gen.AdamANormWRefIdeal.Run
public import proofs.«01_k».proof.Proof.Gen.AdamBQnW.Frame
public import proofs.«01_k».proof.Proof.Gen.AdamBQnWIdeal.Value
public import proofs.«01_k».proof.Proof.Gen.AdamBQnWRefIdeal.Run
public import Idealize.ShloMosaic.Lib.StableHlo.RunRead

@[expose] public section

noncomputable section

open Idealize.ShloMosaic TcCoe Idealize.SL.Sem Cert.Proof.Adam

namespace Cert.Proof.AdamNormW

open AdamNormWIdeal Gen Value

theorem frame_bits : quiescent_AdamNormW := fun m g _ => AdamNormW.Gen.frame m g
theorem frame_ideal : quiescent_AdamNormWIdeal := fun m g _ => Gen.frame m g
theorem frame_ref : quiescent_AdamNormWRefIdeal := fun m g _ => (θ_run _ _ _).mono
  (fun r h => ⟨fun c => (h c).2.2.2, sem_eq_zero_of_no_sems (by decide) r.2⟩) (AdamNormWRefIdeal.Value.run m g)

theorem equal : algebraic_AdamNormWIdeal_AdamNormWRefIdeal := by
  intro m g m' g' _ ha
  refine ⟨fun c x => change (V m c main_arg0 x) (V m c main_arg1 x) (V m c main_arg2 x) (V m c main_arg3 x), fun c x => mean (V m c main_arg1 x) (V m c main_arg2 x),
    fun c x => Adam.square (V m c main_arg1 x) (V m c main_arg3 x), (θ_run _ _ _).mono (fun r h c =>
    ⟨(h c).1.trans ((dats m 0 c).arrAt_eq_of_covers 4 _ (by decide +kernel) fun t _ y => ?_),
    (h c).2.1.trans ((dats m 0 c).arrAt_eq_of_covers 5 _ (by decide +kernel) fun t _ y => ?_),
    (h c).2.2.1.trans ((dats m 0 c).arrAt_eq_of_covers 6 _ (by decide +kernel) fun t _ y => ?_), (h c).2.2.2⟩) (run_blocks m g),
    (θ_run _ _ _).mono (fun r h c => ?_) (AdamNormWRefIdeal.Value.run m' g')⟩
  · obtain ⟨e0, e1, e2, e3⟩ := ha c
    refine ⟨(h c).1.trans ?_, (h c).2.1.trans ?_, (h c).2.2.1.trans ?_, (h c).2.2.2⟩
    · beta_reduce; rw [V_main_arg0, V_main_arg1, V_main_arg2, V_main_arg3, e0, e1, e2, e3]; rfl
    · beta_reduce; rw [V_main_arg1, V_main_arg2, e1, e2]; rfl
    · beta_reduce; rw [V_main_arg1, V_main_arg3, e1, e3]; rfl
  · rw [after0_4]; unfold out0_4; rw [View.canon_unit_zero zero]; repeat rw [View.ld_unit_zero zero]
    rfl
  · rw [after0_5]; unfold out0_5; rw [View.canon_unit_zero zero]; repeat rw [View.ld_unit_zero zero]
    rfl
  · rw [after0_6]; unfold out0_6; rw [View.canon_unit_zero zero]; repeat rw [View.ld_unit_zero zero]
    rfl

end Cert.Proof.AdamNormW

namespace Cert.Proof.AdamAdaB

open AdamAdaBIdeal Gen Value

theorem frame_bits : quiescent_AdamAdaB := fun m g _ => AdamAdaB.Gen.frame m g
theorem frame_ideal : quiescent_AdamAdaBIdeal := fun m g _ => Gen.frame m g
theorem frame_ref : quiescent_AdamAdaBRefIdeal := fun m g _ => (θ_run _ _ _).mono
  (fun r h => ⟨fun c => (h c).2.2.2, sem_eq_zero_of_no_sems (by decide) r.2⟩) (AdamAdaBRefIdeal.Value.run m g)

theorem equal : algebraic_AdamAdaBIdeal_AdamAdaBRefIdeal := by
  intro m g m' g' _ ha
  refine ⟨fun c x => change (V m c main_arg0 x) (V m c main_arg1 x) (V m c main_arg2 x) (V m c main_arg3 x), fun c x => mean (V m c main_arg1 x) (V m c main_arg2 x),
    fun c x => Adam.square (V m c main_arg1 x) (V m c main_arg3 x), (θ_run _ _ _).mono (fun r h c =>
    ⟨(h c).1.trans ((dats m 0 c).arrAt_eq_of_covers 4 _ (by decide +kernel) fun t _ y => ?_),
    (h c).2.1.trans ((dats m 0 c).arrAt_eq_of_covers 5 _ (by decide +kernel) fun t _ y => ?_),
    (h c).2.2.1.trans ((dats m 0 c).arrAt_eq_of_covers 6 _ (by decide +kernel) fun t _ y => ?_), (h c).2.2.2⟩) (run_blocks m g),
    (θ_run _ _ _).mono (fun r h c => ?_) (AdamAdaBRefIdeal.Value.run m' g')⟩
  · obtain ⟨e0, e1, e2, e3⟩ := ha c
    refine ⟨(h c).1.trans ?_, (h c).2.1.trans ?_, (h c).2.2.1.trans ?_, (h c).2.2.2⟩
    · beta_reduce; rw [V_main_arg0, V_main_arg1, V_main_arg2, V_main_arg3, e0, e1, e2, e3]; rfl
    · beta_reduce; rw [V_main_arg1, V_main_arg2, e1, e2]; rfl
    · beta_reduce; rw [V_main_arg1, V_main_arg3, e1, e3]; rfl
  · rw [after0_4]; unfold out0_4; rw [View.canon_unit_zero zero]; repeat rw [View.ld_unit_zero zero]
    rfl
  · rw [after0_5]; unfold out0_5; rw [View.canon_unit_zero zero]; repeat rw [View.ld_unit_zero zero]
    rfl
  · rw [after0_6]; unfold out0_6; rw [View.canon_unit_zero zero]; repeat rw [View.ld_unit_zero zero]
    rfl

end Cert.Proof.AdamAdaB

namespace Cert.Proof.AdamAALog

open AdamAALogIdeal Gen Value

theorem frame_bits : quiescent_AdamAALog := fun m g _ => AdamAALog.Gen.frame m g
theorem frame_ideal : quiescent_AdamAALogIdeal := fun m g _ => Gen.frame m g
theorem frame_ref : quiescent_AdamAALogRefIdeal := fun m g _ => (θ_run _ _ _).mono
  (fun r h => ⟨fun c => (h c).2.2.2, sem_eq_zero_of_no_sems (by decide) r.2⟩) (AdamAALogRefIdeal.Value.run m g)

theorem equal : algebraic_AdamAALogIdeal_AdamAALogRefIdeal := by
  intro m g m' g' _ ha
  refine ⟨fun c x => change (V m c main_arg0 x) (V m c main_arg1 x) (V m c main_arg2 x) (V m c main_arg3 x), fun c x => mean (V m c main_arg1 x) (V m c main_arg2 x),
    fun c x => Adam.square (V m c main_arg1 x) (V m c main_arg3 x), (θ_run _ _ _).mono (fun r h c =>
    ⟨(h c).1.trans ((dats m 0 c).arrAt_eq_of_covers 4 _ (by decide +kernel) fun t _ y => ?_),
    (h c).2.1.trans ((dats m 0 c).arrAt_eq_of_covers 5 _ (by decide +kernel) fun t _ y => ?_),
    (h c).2.2.1.trans ((dats m 0 c).arrAt_eq_of_covers 6 _ (by decide +kernel) fun t _ y => ?_), (h c).2.2.2⟩) (run_blocks m g),
    (θ_run _ _ _).mono (fun r h c => ?_) (AdamAALogRefIdeal.Value.run m' g')⟩
  · obtain ⟨e0, e1, e2, e3⟩ := ha c
    refine ⟨(h c).1.trans ?_, (h c).2.1.trans ?_, (h c).2.2.1.trans ?_, (h c).2.2.2⟩
    · beta_reduce; rw [V_main_arg0, V_main_arg1, V_main_arg2, V_main_arg3, e0, e1, e2, e3]; rfl
    · beta_reduce; rw [V_main_arg1, V_main_arg2, e1, e2]; rfl
    · beta_reduce; rw [V_main_arg1, V_main_arg3, e1, e3]; rfl
  · rw [after0_4]; unfold out0_4; rw [View.canon_unit_zero zero]; repeat rw [View.ld_unit_zero zero]
    rfl
  · rw [after0_5]; unfold out0_5; rw [View.canon_unit_zero zero]; repeat rw [View.ld_unit_zero zero]
    rfl
  · rw [after0_6]; unfold out0_6; rw [View.canon_unit_zero zero]; repeat rw [View.ld_unit_zero zero]
    rfl

end Cert.Proof.AdamAALog

namespace Cert.Proof.AdamANormW

open AdamANormWIdeal Gen Value

theorem frame_bits : quiescent_AdamANormW := fun m g _ => AdamANormW.Gen.frame m g
theorem frame_ideal : quiescent_AdamANormWIdeal := fun m g _ => Gen.frame m g
theorem frame_ref : quiescent_AdamANormWRefIdeal := fun m g _ => (θ_run _ _ _).mono
  (fun r h => ⟨fun c => (h c).2.2.2, sem_eq_zero_of_no_sems (by decide) r.2⟩) (AdamANormWRefIdeal.Value.run m g)

theorem equal : algebraic_AdamANormWIdeal_AdamANormWRefIdeal := by
  intro m g m' g' _ ha
  refine ⟨fun c x => change (V m c main_arg0 x) (V m c main_arg1 x) (V m c main_arg2 x) (V m c main_arg3 x), fun c x => mean (V m c main_arg1 x) (V m c main_arg2 x),
    fun c x => Adam.square (V m c main_arg1 x) (V m c main_arg3 x), (θ_run _ _ _).mono (fun r h c =>
    ⟨(h c).1.trans ((dats m 0 c).arrAt_eq_of_covers 4 _ (by decide +kernel) fun t _ y => ?_),
    (h c).2.1.trans ((dats m 0 c).arrAt_eq_of_covers 5 _ (by decide +kernel) fun t _ y => ?_),
    (h c).2.2.1.trans ((dats m 0 c).arrAt_eq_of_covers 6 _ (by decide +kernel) fun t _ y => ?_), (h c).2.2.2⟩) (run_blocks m g),
    (θ_run _ _ _).mono (fun r h c => ?_) (AdamANormWRefIdeal.Value.run m' g')⟩
  · obtain ⟨e0, e1, e2, e3⟩ := ha c
    refine ⟨(h c).1.trans ?_, (h c).2.1.trans ?_, (h c).2.2.1.trans ?_, (h c).2.2.2⟩
    · beta_reduce; rw [V_main_arg0, V_main_arg1, V_main_arg2, V_main_arg3, e0, e1, e2, e3]; rfl
    · beta_reduce; rw [V_main_arg1, V_main_arg2, e1, e2]; rfl
    · beta_reduce; rw [V_main_arg1, V_main_arg3, e1, e3]; rfl
  · rw [after0_4]; unfold out0_4; rw [View.canon_unit_zero zero]; repeat rw [View.ld_unit_zero zero]
    rfl
  · rw [after0_5]; unfold out0_5; rw [View.canon_unit_zero zero]; repeat rw [View.ld_unit_zero zero]
    rfl
  · rw [after0_6]; unfold out0_6; rw [View.canon_unit_zero zero]; repeat rw [View.ld_unit_zero zero]
    rfl

end Cert.Proof.AdamANormW

namespace Cert.Proof.AdamBQnW

open AdamBQnWIdeal Gen Value

theorem frame_bits : quiescent_AdamBQnW := fun m g _ => AdamBQnW.Gen.frame m g
theorem frame_ideal : quiescent_AdamBQnWIdeal := fun m g _ => Gen.frame m g
theorem frame_ref : quiescent_AdamBQnWRefIdeal := fun m g _ => (θ_run _ _ _).mono
  (fun r h => ⟨fun c => (h c).2.2.2, sem_eq_zero_of_no_sems (by decide) r.2⟩) (AdamBQnWRefIdeal.Value.run m g)

theorem equal : algebraic_AdamBQnWIdeal_AdamBQnWRefIdeal := by
  intro m g m' g' _ ha
  refine ⟨fun c x => change (V m c main_arg0 x) (V m c main_arg1 x) (V m c main_arg2 x) (V m c main_arg3 x), fun c x => mean (V m c main_arg1 x) (V m c main_arg2 x),
    fun c x => Adam.square (V m c main_arg1 x) (V m c main_arg3 x), (θ_run _ _ _).mono (fun r h c =>
    ⟨(h c).1.trans ((dats m 0 c).arrAt_eq_of_covers 4 _ (by decide +kernel) fun t _ y => ?_),
    (h c).2.1.trans ((dats m 0 c).arrAt_eq_of_covers 5 _ (by decide +kernel) fun t _ y => ?_),
    (h c).2.2.1.trans ((dats m 0 c).arrAt_eq_of_covers 6 _ (by decide +kernel) fun t _ y => ?_), (h c).2.2.2⟩) (run_blocks m g),
    (θ_run _ _ _).mono (fun r h c => ?_) (AdamBQnWRefIdeal.Value.run m' g')⟩
  · obtain ⟨e0, e1, e2, e3⟩ := ha c
    refine ⟨(h c).1.trans ?_, (h c).2.1.trans ?_, (h c).2.2.1.trans ?_, (h c).2.2.2⟩
    · beta_reduce; rw [V_main_arg0, V_main_arg1, V_main_arg2, V_main_arg3, e0, e1, e2, e3]; rfl
    · beta_reduce; rw [V_main_arg1, V_main_arg2, e1, e2]; rfl
    · beta_reduce; rw [V_main_arg1, V_main_arg3, e1, e3]; rfl
  · rw [after0_4]; unfold out0_4; rw [View.canon_unit_zero zero]; repeat rw [View.ld_unit_zero zero]
    rfl
  · rw [after0_5]; unfold out0_5; rw [View.canon_unit_zero zero]; repeat rw [View.ld_unit_zero zero]
    rfl
  · rw [after0_6]; unfold out0_6; rw [View.canon_unit_zero zero]; repeat rw [View.ld_unit_zero zero]
    rfl

end Cert.Proof.AdamBQnW

end
-- ==== Proof.lean ====
/-
  The claim, from its parts.
-/
module

public import proofs.«01_k».proof.Proof.BitsFrame
public import proofs.«01_k».proof.Proof.Equal
public import proofs.«01_k».proof.Proof.Mix.In
public import proofs.«01_k».proof.Proof.Mix.Dw
public import proofs.«01_k».proof.Proof.Mix.Dh
public import proofs.«01_k».proof.Proof.Mix.Out
public import proofs.«01_k».proof.Proof.Mix.Dwo
public import proofs.«01_k».proof.Proof.Mix.FoxIn
public import proofs.«01_k».proof.Proof.Mix.FoxDw
public import proofs.«01_k».proof.Proof.Mix.FoxDh
public import proofs.«01_k».proof.Proof.Mix.FoxOut
public import proofs.«01_k».proof.Proof.Mix.FoxDwo
public import proofs.«01_k».proof.Proof.Attn.BitsFrame
public import proofs.«01_k».proof.Proof.Attn.Equal
public import proofs.«01_k».proof.Proof.Adam.Rows
public import proofs.«01_k».proof.Proof.Adam.Plain

@[expose] public section

namespace Cert.Proof

theorem claim : Cert.Claim :=
  ⟨Cert.Kernel.Gen.facts, KernelIdeal.Gen.facts, ReferenceIdeal.Gen.facts,
    Cert.Attn.Gen.facts, AttnIdeal.Gen.facts, AttnRefIdeal.Gen.facts,
    Cert.MixIn.Gen.facts, MixInIdeal.Gen.facts, MixInRefIdeal.Gen.facts,
    Cert.MixDw.Gen.facts, MixDwIdeal.Gen.facts, MixDwRefIdeal.Gen.facts,
    Cert.MixDh.Gen.facts, MixDhIdeal.Gen.facts, MixDhRefIdeal.Gen.facts,
    Cert.MixOut.Gen.facts, MixOutIdeal.Gen.facts, MixOutRefIdeal.Gen.facts,
    Cert.MixDwo.Gen.facts, MixDwoIdeal.Gen.facts, MixDwoRefIdeal.Gen.facts,
    Cert.FoxIn.Gen.facts, FoxInIdeal.Gen.facts, FoxInRefIdeal.Gen.facts,
    Cert.FoxDw.Gen.facts, FoxDwIdeal.Gen.facts, FoxDwRefIdeal.Gen.facts,
    Cert.FoxDh.Gen.facts, FoxDhIdeal.Gen.facts, FoxDhRefIdeal.Gen.facts,
    Cert.FoxOut.Gen.facts, FoxOutIdeal.Gen.facts, FoxOutRefIdeal.Gen.facts,
    Cert.FoxDwo.Gen.facts, FoxDwoIdeal.Gen.facts, FoxDwoRefIdeal.Gen.facts,
    Cert.AdamNormW.Gen.facts, AdamNormWIdeal.Gen.facts, AdamNormWRefIdeal.Gen.facts,
    Cert.AdamAdaW.Gen.facts, AdamAdaWIdeal.Gen.facts, AdamAdaWRefIdeal.Gen.facts,
    Cert.AdamAdaB.Gen.facts, AdamAdaBIdeal.Gen.facts, AdamAdaBRefIdeal.Gen.facts,
    Cert.AdamAWIn.Gen.facts, AdamAWInIdeal.Gen.facts, AdamAWInRefIdeal.Gen.facts,
    Cert.AdamAConvW.Gen.facts, AdamAConvWIdeal.Gen.facts, AdamAConvWRefIdeal.Gen.facts,
    Cert.AdamAALog.Gen.facts, AdamAALogIdeal.Gen.facts, AdamAALogRefIdeal.Gen.facts,
    Cert.AdamANormW.Gen.facts, AdamANormWIdeal.Gen.facts, AdamANormWRefIdeal.Gen.facts,
    Cert.AdamAWOut.Gen.facts, AdamAWOutIdeal.Gen.facts, AdamAWOutRefIdeal.Gen.facts,
    Cert.AdamBWIn.Gen.facts, AdamBWInIdeal.Gen.facts, AdamBWInRefIdeal.Gen.facts,
    Cert.AdamBQnW.Gen.facts, AdamBQnWIdeal.Gen.facts, AdamBQnWRefIdeal.Gen.facts,
    Cert.AdamBWOut.Gen.facts, AdamBWOutIdeal.Gen.facts, AdamBWOutRefIdeal.Gen.facts,
    Cert.AdamFinalNormW.Gen.facts, AdamFinalNormWIdeal.Gen.facts, AdamFinalNormWRefIdeal.Gen.facts,
    Cert.Pre_finite.Gen.facts, Cert.Pre_attn_finite.Gen.facts,
    FoxBits.frame_kernel, Fox.frame_kernelIdeal, Fox.frame_kernelIdeal_finite, Fox.frame_reference, Fox.frame_reference_finite,
    AttnBits.frame_bits, Attn.frame_ideal, Attn.frame_ideal_finite, Attn.frame_ref, Attn.frame_ref_finite,
    MixIn.frame_bits, MixIn.frame_ideal, MixIn.frame_reference,
    MixDw.frame_bits, MixDw.frame_ideal, MixDw.frame_reference,
    MixDh.frame_bits, MixDh.frame_ideal, MixDh.frame_reference,
    MixOut.frame_bits, MixOut.frame_ideal, MixOut.frame_reference,
    MixDwo.frame_bits, MixDwo.frame_ideal, MixDwo.frame_reference,
    FoxIn.frame_bits, FoxIn.frame_ideal, FoxIn.frame_reference,
    FoxDw.frame_bits, FoxDw.frame_ideal, FoxDw.frame_reference,
    FoxDh.frame_bits, FoxDh.frame_ideal, FoxDh.frame_reference,
    FoxOut.frame_bits, FoxOut.frame_ideal, FoxOut.frame_reference,
    FoxDwo.frame_bits, FoxDwo.frame_ideal, FoxDwo.frame_reference,
    AdamNormW.frame_bits, AdamNormW.frame_ideal, AdamNormW.frame_ref,
    AdamAdaW.frame_bits, AdamAdaW.frame_ideal, AdamAdaW.frame_ref,
    AdamAdaB.frame_bits, AdamAdaB.frame_ideal, AdamAdaB.frame_ref,
    AdamAWIn.frame_bits, AdamAWIn.frame_ideal, AdamAWIn.frame_ref,
    AdamAConvW.frame_bits, AdamAConvW.frame_ideal, AdamAConvW.frame_ref,
    AdamAALog.frame_bits, AdamAALog.frame_ideal, AdamAALog.frame_ref,
    AdamANormW.frame_bits, AdamANormW.frame_ideal, AdamANormW.frame_ref,
    AdamAWOut.frame_bits, AdamAWOut.frame_ideal, AdamAWOut.frame_ref,
    AdamBWIn.frame_bits, AdamBWIn.frame_ideal, AdamBWIn.frame_ref,
    AdamBQnW.frame_bits, AdamBQnW.frame_ideal, AdamBQnW.frame_ref,
    AdamBWOut.frame_bits, AdamBWOut.frame_ideal, AdamBWOut.frame_ref,
    AdamFinalNormW.frame_bits, AdamFinalNormW.frame_ideal, AdamFinalNormW.frame_ref,
    Fox.mask_named, Fox.equal,
    Attn.mask_named, Attn.equal,
    trivial, MixIn.equal,
    trivial, MixDw.equal,
    trivial, MixDh.equal,
    trivial, MixOut.equal,
    trivial, MixDwo.equal,
    trivial, FoxIn.equal,
    trivial, FoxDw.equal,
    trivial, FoxDh.equal,
    trivial, FoxOut.equal,
    trivial, FoxDwo.equal,
    trivial, AdamNormW.equal,
    trivial, AdamAdaW.equal,
    trivial, AdamAdaB.equal,
    trivial, AdamAWIn.equal,
    trivial, AdamAConvW.equal,
    trivial, AdamAALog.equal,
    trivial, AdamANormW.equal,
    trivial, AdamAWOut.equal,
    trivial, AdamBWIn.equal,
    trivial, AdamBQnW.equal,
    trivial, AdamBWOut.equal,
    trivial, AdamFinalNormW.equal⟩

end Cert.Proof
